-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.bf16_pair.PackStatement Cert.KernelIdeal.S32x128
  ∧ IdealRules.bf16_pair.Statement Cert.KernelIdeal.S1x64x128 Cert.KernelIdeal.S1x32x128
  ∧ IdealRules.bf16_pair.PackStatement Cert.KernelIdeal.S16x128
  ∧ IdealRules.bf16_pair.Statement Cert.KernelIdeal.S32x128 Cert.KernelIdeal.S16x128
  ∧ IdealRules.bf16_pair.Statement Cert.KernelIdeal.S1x16x2x128 Cert.KernelIdeal.S1x16x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x1024 : Shape := ⟨3, ![16, 2048, 1024]⟩
abbrev S1x1024 : Shape := ⟨2, ![1, 1024]⟩
abbrev S1x1024x7168 : Shape := ⟨3, ![1, 1024, 7168]⟩
abbrev S1x7168 : Shape := ⟨2, ![1, 7168]⟩
abbrev S1x31x1024 : Shape := ⟨3, ![1, 31, 1024]⟩
abbrev S1x1024x1024 : Shape := ⟨3, ![1, 1024, 1024]⟩
abbrev S1x4x256x256 : Shape := ⟨4, ![1, 4, 256, 256]⟩
abbrev S1x4x256 : Shape := ⟨3, ![1, 4, 256]⟩
abbrev S1024 : Shape := ⟨1, ![1024]⟩
abbrev S1024x7168 : Shape := ⟨2, ![1024, 7168]⟩
abbrev S7168 : Shape := ⟨1, ![7168]⟩
abbrev S31x1024 : Shape := ⟨2, ![31, 1024]⟩
abbrev S1024x1024 : Shape := ⟨2, ![1024, 1024]⟩
abbrev S4x256x256 : Shape := ⟨3, ![4, 256, 256]⟩
abbrev S4x256 : Shape := ⟨2, ![4, 256]⟩
abbrev S1x256x1024 : Shape := ⟨3, ![1, 256, 1024]⟩
abbrev S256x1024 : Shape := ⟨2, ![256, 1024]⟩
abbrev S7x256x1024 : Shape := ⟨3, ![7, 256, 1024]⟩
abbrev S4x576x128 : Shape := ⟨3, ![4, 576, 128]⟩
abbrev S8x272x128 : Shape := ⟨3, ![8, 272, 128]⟩
abbrev S8x256x128 : Shape := ⟨3, ![8, 256, 128]⟩
abbrev S3x256x1024 : Shape := ⟨3, ![3, 256, 1024]⟩
abbrev S2x256x1024 : Shape := ⟨3, ![2, 256, 1024]⟩
abbrev S4x64x128 : Shape := ⟨3, ![4, 64, 128]⟩
abbrev S8x16x128 : Shape := ⟨3, ![8, 16, 128]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩
abbrev S1024x256 : Shape := ⟨2, ![1024, 256]⟩
abbrev S256x256 : Shape := ⟨2, ![256, 256]⟩
abbrev S1x256 : Shape := ⟨2, ![1, 256]⟩
abbrev S1x256x256 : Shape := ⟨3, ![1, 256, 256]⟩
abbrev S32x128 : Shape := ⟨2, ![32, 128]⟩
abbrev S4x288x128 : Shape := ⟨3, ![4, 288, 128]⟩
abbrev S1x32x128 : Shape := ⟨3, ![1, 32, 128]⟩
abbrev S1x64x128 : Shape := ⟨3, ![1, 64, 128]⟩
abbrev S256x128 : Shape := ⟨2, ![256, 128]⟩
abbrev S1x256x128 : Shape := ⟨3, ![1, 256, 128]⟩
abbrev S1x128 : Shape := ⟨2, ![1, 128]⟩
abbrev S16x128 : Shape := ⟨2, ![16, 128]⟩
abbrev S1x16x128 : Shape := ⟨3, ![1, 16, 128]⟩
abbrev S4x288x2x128 : Shape := ⟨4, ![4, 288, 2, 128]⟩
abbrev S1x16x2x128 : Shape := ⟨4, ![1, 16, 2, 128]⟩
abbrev S1x16x1x128 : Shape := ⟨4, ![1, 16, 1, 128]⟩

abbrev nBuf : Space → Nat
  | .hbm => 42
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x7168, .f32⟩
  | .hbm, ⟨3, _⟩ => ⟨S1x7168, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1x4x256x256, .f32⟩
  | .hbm, ⟨10, _⟩ => ⟨S1x4x256, .f32⟩
  | .hbm, ⟨11, _⟩ => ⟨S1x1024, .f32⟩
  | .hbm, ⟨12, _⟩ => ⟨S1x1024x1024, .f32⟩
  | .hbm, ⟨13, _⟩ => ⟨S1x1024x1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S1024x7168, .f32⟩
  | .hbm, ⟨18, _⟩ => ⟨S1024x7168, .bf16⟩
  | .hbm, ⟨19, _⟩ => ⟨S7168, .f32⟩
  | .hbm, ⟨20, _⟩ => ⟨S1x7168, .f32⟩
  | .hbm, ⟨21, _⟩ => ⟨S31x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024x1024, .f32⟩
  | .hbm, ⟨29, _⟩ => ⟨S1024x1024, .bf16⟩
  | .hbm, ⟨30, _⟩ => ⟨S4x256x256, .f32⟩
  | .hbm, ⟨31, _⟩ => ⟨S4x256x256, .bf16⟩
  | .hbm, ⟨32, _⟩ => ⟨S4x256, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1024x1024, .f32⟩
  | .hbm, ⟨37, _⟩ => ⟨S1024x1024, .bf16⟩
  | .hbm, ⟨38, _⟩ => ⟨S1024x1024, .f32⟩
  | .hbm, ⟨39, _⟩ => ⟨S1024x1024, .bf16⟩
  | .hbm, ⟨40, _⟩ => ⟨S1x1024, .f32⟩
  | .hbm, ⟨41, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x7168, .bf16⟩
  | .local _ .vmem, ⟨4, _⟩ => ⟨S1x7168, .f32⟩
  | .local _ .vmem, ⟨5, _⟩ => ⟨S31x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S4x256x256, .bf16⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x256x1024, .f32⟩
  | .local _ .vmem, ⟨17, _⟩ => ⟨S1x256x1024, .f32⟩
  | .local _ .vmem, ⟨18, _⟩ => ⟨S256x1024, .bf16⟩
  | .local _ .vmem, ⟨19, _⟩ => ⟨S7x256x1024, .f32⟩
  | .local _ .vmem, ⟨20, _⟩ => ⟨S4x576x128, .bf16⟩
  | .local _ .vmem, ⟨21, _⟩ => ⟨S8x272x128, .f32⟩
  | .local _ .vmem, ⟨22, _⟩ => ⟨S8x256x128, .f32⟩
  | .local _ .vmem, ⟨23, _⟩ => ⟨S8x256x128, .f32⟩
  | .local _ .vmem, ⟨24, _⟩ => ⟨S3x256x1024, .bf16⟩
  | .local _ .vmem, ⟨25, _⟩ => ⟨S256x1024, .bf16⟩
  | .local _ .vmem, ⟨26, _⟩ => ⟨S256x1024, .f32⟩
  | .local _ .vmem, ⟨27, _⟩ => ⟨S2x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [BitOps F]

abbrev grid0 : Pipeline.Grid := ⟨2, ![16, 8], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg28 : BitVec 32 := Scf.iv c0_i32_1 c1_i32 k0_t1
  let c32_i32 : BitVec 32 := 32#32
  let v25 : BitVec 32 := Scalar.muli arg28 c32_i32
  v25
def k0_off1 (k0_t1 : Fin k0_t1_loop.trips) : Fin 3 → Nat :=
  let c0 : Index := 0#32
  let c0_i32_1 : BitVec 32 := 0#32
  let c1_i32 : BitVec 32 := 1#32
  let arg28 : BitVec 32 := Scf.iv c0_i32_1 c1_i32 k0_t1
  let c32_i32 : BitVec 32 := 32#32
  let v25 : BitVec 32 := Scalar.muli arg28 c32_i32
  let v26 : BitVec 32 := v25
  let v27 : Index := Scalar.indexCast v26
  let c0_85 : Index := 0#32
  ![0, v27.toNat, 0]
def k0_off2 (k0_t1 : Fin k0_t1_loop.trips) : Fin 2 → Nat :=
  let c0_i32_1 : BitVec 32 := 0#32
  let c1_i32 : BitVec 32 := 1#32
  let arg28 : BitVec 32 := Scf.iv c0_i32_1 c1_i32 k0_t1
  let c32_i32 : BitVec 32 := 32#32
  let v25 : BitVec 32 := Scalar.muli arg28 c32_i32
  let v26 : BitVec 32 := v25
  let v45 : Index := Scalar.indexCast v26
  let c0_90 : Index := 0#32
  ![v45.toNat, 0]
@[reducible] def k0_t2_loop : Scf.Loop 32 :=
  let c0_i32_3 : BitVec 32 := 0#32
  let c4_i32 : BitVec 32 := 4#32
  let v4 : BitVec 32 := Scalar.addi c0_i32_3 c4_i32
  let c1_i32_4 : BitVec 32 := 1#32
  ⟨c0_i32_3, v4, c1_i32_4⟩
def k0_mult2 (k0_t2 : Fin k0_t2_loop.trips) : BitVec 32 :=
  let c0_i32_3 : BitVec 32 := 0#32
  let c1_i32_4 : BitVec 32 := 1#32
  let arg28 : BitVec 32 := Scf.iv c0_i32_3 c1_i32_4 k0_t2
  let c256_i32 : BitVec 32 := 256#32
  let v25 : BitVec 32 := Scalar.muli arg28 c256_i32
  let c0_i32_85 : BitVec 32 := 0#32
  let v26 : BitVec 32 := Scalar.addi v25 c0_i32_85
  v26
def k0_off3 (k0_t2 : Fin k0_t2_loop.trips) (c0_i32_85 : BitVec 32) : Fin 2 → Nat :=
  let c0_87 : Index := 0#32
  let c0_i32_3 : BitVec 32 := 0#32
  let c1_i32_4 : BitVec 32 := 1#32
  let arg28 : BitVec 32 := Scf.iv c0_i32_3 c1_i32_4 k0_t2
  let c256_i32 : BitVec 32 := 256#32
  let v25 : BitVec 32 := Scalar.muli arg28 c256_i32
  let v26 : BitVec 32 := Scalar.addi v25 c0_i32_85
  let v27 : BitVec 32 := v26
  let v29 : Index := Scalar.indexCast v27
  ![0, v29.toNat]
def k0_off4 (k0_t2 : Fin k0_t2_loop.trips) (c0_i32_85 : BitVec 32) : Fin 2 → Nat :=
  let c0_88 : Index := 0#32
  let c0_i32_3 : BitVec 32 := 0#32
  let c1_i32_4 : BitVec 32 := 1#32
  let arg28 : BitVec 32 := Scf.iv c0_i32_3 c1_i32_4 k0_t2
  let c256_i32 : BitVec 32 := 256#32
  let v25 : BitVec 32 := Scalar.muli arg28 c256_i32
  let v26 : BitVec 32 := Scalar.addi v25 c0_i32_85
  let v27 : BitVec 32 := v26
  let v33 : Index := Scalar.indexCast v27
  ![0, v33.toNat]
def k0_mult3 (k0_t2 : Fin k0_t2_loop.trips) : BitVec 32 :=
  let c0_i32_3 : BitVec 32 := 0#32
  let c1_i32_4 : BitVec 32 := 1#32
  let arg28 : BitVec 32 := Scf.iv c0_i32_3 c1_i32_4 k0_t2
  let c256_i32_89 : BitVec 32 := 256#32
  let v38 : BitVec 32 := Scalar.muli arg28 c256_i32_89
  let c0_i32_90 : BitVec 32 := 0#32
  let v39 : BitVec 32 := Scalar.addi v38 c0_i32_90
  v39
def k0_off5 (k0_t2 : Fin k0_t2_loop.trips) : Fin 3 → Nat :=
  let c0_91 : Index := 0#32
  let c0_92 : Index := 0#32
  let c0_i32_3 : BitVec 32 := 0#32
  let c1_i32_4 : BitVec 32 := 1#32
  let arg28 : BitVec 32 := Scf.iv c0_i32_3 c1_i32_4 k0_t2
  let c256_i32_89 : BitVec 32 := 256#32
  let v38 : BitVec 32 := Scalar.muli arg28 c256_i32_89
  let c0_i32_90 : BitVec 32 := 0#32
  let v39 : BitVec 32 := Scalar.addi v38 c0_i32_90
  let v40 : BitVec 32 := v39
  let v41 : Index := Scalar.indexCast v40
  ![0, 0, v41.toNat]
def k0_mult4 (k0_t2 : Fin k0_t2_loop.trips) : BitVec 32 :=
  let c0_i32_3 : BitVec 32 := 0#32
  let c1_i32_4 : BitVec 32 := 1#32
  let arg28 : BitVec 32 := Scf.iv c0_i32_3 c1_i32_4 k0_t2
  let c256_i32_93 : BitVec 32 := 256#32
  let v45 : BitVec 32 := Scalar.muli arg28 c256_i32_93
  let c1024_i32 : BitVec 32 := 1024#32
  let v46 : BitVec 32 := Scalar.addi v45 c1024_i32
  v46
def k0_mult5 (k0_t2 : Fin k0_t2_loop.trips) : BitVec 32 :=
  let c0_i32_3 : BitVec 32 := 0#32
  let c1_i32_4 : BitVec 32 := 1#32
  let arg28 : BitVec 32 := Scf.iv c0_i32_3 c1_i32_4 k0_t2
  let c256_i32_99 : BitVec 32 := 256#32
  let v58 : BitVec 32 := Scalar.muli arg28 c256_i32_99
  let c0_i32_100 : BitVec 32 := 0#32
  let v59 : BitVec 32 := Scalar.addi v58 c0_i32_100
  v59
def k0_off6 (k0_t2 : Fin k0_t2_loop.trips) : Fin 3 → Nat :=
  let c1 : Index := 1#32
  let c0_101 : Index := 0#32
  let c0_i32_3 : BitVec 32 := 0#32
  let c1_i32_4 : BitVec 32 := 1#32
  let arg28 : BitVec 32 := Scf.iv c0_i32_3 c1_i32_4 k0_t2
  let c256_i32_99 : BitVec 32 := 256#32
  let v58 : BitVec 32 := Scalar.muli arg28 c256_i32_99
  let c0_i32_100 : BitVec 32 := 0#32
  let v59 : BitVec 32 := Scalar.addi v58 c0_i32_100
  let v60 : BitVec 32 := v59
  let v61 : Index := Scalar.indexCast v60
  ![1, 0, v61.toNat]
@[reducible] def k0_t3_loop : Scf.Loop 32 :=
  let c0_i32_6 : BitVec 32 := 0#32
  let c8_i32_7 : BitVec 32 := 8#32
  let v5 : BitVec 32 := Scalar.addi c0_i32_6 c8_i32_7
  let c1_i32_8 : BitVec 32 := 1#32
  ⟨c0_i32_6, v5, c1_i32_8⟩
def k0_mult6 (k0_t3 : Fin k0_t3_loop.trips) : BitVec 32 :=
  let c0_i32_6 : BitVec 32 := 0#32
  let c1_i32_8 : BitVec 32 := 1#32
  let arg28 : BitVec 32 := Scf.iv c0_i32_6 c1_i32_8 k0_t3
  let c32_i32 : BitVec 32 := 32#32
  let v25 : BitVec 32 := Scalar.muli arg28 c32_i32
  v25
def k0_off7 (k0_t3 : Fin k0_t3_loop.trips) : Fin 3 → Nat :=
  let c0 : Index := 0#32
  let c0_i32_6 : BitVec 32 := 0#32
  let c1_i32_8 : BitVec 32 := 1#32
  let arg28 : BitVec 32 := Scf.iv c0_i32_6 c1_i32_8 k0_t3
  let c32_i32 : BitVec 32 := 32#32
  let v25 : BitVec 32 := Scalar.muli arg28 c32_i32
  let v26 : BitVec 32 := v25
  let v27 : Index := Scalar.indexCast v26
  let c0_85 : Index := 0#32
  ![0, v27.toNat, 0]
def k0_off8 (k0_t3 : Fin k0_t3_loop.trips) : Fin 3 → Nat :=
  let c1 : Index := 1#32
  let c0_i32_6 : BitVec 32 := 0#32
  let c1_i32_8 : BitVec 32 := 1#32
  let arg28 : BitVec 32 := Scf.iv c0_i32_6 c1_i32_8 k0_t3
  let c32_i32 : BitVec 32 := 32#32
  let v25 : BitVec 32 := Scalar.muli arg28 c32_i32
  let v26 : BitVec 32 := v25
  let v30 : Index := Scalar.indexCast v26
  let c0_86 : Index := 0#32
  ![1, v30.toNat, 0]
def k0_mult7 (k0_t3 : Fin k0_t3_loop.trips) : BitVec 32 :=
  let c32_i32_90 : BitVec 32 := 32#32
  let c0_i32_6 : BitVec 32 := 0#32
  let c1_i32_8 : BitVec 32 := 1#32
  let arg28 : BitVec 32 := Scf.iv c0_i32_6 c1_i32_8 k0_t3
  let c32_i32_89 : BitVec 32 := 32#32
  let v44 : BitVec 32 := Scalar.muli arg28 c32_i32_89
  let v45 : BitVec 32 := Scalar.addi c32_i32_90 v44
  v45
def k0_off9 (k0_t3 : Fin k0_t3_loop.trips) : Fin 3 → Nat :=
  let c0_91 : Index := 0#32
  let c32_i32_90 : BitVec 32 := 32#32
  let c0_i32_6 : BitVec 32 := 0#32
  let c1_i32_8 : BitVec 32 := 1#32
  let arg28 : BitVec 32 := Scf.iv c0_i32_6 c1_i32_8 k0_t3
  let c32_i32_89 : BitVec 32 := 32#32
  let v44 : BitVec 32 := Scalar.muli arg28 c32_i32_89
  let v45 : BitVec 32 := Scalar.addi c32_i32_90 v44
  let v46 : BitVec 32 := v45
  let v48 : Index := Scalar.indexCast v46
  let c0_92 : Index := 0#32
  ![0, Nat.mul 2 v48.toNat, 0]
def k0_mult8 (k0_t3 : Fin k0_t3_loop.trips) : BitVec 32 :=
  let c32_i32_94 : BitVec 32 := 32#32
  let c0_i32_6 : BitVec 32 := 0#32
  let c1_i32_8 : BitVec 32 := 1#32
  let arg28 : BitVec 32 := Scf.iv c0_i32_6 c1_i32_8 k0_t3
  let c32_i32_93 : BitVec 32 := 32#32
  let v55 : BitVec 32 := Scalar.muli arg28 c32_i32_93
  let v56 : BitVec 32 := Scalar.addi c32_i32_94 v55
  v56
def k0_off10 (k0_t3 : Fin k0_t3_loop.trips) : Fin 3 → Nat :=
  let c1_95 : Index := 1#32
  let c32_i32_94 : BitVec 32 := 32#32
  let c0_i32_6 : BitVec 32 := 0#32
  let c1_i32_8 : BitVec 32 := 1#32
  let arg28 : BitVec 32 := Scf.iv c0_i32_6 c1_i32_8 k0_t3
  let c32_i32_93 : BitVec 32 := 32#32
  let v55 : BitVec 32 := Scalar.muli arg28 c32_i32_93
  let v56 : BitVec 32 := Scalar.addi c32_i32_94 v55
  let v57 : BitVec 32 := v56
  let v59 : Index := Scalar.indexCast v57
  let c0_96 : Index := 0#32
  ![1, Nat.mul 2 v59.toNat, 0]
def k0_mult9 (k0_t3 : Fin k0_t3_loop.trips) : BitVec 32 :=
  let c32_i32_98 : BitVec 32 := 32#32
  let c0_i32_6 : BitVec 32 := 0#32
  let c1_i32_8 : BitVec 32 := 1#32
  let arg28 : BitVec 32 := Scf.iv c0_i32_6 c1_i32_8 k0_t3
  let c32_i32_97 : BitVec 32 := 32#32
  let v66 : BitVec 32 := Scalar.muli arg28 c32_i32_97
  let v67 : BitVec 32 := Scalar.addi c32_i32_98 v66
  v67
def k0_off11 (k0_t3 : Fin k0_t3_loop.trips) : Fin 3 → Nat :=
  let c2 : Index := 2#32
  let c32_i32_98 : BitVec 32 := 32#32
  let c0_i32_6 : BitVec 32 := 0#32
  let c1_i32_8 : BitVec 32 := 1#32
  let arg28 : BitVec 32 := Scf.iv c0_i32_6 c1_i32_8 k0_t3
  let c32_i32_97 : BitVec 32 := 32#32
  let v66 : BitVec 32 := Scalar.muli arg28 c32_i32_97
  let v67 : BitVec 32 := Scalar.addi c32_i32_98 v66
  let v68 : BitVec 32 := v67
  let v70 : Index := Scalar.indexCast v68
  let c0_99 : Index := 0#32
  ![2, Nat.mul 2 v70.toNat, 0]
def k0_mult10 (k0_t3 : Fin k0_t3_loop.trips) : BitVec 32 :=
  let c32_i32_101 : BitVec 32 := 32#32
  let c0_i32_6 : BitVec 32 := 0#32
  let c1_i32_8 : BitVec 32 := 1#32
  let arg28 : BitVec 32 := Scf.iv c0_i32_6 c1_i32_8 k0_t3
  let c32_i32_100 : BitVec 32 := 32#32
  let v77 : BitVec 32 := Scalar.muli arg28 c32_i32_100
  let v78 : BitVec 32 := Scalar.addi c32_i32_101 v77
  v78
def k0_off12 (k0_t3 : Fin k0_t3_loop.trips) : Fin 3 → Nat :=
  let c3 : Index := 3#32
  let c32_i32_101 : BitVec 32 := 32#32
  let c0_i32_6 : BitVec 32 := 0#32
  let c1_i32_8 : BitVec 32 := 1#32
  let arg28 : BitVec 32 := Scf.iv c0_i32_6 c1_i32_8 k0_t3
  let c32_i32_100 : BitVec 32 := 32#32
  let v77 : BitVec 32 := Scalar.muli arg28 c32_i32_100
  let v78 : BitVec 32 := Scalar.addi c32_i32_101 v77
  let v79 : BitVec 32 := v78
  let v81 : Index := Scalar.indexCast v79
  let c0_102 : Index := 0#32
  ![3, Nat.mul 2 v81.toNat, 0]
@[reducible] def k0_t4_loop : Scf.Loop 32 :=
  let c0_i32_10 : BitVec 32 := 0#32
  let c4_i32_11 : BitVec 32 := 4#32
  let v6 : BitVec 32 := Scalar.addi c0_i32_10 c4_i32_11
  let c1_i32_12 : BitVec 32 := 1#32
  ⟨c0_i32_10, v6, c1_i32_12⟩
def k0_mult11 (k0_t4 : Fin k0_t4_loop.trips) : BitVec 32 :=
  let c0_i32_10 : BitVec 32 := 0#32
  let c1_i32_12 : BitVec 32 := 1#32
  let arg28 : BitVec 32 := Scf.iv c0_i32_10 c1_i32_12 k0_t4
  let c256_i32 : BitVec 32 := 256#32
  let v25 : BitVec 32 := Scalar.muli arg28 c256_i32
  let c3072_i32 : BitVec 32 := 3072#32
  let v26 : BitVec 32 := Scalar.addi v25 c3072_i32
  v26
def k0_off13 (k0_t4 : Fin k0_t4_loop.trips) : Fin 2 → Nat :=
  let c0_86 : Index := 0#32
  let c0_i32_10 : BitVec 32 := 0#32
  let c1_i32_12 : BitVec 32 := 1#32
  let arg28 : BitVec 32 := Scf.iv c0_i32_10 c1_i32_12 k0_t4
  let c256_i32 : BitVec 32 := 256#32
  let v25 : BitVec 32 := Scalar.muli arg28 c256_i32
  let c3072_i32 : BitVec 32 := 3072#32
  let v26 : BitVec 32 := Scalar.addi v25 c3072_i32
  let v27 : BitVec 32 := v26
  let v29 : Index := Scalar.indexCast v27
  ![0, v29.toNat]
def k0_off14 (k0_t4 : Fin k0_t4_loop.trips) : Fin 2 → Nat :=
  let c0_87 : Index := 0#32
  let c0_i32_10 : BitVec 32 := 0#32
  let c1_i32_12 : BitVec 32 := 1#32
  let arg28 : BitVec 32 := Scf.iv c0_i32_10 c1_i32_12 k0_t4
  let c256_i32 : BitVec 32 := 256#32
  let v25 : BitVec 32 := Scalar.muli arg28 c256_i32
  let c3072_i32 : BitVec 32 := 3072#32
  let v26 : BitVec 32 := Scalar.addi v25 c3072_i32
  let v27 : BitVec 32 := v26
  let v33 : Index := Scalar.indexCast v27
  ![0, v33.toNat]
def k0_off15 (k0_t4 : Fin k0_t4_loop.trips) (c0_i32_89 : BitVec 32) : Fin 3 → Nat :=
  let c2_i32_88 : BitVec 32 := 2#32
  let c0_i32_10 : BitVec 32 := 0#32
  let c1_i32_12 : BitVec 32 := 1#32
  let arg28 : BitVec 32 := Scf.iv c0_i32_10 c1_i32_12 k0_t4
  let v39 : BitVec 32 := Scalar.muli c2_i32_88 arg28
  let v40 : BitVec 32 := Scalar.addi v39 c0_i32_89
  let v41 : Index := Scalar.indexCast v40
  let c16 : Index := 16#32
  let c0_90 : Index := 0#32
  ![v41.toNat, 16, 0]
@[reducible] def k0_t5_loop : Scf.Loop 32 :=
  let c0_i32_14 : BitVec 32 := 0#32
  let c4_i32_15 : BitVec 32 := 4#32
  let v7 : BitVec 32 := Scalar.addi c0_i32_14 c4_i32_15
  let c1_i32_16 : BitVec 32 := 1#32
  ⟨c0_i32_14, v7, c1_i32_16⟩
def k0_mult12 (k0_t5 : Fin k0_t5_loop.trips) : BitVec 32 :=
  let c0_i32_14 : BitVec 32 := 0#32
  let c1_i32_16 : BitVec 32 := 1#32
  let arg28 : BitVec 32 := Scf.iv c0_i32_14 c1_i32_16 k0_t5
  let c256_i32 : BitVec 32 := 256#32
  let v25 : BitVec 32 := Scalar.muli arg28 c256_i32
  let c2048_i32 : BitVec 32 := 2048#32
  let v26 : BitVec 32 := Scalar.addi v25 c2048_i32
  v26
def k0_off16 (k0_t5 : Fin k0_t5_loop.trips) : Fin 2 → Nat :=
  let c0_86 : Index := 0#32
  let c0_i32_14 : BitVec 32 := 0#32
  let c1_i32_16 : BitVec 32 := 1#32
  let arg28 : BitVec 32 := Scf.iv c0_i32_14 c1_i32_16 k0_t5
  let c256_i32 : BitVec 32 := 256#32
  let v25 : BitVec 32 := Scalar.muli arg28 c256_i32
  let c2048_i32 : BitVec 32 := 2048#32
  let v26 : BitVec 32 := Scalar.addi v25 c2048_i32
  let v27 : BitVec 32 := v26
  let v29 : Index := Scalar.indexCast v27
  ![0, v29.toNat]
def k0_off17 (k0_t5 : Fin k0_t5_loop.trips) : Fin 2 → Nat :=
  let c0_87 : Index := 0#32
  let c0_i32_14 : BitVec 32 := 0#32
  let c1_i32_16 : BitVec 32 := 1#32
  let arg28 : BitVec 32 := Scf.iv c0_i32_14 c1_i32_16 k0_t5
  let c256_i32 : BitVec 32 := 256#32
  let v25 : BitVec 32 := Scalar.muli arg28 c256_i32
  let c2048_i32 : BitVec 32 := 2048#32
  let v26 : BitVec 32 := Scalar.addi v25 c2048_i32
  let v27 : BitVec 32 := v26
  let v33 : Index := Scalar.indexCast v27
  ![0, v33.toNat]
def k0_mult13 (k0_t5 : Fin k0_t5_loop.trips) : BitVec 32 :=
  let c0_i32_14 : BitVec 32 := 0#32
  let c1_i32_16 : BitVec 32 := 1#32
  let arg28 : BitVec 32 := Scf.iv c0_i32_14 c1_i32_16 k0_t5
  let c256_i32_88 : BitVec 32 := 256#32
  let v38 : BitVec 32 := Scalar.muli arg28 c256_i32_88
  let c0_i32_89 : BitVec 32 := 0#32
  let v39 : BitVec 32 := Scalar.addi v38 c0_i32_89
  v39
def k0_off18 (k0_t5 : Fin k0_t5_loop.trips) : Fin 3 → Nat :=
  let c2 : Index := 2#32
  let c0_90 : Index := 0#32
  let c0_i32_14 : BitVec 32 := 0#32
  let c1_i32_16 : BitVec 32 := 1#32
  let arg28 : BitVec 32 := Scf.iv c0_i32_14 c1_i32_16 k0_t5
  let c256_i32_88 : BitVec 32 := 256#32
  let v38 : BitVec 32 := Scalar.muli arg28 c256_i32_88
  let c0_i32_89 : BitVec 32 := 0#32
  let v39 : BitVec 32 := Scalar.addi v38 c0_i32_89
  let v40 : BitVec 32 := v39
  let v41 : Index := Scalar.indexCast v40
  ![2, 0, v41.toNat]
@[reducible] def k0_t6_loop : Scf.Loop 32 :=
  let c0_i32_18 : BitVec 32 := 0#32
  let c4_i32_19 : BitVec 32 := 4#32
  let v8 : BitVec 32 := Scalar.addi c0_i32_18 c4_i32_19
  let c1_i32_20 : BitVec 32 := 1#32
  ⟨c0_i32_18, v8, c1_i32_20⟩
def k0_mult14 (k0_t6 : Fin k0_t6_loop.trips) : BitVec 32 :=
  let c0_i32_18 : BitVec 32 := 0#32
  let c1_i32_20 : BitVec 32 := 1#32
  let arg28 : BitVec 32 := Scf.iv c0_i32_18 c1_i32_20 k0_t6
  let c256_i32 : BitVec 32 := 256#32
  let v25 : BitVec 32 := Scalar.muli arg28 c256_i32
  let c4096_i32 : BitVec 32 := 4096#32
  let v26 : BitVec 32 := Scalar.addi v25 c4096_i32
  v26
def k0_off19 (k0_t6 : Fin k0_t6_loop.trips) : Fin 2 → Nat :=
  let c0_86 : Index := 0#32
  let c0_i32_18 : BitVec 32 := 0#32
  let c1_i32_20 : BitVec 32 := 1#32
  let arg28 : BitVec 32 := Scf.iv c0_i32_18 c1_i32_20 k0_t6
  let c256_i32 : BitVec 32 := 256#32
  let v25 : BitVec 32 := Scalar.muli arg28 c256_i32
  let c4096_i32 : BitVec 32 := 4096#32
  let v26 : BitVec 32 := Scalar.addi v25 c4096_i32
  let v27 : BitVec 32 := v26
  let v29 : Index := Scalar.indexCast v27
  ![0, v29.toNat]
def k0_off20 (k0_t6 : Fin k0_t6_loop.trips) : Fin 2 → Nat :=
  let c0_87 : Index := 0#32
  let c0_i32_18 : BitVec 32 := 0#32
  let c1_i32_20 : BitVec 32 := 1#32
  let arg28 : BitVec 32 := Scf.iv c0_i32_18 c1_i32_20 k0_t6
  let c256_i32 : BitVec 32 := 256#32
  let v25 : BitVec 32 := Scalar.muli arg28 c256_i32
  let c4096_i32 : BitVec 32 := 4096#32
  let v26 : BitVec 32 := Scalar.addi v25 c4096_i32
  let v27 : BitVec 32 := v26
  let v33 : Index := Scalar.indexCast v27
  ![0, v33.toNat]
def k0_mult15 (k0_t6 : Fin k0_t6_loop.trips) : BitVec 32 :=
  let c0_i32_18 : BitVec 32 := 0#32
  let c1_i32_20 : BitVec 32 := 1#32
  let arg28 : BitVec 32 := Scf.iv c0_i32_18 c1_i32_20 k0_t6
  let c256_i32_88 : BitVec 32 := 256#32
  let v38 : BitVec 32 := Scalar.muli arg28 c256_i32_88
  let c0_i32_89 : BitVec 32 := 0#32
  let v39 : BitVec 32 := Scalar.addi v38 c0_i32_89
  v39
def k0_off21 (k0_t6 : Fin k0_t6_loop.trips) : Fin 3 → Nat :=
  let c4 : Index := 4#32
  let c0_90 : Index := 0#32
  let c0_i32_18 : BitVec 32 := 0#32
  let c1_i32_20 : BitVec 32 := 1#32
  let arg28 : BitVec 32 := Scf.iv c0_i32_18 c1_i32_20 k0_t6
  let c256_i32_88 : BitVec 32 := 256#32
  let v38 : BitVec 32 := Scalar.muli arg28 c256_i32_88
  let c0_i32_89 : BitVec 32 := 0#32
  let v39 : BitVec 32 := Scalar.addi v38 c0_i32_89
  let v40 : BitVec 32 := v39
  let v41 : Index := Scalar.indexCast v40
  ![4, 0, v41.toNat]
@[reducible] def k0_t7_loop : Scf.Loop 32 :=
  let c0_i32_22 : BitVec 32 := 0#32
  let c4_i32_23 : BitVec 32 := 4#32
  let v9 : BitVec 32 := Scalar.addi c0_i32_22 c4_i32_23
  let c1_i32_24 : BitVec 32 := 1#32
  ⟨c0_i32_22, v9, c1_i32_24⟩
def k0_mult16 (k0_t7 : Fin k0_t7_loop.trips) : BitVec 32 :=
  let c0_i32_22 : BitVec 32 := 0#32
  let c1_i32_24 : BitVec 32 := 1#32
  let arg28 : BitVec 32 := Scf.iv c0_i32_22 c1_i32_24 k0_t7
  let c256_i32 : BitVec 32 := 256#32
  let v25 : BitVec 32 := Scalar.muli arg28 c256_i32
  let c5120_i32 : BitVec 32 := 5120#32
  let v26 : BitVec 32 := Scalar.addi v25 c5120_i32
  v26
def k0_off22 (k0_t7 : Fin k0_t7_loop.trips) : Fin 2 → Nat :=
  let c0_86 : Index := 0#32
  let c0_i32_22 : BitVec 32 := 0#32
  let c1_i32_24 : BitVec 32 := 1#32
  let arg28 : BitVec 32 := Scf.iv c0_i32_22 c1_i32_24 k0_t7
  let c256_i32 : BitVec 32 := 256#32
  let v25 : BitVec 32 := Scalar.muli arg28 c256_i32
  let c5120_i32 : BitVec 32 := 5120#32
  let v26 : BitVec 32 := Scalar.addi v25 c5120_i32
  let v27 : BitVec 32 := v26
  let v29 : Index := Scalar.indexCast v27
  ![0, v29.toNat]
def k0_off23 (k0_t7 : Fin k0_t7_loop.trips) : Fin 2 → Nat :=
  let c0_87 : Index := 0#32
  let c0_i32_22 : BitVec 32 := 0#32
  let c1_i32_24 : BitVec 32 := 1#32
  let arg28 : BitVec 32 := Scf.iv c0_i32_22 c1_i32_24 k0_t7
  let c256_i32 : BitVec 32 := 256#32
  let v25 : BitVec 32 := Scalar.muli arg28 c256_i32
  let c5120_i32 : BitVec 32 := 5120#32
  let v26 : BitVec 32 := Scalar.addi v25 c5120_i32
  let v27 : BitVec 32 := v26
  let v33 : Index := Scalar.indexCast v27
  ![0, v33.toNat]
def k0_mult17 (k0_t7 : Fin k0_t7_loop.trips) : BitVec 32 :=
  let c0_i32_22 : BitVec 32 := 0#32
  let c1_i32_24 : BitVec 32 := 1#32
  let arg28 : BitVec 32 := Scf.iv c0_i32_22 c1_i32_24 k0_t7
  let c256_i32_88 : BitVec 32 := 256#32
  let v38 : BitVec 32 := Scalar.muli arg28 c256_i32_88
  let c0_i32_89 : BitVec 32 := 0#32
  let v39 : BitVec 32 := Scalar.addi v38 c0_i32_89
  v39
def k0_off24 (k0_t7 : Fin k0_t7_loop.trips) : Fin 3 → Nat :=
  let c5 : Index := 5#32
  let c0_90 : Index := 0#32
  let c0_i32_22 : BitVec 32 := 0#32
  let c1_i32_24 : BitVec 32 := 1#32
  let arg28 : BitVec 32 := Scf.iv c0_i32_22 c1_i32_24 k0_t7
  let c256_i32_88 : BitVec 32 := 256#32
  let v38 : BitVec 32 := Scalar.muli arg28 c256_i32_88
  let c0_i32_89 : BitVec 32 := 0#32
  let v39 : BitVec 32 := Scalar.addi v38 c0_i32_89
  let v40 : BitVec 32 := v39
  let v41 : Index := Scalar.indexCast v40
  ![5, 0, v41.toNat]
@[reducible] def k0_t8_loop : Scf.Loop 32 :=
  let c0_i32_26 : BitVec 32 := 0#32
  let c4_i32_27 : BitVec 32 := 4#32
  let v10 : BitVec 32 := Scalar.addi c0_i32_26 c4_i32_27
  let c1_i32_28 : BitVec 32 := 1#32
  ⟨c0_i32_26, v10, c1_i32_28⟩
def k0_mult18 (k0_t8 : Fin k0_t8_loop.trips) : BitVec 32 :=
  let c0_i32_26 : BitVec 32 := 0#32
  let c1_i32_28 : BitVec 32 := 1#32
  let arg28 : BitVec 32 := Scf.iv c0_i32_26 c1_i32_28 k0_t8
  let c256_i32 : BitVec 32 := 256#32
  let v25 : BitVec 32 := Scalar.muli arg28 c256_i32
  let c6144_i32 : BitVec 32 := 6144#32
  let v26 : BitVec 32 := Scalar.addi v25 c6144_i32
  v26
def k0_off25 (k0_t8 : Fin k0_t8_loop.trips) : Fin 2 → Nat :=
  let c0_86 : Index := 0#32
  let c0_i32_26 : BitVec 32 := 0#32
  let c1_i32_28 : BitVec 32 := 1#32
  let arg28 : BitVec 32 := Scf.iv c0_i32_26 c1_i32_28 k0_t8
  let c256_i32 : BitVec 32 := 256#32
  let v25 : BitVec 32 := Scalar.muli arg28 c256_i32
  let c6144_i32 : BitVec 32 := 6144#32
  let v26 : BitVec 32 := Scalar.addi v25 c6144_i32
  let v27 : BitVec 32 := v26
  let v29 : Index := Scalar.indexCast v27
  ![0, v29.toNat]
def k0_off26 (k0_t8 : Fin k0_t8_loop.trips) : Fin 2 → Nat :=
  let c0_87 : Index := 0#32
  let c0_i32_26 : BitVec 32 := 0#32
  let c1_i32_28 : BitVec 32 := 1#32
  let arg28 : BitVec 32 := Scf.iv c0_i32_26 c1_i32_28 k0_t8
  let c256_i32 : BitVec 32 := 256#32
  let v25 : BitVec 32 := Scalar.muli arg28 c256_i32
  let c6144_i32 : BitVec 32 := 6144#32
  let v26 : BitVec 32 := Scalar.addi v25 c6144_i32
  let v27 : BitVec 32 := v26
  let v33 : Index := Scalar.indexCast v27
  ![0, v33.toNat]
def k0_mult19 (k0_t8 : Fin k0_t8_loop.trips) : BitVec 32 :=
  let c0_i32_26 : BitVec 32 := 0#32
  let c1_i32_28 : BitVec 32 := 1#32
  let arg28 : BitVec 32 := Scf.iv c0_i32_26 c1_i32_28 k0_t8
  let c256_i32_88 : BitVec 32 := 256#32
  let v38 : BitVec 32 := Scalar.muli arg28 c256_i32_88
  let c0_i32_89 : BitVec 32 := 0#32
  let v39 : BitVec 32 := Scalar.addi v38 c0_i32_89
  v39
def k0_off27 (k0_t8 : Fin k0_t8_loop.trips) : Fin 3 → Nat :=
  let c6 : Index := 6#32
  let c0_90 : Index := 0#32
  let c0_i32_26 : BitVec 32 := 0#32
  let c1_i32_28 : BitVec 32 := 1#32
  let arg28 : BitVec 32 := Scf.iv c0_i32_26 c1_i32_28 k0_t8
  let c256_i32_88 : BitVec 32 := 256#32
  let v38 : BitVec 32 := Scalar.muli arg28 c256_i32_88
  let c0_i32_89 : BitVec 32 := 0#32
  let v39 : BitVec 32 := Scalar.addi v38 c0_i32_89
  let v40 : BitVec 32 := v39
  let v41 : Index := Scalar.indexCast v40
  ![6, 0, v41.toNat]
@[reducible] def k0_t9_loop : Scf.Loop 32 :=
  let c0_i32_30 : BitVec 32 := 0#32
  let c4_i32_31 : BitVec 32 := 4#32
  let v11 : BitVec 32 := Scalar.addi c0_i32_30 c4_i32_31
  let c1_i32_32 : BitVec 32 := 1#32
  ⟨c0_i32_30, v11, c1_i32_32⟩
def k0_mult20 (k0_t9 : Fin k0_t9_loop.trips) : BitVec 32 :=
  let c2_i32_85 : BitVec 32 := 2#32
  let c0_i32_30 : BitVec 32 := 0#32
  let c1_i32_32 : BitVec 32 := 1#32
  let arg28 : BitVec 32 := Scf.iv c0_i32_30 c1_i32_32 k0_t9
  let v25 : BitVec 32 := Scalar.muli c2_i32_85 arg28
  let c0_i32_86 : BitVec 32 := 0#32
  let v26 : BitVec 32 := Scalar.addi v25 c0_i32_86
  let c128_i32 : BitVec 32 := 128#32
  let v27 : BitVec 32 := Scalar.muli v26 c128_i32
  v27
def k0_off28 (k0_t9 : Fin k0_t9_loop.trips) (c0_i32_86 : BitVec 32) : Fin 2 → Nat :=
  let c0 : Index := 0#32
  let c2_i32_85 : BitVec 32 := 2#32
  let c0_i32_30 : BitVec 32 := 0#32
  let c1_i32_32 : BitVec 32 := 1#32
  let arg28 : BitVec 32 := Scf.iv c0_i32_30 c1_i32_32 k0_t9
  let v25 : BitVec 32 := Scalar.muli c2_i32_85 arg28
  let v26 : BitVec 32 := Scalar.addi v25 c0_i32_86
  let c128_i32 : BitVec 32 := 128#32
  let v27 : BitVec 32 := Scalar.muli v26 c128_i32
  let v28 : BitVec 32 := v27
  let v29 : Index := Scalar.indexCast v28
  ![0, v29.toNat]
def k0_mult21 (k0_t9 : Fin k0_t9_loop.trips) : BitVec 32 :=
  let c2_i32_87 : BitVec 32 := 2#32
  let c0_i32_30 : BitVec 32 := 0#32
  let c1_i32_32 : BitVec 32 := 1#32
  let arg28 : BitVec 32 := Scf.iv c0_i32_30 c1_i32_32 k0_t9
  let v34 : BitVec 32 := Scalar.muli c2_i32_87 arg28
  let c1_i32_88 : BitVec 32 := 1#32
  let v35 : BitVec 32 := Scalar.addi v34 c1_i32_88
  let c128_i32_89 : BitVec 32 := 128#32
  let v36 : BitVec 32 := Scalar.muli v35 c128_i32_89
  v36
def k0_mult22 (k0_t9 : Fin k0_t9_loop.trips) : BitVec 32 :=
  let c2_i32_91 : BitVec 32 := 2#32
  let c0_i32_30 : BitVec 32 := 0#32
  let c1_i32_32 : BitVec 32 := 1#32
  let arg28 : BitVec 32 := Scf.iv c0_i32_30 c1_i32_32 k0_t9
  let v45 : BitVec 32 := Scalar.muli c2_i32_91 arg28
  let c0_i32_92 : BitVec 32 := 0#32
  let v46 : BitVec 32 := Scalar.addi v45 c0_i32_92
  let c128_i32_93 : BitVec 32 := 128#32
  let v47 : BitVec 32 := Scalar.muli v46 c128_i32_93
  v47
def k0_off29 (k0_t9 : Fin k0_t9_loop.trips) (c0_i32_92 : BitVec 32) : Fin 2 → Nat :=
  let c1 : Index := 1#32
  let c2_i32_91 : BitVec 32 := 2#32
  let c0_i32_30 : BitVec 32 := 0#32
  let c1_i32_32 : BitVec 32 := 1#32
  let arg28 : BitVec 32 := Scf.iv c0_i32_30 c1_i32_32 k0_t9
  let v45 : BitVec 32 := Scalar.muli c2_i32_91 arg28
  let v46 : BitVec 32 := Scalar.addi v45 c0_i32_92
  let c128_i32_93 : BitVec 32 := 128#32
  let v47 : BitVec 32 := Scalar.muli v46 c128_i32_93
  let v48 : BitVec 32 := v47
  let v49 : Index := Scalar.indexCast v48
  ![1, v49.toNat]
def k0_mult23 (k0_t9 : Fin k0_t9_loop.trips) : BitVec 32 :=
  let c2_i32_94 : BitVec 32 := 2#32
  let c0_i32_30 : BitVec 32 := 0#32
  let c1_i32_32 : BitVec 32 := 1#32
  let arg28 : BitVec 32 := Scf.iv c0_i32_30 c1_i32_32 k0_t9
  let v54 : BitVec 32 := Scalar.muli c2_i32_94 arg28
  let c1_i32_95 : BitVec 32 := 1#32
  let v55 : BitVec 32 := Scalar.addi v54 c1_i32_95
  let c128_i32_96 : BitVec 32 := 128#32
  let v56 : BitVec 32 := Scalar.muli v55 c128_i32_96
  v56
def k0_mult24 (k0_t9 : Fin k0_t9_loop.trips) : BitVec 32 :=
  let c2_i32_98 : BitVec 32 := 2#32
  let c0_i32_30 : BitVec 32 := 0#32
  let c1_i32_32 : BitVec 32 := 1#32
  let arg28 : BitVec 32 := Scf.iv c0_i32_30 c1_i32_32 k0_t9
  let v65 : BitVec 32 := Scalar.muli c2_i32_98 arg28
  let c0_i32_99 : BitVec 32 := 0#32
  let v66 : BitVec 32 := Scalar.addi v65 c0_i32_99
  let c128_i32_100 : BitVec 32 := 128#32
  let v67 : BitVec 32 := Scalar.muli v66 c128_i32_100
  v67
def k0_off30 (k0_t9 : Fin k0_t9_loop.trips) (c0_i32_99 : BitVec 32) : Fin 2 → Nat :=
  let c2 : Index := 2#32
  let c2_i32_98 : BitVec 32 := 2#32
  let c0_i32_30 : BitVec 32 := 0#32
  let c1_i32_32 : BitVec 32 := 1#32
  let arg28 : BitVec 32 := Scf.iv c0_i32_30 c1_i32_32 k0_t9
  let v65 : BitVec 32 := Scalar.muli c2_i32_98 arg28
  let v66 : BitVec 32 := Scalar.addi v65 c0_i32_99
  let c128_i32_100 : BitVec 32 := 128#32
  let v67 : BitVec 32 := Scalar.muli v66 c128_i32_100
  let v68 : BitVec 32 := v67
  let v69 : Index := Scalar.indexCast v68
  ![2, v69.toNat]
def k0_mult25 (k0_t9 : Fin k0_t9_loop.trips) : BitVec 32 :=
  let c2_i32_101 : BitVec 32 := 2#32
  let c0_i32_30 : BitVec 32 := 0#32
  let c1_i32_32 : BitVec 32 := 1#32
  let arg28 : BitVec 32 := Scf.iv c0_i32_30 c1_i32_32 k0_t9
  let v74 : BitVec 32 := Scalar.muli c2_i32_101 arg28
  let c1_i32_102 : BitVec 32 := 1#32
  let v75 : BitVec 32 := Scalar.addi v74 c1_i32_102
  let c128_i32_103 : BitVec 32 := 128#32
  let v76 : BitVec 32 := Scalar.muli v75 c128_i32_103
  v76
def k0_mult26 (k0_t9 : Fin k0_t9_loop.trips) : BitVec 32 :=
  let c2_i32_105 : BitVec 32 := 2#32
  let c0_i32_30 : BitVec 32 := 0#32
  let c1_i32_32 : BitVec 32 := 1#32
  let arg28 : BitVec 32 := Scf.iv c0_i32_30 c1_i32_32 k0_t9
  let v85 : BitVec 32 := Scalar.muli c2_i32_105 arg28
  let c0_i32_106 : BitVec 32 := 0#32
  let v86 : BitVec 32 := Scalar.addi v85 c0_i32_106
  let c128_i32_107 : BitVec 32 := 128#32
  let v87 : BitVec 32 := Scalar.muli v86 c128_i32_107
  v87
def k0_off31 (k0_t9 : Fin k0_t9_loop.trips) (c0_i32_106 : BitVec 32) : Fin 2 → Nat :=
  let c3 : Index := 3#32
  let c2_i32_105 : BitVec 32 := 2#32
  let c0_i32_30 : BitVec 32 := 0#32
  let c1_i32_32 : BitVec 32 := 1#32
  let arg28 : BitVec 32 := Scf.iv c0_i32_30 c1_i32_32 k0_t9
  let v85 : BitVec 32 := Scalar.muli c2_i32_105 arg28
  let v86 : BitVec 32 := Scalar.addi v85 c0_i32_106
  let c128_i32_107 : BitVec 32 := 128#32
  let v87 : BitVec 32 := Scalar.muli v86 c128_i32_107
  let v88 : BitVec 32 := v87
  let v89 : Index := Scalar.indexCast v88
  ![3, v89.toNat]
def k0_mult27 (k0_t9 : Fin k0_t9_loop.trips) : BitVec 32 :=
  let c2_i32_108 : BitVec 32 := 2#32
  let c0_i32_30 : BitVec 32 := 0#32
  let c1_i32_32 : BitVec 32 := 1#32
  let arg28 : BitVec 32 := Scf.iv c0_i32_30 c1_i32_32 k0_t9
  let v94 : BitVec 32 := Scalar.muli c2_i32_108 arg28
  let c1_i32_109 : BitVec 32 := 1#32
  let v95 : BitVec 32 := Scalar.addi v94 c1_i32_109
  let c128_i32_110 : BitVec 32 := 128#32
  let v96 : BitVec 32 := Scalar.muli v95 c128_i32_110
  v96
def k0_mult28 (k0_t9 : Fin k0_t9_loop.trips) : BitVec 32 :=
  let c2_i32_112 : BitVec 32 := 2#32
  let c0_i32_30 : BitVec 32 := 0#32
  let c1_i32_32 : BitVec 32 := 1#32
  let arg28 : BitVec 32 := Scf.iv c0_i32_30 c1_i32_32 k0_t9
  let v105 : BitVec 32 := Scalar.muli c2_i32_112 arg28
  let c0_i32_113 : BitVec 32 := 0#32
  let v106 : BitVec 32 := Scalar.addi v105 c0_i32_113
  let c128_i32_114 : BitVec 32 := 128#32
  let v107 : BitVec 32 := Scalar.muli v106 c128_i32_114
  v107
def k0_off32 (k0_t9 : Fin k0_t9_loop.trips) (c0_i32_113 : BitVec 32) : Fin 2 → Nat :=
  let c4 : Index := 4#32
  let c2_i32_112 : BitVec 32 := 2#32
  let c0_i32_30 : BitVec 32 := 0#32
  let c1_i32_32 : BitVec 32 := 1#32
  let arg28 : BitVec 32 := Scf.iv c0_i32_30 c1_i32_32 k0_t9
  let v105 : BitVec 32 := Scalar.muli c2_i32_112 arg28
  let v106 : BitVec 32 := Scalar.addi v105 c0_i32_113
  let c128_i32_114 : BitVec 32 := 128#32
  let v107 : BitVec 32 := Scalar.muli v106 c128_i32_114
  let v108 : BitVec 32 := v107
  let v109 : Index := Scalar.indexCast v108
  ![4, v109.toNat]
def k0_mult29 (k0_t9 : Fin k0_t9_loop.trips) : BitVec 32 :=
  let c2_i32_115 : BitVec 32 := 2#32
  let c0_i32_30 : BitVec 32 := 0#32
  let c1_i32_32 : BitVec 32 := 1#32
  let arg28 : BitVec 32 := Scf.iv c0_i32_30 c1_i32_32 k0_t9
  let v114 : BitVec 32 := Scalar.muli c2_i32_115 arg28
  let c1_i32_116 : BitVec 32 := 1#32
  let v115 : BitVec 32 := Scalar.addi v114 c1_i32_116
  let c128_i32_117 : BitVec 32 := 128#32
  let v116 : BitVec 32 := Scalar.muli v115 c128_i32_117
  v116
def k0_mult30 (k0_t9 : Fin k0_t9_loop.trips) : BitVec 32 :=
  let c2_i32_119 : BitVec 32 := 2#32
  let c0_i32_30 : BitVec 32 := 0#32
  let c1_i32_32 : BitVec 32 := 1#32
  let arg28 : BitVec 32 := Scf.iv c0_i32_30 c1_i32_32 k0_t9
  let v125 : BitVec 32 := Scalar.muli c2_i32_119 arg28
  let c0_i32_120 : BitVec 32 := 0#32
  let v126 : BitVec 32 := Scalar.addi v125 c0_i32_120
  let c128_i32_121 : BitVec 32 := 128#32
  let v127 : BitVec 32 := Scalar.muli v126 c128_i32_121
  v127
def k0_off33 (k0_t9 : Fin k0_t9_loop.trips) (c0_i32_120 : BitVec 32) : Fin 2 → Nat :=
  let c5 : Index := 5#32
  let c2_i32_119 : BitVec 32 := 2#32
  let c0_i32_30 : BitVec 32 := 0#32
  let c1_i32_32 : BitVec 32 := 1#32
  let arg28 : BitVec 32 := Scf.iv c0_i32_30 c1_i32_32 k0_t9
  let v125 : BitVec 32 := Scalar.muli c2_i32_119 arg28
  let v126 : BitVec 32 := Scalar.addi v125 c0_i32_120
  let c128_i32_121 : BitVec 32 := 128#32
  let v127 : BitVec 32 := Scalar.muli v126 c128_i32_121
  let v128 : BitVec 32 := v127
  let v129 : Index := Scalar.indexCast v128
  ![5, v129.toNat]
def k0_mult31 (k0_t9 : Fin k0_t9_loop.trips) : BitVec 32 :=
  let c2_i32_122 : BitVec 32 := 2#32
  let c0_i32_30 : BitVec 32 := 0#32
  let c1_i32_32 : BitVec 32 := 1#32
  let arg28 : BitVec 32 := Scf.iv c0_i32_30 c1_i32_32 k0_t9
  let v134 : BitVec 32 := Scalar.muli c2_i32_122 arg28
  let c1_i32_123 : BitVec 32 := 1#32
  let v135 : BitVec 32 := Scalar.addi v134 c1_i32_123
  let c128_i32_124 : BitVec 32 := 128#32
  let v136 : BitVec 32 := Scalar.muli v135 c128_i32_124
  v136
def k0_mult32 (k0_t9 : Fin k0_t9_loop.trips) : BitVec 32 :=
  let c2_i32_126 : BitVec 32 := 2#32
  let c0_i32_30 : BitVec 32 := 0#32
  let c1_i32_32 : BitVec 32 := 1#32
  let arg28 : BitVec 32 := Scf.iv c0_i32_30 c1_i32_32 k0_t9
  let v145 : BitVec 32 := Scalar.muli c2_i32_126 arg28
  let c0_i32_127 : BitVec 32 := 0#32
  let v146 : BitVec 32 := Scalar.addi v145 c0_i32_127
  let c128_i32_128 : BitVec 32 := 128#32
  let v147 : BitVec 32 := Scalar.muli v146 c128_i32_128
  v147
def k0_off34 (k0_t9 : Fin k0_t9_loop.trips) (c0_i32_127 : BitVec 32) : Fin 2 → Nat :=
  let c6 : Index := 6#32
  let c2_i32_126 : BitVec 32 := 2#32
  let c0_i32_30 : BitVec 32 := 0#32
  let c1_i32_32 : BitVec 32 := 1#32
  let arg28 : BitVec 32 := Scf.iv c0_i32_30 c1_i32_32 k0_t9
  let v145 : BitVec 32 := Scalar.muli c2_i32_126 arg28
  let v146 : BitVec 32 := Scalar.addi v145 c0_i32_127
  let c128_i32_128 : BitVec 32 := 128#32
  let v147 : BitVec 32 := Scalar.muli v146 c128_i32_128
  let v148 : BitVec 32 := v147
  let v149 : Index := Scalar.indexCast v148
  ![6, v149.toNat]
def k0_mult33 (k0_t9 : Fin k0_t9_loop.trips) : BitVec 32 :=
  let c2_i32_129 : BitVec 32 := 2#32
  let c0_i32_30 : BitVec 32 := 0#32
  let c1_i32_32 : BitVec 32 := 1#32
  let arg28 : BitVec 32 := Scf.iv c0_i32_30 c1_i32_32 k0_t9
  let v154 : BitVec 32 := Scalar.muli c2_i32_129 arg28
  let c1_i32_130 : BitVec 32 := 1#32
  let v155 : BitVec 32 := Scalar.addi v154 c1_i32_130
  let c128_i32_131 : BitVec 32 := 128#32
  let v156 : BitVec 32 := Scalar.muli v155 c128_i32_131
  v156
def k0_mult34 (k0_t9 : Fin k0_t9_loop.trips) : BitVec 32 :=
  let c2_i32_133 : BitVec 32 := 2#32
  let c0_i32_30 : BitVec 32 := 0#32
  let c1_i32_32 : BitVec 32 := 1#32
  let arg28 : BitVec 32 := Scf.iv c0_i32_30 c1_i32_32 k0_t9
  let v165 : BitVec 32 := Scalar.muli c2_i32_133 arg28
  let c0_i32_134 : BitVec 32 := 0#32
  let v166 : BitVec 32 := Scalar.addi v165 c0_i32_134
  let c128_i32_135 : BitVec 32 := 128#32
  let v167 : BitVec 32 := Scalar.muli v166 c128_i32_135
  v167
def k0_off35 (k0_t9 : Fin k0_t9_loop.trips) (c0_i32_134 : BitVec 32) : Fin 2 → Nat :=
  let c7 : Index := 7#32
  let c2_i32_133 : BitVec 32 := 2#32
  let c0_i32_30 : BitVec 32 := 0#32
  let c1_i32_32 : BitVec 32 := 1#32
  let arg28 : BitVec 32 := Scf.iv c0_i32_30 c1_i32_32 k0_t9
  let v165 : BitVec 32 := Scalar.muli c2_i32_133 arg28
  let v166 : BitVec 32 := Scalar.addi v165 c0_i32_134
  let c128_i32_135 : BitVec 32 := 128#32
  let v167 : BitVec 32 := Scalar.muli v166 c128_i32_135
  let v168 : BitVec 32 := v167
  let v169 : Index := Scalar.indexCast v168
  ![7, v169.toNat]
def k0_mult35 (k0_t9 : Fin k0_t9_loop.trips) : BitVec 32 :=
  let c2_i32_136 : BitVec 32 := 2#32
  let c0_i32_30 : BitVec 32 := 0#32
  let c1_i32_32 : BitVec 32 := 1#32
  let arg28 : BitVec 32 := Scf.iv c0_i32_30 c1_i32_32 k0_t9
  let v174 : BitVec 32 := Scalar.muli c2_i32_136 arg28
  let c1_i32_137 : BitVec 32 := 1#32
  let v175 : BitVec 32 := Scalar.addi v174 c1_i32_137
  let c128_i32_138 : BitVec 32 := 128#32
  let v176 : BitVec 32 := Scalar.muli v175 c128_i32_138
  v176
def k0_mult36 (k0_t9 : Fin k0_t9_loop.trips) : BitVec 32 :=
  let c2_i32_140 : BitVec 32 := 2#32
  let c0_i32_30 : BitVec 32 := 0#32
  let c1_i32_32 : BitVec 32 := 1#32
  let arg28 : BitVec 32 := Scf.iv c0_i32_30 c1_i32_32 k0_t9
  let v185 : BitVec 32 := Scalar.muli c2_i32_140 arg28
  let c0_i32_141 : BitVec 32 := 0#32
  let v186 : BitVec 32 := Scalar.addi v185 c0_i32_141
  let c128_i32_142 : BitVec 32 := 128#32
  let v187 : BitVec 32 := Scalar.muli v186 c128_i32_142
  v187
def k0_off36 (k0_t9 : Fin k0_t9_loop.trips) (c0_i32_141 : BitVec 32) : Fin 2 → Nat :=
  let c8 : Index := 8#32
  let c2_i32_140 : BitVec 32 := 2#32
  let c0_i32_30 : BitVec 32 := 0#32
  let c1_i32_32 : BitVec 32 := 1#32
  let arg28 : BitVec 32 := Scf.iv c0_i32_30 c1_i32_32 k0_t9
  let v185 : BitVec 32 := Scalar.muli c2_i32_140 arg28
  let v186 : BitVec 32 := Scalar.addi v185 c0_i32_141
  let c128_i32_142 : BitVec 32 := 128#32
  let v187 : BitVec 32 := Scalar.muli v186 c128_i32_142
  let v188 : BitVec 32 := v187
  let v189 : Index := Scalar.indexCast v188
  ![8, v189.toNat]
def k0_mult37 (k0_t9 : Fin k0_t9_loop.trips) : BitVec 32 :=
  let c2_i32_143 : BitVec 32 := 2#32
  let c0_i32_30 : BitVec 32 := 0#32
  let c1_i32_32 : BitVec 32 := 1#32
  let arg28 : BitVec 32 := Scf.iv c0_i32_30 c1_i32_32 k0_t9
  let v194 : BitVec 32 := Scalar.muli c2_i32_143 arg28
  let c1_i32_144 : BitVec 32 := 1#32
  let v195 : BitVec 32 := Scalar.addi v194 c1_i32_144
  let c128_i32_145 : BitVec 32 := 128#32
  let v196 : BitVec 32 := Scalar.muli v195 c128_i32_145
  v196
def k0_mult38 (k0_t9 : Fin k0_t9_loop.trips) : BitVec 32 :=
  let c2_i32_147 : BitVec 32 := 2#32
  let c0_i32_30 : BitVec 32 := 0#32
  let c1_i32_32 : BitVec 32 := 1#32
  let arg28 : BitVec 32 := Scf.iv c0_i32_30 c1_i32_32 k0_t9
  let v205 : BitVec 32 := Scalar.muli c2_i32_147 arg28
  let c0_i32_148 : BitVec 32 := 0#32
  let v206 : BitVec 32 := Scalar.addi v205 c0_i32_148
  let c128_i32_149 : BitVec 32 := 128#32
  let v207 : BitVec 32 := Scalar.muli v206 c128_i32_149
  v207
def k0_off37 (k0_t9 : Fin k0_t9_loop.trips) (c0_i32_148 : BitVec 32) : Fin 2 → Nat :=
  let c9 : Index := 9#32
  let c2_i32_147 : BitVec 32 := 2#32
  let c0_i32_30 : BitVec 32 := 0#32
  let c1_i32_32 : BitVec 32 := 1#32
  let arg28 : BitVec 32 := Scf.iv c0_i32_30 c1_i32_32 k0_t9
  let v205 : BitVec 32 := Scalar.muli c2_i32_147 arg28
  let v206 : BitVec 32 := Scalar.addi v205 c0_i32_148
  let c128_i32_149 : BitVec 32 := 128#32
  let v207 : BitVec 32 := Scalar.muli v206 c128_i32_149
  let v208 : BitVec 32 := v207
  let v209 : Index := Scalar.indexCast v208
  ![9, v209.toNat]
def k0_mult39 (k0_t9 : Fin k0_t9_loop.trips) : BitVec 32 :=
  let c2_i32_150 : BitVec 32 := 2#32
  let c0_i32_30 : BitVec 32 := 0#32
  let c1_i32_32 : BitVec 32 := 1#32
  let arg28 : BitVec 32 := Scf.iv c0_i32_30 c1_i32_32 k0_t9
  let v214 : BitVec 32 := Scalar.muli c2_i32_150 arg28
  let c1_i32_151 : BitVec 32 := 1#32
  let v215 : BitVec 32 := Scalar.addi v214 c1_i32_151
  let c128_i32_152 : BitVec 32 := 128#32
  let v216 : BitVec 32 := Scalar.muli v215 c128_i32_152
  v216
def k0_mult40 (k0_t9 : Fin k0_t9_loop.trips) : BitVec 32 :=
  let c2_i32_154 : BitVec 32 := 2#32
  let c0_i32_30 : BitVec 32 := 0#32
  let c1_i32_32 : BitVec 32 := 1#32
  let arg28 : BitVec 32 := Scf.iv c0_i32_30 c1_i32_32 k0_t9
  let v225 : BitVec 32 := Scalar.muli c2_i32_154 arg28
  let c0_i32_155 : BitVec 32 := 0#32
  let v226 : BitVec 32 := Scalar.addi v225 c0_i32_155
  let c128_i32_156 : BitVec 32 := 128#32
  let v227 : BitVec 32 := Scalar.muli v226 c128_i32_156
  v227
def k0_off38 (k0_t9 : Fin k0_t9_loop.trips) (c0_i32_155 : BitVec 32) : Fin 2 → Nat :=
  let c10 : Index := 10#32
  let c2_i32_154 : BitVec 32 := 2#32
  let c0_i32_30 : BitVec 32 := 0#32
  let c1_i32_32 : BitVec 32 := 1#32
  let arg28 : BitVec 32 := Scf.iv c0_i32_30 c1_i32_32 k0_t9
  let v225 : BitVec 32 := Scalar.muli c2_i32_154 arg28
  let v226 : BitVec 32 := Scalar.addi v225 c0_i32_155
  let c128_i32_156 : BitVec 32 := 128#32
  let v227 : BitVec 32 := Scalar.muli v226 c128_i32_156
  let v228 : BitVec 32 := v227
  let v229 : Index := Scalar.indexCast v228
  ![10, v229.toNat]
def k0_mult41 (k0_t9 : Fin k0_t9_loop.trips) : BitVec 32 :=
  let c2_i32_157 : BitVec 32 := 2#32
  let c0_i32_30 : BitVec 32 := 0#32
  let c1_i32_32 : BitVec 32 := 1#32
  let arg28 : BitVec 32 := Scf.iv c0_i32_30 c1_i32_32 k0_t9
  let v234 : BitVec 32 := Scalar.muli c2_i32_157 arg28
  let c1_i32_158 : BitVec 32 := 1#32
  let v235 : BitVec 32 := Scalar.addi v234 c1_i32_158
  let c128_i32_159 : BitVec 32 := 128#32
  let v236 : BitVec 32 := Scalar.muli v235 c128_i32_159
  v236
def k0_mult42 (k0_t9 : Fin k0_t9_loop.trips) : BitVec 32 :=
  let c2_i32_161 : BitVec 32 := 2#32
  let c0_i32_30 : BitVec 32 := 0#32
  let c1_i32_32 : BitVec 32 := 1#32
  let arg28 : BitVec 32 := Scf.iv c0_i32_30 c1_i32_32 k0_t9
  let v245 : BitVec 32 := Scalar.muli c2_i32_161 arg28
  let c0_i32_162 : BitVec 32 := 0#32
  let v246 : BitVec 32 := Scalar.addi v245 c0_i32_162
  let c128_i32_163 : BitVec 32 := 128#32
  let v247 : BitVec 32 := Scalar.muli v246 c128_i32_163
  v247
def k0_off39 (k0_t9 : Fin k0_t9_loop.trips) (c0_i32_162 : BitVec 32) : Fin 2 → Nat :=
  let c11 : Index := 11#32
  let c2_i32_161 : BitVec 32 := 2#32
  let c0_i32_30 : BitVec 32 := 0#32
  let c1_i32_32 : BitVec 32 := 1#32
  let arg28 : BitVec 32 := Scf.iv c0_i32_30 c1_i32_32 k0_t9
  let v245 : BitVec 32 := Scalar.muli c2_i32_161 arg28
  let v246 : BitVec 32 := Scalar.addi v245 c0_i32_162
  let c128_i32_163 : BitVec 32 := 128#32
  let v247 : BitVec 32 := Scalar.muli v246 c128_i32_163
  let v248 : BitVec 32 := v247
  let v249 : Index := Scalar.indexCast v248
  ![11, v249.toNat]
def k0_mult43 (k0_t9 : Fin k0_t9_loop.trips) : BitVec 32 :=
  let c2_i32_164 : BitVec 32 := 2#32
  let c0_i32_30 : BitVec 32 := 0#32
  let c1_i32_32 : BitVec 32 := 1#32
  let arg28 : BitVec 32 := Scf.iv c0_i32_30 c1_i32_32 k0_t9
  let v254 : BitVec 32 := Scalar.muli c2_i32_164 arg28
  let c1_i32_165 : BitVec 32 := 1#32
  let v255 : BitVec 32 := Scalar.addi v254 c1_i32_165
  let c128_i32_166 : BitVec 32 := 128#32
  let v256 : BitVec 32 := Scalar.muli v255 c128_i32_166
  v256
def k0_mult44 (k0_t9 : Fin k0_t9_loop.trips) : BitVec 32 :=
  let c2_i32_168 : BitVec 32 := 2#32
  let c0_i32_30 : BitVec 32 := 0#32
  let c1_i32_32 : BitVec 32 := 1#32
  let arg28 : BitVec 32 := Scf.iv c0_i32_30 c1_i32_32 k0_t9
  let v265 : BitVec 32 := Scalar.muli c2_i32_168 arg28
  let c0_i32_169 : BitVec 32 := 0#32
  let v266 : BitVec 32 := Scalar.addi v265 c0_i32_169
  let c128_i32_170 : BitVec 32 := 128#32
  let v267 : BitVec 32 := Scalar.muli v266 c128_i32_170
  v267
def k0_off40 (k0_t9 : Fin k0_t9_loop.trips) (c0_i32_169 : BitVec 32) : Fin 2 → Nat :=
  let c12 : Index := 12#32
  let c2_i32_168 : BitVec 32 := 2#32
  let c0_i32_30 : BitVec 32 := 0#32
  let c1_i32_32 : BitVec 32 := 1#32
  let arg28 : BitVec 32 := Scf.iv c0_i32_30 c1_i32_32 k0_t9
  let v265 : BitVec 32 := Scalar.muli c2_i32_168 arg28
  let v266 : BitVec 32 := Scalar.addi v265 c0_i32_169
  let c128_i32_170 : BitVec 32 := 128#32
  let v267 : BitVec 32 := Scalar.muli v266 c128_i32_170
  let v268 : BitVec 32 := v267
  let v269 : Index := Scalar.indexCast v268
  ![12, v269.toNat]
def k0_mult45 (k0_t9 : Fin k0_t9_loop.trips) : BitVec 32 :=
  let c2_i32_171 : BitVec 32 := 2#32
  let c0_i32_30 : BitVec 32 := 0#32
  let c1_i32_32 : BitVec 32 := 1#32
  let arg28 : BitVec 32 := Scf.iv c0_i32_30 c1_i32_32 k0_t9
  let v274 : BitVec 32 := Scalar.muli c2_i32_171 arg28
  let c1_i32_172 : BitVec 32 := 1#32
  let v275 : BitVec 32 := Scalar.addi v274 c1_i32_172
  let c128_i32_173 : BitVec 32 := 128#32
  let v276 : BitVec 32 := Scalar.muli v275 c128_i32_173
  v276
def k0_mult46 (k0_t9 : Fin k0_t9_loop.trips) : BitVec 32 :=
  let c2_i32_175 : BitVec 32 := 2#32
  let c0_i32_30 : BitVec 32 := 0#32
  let c1_i32_32 : BitVec 32 := 1#32
  let arg28 : BitVec 32 := Scf.iv c0_i32_30 c1_i32_32 k0_t9
  let v285 : BitVec 32 := Scalar.muli c2_i32_175 arg28
  let c0_i32_176 : BitVec 32 := 0#32
  let v286 : BitVec 32 := Scalar.addi v285 c0_i32_176
  let c128_i32_177 : BitVec 32 := 128#32
  let v287 : BitVec 32 := Scalar.muli v286 c128_i32_177
  v287
def k0_off41 (k0_t9 : Fin k0_t9_loop.trips) (c0_i32_176 : BitVec 32) : Fin 2 → Nat :=
  let c13 : Index := 13#32
  let c2_i32_175 : BitVec 32 := 2#32
  let c0_i32_30 : BitVec 32 := 0#32
  let c1_i32_32 : BitVec 32 := 1#32
  let arg28 : BitVec 32 := Scf.iv c0_i32_30 c1_i32_32 k0_t9
  let v285 : BitVec 32 := Scalar.muli c2_i32_175 arg28
  let v286 : BitVec 32 := Scalar.addi v285 c0_i32_176
  let c128_i32_177 : BitVec 32 := 128#32
  let v287 : BitVec 32 := Scalar.muli v286 c128_i32_177
  let v288 : BitVec 32 := v287
  let v289 : Index := Scalar.indexCast v288
  ![13, v289.toNat]
def k0_mult47 (k0_t9 : Fin k0_t9_loop.trips) : BitVec 32 :=
  let c2_i32_178 : BitVec 32 := 2#32
  let c0_i32_30 : BitVec 32 := 0#32
  let c1_i32_32 : BitVec 32 := 1#32
  let arg28 : BitVec 32 := Scf.iv c0_i32_30 c1_i32_32 k0_t9
  let v294 : BitVec 32 := Scalar.muli c2_i32_178 arg28
  let c1_i32_179 : BitVec 32 := 1#32
  let v295 : BitVec 32 := Scalar.addi v294 c1_i32_179
  let c128_i32_180 : BitVec 32 := 128#32
  let v296 : BitVec 32 := Scalar.muli v295 c128_i32_180
  v296
def k0_mult48 (k0_t9 : Fin k0_t9_loop.trips) : BitVec 32 :=
  let c2_i32_182 : BitVec 32 := 2#32
  let c0_i32_30 : BitVec 32 := 0#32
  let c1_i32_32 : BitVec 32 := 1#32
  let arg28 : BitVec 32 := Scf.iv c0_i32_30 c1_i32_32 k0_t9
  let v305 : BitVec 32 := Scalar.muli c2_i32_182 arg28
  let c0_i32_183 : BitVec 32 := 0#32
  let v306 : BitVec 32 := Scalar.addi v305 c0_i32_183
  let c128_i32_184 : BitVec 32 := 128#32
  let v307 : BitVec 32 := Scalar.muli v306 c128_i32_184
  v307
def k0_off42 (k0_t9 : Fin k0_t9_loop.trips) (c0_i32_183 : BitVec 32) : Fin 2 → Nat :=
  let c14 : Index := 14#32
  let c2_i32_182 : BitVec 32 := 2#32
  let c0_i32_30 : BitVec 32 := 0#32
  let c1_i32_32 : BitVec 32 := 1#32
  let arg28 : BitVec 32 := Scf.iv c0_i32_30 c1_i32_32 k0_t9
  let v305 : BitVec 32 := Scalar.muli c2_i32_182 arg28
  let v306 : BitVec 32 := Scalar.addi v305 c0_i32_183
  let c128_i32_184 : BitVec 32 := 128#32
  let v307 : BitVec 32 := Scalar.muli v306 c128_i32_184
  let v308 : BitVec 32 := v307
  let v309 : Index := Scalar.indexCast v308
  ![14, v309.toNat]
def k0_mult49 (k0_t9 : Fin k0_t9_loop.trips) : BitVec 32 :=
  let c2_i32_185 : BitVec 32 := 2#32
  let c0_i32_30 : BitVec 32 := 0#32
  let c1_i32_32 : BitVec 32 := 1#32
  let arg28 : BitVec 32 := Scf.iv c0_i32_30 c1_i32_32 k0_t9
  let v314 : BitVec 32 := Scalar.muli c2_i32_185 arg28
  let c1_i32_186 : BitVec 32 := 1#32
  let v315 : BitVec 32 := Scalar.addi v314 c1_i32_186
  let c128_i32_187 : BitVec 32 := 128#32
  let v316 : BitVec 32 := Scalar.muli v315 c128_i32_187
  v316
def k0_mult50 (k0_t9 : Fin k0_t9_loop.trips) : BitVec 32 :=
  let c2_i32_189 : BitVec 32 := 2#32
  let c0_i32_30 : BitVec 32 := 0#32
  let c1_i32_32 : BitVec 32 := 1#32
  let arg28 : BitVec 32 := Scf.iv c0_i32_30 c1_i32_32 k0_t9
  let v325 : BitVec 32 := Scalar.muli c2_i32_189 arg28
  let c0_i32_190 : BitVec 32 := 0#32
  let v326 : BitVec 32 := Scalar.addi v325 c0_i32_190
  let c128_i32_191 : BitVec 32 := 128#32
  let v327 : BitVec 32 := Scalar.muli v326 c128_i32_191
  v327
def k0_off43 (k0_t9 : Fin k0_t9_loop.trips) (c0_i32_190 : BitVec 32) : Fin 2 → Nat :=
  let c15 : Index := 15#32
  let c2_i32_189 : BitVec 32 := 2#32
  let c0_i32_30 : BitVec 32 := 0#32
  let c1_i32_32 : BitVec 32 := 1#32
  let arg28 : BitVec 32 := Scf.iv c0_i32_30 c1_i32_32 k0_t9
  let v325 : BitVec 32 := Scalar.muli c2_i32_189 arg28
  let v326 : BitVec 32 := Scalar.addi v325 c0_i32_190
  let c128_i32_191 : BitVec 32 := 128#32
  let v327 : BitVec 32 := Scalar.muli v326 c128_i32_191
  let v328 : BitVec 32 := v327
  let v329 : Index := Scalar.indexCast v328
  ![15, v329.toNat]
def k0_mult51 (k0_t9 : Fin k0_t9_loop.trips) : BitVec 32 :=
  let c2_i32_192 : BitVec 32 := 2#32
  let c0_i32_30 : BitVec 32 := 0#32
  let c1_i32_32 : BitVec 32 := 1#32
  let arg28 : BitVec 32 := Scf.iv c0_i32_30 c1_i32_32 k0_t9
  let v334 : BitVec 32 := Scalar.muli c2_i32_192 arg28
  let c1_i32_193 : BitVec 32 := 1#32
  let v335 : BitVec 32 := Scalar.addi v334 c1_i32_193
  let c128_i32_194 : BitVec 32 := 128#32
  let v336 : BitVec 32 := Scalar.muli v335 c128_i32_194
  v336
def k0_mult52 (k0_t9 : Fin k0_t9_loop.trips) : BitVec 32 :=
  let c2_i32_196 : BitVec 32 := 2#32
  let c0_i32_30 : BitVec 32 := 0#32
  let c1_i32_32 : BitVec 32 := 1#32
  let arg28 : BitVec 32 := Scf.iv c0_i32_30 c1_i32_32 k0_t9
  let v345 : BitVec 32 := Scalar.muli c2_i32_196 arg28
  let c0_i32_197 : BitVec 32 := 0#32
  let v346 : BitVec 32 := Scalar.addi v345 c0_i32_197
  let c128_i32_198 : BitVec 32 := 128#32
  let v347 : BitVec 32 := Scalar.muli v346 c128_i32_198
  v347
def k0_off44 (k0_t9 : Fin k0_t9_loop.trips) (c0_i32_197 : BitVec 32) : Fin 2 → Nat :=
  let c16 : Index := 16#32
  let c2_i32_196 : BitVec 32 := 2#32
  let c0_i32_30 : BitVec 32 := 0#32
  let c1_i32_32 : BitVec 32 := 1#32
  let arg28 : BitVec 32 := Scf.iv c0_i32_30 c1_i32_32 k0_t9
  let v345 : BitVec 32 := Scalar.muli c2_i32_196 arg28
  let v346 : BitVec 32 := Scalar.addi v345 c0_i32_197
  let c128_i32_198 : BitVec 32 := 128#32
  let v347 : BitVec 32 := Scalar.muli v346 c128_i32_198
  let v348 : BitVec 32 := v347
  let v349 : Index := Scalar.indexCast v348
  ![16, v349.toNat]
def k0_mult53 (k0_t9 : Fin k0_t9_loop.trips) : BitVec 32 :=
  let c2_i32_199 : BitVec 32 := 2#32
  let c0_i32_30 : BitVec 32 := 0#32
  let c1_i32_32 : BitVec 32 := 1#32
  let arg28 : BitVec 32 := Scf.iv c0_i32_30 c1_i32_32 k0_t9
  let v354 : BitVec 32 := Scalar.muli c2_i32_199 arg28
  let c1_i32_200 : BitVec 32 := 1#32
  let v355 : BitVec 32 := Scalar.addi v354 c1_i32_200
  let c128_i32_201 : BitVec 32 := 128#32
  let v356 : BitVec 32 := Scalar.muli v355 c128_i32_201
  v356
def k0_mult54 (k0_t9 : Fin k0_t9_loop.trips) : BitVec 32 :=
  let c2_i32_203 : BitVec 32 := 2#32
  let c0_i32_30 : BitVec 32 := 0#32
  let c1_i32_32 : BitVec 32 := 1#32
  let arg28 : BitVec 32 := Scf.iv c0_i32_30 c1_i32_32 k0_t9
  let v365 : BitVec 32 := Scalar.muli c2_i32_203 arg28
  let c0_i32_204 : BitVec 32 := 0#32
  let v366 : BitVec 32 := Scalar.addi v365 c0_i32_204
  let c128_i32_205 : BitVec 32 := 128#32
  let v367 : BitVec 32 := Scalar.muli v366 c128_i32_205
  v367
def k0_off45 (k0_t9 : Fin k0_t9_loop.trips) (c0_i32_204 : BitVec 32) : Fin 2 → Nat :=
  let c17 : Index := 17#32
  let c2_i32_203 : BitVec 32 := 2#32
  let c0_i32_30 : BitVec 32 := 0#32
  let c1_i32_32 : BitVec 32 := 1#32
  let arg28 : BitVec 32 := Scf.iv c0_i32_30 c1_i32_32 k0_t9
  let v365 : BitVec 32 := Scalar.muli c2_i32_203 arg28
  let v366 : BitVec 32 := Scalar.addi v365 c0_i32_204
  let c128_i32_205 : BitVec 32 := 128#32
  let v367 : BitVec 32 := Scalar.muli v366 c128_i32_205
  let v368 : BitVec 32 := v367
  let v369 : Index := Scalar.indexCast v368
  ![17, v369.toNat]
def k0_mult55 (k0_t9 : Fin k0_t9_loop.trips) : BitVec 32 :=
  let c2_i32_206 : BitVec 32 := 2#32
  let c0_i32_30 : BitVec 32 := 0#32
  let c1_i32_32 : BitVec 32 := 1#32
  let arg28 : BitVec 32 := Scf.iv c0_i32_30 c1_i32_32 k0_t9
  let v374 : BitVec 32 := Scalar.muli c2_i32_206 arg28
  let c1_i32_207 : BitVec 32 := 1#32
  let v375 : BitVec 32 := Scalar.addi v374 c1_i32_207
  let c128_i32_208 : BitVec 32 := 128#32
  let v376 : BitVec 32 := Scalar.muli v375 c128_i32_208
  v376
def k0_mult56 (k0_t9 : Fin k0_t9_loop.trips) : BitVec 32 :=
  let c2_i32_210 : BitVec 32 := 2#32
  let c0_i32_30 : BitVec 32 := 0#32
  let c1_i32_32 : BitVec 32 := 1#32
  let arg28 : BitVec 32 := Scf.iv c0_i32_30 c1_i32_32 k0_t9
  let v385 : BitVec 32 := Scalar.muli c2_i32_210 arg28
  let c0_i32_211 : BitVec 32 := 0#32
  let v386 : BitVec 32 := Scalar.addi v385 c0_i32_211
  let c128_i32_212 : BitVec 32 := 128#32
  let v387 : BitVec 32 := Scalar.muli v386 c128_i32_212
  v387
def k0_off46 (k0_t9 : Fin k0_t9_loop.trips) (c0_i32_211 : BitVec 32) : Fin 2 → Nat :=
  let c18 : Index := 18#32
  let c2_i32_210 : BitVec 32 := 2#32
  let c0_i32_30 : BitVec 32 := 0#32
  let c1_i32_32 : BitVec 32 := 1#32
  let arg28 : BitVec 32 := Scf.iv c0_i32_30 c1_i32_32 k0_t9
  let v385 : BitVec 32 := Scalar.muli c2_i32_210 arg28
  let v386 : BitVec 32 := Scalar.addi v385 c0_i32_211
  let c128_i32_212 : BitVec 32 := 128#32
  let v387 : BitVec 32 := Scalar.muli v386 c128_i32_212
  let v388 : BitVec 32 := v387
  let v389 : Index := Scalar.indexCast v388
  ![18, v389.toNat]
def k0_mult57 (k0_t9 : Fin k0_t9_loop.trips) : BitVec 32 :=
  let c2_i32_213 : BitVec 32 := 2#32
  let c0_i32_30 : BitVec 32 := 0#32
  let c1_i32_32 : BitVec 32 := 1#32
  let arg28 : BitVec 32 := Scf.iv c0_i32_30 c1_i32_32 k0_t9
  let v394 : BitVec 32 := Scalar.muli c2_i32_213 arg28
  let c1_i32_214 : BitVec 32 := 1#32
  let v395 : BitVec 32 := Scalar.addi v394 c1_i32_214
  let c128_i32_215 : BitVec 32 := 128#32
  let v396 : BitVec 32 := Scalar.muli v395 c128_i32_215
  v396
def k0_mult58 (k0_t9 : Fin k0_t9_loop.trips) : BitVec 32 :=
  let c2_i32_217 : BitVec 32 := 2#32
  let c0_i32_30 : BitVec 32 := 0#32
  let c1_i32_32 : BitVec 32 := 1#32
  let arg28 : BitVec 32 := Scf.iv c0_i32_30 c1_i32_32 k0_t9
  let v405 : BitVec 32 := Scalar.muli c2_i32_217 arg28
  let c0_i32_218 : BitVec 32 := 0#32
  let v406 : BitVec 32 := Scalar.addi v405 c0_i32_218
  let c128_i32_219 : BitVec 32 := 128#32
  let v407 : BitVec 32 := Scalar.muli v406 c128_i32_219
  v407
def k0_off47 (k0_t9 : Fin k0_t9_loop.trips) (c0_i32_218 : BitVec 32) : Fin 2 → Nat :=
  let c19 : Index := 19#32
  let c2_i32_217 : BitVec 32 := 2#32
  let c0_i32_30 : BitVec 32 := 0#32
  let c1_i32_32 : BitVec 32 := 1#32
  let arg28 : BitVec 32 := Scf.iv c0_i32_30 c1_i32_32 k0_t9
  let v405 : BitVec 32 := Scalar.muli c2_i32_217 arg28
  let v406 : BitVec 32 := Scalar.addi v405 c0_i32_218
  let c128_i32_219 : BitVec 32 := 128#32
  let v407 : BitVec 32 := Scalar.muli v406 c128_i32_219
  let v408 : BitVec 32 := v407
  let v409 : Index := Scalar.indexCast v408
  ![19, v409.toNat]
def k0_mult59 (k0_t9 : Fin k0_t9_loop.trips) : BitVec 32 :=
  let c2_i32_220 : BitVec 32 := 2#32
  let c0_i32_30 : BitVec 32 := 0#32
  let c1_i32_32 : BitVec 32 := 1#32
  let arg28 : BitVec 32 := Scf.iv c0_i32_30 c1_i32_32 k0_t9
  let v414 : BitVec 32 := Scalar.muli c2_i32_220 arg28
  let c1_i32_221 : BitVec 32 := 1#32
  let v415 : BitVec 32 := Scalar.addi v414 c1_i32_221
  let c128_i32_222 : BitVec 32 := 128#32
  let v416 : BitVec 32 := Scalar.muli v415 c128_i32_222
  v416
def k0_mult60 (k0_t9 : Fin k0_t9_loop.trips) : BitVec 32 :=
  let c2_i32_224 : BitVec 32 := 2#32
  let c0_i32_30 : BitVec 32 := 0#32
  let c1_i32_32 : BitVec 32 := 1#32
  let arg28 : BitVec 32 := Scf.iv c0_i32_30 c1_i32_32 k0_t9
  let v425 : BitVec 32 := Scalar.muli c2_i32_224 arg28
  let c0_i32_225 : BitVec 32 := 0#32
  let v426 : BitVec 32 := Scalar.addi v425 c0_i32_225
  let c128_i32_226 : BitVec 32 := 128#32
  let v427 : BitVec 32 := Scalar.muli v426 c128_i32_226
  v427
def k0_off48 (k0_t9 : Fin k0_t9_loop.trips) (c0_i32_225 : BitVec 32) : Fin 2 → Nat :=
  let c20 : Index := 20#32
  let c2_i32_224 : BitVec 32 := 2#32
  let c0_i32_30 : BitVec 32 := 0#32
  let c1_i32_32 : BitVec 32 := 1#32
  let arg28 : BitVec 32 := Scf.iv c0_i32_30 c1_i32_32 k0_t9
  let v425 : BitVec 32 := Scalar.muli c2_i32_224 arg28
  let v426 : BitVec 32 := Scalar.addi v425 c0_i32_225
  let c128_i32_226 : BitVec 32 := 128#32
  let v427 : BitVec 32 := Scalar.muli v426 c128_i32_226
  let v428 : BitVec 32 := v427
  let v429 : Index := Scalar.indexCast v428
  ![20, v429.toNat]
def k0_mult61 (k0_t9 : Fin k0_t9_loop.trips) : BitVec 32 :=
  let c2_i32_227 : BitVec 32 := 2#32
  let c0_i32_30 : BitVec 32 := 0#32
  let c1_i32_32 : BitVec 32 := 1#32
  let arg28 : BitVec 32 := Scf.iv c0_i32_30 c1_i32_32 k0_t9
  let v434 : BitVec 32 := Scalar.muli c2_i32_227 arg28
  let c1_i32_228 : BitVec 32 := 1#32
  let v435 : BitVec 32 := Scalar.addi v434 c1_i32_228
  let c128_i32_229 : BitVec 32 := 128#32
  let v436 : BitVec 32 := Scalar.muli v435 c128_i32_229
  v436
def k0_mult62 (k0_t9 : Fin k0_t9_loop.trips) : BitVec 32 :=
  let c2_i32_231 : BitVec 32 := 2#32
  let c0_i32_30 : BitVec 32 := 0#32
  let c1_i32_32 : BitVec 32 := 1#32
  let arg28 : BitVec 32 := Scf.iv c0_i32_30 c1_i32_32 k0_t9
  let v445 : BitVec 32 := Scalar.muli c2_i32_231 arg28
  let c0_i32_232 : BitVec 32 := 0#32
  let v446 : BitVec 32 := Scalar.addi v445 c0_i32_232
  let c128_i32_233 : BitVec 32 := 128#32
  let v447 : BitVec 32 := Scalar.muli v446 c128_i32_233
  v447
def k0_off49 (k0_t9 : Fin k0_t9_loop.trips) (c0_i32_232 : BitVec 32) : Fin 2 → Nat :=
  let c21 : Index := 21#32
  let c2_i32_231 : BitVec 32 := 2#32
  let c0_i32_30 : BitVec 32 := 0#32
  let c1_i32_32 : BitVec 32 := 1#32
  let arg28 : BitVec 32 := Scf.iv c0_i32_30 c1_i32_32 k0_t9
  let v445 : BitVec 32 := Scalar.muli c2_i32_231 arg28
  let v446 : BitVec 32 := Scalar.addi v445 c0_i32_232
  let c128_i32_233 : BitVec 32 := 128#32
  let v447 : BitVec 32 := Scalar.muli v446 c128_i32_233
  let v448 : BitVec 32 := v447
  let v449 : Index := Scalar.indexCast v448
  ![21, v449.toNat]
def k0_mult63 (k0_t9 : Fin k0_t9_loop.trips) : BitVec 32 :=
  let c2_i32_234 : BitVec 32 := 2#32
  let c0_i32_30 : BitVec 32 := 0#32
  let c1_i32_32 : BitVec 32 := 1#32
  let arg28 : BitVec 32 := Scf.iv c0_i32_30 c1_i32_32 k0_t9
  let v454 : BitVec 32 := Scalar.muli c2_i32_234 arg28
  let c1_i32_235 : BitVec 32 := 1#32
  let v455 : BitVec 32 := Scalar.addi v454 c1_i32_235
  let c128_i32_236 : BitVec 32 := 128#32
  let v456 : BitVec 32 := Scalar.muli v455 c128_i32_236
  v456
def k0_mult64 (k0_t9 : Fin k0_t9_loop.trips) : BitVec 32 :=
  let c2_i32_238 : BitVec 32 := 2#32
  let c0_i32_30 : BitVec 32 := 0#32
  let c1_i32_32 : BitVec 32 := 1#32
  let arg28 : BitVec 32 := Scf.iv c0_i32_30 c1_i32_32 k0_t9
  let v465 : BitVec 32 := Scalar.muli c2_i32_238 arg28
  let c0_i32_239 : BitVec 32 := 0#32
  let v466 : BitVec 32 := Scalar.addi v465 c0_i32_239
  let c128_i32_240 : BitVec 32 := 128#32
  let v467 : BitVec 32 := Scalar.muli v466 c128_i32_240
  v467
def k0_off50 (k0_t9 : Fin k0_t9_loop.trips) (c0_i32_239 : BitVec 32) : Fin 2 → Nat :=
  let c22 : Index := 22#32
  let c2_i32_238 : BitVec 32 := 2#32
  let c0_i32_30 : BitVec 32 := 0#32
  let c1_i32_32 : BitVec 32 := 1#32
  let arg28 : BitVec 32 := Scf.iv c0_i32_30 c1_i32_32 k0_t9
  let v465 : BitVec 32 := Scalar.muli c2_i32_238 arg28
  let v466 : BitVec 32 := Scalar.addi v465 c0_i32_239
  let c128_i32_240 : BitVec 32 := 128#32
  let v467 : BitVec 32 := Scalar.muli v466 c128_i32_240
  let v468 : BitVec 32 := v467
  let v469 : Index := Scalar.indexCast v468
  ![22, v469.toNat]
def k0_mult65 (k0_t9 : Fin k0_t9_loop.trips) : BitVec 32 :=
  let c2_i32_241 : BitVec 32 := 2#32
  let c0_i32_30 : BitVec 32 := 0#32
  let c1_i32_32 : BitVec 32 := 1#32
  let arg28 : BitVec 32 := Scf.iv c0_i32_30 c1_i32_32 k0_t9
  let v474 : BitVec 32 := Scalar.muli c2_i32_241 arg28
  let c1_i32_242 : BitVec 32 := 1#32
  let v475 : BitVec 32 := Scalar.addi v474 c1_i32_242
  let c128_i32_243 : BitVec 32 := 128#32
  let v476 : BitVec 32 := Scalar.muli v475 c128_i32_243
  v476
def k0_mult66 (k0_t9 : Fin k0_t9_loop.trips) : BitVec 32 :=
  let c2_i32_245 : BitVec 32 := 2#32
  let c0_i32_30 : BitVec 32 := 0#32
  let c1_i32_32 : BitVec 32 := 1#32
  let arg28 : BitVec 32 := Scf.iv c0_i32_30 c1_i32_32 k0_t9
  let v485 : BitVec 32 := Scalar.muli c2_i32_245 arg28
  let c0_i32_246 : BitVec 32 := 0#32
  let v486 : BitVec 32 := Scalar.addi v485 c0_i32_246
  let c128_i32_247 : BitVec 32 := 128#32
  let v487 : BitVec 32 := Scalar.muli v486 c128_i32_247
  v487
def k0_off51 (k0_t9 : Fin k0_t9_loop.trips) (c0_i32_246 : BitVec 32) : Fin 2 → Nat :=
  let c23 : Index := 23#32
  let c2_i32_245 : BitVec 32 := 2#32
  let c0_i32_30 : BitVec 32 := 0#32
  let c1_i32_32 : BitVec 32 := 1#32
  let arg28 : BitVec 32 := Scf.iv c0_i32_30 c1_i32_32 k0_t9
  let v485 : BitVec 32 := Scalar.muli c2_i32_245 arg28
  let v486 : BitVec 32 := Scalar.addi v485 c0_i32_246
  let c128_i32_247 : BitVec 32 := 128#32
  let v487 : BitVec 32 := Scalar.muli v486 c128_i32_247
  let v488 : BitVec 32 := v487
  let v489 : Index := Scalar.indexCast v488
  ![23, v489.toNat]
def k0_mult67 (k0_t9 : Fin k0_t9_loop.trips) : BitVec 32 :=
  let c2_i32_248 : BitVec 32 := 2#32
  let c0_i32_30 : BitVec 32 := 0#32
  let c1_i32_32 : BitVec 32 := 1#32
  let arg28 : BitVec 32 := Scf.iv c0_i32_30 c1_i32_32 k0_t9
  let v494 : BitVec 32 := Scalar.muli c2_i32_248 arg28
  let c1_i32_249 : BitVec 32 := 1#32
  let v495 : BitVec 32 := Scalar.addi v494 c1_i32_249
  let c128_i32_250 : BitVec 32 := 128#32
  let v496 : BitVec 32 := Scalar.muli v495 c128_i32_250
  v496
def k0_mult68 (k0_t9 : Fin k0_t9_loop.trips) : BitVec 32 :=
  let c2_i32_252 : BitVec 32 := 2#32
  let c0_i32_30 : BitVec 32 := 0#32
  let c1_i32_32 : BitVec 32 := 1#32
  let arg28 : BitVec 32 := Scf.iv c0_i32_30 c1_i32_32 k0_t9
  let v505 : BitVec 32 := Scalar.muli c2_i32_252 arg28
  let c0_i32_253 : BitVec 32 := 0#32
  let v506 : BitVec 32 := Scalar.addi v505 c0_i32_253
  let c128_i32_254 : BitVec 32 := 128#32
  let v507 : BitVec 32 := Scalar.muli v506 c128_i32_254
  v507
def k0_off52 (k0_t9 : Fin k0_t9_loop.trips) (c0_i32_253 : BitVec 32) : Fin 2 → Nat :=
  let c24 : Index := 24#32
  let c2_i32_252 : BitVec 32 := 2#32
  let c0_i32_30 : BitVec 32 := 0#32
  let c1_i32_32 : BitVec 32 := 1#32
  let arg28 : BitVec 32 := Scf.iv c0_i32_30 c1_i32_32 k0_t9
  let v505 : BitVec 32 := Scalar.muli c2_i32_252 arg28
  let v506 : BitVec 32 := Scalar.addi v505 c0_i32_253
  let c128_i32_254 : BitVec 32 := 128#32
  let v507 : BitVec 32 := Scalar.muli v506 c128_i32_254
  let v508 : BitVec 32 := v507
  let v509 : Index := Scalar.indexCast v508
  ![24, v509.toNat]
def k0_mult69 (k0_t9 : Fin k0_t9_loop.trips) : BitVec 32 :=
  let c2_i32_255 : BitVec 32 := 2#32
  let c0_i32_30 : BitVec 32 := 0#32
  let c1_i32_32 : BitVec 32 := 1#32
  let arg28 : BitVec 32 := Scf.iv c0_i32_30 c1_i32_32 k0_t9
  let v514 : BitVec 32 := Scalar.muli c2_i32_255 arg28
  let c1_i32_256 : BitVec 32 := 1#32
  let v515 : BitVec 32 := Scalar.addi v514 c1_i32_256
  let c128_i32_257 : BitVec 32 := 128#32
  let v516 : BitVec 32 := Scalar.muli v515 c128_i32_257
  v516
def k0_mult70 (k0_t9 : Fin k0_t9_loop.trips) : BitVec 32 :=
  let c2_i32_259 : BitVec 32 := 2#32
  let c0_i32_30 : BitVec 32 := 0#32
  let c1_i32_32 : BitVec 32 := 1#32
  let arg28 : BitVec 32 := Scf.iv c0_i32_30 c1_i32_32 k0_t9
  let v525 : BitVec 32 := Scalar.muli c2_i32_259 arg28
  let c0_i32_260 : BitVec 32 := 0#32
  let v526 : BitVec 32 := Scalar.addi v525 c0_i32_260
  let c128_i32_261 : BitVec 32 := 128#32
  let v527 : BitVec 32 := Scalar.muli v526 c128_i32_261
  v527
def k0_off53 (k0_t9 : Fin k0_t9_loop.trips) (c0_i32_260 : BitVec 32) : Fin 2 → Nat :=
  let c25 : Index := 25#32
  let c2_i32_259 : BitVec 32 := 2#32
  let c0_i32_30 : BitVec 32 := 0#32
  let c1_i32_32 : BitVec 32 := 1#32
  let arg28 : BitVec 32 := Scf.iv c0_i32_30 c1_i32_32 k0_t9
  let v525 : BitVec 32 := Scalar.muli c2_i32_259 arg28
  let v526 : BitVec 32 := Scalar.addi v525 c0_i32_260
  let c128_i32_261 : BitVec 32 := 128#32
  let v527 : BitVec 32 := Scalar.muli v526 c128_i32_261
  let v528 : BitVec 32 := v527
  let v529 : Index := Scalar.indexCast v528
  ![25, v529.toNat]
def k0_mult71 (k0_t9 : Fin k0_t9_loop.trips) : BitVec 32 :=
  let c2_i32_262 : BitVec 32 := 2#32
  let c0_i32_30 : BitVec 32 := 0#32
  let c1_i32_32 : BitVec 32 := 1#32
  let arg28 : BitVec 32 := Scf.iv c0_i32_30 c1_i32_32 k0_t9
  let v534 : BitVec 32 := Scalar.muli c2_i32_262 arg28
  let c1_i32_263 : BitVec 32 := 1#32
  let v535 : BitVec 32 := Scalar.addi v534 c1_i32_263
  let c128_i32_264 : BitVec 32 := 128#32
  let v536 : BitVec 32 := Scalar.muli v535 c128_i32_264
  v536
def k0_mult72 (k0_t9 : Fin k0_t9_loop.trips) : BitVec 32 :=
  let c2_i32_266 : BitVec 32 := 2#32
  let c0_i32_30 : BitVec 32 := 0#32
  let c1_i32_32 : BitVec 32 := 1#32
  let arg28 : BitVec 32 := Scf.iv c0_i32_30 c1_i32_32 k0_t9
  let v545 : BitVec 32 := Scalar.muli c2_i32_266 arg28
  let c0_i32_267 : BitVec 32 := 0#32
  let v546 : BitVec 32 := Scalar.addi v545 c0_i32_267
  let c128_i32_268 : BitVec 32 := 128#32
  let v547 : BitVec 32 := Scalar.muli v546 c128_i32_268
  v547
def k0_off54 (k0_t9 : Fin k0_t9_loop.trips) (c0_i32_267 : BitVec 32) : Fin 2 → Nat :=
  let c26 : Index := 26#32
  let c2_i32_266 : BitVec 32 := 2#32
  let c0_i32_30 : BitVec 32 := 0#32
  let c1_i32_32 : BitVec 32 := 1#32
  let arg28 : BitVec 32 := Scf.iv c0_i32_30 c1_i32_32 k0_t9
  let v545 : BitVec 32 := Scalar.muli c2_i32_266 arg28
  let v546 : BitVec 32 := Scalar.addi v545 c0_i32_267
  let c128_i32_268 : BitVec 32 := 128#32
  let v547 : BitVec 32 := Scalar.muli v546 c128_i32_268
  let v548 : BitVec 32 := v547
  let v549 : Index := Scalar.indexCast v548
  ![26, v549.toNat]
def k0_mult73 (k0_t9 : Fin k0_t9_loop.trips) : BitVec 32 :=
  let c2_i32_269 : BitVec 32 := 2#32
  let c0_i32_30 : BitVec 32 := 0#32
  let c1_i32_32 : BitVec 32 := 1#32
  let arg28 : BitVec 32 := Scf.iv c0_i32_30 c1_i32_32 k0_t9
  let v554 : BitVec 32 := Scalar.muli c2_i32_269 arg28
  let c1_i32_270 : BitVec 32 := 1#32
  let v555 : BitVec 32 := Scalar.addi v554 c1_i32_270
  let c128_i32_271 : BitVec 32 := 128#32
  let v556 : BitVec 32 := Scalar.muli v555 c128_i32_271
  v556
def k0_mult74 (k0_t9 : Fin k0_t9_loop.trips) : BitVec 32 :=
  let c2_i32_273 : BitVec 32 := 2#32
  let c0_i32_30 : BitVec 32 := 0#32
  let c1_i32_32 : BitVec 32 := 1#32
  let arg28 : BitVec 32 := Scf.iv c0_i32_30 c1_i32_32 k0_t9
  let v565 : BitVec 32 := Scalar.muli c2_i32_273 arg28
  let c0_i32_274 : BitVec 32 := 0#32
  let v566 : BitVec 32 := Scalar.addi v565 c0_i32_274
  let c128_i32_275 : BitVec 32 := 128#32
  let v567 : BitVec 32 := Scalar.muli v566 c128_i32_275
  v567
def k0_off55 (k0_t9 : Fin k0_t9_loop.trips) (c0_i32_274 : BitVec 32) : Fin 2 → Nat :=
  let c27 : Index := 27#32
  let c2_i32_273 : BitVec 32 := 2#32
  let c0_i32_30 : BitVec 32 := 0#32
  let c1_i32_32 : BitVec 32 := 1#32
  let arg28 : BitVec 32 := Scf.iv c0_i32_30 c1_i32_32 k0_t9
  let v565 : BitVec 32 := Scalar.muli c2_i32_273 arg28
  let v566 : BitVec 32 := Scalar.addi v565 c0_i32_274
  let c128_i32_275 : BitVec 32 := 128#32
  let v567 : BitVec 32 := Scalar.muli v566 c128_i32_275
  let v568 : BitVec 32 := v567
  let v569 : Index := Scalar.indexCast v568
  ![27, v569.toNat]
def k0_mult75 (k0_t9 : Fin k0_t9_loop.trips) : BitVec 32 :=
  let c2_i32_276 : BitVec 32 := 2#32
  let c0_i32_30 : BitVec 32 := 0#32
  let c1_i32_32 : BitVec 32 := 1#32
  let arg28 : BitVec 32 := Scf.iv c0_i32_30 c1_i32_32 k0_t9
  let v574 : BitVec 32 := Scalar.muli c2_i32_276 arg28
  let c1_i32_277 : BitVec 32 := 1#32
  let v575 : BitVec 32 := Scalar.addi v574 c1_i32_277
  let c128_i32_278 : BitVec 32 := 128#32
  let v576 : BitVec 32 := Scalar.muli v575 c128_i32_278
  v576
def k0_mult76 (k0_t9 : Fin k0_t9_loop.trips) : BitVec 32 :=
  let c2_i32_280 : BitVec 32 := 2#32
  let c0_i32_30 : BitVec 32 := 0#32
  let c1_i32_32 : BitVec 32 := 1#32
  let arg28 : BitVec 32 := Scf.iv c0_i32_30 c1_i32_32 k0_t9
  let v585 : BitVec 32 := Scalar.muli c2_i32_280 arg28
  let c0_i32_281 : BitVec 32 := 0#32
  let v586 : BitVec 32 := Scalar.addi v585 c0_i32_281
  let c128_i32_282 : BitVec 32 := 128#32
  let v587 : BitVec 32 := Scalar.muli v586 c128_i32_282
  v587
def k0_off56 (k0_t9 : Fin k0_t9_loop.trips) (c0_i32_281 : BitVec 32) : Fin 2 → Nat :=
  let c28 : Index := 28#32
  let c2_i32_280 : BitVec 32 := 2#32
  let c0_i32_30 : BitVec 32 := 0#32
  let c1_i32_32 : BitVec 32 := 1#32
  let arg28 : BitVec 32 := Scf.iv c0_i32_30 c1_i32_32 k0_t9
  let v585 : BitVec 32 := Scalar.muli c2_i32_280 arg28
  let v586 : BitVec 32 := Scalar.addi v585 c0_i32_281
  let c128_i32_282 : BitVec 32 := 128#32
  let v587 : BitVec 32 := Scalar.muli v586 c128_i32_282
  let v588 : BitVec 32 := v587
  let v589 : Index := Scalar.indexCast v588
  ![28, v589.toNat]
def k0_mult77 (k0_t9 : Fin k0_t9_loop.trips) : BitVec 32 :=
  let c2_i32_283 : BitVec 32 := 2#32
  let c0_i32_30 : BitVec 32 := 0#32
  let c1_i32_32 : BitVec 32 := 1#32
  let arg28 : BitVec 32 := Scf.iv c0_i32_30 c1_i32_32 k0_t9
  let v594 : BitVec 32 := Scalar.muli c2_i32_283 arg28
  let c1_i32_284 : BitVec 32 := 1#32
  let v595 : BitVec 32 := Scalar.addi v594 c1_i32_284
  let c128_i32_285 : BitVec 32 := 128#32
  let v596 : BitVec 32 := Scalar.muli v595 c128_i32_285
  v596
def k0_mult78 (k0_t9 : Fin k0_t9_loop.trips) : BitVec 32 :=
  let c2_i32_287 : BitVec 32 := 2#32
  let c0_i32_30 : BitVec 32 := 0#32
  let c1_i32_32 : BitVec 32 := 1#32
  let arg28 : BitVec 32 := Scf.iv c0_i32_30 c1_i32_32 k0_t9
  let v605 : BitVec 32 := Scalar.muli c2_i32_287 arg28
  let c0_i32_288 : BitVec 32 := 0#32
  let v606 : BitVec 32 := Scalar.addi v605 c0_i32_288
  let c128_i32_289 : BitVec 32 := 128#32
  let v607 : BitVec 32 := Scalar.muli v606 c128_i32_289
  v607
def k0_off57 (k0_t9 : Fin k0_t9_loop.trips) (c0_i32_288 : BitVec 32) : Fin 2 → Nat :=
  let c29 : Index := 29#32
  let c2_i32_287 : BitVec 32 := 2#32
  let c0_i32_30 : BitVec 32 := 0#32
  let c1_i32_32 : BitVec 32 := 1#32
  let arg28 : BitVec 32 := Scf.iv c0_i32_30 c1_i32_32 k0_t9
  let v605 : BitVec 32 := Scalar.muli c2_i32_287 arg28
  let v606 : BitVec 32 := Scalar.addi v605 c0_i32_288
  let c128_i32_289 : BitVec 32 := 128#32
  let v607 : BitVec 32 := Scalar.muli v606 c128_i32_289
  let v608 : BitVec 32 := v607
  let v609 : Index := Scalar.indexCast v608
  ![29, v609.toNat]
def k0_mult79 (k0_t9 : Fin k0_t9_loop.trips) : BitVec 32 :=
  let c2_i32_290 : BitVec 32 := 2#32
  let c0_i32_30 : BitVec 32 := 0#32
  let c1_i32_32 : BitVec 32 := 1#32
  let arg28 : BitVec 32 := Scf.iv c0_i32_30 c1_i32_32 k0_t9
  let v614 : BitVec 32 := Scalar.muli c2_i32_290 arg28
  let c1_i32_291 : BitVec 32 := 1#32
  let v615 : BitVec 32 := Scalar.addi v614 c1_i32_291
  let c128_i32_292 : BitVec 32 := 128#32
  let v616 : BitVec 32 := Scalar.muli v615 c128_i32_292
  v616
def k0_mult80 (k0_t9 : Fin k0_t9_loop.trips) : BitVec 32 :=
  let c2_i32_294 : BitVec 32 := 2#32
  let c0_i32_30 : BitVec 32 := 0#32
  let c1_i32_32 : BitVec 32 := 1#32
  let arg28 : BitVec 32 := Scf.iv c0_i32_30 c1_i32_32 k0_t9
  let v625 : BitVec 32 := Scalar.muli c2_i32_294 arg28
  let c0_i32_295 : BitVec 32 := 0#32
  let v626 : BitVec 32 := Scalar.addi v625 c0_i32_295
  let c128_i32_296 : BitVec 32 := 128#32
  let v627 : BitVec 32 := Scalar.muli v626 c128_i32_296
  v627
def k0_off58 (k0_t9 : Fin k0_t9_loop.trips) (c0_i32_295 : BitVec 32) : Fin 2 → Nat :=
  let c30 : Index := 30#32
  let c2_i32_294 : BitVec 32 := 2#32
  let c0_i32_30 : BitVec 32 := 0#32
  let c1_i32_32 : BitVec 32 := 1#32
  let arg28 : BitVec 32 := Scf.iv c0_i32_30 c1_i32_32 k0_t9
  let v625 : BitVec 32 := Scalar.muli c2_i32_294 arg28
  let v626 : BitVec 32 := Scalar.addi v625 c0_i32_295
  let c128_i32_296 : BitVec 32 := 128#32
  let v627 : BitVec 32 := Scalar.muli v626 c128_i32_296
  let v628 : BitVec 32 := v627
  let v629 : Index := Scalar.indexCast v628
  ![30, v629.toNat]
def k0_mult81 (k0_t9 : Fin k0_t9_loop.trips) : BitVec 32 :=
  let c2_i32_297 : BitVec 32 := 2#32
  let c0_i32_30 : BitVec 32 := 0#32
  let c1_i32_32 : BitVec 32 := 1#32
  let arg28 : BitVec 32 := Scf.iv c0_i32_30 c1_i32_32 k0_t9
  let v634 : BitVec 32 := Scalar.muli c2_i32_297 arg28
  let c1_i32_298 : BitVec 32 := 1#32
  let v635 : BitVec 32 := Scalar.addi v634 c1_i32_298
  let c128_i32_299 : BitVec 32 := 128#32
  let v636 : BitVec 32 := Scalar.muli v635 c128_i32_299
  v636
@[reducible] def k0_t10_loop : Scf.Loop 32 :=
  let c0_i32_301 : BitVec 32 := 0#32
  let c4_i32_302 : BitVec 32 := 4#32
  let v645 : BitVec 32 := Scalar.addi c0_i32_301 c4_i32_302
  let c1_i32_303 : BitVec 32 := 1#32
  ⟨c0_i32_301, v645, c1_i32_303⟩
def k0_mult82 (k0_t10 : Fin k0_t10_loop.trips) : BitVec 32 :=
  let c0_i32_301 : BitVec 32 := 0#32
  let c1_i32_303 : BitVec 32 := 1#32
  let arg29 : BitVec 32 := Scf.iv c0_i32_301 c1_i32_303 k0_t10
  let c64_i32 : BitVec 32 := 64#32
  let v655 : BitVec 32 := Scalar.muli arg29 c64_i32
  v655
def k0_off59 (k0_t9 : Fin k0_t9_loop.trips) (k0_t10 : Fin k0_t10_loop.trips) (c0_i32_309 : BitVec 32) (c0_i32_310 : BitVec 32) : Fin 4 → Nat :=
  let c0_i32_30 : BitVec 32 := 0#32
  let c1_i32_32 : BitVec 32 := 1#32
  let arg28 : BitVec 32 := Scf.iv c0_i32_30 c1_i32_32 k0_t9
  let v661 : Index := Scalar.indexCast arg28
  let c2_i32_308 : BitVec 32 := 2#32
  let c0_i32_301 : BitVec 32 := 0#32
  let c1_i32_303 : BitVec 32 := 1#32
  let arg29 : BitVec 32 := Scf.iv c0_i32_301 c1_i32_303 k0_t10
  let c64_i32 : BitVec 32 := 64#32
  let v655 : BitVec 32 := Scalar.muli arg29 c64_i32
  let v656 : BitVec 32 := v655
  let v657 : BitVec 32 := Scalar.addi c2_i32_308 v656
  let v658 : BitVec 32 := Scalar.addi v657 c0_i32_309
  let v659 : BitVec 32 := Scalar.addi v658 c0_i32_310
  let v662 : Index := Scalar.indexCast v659
  let c0_311 : Index := 0#32
  ![v661.toNat, v662.toNat, 0, 0]
def k0_mult83 (k0_t9 : Fin k0_t9_loop.trips) : BitVec 32 :=
  let c2_i32_778 : BitVec 32 := 2#32
  let c0_i32_30 : BitVec 32 := 0#32
  let c1_i32_32 : BitVec 32 := 1#32
  let arg28 : BitVec 32 := Scf.iv c0_i32_30 c1_i32_32 k0_t9
  let v2013 : BitVec 32 := Scalar.muli c2_i32_778 arg28
  let c0_i32_779 : BitVec 32 := 0#32
  let v2014 : BitVec 32 := Scalar.addi v2013 c0_i32_779
  let c128_i32_782 : BitVec 32 := 128#32
  let v2024 : BitVec 32 := Scalar.muli v2014 c128_i32_782
  v2024
def k0_off60 (k0_t9 : Fin k0_t9_loop.trips) (c0_i32_779 : BitVec 32) : Fin 2 → Nat :=
  let c0_783 : Index := 0#32
  let c2_i32_778 : BitVec 32 := 2#32
  let c0_i32_30 : BitVec 32 := 0#32
  let c1_i32_32 : BitVec 32 := 1#32
  let arg28 : BitVec 32 := Scf.iv c0_i32_30 c1_i32_32 k0_t9
  let v2013 : BitVec 32 := Scalar.muli c2_i32_778 arg28
  let v2014 : BitVec 32 := Scalar.addi v2013 c0_i32_779
  let c128_i32_782 : BitVec 32 := 128#32
  let v2024 : BitVec 32 := Scalar.muli v2014 c128_i32_782
  let v2025 : BitVec 32 := v2024
  let v2026 : Index := Scalar.indexCast v2025
  ![0, v2026.toNat]
def k0_off61 (k0_t9 : Fin k0_t9_loop.trips) (k0_t10 : Fin k0_t10_loop.trips) (c0_i32_779 : BitVec 32) (c0_i32_784 : BitVec 32) : Fin 3 → Nat :=
  let c2_i32_778 : BitVec 32 := 2#32
  let c0_i32_30 : BitVec 32 := 0#32
  let c1_i32_32 : BitVec 32 := 1#32
  let arg28 : BitVec 32 := Scf.iv c0_i32_30 c1_i32_32 k0_t9
  let v2013 : BitVec 32 := Scalar.muli c2_i32_778 arg28
  let v2014 : BitVec 32 := Scalar.addi v2013 c0_i32_779
  let v2032 : Index := Scalar.indexCast v2014
  let c0_i32_301 : BitVec 32 := 0#32
  let c1_i32_303 : BitVec 32 := 1#32
  let arg29 : BitVec 32 := Scf.iv c0_i32_301 c1_i32_303 k0_t10
  let c64_i32 : BitVec 32 := 64#32
  let v655 : BitVec 32 := Scalar.muli arg29 c64_i32
  let v656 : BitVec 32 := v655
  let v2031 : BitVec 32 := Scalar.addi v656 c0_i32_784
  let v2033 : Index := Scalar.indexCast v2031
  let c0_785 : Index := 0#32
  ![v2032.toNat, v2033.toNat, 0]
def k0_mult84 (k0_t9 : Fin k0_t9_loop.trips) : BitVec 32 :=
  let c2_i32_786 : BitVec 32 := 2#32
  let c0_i32_30 : BitVec 32 := 0#32
  let c1_i32_32 : BitVec 32 := 1#32
  let arg28 : BitVec 32 := Scf.iv c0_i32_30 c1_i32_32 k0_t9
  let v2037 : BitVec 32 := Scalar.muli c2_i32_786 arg28
  let c1_i32_787 : BitVec 32 := 1#32
  let v2038 : BitVec 32 := Scalar.addi v2037 c1_i32_787
  let c128_i32_789 : BitVec 32 := 128#32
  let v2048 : BitVec 32 := Scalar.muli v2038 c128_i32_789
  v2048
def k0_mult85 (k0_t9 : Fin k0_t9_loop.trips) : BitVec 32 :=
  let c2_i32_793 : BitVec 32 := 2#32
  let c0_i32_30 : BitVec 32 := 0#32
  let c1_i32_32 : BitVec 32 := 1#32
  let arg28 : BitVec 32 := Scf.iv c0_i32_30 c1_i32_32 k0_t9
  let v2061 : BitVec 32 := Scalar.muli c2_i32_793 arg28
  let c0_i32_794 : BitVec 32 := 0#32
  let v2062 : BitVec 32 := Scalar.addi v2061 c0_i32_794
  let c128_i32_797 : BitVec 32 := 128#32
  let v2072 : BitVec 32 := Scalar.muli v2062 c128_i32_797
  v2072
def k0_mult86 (k0_t9 : Fin k0_t9_loop.trips) : BitVec 32 :=
  let c2_i32_801 : BitVec 32 := 2#32
  let c0_i32_30 : BitVec 32 := 0#32
  let c1_i32_32 : BitVec 32 := 1#32
  let arg28 : BitVec 32 := Scf.iv c0_i32_30 c1_i32_32 k0_t9
  let v2085 : BitVec 32 := Scalar.muli c2_i32_801 arg28
  let c1_i32_802 : BitVec 32 := 1#32
  let v2086 : BitVec 32 := Scalar.addi v2085 c1_i32_802
  let c128_i32_805 : BitVec 32 := 128#32
  let v2096 : BitVec 32 := Scalar.muli v2086 c128_i32_805
  v2096
def k0_mult87 (k0_t9 : Fin k0_t9_loop.trips) : BitVec 32 :=
  let c2_i32_809 : BitVec 32 := 2#32
  let c0_i32_30 : BitVec 32 := 0#32
  let c1_i32_32 : BitVec 32 := 1#32
  let arg28 : BitVec 32 := Scf.iv c0_i32_30 c1_i32_32 k0_t9
  let v2109 : BitVec 32 := Scalar.muli c2_i32_809 arg28
  let c0_i32_810 : BitVec 32 := 0#32
  let v2110 : BitVec 32 := Scalar.addi v2109 c0_i32_810
  let c128_i32_813 : BitVec 32 := 128#32
  let v2120 : BitVec 32 := Scalar.muli v2110 c128_i32_813
  v2120
def k0_mult88 (k0_t9 : Fin k0_t9_loop.trips) : BitVec 32 :=
  let c2_i32_817 : BitVec 32 := 2#32
  let c0_i32_30 : BitVec 32 := 0#32
  let c1_i32_32 : BitVec 32 := 1#32
  let arg28 : BitVec 32 := Scf.iv c0_i32_30 c1_i32_32 k0_t9
  let v2133 : BitVec 32 := Scalar.muli c2_i32_817 arg28
  let c1_i32_818 : BitVec 32 := 1#32
  let v2134 : BitVec 32 := Scalar.addi v2133 c1_i32_818
  let c128_i32_821 : BitVec 32 := 128#32
  let v2144 : BitVec 32 := Scalar.muli v2134 c128_i32_821
  v2144
def k0_mult89 (k0_t9 : Fin k0_t9_loop.trips) : BitVec 32 :=
  let c2_i32_825 : BitVec 32 := 2#32
  let c0_i32_30 : BitVec 32 := 0#32
  let c1_i32_32 : BitVec 32 := 1#32
  let arg28 : BitVec 32 := Scf.iv c0_i32_30 c1_i32_32 k0_t9
  let v2157 : BitVec 32 := Scalar.muli c2_i32_825 arg28
  let c0_i32_826 : BitVec 32 := 0#32
  let v2158 : BitVec 32 := Scalar.addi v2157 c0_i32_826
  let c128_i32_829 : BitVec 32 := 128#32
  let v2168 : BitVec 32 := Scalar.muli v2158 c128_i32_829
  v2168
def k0_mult90 (k0_t9 : Fin k0_t9_loop.trips) : BitVec 32 :=
  let c2_i32_833 : BitVec 32 := 2#32
  let c0_i32_30 : BitVec 32 := 0#32
  let c1_i32_32 : BitVec 32 := 1#32
  let arg28 : BitVec 32 := Scf.iv c0_i32_30 c1_i32_32 k0_t9
  let v2181 : BitVec 32 := Scalar.muli c2_i32_833 arg28
  let c1_i32_834 : BitVec 32 := 1#32
  let v2182 : BitVec 32 := Scalar.addi v2181 c1_i32_834
  let c128_i32_837 : BitVec 32 := 128#32
  let v2192 : BitVec 32 := Scalar.muli v2182 c128_i32_837
  v2192
def k0_off62 (k0_t9 : Fin k0_t9_loop.trips) : Fin 3 → Nat :=
  let c0_i32_30 : BitVec 32 := 0#32
  let c1_i32_32 : BitVec 32 := 1#32
  let arg28 : BitVec 32 := Scf.iv c0_i32_30 c1_i32_32 k0_t9
  let v647 : Index := Scalar.indexCast arg28
  let c0_305 : Index := 0#32
  ![v647.toNat, 512, 0]
def k0_off63 (k0_t9 : Fin k0_t9_loop.trips) : Fin 3 → Nat :=
  let c0_i32_30 : BitVec 32 := 0#32
  let c1_i32_32 : BitVec 32 := 1#32
  let arg28 : BitVec 32 := Scf.iv c0_i32_30 c1_i32_32 k0_t9
  let v651 : Index := Scalar.indexCast arg28
  let c0_307 : Index := 0#32
  ![v651.toNat, 0, 0]
@[reducible] def k0_t11_loop : Scf.Loop 32 :=
  let c0_i32_34 : BitVec 32 := 0#32
  let c2_i32 : BitVec 32 := 2#32
  let v12 : BitVec 32 := Scalar.addi c0_i32_34 c2_i32
  let c1_i32_35 : BitVec 32 := 1#32
  ⟨c0_i32_34, v12, c1_i32_35⟩
@[reducible] def k0_t12_loop : Scf.Loop 32 :=
  let c0_i32_86 : BitVec 32 := 0#32
  let c4_i32_87 : BitVec 32 := 4#32
  let v26 : BitVec 32 := Scalar.addi c0_i32_86 c4_i32_87
  let c1_i32_88 : BitVec 32 := 1#32
  ⟨c0_i32_86, v26, c1_i32_88⟩
def k0_mult91 (k0_t12 : Fin k0_t12_loop.trips) : BitVec 32 :=
  let c0_i32_86 : BitVec 32 := 0#32
  let c1_i32_88 : BitVec 32 := 1#32
  let arg29 : BitVec 32 := Scf.iv c0_i32_86 c1_i32_88 k0_t12
  let c64_i32 : BitVec 32 := 64#32
  let v59 : BitVec 32 := Scalar.muli arg29 c64_i32
  v59
def k0_off64 (k0_t11 : Fin k0_t11_loop.trips) (k0_t12 : Fin k0_t12_loop.trips) (c0_i32_98 : BitVec 32) (c0_i32_99 : BitVec 32) : Fin 3 → Nat :=
  let c0_i32_85 : BitVec 32 := 0#32
  let c0_i32_34 : BitVec 32 := 0#32
  let c1_i32_35 : BitVec 32 := 1#32
  let arg28 : BitVec 32 := Scf.iv c0_i32_34 c1_i32_35 k0_t11
  let v25 : BitVec 32 := Scalar.addi c0_i32_85 arg28
  let v64 : Index := Scalar.indexCast v25
  let c16_i32 : BitVec 32 := 16#32
  let c0_i32_86 : BitVec 32 := 0#32
  let c1_i32_88 : BitVec 32 := 1#32
  let arg29 : BitVec 32 := Scf.iv c0_i32_86 c1_i32_88 k0_t12
  let c64_i32 : BitVec 32 := 64#32
  let v59 : BitVec 32 := Scalar.muli arg29 c64_i32
  let v60 : BitVec 32 := v59
  let v61 : BitVec 32 := Scalar.addi c16_i32 v60
  let v62 : BitVec 32 := Scalar.addi v61 c0_i32_98
  let v63 : BitVec 32 := Scalar.subi v62 c0_i32_99
  let v65 : Index := Scalar.indexCast v63
  let c0_100 : Index := 0#32
  ![v64.toNat, v65.toNat, 0]
def k0_off65 (k0_t11 : Fin k0_t11_loop.trips) (k0_t12 : Fin k0_t12_loop.trips) (c0_i32_105 : BitVec 32) : Fin 3 → Nat :=
  let c0_i32_85 : BitVec 32 := 0#32
  let c0_i32_34 : BitVec 32 := 0#32
  let c1_i32_35 : BitVec 32 := 1#32
  let arg28 : BitVec 32 := Scf.iv c0_i32_34 c1_i32_35 k0_t11
  let v25 : BitVec 32 := Scalar.addi c0_i32_85 arg28
  let v77 : Index := Scalar.indexCast v25
  let c0_i32_86 : BitVec 32 := 0#32
  let c1_i32_88 : BitVec 32 := 1#32
  let arg29 : BitVec 32 := Scf.iv c0_i32_86 c1_i32_88 k0_t12
  let c64_i32 : BitVec 32 := 64#32
  let v59 : BitVec 32 := Scalar.muli arg29 c64_i32
  let v60 : BitVec 32 := v59
  let v76 : BitVec 32 := Scalar.addi v60 c0_i32_105
  let v78 : Index := Scalar.indexCast v76
  let c0_106 : Index := 0#32
  ![v77.toNat, v78.toNat, 0]
def k0_off66 (k0_t11 : Fin k0_t11_loop.trips) : Fin 3 → Nat :=
  let c0_i32_85 : BitVec 32 := 0#32
  let c0_i32_34 : BitVec 32 := 0#32
  let c1_i32_35 : BitVec 32 := 1#32
  let arg28 : BitVec 32 := Scf.iv c0_i32_34 c1_i32_35 k0_t11
  let v25 : BitVec 32 := Scalar.addi c0_i32_85 arg28
  let v37 : Index := Scalar.indexCast v25
  let c0 : Index := 0#32
  let c0_92 : Index := 0#32
  ![v37.toNat, 0, 0]
def k0_off67 (k0_t11 : Fin k0_t11_loop.trips) : Fin 3 → Nat :=
  let c0_i32_85 : BitVec 32 := 0#32
  let c0_i32_34 : BitVec 32 := 0#32
  let c1_i32_35 : BitVec 32 := 1#32
  let arg28 : BitVec 32 := Scf.iv c0_i32_34 c1_i32_35 k0_t11
  let v25 : BitVec 32 := Scalar.addi c0_i32_85 arg28
  let v41 : Index := Scalar.indexCast v25
  let c16 : Index := 16#32
  let c0_93 : Index := 0#32
  ![v41.toNat, 16, 0]
def k0_mult92 (k0_t11 : Fin k0_t11_loop.trips) : BitVec 32 :=
  let c0_i32_85 : BitVec 32 := 0#32
  let c0_i32_34 : BitVec 32 := 0#32
  let c1_i32_35 : BitVec 32 := 1#32
  let arg28 : BitVec 32 := Scf.iv c0_i32_34 c1_i32_35 k0_t11
  let v25 : BitVec 32 := Scalar.addi c0_i32_85 arg28
  let c128_i32 : BitVec 32 := 128#32
  let v46 : BitVec 32 := Scalar.muli v25 c128_i32
  v46
def k0_off68 (k0_t11 : Fin k0_t11_loop.trips) : Fin 2 → Nat :=
  let c0_94 : Index := 0#32
  let c0_i32_85 : BitVec 32 := 0#32
  let c0_i32_34 : BitVec 32 := 0#32
  let c1_i32_35 : BitVec 32 := 1#32
  let arg28 : BitVec 32 := Scf.iv c0_i32_34 c1_i32_35 k0_t11
  let v25 : BitVec 32 := Scalar.addi c0_i32_85 arg28
  let c128_i32 : BitVec 32 := 128#32
  let v46 : BitVec 32 := Scalar.muli v25 c128_i32
  let v47 : BitVec 32 := v46
  let v48 : Index := Scalar.indexCast v47
  ![0, v48.toNat]
def k0_off69 (k0_t11 : Fin k0_t11_loop.trips) : Fin 3 → Nat :=
  let c0_i32_85 : BitVec 32 := 0#32
  let c0_i32_34 : BitVec 32 := 0#32
  let c1_i32_35 : BitVec 32 := 1#32
  let arg28 : BitVec 32 := Scf.iv c0_i32_34 c1_i32_35 k0_t11
  let v25 : BitVec 32 := Scalar.addi c0_i32_85 arg28
  let v52 : Index := Scalar.indexCast v25
  let c256 : Index := 256#32
  let c0_95 : Index := 0#32
  ![v52.toNat, 256, 0]
def k0_off70 (k0_t11 : Fin k0_t11_loop.trips) : Fin 3 → Nat :=
  let c0_i32_85 : BitVec 32 := 0#32
  let c0_i32_34 : BitVec 32 := 0#32
  let c1_i32_35 : BitVec 32 := 1#32
  let arg28 : BitVec 32 := Scf.iv c0_i32_34 c1_i32_35 k0_t11
  let v25 : BitVec 32 := Scalar.addi c0_i32_85 arg28
  let v55 : Index := Scalar.indexCast v25
  let c0_96 : Index := 0#32
  let c0_97 : Index := 0#32
  ![v55.toNat, 0, 0]
@[reducible] def k0_t13_loop : Scf.Loop 32 :=
  let c0_i32_37 : BitVec 32 := 0#32
  let c2_i32_38 : BitVec 32 := 2#32
  let v13 : BitVec 32 := Scalar.addi c0_i32_37 c2_i32_38
  let c1_i32_39 : BitVec 32 := 1#32
  ⟨c0_i32_37, v13, c1_i32_39⟩
@[reducible] def k0_t14_loop : Scf.Loop 32 :=
  let c0_i32_86 : BitVec 32 := 0#32
  let c4_i32_87 : BitVec 32 := 4#32
  let v26 : BitVec 32 := Scalar.addi c0_i32_86 c4_i32_87
  let c1_i32_88 : BitVec 32 := 1#32
  ⟨c0_i32_86, v26, c1_i32_88⟩
def k0_mult93 (k0_t14 : Fin k0_t14_loop.trips) : BitVec 32 :=
  let c0_i32_86 : BitVec 32 := 0#32
  let c1_i32_88 : BitVec 32 := 1#32
  let arg29 : BitVec 32 := Scf.iv c0_i32_86 c1_i32_88 k0_t14
  let c64_i32 : BitVec 32 := 64#32
  let v59 : BitVec 32 := Scalar.muli arg29 c64_i32
  v59
def k0_off71 (k0_t13 : Fin k0_t13_loop.trips) (k0_t14 : Fin k0_t14_loop.trips) (c0_i32_98 : BitVec 32) (c0_i32_99 : BitVec 32) : Fin 3 → Nat :=
  let c2_i32_85 : BitVec 32 := 2#32
  let c0_i32_37 : BitVec 32 := 0#32
  let c1_i32_39 : BitVec 32 := 1#32
  let arg28 : BitVec 32 := Scf.iv c0_i32_37 c1_i32_39 k0_t13
  let v25 : BitVec 32 := Scalar.addi c2_i32_85 arg28
  let v64 : Index := Scalar.indexCast v25
  let c16_i32 : BitVec 32 := 16#32
  let c0_i32_86 : BitVec 32 := 0#32
  let c1_i32_88 : BitVec 32 := 1#32
  let arg29 : BitVec 32 := Scf.iv c0_i32_86 c1_i32_88 k0_t14
  let c64_i32 : BitVec 32 := 64#32
  let v59 : BitVec 32 := Scalar.muli arg29 c64_i32
  let v60 : BitVec 32 := v59
  let v61 : BitVec 32 := Scalar.addi c16_i32 v60
  let v62 : BitVec 32 := Scalar.addi v61 c0_i32_98
  let v63 : BitVec 32 := Scalar.subi v62 c0_i32_99
  let v65 : Index := Scalar.indexCast v63
  let c0_100 : Index := 0#32
  ![v64.toNat, v65.toNat, 0]
def k0_off72 (k0_t13 : Fin k0_t13_loop.trips) (k0_t14 : Fin k0_t14_loop.trips) (c0_i32_112 : BitVec 32) : Fin 3 → Nat :=
  let c2_i32_85 : BitVec 32 := 2#32
  let c0_i32_37 : BitVec 32 := 0#32
  let c1_i32_39 : BitVec 32 := 1#32
  let arg28 : BitVec 32 := Scf.iv c0_i32_37 c1_i32_39 k0_t13
  let v25 : BitVec 32 := Scalar.addi c2_i32_85 arg28
  let v93 : Index := Scalar.indexCast v25
  let c0_i32_86 : BitVec 32 := 0#32
  let c1_i32_88 : BitVec 32 := 1#32
  let arg29 : BitVec 32 := Scf.iv c0_i32_86 c1_i32_88 k0_t14
  let c64_i32 : BitVec 32 := 64#32
  let v59 : BitVec 32 := Scalar.muli arg29 c64_i32
  let v60 : BitVec 32 := v59
  let v92 : BitVec 32 := Scalar.addi v60 c0_i32_112
  let v94 : Index := Scalar.indexCast v92
  let c0_113 : Index := 0#32
  ![v93.toNat, v94.toNat, 0]
def k0_off73 (k0_t13 : Fin k0_t13_loop.trips) : Fin 3 → Nat :=
  let c2_i32_85 : BitVec 32 := 2#32
  let c0_i32_37 : BitVec 32 := 0#32
  let c1_i32_39 : BitVec 32 := 1#32
  let arg28 : BitVec 32 := Scf.iv c0_i32_37 c1_i32_39 k0_t13
  let v25 : BitVec 32 := Scalar.addi c2_i32_85 arg28
  let v37 : Index := Scalar.indexCast v25
  let c0 : Index := 0#32
  let c0_92 : Index := 0#32
  ![v37.toNat, 0, 0]
def k0_off74 (k0_t13 : Fin k0_t13_loop.trips) : Fin 3 → Nat :=
  let c2_i32_85 : BitVec 32 := 2#32
  let c0_i32_37 : BitVec 32 := 0#32
  let c1_i32_39 : BitVec 32 := 1#32
  let arg28 : BitVec 32 := Scf.iv c0_i32_37 c1_i32_39 k0_t13
  let v25 : BitVec 32 := Scalar.addi c2_i32_85 arg28
  let v41 : Index := Scalar.indexCast v25
  let c16 : Index := 16#32
  let c0_93 : Index := 0#32
  ![v41.toNat, 16, 0]
def k0_mult94 (k0_t13 : Fin k0_t13_loop.trips) : BitVec 32 :=
  let c2_i32_85 : BitVec 32 := 2#32
  let c0_i32_37 : BitVec 32 := 0#32
  let c1_i32_39 : BitVec 32 := 1#32
  let arg28 : BitVec 32 := Scf.iv c0_i32_37 c1_i32_39 k0_t13
  let v25 : BitVec 32 := Scalar.addi c2_i32_85 arg28
  let c128_i32 : BitVec 32 := 128#32
  let v46 : BitVec 32 := Scalar.muli v25 c128_i32
  v46
def k0_off75 (k0_t13 : Fin k0_t13_loop.trips) : Fin 2 → Nat :=
  let c0_94 : Index := 0#32
  let c2_i32_85 : BitVec 32 := 2#32
  let c0_i32_37 : BitVec 32 := 0#32
  let c1_i32_39 : BitVec 32 := 1#32
  let arg28 : BitVec 32 := Scf.iv c0_i32_37 c1_i32_39 k0_t13
  let v25 : BitVec 32 := Scalar.addi c2_i32_85 arg28
  let c128_i32 : BitVec 32 := 128#32
  let v46 : BitVec 32 := Scalar.muli v25 c128_i32
  let v47 : BitVec 32 := v46
  let v48 : Index := Scalar.indexCast v47
  ![0, v48.toNat]
def k0_off76 (k0_t13 : Fin k0_t13_loop.trips) : Fin 3 → Nat :=
  let c2_i32_85 : BitVec 32 := 2#32
  let c0_i32_37 : BitVec 32 := 0#32
  let c1_i32_39 : BitVec 32 := 1#32
  let arg28 : BitVec 32 := Scf.iv c0_i32_37 c1_i32_39 k0_t13
  let v25 : BitVec 32 := Scalar.addi c2_i32_85 arg28
  let v52 : Index := Scalar.indexCast v25
  let c256 : Index := 256#32
  let c0_95 : Index := 0#32
  ![v52.toNat, 256, 0]
def k0_off77 (k0_t13 : Fin k0_t13_loop.trips) : Fin 3 → Nat :=
  let c2_i32_85 : BitVec 32 := 2#32
  let c0_i32_37 : BitVec 32 := 0#32
  let c1_i32_39 : BitVec 32 := 1#32
  let arg28 : BitVec 32 := Scf.iv c0_i32_37 c1_i32_39 k0_t13
  let v25 : BitVec 32 := Scalar.addi c2_i32_85 arg28
  let v55 : Index := Scalar.indexCast v25
  let c0_96 : Index := 0#32
  let c0_97 : Index := 0#32
  ![v55.toNat, 0, 0]
@[reducible] def k0_t15_loop : Scf.Loop 32 :=
  let c0_i32_41 : BitVec 32 := 0#32
  let c2_i32_42 : BitVec 32 := 2#32
  let v14 : BitVec 32 := Scalar.addi c0_i32_41 c2_i32_42
  let c1_i32_43 : BitVec 32 := 1#32
  ⟨c0_i32_41, v14, c1_i32_43⟩
@[reducible] def k0_t16_loop : Scf.Loop 32 :=
  let c0_i32_86 : BitVec 32 := 0#32
  let c4_i32_87 : BitVec 32 := 4#32
  let v26 : BitVec 32 := Scalar.addi c0_i32_86 c4_i32_87
  let c1_i32_88 : BitVec 32 := 1#32
  ⟨c0_i32_86, v26, c1_i32_88⟩
def k0_mult95 (k0_t16 : Fin k0_t16_loop.trips) : BitVec 32 :=
  let c0_i32_86 : BitVec 32 := 0#32
  let c1_i32_88 : BitVec 32 := 1#32
  let arg29 : BitVec 32 := Scf.iv c0_i32_86 c1_i32_88 k0_t16
  let c64_i32 : BitVec 32 := 64#32
  let v59 : BitVec 32 := Scalar.muli arg29 c64_i32
  v59
def k0_off78 (k0_t15 : Fin k0_t15_loop.trips) (k0_t16 : Fin k0_t16_loop.trips) (c0_i32_98 : BitVec 32) (c0_i32_99 : BitVec 32) : Fin 3 → Nat :=
  let c4_i32_85 : BitVec 32 := 4#32
  let c0_i32_41 : BitVec 32 := 0#32
  let c1_i32_43 : BitVec 32 := 1#32
  let arg28 : BitVec 32 := Scf.iv c0_i32_41 c1_i32_43 k0_t15
  let v25 : BitVec 32 := Scalar.addi c4_i32_85 arg28
  let v64 : Index := Scalar.indexCast v25
  let c16_i32 : BitVec 32 := 16#32
  let c0_i32_86 : BitVec 32 := 0#32
  let c1_i32_88 : BitVec 32 := 1#32
  let arg29 : BitVec 32 := Scf.iv c0_i32_86 c1_i32_88 k0_t16
  let c64_i32 : BitVec 32 := 64#32
  let v59 : BitVec 32 := Scalar.muli arg29 c64_i32
  let v60 : BitVec 32 := v59
  let v61 : BitVec 32 := Scalar.addi c16_i32 v60
  let v62 : BitVec 32 := Scalar.addi v61 c0_i32_98
  let v63 : BitVec 32 := Scalar.subi v62 c0_i32_99
  let v65 : Index := Scalar.indexCast v63
  let c0_100 : Index := 0#32
  ![v64.toNat, v65.toNat, 0]
def k0_off79 (k0_t15 : Fin k0_t15_loop.trips) (k0_t16 : Fin k0_t16_loop.trips) (c0_i32_125 : BitVec 32) : Fin 3 → Nat :=
  let c4_i32_85 : BitVec 32 := 4#32
  let c0_i32_41 : BitVec 32 := 0#32
  let c1_i32_43 : BitVec 32 := 1#32
  let arg28 : BitVec 32 := Scf.iv c0_i32_41 c1_i32_43 k0_t15
  let v25 : BitVec 32 := Scalar.addi c4_i32_85 arg28
  let v125 : Index := Scalar.indexCast v25
  let c0_i32_86 : BitVec 32 := 0#32
  let c1_i32_88 : BitVec 32 := 1#32
  let arg29 : BitVec 32 := Scf.iv c0_i32_86 c1_i32_88 k0_t16
  let c64_i32 : BitVec 32 := 64#32
  let v59 : BitVec 32 := Scalar.muli arg29 c64_i32
  let v60 : BitVec 32 := v59
  let v124 : BitVec 32 := Scalar.addi v60 c0_i32_125
  let v126 : Index := Scalar.indexCast v124
  let c0_126 : Index := 0#32
  ![v125.toNat, v126.toNat, 0]
def k0_off80 (k0_t15 : Fin k0_t15_loop.trips) : Fin 3 → Nat :=
  let c4_i32_85 : BitVec 32 := 4#32
  let c0_i32_41 : BitVec 32 := 0#32
  let c1_i32_43 : BitVec 32 := 1#32
  let arg28 : BitVec 32 := Scf.iv c0_i32_41 c1_i32_43 k0_t15
  let v25 : BitVec 32 := Scalar.addi c4_i32_85 arg28
  let v37 : Index := Scalar.indexCast v25
  let c0 : Index := 0#32
  let c0_92 : Index := 0#32
  ![v37.toNat, 0, 0]
def k0_off81 (k0_t15 : Fin k0_t15_loop.trips) : Fin 3 → Nat :=
  let c4_i32_85 : BitVec 32 := 4#32
  let c0_i32_41 : BitVec 32 := 0#32
  let c1_i32_43 : BitVec 32 := 1#32
  let arg28 : BitVec 32 := Scf.iv c0_i32_41 c1_i32_43 k0_t15
  let v25 : BitVec 32 := Scalar.addi c4_i32_85 arg28
  let v41 : Index := Scalar.indexCast v25
  let c16 : Index := 16#32
  let c0_93 : Index := 0#32
  ![v41.toNat, 16, 0]
def k0_mult96 (k0_t15 : Fin k0_t15_loop.trips) : BitVec 32 :=
  let c4_i32_85 : BitVec 32 := 4#32
  let c0_i32_41 : BitVec 32 := 0#32
  let c1_i32_43 : BitVec 32 := 1#32
  let arg28 : BitVec 32 := Scf.iv c0_i32_41 c1_i32_43 k0_t15
  let v25 : BitVec 32 := Scalar.addi c4_i32_85 arg28
  let c128_i32 : BitVec 32 := 128#32
  let v46 : BitVec 32 := Scalar.muli v25 c128_i32
  v46
def k0_off82 (k0_t15 : Fin k0_t15_loop.trips) : Fin 2 → Nat :=
  let c0_94 : Index := 0#32
  let c4_i32_85 : BitVec 32 := 4#32
  let c0_i32_41 : BitVec 32 := 0#32
  let c1_i32_43 : BitVec 32 := 1#32
  let arg28 : BitVec 32 := Scf.iv c0_i32_41 c1_i32_43 k0_t15
  let v25 : BitVec 32 := Scalar.addi c4_i32_85 arg28
  let c128_i32 : BitVec 32 := 128#32
  let v46 : BitVec 32 := Scalar.muli v25 c128_i32
  let v47 : BitVec 32 := v46
  let v48 : Index := Scalar.indexCast v47
  ![0, v48.toNat]
def k0_off83 (k0_t15 : Fin k0_t15_loop.trips) : Fin 3 → Nat :=
  let c4_i32_85 : BitVec 32 := 4#32
  let c0_i32_41 : BitVec 32 := 0#32
  let c1_i32_43 : BitVec 32 := 1#32
  let arg28 : BitVec 32 := Scf.iv c0_i32_41 c1_i32_43 k0_t15
  let v25 : BitVec 32 := Scalar.addi c4_i32_85 arg28
  let v52 : Index := Scalar.indexCast v25
  let c256 : Index := 256#32
  let c0_95 : Index := 0#32
  ![v52.toNat, 256, 0]
def k0_off84 (k0_t15 : Fin k0_t15_loop.trips) : Fin 3 → Nat :=
  let c4_i32_85 : BitVec 32 := 4#32
  let c0_i32_41 : BitVec 32 := 0#32
  let c1_i32_43 : BitVec 32 := 1#32
  let arg28 : BitVec 32 := Scf.iv c0_i32_41 c1_i32_43 k0_t15
  let v25 : BitVec 32 := Scalar.addi c4_i32_85 arg28
  let v55 : Index := Scalar.indexCast v25
  let c0_96 : Index := 0#32
  let c0_97 : Index := 0#32
  ![v55.toNat, 0, 0]
@[reducible] def k0_t17_loop : Scf.Loop 32 :=
  let c0_i32_45 : BitVec 32 := 0#32
  let c2_i32_46 : BitVec 32 := 2#32
  let v15 : BitVec 32 := Scalar.addi c0_i32_45 c2_i32_46
  let c1_i32_47 : BitVec 32 := 1#32
  ⟨c0_i32_45, v15, c1_i32_47⟩
@[reducible] def k0_t18_loop : Scf.Loop 32 :=
  let c0_i32_85 : BitVec 32 := 0#32
  let c4_i32_86 : BitVec 32 := 4#32
  let v26 : BitVec 32 := Scalar.addi c0_i32_85 c4_i32_86
  let c1_i32_87 : BitVec 32 := 1#32
  ⟨c0_i32_85, v26, c1_i32_87⟩
def k0_mult97 (k0_t18 : Fin k0_t18_loop.trips) : BitVec 32 :=
  let c0_i32_85 : BitVec 32 := 0#32
  let c1_i32_87 : BitVec 32 := 1#32
  let arg29 : BitVec 32 := Scf.iv c0_i32_85 c1_i32_87 k0_t18
  let c64_i32 : BitVec 32 := 64#32
  let v59 : BitVec 32 := Scalar.muli arg29 c64_i32
  v59
def k0_off85 (k0_t17 : Fin k0_t17_loop.trips) (k0_t18 : Fin k0_t18_loop.trips) (c0_i32_97 : BitVec 32) (c0_i32_98 : BitVec 32) : Fin 3 → Nat :=
  let c6_i32 : BitVec 32 := 6#32
  let c0_i32_45 : BitVec 32 := 0#32
  let c1_i32_47 : BitVec 32 := 1#32
  let arg28 : BitVec 32 := Scf.iv c0_i32_45 c1_i32_47 k0_t17
  let v25 : BitVec 32 := Scalar.addi c6_i32 arg28
  let v64 : Index := Scalar.indexCast v25
  let c16_i32_96 : BitVec 32 := 16#32
  let c0_i32_85 : BitVec 32 := 0#32
  let c1_i32_87 : BitVec 32 := 1#32
  let arg29 : BitVec 32 := Scf.iv c0_i32_85 c1_i32_87 k0_t18
  let c64_i32 : BitVec 32 := 64#32
  let v59 : BitVec 32 := Scalar.muli arg29 c64_i32
  let v60 : BitVec 32 := v59
  let v61 : BitVec 32 := Scalar.addi c16_i32_96 v60
  let v62 : BitVec 32 := Scalar.addi v61 c0_i32_97
  let v63 : BitVec 32 := Scalar.subi v62 c0_i32_98
  let v65 : Index := Scalar.indexCast v63
  let c0_99 : Index := 0#32
  ![v64.toNat, v65.toNat, 0]
def k0_off86 (k0_t17 : Fin k0_t17_loop.trips) (k0_t18 : Fin k0_t18_loop.trips) (c0_i32_150 : BitVec 32) : Fin 3 → Nat :=
  let c6_i32 : BitVec 32 := 6#32
  let c0_i32_45 : BitVec 32 := 0#32
  let c1_i32_47 : BitVec 32 := 1#32
  let arg28 : BitVec 32 := Scf.iv c0_i32_45 c1_i32_47 k0_t17
  let v25 : BitVec 32 := Scalar.addi c6_i32 arg28
  let v189 : Index := Scalar.indexCast v25
  let c0_i32_85 : BitVec 32 := 0#32
  let c1_i32_87 : BitVec 32 := 1#32
  let arg29 : BitVec 32 := Scf.iv c0_i32_85 c1_i32_87 k0_t18
  let c64_i32 : BitVec 32 := 64#32
  let v59 : BitVec 32 := Scalar.muli arg29 c64_i32
  let v60 : BitVec 32 := v59
  let v188 : BitVec 32 := Scalar.addi v60 c0_i32_150
  let v190 : Index := Scalar.indexCast v188
  let c0_151 : Index := 0#32
  ![v189.toNat, v190.toNat, 0]
def k0_off87 (k0_t17 : Fin k0_t17_loop.trips) : Fin 3 → Nat :=
  let c6_i32 : BitVec 32 := 6#32
  let c0_i32_45 : BitVec 32 := 0#32
  let c1_i32_47 : BitVec 32 := 1#32
  let arg28 : BitVec 32 := Scf.iv c0_i32_45 c1_i32_47 k0_t17
  let v25 : BitVec 32 := Scalar.addi c6_i32 arg28
  let v37 : Index := Scalar.indexCast v25
  let c0 : Index := 0#32
  let c0_90 : Index := 0#32
  ![v37.toNat, 0, 0]
def k0_off88 (k0_t17 : Fin k0_t17_loop.trips) : Fin 3 → Nat :=
  let c6_i32 : BitVec 32 := 6#32
  let c0_i32_45 : BitVec 32 := 0#32
  let c1_i32_47 : BitVec 32 := 1#32
  let arg28 : BitVec 32 := Scf.iv c0_i32_45 c1_i32_47 k0_t17
  let v25 : BitVec 32 := Scalar.addi c6_i32 arg28
  let v41 : Index := Scalar.indexCast v25
  let c16 : Index := 16#32
  let c0_91 : Index := 0#32
  ![v41.toNat, 16, 0]
def k0_mult98 (k0_t17 : Fin k0_t17_loop.trips) : BitVec 32 :=
  let c6_i32 : BitVec 32 := 6#32
  let c0_i32_45 : BitVec 32 := 0#32
  let c1_i32_47 : BitVec 32 := 1#32
  let arg28 : BitVec 32 := Scf.iv c0_i32_45 c1_i32_47 k0_t17
  let v25 : BitVec 32 := Scalar.addi c6_i32 arg28
  let c128_i32 : BitVec 32 := 128#32
  let v46 : BitVec 32 := Scalar.muli v25 c128_i32
  v46
def k0_off89 (k0_t17 : Fin k0_t17_loop.trips) : Fin 2 → Nat :=
  let c0_92 : Index := 0#32
  let c6_i32 : BitVec 32 := 6#32
  let c0_i32_45 : BitVec 32 := 0#32
  let c1_i32_47 : BitVec 32 := 1#32
  let arg28 : BitVec 32 := Scf.iv c0_i32_45 c1_i32_47 k0_t17
  let v25 : BitVec 32 := Scalar.addi c6_i32 arg28
  let c128_i32 : BitVec 32 := 128#32
  let v46 : BitVec 32 := Scalar.muli v25 c128_i32
  let v47 : BitVec 32 := v46
  let v48 : Index := Scalar.indexCast v47
  ![0, v48.toNat]
def k0_off90 (k0_t17 : Fin k0_t17_loop.trips) : Fin 3 → Nat :=
  let c6_i32 : BitVec 32 := 6#32
  let c0_i32_45 : BitVec 32 := 0#32
  let c1_i32_47 : BitVec 32 := 1#32
  let arg28 : BitVec 32 := Scf.iv c0_i32_45 c1_i32_47 k0_t17
  let v25 : BitVec 32 := Scalar.addi c6_i32 arg28
  let v52 : Index := Scalar.indexCast v25
  let c256 : Index := 256#32
  let c0_93 : Index := 0#32
  ![v52.toNat, 256, 0]
def k0_off91 (k0_t17 : Fin k0_t17_loop.trips) : Fin 3 → Nat :=
  let c6_i32 : BitVec 32 := 6#32
  let c0_i32_45 : BitVec 32 := 0#32
  let c1_i32_47 : BitVec 32 := 1#32
  let arg28 : BitVec 32 := Scf.iv c0_i32_45 c1_i32_47 k0_t17
  let v25 : BitVec 32 := Scalar.addi c6_i32 arg28
  let v55 : Index := Scalar.indexCast v25
  let c0_94 : Index := 0#32
  let c0_95 : Index := 0#32
  ![v55.toNat, 0, 0]
@[reducible] def k0_t19_loop : Scf.Loop 32 :=
  let c0_i32_49 : BitVec 32 := 0#32
  let c8_i32_50 : BitVec 32 := 8#32
  let v16 : BitVec 32 := Scalar.addi c0_i32_49 c8_i32_50
  let c1_i32_51 : BitVec 32 := 1#32
  ⟨c0_i32_49, v16, c1_i32_51⟩
def k0_mult99 (k0_t19 : Fin k0_t19_loop.trips) : BitVec 32 :=
  let c0_i32_49 : BitVec 32 := 0#32
  let c1_i32_51 : BitVec 32 := 1#32
  let arg28 : BitVec 32 := Scf.iv c0_i32_49 c1_i32_51 k0_t19
  let c32_i32 : BitVec 32 := 32#32
  let v25 : BitVec 32 := Scalar.muli arg28 c32_i32
  v25
def k0_off92 (k0_t19 : Fin k0_t19_loop.trips) : Fin 3 → Nat :=
  let c0 : Index := 0#32
  let c0_i32_49 : BitVec 32 := 0#32
  let c1_i32_51 : BitVec 32 := 1#32
  let arg28 : BitVec 32 := Scf.iv c0_i32_49 c1_i32_51 k0_t19
  let c32_i32 : BitVec 32 := 32#32
  let v25 : BitVec 32 := Scalar.muli arg28 c32_i32
  let v26 : BitVec 32 := v25
  let v27 : Index := Scalar.indexCast v26
  let c0_85 : Index := 0#32
  ![0, v27.toNat, 0]
def k0_off93 (k0_t19 : Fin k0_t19_loop.trips) : Fin 3 → Nat :=
  let c1 : Index := 1#32
  let c0_i32_49 : BitVec 32 := 0#32
  let c1_i32_51 : BitVec 32 := 1#32
  let arg28 : BitVec 32 := Scf.iv c0_i32_49 c1_i32_51 k0_t19
  let c32_i32 : BitVec 32 := 32#32
  let v25 : BitVec 32 := Scalar.muli arg28 c32_i32
  let v26 : BitVec 32 := v25
  let v30 : Index := Scalar.indexCast v26
  let c0_86 : Index := 0#32
  ![1, v30.toNat, 0]
def k0_off94 (k0_t19 : Fin k0_t19_loop.trips) : Fin 3 → Nat :=
  let c2 : Index := 2#32
  let c0_i32_49 : BitVec 32 := 0#32
  let c1_i32_51 : BitVec 32 := 1#32
  let arg28 : BitVec 32 := Scf.iv c0_i32_49 c1_i32_51 k0_t19
  let c32_i32 : BitVec 32 := 32#32
  let v25 : BitVec 32 := Scalar.muli arg28 c32_i32
  let v26 : BitVec 32 := v25
  let v33 : Index := Scalar.indexCast v26
  let c0_87 : Index := 0#32
  ![2, v33.toNat, 0]
def k0_off95 (k0_t19 : Fin k0_t19_loop.trips) : Fin 3 → Nat :=
  let c3 : Index := 3#32
  let c0_i32_49 : BitVec 32 := 0#32
  let c1_i32_51 : BitVec 32 := 1#32
  let arg28 : BitVec 32 := Scf.iv c0_i32_49 c1_i32_51 k0_t19
  let c32_i32 : BitVec 32 := 32#32
  let v25 : BitVec 32 := Scalar.muli arg28 c32_i32
  let v26 : BitVec 32 := v25
  let v36 : Index := Scalar.indexCast v26
  let c0_88 : Index := 0#32
  ![3, v36.toNat, 0]
def k0_off96 (k0_t19 : Fin k0_t19_loop.trips) : Fin 3 → Nat :=
  let c4 : Index := 4#32
  let c0_i32_49 : BitVec 32 := 0#32
  let c1_i32_51 : BitVec 32 := 1#32
  let arg28 : BitVec 32 := Scf.iv c0_i32_49 c1_i32_51 k0_t19
  let c32_i32 : BitVec 32 := 32#32
  let v25 : BitVec 32 := Scalar.muli arg28 c32_i32
  let v26 : BitVec 32 := v25
  let v39 : Index := Scalar.indexCast v26
  let c0_89 : Index := 0#32
  ![4, v39.toNat, 0]
def k0_off97 (k0_t19 : Fin k0_t19_loop.trips) : Fin 3 → Nat :=
  let c5 : Index := 5#32
  let c0_i32_49 : BitVec 32 := 0#32
  let c1_i32_51 : BitVec 32 := 1#32
  let arg28 : BitVec 32 := Scf.iv c0_i32_49 c1_i32_51 k0_t19
  let c32_i32 : BitVec 32 := 32#32
  let v25 : BitVec 32 := Scalar.muli arg28 c32_i32
  let v26 : BitVec 32 := v25
  let v42 : Index := Scalar.indexCast v26
  let c0_90 : Index := 0#32
  ![5, v42.toNat, 0]
def k0_off98 (k0_t19 : Fin k0_t19_loop.trips) : Fin 3 → Nat :=
  let c6 : Index := 6#32
  let c0_i32_49 : BitVec 32 := 0#32
  let c1_i32_51 : BitVec 32 := 1#32
  let arg28 : BitVec 32 := Scf.iv c0_i32_49 c1_i32_51 k0_t19
  let c32_i32 : BitVec 32 := 32#32
  let v25 : BitVec 32 := Scalar.muli arg28 c32_i32
  let v26 : BitVec 32 := v25
  let v45 : Index := Scalar.indexCast v26
  let c0_91 : Index := 0#32
  ![6, v45.toNat, 0]
def k0_off99 (k0_t19 : Fin k0_t19_loop.trips) : Fin 3 → Nat :=
  let c7 : Index := 7#32
  let c0_i32_49 : BitVec 32 := 0#32
  let c1_i32_51 : BitVec 32 := 1#32
  let arg28 : BitVec 32 := Scf.iv c0_i32_49 c1_i32_51 k0_t19
  let c32_i32 : BitVec 32 := 32#32
  let v25 : BitVec 32 := Scalar.muli arg28 c32_i32
  let v26 : BitVec 32 := v25
  let v48 : Index := Scalar.indexCast v26
  let c0_92 : Index := 0#32
  ![7, v48.toNat, 0]
def k0_off100 (k0_t19 : Fin k0_t19_loop.trips) : Fin 3 → Nat :=
  let c2_104 : Index := 2#32
  let c0_i32_49 : BitVec 32 := 0#32
  let c1_i32_51 : BitVec 32 := 1#32
  let arg28 : BitVec 32 := Scf.iv c0_i32_49 c1_i32_51 k0_t19
  let c32_i32 : BitVec 32 := 32#32
  let v25 : BitVec 32 := Scalar.muli arg28 c32_i32
  let v26 : BitVec 32 := v25
  let v84 : Index := Scalar.indexCast v26
  let c0_105 : Index := 0#32
  ![2, v84.toNat, 0]
def k0_off101 (k0_t19 : Fin k0_t19_loop.trips) : Fin 3 → Nat :=
  let c0_109 : Index := 0#32
  let c0_i32_49 : BitVec 32 := 0#32
  let c1_i32_51 : BitVec 32 := 1#32
  let arg28 : BitVec 32 := Scf.iv c0_i32_49 c1_i32_51 k0_t19
  let c32_i32 : BitVec 32 := 32#32
  let v25 : BitVec 32 := Scalar.muli arg28 c32_i32
  let v26 : BitVec 32 := v25
  let v97 : Index := Scalar.indexCast v26
  let c0_110 : Index := 0#32
  ![0, v97.toNat, 0]
@[reducible] def k0_t20_loop : Scf.Loop 32 :=
  let c0_i32_53 : BitVec 32 := 0#32
  let c4_i32_54 : BitVec 32 := 4#32
  let v17 : BitVec 32 := Scalar.addi c0_i32_53 c4_i32_54
  let c1_i32_55 : BitVec 32 := 1#32
  ⟨c0_i32_53, v17, c1_i32_55⟩
def k0_mult100 (k0_t20 : Fin k0_t20_loop.trips) : BitVec 32 :=
  let c0_i32_53 : BitVec 32 := 0#32
  let c1_i32_55 : BitVec 32 := 1#32
  let arg28 : BitVec 32 := Scf.iv c0_i32_53 c1_i32_55 k0_t20
  let c256_i32 : BitVec 32 := 256#32
  let v25 : BitVec 32 := Scalar.muli arg28 c256_i32
  let c0_i32_85 : BitVec 32 := 0#32
  let v26 : BitVec 32 := Scalar.addi v25 c0_i32_85
  v26
def k0_off102 (k0_t20 : Fin k0_t20_loop.trips) : Fin 2 → Nat :=
  let c0 : Index := 0#32
  let c0_i32_53 : BitVec 32 := 0#32
  let c1_i32_55 : BitVec 32 := 1#32
  let arg28 : BitVec 32 := Scf.iv c0_i32_53 c1_i32_55 k0_t20
  let c256_i32 : BitVec 32 := 256#32
  let v25 : BitVec 32 := Scalar.muli arg28 c256_i32
  let c0_i32_85 : BitVec 32 := 0#32
  let v26 : BitVec 32 := Scalar.addi v25 c0_i32_85
  let v27 : BitVec 32 := v26
  let v28 : Index := Scalar.indexCast v27
  ![0, v28.toNat]
def k0_off103 (k0_t20 : Fin k0_t20_loop.trips) : Fin 3 → Nat :=
  let c0_i32_53 : BitVec 32 := 0#32
  let c1_i32_55 : BitVec 32 := 1#32
  let arg28 : BitVec 32 := Scf.iv c0_i32_53 c1_i32_55 k0_t20
  let v30 : Index := Scalar.indexCast arg28
  let c0_86 : Index := 0#32
  let c0_87 : Index := 0#32
  ![v30.toNat, 0, 0]
def k0_off104 (k0_t20 : Fin k0_t20_loop.trips) : Fin 2 → Nat :=
  let c0_88 : Index := 0#32
  let c0_i32_53 : BitVec 32 := 0#32
  let c1_i32_55 : BitVec 32 := 1#32
  let arg28 : BitVec 32 := Scf.iv c0_i32_53 c1_i32_55 k0_t20
  let c256_i32 : BitVec 32 := 256#32
  let v25 : BitVec 32 := Scalar.muli arg28 c256_i32
  let c0_i32_85 : BitVec 32 := 0#32
  let v26 : BitVec 32 := Scalar.addi v25 c0_i32_85
  let v27 : BitVec 32 := v26
  let v34 : Index := Scalar.indexCast v27
  ![0, v34.toNat]
@[reducible] def k0_t21_loop : Scf.Loop 32 :=
  let c0_i32_57 : BitVec 32 := 0#32
  let c4_i32_58 : BitVec 32 := 4#32
  let v18 : BitVec 32 := Scalar.addi c0_i32_57 c4_i32_58
  let c1_i32_59 : BitVec 32 := 1#32
  ⟨c0_i32_57, v18, c1_i32_59⟩
def k0_mult101 (k0_t21 : Fin k0_t21_loop.trips) : BitVec 32 :=
  let c0_i32_57 : BitVec 32 := 0#32
  let c1_i32_59 : BitVec 32 := 1#32
  let arg28 : BitVec 32 := Scf.iv c0_i32_57 c1_i32_59 k0_t21
  let c256_i32 : BitVec 32 := 256#32
  let v27 : BitVec 32 := Scalar.muli arg28 c256_i32
  let c0_i32_87 : BitVec 32 := 0#32
  let v28 : BitVec 32 := Scalar.addi v27 c0_i32_87
  v28
def k0_off105 (k0_t21 : Fin k0_t21_loop.trips) : Fin 2 → Nat :=
  let c0_88 : Index := 0#32
  let c0_i32_57 : BitVec 32 := 0#32
  let c1_i32_59 : BitVec 32 := 1#32
  let arg28 : BitVec 32 := Scf.iv c0_i32_57 c1_i32_59 k0_t21
  let c256_i32 : BitVec 32 := 256#32
  let v27 : BitVec 32 := Scalar.muli arg28 c256_i32
  let c0_i32_87 : BitVec 32 := 0#32
  let v28 : BitVec 32 := Scalar.addi v27 c0_i32_87
  let v29 : BitVec 32 := v28
  let v30 : Index := Scalar.indexCast v29
  ![0, v30.toNat]
def k0_mult102 (k0_t21 : Fin k0_t21_loop.trips) : BitVec 32 :=
  let c0_i32_57 : BitVec 32 := 0#32
  let c1_i32_59 : BitVec 32 := 1#32
  let arg28 : BitVec 32 := Scf.iv c0_i32_57 c1_i32_59 k0_t21
  let c256_i32_89 : BitVec 32 := 256#32
  let v34 : BitVec 32 := Scalar.muli arg28 c256_i32_89
  let c0_i32_90 : BitVec 32 := 0#32
  let v35 : BitVec 32 := Scalar.addi v34 c0_i32_90
  v35
def k0_off106 (k0_t21 : Fin k0_t21_loop.trips) : Fin 3 → Nat :=
  let c0_91 : Index := 0#32
  let c0_92 : Index := 0#32
  let c0_i32_57 : BitVec 32 := 0#32
  let c1_i32_59 : BitVec 32 := 1#32
  let arg28 : BitVec 32 := Scf.iv c0_i32_57 c1_i32_59 k0_t21
  let c256_i32_89 : BitVec 32 := 256#32
  let v34 : BitVec 32 := Scalar.muli arg28 c256_i32_89
  let c0_i32_90 : BitVec 32 := 0#32
  let v35 : BitVec 32 := Scalar.addi v34 c0_i32_90
  let v36 : BitVec 32 := v35
  let v37 : Index := Scalar.indexCast v36
  ![0, 0, v37.toNat]
@[reducible] def k0_t22_loop : Scf.Loop 32 :=
  let c0_i32_61 : BitVec 32 := 0#32
  let c8_i32_62 : BitVec 32 := 8#32
  let v19 : BitVec 32 := Scalar.addi c0_i32_61 c8_i32_62
  let c1_i32_63 : BitVec 32 := 1#32
  ⟨c0_i32_61, v19, c1_i32_63⟩
def k0_mult103 (k0_t22 : Fin k0_t22_loop.trips) : BitVec 32 :=
  let c0_i32_61 : BitVec 32 := 0#32
  let c1_i32_63 : BitVec 32 := 1#32
  let arg28 : BitVec 32 := Scf.iv c0_i32_61 c1_i32_63 k0_t22
  let c32_i32 : BitVec 32 := 32#32
  let v25 : BitVec 32 := Scalar.muli arg28 c32_i32
  v25
def k0_off107 (k0_t22 : Fin k0_t22_loop.trips) : Fin 2 → Nat :=
  let c0_i32_61 : BitVec 32 := 0#32
  let c1_i32_63 : BitVec 32 := 1#32
  let arg28 : BitVec 32 := Scf.iv c0_i32_61 c1_i32_63 k0_t22
  let c32_i32 : BitVec 32 := 32#32
  let v25 : BitVec 32 := Scalar.muli arg28 c32_i32
  let v26 : BitVec 32 := v25
  let v27 : Index := Scalar.indexCast v26
  let c0 : Index := 0#32
  ![v27.toNat, 0]
def k0_off108 (k0_t22 : Fin k0_t22_loop.trips) : Fin 3 → Nat :=
  let c4 : Index := 4#32
  let c0_i32_61 : BitVec 32 := 0#32
  let c1_i32_63 : BitVec 32 := 1#32
  let arg28 : BitVec 32 := Scf.iv c0_i32_61 c1_i32_63 k0_t22
  let c32_i32 : BitVec 32 := 32#32
  let v25 : BitVec 32 := Scalar.muli arg28 c32_i32
  let v26 : BitVec 32 := v25
  let v29 : Index := Scalar.indexCast v26
  let c0_85 : Index := 0#32
  ![4, v29.toNat, 0]
def k0_off109 (k0_t22 : Fin k0_t22_loop.trips) : Fin 3 → Nat :=
  let c1 : Index := 1#32
  let c0_i32_61 : BitVec 32 := 0#32
  let c1_i32_63 : BitVec 32 := 1#32
  let arg28 : BitVec 32 := Scf.iv c0_i32_61 c1_i32_63 k0_t22
  let c32_i32 : BitVec 32 := 32#32
  let v25 : BitVec 32 := Scalar.muli arg28 c32_i32
  let v26 : BitVec 32 := v25
  let v42 : Index := Scalar.indexCast v26
  let c0_88 : Index := 0#32
  ![1, v42.toNat, 0]
@[reducible] def k0_t23_loop : Scf.Loop 32 :=
  let c0_i32_65 : BitVec 32 := 0#32
  let c4_i32_66 : BitVec 32 := 4#32
  let v20 : BitVec 32 := Scalar.addi c0_i32_65 c4_i32_66
  let c1_i32_67 : BitVec 32 := 1#32
  ⟨c0_i32_65, v20, c1_i32_67⟩
def k0_mult104 (k0_t23 : Fin k0_t23_loop.trips) : BitVec 32 :=
  let c0_i32_65 : BitVec 32 := 0#32
  let c1_i32_67 : BitVec 32 := 1#32
  let arg28 : BitVec 32 := Scf.iv c0_i32_65 c1_i32_67 k0_t23
  let c256_i32 : BitVec 32 := 256#32
  let v27 : BitVec 32 := Scalar.muli arg28 c256_i32
  let c0_i32_86 : BitVec 32 := 0#32
  let v28 : BitVec 32 := Scalar.addi v27 c0_i32_86
  v28
def k0_off110 (k0_t23 : Fin k0_t23_loop.trips) : Fin 2 → Nat :=
  let c0_87 : Index := 0#32
  let c0_i32_65 : BitVec 32 := 0#32
  let c1_i32_67 : BitVec 32 := 1#32
  let arg28 : BitVec 32 := Scf.iv c0_i32_65 c1_i32_67 k0_t23
  let c256_i32 : BitVec 32 := 256#32
  let v27 : BitVec 32 := Scalar.muli arg28 c256_i32
  let c0_i32_86 : BitVec 32 := 0#32
  let v28 : BitVec 32 := Scalar.addi v27 c0_i32_86
  let v29 : BitVec 32 := v28
  let v30 : Index := Scalar.indexCast v29
  ![0, v30.toNat]
def k0_mult105 (k0_t23 : Fin k0_t23_loop.trips) : BitVec 32 :=
  let c0_i32_65 : BitVec 32 := 0#32
  let c1_i32_67 : BitVec 32 := 1#32
  let arg28 : BitVec 32 := Scf.iv c0_i32_65 c1_i32_67 k0_t23
  let c256_i32_88 : BitVec 32 := 256#32
  let v34 : BitVec 32 := Scalar.muli arg28 c256_i32_88
  let c0_i32_89 : BitVec 32 := 0#32
  let v35 : BitVec 32 := Scalar.addi v34 c0_i32_89
  v35
def k0_off111 (k0_t23 : Fin k0_t23_loop.trips) : Fin 3 → Nat :=
  let c1_90 : Index := 1#32
  let c0_91 : Index := 0#32
  let c0_i32_65 : BitVec 32 := 0#32
  let c1_i32_67 : BitVec 32 := 1#32
  let arg28 : BitVec 32 := Scf.iv c0_i32_65 c1_i32_67 k0_t23
  let c256_i32_88 : BitVec 32 := 256#32
  let v34 : BitVec 32 := Scalar.muli arg28 c256_i32_88
  let c0_i32_89 : BitVec 32 := 0#32
  let v35 : BitVec 32 := Scalar.addi v34 c0_i32_89
  let v36 : BitVec 32 := v35
  let v37 : Index := Scalar.indexCast v36
  ![1, 0, v37.toNat]
@[reducible] def k0_t24_loop : Scf.Loop 32 :=
  let c0_i32_69 : BitVec 32 := 0#32
  let c8_i32_70 : BitVec 32 := 8#32
  let v21 : BitVec 32 := Scalar.addi c0_i32_69 c8_i32_70
  let c1_i32_71 : BitVec 32 := 1#32
  ⟨c0_i32_69, v21, c1_i32_71⟩
def k0_mult106 (k0_t24 : Fin k0_t24_loop.trips) : BitVec 32 :=
  let c0_i32_69 : BitVec 32 := 0#32
  let c1_i32_71 : BitVec 32 := 1#32
  let arg28 : BitVec 32 := Scf.iv c0_i32_69 c1_i32_71 k0_t24
  let c32_i32 : BitVec 32 := 32#32
  let v25 : BitVec 32 := Scalar.muli arg28 c32_i32
  v25
def k0_off112 (k0_t24 : Fin k0_t24_loop.trips) : Fin 3 → Nat :=
  let c5 : Index := 5#32
  let c0_i32_69 : BitVec 32 := 0#32
  let c1_i32_71 : BitVec 32 := 1#32
  let arg28 : BitVec 32 := Scf.iv c0_i32_69 c1_i32_71 k0_t24
  let c32_i32 : BitVec 32 := 32#32
  let v25 : BitVec 32 := Scalar.muli arg28 c32_i32
  let v26 : BitVec 32 := v25
  let v27 : Index := Scalar.indexCast v26
  let c0 : Index := 0#32
  ![5, v27.toNat, 0]
def k0_off113 (k0_t24 : Fin k0_t24_loop.trips) : Fin 3 → Nat :=
  let c0_87 : Index := 0#32
  let c0_i32_69 : BitVec 32 := 0#32
  let c1_i32_71 : BitVec 32 := 1#32
  let arg28 : BitVec 32 := Scf.iv c0_i32_69 c1_i32_71 k0_t24
  let c32_i32 : BitVec 32 := 32#32
  let v25 : BitVec 32 := Scalar.muli arg28 c32_i32
  let v26 : BitVec 32 := v25
  let v37 : Index := Scalar.indexCast v26
  let c0_88 : Index := 0#32
  ![0, v37.toNat, 0]
def k0_off114 (k0_t24 : Fin k0_t24_loop.trips) : Fin 3 → Nat :=
  let c6 : Index := 6#32
  let c0_i32_69 : BitVec 32 := 0#32
  let c1_i32_71 : BitVec 32 := 1#32
  let arg28 : BitVec 32 := Scf.iv c0_i32_69 c1_i32_71 k0_t24
  let c32_i32 : BitVec 32 := 32#32
  let v25 : BitVec 32 := Scalar.muli arg28 c32_i32
  let v26 : BitVec 32 := v25
  let v45 : Index := Scalar.indexCast v26
  let c0_91 : Index := 0#32
  ![6, v45.toNat, 0]
@[reducible] def k0_t25_loop : Scf.Loop 32 :=
  let c0_i32_73 : BitVec 32 := 0#32
  let c8_i32_74 : BitVec 32 := 8#32
  let v22 : BitVec 32 := Scalar.addi c0_i32_73 c8_i32_74
  let c1_i32_75 : BitVec 32 := 1#32
  ⟨c0_i32_73, v22, c1_i32_75⟩
def k0_mult107 (k0_t25 : Fin k0_t25_loop.trips) : BitVec 32 :=
  let c0_i32_73 : BitVec 32 := 0#32
  let c1_i32_75 : BitVec 32 := 1#32
  let arg28 : BitVec 32 := Scf.iv c0_i32_73 c1_i32_75 k0_t25
  let c32_i32 : BitVec 32 := 32#32
  let v25 : BitVec 32 := Scalar.muli arg28 c32_i32
  v25
def k0_off115 (k0_t25 : Fin k0_t25_loop.trips) : Fin 3 → Nat :=
  let c0 : Index := 0#32
  let c0_i32_73 : BitVec 32 := 0#32
  let c1_i32_75 : BitVec 32 := 1#32
  let arg28 : BitVec 32 := Scf.iv c0_i32_73 c1_i32_75 k0_t25
  let c32_i32 : BitVec 32 := 32#32
  let v25 : BitVec 32 := Scalar.muli arg28 c32_i32
  let v26 : BitVec 32 := v25
  let v27 : Index := Scalar.indexCast v26
  let c0_85 : Index := 0#32
  ![0, v27.toNat, 0]
def k0_off116 (k0_t25 : Fin k0_t25_loop.trips) : Fin 3 → Nat :=
  let c6 : Index := 6#32
  let c0_i32_73 : BitVec 32 := 0#32
  let c1_i32_75 : BitVec 32 := 1#32
  let arg28 : BitVec 32 := Scf.iv c0_i32_73 c1_i32_75 k0_t25
  let c32_i32 : BitVec 32 := 32#32
  let v25 : BitVec 32 := Scalar.muli arg28 c32_i32
  let v26 : BitVec 32 := v25
  let v30 : Index := Scalar.indexCast v26
  let c0_86 : Index := 0#32
  ![6, v30.toNat, 0]
def k0_off117 (k0_t25 : Fin k0_t25_loop.trips) : Fin 3 → Nat :=
  let c1 : Index := 1#32
  let c0_i32_73 : BitVec 32 := 0#32
  let c1_i32_75 : BitVec 32 := 1#32
  let arg28 : BitVec 32 := Scf.iv c0_i32_73 c1_i32_75 k0_t25
  let c32_i32 : BitVec 32 := 32#32
  let v25 : BitVec 32 := Scalar.muli arg28 c32_i32
  let v26 : BitVec 32 := v25
  let v33 : Index := Scalar.indexCast v26
  let c0_87 : Index := 0#32
  ![1, v33.toNat, 0]
def k0_off118 (k0_t25 : Fin k0_t25_loop.trips) : Fin 3 → Nat :=
  let c2 : Index := 2#32
  let c0_i32_73 : BitVec 32 := 0#32
  let c1_i32_75 : BitVec 32 := 1#32
  let arg28 : BitVec 32 := Scf.iv c0_i32_73 c1_i32_75 k0_t25
  let c32_i32 : BitVec 32 := 32#32
  let v25 : BitVec 32 := Scalar.muli arg28 c32_i32
  let v26 : BitVec 32 := v25
  let v39 : Index := Scalar.indexCast v26
  let c0_88 : Index := 0#32
  ![2, v39.toNat, 0]
@[reducible] def k0_t26_loop : Scf.Loop 32 :=
  let c0_i32_77 : BitVec 32 := 0#32
  let c4_i32_78 : BitVec 32 := 4#32
  let v23 : BitVec 32 := Scalar.addi c0_i32_77 c4_i32_78
  let c1_i32_79 : BitVec 32 := 1#32
  ⟨c0_i32_77, v23, c1_i32_79⟩
def k0_mult108 (k0_t26 : Fin k0_t26_loop.trips) : BitVec 32 :=
  let c0_i32_77 : BitVec 32 := 0#32
  let c1_i32_79 : BitVec 32 := 1#32
  let arg28 : BitVec 32 := Scf.iv c0_i32_77 c1_i32_79 k0_t26
  let c256_i32 : BitVec 32 := 256#32
  let v27 : BitVec 32 := Scalar.muli arg28 c256_i32
  let c0_i32_86 : BitVec 32 := 0#32
  let v28 : BitVec 32 := Scalar.addi v27 c0_i32_86
  v28
def k0_off119 (k0_t26 : Fin k0_t26_loop.trips) : Fin 2 → Nat :=
  let c0_87 : Index := 0#32
  let c0_i32_77 : BitVec 32 := 0#32
  let c1_i32_79 : BitVec 32 := 1#32
  let arg28 : BitVec 32 := Scf.iv c0_i32_77 c1_i32_79 k0_t26
  let c256_i32 : BitVec 32 := 256#32
  let v27 : BitVec 32 := Scalar.muli arg28 c256_i32
  let c0_i32_86 : BitVec 32 := 0#32
  let v28 : BitVec 32 := Scalar.addi v27 c0_i32_86
  let v29 : BitVec 32 := v28
  let v30 : Index := Scalar.indexCast v29
  ![0, v30.toNat]
def k0_mult109 (k0_t26 : Fin k0_t26_loop.trips) : BitVec 32 :=
  let c0_i32_77 : BitVec 32 := 0#32
  let c1_i32_79 : BitVec 32 := 1#32
  let arg28 : BitVec 32 := Scf.iv c0_i32_77 c1_i32_79 k0_t26
  let c256_i32_88 : BitVec 32 := 256#32
  let v34 : BitVec 32 := Scalar.muli arg28 c256_i32_88
  let c0_i32_89 : BitVec 32 := 0#32
  let v35 : BitVec 32 := Scalar.addi v34 c0_i32_89
  v35
def k0_off120 (k0_t26 : Fin k0_t26_loop.trips) : Fin 3 → Nat :=
  let c0_90 : Index := 0#32
  let c0_91 : Index := 0#32
  let c0_i32_77 : BitVec 32 := 0#32
  let c1_i32_79 : BitVec 32 := 1#32
  let arg28 : BitVec 32 := Scf.iv c0_i32_77 c1_i32_79 k0_t26
  let c256_i32_88 : BitVec 32 := 256#32
  let v34 : BitVec 32 := Scalar.muli arg28 c256_i32_88
  let c0_i32_89 : BitVec 32 := 0#32
  let v35 : BitVec 32 := Scalar.addi v34 c0_i32_89
  let v36 : BitVec 32 := v35
  let v37 : Index := Scalar.indexCast v36
  ![0, 0, v37.toNat]
@[reducible] def k0_t27_loop : Scf.Loop 32 :=
  let c0_i32_81 : BitVec 32 := 0#32
  let c8_i32_82 : BitVec 32 := 8#32
  let v24 : BitVec 32 := Scalar.addi c0_i32_81 c8_i32_82
  let c1_i32_83 : BitVec 32 := 1#32
  ⟨c0_i32_81, v24, c1_i32_83⟩
def k0_mult110 (k0_t27 : Fin k0_t27_loop.trips) : BitVec 32 :=
  let c0_i32_81 : BitVec 32 := 0#32
  let c1_i32_83 : BitVec 32 := 1#32
  let arg28 : BitVec 32 := Scf.iv c0_i32_81 c1_i32_83 k0_t27
  let c32_i32 : BitVec 32 := 32#32
  let v25 : BitVec 32 := Scalar.muli arg28 c32_i32
  v25
def k0_off121 (k0_t27 : Fin k0_t27_loop.trips) : Fin 3 → Nat :=
  let c0 : Index := 0#32
  let c0_i32_81 : BitVec 32 := 0#32
  let c1_i32_83 : BitVec 32 := 1#32
  let arg28 : BitVec 32 := Scf.iv c0_i32_81 c1_i32_83 k0_t27
  let c32_i32 : BitVec 32 := 32#32
  let v25 : BitVec 32 := Scalar.muli arg28 c32_i32
  let v26 : BitVec 32 := v25
  let v27 : Index := Scalar.indexCast v26
  let c0_85 : Index := 0#32
  ![0, v27.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F]
-- ==== ReferenceIdeal.lean ====
abbrev S16x2048x1024 : Shape := ⟨3, ![16, 2048, 1024]⟩
abbrev S1x1024 : Shape := ⟨2, ![1, 1024]⟩
abbrev S1x1024x7168 : Shape := ⟨3, ![1, 1024, 7168]⟩
abbrev S1x7168 : Shape := ⟨2, ![1, 7168]⟩
abbrev S1x31x1024 : Shape := ⟨3, ![1, 31, 1024]⟩
abbrev S1x1024x1024 : Shape := ⟨3, ![1, 1024, 1024]⟩
abbrev S1x4x256x256 : Shape := ⟨4, ![1, 4, 256, 256]⟩
abbrev S1x4x256 : Shape := ⟨3, ![1, 4, 256]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x7168 : Shape := ⟨2, ![1024, 7168]⟩
abbrev S16x2048x7168 : Shape := ⟨3, ![16, 2048, 7168]⟩
abbrev S7168 : Shape := ⟨1, ![7168]⟩
abbrev S1x1x7168 : Shape := ⟨3, ![1, 1, 7168]⟩
abbrev S16x2078x1024 : Shape := ⟨3, ![16, 2078, 1024]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S16x2048x31x1024 : Shape := ⟨4, ![16, 2048, 31, 1024]⟩
abbrev S31x1024 : Shape := ⟨2, ![31, 1024]⟩
abbrev S1x1x31x1024 : Shape := ⟨4, ![1, 1, 31, 1024]⟩
abbrev S1024x1024 : Shape := ⟨2, ![1024, 1024]⟩
abbrev S16x2048x256 : Shape := ⟨3, ![16, 2048, 256]⟩
abbrev S1x2048x1 : Shape := ⟨3, ![1, 2048, 1]⟩
abbrev S16x2049x256 : Shape := ⟨3, ![16, 2049, 256]⟩
abbrev S2 : Shape := ⟨1, ![2]⟩
abbrev S1x2 : Shape := ⟨2, ![1, 2]⟩
abbrev S2048x2 : Shape := ⟨2, ![2048, 2]⟩
abbrev S2048x2x1 : Shape := ⟨3, ![2048, 2, 1]⟩
abbrev S16x2048x2x256 : Shape := ⟨4, ![16, 2048, 2, 256]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S16x2051x256 : Shape := ⟨3, ![16, 2051, 256]⟩
abbrev S4 : Shape := ⟨1, ![4]⟩
abbrev S1x4 : Shape := ⟨2, ![1, 4]⟩
abbrev S2048x4 : Shape := ⟨2, ![2048, 4]⟩
abbrev S2048x4x1 : Shape := ⟨3, ![2048, 4, 1]⟩
abbrev S16x2048x4x256 : Shape := ⟨4, ![16, 2048, 4, 256]⟩
abbrev S16x2055x256 : Shape := ⟨3, ![16, 2055, 256]⟩
abbrev S8 : Shape := ⟨1, ![8]⟩
abbrev S1x8 : Shape := ⟨2, ![1, 8]⟩
abbrev S2048x8 : Shape := ⟨2, ![2048, 8]⟩
abbrev S2048x8x1 : Shape := ⟨3, ![2048, 8, 1]⟩
abbrev S16x2048x8x256 : Shape := ⟨4, ![16, 2048, 8, 256]⟩
abbrev S16x2063x256 : Shape := ⟨3, ![16, 2063, 256]⟩
abbrev S16 : Shape := ⟨1, ![16]⟩
abbrev S1x16 : Shape := ⟨2, ![1, 16]⟩
abbrev S2048x16 : Shape := ⟨2, ![2048, 16]⟩
abbrev S2048x16x1 : Shape := ⟨3, ![2048, 16, 1]⟩
abbrev S16x2048x16x256 : Shape := ⟨4, ![16, 2048, 16, 256]⟩

abbrev nBuf : Space → Nat
  | .hbm => 358
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024x7168, .f32⟩
  | 3 => ⟨S1x7168, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x4x256x256, .f32⟩
  | 10 => ⟨S1x4x256, .f32⟩
  | 11 => ⟨S1x1024, .f32⟩
  | 12 => ⟨S1x1024x1024, .f32⟩
  | 13 => ⟨S1x1024x1024, .f32⟩
  | 14 => ⟨S1024, .f32⟩
  | 15 => ⟨S1024, .f32⟩
  | 16 => ⟨S16x2048x1024, .f32⟩
  | 17 => ⟨S_, .f32⟩
  | 18 => ⟨S16x2048, .f32⟩
  | 19 => ⟨S16x2048x1, .f32⟩
  | 20 => ⟨S_, .f32⟩
  | 21 => ⟨S16x2048x1, .f32⟩
  | 22 => ⟨S16x2048x1, .f32⟩
  | 23 => ⟨S_, .f32⟩
  | 24 => ⟨S16x2048x1, .f32⟩
  | 25 => ⟨S16x2048x1, .f32⟩
  | 26 => ⟨S16x2048x1, .f32⟩
  | 27 => ⟨S16x2048x1024, .f32⟩
  | 28 => ⟨S16x2048x1024, .f32⟩
  | 29 => ⟨S1x1x1024, .f32⟩
  | 30 => ⟨S16x2048x1024, .f32⟩
  | 31 => ⟨S16x2048x1024, .f32⟩
  | 32 => ⟨S1024x7168, .f32⟩
  | 33 => ⟨S16x2048x7168, .f32⟩
  | 34 => ⟨S7168, .f32⟩
  | 35 => ⟨S1x1x7168, .f32⟩
  | 36 => ⟨S16x2048x7168, .f32⟩
  | 37 => ⟨S16x2048x7168, .f32⟩
  | 38 => ⟨S16x2048x1024, .f32⟩
  | 39 => ⟨S16x2048x1024, .f32⟩
  | 40 => ⟨S16x2048x1024, .f32⟩
  | 41 => ⟨S16x2048x1024, .f32⟩
  | 42 => ⟨S16x2048x1024, .f32⟩
  | 43 => ⟨S16x2048x1024, .f32⟩
  | 44 => ⟨S16x2048x1024, .f32⟩
  | 45 => ⟨S16x2048x1024, .f32⟩
  | 46 => ⟨S16x2048x1024, .f32⟩
  | 47 => ⟨S_, .f32⟩
  | 48 => ⟨S16x2048x1024, .f32⟩
  | 49 => ⟨S16x2048x1024, .f32⟩
  | 50 => ⟨S_, .f32⟩
  | 51 => ⟨S16x2048x1024, .f32⟩
  | 52 => ⟨S16x2048x1024, .f32⟩
  | 53 => ⟨S16x2048x1024, .f32⟩
  | 54 => ⟨S_, .i32⟩
  | 55 => ⟨S_, .f32⟩
  | 56 => ⟨S16x2078x1024, .f32⟩
  | 57 => ⟨S2048, .i32⟩
  | 58 => ⟨S2048x1, .i32⟩
  | 59 => ⟨S31, .i32⟩
  | 60 => ⟨S1x31, .i32⟩
  | 61 => ⟨S2048x31, .i32⟩
  | 62 => ⟨S2048x31, .i32⟩
  | 63 => ⟨S2048x31, .i32⟩
  | 64 => ⟨S_, .i32⟩
  | 65 => ⟨S2048x31, .i32⟩
  | 66 => ⟨S2048x31, .i1⟩
  | 67 => ⟨S_, .i32⟩
  | 68 => ⟨S2048x31, .i32⟩
  | 69 => ⟨S2048x31, .i32⟩
  | 70 => ⟨S2048x31, .i32⟩
  | 71 => ⟨S2048x31x1, .i32⟩
  | 72 => ⟨S16x2048x31x1024, .f32⟩
  | 73 => ⟨S31x1024, .f32⟩
  | 74 => ⟨S1x1x31x1024, .f32⟩
  | 75 => ⟨S16x2048x31x1024, .f32⟩
  | 76 => ⟨S16x2048x31x1024, .f32⟩
  | 77 => ⟨S_, .f32⟩
  | 78 => ⟨S16x2048x1024, .f32⟩
  | 79 => ⟨S1024, .f32⟩
  | 80 => ⟨S1x1x1024, .f32⟩
  | 81 => ⟨S16x2048x1024, .f32⟩
  | 82 => ⟨S16x2048x1024, .f32⟩
  | 83 => ⟨S_, .f32⟩
  | 84 => ⟨S16x2048, .f32⟩
  | 85 => ⟨S16x2048x1, .f32⟩
  | 86 => ⟨S_, .f32⟩
  | 87 => ⟨S16x2048x1, .f32⟩
  | 88 => ⟨S16x2048x1, .f32⟩
  | 89 => ⟨S16x2048x1024, .f32⟩
  | 90 => ⟨S16x2048x1024, .f32⟩
  | 91 => ⟨S16x2048x1024, .f32⟩
  | 92 => ⟨S_, .f32⟩
  | 93 => ⟨S16x2048, .f32⟩
  | 94 => ⟨S16x2048x1, .f32⟩
  | 95 => ⟨S_, .f32⟩
  | 96 => ⟨S16x2048x1, .f32⟩
  | 97 => ⟨S16x2048x1, .f32⟩
  | 98 => ⟨S16x2048x1024, .f32⟩
  | 99 => ⟨S16x2048x1024, .f32⟩
  | 100 => ⟨S_, .f32⟩
  | 101 => ⟨S16x2048x1, .f32⟩
  | 102 => ⟨S16x2048x1, .f32⟩
  | 103 => ⟨S16x2048x1, .f32⟩
  | 104 => ⟨S16x2048x1024, .f32⟩
  | 105 => ⟨S16x2048x1024, .f32⟩
  | 106 => ⟨S1024, .f32⟩
  | 107 => ⟨S1x1x1024, .f32⟩
  | 108 => ⟨S16x2048x1024, .f32⟩
  | 109 => ⟨S16x2048x1024, .f32⟩
  | 110 => ⟨S1024, .f32⟩
  | 111 => ⟨S1x1x1024, .f32⟩
  | 112 => ⟨S16x2048x1024, .f32⟩
  | 113 => ⟨S16x2048x1024, .f32⟩
  | 114 => ⟨S16x2048x1024, .f32⟩
  | 115 => ⟨S16x2048x1024, .f32⟩
  | 116 => ⟨S_, .f32⟩
  | 117 => ⟨S16x2048x1024, .f32⟩
  | 118 => ⟨S16x2048x1024, .f32⟩
  | 119 => ⟨S_, .f32⟩
  | 120 => ⟨S16x2048x1024, .f32⟩
  | 121 => ⟨S16x2048x1024, .f32⟩
  | 122 => ⟨S16x2048x1024, .f32⟩
  | 123 => ⟨S16x2048x1024, .f32⟩
  | 124 => ⟨S16x2048x1024, .f32⟩
  | 125 => ⟨S_, .f32⟩
  | 126 => ⟨S16x2048x1024, .f32⟩
  | 127 => ⟨S16x2048x1024, .f32⟩
  | _ => ⟨S16x2048x1024, .f32⟩

abbrev hbmTy0_1 (i : Nat) : BufTy := match i % 128 with
  | 0 => ⟨S_, .f32⟩
  | 1 => ⟨S16x2048x1024, .f32⟩
  | 2 => ⟨S16x2048x1024, .f32⟩
  | 3 => ⟨S16x2048x1024, .f32⟩
  | 4 => ⟨S16x2048x1024, .f32⟩
  | 5 => ⟨S1024x1024, .f32⟩
  | 6 => ⟨S16x2048x1024, .f32⟩
  | 7 => ⟨S16x2048x256, .f32⟩
  | 8 => ⟨S2048, .i32⟩
  | 9 => ⟨S_, .i32⟩
  | 10 => ⟨S2048, .i32⟩
  | 11 => ⟨S2048, .i32⟩
  | 12 => ⟨S_, .i32⟩
  | 13 => ⟨S2048, .i32⟩
  | 14 => ⟨S2048, .i32⟩
  | 15 => ⟨S2048, .f32⟩
  | 16 => ⟨S1x2048x1, .f32⟩
  | 17 => ⟨S_, .i32⟩
  | 18 => ⟨S_, .f32⟩
  | 19 => ⟨S16x2049x256, .f32⟩
  | 20 => ⟨S2048, .i32⟩
  | 21 => ⟨S2048x1, .i32⟩
  | 22 => ⟨S2, .i32⟩
  | 23 => ⟨S1x2, .i32⟩
  | 24 => ⟨S2048x2, .i32⟩
  | 25 => ⟨S2048x2, .i32⟩
  | 26 => ⟨S2048x2, .i32⟩
  | 27 => ⟨S_, .i32⟩
  | 28 => ⟨S2048x2, .i32⟩
  | 29 => ⟨S2048x2, .i1⟩
  | 30 => ⟨S_, .i32⟩
  | 31 => ⟨S2048x2, .i32⟩
  | 32 => ⟨S2048x2, .i32⟩
  | 33 => ⟨S2048x2, .i32⟩
  | 34 => ⟨S2048x2x1, .i32⟩
  | 35 => ⟨S16x2048x2x256, .f32⟩
  | 36 => ⟨S_, .f32⟩
  | 37 => ⟨S16x2048x256, .f32⟩
  | 38 => ⟨S16x2048x256, .f32⟩
  | 39 => ⟨S16x2048x256, .f32⟩
  | 40 => ⟨S16x2048x256, .f32⟩
  | 41 => ⟨S1x1x256x256, .f32⟩
  | 42 => ⟨S256x256, .f32⟩
  | 43 => ⟨S16x2048x256, .f32⟩
  | 44 => ⟨S1x1x256, .f32⟩
  | 45 => ⟨S256, .f32⟩
  | 46 => ⟨S1x1x256, .f32⟩
  | 47 => ⟨S16x2048x256, .f32⟩
  | 48 => ⟨S16x2048x256, .f32⟩
  | 49 => ⟨S16x2048x256, .f32⟩
  | 50 => ⟨S2048, .i32⟩
  | 51 => ⟨S_, .i32⟩
  | 52 => ⟨S2048, .i32⟩
  | 53 => ⟨S2048, .i32⟩
  | 54 => ⟨S_, .i32⟩
  | 55 => ⟨S2048, .i32⟩
  | 56 => ⟨S2048, .i32⟩
  | 57 => ⟨S2048, .f32⟩
  | 58 => ⟨S1x2048x1, .f32⟩
  | 59 => ⟨S_, .i32⟩
  | 60 => ⟨S_, .f32⟩
  | 61 => ⟨S16x2051x256, .f32⟩
  | 62 => ⟨S2048, .i32⟩
  | 63 => ⟨S2048x1, .i32⟩
  | 64 => ⟨S4, .i32⟩
  | 65 => ⟨S1x4, .i32⟩
  | 66 => ⟨S2048x4, .i32⟩
  | 67 => ⟨S2048x4, .i32⟩
  | 68 => ⟨S2048x4, .i32⟩
  | 69 => ⟨S_, .i32⟩
  | 70 => ⟨S2048x4, .i32⟩
  | 71 => ⟨S2048x4, .i1⟩
  | 72 => ⟨S_, .i32⟩
  | 73 => ⟨S2048x4, .i32⟩
  | 74 => ⟨S2048x4, .i32⟩
  | 75 => ⟨S2048x4, .i32⟩
  | 76 => ⟨S2048x4x1, .i32⟩
  | 77 => ⟨S16x2048x4x256, .f32⟩
  | 78 => ⟨S_, .f32⟩
  | 79 => ⟨S16x2048x256, .f32⟩
  | 80 => ⟨S16x2048x256, .f32⟩
  | 81 => ⟨S16x2048x256, .f32⟩
  | 82 => ⟨S16x2048x256, .f32⟩
  | 83 => ⟨S1x1x256x256, .f32⟩
  | 84 => ⟨S256x256, .f32⟩
  | 85 => ⟨S16x2048x256, .f32⟩
  | 86 => ⟨S1x1x256, .f32⟩
  | 87 => ⟨S256, .f32⟩
  | 88 => ⟨S1x1x256, .f32⟩
  | 89 => ⟨S16x2048x256, .f32⟩
  | 90 => ⟨S16x2048x256, .f32⟩
  | 91 => ⟨S16x2048x256, .f32⟩
  | 92 => ⟨S2048, .i32⟩
  | 93 => ⟨S_, .i32⟩
  | 94 => ⟨S2048, .i32⟩
  | 95 => ⟨S2048, .i32⟩
  | 96 => ⟨S_, .i32⟩
  | 97 => ⟨S2048, .i32⟩
  | 98 => ⟨S2048, .i32⟩
  | 99 => ⟨S2048, .f32⟩
  | 100 => ⟨S1x2048x1, .f32⟩
  | 101 => ⟨S_, .i32⟩
  | 102 => ⟨S_, .f32⟩
  | 103 => ⟨S16x2055x256, .f32⟩
  | 104 => ⟨S2048, .i32⟩
  | 105 => ⟨S2048x1, .i32⟩
  | 106 => ⟨S8, .i32⟩
  | 107 => ⟨S1x8, .i32⟩
  | 108 => ⟨S2048x8, .i32⟩
  | 109 => ⟨S2048x8, .i32⟩
  | 110 => ⟨S2048x8, .i32⟩
  | 111 => ⟨S_, .i32⟩
  | 112 => ⟨S2048x8, .i32⟩
  | 113 => ⟨S2048x8, .i1⟩
  | 114 => ⟨S_, .i32⟩
  | 115 => ⟨S2048x8, .i32⟩
  | 116 => ⟨S2048x8, .i32⟩
  | 117 => ⟨S2048x8, .i32⟩
  | 118 => ⟨S2048x8x1, .i32⟩
  | 119 => ⟨S16x2048x8x256, .f32⟩
  | 120 => ⟨S_, .f32⟩
  | 121 => ⟨S16x2048x256, .f32⟩
  | 122 => ⟨S16x2048x256, .f32⟩
  | 123 => ⟨S16x2048x256, .f32⟩
  | 124 => ⟨S16x2048x256, .f32⟩
  | 125 => ⟨S1x1x256x256, .f32⟩
  | 126 => ⟨S256x256, .f32⟩
  | 127 => ⟨S16x2048x256, .f32⟩
  | _ => ⟨S16x2048x1024, .f32⟩

abbrev hbmTy0_2 (i : Nat) : BufTy := match i % 128 with
  | 0 => ⟨S1x1x256, .f32⟩
  | 1 => ⟨S256, .f32⟩
  | 2 => ⟨S1x1x256, .f32⟩
  | 3 => ⟨S16x2048x256, .f32⟩
  | 4 => ⟨S16x2048x256, .f32⟩
  | 5 => ⟨S16x2048x256, .f32⟩
  | 6 => ⟨S2048, .i32⟩
  | 7 => ⟨S_, .i32⟩
  | 8 => ⟨S2048, .i32⟩
  | 9 => ⟨S2048, .i32⟩
  | 10 => ⟨S_, .i32⟩
  | 11 => ⟨S2048, .i32⟩
  | 12 => ⟨S2048, .i32⟩
  | 13 => ⟨S2048, .f32⟩
  | 14 => ⟨S1x2048x1, .f32⟩
  | 15 => ⟨S_, .i32⟩
  | 16 => ⟨S_, .f32⟩
  | 17 => ⟨S16x2063x256, .f32⟩
  | 18 => ⟨S2048, .i32⟩
  | 19 => ⟨S2048x1, .i32⟩
  | 20 => ⟨S16, .i32⟩
  | 21 => ⟨S1x16, .i32⟩
  | 22 => ⟨S2048x16, .i32⟩
  | 23 => ⟨S2048x16, .i32⟩
  | 24 => ⟨S2048x16, .i32⟩
  | 25 => ⟨S_, .i32⟩
  | 26 => ⟨S2048x16, .i32⟩
  | 27 => ⟨S2048x16, .i1⟩
  | 28 => ⟨S_, .i32⟩
  | 29 => ⟨S2048x16, .i32⟩
  | 30 => ⟨S2048x16, .i32⟩
  | 31 => ⟨S2048x16, .i32⟩
  | 32 => ⟨S2048x16x1, .i32⟩
  | 33 => ⟨S16x2048x16x256, .f32⟩
  | 34 => ⟨S_, .f32⟩
  | 35 => ⟨S16x2048x256, .f32⟩
  | 36 => ⟨S16x2048x256, .f32⟩
  | 37 => ⟨S16x2048x256, .f32⟩
  | 38 => ⟨S16x2048x256, .f32⟩
  | 39 => ⟨S1x1x256x256, .f32⟩
  | 40 => ⟨S256x256, .f32⟩
  | 41 => ⟨S16x2048x256, .f32⟩
  | 42 => ⟨S1x1x256, .f32⟩
  | 43 => ⟨S256, .f32⟩
  | 44 => ⟨S1x1x256, .f32⟩
  | 45 => ⟨S16x2048x256, .f32⟩
  | 46 => ⟨S16x2048x256, .f32⟩
  | 47 => ⟨S16x2048x1024, .f32⟩
  | 48 => ⟨S1024, .f32⟩
  | 49 => ⟨S1x1x1024, .f32⟩
  | 50 => ⟨S16x2048x1024, .f32⟩
  | 51 => ⟨S16x2048x1024, .f32⟩
  | 52 => ⟨S16x2048x1024, .f32⟩
  | 53 => ⟨S16x2048x1024, .f32⟩
  | 54 => ⟨S_, .f32⟩
  | 55 => ⟨S16x2048x1024, .f32⟩
  | 56 => ⟨S16x2048x1024, .f32⟩
  | 57 => ⟨S_, .f32⟩
  | 58 => ⟨S16x2048x1024, .f32⟩
  | 59 => ⟨S16x2048x1024, .f32⟩
  | 60 => ⟨S16x2048x1024, .f32⟩
  | 61 => ⟨S16x2048x1024, .f32⟩
  | 62 => ⟨S1024x1024, .f32⟩
  | 63 => ⟨S16x2048x1024, .f32⟩
  | 64 => ⟨S16x2048x1024, .f32⟩
  | 65 => ⟨S16x2048x1024, .f32⟩
  | 66 => ⟨S_, .f32⟩
  | 67 => ⟨S16x2048x1024, .f32⟩
  | 68 => ⟨S16x2048x1024, .f32⟩
  | 69 => ⟨S_, .f32⟩
  | 70 => ⟨S16x2048x1024, .f32⟩
  | 71 => ⟨S16x2048x1024, .f32⟩
  | 72 => ⟨S16x2048x1024, .f32⟩
  | 73 => ⟨S16x2048x1024, .f32⟩
  | 74 => ⟨S16x2048x1024, .f32⟩
  | 75 => ⟨S_, .f32⟩
  | 76 => ⟨S16x2048x1024, .f32⟩
  | 77 => ⟨S16x2048x1024, .f32⟩
  | 78 => ⟨S_, .f32⟩
  | 79 => ⟨S16x2048x1024, .f32⟩
  | 80 => ⟨S16x2048x1024, .f32⟩
  | 81 => ⟨S16x2048x1024, .f32⟩
  | 82 => ⟨S16x2048x1024, .f32⟩
  | 83 => ⟨S1024x1024, .f32⟩
  | 84 => ⟨S16x2048x1024, .f32⟩
  | 85 => ⟨S16x2048x1024, .f32⟩
  | 86 => ⟨S16x2048x1024, .f32⟩
  | 87 => ⟨S_, .f32⟩
  | 88 => ⟨S16x2048, .f32⟩
  | 89 => ⟨S16x2048x1, .f32⟩
  | 90 => ⟨S_, .f32⟩
  | 91 => ⟨S16x2048x1, .f32⟩
  | 92 => ⟨S16x2048x1, .f32⟩
  | 93 => ⟨S_, .f32⟩
  | 94 => ⟨S16x2048x1, .f32⟩
  | 95 => ⟨S16x2048x1, .f32⟩
  | 96 => ⟨S16x2048x1, .f32⟩
  | 97 => ⟨S16x2048x1024, .f32⟩
  | 98 => ⟨S16x2048x1024, .f32⟩
  | 99 => ⟨S1x1x1024, .f32⟩
  | 100 => ⟨S16x2048x1024, .f32⟩
  | 101 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c : Ref sig .tc := ⟨.hbm, 54, rfl⟩
abbrev main_call0_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_4 : Ref sig .tc := ⟨.hbm, 64, rfl⟩
abbrev main_v42 : Ref sig .tc := ⟨.hbm, 65, rfl⟩
abbrev main_v43 : Ref sig .tc := ⟨.hbm, 66, rfl⟩
abbrev main_c_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_7 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_9 : Ref sig .tc := ⟨.hbm, 92, rfl⟩
abbrev main_v65 : Ref sig .tc := ⟨.hbm, 93, rfl⟩
abbrev main_v66 : Ref sig .tc := ⟨.hbm, 94, rfl⟩
abbrev main_cst_10 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_11 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_call1_v0 : Ref sig .tc := ⟨.hbm, 114, rfl⟩
abbrev main_call1_v1 : Ref sig .tc := ⟨.hbm, 115, rfl⟩
abbrev main_call1_cst : Ref sig .tc := ⟨.hbm, 116, rfl⟩
abbrev main_call1_v2 : Ref sig .tc := ⟨.hbm, 117, rfl⟩
abbrev main_call1_v3 : Ref sig .tc := ⟨.hbm, 118, rfl⟩
abbrev main_call1_cst_0 : Ref sig .tc := ⟨.hbm, 119, rfl⟩
abbrev main_call1_v4 : Ref sig .tc := ⟨.hbm, 120, rfl⟩
abbrev main_call1_v5 : Ref sig .tc := ⟨.hbm, 121, rfl⟩
abbrev main_v84 : Ref sig .tc := ⟨.hbm, 122, rfl⟩
abbrev main_call2_v0 : Ref sig .tc := ⟨.hbm, 123, rfl⟩
abbrev main_call2_v1 : Ref sig .tc := ⟨.hbm, 124, rfl⟩
abbrev main_call2_cst : Ref sig .tc := ⟨.hbm, 125, rfl⟩
abbrev main_call2_v2 : Ref sig .tc := ⟨.hbm, 126, rfl⟩
abbrev main_call2_v3 : Ref sig .tc := ⟨.hbm, 127, rfl⟩
abbrev main_call2_cst_0 : Ref sig .tc := ⟨.hbm, 128, rfl⟩
abbrev main_call2_v4 : Ref sig .tc := ⟨.hbm, 129, rfl⟩
abbrev main_call2_v5 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_12 : Ref sig .tc := ⟨.hbm, 137, rfl⟩
abbrev main_v91 : Ref sig .tc := ⟨.hbm, 138, rfl⟩
abbrev main_v92 : Ref sig .tc := ⟨.hbm, 139, rfl⟩
abbrev main_c_13 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_c_14 : Ref sig .tc := ⟨.hbm, 145, rfl⟩
abbrev main_call3_v0 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_c_15 : Ref sig .tc := ⟨.hbm, 155, rfl⟩
abbrev main_v105 : Ref sig .tc := ⟨.hbm, 156, rfl⟩
abbrev main_v106 : Ref sig .tc := ⟨.hbm, 157, rfl⟩
abbrev main_c_16 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_17 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_c_18 : Ref sig .tc := ⟨.hbm, 179, rfl⟩
abbrev main_v126 : Ref sig .tc := ⟨.hbm, 180, rfl⟩
abbrev main_v127 : Ref sig .tc := ⟨.hbm, 181, rfl⟩
abbrev main_c_19 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_c_20 : Ref sig .tc := ⟨.hbm, 187, rfl⟩
abbrev main_call4_v0 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_c_21 : Ref sig .tc := ⟨.hbm, 197, rfl⟩
abbrev main_v140 : Ref sig .tc := ⟨.hbm, 198, rfl⟩
abbrev main_v141 : Ref sig .tc := ⟨.hbm, 199, rfl⟩
abbrev main_c_22 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_23 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_c_24 : Ref sig .tc := ⟨.hbm, 221, rfl⟩
abbrev main_v161 : Ref sig .tc := ⟨.hbm, 222, rfl⟩
abbrev main_v162 : Ref sig .tc := ⟨.hbm, 223, rfl⟩
abbrev main_c_25 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_c_26 : Ref sig .tc := ⟨.hbm, 229, rfl⟩
abbrev main_call5_v0 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_c_27 : Ref sig .tc := ⟨.hbm, 239, rfl⟩
abbrev main_v175 : Ref sig .tc := ⟨.hbm, 240, rfl⟩
abbrev main_v176 : Ref sig .tc := ⟨.hbm, 241, rfl⟩
abbrev main_c_28 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_cst_29 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_c_30 : Ref sig .tc := ⟨.hbm, 263, rfl⟩
abbrev main_v196 : Ref sig .tc := ⟨.hbm, 264, rfl⟩
abbrev main_v197 : Ref sig .tc := ⟨.hbm, 265, rfl⟩
abbrev main_c_31 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_c_32 : Ref sig .tc := ⟨.hbm, 271, rfl⟩
abbrev main_call6_v0 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_c_33 : Ref sig .tc := ⟨.hbm, 281, rfl⟩
abbrev main_v210 : Ref sig .tc := ⟨.hbm, 282, rfl⟩
abbrev main_v211 : Ref sig .tc := ⟨.hbm, 283, rfl⟩
abbrev main_c_34 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_cst_35 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_call7_v0 : Ref sig .tc := ⟨.hbm, 308, rfl⟩
abbrev main_call7_v1 : Ref sig .tc := ⟨.hbm, 309, rfl⟩
abbrev main_call7_cst : Ref sig .tc := ⟨.hbm, 310, rfl⟩
abbrev main_call7_v2 : Ref sig .tc := ⟨.hbm, 311, rfl⟩
abbrev main_call7_v3 : Ref sig .tc := ⟨.hbm, 312, rfl⟩
abbrev main_call7_cst_0 : Ref sig .tc := ⟨.hbm, 313, rfl⟩
abbrev main_call7_v4 : Ref sig .tc := ⟨.hbm, 314, rfl⟩
abbrev main_call7_v5 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_cst_36 : Ref sig .tc := ⟨.hbm, 322, rfl⟩
abbrev main_v240 : Ref sig .tc := ⟨.hbm, 323, rfl⟩
abbrev main_v241 : Ref sig .tc := ⟨.hbm, 324, rfl⟩
abbrev main_cst_37 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_cst_38 : Ref sig .tc := ⟨.hbm, 331, rfl⟩
abbrev main_v247 : Ref sig .tc := ⟨.hbm, 332, rfl⟩
abbrev main_v248 : Ref sig .tc := ⟨.hbm, 333, rfl⟩
abbrev main_cst_39 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_cst_40 : Ref sig .tc := ⟨.hbm, 343, rfl⟩
abbrev main_v257 : Ref sig .tc := ⟨.hbm, 344, rfl⟩
abbrev main_v258 : Ref sig .tc := ⟨.hbm, 345, rfl⟩
abbrev main_cst_41 : Ref sig .tc := ⟨.hbm, 346, rfl⟩
abbrev main_v259 : Ref sig .tc := ⟨.hbm, 347, rfl⟩
abbrev main_v260 : Ref sig .tc := ⟨.hbm, 348, rfl⟩
abbrev main_cst_42 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩

abbrev nD : Nat := 1
abbrev τ : Topo := Topo.v7x

variable {F : FTy → Type} [FloatOps F]
-- ==== Proof.Tr.lean ====
/-
  A small program logic for kernel bodies that only load from and store to buffers they own whole: the
  owned buffers are one plain STATE `St` (what each buffer reads), `Own s` says that the buffers hold `s`,
  and `Tr p s Q` says that from `Own s` the program `p` runs to some result `a` and state `s'` with `Q a s'`.
  Each rule takes one operation of a program off its head, so a run is a chain of plain facts about states.
-/
module

public import Idealize.ShloMosaic.Lib.Pipeline.FrameBody
public import Idealize.ShloMosaic.Lib.Scf
public import Idealize.ShloMosaic.Lib.Tactic

@[expose] public section

noncomputable section

namespace Cert.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- `X` with the elements of the rectangle `r` replaced by `w`. -/
def put {s : Shape} {α : Type} (r : Rect s) (w : r.shape.Idx → α) (X : s.Idx → α) : s.Idx → α :=
  fun y => open Classical in if h : ∃ x, r.emb x = y then w h.choose else X y

theorem put_emb {s : Shape} {α : Type} (r : Rect s) (w : r.shape.Idx → α) (X : s.Idx → α) (x : r.shape.Idx) :
    put r w X (r.emb x) = w x := by
  have h : ∃ x', r.emb x' = r.emb x := ⟨x, rfl⟩
  unfold put
  rw [dif_pos h]
  exact congrArg w (r.emb.injective h.choose_spec)

theorem put_miss {s : Shape} {α : Type} (r : Rect s) (w : r.shape.Idx → α) (X : s.Idx → α) (y : s.Idx) (h : y ∉ r.set) :
    put r w X y = X y := by
  unfold put
  refine dif_neg fun ⟨x, hx⟩ => h ?_
  rw [← hx, ← Rect.map_emb_univ]; exact Finset.mem_map.mpr ⟨x, Finset.mem_univ _, rfl⟩

variable {nD : Nat} {τ : Topo} {sig : RefSig} {Ix : Type} [DecidableEq Ix]
variable {Val : EltTy → Type} {Name : Type} [DecidableEq Name]
variable {U : Type} [URA U]
variable {Lvl : Type} {Λ : Labels} [Preorder Lvl]
local notation "𝕄" => MT nD τ sig Ix Val Name U Lvl

/-- Reading a buffer after an unmasked store through `r`. -/
theorem read_store {κ : Kind} {sp : Space} {s : Shape} {e : EltTy} (m : Memref sig κ sp s e) (r : Rect s) (f : m.view.ty.Contents Val) (w : r.shape.Idx → Val e) :
    m.view.read Val ((m.access r).write Val f w Finset.univ) = put r w (m.view.read Val f) := by
  funext y
  by_cases h : y ∈ r.set
  · obtain ⟨x, rfl⟩ : ∃ x, r.emb x = y := r.exists_idx_of_mem h
    rw [put_emb]
    exact View.read_writes_cons_emb (v := m.view) (f := f) r w [] x
  · rw [put_miss _ _ _ _ h]
    exact View.read_writes_apply_of_forall_not_mem (v := m.view) (f := f) y [⟨r, w⟩] (by simpa using h)

/-- The data of a run: the definitions, variants and thread it runs at, and what owning a state means. -/
structure Env (nD : Nat) (τ : Topo) (sig : RefSig) (Ix : Type) [DecidableEq Ix] (Val : EltTy → Type) (Name : Type) [DecidableEq Name]
    (U : Type) [URA U] (Lvl : Type) [Preorder Lvl] (Λ : Labels) (St : Type) where
  defs : Defs nD τ sig Val Λ
  𝒱 : Variants
  c : Dev nD
  Own : St → sProp (MT nD τ sig Ix Val Name U Lvl)

variable {St : Type} (V : Env nD τ sig Ix Val Name U Lvl Λ St)

/-- From `Own s` the program runs to some `a` and `s'` with `Q a s'`. -/
def Tr {α : Type} (p : Prog (TpuEff nD τ sig Val Λ .tc) α) (s : St) (Q : α → St → Prop) : Prop :=
  V.Own s ⊢ wp frame (wpE V.defs V.𝒱 (V.c : Thread nD τ) none) Set.univ p
    (fun a => iprop(∃ s', ⌜Q a s'⌝ ∗ V.Own s'))

/-- The memref `m` is one of the buffers: its contents are the state's `get`, and `set` replaces them. -/
class Acc {sp : Space} {sh : Shape} {e : EltTy} (m : Memref sig .tc sp sh e) (get : outParam (St → sh.Idx → Val e))
    (set : outParam (St → (sh.Idx → Val e) → St)) : Prop where
  acc : ∀ s, V.Own s ⊢ iprop(owns (V.c : Thread nD τ) m fullShare (get s)
    ∗ (∀ X, owns (V.c : Thread nD τ) m fullShare X -∗ V.Own (set s X)))

/-- The memref `m` is one of the buffers the run only reads. -/
class AccR {sp : Space} {sh : Shape} {e : EltTy} (m : Memref sig .tc sp sh e) (get : outParam (St → sh.Idx → Val e)) : Prop where
  acc : ∀ s, V.Own s ⊢ iprop(owns (V.c : Thread nD τ) m fullShare (get s)
    ∗ (owns (V.c : Thread nD τ) m fullShare (get s) -∗ V.Own s))

variable {V}
variable {α β : Type}

theorem Tr.run {p : Prog (TpuEff nD τ sig Val Λ .tc) α} {s : St} {Q : α → St → Prop} (h : Tr V p s Q) :
    V.Own s ⊢ wp frame (wpE V.defs V.𝒱 (V.c : Thread nD τ) none) Set.univ p (fun a => iprop(∃ s', ⌜Q a s'⌝ ∗ V.Own s')) := h

theorem Tr.mono {p : Prog (TpuEff nD τ sig Val Λ .tc) α} {s : St} {Q Q' : α → St → Prop} (h : Tr V p s Q)
    (hQ : ∀ a s', Q a s' → Q' a s') : Tr V p s Q' := by
  refine BIBase.Entails.trans h (wp_mono _ _ _ fun a => ?_)
  iintro ⟨%s', %hq, H⟩
  iexists s'
  isplitr
  · ipureintro; exact hQ a s' hq
  · iexact H

theorem Tr.ret {a : α} {s : St} {Q : α → St → Prop} (h : Q a s) : Tr V (pure a) s Q := by
  unfold Tr
  rw [wp_pure]
  iintro H
  imodintro
  iexists s
  isplitr
  · ipureintro; exact h
  · iexact H

theorem Tr.bind {p : Prog (TpuEff nD τ sig Val Λ .tc) α} {k : α → Prog (TpuEff nD τ sig Val Λ .tc) β} {s : St} {Q : β → St → Prop}
    (R : α → St → Prop) (hp : Tr V p s R) (hk : ∀ a s', R a s' → Tr V (k a) s' Q) : Tr V (p >>= k) s Q := by
  unfold Tr
  rw [wp_bind]
  refine BIBase.Entails.trans hp (wp_mono _ _ _ fun a => ?_)
  iintro ⟨%s', %hr, H⟩
  iapply (Tr.run (hk a s' hr))
  iexact H

theorem Tr.assoc {γ : Type} {p : Prog (TpuEff nD τ sig Val Λ .tc) α} {k : α → Prog (TpuEff nD τ sig Val Λ .tc) β}
    {k' : β → Prog (TpuEff nD τ sig Val Λ .tc) γ} {s : St} {Q : γ → St → Prop}
    (h : Tr V (p >>= fun a => k a >>= k') s Q) : Tr V ((p >>= k) >>= k') s Q := by
  unfold Tr at h ⊢
  simpa only [wp_bind] using h

theorem Tr.pure_bind {a : α} {k : α → Prog (TpuEff nD τ sig Val Λ .tc) β} {s : St} {Q : β → St → Prop}
    (h : Tr V (k a) s Q) : Tr V (pure a >>= k) s Q := h

theorem Tr.load {cs : CoreSpace} {sh : Shape} {e : EltTy} {m : Memref sig .tc cs sh e} {r : LoadRect sh}
    {hl : m.view.LoadsAt r} {k : (r.shape.Idx → Val e) → Prog (TpuEff nD τ sig Val Λ .tc) β} {s : St} {Q : β → St → Prop}
    {get : St → sh.Idx → Val e} [I : AccR V m get]
    (h : Tr V (k (fun x => get s (r.idx x))) s Q) : Tr V (Prog.lift (.load m r hl) >>= k) s Q := by
  show V.Own s ⊢ wp frame _ Set.univ (.op (.load m r hl) k) _
  refine (I.acc s).trans ?_
  unfold owns
  iintro ⟨⟨%f, %hf, H⟩, Hk⟩
  iapply (wp_load V.𝒱 (V.c : Thread nD τ) none Set.univ (View.setOn_subset_set _ _)) $$ H
  iintro H
  have e : m.view.readAt Val r f = fun x => get s (r.idx x) := by rw [← hf]; rfl
  rw [e]
  iapply (Tr.run h)
  iapply Hk
  iexists f
  isplitr
  · ipureintro; exact hf
  · iexact H

theorem Tr.store {cs : CoreSpace} {sh : Shape} {e : EltTy} {m : Memref sig .tc cs sh e} {r : Rect sh} {w : r.shape.Idx → Val e}
    {hx : (m.access r).Stores Finset.univ} {hm : Finset.univ = Finset.univ ∨ ∀ a, r.stride a = 1}
    {k : PUnit → Prog (TpuEff nD τ sig Val Λ .tc) β} {s : St} {Q : β → St → Prop}
    {get : St → sh.Idx → Val e} {set : St → (sh.Idx → Val e) → St} [I : Acc V m get set]
    (h : Tr V (k ⟨⟩) (set s (put r w (get s))) Q) : Tr V (Prog.lift (.store m r w Finset.univ hx hm) >>= k) s Q := by
  show V.Own s ⊢ wp frame _ Set.univ (.op (.store m r w Finset.univ hx hm) k) _
  refine (I.acc s).trans ?_
  unfold owns
  iintro ⟨⟨%f, %hf, H⟩, Hk⟩
  iapply (wp_store V.𝒱 (V.c : Thread nD τ) none Set.univ (Mk := Finset.univ) (hx := hx) (hm := hm) (m := m)
    (View.setOn_slice_subset_set m.view r Finset.univ)) $$ H
  iintro H
  iapply (Tr.run h)
  iapply Hk
  iexists _
  isplitr
  swap
  · iexact H
  · ipureintro; rw [← hf]; exact read_store m r f w

theorem Tr.loadF {cs : CoreSpace} {sh : Shape} {e : EltTy} {m : Memref sig .tc cs sh e} {r : LoadRect sh}
    {hl : m.view.LoadsAt r} {k : (r.shape.Idx → Val e) → Prog (TpuEff nD τ sig Val Λ .tc) β} {s : St} {Q : β → St → Prop}
    {get : St → sh.Idx → Val e} [I : AccR V m get]
    (h : ∀ v, Tr V (k v) s Q) : Tr V (Prog.lift (.load m r hl) >>= k) s Q := Tr.load (h _)

theorem Tr.storeF {cs : CoreSpace} {sh : Shape} {e : EltTy} {m : Memref sig .tc cs sh e} {r : Rect sh} {w : r.shape.Idx → Val e}
    {hx : (m.access r).Stores Finset.univ} {hm : Finset.univ = Finset.univ ∨ ∀ a, r.stride a = 1}
    {k : PUnit → Prog (TpuEff nD τ sig Val Λ .tc) β} {s : St} {Q : β → St → Prop}
    {get : St → sh.Idx → Val e} {set : St → (sh.Idx → Val e) → St} [I : Acc V m get set]
    (h : ∀ s', Tr V (k ⟨⟩) s' Q) : Tr V (Prog.lift (.store m r w Finset.univ hx hm) >>= k) s Q := Tr.store (h _)

/-- A load through a buffer of the run viewed at another shape. -/
theorem Tr.loadR {cs : CoreSpace} {sh sh' : Shape} {e : EltTy} {m : Memref sig .tc cs sh e} {hn : sh'.numel = sh.numel} {hr : 2 ≤ sh.rank ∧ 2 ≤ sh'.rank}
    {hc : m.view.Contiguous} {r : LoadRect sh'} {hl : (m.reshape sh' hn hr hc).view.LoadsAt r}
    {k : (r.shape.Idx → Val e) → Prog (TpuEff nD τ sig Val Λ .tc) β} {s : St} {Q : β → St → Prop}
    {get : St → sh.Idx → Val e} [I : AccR V m get]
    (h : Tr V (k (fun x => get s (Shape.reshapeEquiv hn (r.idx x)))) s Q) :
    Tr V (Prog.lift (.load (m.reshape sh' hn hr hc) r hl) >>= k) s Q := by
  show V.Own s ⊢ wp frame _ Set.univ (.op (.load (m.reshape sh' hn hr hc) r hl) k) _
  refine (I.acc s).trans ?_
  unfold owns
  iintro ⟨⟨%f, %hf, H⟩, Hk⟩
  iapply (wp_load V.𝒱 (V.c : Thread nD τ) none Set.univ (m := m.reshape sh' hn hr hc) (S := m.view.set)
    ((View.setOn_subset_set _ _).trans (View.set_reshape (v := m.view) hn).subset)) $$ H
  iintro H
  have e : (m.reshape sh' hn hr hc).view.readAt Val r f = fun x => get s (Shape.reshapeEquiv hn (r.idx x)) := by rw [← hf]; rfl
  rw [e]
  iapply (Tr.run h)
  iapply Hk
  iexists f
  isplitr
  · ipureintro; exact hf
  · iexact H

theorem Tr.loadRF {cs : CoreSpace} {sh sh' : Shape} {e : EltTy} {m : Memref sig .tc cs sh e} {hn : sh'.numel = sh.numel} {hr : 2 ≤ sh.rank ∧ 2 ≤ sh'.rank}
    {hc : m.view.Contiguous} {r : LoadRect sh'} {hl : (m.reshape sh' hn hr hc).view.LoadsAt r}
    {k : (r.shape.Idx → Val e) → Prog (TpuEff nD τ sig Val Λ .tc) β} {s : St} {Q : β → St → Prop}
    {get : St → sh.Idx → Val e} [I : AccR V m get] (h : ∀ v, Tr V (k v) s Q) :
    Tr V (Prog.lift (.load (m.reshape sh' hn hr hc) r hl) >>= k) s Q := Tr.loadR (h _)

/-- A counted loop, by an invariant of its carried values and the state. -/
theorem Tr.for {w : Nat} {l : Scf.Loop w} {hok : l.OK} {σ : Type} {init : σ} {body : Fin l.trips → σ → Prog (TpuEff nD τ sig Val Λ .tc) σ}
    {k : σ → Prog (TpuEff nD τ sig Val Λ .tc) β} {s : St} {Q : β → St → Prop} (I : Nat → σ → St → Prop) (h0 : I 0 init s)
    (hb : ∀ (t : Fin l.trips) (a : σ) (s : St), I t.val a s → Tr V (body t a) s (I (t.val + 1)))
    (hk : ∀ a s', I l.trips a s' → Tr V (k a) s' Q) : Tr V (Scf.Loop.for l hok init body >>= k) s Q := by
  refine Tr.bind (I l.trips) ?_ hk
  unfold Tr
  have := Scf.wp_for (Fr := Idealize.ShloMosaic.frame) (wpE := wpE V.defs V.𝒱 (V.c : Thread nD τ) none) (Es := Set.univ) l.lb l.ub l.st hok init body
    (fun n a => iprop(∃ s', ⌜I n a s'⌝ ∗ V.Own s'))
    (fun t a => by
      iintro ⟨%s', %hs, H⟩
      iapply (Tr.run (hb t a s' hs))
      iexact H) (Q := fun a => iprop(∃ s', ⌜I l.trips a s'⌝ ∗ V.Own s'))
  refine BIBase.Entails.trans ?_ this
  iintro H
  isplitl [H]
  · iexists s
    isplitr
    · ipureintro; exact h0
    · iexact H
  · iintro %a H; iexact H

theorem Tr.forF {w : Nat} {l : Scf.Loop w} {hok : l.OK} {σ : Type} {init : σ} {body : Fin l.trips → σ → Prog (TpuEff nD τ sig Val Λ .tc) σ}
    {k : σ → Prog (TpuEff nD τ sig Val Λ .tc) β} {s : St} {Q : β → St → Prop}
    (hb : ∀ (t : Fin l.trips) (a : σ) (s : St), Tr V (body t a) s (fun _ _ => True))
    (hk : ∀ a s', Tr V (k a) s' Q) : Tr V (Scf.Loop.for l hok init body >>= k) s Q :=
  Tr.for (fun _ _ _ => True) trivial (fun t a s _ => hb t a s) (fun a s' _ => hk a s')

theorem Tr.ite {c : Prop} [Decidable c] {p : c → Prog (TpuEff nD τ sig Val Λ .tc) α} {q : ¬ c → Prog (TpuEff nD τ sig Val Λ .tc) α}
    {k : α → Prog (TpuEff nD τ sig Val Λ .tc) β} {s : St} {Q : β → St → Prop} (h1 : ∀ h, Tr V (p h >>= k) s Q)
    (h2 : ∀ h, Tr V (q h >>= k) s Q) : Tr V ((if h : c then p h else q h) >>= k) s Q := by
  by_cases h : c
  · rw [dif_pos h]; exact h1 h
  · rw [dif_neg h]; exact h2 h

/-- A branch whose two arms carry the rest of the program with them. -/
theorem Tr.iteJ {c : Prop} [Decidable c] {p : c → Prog (TpuEff nD τ sig Val Λ .tc) α} {q : ¬ c → Prog (TpuEff nD τ sig Val Λ .tc) α}
    {s : St} {Q : α → St → Prop} (h1 : ∀ h, Tr V (p h) s Q) (h2 : ∀ h, Tr V (q h) s Q) :
    Tr V (if h : c then p h else q h) s Q := by
  by_cases h : c
  · rw [dif_pos h]; exact h1 h
  · rw [dif_neg h]; exact h2 h

end Cert.Tr

end
-- ==== Proof.StK.lean ====
/-
  The buffers of the kernel body of `Kernel` as one plain state: the fifteen input windows (`In`, only read), and the
  output window with the ten scratch buffers (`St`). `Own` says they hold a state; the instances say which
  memref is which field.
-/
module

public import proofs.«01_k».proof.Proof.Gen.Kernel.Points
public import proofs.«01_k».proof.Proof.Tr

@[expose] public section

noncomputable section

namespace Cert.Kernel.Body

open Cert.Kernel Cert.Kernel.Gen Cert.Tr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The body's memrefs. -/
structure Args where
  a2 : Memref sig .tc .vmem S1x256x1024 .f32
  h2 : a2.IsWhole
  a3 : Memref sig .tc .vmem S1x1024 .f32
  h3 : a3.IsWhole
  a4 : Memref sig .tc .vmem S1024x7168 .bf16
  h4 : a4.IsWhole
  a5 : Memref sig .tc .vmem S1x7168 .f32
  h5 : a5.IsWhole
  a6 : Memref sig .tc .vmem S31x1024 .f32
  h6 : a6.IsWhole
  a7 : Memref sig .tc .vmem S1x1024 .f32
  h7 : a7.IsWhole
  a8 : Memref sig .tc .vmem S1x1024 .f32
  h8 : a8.IsWhole
  a9 : Memref sig .tc .vmem S1x1024 .f32
  h9 : a9.IsWhole
  a10 : Memref sig .tc .vmem S1024x1024 .bf16
  h10 : a10.IsWhole
  a11 : Memref sig .tc .vmem S4x256x256 .bf16
  h11 : a11.IsWhole
  a12 : Memref sig .tc .vmem S1x1024 .f32
  h12 : a12.IsWhole
  a13 : Memref sig .tc .vmem S1x1024 .f32
  h13 : a13.IsWhole
  a14 : Memref sig .tc .vmem S1024x1024 .bf16
  h14 : a14.IsWhole
  a15 : Memref sig .tc .vmem S1024x1024 .bf16
  h15 : a15.IsWhole
  a16 : Memref sig .tc .vmem S1x1024 .f32
  h16 : a16.IsWhole
  a17 : Memref sig .tc .vmem S1x256x1024 .f32
  h17 : a17.IsWhole
  a18 : Memref sig .tc .vmem S256x1024 .bf16
  h18 : a18.IsWhole
  a19 : Memref sig .tc .vmem S7x256x1024 .f32
  h19 : a19.IsWhole
  a20 : Memref sig .tc .vmem S4x576x128 .bf16
  h20 : a20.IsWhole
  a21 : Memref sig .tc .vmem S8x272x128 .f32
  h21 : a21.IsWhole
  a22 : Memref sig .tc .vmem S8x256x128 .f32
  h22 : a22.IsWhole
  a23 : Memref sig .tc .vmem S8x256x128 .f32
  h23 : a23.IsWhole
  a24 : Memref sig .tc .vmem S3x256x1024 .bf16
  h24 : a24.IsWhole
  a25 : Memref sig .tc .vmem S256x1024 .bf16
  h25 : a25.IsWhole
  a26 : Memref sig .tc .vmem S256x1024 .f32
  h26 : a26.IsWhole
  a27 : Memref sig .tc .vmem S2x256x1024 .f32
  h27 : a27.IsWhole

variable (F : FTy → Type) [BitOps F]

/-- What the input windows hold. -/
structure In where
  x : S1x256x1024.Idx → Elt F .f32
  ng : S1x1024.Idx → Elt F .f32
  wi : S1024x7168.Idx → Elt F .bf16
  bi : S1x7168.Idx → Elt F .f32
  cw : S31x1024.Idx → Elt F .f32
  cb : S1x1024.Idx → Elt F .f32
  lg : S1x1024.Idx → Elt F .f32
  lb : S1x1024.Idx → Elt F .f32
  wa : S1024x1024.Idx → Elt F .bf16
  wp : S4x256x256.Idx → Elt F .bf16
  bp : S1x1024.Idx → Elt F .f32
  ps : S1x1024.Idx → Elt F .f32
  wb : S1024x1024.Idx → Elt F .bf16
  wo : S1024x1024.Idx → Elt F .bf16
  nf : S1x1024.Idx → Elt F .f32

/-- What the output window and the scratch buffers hold. -/
structure St where
  o : S1x256x1024.Idx → Elt F .f32
  h : S256x1024.Idx → Elt F .bf16
  z : S7x256x1024.Idx → Elt F .f32
  u : S4x576x128.Idx → Elt F .bf16
  v : S8x272x128.Idx → Elt F .f32
  c : S8x256x128.Idx → Elt F .f32
  m : S8x256x128.Idx → Elt F .f32
  l : S3x256x1024.Idx → Elt F .bf16
  q : S256x1024.Idx → Elt F .bf16
  p : S256x1024.Idx → Elt F .f32
  y : S2x256x1024.Idx → Elt F .f32

variable {F} (A : Args) (I : In F) (d : Dev nD)

local notation "𝕄" => MT nD τ sig Unit (Elt F) ℕ (UR sig nD τ) ℕ

/-- The buffers hold `I` and `s`. -/
def Own (s : St F) : sProp 𝕄 :=
  iprop(owns (d : Thread nD τ) A.a2 fullShare I.x ∗ owns (d : Thread nD τ) A.a3 fullShare I.ng ∗ owns (d : Thread nD τ) A.a4 fullShare I.wi ∗ owns (d : Thread nD τ) A.a5 fullShare I.bi ∗ owns (d : Thread nD τ) A.a6 fullShare I.cw ∗ owns (d : Thread nD τ) A.a7 fullShare I.cb ∗ owns (d : Thread nD τ) A.a8 fullShare I.lg ∗ owns (d : Thread nD τ) A.a9 fullShare I.lb ∗ owns (d : Thread nD τ) A.a10 fullShare I.wa ∗ owns (d : Thread nD τ) A.a11 fullShare I.wp ∗ owns (d : Thread nD τ) A.a12 fullShare I.bp ∗ owns (d : Thread nD τ) A.a13 fullShare I.ps ∗ owns (d : Thread nD τ) A.a14 fullShare I.wb ∗ owns (d : Thread nD τ) A.a15 fullShare I.wo ∗ owns (d : Thread nD τ) A.a16 fullShare I.nf ∗ owns (d : Thread nD τ) A.a17 fullShare s.o ∗ owns (d : Thread nD τ) A.a18 fullShare s.h ∗ owns (d : Thread nD τ) A.a19 fullShare s.z ∗ owns (d : Thread nD τ) A.a20 fullShare s.u ∗ owns (d : Thread nD τ) A.a21 fullShare s.v ∗ owns (d : Thread nD τ) A.a22 fullShare s.c ∗ owns (d : Thread nD τ) A.a23 fullShare s.m ∗ owns (d : Thread nD τ) A.a24 fullShare s.l ∗ owns (d : Thread nD τ) A.a25 fullShare s.q ∗ owns (d : Thread nD τ) A.a26 fullShare s.p ∗ owns (d : Thread nD τ) A.a27 fullShare s.y)

/-- Runs of the body on these buffers. -/
def Ev : Env nD τ sig Unit (Elt F) ℕ (UR sig nD τ) ℕ Λ₀ (St F) := ⟨defs₀ (F := F), Variants.none, d, Own A I d⟩

/-- One of several buffers is taken, and given back. -/
theorem accR_head (P R : sProp 𝕄) : iprop(P ∗ R) ⊢ iprop(P ∗ (P -∗ P ∗ R)) := by
  iintro ⟨H, K⟩
  isplitl [H]
  · iexact H
  iintro H
  isplitl [H]; iexact H
  iexact K

theorem accR_tail {P Q R : sProp 𝕄} (h : R ⊢ iprop(Q ∗ (Q -∗ R))) : iprop(P ∗ R) ⊢ iprop(Q ∗ (Q -∗ P ∗ R)) := by
  refine (sep_mono .rfl h).trans ?_
  iintro ⟨K, H, W⟩
  isplitl [H]
  · iexact H
  iintro H
  isplitl [K]; iexact K
  iapply W; iexact H

/-- One of several buffers is taken, and given back with other contents. -/
theorem acc_head {α : Type} (P : α → sProp 𝕄) (R : sProp 𝕄) (a : α) : iprop(P a ∗ R) ⊢ iprop(P a ∗ (∀ X, P X -∗ P X ∗ R)) := by
  iintro ⟨H, K⟩
  isplitl [H]
  · iexact H
  iintro %X H
  isplitl [H]; iexact H
  iexact K

theorem acc_last {α : Type} (P : α → sProp 𝕄) (a : α) : P a ⊢ iprop(P a ∗ (∀ X, P X -∗ P X)) := by
  iintro H
  isplitl [H]
  · iexact H
  iintro %X H
  iexact H

theorem acc_tail {α : Type} {P Q R : sProp 𝕄} {Q' R' : α → sProp 𝕄} (h : R ⊢ iprop(Q ∗ (∀ X, Q' X -∗ R' X))) :
    iprop(P ∗ R) ⊢ iprop(Q ∗ (∀ X, Q' X -∗ P ∗ R' X)) := by
  refine (sep_mono .rfl h).trans ?_
  iintro ⟨K, H, W⟩
  isplitl [H]
  · iexact H
  iintro %X H
  isplitl [K]; iexact K
  iapply W; iexact H

instance : AccR (Ev A I d) A.a2 (fun _ => I.x) where
  acc s := by
    show Own A I d s ⊢ iprop(owns (d : Thread nD τ) A.a2 fullShare I.x ∗ (owns (d : Thread nD τ) A.a2 fullShare I.x -∗ Own A I d s))
    unfold Own
    exact accR_head _ _

instance : AccR (Ev A I d) A.a3 (fun _ => I.ng) where
  acc s := by
    show Own A I d s ⊢ iprop(owns (d : Thread nD τ) A.a3 fullShare I.ng ∗ (owns (d : Thread nD τ) A.a3 fullShare I.ng -∗ Own A I d s))
    unfold Own
    iterate 1 refine accR_tail ?_
    exact accR_head _ _

instance : AccR (Ev A I d) A.a4 (fun _ => I.wi) where
  acc s := by
    show Own A I d s ⊢ iprop(owns (d : Thread nD τ) A.a4 fullShare I.wi ∗ (owns (d : Thread nD τ) A.a4 fullShare I.wi -∗ Own A I d s))
    unfold Own
    iterate 2 refine accR_tail ?_
    exact accR_head _ _

instance : AccR (Ev A I d) A.a5 (fun _ => I.bi) where
  acc s := by
    show Own A I d s ⊢ iprop(owns (d : Thread nD τ) A.a5 fullShare I.bi ∗ (owns (d : Thread nD τ) A.a5 fullShare I.bi -∗ Own A I d s))
    unfold Own
    iterate 3 refine accR_tail ?_
    exact accR_head _ _

instance : AccR (Ev A I d) A.a6 (fun _ => I.cw) where
  acc s := by
    show Own A I d s ⊢ iprop(owns (d : Thread nD τ) A.a6 fullShare I.cw ∗ (owns (d : Thread nD τ) A.a6 fullShare I.cw -∗ Own A I d s))
    unfold Own
    iterate 4 refine accR_tail ?_
    exact accR_head _ _

instance : AccR (Ev A I d) A.a7 (fun _ => I.cb) where
  acc s := by
    show Own A I d s ⊢ iprop(owns (d : Thread nD τ) A.a7 fullShare I.cb ∗ (owns (d : Thread nD τ) A.a7 fullShare I.cb -∗ Own A I d s))
    unfold Own
    iterate 5 refine accR_tail ?_
    exact accR_head _ _

instance : AccR (Ev A I d) A.a8 (fun _ => I.lg) where
  acc s := by
    show Own A I d s ⊢ iprop(owns (d : Thread nD τ) A.a8 fullShare I.lg ∗ (owns (d : Thread nD τ) A.a8 fullShare I.lg -∗ Own A I d s))
    unfold Own
    iterate 6 refine accR_tail ?_
    exact accR_head _ _

instance : AccR (Ev A I d) A.a9 (fun _ => I.lb) where
  acc s := by
    show Own A I d s ⊢ iprop(owns (d : Thread nD τ) A.a9 fullShare I.lb ∗ (owns (d : Thread nD τ) A.a9 fullShare I.lb -∗ Own A I d s))
    unfold Own
    iterate 7 refine accR_tail ?_
    exact accR_head _ _

instance : AccR (Ev A I d) A.a10 (fun _ => I.wa) where
  acc s := by
    show Own A I d s ⊢ iprop(owns (d : Thread nD τ) A.a10 fullShare I.wa ∗ (owns (d : Thread nD τ) A.a10 fullShare I.wa -∗ Own A I d s))
    unfold Own
    iterate 8 refine accR_tail ?_
    exact accR_head _ _

instance : AccR (Ev A I d) A.a11 (fun _ => I.wp) where
  acc s := by
    show Own A I d s ⊢ iprop(owns (d : Thread nD τ) A.a11 fullShare I.wp ∗ (owns (d : Thread nD τ) A.a11 fullShare I.wp -∗ Own A I d s))
    unfold Own
    iterate 9 refine accR_tail ?_
    exact accR_head _ _

instance : AccR (Ev A I d) A.a12 (fun _ => I.bp) where
  acc s := by
    show Own A I d s ⊢ iprop(owns (d : Thread nD τ) A.a12 fullShare I.bp ∗ (owns (d : Thread nD τ) A.a12 fullShare I.bp -∗ Own A I d s))
    unfold Own
    iterate 10 refine accR_tail ?_
    exact accR_head _ _

instance : AccR (Ev A I d) A.a13 (fun _ => I.ps) where
  acc s := by
    show Own A I d s ⊢ iprop(owns (d : Thread nD τ) A.a13 fullShare I.ps ∗ (owns (d : Thread nD τ) A.a13 fullShare I.ps -∗ Own A I d s))
    unfold Own
    iterate 11 refine accR_tail ?_
    exact accR_head _ _

instance : AccR (Ev A I d) A.a14 (fun _ => I.wb) where
  acc s := by
    show Own A I d s ⊢ iprop(owns (d : Thread nD τ) A.a14 fullShare I.wb ∗ (owns (d : Thread nD τ) A.a14 fullShare I.wb -∗ Own A I d s))
    unfold Own
    iterate 12 refine accR_tail ?_
    exact accR_head _ _

instance : AccR (Ev A I d) A.a15 (fun _ => I.wo) where
  acc s := by
    show Own A I d s ⊢ iprop(owns (d : Thread nD τ) A.a15 fullShare I.wo ∗ (owns (d : Thread nD τ) A.a15 fullShare I.wo -∗ Own A I d s))
    unfold Own
    iterate 13 refine accR_tail ?_
    exact accR_head _ _

instance : AccR (Ev A I d) A.a16 (fun _ => I.nf) where
  acc s := by
    show Own A I d s ⊢ iprop(owns (d : Thread nD τ) A.a16 fullShare I.nf ∗ (owns (d : Thread nD τ) A.a16 fullShare I.nf -∗ Own A I d s))
    unfold Own
    iterate 14 refine accR_tail ?_
    exact accR_head _ _

instance : Acc (Ev A I d) A.a17 (fun s => s.o) (fun s X => { s with o := X }) where
  acc s := by
    show Own A I d s ⊢ iprop(owns (d : Thread nD τ) A.a17 fullShare s.o ∗ (∀ X, owns (d : Thread nD τ) A.a17 fullShare X -∗ Own A I d { s with o := X }))
    unfold Own
    dsimp only
    iterate 15 refine acc_tail ?_
    exact acc_head _ _ _

instance : AccR (Ev A I d) A.a17 (fun s => s.o) where
  acc s := ((inferInstance : Acc (Ev A I d) A.a17 (fun s => s.o) (fun s X => { s with o := X })).acc s).trans
    (sep_mono .rfl (forall_elim _))

instance : Acc (Ev A I d) A.a18 (fun s => s.h) (fun s X => { s with h := X }) where
  acc s := by
    show Own A I d s ⊢ iprop(owns (d : Thread nD τ) A.a18 fullShare s.h ∗ (∀ X, owns (d : Thread nD τ) A.a18 fullShare X -∗ Own A I d { s with h := X }))
    unfold Own
    dsimp only
    iterate 16 refine acc_tail ?_
    exact acc_head _ _ _

instance : AccR (Ev A I d) A.a18 (fun s => s.h) where
  acc s := ((inferInstance : Acc (Ev A I d) A.a18 (fun s => s.h) (fun s X => { s with h := X })).acc s).trans
    (sep_mono .rfl (forall_elim _))

instance : Acc (Ev A I d) A.a19 (fun s => s.z) (fun s X => { s with z := X }) where
  acc s := by
    show Own A I d s ⊢ iprop(owns (d : Thread nD τ) A.a19 fullShare s.z ∗ (∀ X, owns (d : Thread nD τ) A.a19 fullShare X -∗ Own A I d { s with z := X }))
    unfold Own
    dsimp only
    iterate 17 refine acc_tail ?_
    exact acc_head _ _ _

instance : AccR (Ev A I d) A.a19 (fun s => s.z) where
  acc s := ((inferInstance : Acc (Ev A I d) A.a19 (fun s => s.z) (fun s X => { s with z := X })).acc s).trans
    (sep_mono .rfl (forall_elim _))

instance : Acc (Ev A I d) A.a20 (fun s => s.u) (fun s X => { s with u := X }) where
  acc s := by
    show Own A I d s ⊢ iprop(owns (d : Thread nD τ) A.a20 fullShare s.u ∗ (∀ X, owns (d : Thread nD τ) A.a20 fullShare X -∗ Own A I d { s with u := X }))
    unfold Own
    dsimp only
    iterate 18 refine acc_tail ?_
    exact acc_head _ _ _

instance : AccR (Ev A I d) A.a20 (fun s => s.u) where
  acc s := ((inferInstance : Acc (Ev A I d) A.a20 (fun s => s.u) (fun s X => { s with u := X })).acc s).trans
    (sep_mono .rfl (forall_elim _))

instance : Acc (Ev A I d) A.a21 (fun s => s.v) (fun s X => { s with v := X }) where
  acc s := by
    show Own A I d s ⊢ iprop(owns (d : Thread nD τ) A.a21 fullShare s.v ∗ (∀ X, owns (d : Thread nD τ) A.a21 fullShare X -∗ Own A I d { s with v := X }))
    unfold Own
    dsimp only
    iterate 19 refine acc_tail ?_
    exact acc_head _ _ _

instance : AccR (Ev A I d) A.a21 (fun s => s.v) where
  acc s := ((inferInstance : Acc (Ev A I d) A.a21 (fun s => s.v) (fun s X => { s with v := X })).acc s).trans
    (sep_mono .rfl (forall_elim _))

instance : Acc (Ev A I d) A.a22 (fun s => s.c) (fun s X => { s with c := X }) where
  acc s := by
    show Own A I d s ⊢ iprop(owns (d : Thread nD τ) A.a22 fullShare s.c ∗ (∀ X, owns (d : Thread nD τ) A.a22 fullShare X -∗ Own A I d { s with c := X }))
    unfold Own
    dsimp only
    iterate 20 refine acc_tail ?_
    exact acc_head _ _ _

instance : AccR (Ev A I d) A.a22 (fun s => s.c) where
  acc s := ((inferInstance : Acc (Ev A I d) A.a22 (fun s => s.c) (fun s X => { s with c := X })).acc s).trans
    (sep_mono .rfl (forall_elim _))

instance : Acc (Ev A I d) A.a23 (fun s => s.m) (fun s X => { s with m := X }) where
  acc s := by
    show Own A I d s ⊢ iprop(owns (d : Thread nD τ) A.a23 fullShare s.m ∗ (∀ X, owns (d : Thread nD τ) A.a23 fullShare X -∗ Own A I d { s with m := X }))
    unfold Own
    dsimp only
    iterate 21 refine acc_tail ?_
    exact acc_head _ _ _

instance : AccR (Ev A I d) A.a23 (fun s => s.m) where
  acc s := ((inferInstance : Acc (Ev A I d) A.a23 (fun s => s.m) (fun s X => { s with m := X })).acc s).trans
    (sep_mono .rfl (forall_elim _))

instance : Acc (Ev A I d) A.a24 (fun s => s.l) (fun s X => { s with l := X }) where
  acc s := by
    show Own A I d s ⊢ iprop(owns (d : Thread nD τ) A.a24 fullShare s.l ∗ (∀ X, owns (d : Thread nD τ) A.a24 fullShare X -∗ Own A I d { s with l := X }))
    unfold Own
    dsimp only
    iterate 22 refine acc_tail ?_
    exact acc_head _ _ _

instance : AccR (Ev A I d) A.a24 (fun s => s.l) where
  acc s := ((inferInstance : Acc (Ev A I d) A.a24 (fun s => s.l) (fun s X => { s with l := X })).acc s).trans
    (sep_mono .rfl (forall_elim _))

instance : Acc (Ev A I d) A.a25 (fun s => s.q) (fun s X => { s with q := X }) where
  acc s := by
    show Own A I d s ⊢ iprop(owns (d : Thread nD τ) A.a25 fullShare s.q ∗ (∀ X, owns (d : Thread nD τ) A.a25 fullShare X -∗ Own A I d { s with q := X }))
    unfold Own
    dsimp only
    iterate 23 refine acc_tail ?_
    exact acc_head _ _ _

instance : AccR (Ev A I d) A.a25 (fun s => s.q) where
  acc s := ((inferInstance : Acc (Ev A I d) A.a25 (fun s => s.q) (fun s X => { s with q := X })).acc s).trans
    (sep_mono .rfl (forall_elim _))

instance : Acc (Ev A I d) A.a26 (fun s => s.p) (fun s X => { s with p := X }) where
  acc s := by
    show Own A I d s ⊢ iprop(owns (d : Thread nD τ) A.a26 fullShare s.p ∗ (∀ X, owns (d : Thread nD τ) A.a26 fullShare X -∗ Own A I d { s with p := X }))
    unfold Own
    dsimp only
    iterate 24 refine acc_tail ?_
    exact acc_head _ _ _

instance : AccR (Ev A I d) A.a26 (fun s => s.p) where
  acc s := ((inferInstance : Acc (Ev A I d) A.a26 (fun s => s.p) (fun s X => { s with p := X })).acc s).trans
    (sep_mono .rfl (forall_elim _))

instance : Acc (Ev A I d) A.a27 (fun s => s.y) (fun s X => { s with y := X }) where
  acc s := by
    show Own A I d s ⊢ iprop(owns (d : Thread nD τ) A.a27 fullShare s.y ∗ (∀ X, owns (d : Thread nD τ) A.a27 fullShare X -∗ Own A I d { s with y := X }))
    unfold Own
    dsimp only
    iterate 25 refine acc_tail ?_
    exact acc_last _ _

instance : AccR (Ev A I d) A.a27 (fun s => s.y) where
  acc s := ((inferInstance : Acc (Ev A I d) A.a27 (fun s => s.y) (fun s X => { s with y := X })).acc s).trans
    (sep_mono .rfl (forall_elim _))

end Cert.Kernel.Body

end
-- ==== Proof.FrK1.lean ====
module

public import proofs.«01_k».proof.Proof.StK

@[expose] public section

set_option maxRecDepth 16384

noncomputable section

namespace Cert.Kernel.Body

open Cert.Kernel Cert.Kernel.Gen Cert.Tr
open Idealize.ShloMosaic Idealize.ShloMosaic.TcCoe
open Idealize.SL.Sem

variable {F : FTy → Type} [BitOps F] (A : Args) (I : In F) (d : Dev nD)

theorem part1_fr (i : grid0.Coords) (c0_i32_3 : BitVec 32) (c1_i32_4 : BitVec 32) (k0_t2 : Fin k0_t2_loop.trips) (s : St F) :
    Tr (Ev A I d) (k0_part1 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 c0_i32_3 c1_i32_4 k0_t2) s (fun _ _ => True) := by
  unfold k0_part1
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part2_fr (i : grid0.Coords) (c0_i32_6 : BitVec 32) (c1_i32_8 : BitVec 32) (k0_t3 : Fin k0_t3_loop.trips) (s : St F) :
    Tr (Ev A I d) (k0_part2 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 c0_i32_6 c1_i32_8 k0_t3) s (fun _ _ => True) := by
  unfold k0_part2
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part3_fr (i : grid0.Coords) (k0_t9 : Fin k0_t9_loop.trips) (arg28 : BitVec 32) (v44 : FVec F S32x128 .bf16) (c0_i32_301 : BitVec 32) (c1_i32_303 : BitVec 32) (k0_t10 : Fin k0_t10_loop.trips) (s : St F) :
    Tr (Ev A I d) (k0_part3 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v44 c0_i32_301 c1_i32_303 k0_t10) s (fun _ _ => True) := by
  unfold k0_part3
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part4_fr (i : grid0.Coords) (k0_t9 : Fin k0_t9_loop.trips) (arg28 : BitVec 32) (v64 : FVec F S32x128 .bf16) (k0_t10 : Fin k0_t10_loop.trips) (v656 : BitVec 32) (s : St F) :
    Tr (Ev A I d) (k0_part4 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v64 k0_t10 v656) s (fun _ _ => True) := by
  unfold k0_part4
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part5_fr (i : grid0.Coords) (k0_t9 : Fin k0_t9_loop.trips) (arg28 : BitVec 32) (v84 : FVec F S32x128 .bf16) (k0_t10 : Fin k0_t10_loop.trips) (v656 : BitVec 32) (v666 : FVec F S32x128 .bf16) (v676 : FVec F S32x128 .bf16) (v686 : FVec F S32x128 .bf16) (v696 : FVec F S32x128 .bf16) (v738 : BitVec 32) (s : St F) :
    Tr (Ev A I d) (k0_part5 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v84 k0_t10 v656 v666 v676 v686 v696 v738) s (fun _ _ => True) := by
  unfold k0_part5
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part6_fr (i : grid0.Coords) (k0_t9 : Fin k0_t9_loop.trips) (arg28 : BitVec 32) (v104 : FVec F S32x128 .bf16) (k0_t10 : Fin k0_t10_loop.trips) (v656 : BitVec 32) (v706 : FVec F S32x128 .bf16) (v716 : FVec F S32x128 .bf16) (v726 : FVec F S32x128 .bf16) (v736 : FVec F S32x128 .bf16) (v782 : BitVec 32) (s : St F) :
    Tr (Ev A I d) (k0_part6 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v104 k0_t10 v656 v706 v716 v726 v736 v782) s (fun _ _ => True) := by
  unfold k0_part6
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part7_fr (i : grid0.Coords) (k0_t9 : Fin k0_t9_loop.trips) (arg28 : BitVec 32) (v124 : FVec F S32x128 .bf16) (k0_t10 : Fin k0_t10_loop.trips) (v656 : BitVec 32) (v747 : FVec F S32x128 .bf16) (v758 : FVec F S32x128 .bf16) (v769 : FVec F S32x128 .bf16) (v780 : FVec F S32x128 .bf16) (v826 : BitVec 32) (s : St F) :
    Tr (Ev A I d) (k0_part7 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v124 k0_t10 v656 v747 v758 v769 v780 v826) s (fun _ _ => True) := by
  unfold k0_part7
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part8_fr (i : grid0.Coords) (k0_t9 : Fin k0_t9_loop.trips) (arg28 : BitVec 32) (v144 : FVec F S32x128 .bf16) (k0_t10 : Fin k0_t10_loop.trips) (v656 : BitVec 32) (v791 : FVec F S32x128 .bf16) (v802 : FVec F S32x128 .bf16) (v813 : FVec F S32x128 .bf16) (v824 : FVec F S32x128 .bf16) (v870 : BitVec 32) (s : St F) :
    Tr (Ev A I d) (k0_part8 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v144 k0_t10 v656 v791 v802 v813 v824 v870) s (fun _ _ => True) := by
  unfold k0_part8
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part9_fr (i : grid0.Coords) (k0_t9 : Fin k0_t9_loop.trips) (arg28 : BitVec 32) (v164 : FVec F S32x128 .bf16) (k0_t10 : Fin k0_t10_loop.trips) (v656 : BitVec 32) (v835 : FVec F S32x128 .bf16) (v846 : FVec F S32x128 .bf16) (v857 : FVec F S32x128 .bf16) (v868 : FVec F S32x128 .bf16) (v914 : BitVec 32) (s : St F) :
    Tr (Ev A I d) (k0_part9 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v164 k0_t10 v656 v835 v846 v857 v868 v914) s (fun _ _ => True) := by
  unfold k0_part9
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part10_fr (i : grid0.Coords) (k0_t9 : Fin k0_t9_loop.trips) (arg28 : BitVec 32) (v184 : FVec F S32x128 .bf16) (k0_t10 : Fin k0_t10_loop.trips) (v656 : BitVec 32) (v879 : FVec F S32x128 .bf16) (v890 : FVec F S32x128 .bf16) (v901 : FVec F S32x128 .bf16) (v912 : FVec F S32x128 .bf16) (v958 : BitVec 32) (s : St F) :
    Tr (Ev A I d) (k0_part10 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v184 k0_t10 v656 v879 v890 v901 v912 v958) s (fun _ _ => True) := by
  unfold k0_part10
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part11_fr (i : grid0.Coords) (k0_t9 : Fin k0_t9_loop.trips) (arg28 : BitVec 32) (v204 : FVec F S32x128 .bf16) (k0_t10 : Fin k0_t10_loop.trips) (v656 : BitVec 32) (v923 : FVec F S32x128 .bf16) (v934 : FVec F S32x128 .bf16) (v945 : FVec F S32x128 .bf16) (v956 : FVec F S32x128 .bf16) (v1002 : BitVec 32) (s : St F) :
    Tr (Ev A I d) (k0_part11 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v204 k0_t10 v656 v923 v934 v945 v956 v1002) s (fun _ _ => True) := by
  unfold k0_part11
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part12_fr (i : grid0.Coords) (k0_t9 : Fin k0_t9_loop.trips) (arg28 : BitVec 32) (v224 : FVec F S32x128 .bf16) (k0_t10 : Fin k0_t10_loop.trips) (v656 : BitVec 32) (v967 : FVec F S32x128 .bf16) (v978 : FVec F S32x128 .bf16) (v989 : FVec F S32x128 .bf16) (v1000 : FVec F S32x128 .bf16) (v1046 : BitVec 32) (s : St F) :
    Tr (Ev A I d) (k0_part12 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v224 k0_t10 v656 v967 v978 v989 v1000 v1046) s (fun _ _ => True) := by
  unfold k0_part12
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part13_fr (i : grid0.Coords) (k0_t9 : Fin k0_t9_loop.trips) (arg28 : BitVec 32) (v244 : FVec F S32x128 .bf16) (k0_t10 : Fin k0_t10_loop.trips) (v656 : BitVec 32) (v1011 : FVec F S32x128 .bf16) (v1022 : FVec F S32x128 .bf16) (v1033 : FVec F S32x128 .bf16) (v1044 : FVec F S32x128 .bf16) (v1090 : BitVec 32) (s : St F) :
    Tr (Ev A I d) (k0_part13 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v244 k0_t10 v656 v1011 v1022 v1033 v1044 v1090) s (fun _ _ => True) := by
  unfold k0_part13
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part14_fr (i : grid0.Coords) (k0_t9 : Fin k0_t9_loop.trips) (arg28 : BitVec 32) (v264 : FVec F S32x128 .bf16) (k0_t10 : Fin k0_t10_loop.trips) (v656 : BitVec 32) (v1055 : FVec F S32x128 .bf16) (v1066 : FVec F S32x128 .bf16) (v1077 : FVec F S32x128 .bf16) (v1088 : FVec F S32x128 .bf16) (v1134 : BitVec 32) (s : St F) :
    Tr (Ev A I d) (k0_part14 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v264 k0_t10 v656 v1055 v1066 v1077 v1088 v1134) s (fun _ _ => True) := by
  unfold k0_part14
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part15_fr (i : grid0.Coords) (k0_t9 : Fin k0_t9_loop.trips) (arg28 : BitVec 32) (v284 : FVec F S32x128 .bf16) (k0_t10 : Fin k0_t10_loop.trips) (v656 : BitVec 32) (v1099 : FVec F S32x128 .bf16) (v1110 : FVec F S32x128 .bf16) (v1121 : FVec F S32x128 .bf16) (v1132 : FVec F S32x128 .bf16) (v1178 : BitVec 32) (s : St F) :
    Tr (Ev A I d) (k0_part15 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v284 k0_t10 v656 v1099 v1110 v1121 v1132 v1178) s (fun _ _ => True) := by
  unfold k0_part15
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part16_fr (i : grid0.Coords) (k0_t9 : Fin k0_t9_loop.trips) (arg28 : BitVec 32) (v304 : FVec F S32x128 .bf16) (k0_t10 : Fin k0_t10_loop.trips) (v656 : BitVec 32) (v1143 : FVec F S32x128 .bf16) (v1154 : FVec F S32x128 .bf16) (v1165 : FVec F S32x128 .bf16) (v1176 : FVec F S32x128 .bf16) (v1222 : BitVec 32) (s : St F) :
    Tr (Ev A I d) (k0_part16 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v304 k0_t10 v656 v1143 v1154 v1165 v1176 v1222) s (fun _ _ => True) := by
  unfold k0_part16
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part17_fr (i : grid0.Coords) (k0_t9 : Fin k0_t9_loop.trips) (arg28 : BitVec 32) (v324 : FVec F S32x128 .bf16) (k0_t10 : Fin k0_t10_loop.trips) (v656 : BitVec 32) (v1187 : FVec F S32x128 .bf16) (v1198 : FVec F S32x128 .bf16) (v1209 : FVec F S32x128 .bf16) (v1220 : FVec F S32x128 .bf16) (v1266 : BitVec 32) (s : St F) :
    Tr (Ev A I d) (k0_part17 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v324 k0_t10 v656 v1187 v1198 v1209 v1220 v1266) s (fun _ _ => True) := by
  unfold k0_part17
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part18_fr (i : grid0.Coords) (k0_t9 : Fin k0_t9_loop.trips) (arg28 : BitVec 32) (v344 : FVec F S32x128 .bf16) (k0_t10 : Fin k0_t10_loop.trips) (v656 : BitVec 32) (v1231 : FVec F S32x128 .bf16) (v1242 : FVec F S32x128 .bf16) (v1253 : FVec F S32x128 .bf16) (v1264 : FVec F S32x128 .bf16) (v1310 : BitVec 32) (s : St F) :
    Tr (Ev A I d) (k0_part18 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v344 k0_t10 v656 v1231 v1242 v1253 v1264 v1310) s (fun _ _ => True) := by
  unfold k0_part18
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part19_fr (i : grid0.Coords) (k0_t9 : Fin k0_t9_loop.trips) (arg28 : BitVec 32) (v364 : FVec F S32x128 .bf16) (k0_t10 : Fin k0_t10_loop.trips) (v656 : BitVec 32) (v1275 : FVec F S32x128 .bf16) (v1286 : FVec F S32x128 .bf16) (v1297 : FVec F S32x128 .bf16) (v1308 : FVec F S32x128 .bf16) (v1354 : BitVec 32) (s : St F) :
    Tr (Ev A I d) (k0_part19 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v364 k0_t10 v656 v1275 v1286 v1297 v1308 v1354) s (fun _ _ => True) := by
  unfold k0_part19
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part20_fr (i : grid0.Coords) (k0_t9 : Fin k0_t9_loop.trips) (arg28 : BitVec 32) (v384 : FVec F S32x128 .bf16) (k0_t10 : Fin k0_t10_loop.trips) (v656 : BitVec 32) (v1319 : FVec F S32x128 .bf16) (v1330 : FVec F S32x128 .bf16) (v1341 : FVec F S32x128 .bf16) (v1352 : FVec F S32x128 .bf16) (v1398 : BitVec 32) (s : St F) :
    Tr (Ev A I d) (k0_part20 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v384 k0_t10 v656 v1319 v1330 v1341 v1352 v1398) s (fun _ _ => True) := by
  unfold k0_part20
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part21_fr (i : grid0.Coords) (k0_t9 : Fin k0_t9_loop.trips) (arg28 : BitVec 32) (v404 : FVec F S32x128 .bf16) (k0_t10 : Fin k0_t10_loop.trips) (v656 : BitVec 32) (v1363 : FVec F S32x128 .bf16) (v1374 : FVec F S32x128 .bf16) (v1385 : FVec F S32x128 .bf16) (v1396 : FVec F S32x128 .bf16) (v1442 : BitVec 32) (s : St F) :
    Tr (Ev A I d) (k0_part21 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v404 k0_t10 v656 v1363 v1374 v1385 v1396 v1442) s (fun _ _ => True) := by
  unfold k0_part21
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part22_fr (i : grid0.Coords) (k0_t9 : Fin k0_t9_loop.trips) (arg28 : BitVec 32) (v424 : FVec F S32x128 .bf16) (k0_t10 : Fin k0_t10_loop.trips) (v656 : BitVec 32) (v1407 : FVec F S32x128 .bf16) (v1418 : FVec F S32x128 .bf16) (v1429 : FVec F S32x128 .bf16) (v1440 : FVec F S32x128 .bf16) (v1486 : BitVec 32) (s : St F) :
    Tr (Ev A I d) (k0_part22 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v424 k0_t10 v656 v1407 v1418 v1429 v1440 v1486) s (fun _ _ => True) := by
  unfold k0_part22
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part23_fr (i : grid0.Coords) (k0_t9 : Fin k0_t9_loop.trips) (arg28 : BitVec 32) (v444 : FVec F S32x128 .bf16) (k0_t10 : Fin k0_t10_loop.trips) (v656 : BitVec 32) (v1451 : FVec F S32x128 .bf16) (v1462 : FVec F S32x128 .bf16) (v1473 : FVec F S32x128 .bf16) (v1484 : FVec F S32x128 .bf16) (v1530 : BitVec 32) (s : St F) :
    Tr (Ev A I d) (k0_part23 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v444 k0_t10 v656 v1451 v1462 v1473 v1484 v1530) s (fun _ _ => True) := by
  unfold k0_part23
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part24_fr (i : grid0.Coords) (k0_t9 : Fin k0_t9_loop.trips) (arg28 : BitVec 32) (v464 : FVec F S32x128 .bf16) (k0_t10 : Fin k0_t10_loop.trips) (v656 : BitVec 32) (v1495 : FVec F S32x128 .bf16) (v1506 : FVec F S32x128 .bf16) (v1517 : FVec F S32x128 .bf16) (v1528 : FVec F S32x128 .bf16) (v1574 : BitVec 32) (s : St F) :
    Tr (Ev A I d) (k0_part24 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v464 k0_t10 v656 v1495 v1506 v1517 v1528 v1574) s (fun _ _ => True) := by
  unfold k0_part24
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part25_fr (i : grid0.Coords) (k0_t9 : Fin k0_t9_loop.trips) (arg28 : BitVec 32) (v484 : FVec F S32x128 .bf16) (k0_t10 : Fin k0_t10_loop.trips) (v656 : BitVec 32) (v1539 : FVec F S32x128 .bf16) (v1550 : FVec F S32x128 .bf16) (v1561 : FVec F S32x128 .bf16) (v1572 : FVec F S32x128 .bf16) (v1618 : BitVec 32) (s : St F) :
    Tr (Ev A I d) (k0_part25 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v484 k0_t10 v656 v1539 v1550 v1561 v1572 v1618) s (fun _ _ => True) := by
  unfold k0_part25
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part26_fr (i : grid0.Coords) (k0_t9 : Fin k0_t9_loop.trips) (arg28 : BitVec 32) (v504 : FVec F S32x128 .bf16) (k0_t10 : Fin k0_t10_loop.trips) (v656 : BitVec 32) (v1583 : FVec F S32x128 .bf16) (v1594 : FVec F S32x128 .bf16) (v1605 : FVec F S32x128 .bf16) (v1616 : FVec F S32x128 .bf16) (v1662 : BitVec 32) (s : St F) :
    Tr (Ev A I d) (k0_part26 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v504 k0_t10 v656 v1583 v1594 v1605 v1616 v1662) s (fun _ _ => True) := by
  unfold k0_part26
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part27_fr (i : grid0.Coords) (k0_t9 : Fin k0_t9_loop.trips) (arg28 : BitVec 32) (v524 : FVec F S32x128 .bf16) (k0_t10 : Fin k0_t10_loop.trips) (v656 : BitVec 32) (v1627 : FVec F S32x128 .bf16) (v1638 : FVec F S32x128 .bf16) (v1649 : FVec F S32x128 .bf16) (v1660 : FVec F S32x128 .bf16) (v1706 : BitVec 32) (s : St F) :
    Tr (Ev A I d) (k0_part27 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v524 k0_t10 v656 v1627 v1638 v1649 v1660 v1706) s (fun _ _ => True) := by
  unfold k0_part27
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part28_fr (i : grid0.Coords) (k0_t9 : Fin k0_t9_loop.trips) (arg28 : BitVec 32) (v544 : FVec F S32x128 .bf16) (k0_t10 : Fin k0_t10_loop.trips) (v656 : BitVec 32) (v1671 : FVec F S32x128 .bf16) (v1682 : FVec F S32x128 .bf16) (v1693 : FVec F S32x128 .bf16) (v1704 : FVec F S32x128 .bf16) (v1750 : BitVec 32) (s : St F) :
    Tr (Ev A I d) (k0_part28 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v544 k0_t10 v656 v1671 v1682 v1693 v1704 v1750) s (fun _ _ => True) := by
  unfold k0_part28
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part29_fr (i : grid0.Coords) (k0_t9 : Fin k0_t9_loop.trips) (arg28 : BitVec 32) (v564 : FVec F S32x128 .bf16) (k0_t10 : Fin k0_t10_loop.trips) (v656 : BitVec 32) (v1715 : FVec F S32x128 .bf16) (v1726 : FVec F S32x128 .bf16) (v1737 : FVec F S32x128 .bf16) (v1748 : FVec F S32x128 .bf16) (v1794 : BitVec 32) (s : St F) :
    Tr (Ev A I d) (k0_part29 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v564 k0_t10 v656 v1715 v1726 v1737 v1748 v1794) s (fun _ _ => True) := by
  unfold k0_part29
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part30_fr (i : grid0.Coords) (k0_t9 : Fin k0_t9_loop.trips) (arg28 : BitVec 32) (v584 : FVec F S32x128 .bf16) (k0_t10 : Fin k0_t10_loop.trips) (v656 : BitVec 32) (v1759 : FVec F S32x128 .bf16) (v1770 : FVec F S32x128 .bf16) (v1781 : FVec F S32x128 .bf16) (v1792 : FVec F S32x128 .bf16) (v1838 : BitVec 32) (s : St F) :
    Tr (Ev A I d) (k0_part30 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v584 k0_t10 v656 v1759 v1770 v1781 v1792 v1838) s (fun _ _ => True) := by
  unfold k0_part30
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part31_fr (i : grid0.Coords) (k0_t9 : Fin k0_t9_loop.trips) (arg28 : BitVec 32) (v604 : FVec F S32x128 .bf16) (k0_t10 : Fin k0_t10_loop.trips) (v656 : BitVec 32) (v1803 : FVec F S32x128 .bf16) (v1814 : FVec F S32x128 .bf16) (v1825 : FVec F S32x128 .bf16) (v1836 : FVec F S32x128 .bf16) (v1882 : BitVec 32) (s : St F) :
    Tr (Ev A I d) (k0_part31 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v604 k0_t10 v656 v1803 v1814 v1825 v1836 v1882) s (fun _ _ => True) := by
  unfold k0_part31
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part32_fr (i : grid0.Coords) (k0_t9 : Fin k0_t9_loop.trips) (arg28 : BitVec 32) (v624 : FVec F S32x128 .bf16) (k0_t10 : Fin k0_t10_loop.trips) (v656 : BitVec 32) (v1847 : FVec F S32x128 .bf16) (v1858 : FVec F S32x128 .bf16) (v1869 : FVec F S32x128 .bf16) (v1880 : FVec F S32x128 .bf16) (v1926 : BitVec 32) (s : St F) :
    Tr (Ev A I d) (k0_part32 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v624 k0_t10 v656 v1847 v1858 v1869 v1880 v1926) s (fun _ _ => True) := by
  unfold k0_part32
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part33_fr (i : grid0.Coords) (k0_t9 : Fin k0_t9_loop.trips) (arg28 : BitVec 32) (v644 : FVec F S32x128 .bf16) (k0_t10 : Fin k0_t10_loop.trips) (v656 : BitVec 32) (v1891 : FVec F S32x128 .bf16) (v1902 : FVec F S32x128 .bf16) (v1913 : FVec F S32x128 .bf16) (v1924 : FVec F S32x128 .bf16) (v1970 : BitVec 32) (s : St F) :
    Tr (Ev A I d) (k0_part33 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v644 k0_t10 v656 v1891 v1902 v1913 v1924 v1970) s (fun _ _ => True) := by
  unfold k0_part33
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part34_fr (i : grid0.Coords) (k0_t9 : Fin k0_t9_loop.trips) (arg28 : BitVec 32) (k0_t10 : Fin k0_t10_loop.trips) (v656 : BitVec 32) (v1935 : FVec F S32x128 .bf16) (v1979 : FVec F S32x128 .bf16) (v2014 : BitVec 32) (s : St F) :
    Tr (Ev A I d) (k0_part34 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 k0_t10 v656 v1935 v1979 v2014) s (fun _ _ => True) := by
  unfold k0_part34
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part35_fr (i : grid0.Coords) (k0_t9 : Fin k0_t9_loop.trips) (arg28 : BitVec 32) (k0_t10 : Fin k0_t10_loop.trips) (v656 : BitVec 32) (v1946 : FVec F S32x128 .bf16) (v1990 : FVec F S32x128 .bf16) (v2054 : FVec F S16x128 .f32) (s : St F) :
    Tr (Ev A I d) (k0_part35 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 k0_t10 v656 v1946 v1990 v2054) s (fun _ _ => True) := by
  unfold k0_part35
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part36_fr (i : grid0.Coords) (k0_t9 : Fin k0_t9_loop.trips) (arg28 : BitVec 32) (k0_t10 : Fin k0_t10_loop.trips) (v656 : BitVec 32) (v1957 : FVec F S32x128 .bf16) (v2001 : FVec F S32x128 .bf16) (v2086 : BitVec 32) (v2102 : FVec F S16x128 .f32) (c1_i32_807 : BitVec 32) (s : St F) :
    Tr (Ev A I d) (k0_part36 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 k0_t10 v656 v1957 v2001 v2086 v2102 c1_i32_807) s (fun _ _ => True) := by
  unfold k0_part36
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part37_fr (i : grid0.Coords) (k0_t9 : Fin k0_t9_loop.trips) (arg28 : BitVec 32) (k0_t10 : Fin k0_t10_loop.trips) (v656 : BitVec 32) (v1968 : FVec F S32x128 .bf16) (v2012 : FVec F S32x128 .bf16) (v2134 : BitVec 32) (v2143 : FVec F S16x128 .f32) (v2145 : BitVec 32) (s : St F) :
    Tr (Ev A I d) (k0_part37 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 k0_t10 v656 v1968 v2012 v2134 v2143 v2145) s (fun _ _ => True) := by
  unfold k0_part37
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part38_fr (i : grid0.Coords) (c0_i32_30 : BitVec 32) (c1_i32_32 : BitVec 32) (k0_t9 : Fin k0_t9_loop.trips) (s : St F) :
    Tr (Ev A I d) (k0_part38 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 c0_i32_30 c1_i32_32 k0_t9) s (fun _ _ => True) := by
  unfold k0_part38
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part39_fr (i : grid0.Coords) (k0_t9 : Fin k0_t9_loop.trips) (arg28 : BitVec 32) (v65 : BitVec 32) (c0_i32_99 : BitVec 32) (s : St F) :
    Tr (Ev A I d) (k0_part39 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v65 c0_i32_99) s (fun _ _ => True) := by
  unfold k0_part39
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part40_fr (i : grid0.Coords) (k0_t9 : Fin k0_t9_loop.trips) (arg28 : BitVec 32) (v108 : BitVec 32) (s : St F) :
    Tr (Ev A I d) (k0_part40 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v108) s (fun _ _ => True) := by
  unfold k0_part40
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part41_fr (i : grid0.Coords) (k0_t9 : Fin k0_t9_loop.trips) (arg28 : BitVec 32) (v151 : FVec F S1x128 .f32) (s : St F) :
    Tr (Ev A I d) (k0_part41 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v151) s (fun _ _ => True) := by
  unfold k0_part41
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part42_fr (i : grid0.Coords) (k0_t9 : Fin k0_t9_loop.trips) (arg28 : BitVec 32) (v193 : FVec F S16x128 .f32) (v194 : BitVec 32) (s : St F) :
    Tr (Ev A I d) (k0_part42 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v193 v194) s (fun _ _ => True) := by
  unfold k0_part42
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part43_fr (i : grid0.Coords) (k0_t9 : Fin k0_t9_loop.trips) (arg28 : BitVec 32) (v233 : FVec F S16x128 .f32) (v236 : BitVec 32) (s : St F) :
    Tr (Ev A I d) (k0_part43 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v233 v236) s (fun _ _ => True) := by
  unfold k0_part43
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part44_fr (i : grid0.Coords) (k0_t9 : Fin k0_t9_loop.trips) (arg28 : BitVec 32) (v273 : FVec F S16x128 .f32) (v279 : Vec F S1x128 .f32) (s : St F) :
    Tr (Ev A I d) (k0_part44 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v273 v279) s (fun _ _ => True) := by
  unfold k0_part44
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part45_fr (i : grid0.Coords) (k0_t9 : Fin k0_t9_loop.trips) (arg28 : BitVec 32) (v323 : IVec S16x128 32) (s : St F) :
    Tr (Ev A I d) (k0_part45 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v323) s (fun _ _ => True) := by
  unfold k0_part45
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part46_fr (i : grid0.Coords) (k0_t9 : Fin k0_t9_loop.trips) (arg28 : BitVec 32) (v365 : BitVec 32) (c0_i32_204 : BitVec 32) (s : St F) :
    Tr (Ev A I d) (k0_part46 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v365 c0_i32_204) s (fun _ _ => True) := by
  unfold k0_part46
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part47_fr (i : grid0.Coords) (k0_t9 : Fin k0_t9_loop.trips) (arg28 : BitVec 32) (v408 : BitVec 32) (s : St F) :
    Tr (Ev A I d) (k0_part47 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v408) s (fun _ _ => True) := by
  unfold k0_part47
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part48_fr (i : grid0.Coords) (k0_t9 : Fin k0_t9_loop.trips) (arg28 : BitVec 32) (v451 : FVec F S1x128 .f32) (s : St F) :
    Tr (Ev A I d) (k0_part48 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v451) s (fun _ _ => True) := by
  unfold k0_part48
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part49_fr (i : grid0.Coords) (k0_t9 : Fin k0_t9_loop.trips) (arg28 : BitVec 32) (v493 : FVec F S16x128 .f32) (v494 : BitVec 32) (s : St F) :
    Tr (Ev A I d) (k0_part49 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v493 v494) s (fun _ _ => True) := by
  unfold k0_part49
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part50_fr (i : grid0.Coords) (k0_t9 : Fin k0_t9_loop.trips) (arg28 : BitVec 32) (v533 : FVec F S16x128 .f32) (v536 : BitVec 32) (s : St F) :
    Tr (Ev A I d) (k0_part50 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v533 v536) s (fun _ _ => True) := by
  unfold k0_part50
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part51_fr (i : grid0.Coords) (k0_t9 : Fin k0_t9_loop.trips) (arg28 : BitVec 32) (v573 : FVec F S16x128 .f32) (v579 : Vec F S1x128 .f32) (s : St F) :
    Tr (Ev A I d) (k0_part51 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v573 v579) s (fun _ _ => True) := by
  unfold k0_part51
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part52_fr (i : grid0.Coords) (c0_i32_30 : BitVec 32) (c1_i32_32 : BitVec 32) (k0_t9 : Fin k0_t9_loop.trips) (s : St F) :
    Tr (Ev A I d) (k0_part52 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 c0_i32_30 c1_i32_32 k0_t9) s (fun _ _ => True) := by
  unfold k0_part52
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets
    | (with_reducible refine Tr.bind (fun _ _ => True) (part38_fr A I d _ _ _ _ _) ?_; intros)
    | (with_reducible refine Tr.bind (fun _ _ => True) (part39_fr A I d _ _ _ _ _ _) ?_; intros)
    | (with_reducible refine Tr.bind (fun _ _ => True) (part40_fr A I d _ _ _ _ _) ?_; intros)
    | (with_reducible refine Tr.bind (fun _ _ => True) (part41_fr A I d _ _ _ _ _) ?_; intros)
    | (with_reducible refine Tr.bind (fun _ _ => True) (part42_fr A I d _ _ _ _ _ _) ?_; intros)
    | (with_reducible refine Tr.bind (fun _ _ => True) (part43_fr A I d _ _ _ _ _ _) ?_; intros)
    | (with_reducible refine Tr.bind (fun _ _ => True) (part44_fr A I d _ _ _ _ _ _) ?_; intros)
    | (with_reducible refine Tr.bind (fun _ _ => True) (part45_fr A I d _ _ _ _ _) ?_; intros)
    | (with_reducible refine Tr.bind (fun _ _ => True) (part46_fr A I d _ _ _ _ _ _) ?_; intros)
    | (with_reducible refine Tr.bind (fun _ _ => True) (part47_fr A I d _ _ _ _ _) ?_; intros)
    | (with_reducible refine Tr.bind (fun _ _ => True) (part48_fr A I d _ _ _ _ _) ?_; intros)
    | (with_reducible refine Tr.bind (fun _ _ => True) (part49_fr A I d _ _ _ _ _ _) ?_; intros)
    | (with_reducible refine Tr.bind (fun _ _ => True) (part50_fr A I d _ _ _ _ _ _) ?_; intros)
    | (with_reducible refine Tr.bind (fun _ _ => True) (part51_fr A I d _ _ _ _ _ _) ?_; intros)
    | (with_reducible refine Tr.bind (fun _ _ => True) (part3_fr A I d _ _ _ _ _ _ _ _) ?_; intros)
    | (with_reducible refine Tr.bind (fun _ _ => True) (part4_fr A I d _ _ _ _ _ _ _) ?_; intros)
    | (with_reducible refine Tr.bind (fun _ _ => True) (part5_fr A I d _ _ _ _ _ _ _ _ _ _ _ _) ?_; intros)
    | (with_reducible refine Tr.bind (fun _ _ => True) (part6_fr A I d _ _ _ _ _ _ _ _ _ _ _ _) ?_; intros)
    | (with_reducible refine Tr.bind (fun _ _ => True) (part7_fr A I d _ _ _ _ _ _ _ _ _ _ _ _) ?_; intros)
    | (with_reducible refine Tr.bind (fun _ _ => True) (part8_fr A I d _ _ _ _ _ _ _ _ _ _ _ _) ?_; intros)
    | (with_reducible refine Tr.bind (fun _ _ => True) (part9_fr A I d _ _ _ _ _ _ _ _ _ _ _ _) ?_; intros)
    | (with_reducible refine Tr.bind (fun _ _ => True) (part10_fr A I d _ _ _ _ _ _ _ _ _ _ _ _) ?_; intros)
    | (with_reducible refine Tr.bind (fun _ _ => True) (part11_fr A I d _ _ _ _ _ _ _ _ _ _ _ _) ?_; intros)
    | (with_reducible refine Tr.bind (fun _ _ => True) (part12_fr A I d _ _ _ _ _ _ _ _ _ _ _ _) ?_; intros)
    | (with_reducible refine Tr.bind (fun _ _ => True) (part13_fr A I d _ _ _ _ _ _ _ _ _ _ _ _) ?_; intros)
    | (with_reducible refine Tr.bind (fun _ _ => True) (part14_fr A I d _ _ _ _ _ _ _ _ _ _ _ _) ?_; intros)
    | (with_reducible refine Tr.bind (fun _ _ => True) (part15_fr A I d _ _ _ _ _ _ _ _ _ _ _ _) ?_; intros)
    | (with_reducible refine Tr.bind (fun _ _ => True) (part16_fr A I d _ _ _ _ _ _ _ _ _ _ _ _) ?_; intros)
    | (with_reducible refine Tr.bind (fun _ _ => True) (part17_fr A I d _ _ _ _ _ _ _ _ _ _ _ _) ?_; intros)
    | (with_reducible refine Tr.bind (fun _ _ => True) (part18_fr A I d _ _ _ _ _ _ _ _ _ _ _ _) ?_; intros)
    | (with_reducible refine Tr.bind (fun _ _ => True) (part19_fr A I d _ _ _ _ _ _ _ _ _ _ _ _) ?_; intros)
    | (with_reducible refine Tr.bind (fun _ _ => True) (part20_fr A I d _ _ _ _ _ _ _ _ _ _ _ _) ?_; intros)
    | (with_reducible refine Tr.bind (fun _ _ => True) (part21_fr A I d _ _ _ _ _ _ _ _ _ _ _ _) ?_; intros)
    | (with_reducible refine Tr.bind (fun _ _ => True) (part22_fr A I d _ _ _ _ _ _ _ _ _ _ _ _) ?_; intros)
    | (with_reducible refine Tr.bind (fun _ _ => True) (part23_fr A I d _ _ _ _ _ _ _ _ _ _ _ _) ?_; intros)
    | (with_reducible refine Tr.bind (fun _ _ => True) (part24_fr A I d _ _ _ _ _ _ _ _ _ _ _ _) ?_; intros)
    | (with_reducible refine Tr.bind (fun _ _ => True) (part25_fr A I d _ _ _ _ _ _ _ _ _ _ _ _) ?_; intros)
    | (with_reducible refine Tr.bind (fun _ _ => True) (part26_fr A I d _ _ _ _ _ _ _ _ _ _ _ _) ?_; intros)
    | (with_reducible refine Tr.bind (fun _ _ => True) (part27_fr A I d _ _ _ _ _ _ _ _ _ _ _ _) ?_; intros)
    | (with_reducible refine Tr.bind (fun _ _ => True) (part28_fr A I d _ _ _ _ _ _ _ _ _ _ _ _) ?_; intros)
    | (with_reducible refine Tr.bind (fun _ _ => True) (part29_fr A I d _ _ _ _ _ _ _ _ _ _ _ _) ?_; intros)
    | (with_reducible refine Tr.bind (fun _ _ => True) (part30_fr A I d _ _ _ _ _ _ _ _ _ _ _ _) ?_; intros)
    | (with_reducible refine Tr.bind (fun _ _ => True) (part31_fr A I d _ _ _ _ _ _ _ _ _ _ _ _) ?_; intros)
    | (with_reducible refine Tr.bind (fun _ _ => True) (part32_fr A I d _ _ _ _ _ _ _ _ _ _ _ _) ?_; intros)
    | (with_reducible refine Tr.bind (fun _ _ => True) (part33_fr A I d _ _ _ _ _ _ _ _ _ _ _ _) ?_; intros)
    | (with_reducible refine Tr.bind (fun _ _ => True) (part34_fr A I d _ _ _ _ _ _ _ _ _) ?_; intros)
    | (with_reducible refine Tr.bind (fun _ _ => True) (part35_fr A I d _ _ _ _ _ _ _ _ _) ?_; intros)
    | (with_reducible refine Tr.bind (fun _ _ => True) (part36_fr A I d _ _ _ _ _ _ _ _ _ _ _) ?_; intros)
    | (with_reducible refine Tr.bind (fun _ _ => True) (part37_fr A I d _ _ _ _ _ _ _ _ _ _ _) ?_; intros)

theorem part53_fr (i : grid0.Coords) (k0_t11 : Fin k0_t11_loop.trips) (v25 : BitVec 32) (c0_i32_86 : BitVec 32) (c1_i32_88 : BitVec 32) (k0_t12 : Fin k0_t12_loop.trips) (s : St F) :
    Tr (Ev A I d) (k0_part53 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t11 v25 c0_i32_86 c1_i32_88 k0_t12) s (fun _ _ => True) := by
  unfold k0_part53
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part54_fr (i : grid0.Coords) (k0_t11 : Fin k0_t11_loop.trips) (v25 : BitVec 32) (k0_t12 : Fin k0_t12_loop.trips) (v60 : BitVec 32) (v96 : FVec F S16x128 .f32) (c1_i32_115 : BitVec 32) (s : St F) :
    Tr (Ev A I d) (k0_part54 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t11 v25 k0_t12 v60 v96 c1_i32_115) s (fun _ _ => True) := by
  unfold k0_part54
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part55_fr (i : grid0.Coords) (k0_t13 : Fin k0_t13_loop.trips) (v25 : BitVec 32) (c0_i32_86 : BitVec 32) (c1_i32_88 : BitVec 32) (k0_t14 : Fin k0_t14_loop.trips) (s : St F) :
    Tr (Ev A I d) (k0_part55 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t13 v25 c0_i32_86 c1_i32_88 k0_t14) s (fun _ _ => True) := by
  unfold k0_part55
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part56_fr (i : grid0.Coords) (k0_t13 : Fin k0_t13_loop.trips) (v25 : BitVec 32) (k0_t14 : Fin k0_t14_loop.trips) (v60 : BitVec 32) (s : St F) :
    Tr (Ev A I d) (k0_part56 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t13 v25 k0_t14 v60) s (fun _ _ => True) := by
  unfold k0_part56
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part57_fr (i : grid0.Coords) (k0_t13 : Fin k0_t13_loop.trips) (v25 : BitVec 32) (k0_t14 : Fin k0_t14_loop.trips) (v60 : BitVec 32) (v136 : BitVec 32) (s : St F) :
    Tr (Ev A I d) (k0_part57 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t13 v25 k0_t14 v60 v136) s (fun _ _ => True) := by
  unfold k0_part57
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part58_fr (i : grid0.Coords) (k0_t15 : Fin k0_t15_loop.trips) (v25 : BitVec 32) (c0_i32_86 : BitVec 32) (c1_i32_88 : BitVec 32) (k0_t16 : Fin k0_t16_loop.trips) (s : St F) :
    Tr (Ev A I d) (k0_part58 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 c0_i32_86 c1_i32_88 k0_t16) s (fun _ _ => True) := by
  unfold k0_part58
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part59_fr (i : grid0.Coords) (k0_t15 : Fin k0_t15_loop.trips) (v25 : BitVec 32) (k0_t16 : Fin k0_t16_loop.trips) (v60 : BitVec 32) (v91 : FVec F S16x128 .f32) (s : St F) :
    Tr (Ev A I d) (k0_part59 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 k0_t16 v60 v91) s (fun _ _ => True) := by
  unfold k0_part59
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part60_fr (i : grid0.Coords) (k0_t15 : Fin k0_t15_loop.trips) (v25 : BitVec 32) (k0_t16 : Fin k0_t16_loop.trips) (v60 : BitVec 32) (v136 : FVec F S16x128 .f32) (c16_i32_131 : BitVec 32) (s : St F) :
    Tr (Ev A I d) (k0_part60 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 k0_t16 v60 v136 c16_i32_131) s (fun _ _ => True) := by
  unfold k0_part60
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part61_fr (i : grid0.Coords) (k0_t15 : Fin k0_t15_loop.trips) (v25 : BitVec 32) (k0_t16 : Fin k0_t16_loop.trips) (v60 : BitVec 32) (v176 : FVec F S16x128 .f32) (c16_i32_151 : BitVec 32) (s : St F) :
    Tr (Ev A I d) (k0_part61 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 k0_t16 v60 v176 c16_i32_151) s (fun _ _ => True) := by
  unfold k0_part61
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part62_fr (i : grid0.Coords) (k0_t15 : Fin k0_t15_loop.trips) (v25 : BitVec 32) (k0_t16 : Fin k0_t16_loop.trips) (v60 : BitVec 32) (v213 : FVec F S16x128 .f32) (v215 : BitVec 32) (c2_i32_171 : BitVec 32) (s : St F) :
    Tr (Ev A I d) (k0_part62 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 k0_t16 v60 v213 v215 c2_i32_171) s (fun _ _ => True) := by
  unfold k0_part62
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part63_fr (i : grid0.Coords) (k0_t15 : Fin k0_t15_loop.trips) (v25 : BitVec 32) (k0_t16 : Fin k0_t16_loop.trips) (v60 : BitVec 32) (v253 : FVec F S16x128 .f32) (v255 : BitVec 32) (c7_i32_191 : BitVec 32) (s : St F) :
    Tr (Ev A I d) (k0_part63 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 k0_t16 v60 v253 v255 c7_i32_191) s (fun _ _ => True) := by
  unfold k0_part63
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part64_fr (i : grid0.Coords) (k0_t15 : Fin k0_t15_loop.trips) (v25 : BitVec 32) (k0_t16 : Fin k0_t16_loop.trips) (v60 : BitVec 32) (v290 : FVec F S16x128 .f32) (s : St F) :
    Tr (Ev A I d) (k0_part64 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 k0_t16 v60 v290) s (fun _ _ => True) := by
  unfold k0_part64
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part65_fr (i : grid0.Coords) (k0_t17 : Fin k0_t17_loop.trips) (v25 : BitVec 32) (c0_i32_85 : BitVec 32) (c1_i32_87 : BitVec 32) (k0_t18 : Fin k0_t18_loop.trips) (s : St F) :
    Tr (Ev A I d) (k0_part65 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 c0_i32_85 c1_i32_87 k0_t18) s (fun _ _ => True) := by
  unfold k0_part65
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part66_fr (i : grid0.Coords) (k0_t17 : Fin k0_t17_loop.trips) (v25 : BitVec 32) (k0_t18 : Fin k0_t18_loop.trips) (v60 : BitVec 32) (v91 : FVec F S16x128 .f32) (s : St F) :
    Tr (Ev A I d) (k0_part66 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 v91) s (fun _ _ => True) := by
  unfold k0_part66
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part67_fr (i : grid0.Coords) (k0_t17 : Fin k0_t17_loop.trips) (v25 : BitVec 32) (k0_t18 : Fin k0_t18_loop.trips) (v60 : BitVec 32) (v131 : FVec F S16x128 .f32) (s : St F) :
    Tr (Ev A I d) (k0_part67 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 v131) s (fun _ _ => True) := by
  unfold k0_part67
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part68_fr (i : grid0.Coords) (k0_t17 : Fin k0_t17_loop.trips) (v25 : BitVec 32) (k0_t18 : Fin k0_t18_loop.trips) (v60 : BitVec 32) (v171 : FVec F S16x128 .f32) (s : St F) :
    Tr (Ev A I d) (k0_part68 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 v171) s (fun _ _ => True) := by
  unfold k0_part68
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part69_fr (i : grid0.Coords) (k0_t17 : Fin k0_t17_loop.trips) (v25 : BitVec 32) (k0_t18 : Fin k0_t18_loop.trips) (v60 : BitVec 32) (v216 : FVec F S16x128 .f32) (c16_i32_164 : BitVec 32) (s : St F) :
    Tr (Ev A I d) (k0_part69 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 v216 c16_i32_164) s (fun _ _ => True) := by
  unfold k0_part69
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part70_fr (i : grid0.Coords) (k0_t17 : Fin k0_t17_loop.trips) (v25 : BitVec 32) (k0_t18 : Fin k0_t18_loop.trips) (v60 : BitVec 32) (v256 : FVec F S16x128 .f32) (c16_i32_184 : BitVec 32) (s : St F) :
    Tr (Ev A I d) (k0_part70 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 v256 c16_i32_184) s (fun _ _ => True) := by
  unfold k0_part70
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part71_fr (i : grid0.Coords) (k0_t17 : Fin k0_t17_loop.trips) (v25 : BitVec 32) (k0_t18 : Fin k0_t18_loop.trips) (v60 : BitVec 32) (v296 : FVec F S16x128 .f32) (c16_i32_204 : BitVec 32) (s : St F) :
    Tr (Ev A I d) (k0_part71 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 v296 c16_i32_204) s (fun _ _ => True) := by
  unfold k0_part71
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part72_fr (i : grid0.Coords) (k0_t17 : Fin k0_t17_loop.trips) (v25 : BitVec 32) (k0_t18 : Fin k0_t18_loop.trips) (v60 : BitVec 32) (v333 : FVec F S16x128 .f32) (v335 : BitVec 32) (c1_i32_224 : BitVec 32) (s : St F) :
    Tr (Ev A I d) (k0_part72 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 v333 v335 c1_i32_224) s (fun _ _ => True) := by
  unfold k0_part72
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part73_fr (i : grid0.Coords) (k0_t17 : Fin k0_t17_loop.trips) (v25 : BitVec 32) (k0_t18 : Fin k0_t18_loop.trips) (v60 : BitVec 32) (v373 : FVec F S16x128 .f32) (v375 : BitVec 32) (c6_i32_244 : BitVec 32) (s : St F) :
    Tr (Ev A I d) (k0_part73 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 v373 v375 c6_i32_244) s (fun _ _ => True) := by
  unfold k0_part73
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part74_fr (i : grid0.Coords) (k0_t17 : Fin k0_t17_loop.trips) (v25 : BitVec 32) (k0_t18 : Fin k0_t18_loop.trips) (v60 : BitVec 32) (v413 : FVec F S16x128 .f32) (v415 : BitVec 32) (c11_i32_264 : BitVec 32) (s : St F) :
    Tr (Ev A I d) (k0_part74 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 v413 v415 c11_i32_264) s (fun _ _ => True) := by
  unfold k0_part74
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part75_fr (i : grid0.Coords) (k0_t17 : Fin k0_t17_loop.trips) (v25 : BitVec 32) (k0_t18 : Fin k0_t18_loop.trips) (v60 : BitVec 32) (v453 : FVec F S16x128 .f32) (s : St F) :
    Tr (Ev A I d) (k0_part75 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 v453) s (fun _ _ => True) := by
  unfold k0_part75
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part76_fr (i : grid0.Coords) (k0_t17 : Fin k0_t17_loop.trips) (v25 : BitVec 32) (k0_t18 : Fin k0_t18_loop.trips) (v60 : BitVec 32) (v490 : FVec F S16x128 .f32) (s : St F) :
    Tr (Ev A I d) (k0_part76 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 v490) s (fun _ _ => True) := by
  unfold k0_part76
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part77_fr (i : grid0.Coords) (k0_t17 : Fin k0_t17_loop.trips) (v25 : BitVec 32) (k0_t18 : Fin k0_t18_loop.trips) (v60 : BitVec 32) (v530 : FVec F S16x128 .f32) (s : St F) :
    Tr (Ev A I d) (k0_part77 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 v530) s (fun _ _ => True) := by
  unfold k0_part77
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

theorem part78_fr (i : grid0.Coords) (c0_i32_49 : BitVec 32) (c1_i32_51 : BitVec 32) (k0_t19 : Fin k0_t19_loop.trips) (s : St F) :
    Tr (Ev A I d) (k0_part78 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 c0_i32_49 c1_i32_51 k0_t19) s (fun _ _ => True) := by
  unfold k0_part78
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets

end Cert.Kernel.Body

end
-- ==== Proof.FrK2.lean ====
module

public import proofs.«01_k».proof.Proof.StK
public import proofs.«01_k».proof.Proof.FrK1

@[expose] public section

set_option maxRecDepth 16384

noncomputable section

namespace Cert.Kernel.Body

open Cert.Kernel Cert.Kernel.Gen Cert.Tr
open Idealize.ShloMosaic Idealize.ShloMosaic.TcCoe
open Idealize.SL.Sem

variable {F : FTy → Type} [BitOps F] (A : Args) (I : In F) (d : Dev nD)

theorem part79_fr (i : grid0.Coords)  (s : St F) :
    Tr (Ev A I d) (k0_part79 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 ) s (fun _ _ => True) := by
  unfold k0_part79
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets
    | (with_reducible refine Tr.bind (fun _ _ => True) (part1_fr A I d _ _ _ _ _) ?_; intros)
    | (with_reducible refine Tr.bind (fun _ _ => True) (part2_fr A I d _ _ _ _ _) ?_; intros)

theorem part80_fr (i : grid0.Coords) (arg1 : BitVec 32) (c0_i32_30 : BitVec 32) (c1_i32_32 : BitVec 32) (s : St F) :
    Tr (Ev A I d) (k0_part80 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 arg1 c0_i32_30 c1_i32_32) s (fun _ _ => True) := by
  unfold k0_part80
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets
    | (with_reducible refine Tr.bind (fun _ _ => True) (part52_fr A I d _ _ _ _ _) ?_; intros)
    | (with_reducible refine Tr.bind (fun _ _ => True) (part53_fr A I d _ _ _ _ _ _ _) ?_; intros)
    | (with_reducible refine Tr.bind (fun _ _ => True) (part54_fr A I d _ _ _ _ _ _ _ _) ?_; intros)
    | (with_reducible refine Tr.bind (fun _ _ => True) (part55_fr A I d _ _ _ _ _ _ _) ?_; intros)
    | (with_reducible refine Tr.bind (fun _ _ => True) (part56_fr A I d _ _ _ _ _ _) ?_; intros)
    | (with_reducible refine Tr.bind (fun _ _ => True) (part57_fr A I d _ _ _ _ _ _ _) ?_; intros)
    | (with_reducible refine Tr.bind (fun _ _ => True) (part58_fr A I d _ _ _ _ _ _ _) ?_; intros)
    | (with_reducible refine Tr.bind (fun _ _ => True) (part59_fr A I d _ _ _ _ _ _ _) ?_; intros)
    | (with_reducible refine Tr.bind (fun _ _ => True) (part60_fr A I d _ _ _ _ _ _ _ _) ?_; intros)
    | (with_reducible refine Tr.bind (fun _ _ => True) (part61_fr A I d _ _ _ _ _ _ _ _) ?_; intros)
    | (with_reducible refine Tr.bind (fun _ _ => True) (part62_fr A I d _ _ _ _ _ _ _ _ _) ?_; intros)
    | (with_reducible refine Tr.bind (fun _ _ => True) (part63_fr A I d _ _ _ _ _ _ _ _ _) ?_; intros)
    | (with_reducible refine Tr.bind (fun _ _ => True) (part64_fr A I d _ _ _ _ _ _ _) ?_; intros)
    | (with_reducible refine Tr.bind (fun _ _ => True) (part65_fr A I d _ _ _ _ _ _ _) ?_; intros)
    | (with_reducible refine Tr.bind (fun _ _ => True) (part66_fr A I d _ _ _ _ _ _ _) ?_; intros)
    | (with_reducible refine Tr.bind (fun _ _ => True) (part67_fr A I d _ _ _ _ _ _ _) ?_; intros)
    | (with_reducible refine Tr.bind (fun _ _ => True) (part68_fr A I d _ _ _ _ _ _ _) ?_; intros)
    | (with_reducible refine Tr.bind (fun _ _ => True) (part69_fr A I d _ _ _ _ _ _ _ _) ?_; intros)
    | (with_reducible refine Tr.bind (fun _ _ => True) (part70_fr A I d _ _ _ _ _ _ _ _) ?_; intros)
    | (with_reducible refine Tr.bind (fun _ _ => True) (part71_fr A I d _ _ _ _ _ _ _ _) ?_; intros)
    | (with_reducible refine Tr.bind (fun _ _ => True) (part72_fr A I d _ _ _ _ _ _ _ _ _) ?_; intros)
    | (with_reducible refine Tr.bind (fun _ _ => True) (part73_fr A I d _ _ _ _ _ _ _ _ _) ?_; intros)
    | (with_reducible refine Tr.bind (fun _ _ => True) (part74_fr A I d _ _ _ _ _ _ _ _ _) ?_; intros)
    | (with_reducible refine Tr.bind (fun _ _ => True) (part75_fr A I d _ _ _ _ _ _ _) ?_; intros)
    | (with_reducible refine Tr.bind (fun _ _ => True) (part76_fr A I d _ _ _ _ _ _ _) ?_; intros)
    | (with_reducible refine Tr.bind (fun _ _ => True) (part77_fr A I d _ _ _ _ _ _ _) ?_; intros)
    | (with_reducible refine Tr.bind (fun _ _ => True) (part78_fr A I d _ _ _ _ _) ?_; intros)

theorem cc0_hybrid_block_fr (i : grid0.Coords)  (s : St F) :
    Tr (Ev A I d) (cc0_hybrid_block (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 ) s (fun _ _ => True) := by
  unfold cc0_hybrid_block
  repeat' first
    | with_reducible (first | exact Tr.ret trivial | (refine Tr.loadF ?_; intro _) | (refine Tr.storeF ?_; intro _)
                            | (refine Tr.loadRF ?_; intro _) | (refine Tr.forF ?_ ?_ <;> intros) | (refine Tr.iteJ ?_ ?_ <;> intro _))
    | extract_lets
    | (with_reducible refine Tr.bind (fun _ _ => True) (part79_fr A I d _  _) ?_; intros)
    | (with_reducible refine Tr.bind (fun _ _ => True) (part80_fr A I d _ _ _ _ _) ?_; intros)

end Cert.Kernel.Body

end
-- ==== Proof.RunK.lean ====
/-
  The frame of `Kernel`: at every grid point the body runs on its staging buffers and scratch buffers whatever they
  hold (`cc0_hybrid_block_fr`), so the pipeline runs; of the output window nothing is named. The argument arrays
  end unchanged and every semaphore counter at zero.
-/
module

public import proofs.«01_k».proof.Proof.FrK2
public import proofs.«01_k».proof.Proof.Gen.Kernel.Frame
public import proofs.«01_k».proof.Proof.Gen.Kernel.Points
public import Idealize.ShloMosaic.Adequacy
public import Idealize.ShloMosaic.Init

@[expose] public section

set_option maxRecDepth 16384

noncomputable section

namespace Cert.Kernel.Run

open Cert.Kernel Cert.Kernel.Gen Cert.Kernel.Body Cert.Tr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

abbrev 𝒱₀ : Variants := Variants.none

variable {F : FTy → Type} [BitOps F] (m : (ℓ : Loc nD τ sig) → Buf (Elt F) ℓ) (ρ : Dev nD → PrngReg)

/-- The body's memrefs at point `t`. -/
def argsAt (t : Fin cfg0.N) : Args := ⟨(win0_0.stage (cfg0.slots t 0)), (hstage0_0 ((cfg0.slots t 0).cast nbuf0_0)), (win0_1.stage (cfg0.slots t 1)), (hstage0_1 ((cfg0.slots t 1).cast nbuf0_1)), (win0_2.stage (cfg0.slots t 2)), (hstage0_2 ((cfg0.slots t 2).cast nbuf0_2)), (win0_3.stage (cfg0.slots t 3)), (hstage0_3 ((cfg0.slots t 3).cast nbuf0_3)), (win0_4.stage (cfg0.slots t 4)), (hstage0_4 ((cfg0.slots t 4).cast nbuf0_4)), (win0_5.stage (cfg0.slots t 5)), (hstage0_5 ((cfg0.slots t 5).cast nbuf0_5)), (win0_6.stage (cfg0.slots t 6)), (hstage0_6 ((cfg0.slots t 6).cast nbuf0_6)), (win0_7.stage (cfg0.slots t 7)), (hstage0_7 ((cfg0.slots t 7).cast nbuf0_7)), (win0_8.stage (cfg0.slots t 8)), (hstage0_8 ((cfg0.slots t 8).cast nbuf0_8)), (win0_9.stage (cfg0.slots t 9)), (hstage0_9 ((cfg0.slots t 9).cast nbuf0_9)), (win0_10.stage (cfg0.slots t 10)), (hstage0_10 ((cfg0.slots t 10).cast nbuf0_10)), (win0_11.stage (cfg0.slots t 11)), (hstage0_11 ((cfg0.slots t 11).cast nbuf0_11)), (win0_12.stage (cfg0.slots t 12)), (hstage0_12 ((cfg0.slots t 12).cast nbuf0_12)), (win0_13.stage (cfg0.slots t 13)), (hstage0_13 ((cfg0.slots t 13).cast nbuf0_13)), (win0_14.stage (cfg0.slots t 14)), (hstage0_14 ((cfg0.slots t 14).cast nbuf0_14)), (win0_15.stage (cfg0.slots t 15)), (hstage0_15 ((cfg0.slots t 15).cast nbuf0_15)), (Memref.whole cc0_scratch0), (Memref.isWhole_whole _), (Memref.whole cc0_scratch1), (Memref.isWhole_whole _), (Memref.whole cc0_scratch2), (Memref.isWhole_whole _), (Memref.whole cc0_scratch3), (Memref.isWhole_whole _), (Memref.whole cc0_scratch4), (Memref.isWhole_whole _), (Memref.whole cc0_scratch5), (Memref.isWhole_whole _), (Memref.whole cc0_scratch6), (Memref.isWhole_whole _), (Memref.whole cc0_scratch7), (Memref.isWhole_whole _), (Memref.whole cc0_scratch8), (Memref.isWhole_whole _), (Memref.whole cc0_scratch9), (Memref.isWhole_whole _)⟩

/-- What the input windows hold at point `t`. -/
def inAt (c : Dev nD) (t : Fin cfg0.N) : In F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- The arrays as the region finds them; after the body each input buffer at its block, the output's not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | w => Dat.unnamed (cfg := cfg0) w t
  Φ _ := Pipeline.ΦA spec0 c
  q _ := fullShare
  owed _ := 0

theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = iblk m c 8 t := rfl
theorem after0_9 (c : Dev nD) (t : Fin cfg0.N) : (dats m 0 c).after 9 t = iblk m c 9 t := rfl
theorem after0_10 (c : Dev nD) (t : Fin cfg0.N) : (dats m 0 c).after 10 t = iblk m c 10 t := rfl
theorem after0_11 (c : Dev nD) (t : Fin cfg0.N) : (dats m 0 c).after 11 t = iblk m c 11 t := rfl
theorem after0_12 (c : Dev nD) (t : Fin cfg0.N) : (dats m 0 c).after 12 t = iblk m c 12 t := rfl
theorem after0_13 (c : Dev nD) (t : Fin cfg0.N) : (dats m 0 c).after 13 t = iblk m c 13 t := rfl
theorem after0_14 (c : Dev nD) (t : Fin cfg0.N) : (dats m 0 c).after 14 t = iblk m c 14 t := rfl
theorem before0_0 (c : Dev nD) (t : Fin cfg0.N) (d) : (dats m 0 c).before 0 t d = iblk m c 0 t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d
theorem before0_2 (c : Dev nD) (t : Fin cfg0.N) (d) : (dats m 0 c).before 2 t d = iblk m c 2 t :=
  before0_2_of m (dats m 0 c) rfl (after0_2 m c) t d
theorem before0_3 (c : Dev nD) (t : Fin cfg0.N) (d) : (dats m 0 c).before 3 t d = iblk m c 3 t :=
  before0_3_of m (dats m 0 c) rfl (after0_3 m c) t d
theorem before0_4 (c : Dev nD) (t : Fin cfg0.N) (d) : (dats m 0 c).before 4 t d = iblk m c 4 t :=
  before0_4_of m (dats m 0 c) rfl (after0_4 m c) t d
theorem before0_5 (c : Dev nD) (t : Fin cfg0.N) (d) : (dats m 0 c).before 5 t d = iblk m c 5 t :=
  before0_5_of m (dats m 0 c) rfl (after0_5 m c) t d
theorem before0_6 (c : Dev nD) (t : Fin cfg0.N) (d) : (dats m 0 c).before 6 t d = iblk m c 6 t :=
  before0_6_of m (dats m 0 c) rfl (after0_6 m c) t d
theorem before0_7 (c : Dev nD) (t : Fin cfg0.N) (d) : (dats m 0 c).before 7 t d = iblk m c 7 t :=
  before0_7_of m (dats m 0 c) rfl (after0_7 m c) t d
theorem before0_8 (c : Dev nD) (t : Fin cfg0.N) (d) : (dats m 0 c).before 8 t d = iblk m c 8 t :=
  before0_8_of m (dats m 0 c) rfl (after0_8 m c) t d
theorem before0_9 (c : Dev nD) (t : Fin cfg0.N) (d) : (dats m 0 c).before 9 t d = iblk m c 9 t :=
  before0_9_of m (dats m 0 c) rfl (after0_9 m c) t d
theorem before0_10 (c : Dev nD) (t : Fin cfg0.N) (d) : (dats m 0 c).before 10 t d = iblk m c 10 t :=
  before0_10_of m (dats m 0 c) rfl (after0_10 m c) t d
theorem before0_11 (c : Dev nD) (t : Fin cfg0.N) (d) : (dats m 0 c).before 11 t d = iblk m c 11 t :=
  before0_11_of m (dats m 0 c) rfl (after0_11 m c) t d
theorem before0_12 (c : Dev nD) (t : Fin cfg0.N) (d) : (dats m 0 c).before 12 t d = iblk m c 12 t :=
  before0_12_of m (dats m 0 c) rfl (after0_12 m c) t d
theorem before0_13 (c : Dev nD) (t : Fin cfg0.N) (d) : (dats m 0 c).before 13 t d = iblk m c 13 t :=
  before0_13_of m (dats m 0 c) rfl (after0_13 m c) t d
theorem before0_14 (c : Dev nD) (t : Fin cfg0.N) (d) : (dats m 0 c).before 14 t d = iblk m c 14 t :=
  before0_14_of m (dats m 0 c) rfl (after0_14 m c) t d

theorem ex0 (c : Dev nD) : (iprop(∃ f : Buf (Elt F) ((c : Thread nD τ).loc cc0_scratch0), ((c : Thread nD τ).loc cc0_scratch0) ↦{fullShare} f) : sProp (MT nD τ sig Unit (Elt F) ℕ (UR sig nD τ) ℕ))
    = iprop(∃ X : S256x1024.Idx → Elt F .bf16, owns (c : Thread nD τ) (Memref.whole cc0_scratch0) fullShare X) :=
  congrArg (fun P : (S256x1024.Idx → Elt F .bf16) → sProp (MT nD τ sig Unit (Elt F) ℕ (UR sig nD τ) ℕ) => iprop(∃ X, P X)) (funext fun X => (owns_whole (c : Thread nD τ) cc0_scratch0 fullShare X).symm)
theorem ex1 (c : Dev nD) : (iprop(∃ f : Buf (Elt F) ((c : Thread nD τ).loc cc0_scratch1), ((c : Thread nD τ).loc cc0_scratch1) ↦{fullShare} f) : sProp (MT nD τ sig Unit (Elt F) ℕ (UR sig nD τ) ℕ))
    = iprop(∃ X : S7x256x1024.Idx → Elt F .f32, owns (c : Thread nD τ) (Memref.whole cc0_scratch1) fullShare X) :=
  congrArg (fun P : (S7x256x1024.Idx → Elt F .f32) → sProp (MT nD τ sig Unit (Elt F) ℕ (UR sig nD τ) ℕ) => iprop(∃ X, P X)) (funext fun X => (owns_whole (c : Thread nD τ) cc0_scratch1 fullShare X).symm)
theorem ex2 (c : Dev nD) : (iprop(∃ f : Buf (Elt F) ((c : Thread nD τ).loc cc0_scratch2), ((c : Thread nD τ).loc cc0_scratch2) ↦{fullShare} f) : sProp (MT nD τ sig Unit (Elt F) ℕ (UR sig nD τ) ℕ))
    = iprop(∃ X : S4x576x128.Idx → Elt F .bf16, owns (c : Thread nD τ) (Memref.whole cc0_scratch2) fullShare X) :=
  congrArg (fun P : (S4x576x128.Idx → Elt F .bf16) → sProp (MT nD τ sig Unit (Elt F) ℕ (UR sig nD τ) ℕ) => iprop(∃ X, P X)) (funext fun X => (owns_whole (c : Thread nD τ) cc0_scratch2 fullShare X).symm)
theorem ex3 (c : Dev nD) : (iprop(∃ f : Buf (Elt F) ((c : Thread nD τ).loc cc0_scratch3), ((c : Thread nD τ).loc cc0_scratch3) ↦{fullShare} f) : sProp (MT nD τ sig Unit (Elt F) ℕ (UR sig nD τ) ℕ))
    = iprop(∃ X : S8x272x128.Idx → Elt F .f32, owns (c : Thread nD τ) (Memref.whole cc0_scratch3) fullShare X) :=
  congrArg (fun P : (S8x272x128.Idx → Elt F .f32) → sProp (MT nD τ sig Unit (Elt F) ℕ (UR sig nD τ) ℕ) => iprop(∃ X, P X)) (funext fun X => (owns_whole (c : Thread nD τ) cc0_scratch3 fullShare X).symm)
theorem ex4 (c : Dev nD) : (iprop(∃ f : Buf (Elt F) ((c : Thread nD τ).loc cc0_scratch4), ((c : Thread nD τ).loc cc0_scratch4) ↦{fullShare} f) : sProp (MT nD τ sig Unit (Elt F) ℕ (UR sig nD τ) ℕ))
    = iprop(∃ X : S8x256x128.Idx → Elt F .f32, owns (c : Thread nD τ) (Memref.whole cc0_scratch4) fullShare X) :=
  congrArg (fun P : (S8x256x128.Idx → Elt F .f32) → sProp (MT nD τ sig Unit (Elt F) ℕ (UR sig nD τ) ℕ) => iprop(∃ X, P X)) (funext fun X => (owns_whole (c : Thread nD τ) cc0_scratch4 fullShare X).symm)
theorem ex5 (c : Dev nD) : (iprop(∃ f : Buf (Elt F) ((c : Thread nD τ).loc cc0_scratch5), ((c : Thread nD τ).loc cc0_scratch5) ↦{fullShare} f) : sProp (MT nD τ sig Unit (Elt F) ℕ (UR sig nD τ) ℕ))
    = iprop(∃ X : S8x256x128.Idx → Elt F .f32, owns (c : Thread nD τ) (Memref.whole cc0_scratch5) fullShare X) :=
  congrArg (fun P : (S8x256x128.Idx → Elt F .f32) → sProp (MT nD τ sig Unit (Elt F) ℕ (UR sig nD τ) ℕ) => iprop(∃ X, P X)) (funext fun X => (owns_whole (c : Thread nD τ) cc0_scratch5 fullShare X).symm)
theorem ex6 (c : Dev nD) : (iprop(∃ f : Buf (Elt F) ((c : Thread nD τ).loc cc0_scratch6), ((c : Thread nD τ).loc cc0_scratch6) ↦{fullShare} f) : sProp (MT nD τ sig Unit (Elt F) ℕ (UR sig nD τ) ℕ))
    = iprop(∃ X : S3x256x1024.Idx → Elt F .bf16, owns (c : Thread nD τ) (Memref.whole cc0_scratch6) fullShare X) :=
  congrArg (fun P : (S3x256x1024.Idx → Elt F .bf16) → sProp (MT nD τ sig Unit (Elt F) ℕ (UR sig nD τ) ℕ) => iprop(∃ X, P X)) (funext fun X => (owns_whole (c : Thread nD τ) cc0_scratch6 fullShare X).symm)
theorem ex7 (c : Dev nD) : (iprop(∃ f : Buf (Elt F) ((c : Thread nD τ).loc cc0_scratch7), ((c : Thread nD τ).loc cc0_scratch7) ↦{fullShare} f) : sProp (MT nD τ sig Unit (Elt F) ℕ (UR sig nD τ) ℕ))
    = iprop(∃ X : S256x1024.Idx → Elt F .bf16, owns (c : Thread nD τ) (Memref.whole cc0_scratch7) fullShare X) :=
  congrArg (fun P : (S256x1024.Idx → Elt F .bf16) → sProp (MT nD τ sig Unit (Elt F) ℕ (UR sig nD τ) ℕ) => iprop(∃ X, P X)) (funext fun X => (owns_whole (c : Thread nD τ) cc0_scratch7 fullShare X).symm)
theorem ex8 (c : Dev nD) : (iprop(∃ f : Buf (Elt F) ((c : Thread nD τ).loc cc0_scratch8), ((c : Thread nD τ).loc cc0_scratch8) ↦{fullShare} f) : sProp (MT nD τ sig Unit (Elt F) ℕ (UR sig nD τ) ℕ))
    = iprop(∃ X : S256x1024.Idx → Elt F .f32, owns (c : Thread nD τ) (Memref.whole cc0_scratch8) fullShare X) :=
  congrArg (fun P : (S256x1024.Idx → Elt F .f32) → sProp (MT nD τ sig Unit (Elt F) ℕ (UR sig nD τ) ℕ) => iprop(∃ X, P X)) (funext fun X => (owns_whole (c : Thread nD τ) cc0_scratch8 fullShare X).symm)
theorem ex9 (c : Dev nD) : (iprop(∃ f : Buf (Elt F) ((c : Thread nD τ).loc cc0_scratch9), ((c : Thread nD τ).loc cc0_scratch9) ↦{fullShare} f) : sProp (MT nD τ sig Unit (Elt F) ℕ (UR sig nD τ) ℕ))
    = iprop(∃ X : S2x256x1024.Idx → Elt F .f32, owns (c : Thread nD τ) (Memref.whole cc0_scratch9) fullShare X) :=
  congrArg (fun P : (S2x256x1024.Idx → Elt F .f32) → sProp (MT nD τ sig Unit (Elt F) ℕ (UR sig nD τ) ℕ) => iprop(∃ X, P X)) (funext fun X => (owns_whole (c : Thread nD τ) cc0_scratch9 fullShare X).symm)
/-- The scratch buffers, each at some contents. -/
theorem scratch_eq (c : Dev nD) : (Pipeline.scopedRest (Ix := Unit) (Name := ℕ) (U := UR sig nD τ) (Lvl := ℕ) (Val := Elt F) spec0 c : sProp (MT nD τ sig Unit (Elt F) ℕ (UR sig nD τ) ℕ))
    = iprop((∃ X : S256x1024.Idx → Elt F .bf16, owns (c : Thread nD τ) (Memref.whole cc0_scratch0) fullShare X) ∗ (∃ X : S7x256x1024.Idx → Elt F .f32, owns (c : Thread nD τ) (Memref.whole cc0_scratch1) fullShare X) ∗ (∃ X : S4x576x128.Idx → Elt F .bf16, owns (c : Thread nD τ) (Memref.whole cc0_scratch2) fullShare X) ∗ (∃ X : S8x272x128.Idx → Elt F .f32, owns (c : Thread nD τ) (Memref.whole cc0_scratch3) fullShare X) ∗ (∃ X : S8x256x128.Idx → Elt F .f32, owns (c : Thread nD τ) (Memref.whole cc0_scratch4) fullShare X) ∗ (∃ X : S8x256x128.Idx → Elt F .f32, owns (c : Thread nD τ) (Memref.whole cc0_scratch5) fullShare X) ∗ (∃ X : S3x256x1024.Idx → Elt F .bf16, owns (c : Thread nD τ) (Memref.whole cc0_scratch6) fullShare X) ∗ (∃ X : S256x1024.Idx → Elt F .bf16, owns (c : Thread nD τ) (Memref.whole cc0_scratch7) fullShare X) ∗ (∃ X : S256x1024.Idx → Elt F .f32, owns (c : Thread nD τ) (Memref.whole cc0_scratch8) fullShare X) ∗ (∃ X : S2x256x1024.Idx → Elt F .f32, owns (c : Thread nD τ) (Memref.whole cc0_scratch9) fullShare X)) := by
  rw [scopedRest0_eq, ex0, ex1, ex2, ex3, ex4, ex5, ex6, ex7, ex8, ex9]

/-- Only the output window is forgotten. -/
def fgt (w : Fin cfg0.W) : Bool := decide (w.val = 15)

/-- The body on whatever its buffers hold: it runs, and gives the input buffers back as they were. -/
theorem body_run (c : Dev nD) (t : Fin cfg0.N) (s : St F) :
    Own (argsAt t) (inAt m c t) c s ⊢ wp frame (wpE (defs₀ (F := F)) 𝒱₀ (c : Thread nD τ) none) Set.univ (bodyAt0 t)
      (fun _ => iprop(∃ s', ⌜True⌝ ∗ Own (argsAt t) (inAt m c t) c s')) :=
  (cc0_hybrid_block_fr (argsAt t) (inAt m c t) c (grid0.coords t) s).run

set_option maxHeartbeats 1600000 in
theorem body_obligation (c : Dev nD) : BodyObligation (dats (F := F) m 0 c) (defs₀ (F := F)) 𝒱₀ () Set.univ fgt := fun t => by
  rw [bigSep_W0, bigSep_W0]
  sl_whnfR [defs₀, Defs.onTc]
  simp only [show fgt 0 = false from rfl, show fgt 1 = false from rfl, show fgt 2 = false from rfl, show fgt 3 = false from rfl, show fgt 4 = false from rfl, show fgt 5 = false from rfl, show fgt 6 = false from rfl, show fgt 7 = false from rfl, show fgt 8 = false from rfl, show fgt 9 = false from rfl, show fgt 10 = false from rfl, show fgt 11 = false from rfl, show fgt 12 = false from rfl, show fgt 13 = false from rfl, show fgt 14 = false from rfl, show fgt 15 = true from rfl]
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9, after0_10, after0_11, after0_12, after0_13, after0_14]
  rw [show (dats m 0 c).Φ t.castSucc = iprop(Pipeline.scopedRest spec0 c ∗ ∃ r, prngReg c r) from rfl, scratch_eq]
  iintro ⟨⟨⟨⟨%f0, H18⟩, ⟨%f1, H19⟩, ⟨%f2, H20⟩, ⟨%f3, H21⟩, ⟨%f4, H22⟩, ⟨%f5, H23⟩, ⟨%f6, H24⟩, ⟨%f7, H25⟩, ⟨%f8, H26⟩, ⟨%f9, H27⟩⟩, Hp⟩, Ho, ⟨⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩⟩⟩
  iapply (wp_wand_r Idealize.ShloMosaic.frame (wpE (defs₀ (F := F)) 𝒱₀ (c : Thread nD τ) none) Set.univ)
  isplitl [H2 H3 H4 H5 H6 H7 H8 H9 H10 H11 H12 H13 H14 H15 H16 H17 H18 H19 H20 H21 H22 H23 H24 H25 H26 H27]
  · iapply (body_run m c t ⟨d15, f0, f1, f2, f3, f4, f5, f6, f7, f8, f9⟩)
    unfold Own
    dsimp only [argsAt, inAt]
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    isplitl [H18]; iexact H18
    isplitl [H19]; iexact H19
    isplitl [H20]; iexact H20
    isplitl [H21]; iexact H21
    isplitl [H22]; iexact H22
    isplitl [H23]; iexact H23
    isplitl [H24]; iexact H24
    isplitl [H25]; iexact H25
    isplitl [H26]; iexact H26
    iexact H27
  iintro %a ⟨%s', -, H⟩
  unfold Own
  dsimp only [argsAt, inAt]
  icases H with ⟨H2, H3, H4, H5, H6, H7, H8, H9, H10, H11, H12, H13, H14, H15, H16, H17, H18, H19, H20, H21, H22, H23, H24, H25, H26, H27⟩
  isplitl [Hp H18 H19 H20 H21 H22 H23 H24 H25 H26 H27]
  · isplitl [H18 H19 H20 H21 H22 H23 H24 H25 H26 H27]
    isplitl [H18]
    · iexists _; iexact H18
    isplitl [H19]
    · iexists _; iexact H19
    isplitl [H20]
    · iexists _; iexact H20
    isplitl [H21]
    · iexists _; iexact H21
    isplitl [H22]
    · iexists _; iexact H22
    isplitl [H23]
    · iexists _; iexact H23
    isplitl [H24]
    · iexists _; iexact H24
    isplitl [H25]
    · iexists _; iexact H25
    isplitl [H26]
    · iexists _; iexact H26
    skip
    · iexists _; iexact H27
    iexact Hp
  isplitl [Ho]; iexact Ho
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  isplitl [H16]; iexact H16
  iexists _; iexact H17

-- the implicit arguments are found by unifying the conclusions, which takes unfolding plain definitions
set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- Every execution ends, the arguments unchanged and every semaphore counter at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14)) ∧ r.2.sem = fun _ => 0) :=
  (θ_run defs _ _).mono (fun r h => ⟨fun c => ⟨(((dats m 0 c).toRForget_arrAt_iff (fgt := fgt) (w := 0) rfl _ _).mp ((h.1 c).1 0)).trans
        (((dats m 0 c).arrAt_in 0 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c)⟩, h.2⟩) (run_main m ρ)

end Cert.Kernel.Run

end
-- ==== Proof.StI.lean ====
/-
  The buffers of the kernel body of `KernelIdeal` as one plain state: the fifteen input windows (`In`, only read), and the
  output window with the ten scratch buffers (`St`). `Own` says they hold a state; the instances say which
  memref is which field.
-/
module

public import proofs.«01_k».proof.Proof.Gen.KernelIdeal.Points
public import proofs.«01_k».proof.Proof.Tr

@[expose] public section

noncomputable section

namespace Cert.KernelIdeal.Body

open Cert.KernelIdeal Cert.KernelIdeal.Gen Cert.Tr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The body's memrefs. -/
structure Args where
  a2 : Memref sig .tc .vmem S1x256x1024 .f32
  h2 : a2.IsWhole
  a3 : Memref sig .tc .vmem S1x1024 .f32
  h3 : a3.IsWhole
  a4 : Memref sig .tc .vmem S1024x7168 .bf16
  h4 : a4.IsWhole
  a5 : Memref sig .tc .vmem S1x7168 .f32
  h5 : a5.IsWhole
  a6 : Memref sig .tc .vmem S31x1024 .f32
  h6 : a6.IsWhole
  a7 : Memref sig .tc .vmem S1x1024 .f32
  h7 : a7.IsWhole
  a8 : Memref sig .tc .vmem S1x1024 .f32
  h8 : a8.IsWhole
  a9 : Memref sig .tc .vmem S1x1024 .f32
  h9 : a9.IsWhole
  a10 : Memref sig .tc .vmem S1024x1024 .bf16
  h10 : a10.IsWhole
  a11 : Memref sig .tc .vmem S4x256x256 .bf16
  h11 : a11.IsWhole
  a12 : Memref sig .tc .vmem S1x1024 .f32
  h12 : a12.IsWhole
  a13 : Memref sig .tc .vmem S1x1024 .f32
  h13 : a13.IsWhole
  a14 : Memref sig .tc .vmem S1024x1024 .bf16
  h14 : a14.IsWhole
  a15 : Memref sig .tc .vmem S1024x1024 .bf16
  h15 : a15.IsWhole
  a16 : Memref sig .tc .vmem S1x1024 .f32
  h16 : a16.IsWhole
  a17 : Memref sig .tc .vmem S1x256x1024 .f32
  h17 : a17.IsWhole
  a18 : Memref sig .tc .vmem S256x1024 .bf16
  h18 : a18.IsWhole
  a19 : Memref sig .tc .vmem S7x256x1024 .f32
  h19 : a19.IsWhole
  a20 : Memref sig .tc .vmem S4x576x128 .bf16
  h20 : a20.IsWhole
  a21 : Memref sig .tc .vmem S8x272x128 .f32
  h21 : a21.IsWhole
  a22 : Memref sig .tc .vmem S8x256x128 .f32
  h22 : a22.IsWhole
  a23 : Memref sig .tc .vmem S8x256x128 .f32
  h23 : a23.IsWhole
  a24 : Memref sig .tc .vmem S3x256x1024 .bf16
  h24 : a24.IsWhole
  a25 : Memref sig .tc .vmem S256x1024 .bf16
  h25 : a25.IsWhole
  a26 : Memref sig .tc .vmem S256x1024 .f32
  h26 : a26.IsWhole
  a27 : Memref sig .tc .vmem S2x256x1024 .f32
  h27 : a27.IsWhole

variable (F : FTy → Type) [FloatOps F]

/-- What the input windows hold. -/
structure In where
  x : S1x256x1024.Idx → Elt F .f32
  ng : S1x1024.Idx → Elt F .f32
  wi : S1024x7168.Idx → Elt F .bf16
  bi : S1x7168.Idx → Elt F .f32
  cw : S31x1024.Idx → Elt F .f32
  cb : S1x1024.Idx → Elt F .f32
  lg : S1x1024.Idx → Elt F .f32
  lb : S1x1024.Idx → Elt F .f32
  wa : S1024x1024.Idx → Elt F .bf16
  wp : S4x256x256.Idx → Elt F .bf16
  bp : S1x1024.Idx → Elt F .f32
  ps : S1x1024.Idx → Elt F .f32
  wb : S1024x1024.Idx → Elt F .bf16
  wo : S1024x1024.Idx → Elt F .bf16
  nf : S1x1024.Idx → Elt F .f32

/-- What the output window and the scratch buffers hold. -/
structure St where
  o : S1x256x1024.Idx → Elt F .f32
  h : S256x1024.Idx → Elt F .bf16
  z : S7x256x1024.Idx → Elt F .f32
  u : S4x576x128.Idx → Elt F .bf16
  v : S8x272x128.Idx → Elt F .f32
  c : S8x256x128.Idx → Elt F .f32
  m : S8x256x128.Idx → Elt F .f32
  l : S3x256x1024.Idx → Elt F .bf16
  q : S256x1024.Idx → Elt F .bf16
  p : S256x1024.Idx → Elt F .f32
  y : S2x256x1024.Idx → Elt F .f32

variable {F} (A : Args) (I : In F) (d : Dev nD)

local notation "𝕄" => MT nD τ sig Unit (Elt F) ℕ (UR sig nD τ) ℕ

/-- The buffers hold `I` and `s`. -/
def Own (s : St F) : sProp 𝕄 :=
  iprop(owns (d : Thread nD τ) A.a2 fullShare I.x ∗ owns (d : Thread nD τ) A.a3 fullShare I.ng ∗ owns (d : Thread nD τ) A.a4 fullShare I.wi ∗ owns (d : Thread nD τ) A.a5 fullShare I.bi ∗ owns (d : Thread nD τ) A.a6 fullShare I.cw ∗ owns (d : Thread nD τ) A.a7 fullShare I.cb ∗ owns (d : Thread nD τ) A.a8 fullShare I.lg ∗ owns (d : Thread nD τ) A.a9 fullShare I.lb ∗ owns (d : Thread nD τ) A.a10 fullShare I.wa ∗ owns (d : Thread nD τ) A.a11 fullShare I.wp ∗ owns (d : Thread nD τ) A.a12 fullShare I.bp ∗ owns (d : Thread nD τ) A.a13 fullShare I.ps ∗ owns (d : Thread nD τ) A.a14 fullShare I.wb ∗ owns (d : Thread nD τ) A.a15 fullShare I.wo ∗ owns (d : Thread nD τ) A.a16 fullShare I.nf ∗ owns (d : Thread nD τ) A.a17 fullShare s.o ∗ owns (d : Thread nD τ) A.a18 fullShare s.h ∗ owns (d : Thread nD τ) A.a19 fullShare s.z ∗ owns (d : Thread nD τ) A.a20 fullShare s.u ∗ owns (d : Thread nD τ) A.a21 fullShare s.v ∗ owns (d : Thread nD τ) A.a22 fullShare s.c ∗ owns (d : Thread nD τ) A.a23 fullShare s.m ∗ owns (d : Thread nD τ) A.a24 fullShare s.l ∗ owns (d : Thread nD τ) A.a25 fullShare s.q ∗ owns (d : Thread nD τ) A.a26 fullShare s.p ∗ owns (d : Thread nD τ) A.a27 fullShare s.y)

/-- Runs of the body on these buffers. -/
def Ev : Env nD τ sig Unit (Elt F) ℕ (UR sig nD τ) ℕ Λ₀ (St F) := ⟨defs₀ (F := F), Variants.none, d, Own A I d⟩

instance : AccR (Ev A I d) A.a2 (fun _ => I.x) where
  acc s := by
    show Own A I d s ⊢ iprop(owns (d : Thread nD τ) A.a2 fullShare I.x ∗ (owns (d : Thread nD τ) A.a2 fullShare I.x -∗ Own A I d s))
    unfold Own
    iintro ⟨H2, H3, H4, H5, H6, H7, H8, H9, H10, H11, H12, H13, H14, H15, H16, H17, H18, H19, H20, H21, H22, H23, H24, H25, H26, H27⟩
    isplitl [H2]
    · iexact H2
    iintro H2
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a3 (fun _ => I.ng) where
  acc s := by
    show Own A I d s ⊢ iprop(owns (d : Thread nD τ) A.a3 fullShare I.ng ∗ (owns (d : Thread nD τ) A.a3 fullShare I.ng -∗ Own A I d s))
    unfold Own
    iintro ⟨H2, H3, H4, H5, H6, H7, H8, H9, H10, H11, H12, H13, H14, H15, H16, H17, H18, H19, H20, H21, H22, H23, H24, H25, H26, H27⟩
    isplitl [H3]
    · iexact H3
    iintro H3
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a4 (fun _ => I.wi) where
  acc s := by
    show Own A I d s ⊢ iprop(owns (d : Thread nD τ) A.a4 fullShare I.wi ∗ (owns (d : Thread nD τ) A.a4 fullShare I.wi -∗ Own A I d s))
    unfold Own
    iintro ⟨H2, H3, H4, H5, H6, H7, H8, H9, H10, H11, H12, H13, H14, H15, H16, H17, H18, H19, H20, H21, H22, H23, H24, H25, H26, H27⟩
    isplitl [H4]
    · iexact H4
    iintro H4
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a5 (fun _ => I.bi) where
  acc s := by
    show Own A I d s ⊢ iprop(owns (d : Thread nD τ) A.a5 fullShare I.bi ∗ (owns (d : Thread nD τ) A.a5 fullShare I.bi -∗ Own A I d s))
    unfold Own
    iintro ⟨H2, H3, H4, H5, H6, H7, H8, H9, H10, H11, H12, H13, H14, H15, H16, H17, H18, H19, H20, H21, H22, H23, H24, H25, H26, H27⟩
    isplitl [H5]
    · iexact H5
    iintro H5
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a6 (fun _ => I.cw) where
  acc s := by
    show Own A I d s ⊢ iprop(owns (d : Thread nD τ) A.a6 fullShare I.cw ∗ (owns (d : Thread nD τ) A.a6 fullShare I.cw -∗ Own A I d s))
    unfold Own
    iintro ⟨H2, H3, H4, H5, H6, H7, H8, H9, H10, H11, H12, H13, H14, H15, H16, H17, H18, H19, H20, H21, H22, H23, H24, H25, H26, H27⟩
    isplitl [H6]
    · iexact H6
    iintro H6
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a7 (fun _ => I.cb) where
  acc s := by
    show Own A I d s ⊢ iprop(owns (d : Thread nD τ) A.a7 fullShare I.cb ∗ (owns (d : Thread nD τ) A.a7 fullShare I.cb -∗ Own A I d s))
    unfold Own
    iintro ⟨H2, H3, H4, H5, H6, H7, H8, H9, H10, H11, H12, H13, H14, H15, H16, H17, H18, H19, H20, H21, H22, H23, H24, H25, H26, H27⟩
    isplitl [H7]
    · iexact H7
    iintro H7
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a8 (fun _ => I.lg) where
  acc s := by
    show Own A I d s ⊢ iprop(owns (d : Thread nD τ) A.a8 fullShare I.lg ∗ (owns (d : Thread nD τ) A.a8 fullShare I.lg -∗ Own A I d s))
    unfold Own
    iintro ⟨H2, H3, H4, H5, H6, H7, H8, H9, H10, H11, H12, H13, H14, H15, H16, H17, H18, H19, H20, H21, H22, H23, H24, H25, H26, H27⟩
    isplitl [H8]
    · iexact H8
    iintro H8
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a9 (fun _ => I.lb) where
  acc s := by
    show Own A I d s ⊢ iprop(owns (d : Thread nD τ) A.a9 fullShare I.lb ∗ (owns (d : Thread nD τ) A.a9 fullShare I.lb -∗ Own A I d s))
    unfold Own
    iintro ⟨H2, H3, H4, H5, H6, H7, H8, H9, H10, H11, H12, H13, H14, H15, H16, H17, H18, H19, H20, H21, H22, H23, H24, H25, H26, H27⟩
    isplitl [H9]
    · iexact H9
    iintro H9
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a10 (fun _ => I.wa) where
  acc s := by
    show Own A I d s ⊢ iprop(owns (d : Thread nD τ) A.a10 fullShare I.wa ∗ (owns (d : Thread nD τ) A.a10 fullShare I.wa -∗ Own A I d s))
    unfold Own
    iintro ⟨H2, H3, H4, H5, H6, H7, H8, H9, H10, H11, H12, H13, H14, H15, H16, H17, H18, H19, H20, H21, H22, H23, H24, H25, H26, H27⟩
    isplitl [H10]
    · iexact H10
    iintro H10
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a11 (fun _ => I.wp) where
  acc s := by
    show Own A I d s ⊢ iprop(owns (d : Thread nD τ) A.a11 fullShare I.wp ∗ (owns (d : Thread nD τ) A.a11 fullShare I.wp -∗ Own A I d s))
    unfold Own
    iintro ⟨H2, H3, H4, H5, H6, H7, H8, H9, H10, H11, H12, H13, H14, H15, H16, H17, H18, H19, H20, H21, H22, H23, H24, H25, H26, H27⟩
    isplitl [H11]
    · iexact H11
    iintro H11
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a12 (fun _ => I.bp) where
  acc s := by
    show Own A I d s ⊢ iprop(owns (d : Thread nD τ) A.a12 fullShare I.bp ∗ (owns (d : Thread nD τ) A.a12 fullShare I.bp -∗ Own A I d s))
    unfold Own
    iintro ⟨H2, H3, H4, H5, H6, H7, H8, H9, H10, H11, H12, H13, H14, H15, H16, H17, H18, H19, H20, H21, H22, H23, H24, H25, H26, H27⟩
    isplitl [H12]
    · iexact H12
    iintro H12
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a13 (fun _ => I.ps) where
  acc s := by
    show Own A I d s ⊢ iprop(owns (d : Thread nD τ) A.a13 fullShare I.ps ∗ (owns (d : Thread nD τ) A.a13 fullShare I.ps -∗ Own A I d s))
    unfold Own
    iintro ⟨H2, H3, H4, H5, H6, H7, H8, H9, H10, H11, H12, H13, H14, H15, H16, H17, H18, H19, H20, H21, H22, H23, H24, H25, H26, H27⟩
    isplitl [H13]
    · iexact H13
    iintro H13
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a14 (fun _ => I.wb) where
  acc s := by
    show Own A I d s ⊢ iprop(owns (d : Thread nD τ) A.a14 fullShare I.wb ∗ (owns (d : Thread nD τ) A.a14 fullShare I.wb -∗ Own A I d s))
    unfold Own
    iintro ⟨H2, H3, H4, H5, H6, H7, H8, H9, H10, H11, H12, H13, H14, H15, H16, H17, H18, H19, H20, H21, H22, H23, H24, H25, H26, H27⟩
    isplitl [H14]
    · iexact H14
    iintro H14
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a15 (fun _ => I.wo) where
  acc s := by
    show Own A I d s ⊢ iprop(owns (d : Thread nD τ) A.a15 fullShare I.wo ∗ (owns (d : Thread nD τ) A.a15 fullShare I.wo -∗ Own A I d s))
    unfold Own
    iintro ⟨H2, H3, H4, H5, H6, H7, H8, H9, H10, H11, H12, H13, H14, H15, H16, H17, H18, H19, H20, H21, H22, H23, H24, H25, H26, H27⟩
    isplitl [H15]
    · iexact H15
    iintro H15
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a16 (fun _ => I.nf) where
  acc s := by
    show Own A I d s ⊢ iprop(owns (d : Thread nD τ) A.a16 fullShare I.nf ∗ (owns (d : Thread nD τ) A.a16 fullShare I.nf -∗ Own A I d s))
    unfold Own
    iintro ⟨H2, H3, H4, H5, H6, H7, H8, H9, H10, H11, H12, H13, H14, H15, H16, H17, H18, H19, H20, H21, H22, H23, H24, H25, H26, H27⟩
    isplitl [H16]
    · iexact H16
    iintro H16
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : Acc (Ev A I d) A.a17 (fun s => s.o) (fun s X => { s with o := X }) where
  acc s := by
    show Own A I d s ⊢ iprop(owns (d : Thread nD τ) A.a17 fullShare s.o ∗ (∀ X, owns (d : Thread nD τ) A.a17 fullShare X -∗ Own A I d { s with o := X }))
    unfold Own
    iintro ⟨H2, H3, H4, H5, H6, H7, H8, H9, H10, H11, H12, H13, H14, H15, H16, H17, H18, H19, H20, H21, H22, H23, H24, H25, H26, H27⟩
    isplitl [H17]
    · iexact H17
    iintro %X H17
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a17 (fun s => s.o) where
  acc s := ((inferInstance : Acc (Ev A I d) A.a17 (fun s => s.o) (fun s X => { s with o := X })).acc s).trans
    (sep_mono .rfl (forall_elim _))

instance : Acc (Ev A I d) A.a18 (fun s => s.h) (fun s X => { s with h := X }) where
  acc s := by
    show Own A I d s ⊢ iprop(owns (d : Thread nD τ) A.a18 fullShare s.h ∗ (∀ X, owns (d : Thread nD τ) A.a18 fullShare X -∗ Own A I d { s with h := X }))
    unfold Own
    iintro ⟨H2, H3, H4, H5, H6, H7, H8, H9, H10, H11, H12, H13, H14, H15, H16, H17, H18, H19, H20, H21, H22, H23, H24, H25, H26, H27⟩
    isplitl [H18]
    · iexact H18
    iintro %X H18
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a18 (fun s => s.h) where
  acc s := ((inferInstance : Acc (Ev A I d) A.a18 (fun s => s.h) (fun s X => { s with h := X })).acc s).trans
    (sep_mono .rfl (forall_elim _))

instance : Acc (Ev A I d) A.a19 (fun s => s.z) (fun s X => { s with z := X }) where
  acc s := by
    show Own A I d s ⊢ iprop(owns (d : Thread nD τ) A.a19 fullShare s.z ∗ (∀ X, owns (d : Thread nD τ) A.a19 fullShare X -∗ Own A I d { s with z := X }))
    unfold Own
    iintro ⟨H2, H3, H4, H5, H6, H7, H8, H9, H10, H11, H12, H13, H14, H15, H16, H17, H18, H19, H20, H21, H22, H23, H24, H25, H26, H27⟩
    isplitl [H19]
    · iexact H19
    iintro %X H19
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a19 (fun s => s.z) where
  acc s := ((inferInstance : Acc (Ev A I d) A.a19 (fun s => s.z) (fun s X => { s with z := X })).acc s).trans
    (sep_mono .rfl (forall_elim _))

instance : Acc (Ev A I d) A.a20 (fun s => s.u) (fun s X => { s with u := X }) where
  acc s := by
    show Own A I d s ⊢ iprop(owns (d : Thread nD τ) A.a20 fullShare s.u ∗ (∀ X, owns (d : Thread nD τ) A.a20 fullShare X -∗ Own A I d { s with u := X }))
    unfold Own
    iintro ⟨H2, H3, H4, H5, H6, H7, H8, H9, H10, H11, H12, H13, H14, H15, H16, H17, H18, H19, H20, H21, H22, H23, H24, H25, H26, H27⟩
    isplitl [H20]
    · iexact H20
    iintro %X H20
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a20 (fun s => s.u) where
  acc s := ((inferInstance : Acc (Ev A I d) A.a20 (fun s => s.u) (fun s X => { s with u := X })).acc s).trans
    (sep_mono .rfl (forall_elim _))

instance : Acc (Ev A I d) A.a21 (fun s => s.v) (fun s X => { s with v := X }) where
  acc s := by
    show Own A I d s ⊢ iprop(owns (d : Thread nD τ) A.a21 fullShare s.v ∗ (∀ X, owns (d : Thread nD τ) A.a21 fullShare X -∗ Own A I d { s with v := X }))
    unfold Own
    iintro ⟨H2, H3, H4, H5, H6, H7, H8, H9, H10, H11, H12, H13, H14, H15, H16, H17, H18, H19, H20, H21, H22, H23, H24, H25, H26, H27⟩
    isplitl [H21]
    · iexact H21
    iintro %X H21
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a21 (fun s => s.v) where
  acc s := ((inferInstance : Acc (Ev A I d) A.a21 (fun s => s.v) (fun s X => { s with v := X })).acc s).trans
    (sep_mono .rfl (forall_elim _))

instance : Acc (Ev A I d) A.a22 (fun s => s.c) (fun s X => { s with c := X }) where
  acc s := by
    show Own A I d s ⊢ iprop(owns (d : Thread nD τ) A.a22 fullShare s.c ∗ (∀ X, owns (d : Thread nD τ) A.a22 fullShare X -∗ Own A I d { s with c := X }))
    unfold Own
    iintro ⟨H2, H3, H4, H5, H6, H7, H8, H9, H10, H11, H12, H13, H14, H15, H16, H17, H18, H19, H20, H21, H22, H23, H24, H25, H26, H27⟩
    isplitl [H22]
    · iexact H22
    iintro %X H22
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a22 (fun s => s.c) where
  acc s := ((inferInstance : Acc (Ev A I d) A.a22 (fun s => s.c) (fun s X => { s with c := X })).acc s).trans
    (sep_mono .rfl (forall_elim _))

instance : Acc (Ev A I d) A.a23 (fun s => s.m) (fun s X => { s with m := X }) where
  acc s := by
    show Own A I d s ⊢ iprop(owns (d : Thread nD τ) A.a23 fullShare s.m ∗ (∀ X, owns (d : Thread nD τ) A.a23 fullShare X -∗ Own A I d { s with m := X }))
    unfold Own
    iintro ⟨H2, H3, H4, H5, H6, H7, H8, H9, H10, H11, H12, H13, H14, H15, H16, H17, H18, H19, H20, H21, H22, H23, H24, H25, H26, H27⟩
    isplitl [H23]
    · iexact H23
    iintro %X H23
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a23 (fun s => s.m) where
  acc s := ((inferInstance : Acc (Ev A I d) A.a23 (fun s => s.m) (fun s X => { s with m := X })).acc s).trans
    (sep_mono .rfl (forall_elim _))

instance : Acc (Ev A I d) A.a24 (fun s => s.l) (fun s X => { s with l := X }) where
  acc s := by
    show Own A I d s ⊢ iprop(owns (d : Thread nD τ) A.a24 fullShare s.l ∗ (∀ X, owns (d : Thread nD τ) A.a24 fullShare X -∗ Own A I d { s with l := X }))
    unfold Own
    iintro ⟨H2, H3, H4, H5, H6, H7, H8, H9, H10, H11, H12, H13, H14, H15, H16, H17, H18, H19, H20, H21, H22, H23, H24, H25, H26, H27⟩
    isplitl [H24]
    · iexact H24
    iintro %X H24
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a24 (fun s => s.l) where
  acc s := ((inferInstance : Acc (Ev A I d) A.a24 (fun s => s.l) (fun s X => { s with l := X })).acc s).trans
    (sep_mono .rfl (forall_elim _))

instance : Acc (Ev A I d) A.a25 (fun s => s.q) (fun s X => { s with q := X }) where
  acc s := by
    show Own A I d s ⊢ iprop(owns (d : Thread nD τ) A.a25 fullShare s.q ∗ (∀ X, owns (d : Thread nD τ) A.a25 fullShare X -∗ Own A I d { s with q := X }))
    unfold Own
    iintro ⟨H2, H3, H4, H5, H6, H7, H8, H9, H10, H11, H12, H13, H14, H15, H16, H17, H18, H19, H20, H21, H22, H23, H24, H25, H26, H27⟩
    isplitl [H25]
    · iexact H25
    iintro %X H25
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a25 (fun s => s.q) where
  acc s := ((inferInstance : Acc (Ev A I d) A.a25 (fun s => s.q) (fun s X => { s with q := X })).acc s).trans
    (sep_mono .rfl (forall_elim _))

instance : Acc (Ev A I d) A.a26 (fun s => s.p) (fun s X => { s with p := X }) where
  acc s := by
    show Own A I d s ⊢ iprop(owns (d : Thread nD τ) A.a26 fullShare s.p ∗ (∀ X, owns (d : Thread nD τ) A.a26 fullShare X -∗ Own A I d { s with p := X }))
    unfold Own
    iintro ⟨H2, H3, H4, H5, H6, H7, H8, H9, H10, H11, H12, H13, H14, H15, H16, H17, H18, H19, H20, H21, H22, H23, H24, H25, H26, H27⟩
    isplitl [H26]
    · iexact H26
    iintro %X H26
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a26 (fun s => s.p) where
  acc s := ((inferInstance : Acc (Ev A I d) A.a26 (fun s => s.p) (fun s X => { s with p := X })).acc s).trans
    (sep_mono .rfl (forall_elim _))

instance : Acc (Ev A I d) A.a27 (fun s => s.y) (fun s X => { s with y := X }) where
  acc s := by
    show Own A I d s ⊢ iprop(owns (d : Thread nD τ) A.a27 fullShare s.y ∗ (∀ X, owns (d : Thread nD τ) A.a27 fullShare X -∗ Own A I d { s with y := X }))
    unfold Own
    iintro ⟨H2, H3, H4, H5, H6, H7, H8, H9, H10, H11, H12, H13, H14, H15, H16, H17, H18, H19, H20, H21, H22, H23, H24, H25, H26, H27⟩
    isplitl [H27]
    · iexact H27
    iintro %X H27
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [H25]; iexact H25; isplitl [H26]; iexact H26
    iexact H27

instance : AccR (Ev A I d) A.a27 (fun s => s.y) where
  acc s := ((inferInstance : Acc (Ev A I d) A.a27 (fun s => s.y) (fun s X => { s with y := X })).acc s).trans
    (sep_mono .rfl (forall_elim _))

end Cert.KernelIdeal.Body

end
-- ==== Proof.RunI.lean ====
/-
  The buffers of `KernelIdeal` at a grid point: the body's memrefs, what the input windows hold, and the scratch buffers
  as memrefs, each at some contents.
-/
module

public import proofs.«01_k».proof.Proof.StI
public import proofs.«01_k».proof.Proof.Gen.KernelIdeal.Frame
public import proofs.«01_k».proof.Proof.Gen.KernelIdeal.Points
public import Idealize.ShloMosaic.Adequacy
public import Idealize.ShloMosaic.Init

@[expose] public section

set_option maxRecDepth 16384

noncomputable section

namespace Cert.KernelIdeal.Run

open Cert.KernelIdeal Cert.KernelIdeal.Gen Cert.KernelIdeal.Body Cert.Tr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

abbrev 𝒱₀ : Variants := Variants.none

variable {F : FTy → Type} [FloatOps F] (m : (ℓ : Loc nD τ sig) → Buf (Elt F) ℓ) (ρ : Dev nD → PrngReg)

/-- The body's memrefs at point `t`. -/
def argsAt (t : Fin cfg0.N) : Args := ⟨(win0_0.stage (cfg0.slots t 0)), (hstage0_0 ((cfg0.slots t 0).cast nbuf0_0)), (win0_1.stage (cfg0.slots t 1)), (hstage0_1 ((cfg0.slots t 1).cast nbuf0_1)), (win0_2.stage (cfg0.slots t 2)), (hstage0_2 ((cfg0.slots t 2).cast nbuf0_2)), (win0_3.stage (cfg0.slots t 3)), (hstage0_3 ((cfg0.slots t 3).cast nbuf0_3)), (win0_4.stage (cfg0.slots t 4)), (hstage0_4 ((cfg0.slots t 4).cast nbuf0_4)), (win0_5.stage (cfg0.slots t 5)), (hstage0_5 ((cfg0.slots t 5).cast nbuf0_5)), (win0_6.stage (cfg0.slots t 6)), (hstage0_6 ((cfg0.slots t 6).cast nbuf0_6)), (win0_7.stage (cfg0.slots t 7)), (hstage0_7 ((cfg0.slots t 7).cast nbuf0_7)), (win0_8.stage (cfg0.slots t 8)), (hstage0_8 ((cfg0.slots t 8).cast nbuf0_8)), (win0_9.stage (cfg0.slots t 9)), (hstage0_9 ((cfg0.slots t 9).cast nbuf0_9)), (win0_10.stage (cfg0.slots t 10)), (hstage0_10 ((cfg0.slots t 10).cast nbuf0_10)), (win0_11.stage (cfg0.slots t 11)), (hstage0_11 ((cfg0.slots t 11).cast nbuf0_11)), (win0_12.stage (cfg0.slots t 12)), (hstage0_12 ((cfg0.slots t 12).cast nbuf0_12)), (win0_13.stage (cfg0.slots t 13)), (hstage0_13 ((cfg0.slots t 13).cast nbuf0_13)), (win0_14.stage (cfg0.slots t 14)), (hstage0_14 ((cfg0.slots t 14).cast nbuf0_14)), (win0_15.stage (cfg0.slots t 15)), (hstage0_15 ((cfg0.slots t 15).cast nbuf0_15)), (Memref.whole cc0_scratch0), (Memref.isWhole_whole _), (Memref.whole cc0_scratch1), (Memref.isWhole_whole _), (Memref.whole cc0_scratch2), (Memref.isWhole_whole _), (Memref.whole cc0_scratch3), (Memref.isWhole_whole _), (Memref.whole cc0_scratch4), (Memref.isWhole_whole _), (Memref.whole cc0_scratch5), (Memref.isWhole_whole _), (Memref.whole cc0_scratch6), (Memref.isWhole_whole _), (Memref.whole cc0_scratch7), (Memref.isWhole_whole _), (Memref.whole cc0_scratch8), (Memref.isWhole_whole _), (Memref.whole cc0_scratch9), (Memref.isWhole_whole _)⟩

/-- What the input windows hold at point `t`. -/
def inAt (c : Dev nD) (t : Fin cfg0.N) : In F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

theorem ex0 (c : Dev nD) : (iprop(∃ f : Buf (Elt F) ((c : Thread nD τ).loc cc0_scratch0), ((c : Thread nD τ).loc cc0_scratch0) ↦{fullShare} f) : sProp (MT nD τ sig Unit (Elt F) ℕ (UR sig nD τ) ℕ))
    = iprop(∃ X : S256x1024.Idx → Elt F .bf16, owns (c : Thread nD τ) (Memref.whole cc0_scratch0) fullShare X) :=
  congrArg (fun P : (S256x1024.Idx → Elt F .bf16) → sProp (MT nD τ sig Unit (Elt F) ℕ (UR sig nD τ) ℕ) => iprop(∃ X, P X)) (funext fun X => (owns_whole (c : Thread nD τ) cc0_scratch0 fullShare X).symm)
theorem ex1 (c : Dev nD) : (iprop(∃ f : Buf (Elt F) ((c : Thread nD τ).loc cc0_scratch1), ((c : Thread nD τ).loc cc0_scratch1) ↦{fullShare} f) : sProp (MT nD τ sig Unit (Elt F) ℕ (UR sig nD τ) ℕ))
    = iprop(∃ X : S7x256x1024.Idx → Elt F .f32, owns (c : Thread nD τ) (Memref.whole cc0_scratch1) fullShare X) :=
  congrArg (fun P : (S7x256x1024.Idx → Elt F .f32) → sProp (MT nD τ sig Unit (Elt F) ℕ (UR sig nD τ) ℕ) => iprop(∃ X, P X)) (funext fun X => (owns_whole (c : Thread nD τ) cc0_scratch1 fullShare X).symm)
theorem ex2 (c : Dev nD) : (iprop(∃ f : Buf (Elt F) ((c : Thread nD τ).loc cc0_scratch2), ((c : Thread nD τ).loc cc0_scratch2) ↦{fullShare} f) : sProp (MT nD τ sig Unit (Elt F) ℕ (UR sig nD τ) ℕ))
    = iprop(∃ X : S4x576x128.Idx → Elt F .bf16, owns (c : Thread nD τ) (Memref.whole cc0_scratch2) fullShare X) :=
  congrArg (fun P : (S4x576x128.Idx → Elt F .bf16) → sProp (MT nD τ sig Unit (Elt F) ℕ (UR sig nD τ) ℕ) => iprop(∃ X, P X)) (funext fun X => (owns_whole (c : Thread nD τ) cc0_scratch2 fullShare X).symm)
theorem ex3 (c : Dev nD) : (iprop(∃ f : Buf (Elt F) ((c : Thread nD τ).loc cc0_scratch3), ((c : Thread nD τ).loc cc0_scratch3) ↦{fullShare} f) : sProp (MT nD τ sig Unit (Elt F) ℕ (UR sig nD τ) ℕ))
    = iprop(∃ X : S8x272x128.Idx → Elt F .f32, owns (c : Thread nD τ) (Memref.whole cc0_scratch3) fullShare X) :=
  congrArg (fun P : (S8x272x128.Idx → Elt F .f32) → sProp (MT nD τ sig Unit (Elt F) ℕ (UR sig nD τ) ℕ) => iprop(∃ X, P X)) (funext fun X => (owns_whole (c : Thread nD τ) cc0_scratch3 fullShare X).symm)
theorem ex4 (c : Dev nD) : (iprop(∃ f : Buf (Elt F) ((c : Thread nD τ).loc cc0_scratch4), ((c : Thread nD τ).loc cc0_scratch4) ↦{fullShare} f) : sProp (MT nD τ sig Unit (Elt F) ℕ (UR sig nD τ) ℕ))
    = iprop(∃ X : S8x256x128.Idx → Elt F .f32, owns (c : Thread nD τ) (Memref.whole cc0_scratch4) fullShare X) :=
  congrArg (fun P : (S8x256x128.Idx → Elt F .f32) → sProp (MT nD τ sig Unit (Elt F) ℕ (UR sig nD τ) ℕ) => iprop(∃ X, P X)) (funext fun X => (owns_whole (c : Thread nD τ) cc0_scratch4 fullShare X).symm)
theorem ex5 (c : Dev nD) : (iprop(∃ f : Buf (Elt F) ((c : Thread nD τ).loc cc0_scratch5), ((c : Thread nD τ).loc cc0_scratch5) ↦{fullShare} f) : sProp (MT nD τ sig Unit (Elt F) ℕ (UR sig nD τ) ℕ))
    = iprop(∃ X : S8x256x128.Idx → Elt F .f32, owns (c : Thread nD τ) (Memref.whole cc0_scratch5) fullShare X) :=
  congrArg (fun P : (S8x256x128.Idx → Elt F .f32) → sProp (MT nD τ sig Unit (Elt F) ℕ (UR sig nD τ) ℕ) => iprop(∃ X, P X)) (funext fun X => (owns_whole (c : Thread nD τ) cc0_scratch5 fullShare X).symm)
theorem ex6 (c : Dev nD) : (iprop(∃ f : Buf (Elt F) ((c : Thread nD τ).loc cc0_scratch6), ((c : Thread nD τ).loc cc0_scratch6) ↦{fullShare} f) : sProp (MT nD τ sig Unit (Elt F) ℕ (UR sig nD τ) ℕ))
    = iprop(∃ X : S3x256x1024.Idx → Elt F .bf16, owns (c : Thread nD τ) (Memref.whole cc0_scratch6) fullShare X) :=
  congrArg (fun P : (S3x256x1024.Idx → Elt F .bf16) → sProp (MT nD τ sig Unit (Elt F) ℕ (UR sig nD τ) ℕ) => iprop(∃ X, P X)) (funext fun X => (owns_whole (c : Thread nD τ) cc0_scratch6 fullShare X).symm)
theorem ex7 (c : Dev nD) : (iprop(∃ f : Buf (Elt F) ((c : Thread nD τ).loc cc0_scratch7), ((c : Thread nD τ).loc cc0_scratch7) ↦{fullShare} f) : sProp (MT nD τ sig Unit (Elt F) ℕ (UR sig nD τ) ℕ))
    = iprop(∃ X : S256x1024.Idx → Elt F .bf16, owns (c : Thread nD τ) (Memref.whole cc0_scratch7) fullShare X) :=
  congrArg (fun P : (S256x1024.Idx → Elt F .bf16) → sProp (MT nD τ sig Unit (Elt F) ℕ (UR sig nD τ) ℕ) => iprop(∃ X, P X)) (funext fun X => (owns_whole (c : Thread nD τ) cc0_scratch7 fullShare X).symm)
theorem ex8 (c : Dev nD) : (iprop(∃ f : Buf (Elt F) ((c : Thread nD τ).loc cc0_scratch8), ((c : Thread nD τ).loc cc0_scratch8) ↦{fullShare} f) : sProp (MT nD τ sig Unit (Elt F) ℕ (UR sig nD τ) ℕ))
    = iprop(∃ X : S256x1024.Idx → Elt F .f32, owns (c : Thread nD τ) (Memref.whole cc0_scratch8) fullShare X) :=
  congrArg (fun P : (S256x1024.Idx → Elt F .f32) → sProp (MT nD τ sig Unit (Elt F) ℕ (UR sig nD τ) ℕ) => iprop(∃ X, P X)) (funext fun X => (owns_whole (c : Thread nD τ) cc0_scratch8 fullShare X).symm)
theorem ex9 (c : Dev nD) : (iprop(∃ f : Buf (Elt F) ((c : Thread nD τ).loc cc0_scratch9), ((c : Thread nD τ).loc cc0_scratch9) ↦{fullShare} f) : sProp (MT nD τ sig Unit (Elt F) ℕ (UR sig nD τ) ℕ))
    = iprop(∃ X : S2x256x1024.Idx → Elt F .f32, owns (c : Thread nD τ) (Memref.whole cc0_scratch9) fullShare X) :=
  congrArg (fun P : (S2x256x1024.Idx → Elt F .f32) → sProp (MT nD τ sig Unit (Elt F) ℕ (UR sig nD τ) ℕ) => iprop(∃ X, P X)) (funext fun X => (owns_whole (c : Thread nD τ) cc0_scratch9 fullShare X).symm)
/-- The scratch buffers, each at some contents. -/
theorem scratch_eq (c : Dev nD) : (Pipeline.scopedRest (Ix := Unit) (Name := ℕ) (U := UR sig nD τ) (Lvl := ℕ) (Val := Elt F) spec0 c : sProp (MT nD τ sig Unit (Elt F) ℕ (UR sig nD τ) ℕ))
    = iprop((∃ X : S256x1024.Idx → Elt F .bf16, owns (c : Thread nD τ) (Memref.whole cc0_scratch0) fullShare X) ∗ (∃ X : S7x256x1024.Idx → Elt F .f32, owns (c : Thread nD τ) (Memref.whole cc0_scratch1) fullShare X) ∗ (∃ X : S4x576x128.Idx → Elt F .bf16, owns (c : Thread nD τ) (Memref.whole cc0_scratch2) fullShare X) ∗ (∃ X : S8x272x128.Idx → Elt F .f32, owns (c : Thread nD τ) (Memref.whole cc0_scratch3) fullShare X) ∗ (∃ X : S8x256x128.Idx → Elt F .f32, owns (c : Thread nD τ) (Memref.whole cc0_scratch4) fullShare X) ∗ (∃ X : S8x256x128.Idx → Elt F .f32, owns (c : Thread nD τ) (Memref.whole cc0_scratch5) fullShare X) ∗ (∃ X : S3x256x1024.Idx → Elt F .bf16, owns (c : Thread nD τ) (Memref.whole cc0_scratch6) fullShare X) ∗ (∃ X : S256x1024.Idx → Elt F .bf16, owns (c : Thread nD τ) (Memref.whole cc0_scratch7) fullShare X) ∗ (∃ X : S256x1024.Idx → Elt F .f32, owns (c : Thread nD τ) (Memref.whole cc0_scratch8) fullShare X) ∗ (∃ X : S2x256x1024.Idx → Elt F .f32, owns (c : Thread nD τ) (Memref.whole cc0_scratch9) fullShare X)) := by
  rw [scopedRest0_eq, ex0, ex1, ex2, ex3, ex4, ex5, ex6, ex7, ex8, ex9]

end Cert.KernelIdeal.Run

end
-- ==== Proof.SpecI.lean ====
/-
  The layer at the ideal reading, row by row: `xs` is the sequence of input rows of one batch element, `I` the weights.
-/
module

public import proofs.«01_k».proof.Proof.StI
public import Idealize.ShloMosaic.Lib.Pointwise
public import Idealize.ShloMosaic.Lib.Pipeline.ValueKit

@[expose] public section

noncomputable section

namespace Cert.Tr

open Idealize.ShloMosaic

/-- The overwritten contents at an element of the rectangle. -/
theorem put_at {s : Shape} {α : Type} {r : Rect s} {w : r.shape.Idx → α} {X : s.Idx → α} {y : s.Idx} (x : r.shape.Idx)
    (h : ∀ a, r.off a + r.stride a * (x a).val = (y a).val) : put r w X y = w x := by
  have e : r.emb x = y := funext fun a => Fin.ext (h a)
  rw [← e, put_emb]

/-- The overwritten contents at an element which one axis keeps off the rectangle. -/
theorem put_off {s : Shape} {α : Type} {r : Rect s} {w : r.shape.Idx → α} {X : s.Idx → α} {y : s.Idx} (a : Fin s.rank)
    (h : ∀ n, n < r.size a → r.off a + r.stride a * n ≠ (y a).val) : put r w X y = X y := by
  refine put_miss r w X y fun hy => ?_
  obtain ⟨x, rfl⟩ := r.exists_idx_of_mem hy
  exact h (x a).val (x a).isLt rfl

/-- The same for a block of unit steps whose offsets are known. -/
theorem put_at_unit {s : Shape} {α : Type} {off off' sz : Fin s.rank → Nat} {h} {w} {X : s.Idx → α} {y : s.Idx} (e : off = off')
    (x : (Rect.unit off sz h).shape.Idx) (hx : ∀ a, off' a + (x a).val = (y a).val) : put (Rect.unit (s := s) off sz h) w X y = w x := by
  subst e
  exact put_at x fun a => by rw [← hx a, Rect.off_unit, Rect.stride_unit, Nat.one_mul]

theorem put_off_unit {s : Shape} {α : Type} {off off' sz : Fin s.rank → Nat} {h} {w} {X : s.Idx → α} {y : s.Idx} (e : off = off')
    (a : Fin s.rank) (k : Nat) (hk : sz a = k) (ha : (y a).val < off' a ∨ off' a + k ≤ (y a).val) :
    put (Rect.unit (s := s) off sz h) w X y = X y := by
  subst e hk
  refine put_off a fun n hn => ?_
  have hn : n < sz a := hn
  rw [Rect.off_unit, Rect.stride_unit]; omega

end Cert.Tr

namespace Cert.KernelIdeal.Spec

open Cert.KernelIdeal Cert.KernelIdeal.Body
open Idealize.ShloMosaic Idealize.ShloMosaic.TcCoe

abbrev Row := Fin 1024 → EReal

/-- The number 1024 and the small constant of a normalization. -/
def n1024 : EReal := Ideal.ofBits .f32 0x44800000#32
def eps : EReal := Ideal.ofBits .f32 0x358637BD#32

variable (I : In Ideal)

/-- The normalized row. -/
def H (x : Row) (j : Fin 1024) : EReal :=
  x j * Ideal.rsqrt (Ideal.div (∑ k, x k * x k) n1024 + eps) * I.ng (ix2 0 j)

/-- The logistic function as the kernel writes it. -/
def sg (a : EReal) : EReal := Ideal.div 1 (1 + Ideal.exp (0 - a))

/-- One entry of the input projection. -/
def zr (x : Row) (n : Fin 7168) : EReal := (∑ k, H I x k * I.wi (ix2 k n)) + I.bi (ix2 0 n)

/-- Block `q` of the projection. -/
def Z (x : Row) (q : Fin 7) (c : Fin 1024) : EReal := zr I x ⟨1024 * q.val + c.val, by omega⟩

/-- The gated linear unit. -/
def U (x : Row) (c : Fin 1024) : EReal := Z I x 0 c * sg (Z I x 1 c)

variable (xs : Nat → Row)

/-- The gated units with 32 rows of zeros before them. -/
def up (p : Nat) (c : Fin 1024) : EReal := if p < 32 then 0 else U I (xs (p - 32)) c

/-- The pooled values with 16 rows of zeros before them. -/
def vp (p : Nat) (c : Fin 1024) : EReal := if p < 16 then 0 else Z I (xs (p - 16)) 3 c

/-- The causal convolution. -/
def Cv (s : Nat) (c : Fin 1024) : EReal := (∑ k : Fin 31, up I xs (s + 2 + k.val) c * I.cw (ix2 k c)) + I.cb (ix2 0 c)

/-- A row's mean. -/
def mean (f : Row) : EReal := Ideal.div (∑ c, f c) n1024

/-- A row with its mean taken off, scaled, with gain and bias. -/
def ln (f : Row) (g b : Row) (c : Fin 1024) : EReal :=
  (f c - mean f) * Ideal.rsqrt (mean (fun k => (f k - mean f) * (f k - mean f)) + eps) * g c + b c

/-- `a` times its logistic value. -/
def silu (a : EReal) : EReal := a * sg a

/-- The left operand of the first branch's projection. -/
def GA (s : Nat) (c : Fin 1024) : EReal :=
  silu (ln (Cv I xs s) (fun k => I.lg (ix2 0 k)) (fun k => I.lb (ix2 0 k)) c) * silu (Z I (xs s) 2 c)

def YA (s : Nat) (c : Fin 1024) : EReal := ∑ k, GA I xs s k * I.wa (ix2 k c)

/-- The window's length in group `g`. -/
def win (g : Nat) : Nat := 2 ^ (g + 1)

/-- The sum over the window of length `w` that ends at row `s`. -/
def Tot (w : Nat) (s : Nat) (c : Fin 1024) : EReal := ∑ b : Fin w, vp I xs (s + 16 - b.val) c

/-- One over the number of rows in the window. -/
def inv (w s : Nat) : EReal := Ideal.div 1 (((min (s + 1) w : Nat) : ℝ) : EReal)

/-- The pooled value less the token's own. -/
def Pin (s : Nat) (c : Fin 1024) : EReal :=
  Tot I xs (win (c.val / 256)) s c * inv (win (c.val / 256)) s - vp I xs (s + 16) c

/-- The per-group map, with bias and scale. -/
def P (s : Nat) (c : Fin 1024) : EReal :=
  ((∑ k : Fin 256, Pin I xs s ⟨256 * (c.val / 256) + k.val, by omega⟩ * I.wp (ix3 ⟨c.val / 256, by omega⟩ k ⟨c.val % 256, by omega⟩))
    + I.bp (ix2 0 c)) * I.ps (ix2 0 c)

def GB (s : Nat) (c : Fin 1024) : EReal := P I xs s c * silu (Z I (xs s) 4 c)

def YB (s : Nat) (c : Fin 1024) : EReal := ∑ k, GB I xs s k * I.wb (ix2 k c)

/-- The two branches, gated and added. -/
def M (s : Nat) (c : Fin 1024) : EReal := sg (Z I (xs s) 5 c) * YA I xs s c + sg (Z I (xs s) 6 c) * YB I xs s c

def O (s : Nat) (c : Fin 1024) : EReal := xs s c + ∑ k, M I xs s k * I.wo (ix2 k c)

/-- The layer's result. -/
def Out (s : Nat) (c : Fin 1024) : EReal :=
  O I xs s c * Ideal.rsqrt (mean (fun k => O I xs s k * O I xs s k) + eps) * I.nf (ix2 0 c)

/-- The buffers' contents at tile `T`. -/
def FH (T : Nat) (s : St Ideal) : Prop := ∀ r j, s.h (ix2 r j) = H I (xs (256 * T + r.val)) j
def FZ (T : Nat) (q : Fin 7) (s : St Ideal) : Prop := ∀ r c, s.z (ix3 q r c) = Z I (xs (256 * T + r.val)) q c
def FUat (T : Nat) (s : St Ideal) (t : Fin 4) (m : Fin 576) (l : Fin 128) : Prop :=
  s.u (ix3 t m l) = up I xs (256 * T + m.val / 2) ⟨256 * t.val + 128 * (m.val % 2) + l.val, by omega⟩
def FVat (T : Nat) (s : St Ideal) (t : Fin 8) (m : Fin 272) (l : Fin 128) : Prop :=
  s.v (ix3 t m l) = vp I xs (256 * T + m.val) ⟨128 * t.val + l.val, by omega⟩

end Cert.KernelIdeal.Spec

end
-- ==== Proof.VOff.lean ====
/-
  Where the kernel body's windows lie, trip by trip.
-/
module

public import proofs.«01_k».proof.Proof.SpecI

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

theorem off1 : ∀ t0 : Fin k0_t1_loop.trips, k0_off1 t0 = ![0, 32 * t0.val, 0] :=
  fun t0 => funext fun a => (by decide +kernel : ∀ t0 : Fin k0_t1_loop.trips, ∀ a : Fin 3, k0_off1 t0 a = (![0, 32 * t0.val, 0] : Fin 3 → Nat) a) t0 a
theorem off2 : ∀ t0 : Fin k0_t1_loop.trips, k0_off2 t0 = ![32 * t0.val, 0] :=
  fun t0 => funext fun a => (by decide +kernel : ∀ t0 : Fin k0_t1_loop.trips, ∀ a : Fin 2, k0_off2 t0 a = (![32 * t0.val, 0] : Fin 2 → Nat) a) t0 a
theorem off3 : ∀ t0 : Fin k0_t2_loop.trips, ∀ r : Fin 2, k0_off3 t0 (BitVec.ofNat 32 (1024 * r.val)) = ![0, 1024 * r.val + 256 * t0.val] :=
  fun t0 r => funext fun a => (by decide +kernel : ∀ t0 : Fin k0_t2_loop.trips, ∀ r : Fin 2, ∀ a : Fin 2, k0_off3 t0 (BitVec.ofNat 32 (1024 * r.val)) a = (![0, 1024 * r.val + 256 * t0.val] : Fin 2 → Nat) a) t0 r a
theorem off4 : ∀ t0 : Fin k0_t2_loop.trips, ∀ r : Fin 2, k0_off4 t0 (BitVec.ofNat 32 (1024 * r.val)) = ![0, 1024 * r.val + 256 * t0.val] :=
  fun t0 r => funext fun a => (by decide +kernel : ∀ t0 : Fin k0_t2_loop.trips, ∀ r : Fin 2, ∀ a : Fin 2, k0_off4 t0 (BitVec.ofNat 32 (1024 * r.val)) a = (![0, 1024 * r.val + 256 * t0.val] : Fin 2 → Nat) a) t0 r a
theorem off5 : ∀ t0 : Fin k0_t2_loop.trips, k0_off5 t0 = ![0, 0, 256 * t0.val] :=
  fun t0 => funext fun a => (by decide +kernel : ∀ t0 : Fin k0_t2_loop.trips, ∀ a : Fin 3, k0_off5 t0 a = (![0, 0, 256 * t0.val] : Fin 3 → Nat) a) t0 a
theorem off6 : ∀ t0 : Fin k0_t2_loop.trips, k0_off6 t0 = ![1, 0, 256 * t0.val] :=
  fun t0 => funext fun a => (by decide +kernel : ∀ t0 : Fin k0_t2_loop.trips, ∀ a : Fin 3, k0_off6 t0 a = (![1, 0, 256 * t0.val] : Fin 3 → Nat) a) t0 a
theorem off7 : ∀ t0 : Fin k0_t3_loop.trips, k0_off7 t0 = ![0, 32 * t0.val, 0] :=
  fun t0 => funext fun a => (by decide +kernel : ∀ t0 : Fin k0_t3_loop.trips, ∀ a : Fin 3, k0_off7 t0 a = (![0, 32 * t0.val, 0] : Fin 3 → Nat) a) t0 a
theorem off8 : ∀ t0 : Fin k0_t3_loop.trips, k0_off8 t0 = ![1, 32 * t0.val, 0] :=
  fun t0 => funext fun a => (by decide +kernel : ∀ t0 : Fin k0_t3_loop.trips, ∀ a : Fin 3, k0_off8 t0 a = (![1, 32 * t0.val, 0] : Fin 3 → Nat) a) t0 a
theorem off9 : ∀ t0 : Fin k0_t3_loop.trips, k0_off9 t0 = ![0, 64 + 64 * t0.val, 0] :=
  fun t0 => funext fun a => (by decide +kernel : ∀ t0 : Fin k0_t3_loop.trips, ∀ a : Fin 3, k0_off9 t0 a = (![0, 64 + 64 * t0.val, 0] : Fin 3 → Nat) a) t0 a
theorem off10 : ∀ t0 : Fin k0_t3_loop.trips, k0_off10 t0 = ![1, 64 + 64 * t0.val, 0] :=
  fun t0 => funext fun a => (by decide +kernel : ∀ t0 : Fin k0_t3_loop.trips, ∀ a : Fin 3, k0_off10 t0 a = (![1, 64 + 64 * t0.val, 0] : Fin 3 → Nat) a) t0 a
theorem off11 : ∀ t0 : Fin k0_t3_loop.trips, k0_off11 t0 = ![2, 64 + 64 * t0.val, 0] :=
  fun t0 => funext fun a => (by decide +kernel : ∀ t0 : Fin k0_t3_loop.trips, ∀ a : Fin 3, k0_off11 t0 a = (![2, 64 + 64 * t0.val, 0] : Fin 3 → Nat) a) t0 a
theorem off12 : ∀ t0 : Fin k0_t3_loop.trips, k0_off12 t0 = ![3, 64 + 64 * t0.val, 0] :=
  fun t0 => funext fun a => (by decide +kernel : ∀ t0 : Fin k0_t3_loop.trips, ∀ a : Fin 3, k0_off12 t0 a = (![3, 64 + 64 * t0.val, 0] : Fin 3 → Nat) a) t0 a
theorem off13 : ∀ t0 : Fin k0_t4_loop.trips, k0_off13 t0 = ![0, 3072 + 256 * t0.val] :=
  fun t0 => funext fun a => (by decide +kernel : ∀ t0 : Fin k0_t4_loop.trips, ∀ a : Fin 2, k0_off13 t0 a = (![0, 3072 + 256 * t0.val] : Fin 2 → Nat) a) t0 a
theorem off14 : ∀ t0 : Fin k0_t4_loop.trips, k0_off14 t0 = ![0, 3072 + 256 * t0.val] :=
  fun t0 => funext fun a => (by decide +kernel : ∀ t0 : Fin k0_t4_loop.trips, ∀ a : Fin 2, k0_off14 t0 a = (![0, 3072 + 256 * t0.val] : Fin 2 → Nat) a) t0 a
theorem off15 : ∀ t0 : Fin k0_t4_loop.trips, ∀ r : Fin 2, k0_off15 t0 (BitVec.ofNat 32 (r.val)) = ![2 * t0.val + r.val, 16, 0] :=
  fun t0 r => funext fun a => (by decide +kernel : ∀ t0 : Fin k0_t4_loop.trips, ∀ r : Fin 2, ∀ a : Fin 3, k0_off15 t0 (BitVec.ofNat 32 (r.val)) a = (![2 * t0.val + r.val, 16, 0] : Fin 3 → Nat) a) t0 r a
theorem off16 : ∀ t0 : Fin k0_t5_loop.trips, k0_off16 t0 = ![0, 2048 + 256 * t0.val] :=
  fun t0 => funext fun a => (by decide +kernel : ∀ t0 : Fin k0_t5_loop.trips, ∀ a : Fin 2, k0_off16 t0 a = (![0, 2048 + 256 * t0.val] : Fin 2 → Nat) a) t0 a
theorem off17 : ∀ t0 : Fin k0_t5_loop.trips, k0_off17 t0 = ![0, 2048 + 256 * t0.val] :=
  fun t0 => funext fun a => (by decide +kernel : ∀ t0 : Fin k0_t5_loop.trips, ∀ a : Fin 2, k0_off17 t0 a = (![0, 2048 + 256 * t0.val] : Fin 2 → Nat) a) t0 a
theorem off18 : ∀ t0 : Fin k0_t5_loop.trips, k0_off18 t0 = ![2, 0, 256 * t0.val] :=
  fun t0 => funext fun a => (by decide +kernel : ∀ t0 : Fin k0_t5_loop.trips, ∀ a : Fin 3, k0_off18 t0 a = (![2, 0, 256 * t0.val] : Fin 3 → Nat) a) t0 a
theorem off19 : ∀ t0 : Fin k0_t6_loop.trips, k0_off19 t0 = ![0, 4096 + 256 * t0.val] :=
  fun t0 => funext fun a => (by decide +kernel : ∀ t0 : Fin k0_t6_loop.trips, ∀ a : Fin 2, k0_off19 t0 a = (![0, 4096 + 256 * t0.val] : Fin 2 → Nat) a) t0 a
theorem off20 : ∀ t0 : Fin k0_t6_loop.trips, k0_off20 t0 = ![0, 4096 + 256 * t0.val] :=
  fun t0 => funext fun a => (by decide +kernel : ∀ t0 : Fin k0_t6_loop.trips, ∀ a : Fin 2, k0_off20 t0 a = (![0, 4096 + 256 * t0.val] : Fin 2 → Nat) a) t0 a
theorem off21 : ∀ t0 : Fin k0_t6_loop.trips, k0_off21 t0 = ![4, 0, 256 * t0.val] :=
  fun t0 => funext fun a => (by decide +kernel : ∀ t0 : Fin k0_t6_loop.trips, ∀ a : Fin 3, k0_off21 t0 a = (![4, 0, 256 * t0.val] : Fin 3 → Nat) a) t0 a
theorem off22 : ∀ t0 : Fin k0_t7_loop.trips, k0_off22 t0 = ![0, 5120 + 256 * t0.val] :=
  fun t0 => funext fun a => (by decide +kernel : ∀ t0 : Fin k0_t7_loop.trips, ∀ a : Fin 2, k0_off22 t0 a = (![0, 5120 + 256 * t0.val] : Fin 2 → Nat) a) t0 a
theorem off23 : ∀ t0 : Fin k0_t7_loop.trips, k0_off23 t0 = ![0, 5120 + 256 * t0.val] :=
  fun t0 => funext fun a => (by decide +kernel : ∀ t0 : Fin k0_t7_loop.trips, ∀ a : Fin 2, k0_off23 t0 a = (![0, 5120 + 256 * t0.val] : Fin 2 → Nat) a) t0 a
theorem off24 : ∀ t0 : Fin k0_t7_loop.trips, k0_off24 t0 = ![5, 0, 256 * t0.val] :=
  fun t0 => funext fun a => (by decide +kernel : ∀ t0 : Fin k0_t7_loop.trips, ∀ a : Fin 3, k0_off24 t0 a = (![5, 0, 256 * t0.val] : Fin 3 → Nat) a) t0 a
theorem off25 : ∀ t0 : Fin k0_t8_loop.trips, k0_off25 t0 = ![0, 6144 + 256 * t0.val] :=
  fun t0 => funext fun a => (by decide +kernel : ∀ t0 : Fin k0_t8_loop.trips, ∀ a : Fin 2, k0_off25 t0 a = (![0, 6144 + 256 * t0.val] : Fin 2 → Nat) a) t0 a
theorem off26 : ∀ t0 : Fin k0_t8_loop.trips, k0_off26 t0 = ![0, 6144 + 256 * t0.val] :=
  fun t0 => funext fun a => (by decide +kernel : ∀ t0 : Fin k0_t8_loop.trips, ∀ a : Fin 2, k0_off26 t0 a = (![0, 6144 + 256 * t0.val] : Fin 2 → Nat) a) t0 a
theorem off27 : ∀ t0 : Fin k0_t8_loop.trips, k0_off27 t0 = ![6, 0, 256 * t0.val] :=
  fun t0 => funext fun a => (by decide +kernel : ∀ t0 : Fin k0_t8_loop.trips, ∀ a : Fin 3, k0_off27 t0 a = (![6, 0, 256 * t0.val] : Fin 3 → Nat) a) t0 a

end Cert.KernelIdeal.Val

end
-- ==== Proof.VA.lean ====
/-
  The first two windows of the kernel body: a projection piece, and the gated units.
-/
module

public import proofs.«01_k».proof.Proof.VOff

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

theorem first_tile : ∀ n : Fin 8, (Scalar.cmpi .ne (Scalar.extui (Scalar.cmpi .eq (BitVec.ofNat 32 n.val) 0#32) : BitVec 32) 0#32 = 1#1) ↔ n.val = 0 := by decide +kernel

variable (A : Args) (I : In Ideal) (d : Dev nD) (xs : Nat → Row)

theorem z_entry {x : Row} {f : S256x1024.Idx → EReal} {r : Fin 256} (h : ∀ j, f (ix2 r j) = H I x j) (q : Fin 7) (c : Fin 1024) (n n' : Fin 7168)
    (hn : n.val = 1024 * q.val + c.val) (hn' : n'.val = 1024 * q.val + c.val) :
    (∑ k, f (ix2 r k) * I.wi (ix2 k n)) + I.bi (ix2 0 n') = Z I x q c := by
  obtain ⟨n, hb⟩ := n
  obtain ⟨n', hb'⟩ := n'
  simp only at hn hn'
  subst hn hn'
  simp only [h]; rfl

local notation "V" => Ev A I d

theorem u_eq {a b : Nat} {c c' : Fin 1024} (h : a = b) (h' : c.val = c'.val) : U I (xs a) c = U I (xs b) c' := by
  subst h; rw [Fin.ext h']

theorem up_row {p q : Nat} {c : Fin 1024} (h : p = 32 + q) : up I xs p c = U I (xs q) c := by
  subst h; unfold up; rw [if_neg (by omega)]; congr 2; omega

theorem part1 (i : grid0.Coords) (b1 b2 : BitVec 32) (t : Fin k0_t2_loop.trips) (T : Nat) (s : St Ideal) (hH : ∀ r j, s.h (ix2 r j) = H I (xs (256 * T + r.val)) j) :
    Tr V (k0_part1 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 b1 b2 t) s (fun a s' => ∃ X, s' = { s with z := X }
      ∧ (∀ p r c, ¬ (p.val = 0 ∧ 256 * t.val ≤ c.val ∧ c.val < 256 * t.val + 256) → X (ix3 p r c) = s.z (ix3 p r c))
      ∧ (∀ r c, 256 * t.val ≤ c.val → c.val < 256 * t.val + 256 → X (ix3 0 r c) = Z I (xs (256 * T + r.val)) 0 c)
      ∧ ∀ r c c', c.val = 256 * t.val + c'.val → a.1 (ix2 r c') = Z I (xs (256 * T + r.val)) 1 c) := by
  have ht : t.val < 4 := t.isLt
  have e30 : k0_off3 t 0#32 = ![0, 256 * t.val] := (off3 t 0).trans (by simp)
  have e40 : k0_off4 t 0#32 = ![0, 256 * t.val] := (off4 t 0).trans (by simp)
  have e31 : k0_off3 t 1024#32 = ![0, 1024 + 256 * t.val] := off3 t 1
  have e41 : k0_off4 t 1024#32 = ![0, 1024 + 256 * t.val] := off4 t 1
  unfold k0_part1
  repeat' first | (with_reducible refine Tr.load ?_) | (with_reducible refine Tr.store ?_) | extract_lets
  refine Tr.ret ⟨_, rfl, fun p r c hp => ?_, fun r c h1 h2 => ?_, fun r c c' hc => ?_⟩
  · by_cases h0 : p.val = 0
    · exact put_off_unit (off5 _) 2 256 rfl (by simp; omega)
    · exact put_off_unit (off5 _) 0 1 rfl (by simp; omega)
  · refine (put_at_unit (off5 _) (ix3 0 r ⟨c.val - 256 * t.val, by omega⟩) (fun a => ?_)).trans ?_
    · fin_cases a <;> simp <;> omega
    dsimp +zetaDelta only
    pointwise [e30, e40]
    refine z_entry I (fun j => hH r j) 0 c _ _ ?_ ?_ <;> simp <;> omega
  · dsimp +zetaDelta only
    pointwise [e31, e41]
    refine z_entry I (fun j => hH r j) 1 c _ _ ?_ ?_ <;> simp <;> omega

theorem part2 (i : grid0.Coords) (b1 b2 : BitVec 32) (t : Fin k0_t3_loop.trips) (T : Nat) (s : St Ideal)
    (h0 : ∀ r j, s.z (ix3 0 r j) = Z I (xs (256 * T + r.val)) 0 j) (h1 : ∀ r j, s.z (ix3 1 r j) = Z I (xs (256 * T + r.val)) 1 j) :
    Tr V (k0_part2 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 b1 b2 t) s (fun a s' => ∃ X, s' = { s with u := X }
      ∧ (∀ p m l, ¬ (p.val = 0 ∧ 64 + 64 * t.val ≤ m.val ∧ m.val < 128 + 64 * t.val) → X (ix3 p m l) = s.u (ix3 p m l))
      ∧ (∀ m l, 64 + 64 * t.val ≤ m.val → m.val < 128 + 64 * t.val → FUat I xs T { s with u := X } 0 m l)
      ∧ (∀ r j, a.2.1 (ix2 r j) = U I (xs (256 * T + (32 * t.val + r.val))) j)
      ∧ (∀ r l, a.2.2.1 (ix2 r l) = U I (xs (256 * T + (32 * t.val + r.val))) ⟨256 + l.val, by omega⟩)
      ∧ ∀ r l, a.2.2.2.1 (ix2 r l) = U I (xs (256 * T + (32 * t.val + r.val))) ⟨384 + l.val, by omega⟩) := by
  have ht : t.val < 8 := t.isLt
  unfold k0_part2
  repeat' first | (with_reducible refine Tr.load ?_) | (with_reducible refine Tr.store ?_) | extract_lets
  refine Tr.ret ⟨_, rfl, fun p m l hp => ?_, fun m l h2 h3 => ?_, fun r l => ?_, fun r l => ?_, fun r l => ?_⟩
  · by_cases h0 : p.val = 0
    · exact put_off_unit (off9 _) 1 64 rfl (by simp; omega)
    · exact put_off_unit (off9 _) 0 1 rfl (by simp; omega)
  · refine (put_at_unit (off9 _) (ix3 0 ⟨m.val - (64 + 64 * t.val), by omega⟩ l) (fun a => ?_)).trans ?_
    · fin_cases a <;> simp <;> omega
    dsimp +zetaDelta only
    pointwise [off7, off8]
    simp only [h0, h1]
    refine Eq.trans ?_ (up_row I xs (q := 256 * T + (32 * t.val + (m.val - (64 + 64 * t.val)) / 2)) (by omega)).symm
    split
    · exact u_eq I xs rfl (by simp; omega)
    · exact u_eq I xs rfl (by simp; omega)
  · dsimp +zetaDelta only
    pointwise [off7, off8]
    simp only [h0, h1]; rfl
  · dsimp +zetaDelta only
    pointwise [off7, off8]
    simp only [h0, h1]; rfl
  · dsimp +zetaDelta only
    pointwise [off7, off8]
    simp only [h0, h1]; rfl
end Cert.KernelIdeal.Val

end
-- ==== Proof.VB.lean ====
/-
  The first half of the kernel body: normalization, projections, gated units.
-/
module

public import proofs.«01_k».proof.Proof.VA

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

variable (A : Args) (I : In Ideal) (d : Dev nD) (xs : Nat → Row)
local notation "V" => Ev A I d

theorem vp_row {p q : Nat} {c : Fin 1024} (h : p = 16 + q) : vp I xs p c = Z I (xs q) 3 c := by
  subst h; unfold vp; rw [if_neg (by omega)]; congr 2; omega

set_option maxHeartbeats 4000000 in
theorem part84 (i : grid0.Coords) (T : Nat) (hT : (i 1).val = T) (s : St Ideal) (hx : ∀ r j, I.x (ix3 0 r j) = xs (256 * T + r.val) j)
    (hu : T ≠ 0 → ∀ t m l, m.val < 64 → FUat I xs T s t m l) (hv : T ≠ 0 → ∀ t m l, m.val < 16 → FVat I xs T s t m l) :
    Tr V (k0_part84 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27) s (fun a s' => a.1 = BitVec.ofNat 32 (i 1).val ∧ FZ I xs T 2 s' ∧ FZ I xs T 4 s' ∧ FZ I xs T 5 s' ∧ FZ I xs T 6 s'
      ∧ (∀ t m l, FUat I xs T s' t m l) ∧ ∀ t m l, FVat I xs T s' t m l) := by
  unfold k0_part84
  extract_lets a0 a1 a2 a3 a4 a5 a6
  rename_i jp _ _ _ _ _ _
  have key : ∀ s : St Ideal, (∀ t m l, m.val < 64 → FUat I xs T s t m l) → (∀ t m l, m.val < 16 → FVat I xs T s t m l) →
      Tr V (jp ⟨⟩) s (fun a s' => a.1 = BitVec.ofNat 32 (i 1).val ∧ FZ I xs T 2 s' ∧ FZ I xs T 4 s' ∧ FZ I xs T 5 s' ∧ FZ I xs T 6 s'
      ∧ (∀ t m l, FUat I xs T s' t m l) ∧ ∀ t m l, FVat I xs T s' t m l) := by
    intro s hu hv
    show Tr V (jp ⟨⟩) s _
    unfold jp
    beta_reduce
    refine Tr.for (fun n _ s' => ∃ X, s' = { s with h := X } ∧ ∀ r j, r.val < 32 * n → X (ix2 r j) = H I (xs (256 * T + r.val)) j) ⟨s.h, rfl, fun r j h => by omega⟩ ?_ ?_
    · rintro t - s' ⟨X, rfl, hX⟩
      have ht : t.val < 8 := t.isLt
      repeat' first | (with_reducible refine Tr.load ?_) | (with_reducible refine Tr.store ?_) | extract_lets
      refine Tr.ret ⟨_, rfl, fun r j hr => ?_⟩
      by_cases h : 32 * t.val ≤ r.val
      · refine (put_at_unit (off2 _) (ix2 ⟨r.val - 32 * t.val, by omega⟩ j) (fun a => ?_)).trans ?_
        · fin_cases a <;> simp <;> omega
        try dsimp +zetaDelta only
        pointwise [off1]
        have e : 32 * t.val + (r.val - 32 * t.val) = r.val := by omega
        simp only [hx, e]; rfl
      · exact (put_off_unit (off2 _) 0 32 rfl (by simp; omega)).trans (hX r j (by omega))
    rintro - s' ⟨Xh, rfl, hH⟩
    replace hH : ∀ r j, Xh (ix2 r j) = H I (xs (256 * T + r.val)) j := fun r j => hH r j r.isLt
    -- the two halves of the gated unit
    refine Tr.for (fun n _ s' => ∃ X, s' = { s with h := Xh, z := X } ∧ (∀ r c, c.val < 256 * n → X (ix3 0 r c) = Z I (xs (256 * T + r.val)) 0 c)
      ∧ ∀ r c, c.val < 256 * n → X (ix3 1 r c) = Z I (xs (256 * T + r.val)) 1 c) ⟨s.z, rfl, fun r j h => by omega, fun r j h => by omega⟩ ?_ ?_
    · rintro t - s' ⟨X, rfl, hX, hX'⟩
      have ht : t.val < 4 := t.isLt
      refine Tr.bind _ (part1 A I d xs i _ _ t T _ hH) ?_
      rintro ⟨v57, v60⟩ s' ⟨Y, rfl, hY, hY0, hY1⟩
      repeat' first | (with_reducible refine Tr.load ?_) | (with_reducible refine Tr.store ?_) | extract_lets
      refine Tr.ret ⟨_, rfl, fun r c hr => ?_, fun r c hr => ?_⟩
      · refine (put_off_unit (off6 _) 0 1 rfl (by simp)).trans ?_
        by_cases h : 256 * t.val ≤ c.val
        · exact hY0 r c h (by omega)
        · exact (hY 0 r c (by omega)).trans (hX r c (by omega))
      · by_cases h : 256 * t.val ≤ c.val
        · refine (put_at_unit (off6 _) (ix3 0 r ⟨c.val - 256 * t.val, by omega⟩) (fun a => ?_)).trans ?_
          · fin_cases a <;> simp <;> omega
          try dsimp +zetaDelta only
          pointwise []
          exact hY1 r c _ (by simp; omega)
        · exact (put_off_unit (off6 _) 2 256 rfl (by simp; omega)).trans ((hY 1 r c (by simp)).trans (hX' r c (by omega)))
    rintro - s' ⟨Xz, rfl, hZ0, hZ1⟩
    replace hZ0 : ∀ r c, Xz (ix3 0 r c) = Z I (xs (256 * T + r.val)) 0 c := fun r c => hZ0 r c c.isLt
    replace hZ1 : ∀ r c, Xz (ix3 1 r c) = Z I (xs (256 * T + r.val)) 1 c := fun r c => hZ1 r c c.isLt
    -- the gated units, two lanes blocks to a word
    refine Tr.for (fun n _ s' => ∃ X, s' = { s with h := Xh, z := Xz, u := X } ∧ ∀ t m l, m.val < 64 + 64 * n → FUat I xs T { s with u := X } t m l)
      ⟨s.u, rfl, fun t m l h => hu t m l (by omega)⟩ ?_ ?_
    · rintro t - s' ⟨X, rfl, hX⟩
      have ht : t.val < 8 := t.isLt
      refine Tr.bind _ (part2 A I d xs i _ _ t T _ hZ0 hZ1) ?_
      rintro ⟨b, v40, v54l, v54h, raw, lo⟩ s' ⟨Y, rfl, hY, hY0, h40, h54l, h54h⟩
      dsimp only at h40 h54l h54h
      repeat' first | (with_reducible refine Tr.load ?_) | (with_reducible refine Tr.store ?_) | extract_lets
      refine Tr.ret ⟨_, rfl, fun p m l hm => ?_⟩
      by_cases h : m.val < 64 + 64 * t.val
      · refine (put_off_unit (off12 _) 1 64 rfl (by simp; omega)).trans ?_
        refine (put_off_unit (off11 _) 1 64 rfl (by simp; omega)).trans ?_
        refine (put_off_unit (off10 _) 1 64 rfl (by simp; omega)).trans ?_
        exact (hY p m l (by omega)).trans (hX p m l h)
      have hp : p.val = 0 ∨ p.val = 1 ∨ p.val = 2 ∨ p.val = 3 := by omega
      rcases hp with hp | hp | hp | hp
      · refine (put_off_unit (off12 _) 0 1 rfl (by simp; omega)).trans ?_
        refine (put_off_unit (off11 _) 0 1 rfl (by simp; omega)).trans ?_
        refine (put_off_unit (off10 _) 0 1 rfl (by simp; omega)).trans ?_
        obtain rfl : p = 0 := Fin.ext hp
        exact hY0 m l (by omega) (by omega)
      · refine (put_off_unit (off12 _) 0 1 rfl (by simp; omega)).trans ?_
        refine (put_off_unit (off11 _) 0 1 rfl (by simp; omega)).trans ?_
        refine (put_at_unit (off10 _) (ix3 0 ⟨m.val - (64 + 64 * t.val), by omega⟩ l) (fun a => ?_)).trans ?_
        · fin_cases a <;> simp <;> omega
        try dsimp +zetaDelta only
        pointwise []
        simp only [h54l, h54h]
        refine Eq.trans ?_ (up_row I xs (q := 256 * T + (32 * t.val + (m.val - (64 + 64 * t.val)) / 2)) (by omega)).symm
        split
        · exact u_eq I xs rfl (by simp; omega)
        · exact u_eq I xs rfl (by simp; omega)
      · refine (put_off_unit (off12 _) 0 1 rfl (by simp; omega)).trans ?_
        refine (put_at_unit (off11 _) (ix3 0 ⟨m.val - (64 + 64 * t.val), by omega⟩ l) (fun a => ?_)).trans ?_
        · fin_cases a <;> simp <;> omega
        try dsimp +zetaDelta only
        pointwise []
        simp only [h40]
        refine Eq.trans ?_ (up_row I xs (q := 256 * T + (32 * t.val + (m.val - (64 + 64 * t.val)) / 2)) (by omega)).symm
        split
        · exact u_eq I xs rfl (by simp; omega)
        · exact u_eq I xs rfl (by simp; omega)
      · refine (put_at_unit (off12 _) (ix3 0 ⟨m.val - (64 + 64 * t.val), by omega⟩ l) (fun a => ?_)).trans ?_
        · fin_cases a <;> simp <;> omega
        try dsimp +zetaDelta only
        pointwise []
        simp only [h40]
        refine Eq.trans ?_ (up_row I xs (q := 256 * T + (32 * t.val + (m.val - (64 + 64 * t.val)) / 2)) (by omega)).symm
        split
        · exact u_eq I xs rfl (by simp; omega)
        · exact u_eq I xs rfl (by simp; omega)
    rintro - s' ⟨Xu, rfl, hU⟩
    replace hU : ∀ t m l, FUat I xs T { s with u := Xu } t m l := fun t m l => hU t m l (by have := m.isLt; show _ < 64 + 64 * 8; omega)
    -- the pooled values
    refine Tr.for (fun n _ s' => ∃ X, s' = { s with h := Xh, z := Xz, u := Xu, v := X }
      ∧ ∀ t m l, m.val < 16 ∨ t.val < 2 * n → FVat I xs T { s with v := X } t m l)
      ⟨s.v, rfl, fun t m l h => hv t m l (by omega)⟩ ?_ ?_
    · rintro t - s' ⟨X, rfl, hX⟩
      have ht : t.val < 4 := t.isLt
      repeat' first | (with_reducible refine Tr.load ?_) | (with_reducible refine Tr.store ?_) | extract_lets
      refine Tr.ret ⟨_, rfl, fun p m l hm => ?_⟩
      by_cases h : m.val < 16 ∨ p.val < 2 * t.val
      · rcases h with h | h
        · refine (put_off_unit (off15 _ 1) 1 256 rfl (by simp; omega)).trans ?_
          refine (put_off_unit (off15 _ 0) 1 256 rfl (by simp; omega)).trans ?_
          exact hX p m l (.inl h)
        · refine (put_off_unit (off15 _ 1) 0 1 rfl (by simp; omega)).trans ?_
          refine (put_off_unit (off15 _ 0) 0 1 rfl (by simp; omega)).trans ?_
          exact hX p m l (.inr h)
      have hp : p.val = 2 * t.val ∨ p.val = 2 * t.val + 1 := by omega
      rcases hp with hp | hp
      · refine (put_off_unit (off15 _ 1) 0 1 rfl (by simp; omega)).trans ?_
        refine (put_at_unit (off15 _ 0) (ix3 0 ⟨m.val - 16, by omega⟩ l) (fun a => ?_)).trans ?_
        · fin_cases a <;> simp <;> omega
        try dsimp +zetaDelta only
        pointwise [off13, off14]
        refine Eq.trans ?_ (vp_row I xs (q := 256 * T + (m.val - 16)) (by omega)).symm
        refine z_entry I (fun j => hH _ j) 3 _ _ _ ?_ ?_ <;> simp <;> omega
      · refine (put_at_unit (off15 _ 1) (ix3 0 ⟨m.val - 16, by omega⟩ l) (fun a => ?_)).trans ?_
        · fin_cases a <;> simp <;> omega
        try dsimp +zetaDelta only
        pointwise [off13, off14]
        refine Eq.trans ?_ (vp_row I xs (q := 256 * T + (m.val - 16)) (by omega)).symm
        refine z_entry I (fun j => hH _ j) 3 _ _ _ ?_ ?_ <;> simp <;> omega
    rintro - s' ⟨Xv, rfl, hV⟩
    replace hV : ∀ t m l, FVat I xs T { s with v := Xv } t m l := fun t m l => hV t m l (.inr t.isLt)
    refine Tr.for (fun n _ s' => ∃ X, s' = { s with h := Xh, u := Xu, v := Xv, z := X } ∧ (∀ p r c, p.val ≠ 2 → X (ix3 p r c) = Xz (ix3 p r c)) ∧ ∀ r c, c.val < 256 * n → X (ix3 2 r c) = Z I (xs (256 * T + r.val)) 2 c) ⟨Xz, rfl, fun _ _ _ _ => rfl, fun r j h => by omega⟩ ?_ ?_
    · rintro t - s' ⟨X, rfl, hX, hX'⟩
      have ht : t.val < 4 := t.isLt
      repeat' first | (with_reducible refine Tr.load ?_) | (with_reducible refine Tr.store ?_) | extract_lets
      refine Tr.ret ⟨_, rfl, fun p r c hp => ?_, fun r c hr => ?_⟩
      · exact (put_off_unit (off18 _) 0 1 rfl (by simp; omega)).trans (hX p r c hp)
      by_cases h : 256 * t.val ≤ c.val
      · refine (put_at_unit (off18 _) (ix3 0 r ⟨c.val - 256 * t.val, by omega⟩) (fun a => ?_)).trans ?_
        · fin_cases a <;> simp <;> omega
        try dsimp +zetaDelta only
        pointwise [off16, off17]
        refine z_entry I (fun j => hH r j) 2 c _ _ ?_ ?_ <;> simp <;> omega
      · exact (put_off_unit (off18 _) 2 256 rfl (by simp; omega)).trans (hX' r c (by omega))
    rintro - s' ⟨X2, rfl, hO2, hZ2⟩
    replace hZ2 : ∀ r c, X2 (ix3 2 r c) = Z I (xs (256 * T + r.val)) 2 c := fun r c => hZ2 r c c.isLt
    refine Tr.for (fun n _ s' => ∃ X, s' = { s with h := Xh, u := Xu, v := Xv, z := X } ∧ (∀ p r c, p.val ≠ 4 → X (ix3 p r c) = X2 (ix3 p r c)) ∧ ∀ r c, c.val < 256 * n → X (ix3 4 r c) = Z I (xs (256 * T + r.val)) 4 c) ⟨X2, rfl, fun _ _ _ _ => rfl, fun r j h => by omega⟩ ?_ ?_
    · rintro t - s' ⟨X, rfl, hX, hX'⟩
      have ht : t.val < 4 := t.isLt
      repeat' first | (with_reducible refine Tr.load ?_) | (with_reducible refine Tr.store ?_) | extract_lets
      refine Tr.ret ⟨_, rfl, fun p r c hp => ?_, fun r c hr => ?_⟩
      · exact (put_off_unit (off21 _) 0 1 rfl (by simp; omega)).trans (hX p r c hp)
      by_cases h : 256 * t.val ≤ c.val
      · refine (put_at_unit (off21 _) (ix3 0 r ⟨c.val - 256 * t.val, by omega⟩) (fun a => ?_)).trans ?_
        · fin_cases a <;> simp <;> omega
        try dsimp +zetaDelta only
        pointwise [off19, off20]
        refine z_entry I (fun j => hH r j) 4 c _ _ ?_ ?_ <;> simp <;> omega
      · exact (put_off_unit (off21 _) 2 256 rfl (by simp; omega)).trans (hX' r c (by omega))
    rintro - s' ⟨X4, rfl, hO4, hZ4⟩
    replace hZ4 : ∀ r c, X4 (ix3 4 r c) = Z I (xs (256 * T + r.val)) 4 c := fun r c => hZ4 r c c.isLt
    refine Tr.for (fun n _ s' => ∃ X, s' = { s with h := Xh, u := Xu, v := Xv, z := X } ∧ (∀ p r c, p.val ≠ 5 → X (ix3 p r c) = X4 (ix3 p r c)) ∧ ∀ r c, c.val < 256 * n → X (ix3 5 r c) = Z I (xs (256 * T + r.val)) 5 c) ⟨X4, rfl, fun _ _ _ _ => rfl, fun r j h => by omega⟩ ?_ ?_
    · rintro t - s' ⟨X, rfl, hX, hX'⟩
      have ht : t.val < 4 := t.isLt
      repeat' first | (with_reducible refine Tr.load ?_) | (with_reducible refine Tr.store ?_) | extract_lets
      refine Tr.ret ⟨_, rfl, fun p r c hp => ?_, fun r c hr => ?_⟩
      · exact (put_off_unit (off24 _) 0 1 rfl (by simp; omega)).trans (hX p r c hp)
      by_cases h : 256 * t.val ≤ c.val
      · refine (put_at_unit (off24 _) (ix3 0 r ⟨c.val - 256 * t.val, by omega⟩) (fun a => ?_)).trans ?_
        · fin_cases a <;> simp <;> omega
        try dsimp +zetaDelta only
        pointwise [off22, off23]
        refine z_entry I (fun j => hH r j) 5 c _ _ ?_ ?_ <;> simp <;> omega
      · exact (put_off_unit (off24 _) 2 256 rfl (by simp; omega)).trans (hX' r c (by omega))
    rintro - s' ⟨X5, rfl, hO5, hZ5⟩
    replace hZ5 : ∀ r c, X5 (ix3 5 r c) = Z I (xs (256 * T + r.val)) 5 c := fun r c => hZ5 r c c.isLt
    refine Tr.for (fun n _ s' => ∃ X, s' = { s with h := Xh, u := Xu, v := Xv, z := X } ∧ (∀ p r c, p.val ≠ 6 → X (ix3 p r c) = X5 (ix3 p r c)) ∧ ∀ r c, c.val < 256 * n → X (ix3 6 r c) = Z I (xs (256 * T + r.val)) 6 c) ⟨X5, rfl, fun _ _ _ _ => rfl, fun r j h => by omega⟩ ?_ ?_
    · rintro t - s' ⟨X, rfl, hX, hX'⟩
      have ht : t.val < 4 := t.isLt
      repeat' first | (with_reducible refine Tr.load ?_) | (with_reducible refine Tr.store ?_) | extract_lets
      refine Tr.ret ⟨_, rfl, fun p r c hp => ?_, fun r c hr => ?_⟩
      · exact (put_off_unit (off27 _) 0 1 rfl (by simp; omega)).trans (hX p r c hp)
      by_cases h : 256 * t.val ≤ c.val
      · refine (put_at_unit (off27 _) (ix3 0 r ⟨c.val - 256 * t.val, by omega⟩) (fun a => ?_)).trans ?_
        · fin_cases a <;> simp <;> omega
        try dsimp +zetaDelta only
        pointwise [off25, off26]
        refine z_entry I (fun j => hH r j) 6 c _ _ ?_ ?_ <;> simp <;> omega
      · exact (put_off_unit (off27 _) 2 256 rfl (by simp; omega)).trans (hX' r c (by omega))
    rintro - s' ⟨X6, rfl, hO6, hZ6⟩
    replace hZ6 : ∀ r c, X6 (ix3 6 r c) = Z I (xs (256 * T + r.val)) 6 c := fun r c => hZ6 r c c.isLt

    refine Tr.ret ⟨rfl, fun r c => ?_, fun r c => ?_, fun r c => ?_, hZ6, hU, hV⟩
    · exact (hO6 _ r c (by simp)).trans ((hO5 _ r c (by simp)).trans ((hO4 _ r c (by simp)).trans (hZ2 r c)))
    · exact (hO6 _ r c (by simp)).trans ((hO5 _ r c (by simp)).trans (hZ4 r c))
    · exact (hO6 _ r c (by simp)).trans (hZ5 r c)
  refine Tr.iteJ ?_ ?_ <;> intro h
  · have h0 : T = 0 := hT ▸ (first_tile (i 1)).mp h
    subst h0
    repeat' first | (with_reducible refine Tr.load ?_) | (with_reducible refine Tr.store ?_) | extract_lets
    refine key _ (fun t m l hm => ?_) (fun t m l hm => ?_)
    · refine (put_at_unit rfl (ix3 t ⟨m.val, hm⟩ l) (fun a => ?_)).trans ?_
      · fin_cases a <;> simp
      try dsimp +zetaDelta only
      pointwise []
      exact (if_pos (by omega)).symm
    · refine (put_at_unit rfl (ix3 t ⟨m.val, hm⟩ l) (fun a => ?_)).trans ?_
      · fin_cases a <;> simp
      try dsimp +zetaDelta only
      pointwise []
      exact (if_pos (by omega)).symm
  · have h0 : T ≠ 0 := fun h0 => h ((first_tile (i 1)).mpr (hT.trans h0))
    exact key _ (hu h0) (hv h0)

end Cert.KernelIdeal.Val

end
-- ==== Proof.VOff2.lean ====
/-
  Where the windows of the body's second half lie.
-/
module

public import proofs.«01_k».proof.Proof.SpecI

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

theorem off28 : ∀ t0 : Fin k0_t9_loop.trips, ∀ r : Fin 2, k0_off28 t0 (BitVec.ofNat 32 (r.val)) = ![0, 256 * t0.val + 128 * r.val] :=
  fun t0 r => funext fun a => (by decide +kernel : ∀ t0 : Fin k0_t9_loop.trips, ∀ r : Fin 2, ∀ a : Fin 2, k0_off28 t0 (BitVec.ofNat 32 (r.val)) a = (![0, 256 * t0.val + 128 * r.val] : Fin 2 → Nat) a) t0 r a
theorem off29 : ∀ t0 : Fin k0_t9_loop.trips, ∀ r : Fin 2, k0_off29 t0 (BitVec.ofNat 32 (r.val)) = ![1, 256 * t0.val + 128 * r.val] :=
  fun t0 r => funext fun a => (by decide +kernel : ∀ t0 : Fin k0_t9_loop.trips, ∀ r : Fin 2, ∀ a : Fin 2, k0_off29 t0 (BitVec.ofNat 32 (r.val)) a = (![1, 256 * t0.val + 128 * r.val] : Fin 2 → Nat) a) t0 r a
theorem off30 : ∀ t0 : Fin k0_t9_loop.trips, ∀ r : Fin 2, k0_off30 t0 (BitVec.ofNat 32 (r.val)) = ![2, 256 * t0.val + 128 * r.val] :=
  fun t0 r => funext fun a => (by decide +kernel : ∀ t0 : Fin k0_t9_loop.trips, ∀ r : Fin 2, ∀ a : Fin 2, k0_off30 t0 (BitVec.ofNat 32 (r.val)) a = (![2, 256 * t0.val + 128 * r.val] : Fin 2 → Nat) a) t0 r a
theorem off31 : ∀ t0 : Fin k0_t9_loop.trips, ∀ r : Fin 2, k0_off31 t0 (BitVec.ofNat 32 (r.val)) = ![3, 256 * t0.val + 128 * r.val] :=
  fun t0 r => funext fun a => (by decide +kernel : ∀ t0 : Fin k0_t9_loop.trips, ∀ r : Fin 2, ∀ a : Fin 2, k0_off31 t0 (BitVec.ofNat 32 (r.val)) a = (![3, 256 * t0.val + 128 * r.val] : Fin 2 → Nat) a) t0 r a
theorem off32 : ∀ t0 : Fin k0_t9_loop.trips, ∀ r : Fin 2, k0_off32 t0 (BitVec.ofNat 32 (r.val)) = ![4, 256 * t0.val + 128 * r.val] :=
  fun t0 r => funext fun a => (by decide +kernel : ∀ t0 : Fin k0_t9_loop.trips, ∀ r : Fin 2, ∀ a : Fin 2, k0_off32 t0 (BitVec.ofNat 32 (r.val)) a = (![4, 256 * t0.val + 128 * r.val] : Fin 2 → Nat) a) t0 r a
theorem off33 : ∀ t0 : Fin k0_t9_loop.trips, ∀ r : Fin 2, k0_off33 t0 (BitVec.ofNat 32 (r.val)) = ![5, 256 * t0.val + 128 * r.val] :=
  fun t0 r => funext fun a => (by decide +kernel : ∀ t0 : Fin k0_t9_loop.trips, ∀ r : Fin 2, ∀ a : Fin 2, k0_off33 t0 (BitVec.ofNat 32 (r.val)) a = (![5, 256 * t0.val + 128 * r.val] : Fin 2 → Nat) a) t0 r a
theorem off34 : ∀ t0 : Fin k0_t9_loop.trips, ∀ r : Fin 2, k0_off34 t0 (BitVec.ofNat 32 (r.val)) = ![6, 256 * t0.val + 128 * r.val] :=
  fun t0 r => funext fun a => (by decide +kernel : ∀ t0 : Fin k0_t9_loop.trips, ∀ r : Fin 2, ∀ a : Fin 2, k0_off34 t0 (BitVec.ofNat 32 (r.val)) a = (![6, 256 * t0.val + 128 * r.val] : Fin 2 → Nat) a) t0 r a
theorem off35 : ∀ t0 : Fin k0_t9_loop.trips, ∀ r : Fin 2, k0_off35 t0 (BitVec.ofNat 32 (r.val)) = ![7, 256 * t0.val + 128 * r.val] :=
  fun t0 r => funext fun a => (by decide +kernel : ∀ t0 : Fin k0_t9_loop.trips, ∀ r : Fin 2, ∀ a : Fin 2, k0_off35 t0 (BitVec.ofNat 32 (r.val)) a = (![7, 256 * t0.val + 128 * r.val] : Fin 2 → Nat) a) t0 r a
theorem off36 : ∀ t0 : Fin k0_t9_loop.trips, ∀ r : Fin 2, k0_off36 t0 (BitVec.ofNat 32 (r.val)) = ![8, 256 * t0.val + 128 * r.val] :=
  fun t0 r => funext fun a => (by decide +kernel : ∀ t0 : Fin k0_t9_loop.trips, ∀ r : Fin 2, ∀ a : Fin 2, k0_off36 t0 (BitVec.ofNat 32 (r.val)) a = (![8, 256 * t0.val + 128 * r.val] : Fin 2 → Nat) a) t0 r a
theorem off37 : ∀ t0 : Fin k0_t9_loop.trips, ∀ r : Fin 2, k0_off37 t0 (BitVec.ofNat 32 (r.val)) = ![9, 256 * t0.val + 128 * r.val] :=
  fun t0 r => funext fun a => (by decide +kernel : ∀ t0 : Fin k0_t9_loop.trips, ∀ r : Fin 2, ∀ a : Fin 2, k0_off37 t0 (BitVec.ofNat 32 (r.val)) a = (![9, 256 * t0.val + 128 * r.val] : Fin 2 → Nat) a) t0 r a
theorem off38 : ∀ t0 : Fin k0_t9_loop.trips, ∀ r : Fin 2, k0_off38 t0 (BitVec.ofNat 32 (r.val)) = ![10, 256 * t0.val + 128 * r.val] :=
  fun t0 r => funext fun a => (by decide +kernel : ∀ t0 : Fin k0_t9_loop.trips, ∀ r : Fin 2, ∀ a : Fin 2, k0_off38 t0 (BitVec.ofNat 32 (r.val)) a = (![10, 256 * t0.val + 128 * r.val] : Fin 2 → Nat) a) t0 r a
theorem off39 : ∀ t0 : Fin k0_t9_loop.trips, ∀ r : Fin 2, k0_off39 t0 (BitVec.ofNat 32 (r.val)) = ![11, 256 * t0.val + 128 * r.val] :=
  fun t0 r => funext fun a => (by decide +kernel : ∀ t0 : Fin k0_t9_loop.trips, ∀ r : Fin 2, ∀ a : Fin 2, k0_off39 t0 (BitVec.ofNat 32 (r.val)) a = (![11, 256 * t0.val + 128 * r.val] : Fin 2 → Nat) a) t0 r a
theorem off40 : ∀ t0 : Fin k0_t9_loop.trips, ∀ r : Fin 2, k0_off40 t0 (BitVec.ofNat 32 (r.val)) = ![12, 256 * t0.val + 128 * r.val] :=
  fun t0 r => funext fun a => (by decide +kernel : ∀ t0 : Fin k0_t9_loop.trips, ∀ r : Fin 2, ∀ a : Fin 2, k0_off40 t0 (BitVec.ofNat 32 (r.val)) a = (![12, 256 * t0.val + 128 * r.val] : Fin 2 → Nat) a) t0 r a
theorem off41 : ∀ t0 : Fin k0_t9_loop.trips, ∀ r : Fin 2, k0_off41 t0 (BitVec.ofNat 32 (r.val)) = ![13, 256 * t0.val + 128 * r.val] :=
  fun t0 r => funext fun a => (by decide +kernel : ∀ t0 : Fin k0_t9_loop.trips, ∀ r : Fin 2, ∀ a : Fin 2, k0_off41 t0 (BitVec.ofNat 32 (r.val)) a = (![13, 256 * t0.val + 128 * r.val] : Fin 2 → Nat) a) t0 r a
theorem off42 : ∀ t0 : Fin k0_t9_loop.trips, ∀ r : Fin 2, k0_off42 t0 (BitVec.ofNat 32 (r.val)) = ![14, 256 * t0.val + 128 * r.val] :=
  fun t0 r => funext fun a => (by decide +kernel : ∀ t0 : Fin k0_t9_loop.trips, ∀ r : Fin 2, ∀ a : Fin 2, k0_off42 t0 (BitVec.ofNat 32 (r.val)) a = (![14, 256 * t0.val + 128 * r.val] : Fin 2 → Nat) a) t0 r a
theorem off43 : ∀ t0 : Fin k0_t9_loop.trips, ∀ r : Fin 2, k0_off43 t0 (BitVec.ofNat 32 (r.val)) = ![15, 256 * t0.val + 128 * r.val] :=
  fun t0 r => funext fun a => (by decide +kernel : ∀ t0 : Fin k0_t9_loop.trips, ∀ r : Fin 2, ∀ a : Fin 2, k0_off43 t0 (BitVec.ofNat 32 (r.val)) a = (![15, 256 * t0.val + 128 * r.val] : Fin 2 → Nat) a) t0 r a
theorem off44 : ∀ t0 : Fin k0_t9_loop.trips, ∀ r : Fin 2, k0_off44 t0 (BitVec.ofNat 32 (r.val)) = ![16, 256 * t0.val + 128 * r.val] :=
  fun t0 r => funext fun a => (by decide +kernel : ∀ t0 : Fin k0_t9_loop.trips, ∀ r : Fin 2, ∀ a : Fin 2, k0_off44 t0 (BitVec.ofNat 32 (r.val)) a = (![16, 256 * t0.val + 128 * r.val] : Fin 2 → Nat) a) t0 r a
theorem off45 : ∀ t0 : Fin k0_t9_loop.trips, ∀ r : Fin 2, k0_off45 t0 (BitVec.ofNat 32 (r.val)) = ![17, 256 * t0.val + 128 * r.val] :=
  fun t0 r => funext fun a => (by decide +kernel : ∀ t0 : Fin k0_t9_loop.trips, ∀ r : Fin 2, ∀ a : Fin 2, k0_off45 t0 (BitVec.ofNat 32 (r.val)) a = (![17, 256 * t0.val + 128 * r.val] : Fin 2 → Nat) a) t0 r a
theorem off46 : ∀ t0 : Fin k0_t9_loop.trips, ∀ r : Fin 2, k0_off46 t0 (BitVec.ofNat 32 (r.val)) = ![18, 256 * t0.val + 128 * r.val] :=
  fun t0 r => funext fun a => (by decide +kernel : ∀ t0 : Fin k0_t9_loop.trips, ∀ r : Fin 2, ∀ a : Fin 2, k0_off46 t0 (BitVec.ofNat 32 (r.val)) a = (![18, 256 * t0.val + 128 * r.val] : Fin 2 → Nat) a) t0 r a
theorem off47 : ∀ t0 : Fin k0_t9_loop.trips, ∀ r : Fin 2, k0_off47 t0 (BitVec.ofNat 32 (r.val)) = ![19, 256 * t0.val + 128 * r.val] :=
  fun t0 r => funext fun a => (by decide +kernel : ∀ t0 : Fin k0_t9_loop.trips, ∀ r : Fin 2, ∀ a : Fin 2, k0_off47 t0 (BitVec.ofNat 32 (r.val)) a = (![19, 256 * t0.val + 128 * r.val] : Fin 2 → Nat) a) t0 r a
theorem off48 : ∀ t0 : Fin k0_t9_loop.trips, ∀ r : Fin 2, k0_off48 t0 (BitVec.ofNat 32 (r.val)) = ![20, 256 * t0.val + 128 * r.val] :=
  fun t0 r => funext fun a => (by decide +kernel : ∀ t0 : Fin k0_t9_loop.trips, ∀ r : Fin 2, ∀ a : Fin 2, k0_off48 t0 (BitVec.ofNat 32 (r.val)) a = (![20, 256 * t0.val + 128 * r.val] : Fin 2 → Nat) a) t0 r a
theorem off49 : ∀ t0 : Fin k0_t9_loop.trips, ∀ r : Fin 2, k0_off49 t0 (BitVec.ofNat 32 (r.val)) = ![21, 256 * t0.val + 128 * r.val] :=
  fun t0 r => funext fun a => (by decide +kernel : ∀ t0 : Fin k0_t9_loop.trips, ∀ r : Fin 2, ∀ a : Fin 2, k0_off49 t0 (BitVec.ofNat 32 (r.val)) a = (![21, 256 * t0.val + 128 * r.val] : Fin 2 → Nat) a) t0 r a
theorem off50 : ∀ t0 : Fin k0_t9_loop.trips, ∀ r : Fin 2, k0_off50 t0 (BitVec.ofNat 32 (r.val)) = ![22, 256 * t0.val + 128 * r.val] :=
  fun t0 r => funext fun a => (by decide +kernel : ∀ t0 : Fin k0_t9_loop.trips, ∀ r : Fin 2, ∀ a : Fin 2, k0_off50 t0 (BitVec.ofNat 32 (r.val)) a = (![22, 256 * t0.val + 128 * r.val] : Fin 2 → Nat) a) t0 r a
theorem off51 : ∀ t0 : Fin k0_t9_loop.trips, ∀ r : Fin 2, k0_off51 t0 (BitVec.ofNat 32 (r.val)) = ![23, 256 * t0.val + 128 * r.val] :=
  fun t0 r => funext fun a => (by decide +kernel : ∀ t0 : Fin k0_t9_loop.trips, ∀ r : Fin 2, ∀ a : Fin 2, k0_off51 t0 (BitVec.ofNat 32 (r.val)) a = (![23, 256 * t0.val + 128 * r.val] : Fin 2 → Nat) a) t0 r a
theorem off52 : ∀ t0 : Fin k0_t9_loop.trips, ∀ r : Fin 2, k0_off52 t0 (BitVec.ofNat 32 (r.val)) = ![24, 256 * t0.val + 128 * r.val] :=
  fun t0 r => funext fun a => (by decide +kernel : ∀ t0 : Fin k0_t9_loop.trips, ∀ r : Fin 2, ∀ a : Fin 2, k0_off52 t0 (BitVec.ofNat 32 (r.val)) a = (![24, 256 * t0.val + 128 * r.val] : Fin 2 → Nat) a) t0 r a
theorem off53 : ∀ t0 : Fin k0_t9_loop.trips, ∀ r : Fin 2, k0_off53 t0 (BitVec.ofNat 32 (r.val)) = ![25, 256 * t0.val + 128 * r.val] :=
  fun t0 r => funext fun a => (by decide +kernel : ∀ t0 : Fin k0_t9_loop.trips, ∀ r : Fin 2, ∀ a : Fin 2, k0_off53 t0 (BitVec.ofNat 32 (r.val)) a = (![25, 256 * t0.val + 128 * r.val] : Fin 2 → Nat) a) t0 r a
theorem off54 : ∀ t0 : Fin k0_t9_loop.trips, ∀ r : Fin 2, k0_off54 t0 (BitVec.ofNat 32 (r.val)) = ![26, 256 * t0.val + 128 * r.val] :=
  fun t0 r => funext fun a => (by decide +kernel : ∀ t0 : Fin k0_t9_loop.trips, ∀ r : Fin 2, ∀ a : Fin 2, k0_off54 t0 (BitVec.ofNat 32 (r.val)) a = (![26, 256 * t0.val + 128 * r.val] : Fin 2 → Nat) a) t0 r a
theorem off55 : ∀ t0 : Fin k0_t9_loop.trips, ∀ r : Fin 2, k0_off55 t0 (BitVec.ofNat 32 (r.val)) = ![27, 256 * t0.val + 128 * r.val] :=
  fun t0 r => funext fun a => (by decide +kernel : ∀ t0 : Fin k0_t9_loop.trips, ∀ r : Fin 2, ∀ a : Fin 2, k0_off55 t0 (BitVec.ofNat 32 (r.val)) a = (![27, 256 * t0.val + 128 * r.val] : Fin 2 → Nat) a) t0 r a
theorem off56 : ∀ t0 : Fin k0_t9_loop.trips, ∀ r : Fin 2, k0_off56 t0 (BitVec.ofNat 32 (r.val)) = ![28, 256 * t0.val + 128 * r.val] :=
  fun t0 r => funext fun a => (by decide +kernel : ∀ t0 : Fin k0_t9_loop.trips, ∀ r : Fin 2, ∀ a : Fin 2, k0_off56 t0 (BitVec.ofNat 32 (r.val)) a = (![28, 256 * t0.val + 128 * r.val] : Fin 2 → Nat) a) t0 r a
theorem off57 : ∀ t0 : Fin k0_t9_loop.trips, ∀ r : Fin 2, k0_off57 t0 (BitVec.ofNat 32 (r.val)) = ![29, 256 * t0.val + 128 * r.val] :=
  fun t0 r => funext fun a => (by decide +kernel : ∀ t0 : Fin k0_t9_loop.trips, ∀ r : Fin 2, ∀ a : Fin 2, k0_off57 t0 (BitVec.ofNat 32 (r.val)) a = (![29, 256 * t0.val + 128 * r.val] : Fin 2 → Nat) a) t0 r a
theorem off58 : ∀ t0 : Fin k0_t9_loop.trips, ∀ r : Fin 2, k0_off58 t0 (BitVec.ofNat 32 (r.val)) = ![30, 256 * t0.val + 128 * r.val] :=
  fun t0 r => funext fun a => (by decide +kernel : ∀ t0 : Fin k0_t9_loop.trips, ∀ r : Fin 2, ∀ a : Fin 2, k0_off58 t0 (BitVec.ofNat 32 (r.val)) a = (![30, 256 * t0.val + 128 * r.val] : Fin 2 → Nat) a) t0 r a
theorem off59 : ∀ t0 : Fin k0_t9_loop.trips, ∀ t1 : Fin k0_t10_loop.trips, ∀ p : Fin 4, ∀ k : Fin 31, k0_off59 t0 t1 (BitVec.ofNat 32 (p.val)) (BitVec.ofNat 32 (k.val)) = ![t0.val, 64 * t1.val + p.val + k.val + 2, 0, 0] :=
  fun t0 t1 p k => funext fun a => (by decide +kernel : ∀ t0 : Fin k0_t9_loop.trips, ∀ t1 : Fin k0_t10_loop.trips, ∀ p : Fin 4, ∀ k : Fin 31, ∀ a : Fin 4, k0_off59 t0 t1 (BitVec.ofNat 32 (p.val)) (BitVec.ofNat 32 (k.val)) a = (![t0.val, 64 * t1.val + p.val + k.val + 2, 0, 0] : Fin 4 → Nat) a) t0 t1 p k a
theorem off60 : ∀ t0 : Fin k0_t9_loop.trips, ∀ r : Fin 2, k0_off60 t0 (BitVec.ofNat 32 (r.val)) = ![0, 256 * t0.val + 128 * r.val] :=
  fun t0 r => funext fun a => (by decide +kernel : ∀ t0 : Fin k0_t9_loop.trips, ∀ r : Fin 2, ∀ a : Fin 2, k0_off60 t0 (BitVec.ofNat 32 (r.val)) a = (![0, 256 * t0.val + 128 * r.val] : Fin 2 → Nat) a) t0 r a
theorem off61 : ∀ t0 : Fin k0_t9_loop.trips, ∀ t1 : Fin k0_t10_loop.trips, ∀ r : Fin 2, ∀ p : Fin 4, k0_off61 t0 t1 (BitVec.ofNat 32 (r.val)) (BitVec.ofNat 32 (p.val)) = ![2 * t0.val + r.val, 64 * t1.val + p.val, 0] :=
  fun t0 t1 r p => funext fun a => (by decide +kernel : ∀ t0 : Fin k0_t9_loop.trips, ∀ t1 : Fin k0_t10_loop.trips, ∀ r : Fin 2, ∀ p : Fin 4, ∀ a : Fin 3, k0_off61 t0 t1 (BitVec.ofNat 32 (r.val)) (BitVec.ofNat 32 (p.val)) a = (![2 * t0.val + r.val, 64 * t1.val + p.val, 0] : Fin 3 → Nat) a) t0 t1 r p a
theorem off62 : ∀ t0 : Fin k0_t9_loop.trips, k0_off62 t0 = ![t0.val, 512, 0] :=
  fun t0 => funext fun a => (by decide +kernel : ∀ t0 : Fin k0_t9_loop.trips, ∀ a : Fin 3, k0_off62 t0 a = (![t0.val, 512, 0] : Fin 3 → Nat) a) t0 a
theorem off63 : ∀ t0 : Fin k0_t9_loop.trips, k0_off63 t0 = ![t0.val, 0, 0] :=
  fun t0 => funext fun a => (by decide +kernel : ∀ t0 : Fin k0_t9_loop.trips, ∀ a : Fin 3, k0_off63 t0 a = (![t0.val, 0, 0] : Fin 3 → Nat) a) t0 a
theorem off64 : ∀ t0 : Fin k0_t11_loop.trips, ∀ t1 : Fin k0_t12_loop.trips, ∀ p : Fin 4, ∀ k : Fin 2, k0_off64 t0 t1 (BitVec.ofNat 32 (p.val)) (BitVec.ofNat 32 (k.val)) = ![0 + t0.val, 64 * t1.val + p.val + 16 - k.val, 0] :=
  fun t0 t1 p k => funext fun a => (by decide +kernel : ∀ t0 : Fin k0_t11_loop.trips, ∀ t1 : Fin k0_t12_loop.trips, ∀ p : Fin 4, ∀ k : Fin 2, ∀ a : Fin 3, k0_off64 t0 t1 (BitVec.ofNat 32 (p.val)) (BitVec.ofNat 32 (k.val)) a = (![0 + t0.val, 64 * t1.val + p.val + 16 - k.val, 0] : Fin 3 → Nat) a) t0 t1 p k a
theorem off65 : ∀ t0 : Fin k0_t11_loop.trips, ∀ t1 : Fin k0_t12_loop.trips, ∀ p : Fin 4, k0_off65 t0 t1 (BitVec.ofNat 32 (p.val)) = ![0 + t0.val, 64 * t1.val + p.val, 0] :=
  fun t0 t1 p => funext fun a => (by decide +kernel : ∀ t0 : Fin k0_t11_loop.trips, ∀ t1 : Fin k0_t12_loop.trips, ∀ p : Fin 4, ∀ a : Fin 3, k0_off65 t0 t1 (BitVec.ofNat 32 (p.val)) a = (![0 + t0.val, 64 * t1.val + p.val, 0] : Fin 3 → Nat) a) t0 t1 p a
theorem off66 : ∀ t0 : Fin k0_t11_loop.trips, k0_off66 t0 = ![0 + t0.val, 0, 0] :=
  fun t0 => funext fun a => (by decide +kernel : ∀ t0 : Fin k0_t11_loop.trips, ∀ a : Fin 3, k0_off66 t0 a = (![0 + t0.val, 0, 0] : Fin 3 → Nat) a) t0 a
theorem off67 : ∀ t0 : Fin k0_t11_loop.trips, k0_off67 t0 = ![0 + t0.val, 16, 0] :=
  fun t0 => funext fun a => (by decide +kernel : ∀ t0 : Fin k0_t11_loop.trips, ∀ a : Fin 3, k0_off67 t0 a = (![0 + t0.val, 16, 0] : Fin 3 → Nat) a) t0 a
theorem off68 : ∀ t0 : Fin k0_t11_loop.trips, k0_off68 t0 = ![0, 0 + 128 * t0.val] :=
  fun t0 => funext fun a => (by decide +kernel : ∀ t0 : Fin k0_t11_loop.trips, ∀ a : Fin 2, k0_off68 t0 a = (![0, 0 + 128 * t0.val] : Fin 2 → Nat) a) t0 a
theorem off69 : ∀ t0 : Fin k0_t11_loop.trips, k0_off69 t0 = ![0 + t0.val, 256, 0] :=
  fun t0 => funext fun a => (by decide +kernel : ∀ t0 : Fin k0_t11_loop.trips, ∀ a : Fin 3, k0_off69 t0 a = (![0 + t0.val, 256, 0] : Fin 3 → Nat) a) t0 a
theorem off70 : ∀ t0 : Fin k0_t11_loop.trips, k0_off70 t0 = ![0 + t0.val, 0, 0] :=
  fun t0 => funext fun a => (by decide +kernel : ∀ t0 : Fin k0_t11_loop.trips, ∀ a : Fin 3, k0_off70 t0 a = (![0 + t0.val, 0, 0] : Fin 3 → Nat) a) t0 a
theorem off71 : ∀ t0 : Fin k0_t13_loop.trips, ∀ t1 : Fin k0_t14_loop.trips, ∀ p : Fin 4, ∀ k : Fin 4, k0_off71 t0 t1 (BitVec.ofNat 32 (p.val)) (BitVec.ofNat 32 (k.val)) = ![2 + t0.val, 64 * t1.val + p.val + 16 - k.val, 0] :=
  fun t0 t1 p k => funext fun a => (by decide +kernel : ∀ t0 : Fin k0_t13_loop.trips, ∀ t1 : Fin k0_t14_loop.trips, ∀ p : Fin 4, ∀ k : Fin 4, ∀ a : Fin 3, k0_off71 t0 t1 (BitVec.ofNat 32 (p.val)) (BitVec.ofNat 32 (k.val)) a = (![2 + t0.val, 64 * t1.val + p.val + 16 - k.val, 0] : Fin 3 → Nat) a) t0 t1 p k a
theorem off72 : ∀ t0 : Fin k0_t13_loop.trips, ∀ t1 : Fin k0_t14_loop.trips, ∀ p : Fin 4, k0_off72 t0 t1 (BitVec.ofNat 32 (p.val)) = ![2 + t0.val, 64 * t1.val + p.val, 0] :=
  fun t0 t1 p => funext fun a => (by decide +kernel : ∀ t0 : Fin k0_t13_loop.trips, ∀ t1 : Fin k0_t14_loop.trips, ∀ p : Fin 4, ∀ a : Fin 3, k0_off72 t0 t1 (BitVec.ofNat 32 (p.val)) a = (![2 + t0.val, 64 * t1.val + p.val, 0] : Fin 3 → Nat) a) t0 t1 p a
theorem off73 : ∀ t0 : Fin k0_t13_loop.trips, k0_off73 t0 = ![2 + t0.val, 0, 0] :=
  fun t0 => funext fun a => (by decide +kernel : ∀ t0 : Fin k0_t13_loop.trips, ∀ a : Fin 3, k0_off73 t0 a = (![2 + t0.val, 0, 0] : Fin 3 → Nat) a) t0 a
theorem off74 : ∀ t0 : Fin k0_t13_loop.trips, k0_off74 t0 = ![2 + t0.val, 16, 0] :=
  fun t0 => funext fun a => (by decide +kernel : ∀ t0 : Fin k0_t13_loop.trips, ∀ a : Fin 3, k0_off74 t0 a = (![2 + t0.val, 16, 0] : Fin 3 → Nat) a) t0 a
theorem off75 : ∀ t0 : Fin k0_t13_loop.trips, k0_off75 t0 = ![0, 256 + 128 * t0.val] :=
  fun t0 => funext fun a => (by decide +kernel : ∀ t0 : Fin k0_t13_loop.trips, ∀ a : Fin 2, k0_off75 t0 a = (![0, 256 + 128 * t0.val] : Fin 2 → Nat) a) t0 a
theorem off76 : ∀ t0 : Fin k0_t13_loop.trips, k0_off76 t0 = ![2 + t0.val, 256, 0] :=
  fun t0 => funext fun a => (by decide +kernel : ∀ t0 : Fin k0_t13_loop.trips, ∀ a : Fin 3, k0_off76 t0 a = (![2 + t0.val, 256, 0] : Fin 3 → Nat) a) t0 a
theorem off77 : ∀ t0 : Fin k0_t13_loop.trips, k0_off77 t0 = ![2 + t0.val, 0, 0] :=
  fun t0 => funext fun a => (by decide +kernel : ∀ t0 : Fin k0_t13_loop.trips, ∀ a : Fin 3, k0_off77 t0 a = (![2 + t0.val, 0, 0] : Fin 3 → Nat) a) t0 a
theorem off78 : ∀ t0 : Fin k0_t15_loop.trips, ∀ t1 : Fin k0_t16_loop.trips, ∀ p : Fin 4, ∀ k : Fin 8, k0_off78 t0 t1 (BitVec.ofNat 32 (p.val)) (BitVec.ofNat 32 (k.val)) = ![4 + t0.val, 64 * t1.val + p.val + 16 - k.val, 0] :=
  fun t0 t1 p k => funext fun a => (by decide +kernel : ∀ t0 : Fin k0_t15_loop.trips, ∀ t1 : Fin k0_t16_loop.trips, ∀ p : Fin 4, ∀ k : Fin 8, ∀ a : Fin 3, k0_off78 t0 t1 (BitVec.ofNat 32 (p.val)) (BitVec.ofNat 32 (k.val)) a = (![4 + t0.val, 64 * t1.val + p.val + 16 - k.val, 0] : Fin 3 → Nat) a) t0 t1 p k a
theorem off79 : ∀ t0 : Fin k0_t15_loop.trips, ∀ t1 : Fin k0_t16_loop.trips, ∀ p : Fin 4, k0_off79 t0 t1 (BitVec.ofNat 32 (p.val)) = ![4 + t0.val, 64 * t1.val + p.val, 0] :=
  fun t0 t1 p => funext fun a => (by decide +kernel : ∀ t0 : Fin k0_t15_loop.trips, ∀ t1 : Fin k0_t16_loop.trips, ∀ p : Fin 4, ∀ a : Fin 3, k0_off79 t0 t1 (BitVec.ofNat 32 (p.val)) a = (![4 + t0.val, 64 * t1.val + p.val, 0] : Fin 3 → Nat) a) t0 t1 p a
theorem off80 : ∀ t0 : Fin k0_t15_loop.trips, k0_off80 t0 = ![4 + t0.val, 0, 0] :=
  fun t0 => funext fun a => (by decide +kernel : ∀ t0 : Fin k0_t15_loop.trips, ∀ a : Fin 3, k0_off80 t0 a = (![4 + t0.val, 0, 0] : Fin 3 → Nat) a) t0 a
theorem off81 : ∀ t0 : Fin k0_t15_loop.trips, k0_off81 t0 = ![4 + t0.val, 16, 0] :=
  fun t0 => funext fun a => (by decide +kernel : ∀ t0 : Fin k0_t15_loop.trips, ∀ a : Fin 3, k0_off81 t0 a = (![4 + t0.val, 16, 0] : Fin 3 → Nat) a) t0 a
theorem off82 : ∀ t0 : Fin k0_t15_loop.trips, k0_off82 t0 = ![0, 512 + 128 * t0.val] :=
  fun t0 => funext fun a => (by decide +kernel : ∀ t0 : Fin k0_t15_loop.trips, ∀ a : Fin 2, k0_off82 t0 a = (![0, 512 + 128 * t0.val] : Fin 2 → Nat) a) t0 a
theorem off83 : ∀ t0 : Fin k0_t15_loop.trips, k0_off83 t0 = ![4 + t0.val, 256, 0] :=
  fun t0 => funext fun a => (by decide +kernel : ∀ t0 : Fin k0_t15_loop.trips, ∀ a : Fin 3, k0_off83 t0 a = (![4 + t0.val, 256, 0] : Fin 3 → Nat) a) t0 a
theorem off84 : ∀ t0 : Fin k0_t15_loop.trips, k0_off84 t0 = ![4 + t0.val, 0, 0] :=
  fun t0 => funext fun a => (by decide +kernel : ∀ t0 : Fin k0_t15_loop.trips, ∀ a : Fin 3, k0_off84 t0 a = (![4 + t0.val, 0, 0] : Fin 3 → Nat) a) t0 a
theorem off85 : ∀ t0 : Fin k0_t17_loop.trips, ∀ t1 : Fin k0_t18_loop.trips, ∀ p : Fin 4, ∀ k : Fin 16, k0_off85 t0 t1 (BitVec.ofNat 32 (p.val)) (BitVec.ofNat 32 (k.val)) = ![6 + t0.val, 64 * t1.val + p.val + 16 - k.val, 0] :=
  fun t0 t1 p k => funext fun a => (by decide +kernel : ∀ t0 : Fin k0_t17_loop.trips, ∀ t1 : Fin k0_t18_loop.trips, ∀ p : Fin 4, ∀ k : Fin 16, ∀ a : Fin 3, k0_off85 t0 t1 (BitVec.ofNat 32 (p.val)) (BitVec.ofNat 32 (k.val)) a = (![6 + t0.val, 64 * t1.val + p.val + 16 - k.val, 0] : Fin 3 → Nat) a) t0 t1 p k a
theorem off86 : ∀ t0 : Fin k0_t17_loop.trips, ∀ t1 : Fin k0_t18_loop.trips, ∀ p : Fin 4, k0_off86 t0 t1 (BitVec.ofNat 32 (p.val)) = ![6 + t0.val, 64 * t1.val + p.val, 0] :=
  fun t0 t1 p => funext fun a => (by decide +kernel : ∀ t0 : Fin k0_t17_loop.trips, ∀ t1 : Fin k0_t18_loop.trips, ∀ p : Fin 4, ∀ a : Fin 3, k0_off86 t0 t1 (BitVec.ofNat 32 (p.val)) a = (![6 + t0.val, 64 * t1.val + p.val, 0] : Fin 3 → Nat) a) t0 t1 p a
theorem off87 : ∀ t0 : Fin k0_t17_loop.trips, k0_off87 t0 = ![6 + t0.val, 0, 0] :=
  fun t0 => funext fun a => (by decide +kernel : ∀ t0 : Fin k0_t17_loop.trips, ∀ a : Fin 3, k0_off87 t0 a = (![6 + t0.val, 0, 0] : Fin 3 → Nat) a) t0 a
theorem off88 : ∀ t0 : Fin k0_t17_loop.trips, k0_off88 t0 = ![6 + t0.val, 16, 0] :=
  fun t0 => funext fun a => (by decide +kernel : ∀ t0 : Fin k0_t17_loop.trips, ∀ a : Fin 3, k0_off88 t0 a = (![6 + t0.val, 16, 0] : Fin 3 → Nat) a) t0 a
theorem off89 : ∀ t0 : Fin k0_t17_loop.trips, k0_off89 t0 = ![0, 768 + 128 * t0.val] :=
  fun t0 => funext fun a => (by decide +kernel : ∀ t0 : Fin k0_t17_loop.trips, ∀ a : Fin 2, k0_off89 t0 a = (![0, 768 + 128 * t0.val] : Fin 2 → Nat) a) t0 a
theorem off90 : ∀ t0 : Fin k0_t17_loop.trips, k0_off90 t0 = ![6 + t0.val, 256, 0] :=
  fun t0 => funext fun a => (by decide +kernel : ∀ t0 : Fin k0_t17_loop.trips, ∀ a : Fin 3, k0_off90 t0 a = (![6 + t0.val, 256, 0] : Fin 3 → Nat) a) t0 a
theorem off91 : ∀ t0 : Fin k0_t17_loop.trips, k0_off91 t0 = ![6 + t0.val, 0, 0] :=
  fun t0 => funext fun a => (by decide +kernel : ∀ t0 : Fin k0_t17_loop.trips, ∀ a : Fin 3, k0_off91 t0 a = (![6 + t0.val, 0, 0] : Fin 3 → Nat) a) t0 a
theorem off92 : ∀ t0 : Fin k0_t19_loop.trips, k0_off92 t0 = ![0, 32 * t0.val, 0] :=
  fun t0 => funext fun a => (by decide +kernel : ∀ t0 : Fin k0_t19_loop.trips, ∀ a : Fin 3, k0_off92 t0 a = (![0, 32 * t0.val, 0] : Fin 3 → Nat) a) t0 a
theorem off93 : ∀ t0 : Fin k0_t19_loop.trips, k0_off93 t0 = ![1, 32 * t0.val, 0] :=
  fun t0 => funext fun a => (by decide +kernel : ∀ t0 : Fin k0_t19_loop.trips, ∀ a : Fin 3, k0_off93 t0 a = (![1, 32 * t0.val, 0] : Fin 3 → Nat) a) t0 a
theorem off94 : ∀ t0 : Fin k0_t19_loop.trips, k0_off94 t0 = ![2, 32 * t0.val, 0] :=
  fun t0 => funext fun a => (by decide +kernel : ∀ t0 : Fin k0_t19_loop.trips, ∀ a : Fin 3, k0_off94 t0 a = (![2, 32 * t0.val, 0] : Fin 3 → Nat) a) t0 a
theorem off95 : ∀ t0 : Fin k0_t19_loop.trips, k0_off95 t0 = ![3, 32 * t0.val, 0] :=
  fun t0 => funext fun a => (by decide +kernel : ∀ t0 : Fin k0_t19_loop.trips, ∀ a : Fin 3, k0_off95 t0 a = (![3, 32 * t0.val, 0] : Fin 3 → Nat) a) t0 a
theorem off96 : ∀ t0 : Fin k0_t19_loop.trips, k0_off96 t0 = ![4, 32 * t0.val, 0] :=
  fun t0 => funext fun a => (by decide +kernel : ∀ t0 : Fin k0_t19_loop.trips, ∀ a : Fin 3, k0_off96 t0 a = (![4, 32 * t0.val, 0] : Fin 3 → Nat) a) t0 a
theorem off97 : ∀ t0 : Fin k0_t19_loop.trips, k0_off97 t0 = ![5, 32 * t0.val, 0] :=
  fun t0 => funext fun a => (by decide +kernel : ∀ t0 : Fin k0_t19_loop.trips, ∀ a : Fin 3, k0_off97 t0 a = (![5, 32 * t0.val, 0] : Fin 3 → Nat) a) t0 a
theorem off98 : ∀ t0 : Fin k0_t19_loop.trips, k0_off98 t0 = ![6, 32 * t0.val, 0] :=
  fun t0 => funext fun a => (by decide +kernel : ∀ t0 : Fin k0_t19_loop.trips, ∀ a : Fin 3, k0_off98 t0 a = (![6, 32 * t0.val, 0] : Fin 3 → Nat) a) t0 a
theorem off99 : ∀ t0 : Fin k0_t19_loop.trips, k0_off99 t0 = ![7, 32 * t0.val, 0] :=
  fun t0 => funext fun a => (by decide +kernel : ∀ t0 : Fin k0_t19_loop.trips, ∀ a : Fin 3, k0_off99 t0 a = (![7, 32 * t0.val, 0] : Fin 3 → Nat) a) t0 a
theorem off100 : ∀ t0 : Fin k0_t19_loop.trips, k0_off100 t0 = ![2, 32 * t0.val, 0] :=
  fun t0 => funext fun a => (by decide +kernel : ∀ t0 : Fin k0_t19_loop.trips, ∀ a : Fin 3, k0_off100 t0 a = (![2, 32 * t0.val, 0] : Fin 3 → Nat) a) t0 a
theorem off101 : ∀ t0 : Fin k0_t19_loop.trips, k0_off101 t0 = ![0, 32 * t0.val, 0] :=
  fun t0 => funext fun a => (by decide +kernel : ∀ t0 : Fin k0_t19_loop.trips, ∀ a : Fin 3, k0_off101 t0 a = (![0, 32 * t0.val, 0] : Fin 3 → Nat) a) t0 a
theorem off102 : ∀ t0 : Fin k0_t20_loop.trips, k0_off102 t0 = ![0, 256 * t0.val] :=
  fun t0 => funext fun a => (by decide +kernel : ∀ t0 : Fin k0_t20_loop.trips, ∀ a : Fin 2, k0_off102 t0 a = (![0, 256 * t0.val] : Fin 2 → Nat) a) t0 a
theorem off103 : ∀ t0 : Fin k0_t20_loop.trips, k0_off103 t0 = ![t0.val, 0, 0] :=
  fun t0 => funext fun a => (by decide +kernel : ∀ t0 : Fin k0_t20_loop.trips, ∀ a : Fin 3, k0_off103 t0 a = (![t0.val, 0, 0] : Fin 3 → Nat) a) t0 a
theorem off104 : ∀ t0 : Fin k0_t20_loop.trips, k0_off104 t0 = ![0, 256 * t0.val] :=
  fun t0 => funext fun a => (by decide +kernel : ∀ t0 : Fin k0_t20_loop.trips, ∀ a : Fin 2, k0_off104 t0 a = (![0, 256 * t0.val] : Fin 2 → Nat) a) t0 a
theorem off105 : ∀ t0 : Fin k0_t21_loop.trips, k0_off105 t0 = ![0, 256 * t0.val] :=
  fun t0 => funext fun a => (by decide +kernel : ∀ t0 : Fin k0_t21_loop.trips, ∀ a : Fin 2, k0_off105 t0 a = (![0, 256 * t0.val] : Fin 2 → Nat) a) t0 a
theorem off106 : ∀ t0 : Fin k0_t21_loop.trips, k0_off106 t0 = ![0, 0, 256 * t0.val] :=
  fun t0 => funext fun a => (by decide +kernel : ∀ t0 : Fin k0_t21_loop.trips, ∀ a : Fin 3, k0_off106 t0 a = (![0, 0, 256 * t0.val] : Fin 3 → Nat) a) t0 a
theorem off107 : ∀ t0 : Fin k0_t22_loop.trips, k0_off107 t0 = ![32 * t0.val, 0] :=
  fun t0 => funext fun a => (by decide +kernel : ∀ t0 : Fin k0_t22_loop.trips, ∀ a : Fin 2, k0_off107 t0 a = (![32 * t0.val, 0] : Fin 2 → Nat) a) t0 a
theorem off108 : ∀ t0 : Fin k0_t22_loop.trips, k0_off108 t0 = ![4, 32 * t0.val, 0] :=
  fun t0 => funext fun a => (by decide +kernel : ∀ t0 : Fin k0_t22_loop.trips, ∀ a : Fin 3, k0_off108 t0 a = (![4, 32 * t0.val, 0] : Fin 3 → Nat) a) t0 a
theorem off109 : ∀ t0 : Fin k0_t22_loop.trips, k0_off109 t0 = ![1, 32 * t0.val, 0] :=
  fun t0 => funext fun a => (by decide +kernel : ∀ t0 : Fin k0_t22_loop.trips, ∀ a : Fin 3, k0_off109 t0 a = (![1, 32 * t0.val, 0] : Fin 3 → Nat) a) t0 a
theorem off110 : ∀ t0 : Fin k0_t23_loop.trips, k0_off110 t0 = ![0, 256 * t0.val] :=
  fun t0 => funext fun a => (by decide +kernel : ∀ t0 : Fin k0_t23_loop.trips, ∀ a : Fin 2, k0_off110 t0 a = (![0, 256 * t0.val] : Fin 2 → Nat) a) t0 a
theorem off111 : ∀ t0 : Fin k0_t23_loop.trips, k0_off111 t0 = ![1, 0, 256 * t0.val] :=
  fun t0 => funext fun a => (by decide +kernel : ∀ t0 : Fin k0_t23_loop.trips, ∀ a : Fin 3, k0_off111 t0 a = (![1, 0, 256 * t0.val] : Fin 3 → Nat) a) t0 a

end Cert.KernelIdeal.Val

end
-- ==== Proof.VC0.lean ====
/-
  The convolution and the pooling windows as the body computes them.
-/
module

public import proofs.«01_k».proof.Proof.VOff2

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

variable (I : In Ideal)

/-- The strided window of the gated units. -/
def craw (x : S4x576x128.Idx → EReal) (t : Fin k0_t9_loop.trips) (t' : Fin k0_t10_loop.trips) (ph k : Nat) : Vec Ideal S1x16x2x128 .bf16 :=
  fun y => x (Shape.reshapeEquiv reshapes_S4x576x128_S4x288x2x128.1 ((⟨k0_off59 t t' (BitVec.ofNat 32 (Fin.ofNat 4 ph).val) (BitVec.ofNat 32 (Fin.ofNat 31 k).val),
    S1x16x2x128.size, ![1, 4, 1, 1], k0_off59_inb t t' (Fin.ofNat 4 ph) (Fin.ofNat 31 k)⟩ : LoadRect S4x288x2x128).idx y))

def cl (r : Vec Ideal S1x16x2x128 .bf16) : FVec Ideal S1x16x128 .bf16 :=
  shapeCast S1x16x128 (rowsOfParity 0 S1x16x1x128 r bitcasts_S1x16x2x128_w16_S1x16x1x128_w32) shapeCasts_S1x16x1x128_S1x16x128
def ch (r : Vec Ideal S1x16x2x128 .bf16) : FVec Ideal S1x16x128 .bf16 :=
  shapeCast S1x16x128 (rowsOfParity 1 S1x16x1x128 r bitcasts_S1x16x2x128_w16_S1x16x1x128_w32) shapeCasts_S1x16x1x128_S1x16x128
def sl {φ : FTy} (y : FVec Ideal S1x16x128 φ) : FVec Ideal S16x128 φ := shapeCast S16x128 y shapeCasts_S1x16x128_S16x128
def s3 {φ : FTy} (y : FVec Ideal S16x128 φ) : FVec Ideal S1x16x128 φ := shapeCast S1x16x128 y shapeCasts_S16x128_S1x16x128

variable (x : S4x576x128.Idx → EReal) (w : Nat → FVec Ideal S32x128 .bf16) (t : Fin k0_t9_loop.trips) (t' : Fin k0_t10_loop.trips)

def win (ph k : Nat) : FVec Ideal S32x128 .bf16 :=
  interleaveRows S32x128 (sl (cl (craw x t t' ph k))) (sl (ch (craw x t t' ph k))) bitcasts_S32x128_w16_S16x128_w32
def term (ph k : Nat) : FVec Ideal S32x128 .bf16 := mulf (win x t t' ph k) (w k)

/-- One of the two accumulators of a phase, after its first terms. -/
def acc (ph par : Nat) : Nat → FVec Ideal S32x128 .bf16
  | 0 => term x w t t' ph par
  | n + 1 => addf (acc ph par n) (term x w t t' ph (2 * (n + 1) + par))

def rp (p : Fin 2) (a : FVec Ideal S32x128 .bf16) : FVec Ideal S16x128 .bf16 := rowsOfParity p S16x128 a bitcasts_S32x128_w16_S16x128_w32
def half (p : Fin 2) (a : FVec Ideal S32x128 .bf16) : FVec Ideal S16x128 .f32 := extf .f32 (rp p a)
def hs (p : Nat) (ph : Nat) : FVec Ideal S16x128 .f32 := addf (half (Fin.ofNat 2 p) (acc x w t t' ph 0 15)) (half (Fin.ofNat 2 p) (acc x w t t' ph 1 14))
def cb0 (p : Nat) : Vec Ideal S1x128 .f32 :=
  fun y => I.cb ((Rect.unit (s := S1x1024) (k0_off60 t (BitVec.ofNat 32 (Fin.ofNat 2 p).val)) S1x128.size (k0_off60_inb t (Fin.ofNat 2 p))).toLoadRect.idx y)
def cb1 (p : Nat) : FVec Ideal S1x128 .f32 := shapeCast S1x128 (cb0 I t p) shapeCasts_S1x128_S1x128
def cb2 (p : Nat) : FVec Ideal S16x128 .f32 := broadcastTo S16x128 (cb1 I t p) broadcasts_S1x128_S16x128
def cfin (p ph : Nat) : FVec Ideal S16x128 .f32 := addf (hs x w t t' p ph) (cb2 I t p)

/-- A phase's rows of the convolution, stored. -/
def cput (p ph : Nat) (C : S8x256x128.Idx → EReal) : S8x256x128.Idx → EReal :=
  put ⟨(⟨k0_off61 t t' (BitVec.ofNat 32 (Fin.ofNat 2 p).val) (BitVec.ofNat 32 (Fin.ofNat 4 ph).val), S1x16x128.size, ![1, 4, 1], k0_off61_inb t t' (Fin.ofNat 2 p) (Fin.ofNat 4 ph)⟩ : LoadRect S8x256x128), spos_1_4_1⟩
    (s3 (cfin I x w t t' p ph)) C

/-- A tap's row of weights for one lane tile. -/
def traw (p : Nat) : Nat → Vec Ideal S1x128 .f32
  | 0 => fun y => I.cw ((Rect.unit (s := S31x1024) (k0_off28 t (BitVec.ofNat 32 (Fin.ofNat 2 p).val)) S1x128.size (k0_off28_inb t (Fin.ofNat 2 p))).toLoadRect.idx y)
  | 1 => fun y => I.cw ((Rect.unit (s := S31x1024) (k0_off29 t (BitVec.ofNat 32 (Fin.ofNat 2 p).val)) S1x128.size (k0_off29_inb t (Fin.ofNat 2 p))).toLoadRect.idx y)
  | 2 => fun y => I.cw ((Rect.unit (s := S31x1024) (k0_off30 t (BitVec.ofNat 32 (Fin.ofNat 2 p).val)) S1x128.size (k0_off30_inb t (Fin.ofNat 2 p))).toLoadRect.idx y)
  | 3 => fun y => I.cw ((Rect.unit (s := S31x1024) (k0_off31 t (BitVec.ofNat 32 (Fin.ofNat 2 p).val)) S1x128.size (k0_off31_inb t (Fin.ofNat 2 p))).toLoadRect.idx y)
  | 4 => fun y => I.cw ((Rect.unit (s := S31x1024) (k0_off32 t (BitVec.ofNat 32 (Fin.ofNat 2 p).val)) S1x128.size (k0_off32_inb t (Fin.ofNat 2 p))).toLoadRect.idx y)
  | 5 => fun y => I.cw ((Rect.unit (s := S31x1024) (k0_off33 t (BitVec.ofNat 32 (Fin.ofNat 2 p).val)) S1x128.size (k0_off33_inb t (Fin.ofNat 2 p))).toLoadRect.idx y)
  | 6 => fun y => I.cw ((Rect.unit (s := S31x1024) (k0_off34 t (BitVec.ofNat 32 (Fin.ofNat 2 p).val)) S1x128.size (k0_off34_inb t (Fin.ofNat 2 p))).toLoadRect.idx y)
  | 7 => fun y => I.cw ((Rect.unit (s := S31x1024) (k0_off35 t (BitVec.ofNat 32 (Fin.ofNat 2 p).val)) S1x128.size (k0_off35_inb t (Fin.ofNat 2 p))).toLoadRect.idx y)
  | 8 => fun y => I.cw ((Rect.unit (s := S31x1024) (k0_off36 t (BitVec.ofNat 32 (Fin.ofNat 2 p).val)) S1x128.size (k0_off36_inb t (Fin.ofNat 2 p))).toLoadRect.idx y)
  | 9 => fun y => I.cw ((Rect.unit (s := S31x1024) (k0_off37 t (BitVec.ofNat 32 (Fin.ofNat 2 p).val)) S1x128.size (k0_off37_inb t (Fin.ofNat 2 p))).toLoadRect.idx y)
  | 10 => fun y => I.cw ((Rect.unit (s := S31x1024) (k0_off38 t (BitVec.ofNat 32 (Fin.ofNat 2 p).val)) S1x128.size (k0_off38_inb t (Fin.ofNat 2 p))).toLoadRect.idx y)
  | 11 => fun y => I.cw ((Rect.unit (s := S31x1024) (k0_off39 t (BitVec.ofNat 32 (Fin.ofNat 2 p).val)) S1x128.size (k0_off39_inb t (Fin.ofNat 2 p))).toLoadRect.idx y)
  | 12 => fun y => I.cw ((Rect.unit (s := S31x1024) (k0_off40 t (BitVec.ofNat 32 (Fin.ofNat 2 p).val)) S1x128.size (k0_off40_inb t (Fin.ofNat 2 p))).toLoadRect.idx y)
  | 13 => fun y => I.cw ((Rect.unit (s := S31x1024) (k0_off41 t (BitVec.ofNat 32 (Fin.ofNat 2 p).val)) S1x128.size (k0_off41_inb t (Fin.ofNat 2 p))).toLoadRect.idx y)
  | 14 => fun y => I.cw ((Rect.unit (s := S31x1024) (k0_off42 t (BitVec.ofNat 32 (Fin.ofNat 2 p).val)) S1x128.size (k0_off42_inb t (Fin.ofNat 2 p))).toLoadRect.idx y)
  | 15 => fun y => I.cw ((Rect.unit (s := S31x1024) (k0_off43 t (BitVec.ofNat 32 (Fin.ofNat 2 p).val)) S1x128.size (k0_off43_inb t (Fin.ofNat 2 p))).toLoadRect.idx y)
  | 16 => fun y => I.cw ((Rect.unit (s := S31x1024) (k0_off44 t (BitVec.ofNat 32 (Fin.ofNat 2 p).val)) S1x128.size (k0_off44_inb t (Fin.ofNat 2 p))).toLoadRect.idx y)
  | 17 => fun y => I.cw ((Rect.unit (s := S31x1024) (k0_off45 t (BitVec.ofNat 32 (Fin.ofNat 2 p).val)) S1x128.size (k0_off45_inb t (Fin.ofNat 2 p))).toLoadRect.idx y)
  | 18 => fun y => I.cw ((Rect.unit (s := S31x1024) (k0_off46 t (BitVec.ofNat 32 (Fin.ofNat 2 p).val)) S1x128.size (k0_off46_inb t (Fin.ofNat 2 p))).toLoadRect.idx y)
  | 19 => fun y => I.cw ((Rect.unit (s := S31x1024) (k0_off47 t (BitVec.ofNat 32 (Fin.ofNat 2 p).val)) S1x128.size (k0_off47_inb t (Fin.ofNat 2 p))).toLoadRect.idx y)
  | 20 => fun y => I.cw ((Rect.unit (s := S31x1024) (k0_off48 t (BitVec.ofNat 32 (Fin.ofNat 2 p).val)) S1x128.size (k0_off48_inb t (Fin.ofNat 2 p))).toLoadRect.idx y)
  | 21 => fun y => I.cw ((Rect.unit (s := S31x1024) (k0_off49 t (BitVec.ofNat 32 (Fin.ofNat 2 p).val)) S1x128.size (k0_off49_inb t (Fin.ofNat 2 p))).toLoadRect.idx y)
  | 22 => fun y => I.cw ((Rect.unit (s := S31x1024) (k0_off50 t (BitVec.ofNat 32 (Fin.ofNat 2 p).val)) S1x128.size (k0_off50_inb t (Fin.ofNat 2 p))).toLoadRect.idx y)
  | 23 => fun y => I.cw ((Rect.unit (s := S31x1024) (k0_off51 t (BitVec.ofNat 32 (Fin.ofNat 2 p).val)) S1x128.size (k0_off51_inb t (Fin.ofNat 2 p))).toLoadRect.idx y)
  | 24 => fun y => I.cw ((Rect.unit (s := S31x1024) (k0_off52 t (BitVec.ofNat 32 (Fin.ofNat 2 p).val)) S1x128.size (k0_off52_inb t (Fin.ofNat 2 p))).toLoadRect.idx y)
  | 25 => fun y => I.cw ((Rect.unit (s := S31x1024) (k0_off53 t (BitVec.ofNat 32 (Fin.ofNat 2 p).val)) S1x128.size (k0_off53_inb t (Fin.ofNat 2 p))).toLoadRect.idx y)
  | 26 => fun y => I.cw ((Rect.unit (s := S31x1024) (k0_off54 t (BitVec.ofNat 32 (Fin.ofNat 2 p).val)) S1x128.size (k0_off54_inb t (Fin.ofNat 2 p))).toLoadRect.idx y)
  | 27 => fun y => I.cw ((Rect.unit (s := S31x1024) (k0_off55 t (BitVec.ofNat 32 (Fin.ofNat 2 p).val)) S1x128.size (k0_off55_inb t (Fin.ofNat 2 p))).toLoadRect.idx y)
  | 28 => fun y => I.cw ((Rect.unit (s := S31x1024) (k0_off56 t (BitVec.ofNat 32 (Fin.ofNat 2 p).val)) S1x128.size (k0_off56_inb t (Fin.ofNat 2 p))).toLoadRect.idx y)
  | 29 => fun y => I.cw ((Rect.unit (s := S31x1024) (k0_off57 t (BitVec.ofNat 32 (Fin.ofNat 2 p).val)) S1x128.size (k0_off57_inb t (Fin.ofNat 2 p))).toLoadRect.idx y)
  | 30 => fun y => I.cw ((Rect.unit (s := S31x1024) (k0_off58 t (BitVec.ofNat 32 (Fin.ofNat 2 p).val)) S1x128.size (k0_off58_inb t (Fin.ofNat 2 p))).toLoadRect.idx y)
  | _ => fun _ => 0
def tc (y : FVec Ideal S1x128 .f32) : FVec Ideal S1x128 .f32 := shapeCast S1x128 y shapeCasts_S1x128_S1x128
def tb (y : FVec Ideal S1x128 .f32) : FVec Ideal S16x128 .f32 := broadcastTo S16x128 y broadcasts_S1x128_S16x128
def tt (y : FVec Ideal S16x128 .f32) : FVec Ideal S16x128 .bf16 := truncf .bf16 y bitsLt_bf16_f32
def tap (k : Nat) : FVec Ideal S32x128 .bf16 :=
  interleaveRows S32x128 (tt (tb (tc (tc (traw I t 0 k))))) (tt (tb (tc (tc (traw I t 1 k))))) bitcasts_S32x128_w16_S16x128_w32

/-- The sum of a window's first rows. -/
def pt (r : Nat → Vec Ideal S1x16x128 .f32) : Nat → FVec Ideal S16x128 .f32
  | 0 => sl (r 0)
  | n + 1 => addf (pt r n) (sl (r (n + 1)))

def praw0 (v : S8x272x128.Idx → EReal) (t : Fin k0_t11_loop.trips) (t' : Fin k0_t12_loop.trips) (ph k : Nat) : Vec Ideal S1x16x128 .f32 :=
  fun y => v ((⟨k0_off64 t t' (BitVec.ofNat 32 (Fin.ofNat 4 ph).val) (BitVec.ofNat 32 (Fin.ofNat 2 k).val), S1x16x128.size, ![1, 4, 1],
    k0_off64_inb t t' (Fin.ofNat 4 ph) (Fin.ofNat 2 k)⟩ : LoadRect S8x272x128).idx y)
def pput0 (v : S8x272x128.Idx → EReal) (t : Fin k0_t11_loop.trips) (t' : Fin k0_t12_loop.trips) (ph : Nat) (M : S8x256x128.Idx → EReal) : S8x256x128.Idx → EReal :=
  put ⟨(⟨k0_off65 t t' (BitVec.ofNat 32 (Fin.ofNat 4 ph).val), S1x16x128.size, ![1, 4, 1], k0_off65_inb t t' (Fin.ofNat 4 ph)⟩ : LoadRect S8x256x128), spos_1_4_1⟩
    (s3 (pt (praw0 v t t' ph) 1)) M

def praw1 (v : S8x272x128.Idx → EReal) (t : Fin k0_t13_loop.trips) (t' : Fin k0_t14_loop.trips) (ph k : Nat) : Vec Ideal S1x16x128 .f32 :=
  fun y => v ((⟨k0_off71 t t' (BitVec.ofNat 32 (Fin.ofNat 4 ph).val) (BitVec.ofNat 32 (Fin.ofNat 4 k).val), S1x16x128.size, ![1, 4, 1],
    k0_off71_inb t t' (Fin.ofNat 4 ph) (Fin.ofNat 4 k)⟩ : LoadRect S8x272x128).idx y)
def pput1 (v : S8x272x128.Idx → EReal) (t : Fin k0_t13_loop.trips) (t' : Fin k0_t14_loop.trips) (ph : Nat) (M : S8x256x128.Idx → EReal) : S8x256x128.Idx → EReal :=
  put ⟨(⟨k0_off72 t t' (BitVec.ofNat 32 (Fin.ofNat 4 ph).val), S1x16x128.size, ![1, 4, 1], k0_off72_inb t t' (Fin.ofNat 4 ph)⟩ : LoadRect S8x256x128), spos_1_4_1⟩
    (s3 (pt (praw1 v t t' ph) 3)) M

def praw2 (v : S8x272x128.Idx → EReal) (t : Fin k0_t15_loop.trips) (t' : Fin k0_t16_loop.trips) (ph k : Nat) : Vec Ideal S1x16x128 .f32 :=
  fun y => v ((⟨k0_off78 t t' (BitVec.ofNat 32 (Fin.ofNat 4 ph).val) (BitVec.ofNat 32 (Fin.ofNat 8 k).val), S1x16x128.size, ![1, 4, 1],
    k0_off78_inb t t' (Fin.ofNat 4 ph) (Fin.ofNat 8 k)⟩ : LoadRect S8x272x128).idx y)
def pput2 (v : S8x272x128.Idx → EReal) (t : Fin k0_t15_loop.trips) (t' : Fin k0_t16_loop.trips) (ph : Nat) (M : S8x256x128.Idx → EReal) : S8x256x128.Idx → EReal :=
  put ⟨(⟨k0_off79 t t' (BitVec.ofNat 32 (Fin.ofNat 4 ph).val), S1x16x128.size, ![1, 4, 1], k0_off79_inb t t' (Fin.ofNat 4 ph)⟩ : LoadRect S8x256x128), spos_1_4_1⟩
    (s3 (pt (praw2 v t t' ph) 7)) M

def praw3 (v : S8x272x128.Idx → EReal) (t : Fin k0_t17_loop.trips) (t' : Fin k0_t18_loop.trips) (ph k : Nat) : Vec Ideal S1x16x128 .f32 :=
  fun y => v ((⟨k0_off85 t t' (BitVec.ofNat 32 (Fin.ofNat 4 ph).val) (BitVec.ofNat 32 (Fin.ofNat 16 k).val), S1x16x128.size, ![1, 4, 1],
    k0_off85_inb t t' (Fin.ofNat 4 ph) (Fin.ofNat 16 k)⟩ : LoadRect S8x272x128).idx y)
def pput3 (v : S8x272x128.Idx → EReal) (t : Fin k0_t17_loop.trips) (t' : Fin k0_t18_loop.trips) (ph : Nat) (M : S8x256x128.Idx → EReal) : S8x256x128.Idx → EReal :=
  put ⟨(⟨k0_off86 t t' (BitVec.ofNat 32 (Fin.ofNat 4 ph).val), S1x16x128.size, ![1, 4, 1], k0_off86_inb t t' (Fin.ofNat 4 ph)⟩ : LoadRect S8x256x128), spos_1_4_1⟩
    (s3 (pt (praw3 v t t' ph) 15)) M

end Cert.KernelIdeal.Val

end
-- ==== Proof.VC3.lean ====
/-
  The convolution's taps.
-/
module

public import proofs.«01_k».proof.Proof.VC0

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

variable (A : Args) (I : In Ideal) (d : Dev nD)
local notation "V" => Ev A I d

theorem part43 (i : grid0.Coords) (c0_i32_30 : BitVec 32) (c1_i32_32 : BitVec 32) (k0_t9 : Fin k0_t9_loop.trips) (s : St Ideal)  :
    Tr V (k0_part43 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 c0_i32_30 c1_i32_32 k0_t9) s (fun a s' => s' = s ∧ ∃ b0 b3, a = ⟨b0, (tap I k0_t9 0), (tap I k0_t9 1), b3⟩) := by
  unfold k0_part43
  repeat' first | (with_reducible refine Tr.load ?_) | (with_reducible refine Tr.loadR ?_) | (with_reducible refine Tr.store ?_) | extract_lets
  exact Tr.ret ⟨rfl, ⟨_, _, rfl⟩⟩

theorem part44 (i : grid0.Coords) (k0_t9 : Fin k0_t9_loop.trips) (arg28 : BitVec 32) (c2_i32_98 : BitVec 32) (s : St Ideal)  :
    Tr V (k0_part44 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 c2_i32_98) s (fun a s' => s' = s ∧ ∃ b2 b3, a = ⟨(tap I k0_t9 2), (tap I k0_t9 3), b2, b3⟩) := by
  unfold k0_part44
  repeat' first | (with_reducible refine Tr.load ?_) | (with_reducible refine Tr.loadR ?_) | (with_reducible refine Tr.store ?_) | extract_lets
  exact Tr.ret ⟨rfl, ⟨_, _, rfl⟩⟩

theorem part45 (i : grid0.Coords) (k0_t9 : Fin k0_t9_loop.trips) (arg28 : BitVec 32) (v105 : BitVec 32) (c0_i32_113 : BitVec 32) (s : St Ideal)  :
    Tr V (k0_part45 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v105 c0_i32_113) s (fun a s' => s' = s ∧ ∃ b2 b3, a = ⟨(tap I k0_t9 4), (tap I k0_t9 5), b2, b3⟩) := by
  unfold k0_part45
  repeat' first | (with_reducible refine Tr.load ?_) | (with_reducible refine Tr.loadR ?_) | (with_reducible refine Tr.store ?_) | extract_lets
  exact Tr.ret ⟨rfl, ⟨_, _, rfl⟩⟩

theorem part46 (i : grid0.Coords) (k0_t9 : Fin k0_t9_loop.trips) (arg28 : BitVec 32) (v146 : BitVec 32) (c128_i32_128 : BitVec 32) (s : St Ideal)  :
    Tr V (k0_part46 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v146 c128_i32_128) s (fun a s' => s' = s ∧ ∃ b2, a = ⟨(tap I k0_t9 6), (tap I k0_t9 7), b2⟩) := by
  unfold k0_part46
  repeat' first | (with_reducible refine Tr.load ?_) | (with_reducible refine Tr.loadR ?_) | (with_reducible refine Tr.store ?_) | extract_lets
  exact Tr.ret ⟨rfl, ⟨_, rfl⟩⟩

theorem part47 (i : grid0.Coords) (k0_t9 : Fin k0_t9_loop.trips) (arg28 : BitVec 32) (v188 : BitVec 32) (s : St Ideal)  :
    Tr V (k0_part47 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 v188) s (fun a s' => s' = s ∧ a = ⟨(tap I k0_t9 8), (tap I k0_t9 9)⟩) := by
  unfold k0_part47
  repeat' first | (with_reducible refine Tr.load ?_) | (with_reducible refine Tr.loadR ?_) | (with_reducible refine Tr.store ?_) | extract_lets
  exact Tr.ret ⟨rfl, rfl⟩

theorem part48 (i : grid0.Coords) (k0_t9 : Fin k0_t9_loop.trips) (arg28 : BitVec 32) (s : St Ideal)  :
    Tr V (k0_part48 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28) s (fun a s' => s' = s ∧ a = ⟨(tap I k0_t9 10), (tap I k0_t9 11), (tc (traw I k0_t9 0 12))⟩) := by
  unfold k0_part48
  repeat' first | (with_reducible refine Tr.load ?_) | (with_reducible refine Tr.loadR ?_) | (with_reducible refine Tr.store ?_) | extract_lets
  exact Tr.ret ⟨rfl, rfl⟩

theorem part49 (i : grid0.Coords) (k0_t9 : Fin k0_t9_loop.trips) (arg28 : BitVec 32) (s : St Ideal)  :
    Tr V (k0_part49 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (tc (traw I k0_t9 0 12))) s (fun a s' => s' = s ∧ a = ⟨(tap I k0_t9 12), (tap I k0_t9 13), (tb (tc (tc (traw I k0_t9 0 14))))⟩) := by
  unfold k0_part49
  repeat' first | (with_reducible refine Tr.load ?_) | (with_reducible refine Tr.loadR ?_) | (with_reducible refine Tr.store ?_) | extract_lets
  exact Tr.ret ⟨rfl, rfl⟩

theorem part50 (i : grid0.Coords) (k0_t9 : Fin k0_t9_loop.trips) (arg28 : BitVec 32) (s : St Ideal)  :
    Tr V (k0_part50 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (tb (tc (tc (traw I k0_t9 0 14))))) s (fun a s' => s' = s ∧ ∃ b3, a = ⟨(tap I k0_t9 14), (tap I k0_t9 15), (tb (tc (tc (traw I k0_t9 0 16)))), b3⟩) := by
  unfold k0_part50
  repeat' first | (with_reducible refine Tr.load ?_) | (with_reducible refine Tr.loadR ?_) | (with_reducible refine Tr.store ?_) | extract_lets
  exact Tr.ret ⟨rfl, ⟨_, rfl⟩⟩

theorem part51 (i : grid0.Coords) (k0_t9 : Fin k0_t9_loop.trips) (arg28 : BitVec 32) (v354 : BitVec 32) (s : St Ideal)  :
    Tr V (k0_part51 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (tb (tc (tc (traw I k0_t9 0 16)))) v354) s (fun a s' => s' = s ∧ ∃ b3, a = ⟨(tap I k0_t9 16), (tap I k0_t9 17), (tb (tc (tc (traw I k0_t9 0 18)))), b3⟩) := by
  unfold k0_part51
  repeat' first | (with_reducible refine Tr.load ?_) | (with_reducible refine Tr.loadR ?_) | (with_reducible refine Tr.store ?_) | extract_lets
  exact Tr.ret ⟨rfl, ⟨_, rfl⟩⟩

theorem part52 (i : grid0.Coords) (k0_t9 : Fin k0_t9_loop.trips) (arg28 : BitVec 32) (v395 : BitVec 32) (s : St Ideal)  :
    Tr V (k0_part52 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (tb (tc (tc (traw I k0_t9 0 18)))) v395) s (fun a s' => s' = s ∧ ∃ b3, a = ⟨(tap I k0_t9 18), (tap I k0_t9 19), (tb (tc (tc (traw I k0_t9 0 20)))), b3⟩) := by
  unfold k0_part52
  repeat' first | (with_reducible refine Tr.load ?_) | (with_reducible refine Tr.loadR ?_) | (with_reducible refine Tr.store ?_) | extract_lets
  exact Tr.ret ⟨rfl, ⟨_, rfl⟩⟩

theorem part53 (i : grid0.Coords) (k0_t9 : Fin k0_t9_loop.trips) (arg28 : BitVec 32) (v436 : BitVec 32) (s : St Ideal)  :
    Tr V (k0_part53 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (tb (tc (tc (traw I k0_t9 0 20)))) v436) s (fun a s' => s' = s ∧ ∃ b3, a = ⟨(tap I k0_t9 20), (tap I k0_t9 21), (tb (tc (tc (traw I k0_t9 0 22)))), b3⟩) := by
  unfold k0_part53
  repeat' first | (with_reducible refine Tr.load ?_) | (with_reducible refine Tr.loadR ?_) | (with_reducible refine Tr.store ?_) | extract_lets
  exact Tr.ret ⟨rfl, ⟨_, rfl⟩⟩

theorem part54 (i : grid0.Coords) (k0_t9 : Fin k0_t9_loop.trips) (arg28 : BitVec 32) (v477 : BitVec 32) (s : St Ideal)  :
    Tr V (k0_part54 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (tb (tc (tc (traw I k0_t9 0 22)))) v477) s (fun a s' => s' = s ∧ a = ⟨(tap I k0_t9 22), (tap I k0_t9 23), (tb (tc (tc (traw I k0_t9 0 24)))), (traw I k0_t9 1 24)⟩) := by
  unfold k0_part54
  repeat' first | (with_reducible refine Tr.load ?_) | (with_reducible refine Tr.loadR ?_) | (with_reducible refine Tr.store ?_) | extract_lets
  exact Tr.ret ⟨rfl, rfl⟩

theorem part55 (i : grid0.Coords) (k0_t9 : Fin k0_t9_loop.trips) (arg28 : BitVec 32) (s : St Ideal)  :
    Tr V (k0_part55 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (tb (tc (tc (traw I k0_t9 0 24)))) (traw I k0_t9 1 24)) s (fun a s' => s' = s ∧ a = ⟨(tap I k0_t9 24), (tap I k0_t9 25), (tb (tc (tc (traw I k0_t9 0 26)))), (tc (tc (traw I k0_t9 1 26)))⟩) := by
  unfold k0_part55
  repeat' first | (with_reducible refine Tr.load ?_) | (with_reducible refine Tr.loadR ?_) | (with_reducible refine Tr.store ?_) | extract_lets
  exact Tr.ret ⟨rfl, rfl⟩

theorem part56 (i : grid0.Coords) (k0_t9 : Fin k0_t9_loop.trips) (arg28 : BitVec 32) (s : St Ideal)  :
    Tr V (k0_part56 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (tb (tc (tc (traw I k0_t9 0 26)))) (tc (tc (traw I k0_t9 1 26)))) s (fun a s' => s' = s ∧ a = ⟨(tap I k0_t9 26), (tap I k0_t9 27), (tb (tc (tc (traw I k0_t9 1 28)))), (tt (tb (tc (tc (traw I k0_t9 0 28)))))⟩) := by
  unfold k0_part56
  repeat' first | (with_reducible refine Tr.load ?_) | (with_reducible refine Tr.loadR ?_) | (with_reducible refine Tr.store ?_) | extract_lets
  exact Tr.ret ⟨rfl, rfl⟩

theorem part57 (i : grid0.Coords) (k0_t9 : Fin k0_t9_loop.trips) (arg28 : BitVec 32) (s : St Ideal)  :
    Tr V (k0_part57 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (tb (tc (tc (traw I k0_t9 1 28)))) (tt (tb (tc (tc (traw I k0_t9 0 28)))))) s (fun a s' => s' = s ∧ a = ⟨(tap I k0_t9 28), (tap I k0_t9 29), (tap I k0_t9 30)⟩) := by
  unfold k0_part57
  repeat' first | (with_reducible refine Tr.load ?_) | (with_reducible refine Tr.loadR ?_) | (with_reducible refine Tr.store ?_) | extract_lets
  exact Tr.ret ⟨rfl, rfl⟩

end Cert.KernelIdeal.Val

end
-- ==== Proof.VC4.lean ====
/-
  The pooling windows.
-/
module

public import proofs.«01_k».proof.Proof.VC0

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

variable (A : Args) (I : In Ideal) (d : Dev nD)
local notation "V" => Ev A I d

theorem part58 (i : grid0.Coords) (k0_t11 : Fin k0_t11_loop.trips) (v25 : BitVec 32) (c0_i32_86 : BitVec 32) (c1_i32_88 : BitVec 32) (k0_t12 : Fin k0_t12_loop.trips) (s : St Ideal) (v : S8x272x128.Idx → EReal) (hsu : s.v = v) :
    Tr V (k0_part58 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t11 v25 c0_i32_86 c1_i32_88 k0_t12) s (fun a s' => s' = { s with m := (pput0 v k0_t11 k0_t12 0 s.m) } ∧ ∃ b0 b2, a = ⟨b0, (pt (praw0 v k0_t11 k0_t12 1) 1), b2⟩) := by
  subst hsu
  unfold k0_part58
  repeat' first | (with_reducible refine Tr.load ?_) | (with_reducible refine Tr.loadR ?_) | (with_reducible refine Tr.store ?_) | extract_lets
  exact Tr.ret ⟨rfl, ⟨_, _, rfl⟩⟩

theorem part59 (i : grid0.Coords) (k0_t11 : Fin k0_t11_loop.trips) (v25 : BitVec 32) (k0_t12 : Fin k0_t12_loop.trips) (v60 : BitVec 32) (c1_i32_115 : BitVec 32) (s : St Ideal) (v : S8x272x128.Idx → EReal) (hsu : s.v = v) :
    Tr V (k0_part59 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t11 v25 k0_t12 v60 (pt (praw0 v k0_t11 k0_t12 1) 1) c1_i32_115) s (fun a s' => s' = { s with m := (pput0 v k0_t11 k0_t12 2 (pput0 v k0_t11 k0_t12 1 s.m)) } ∧ a = (pt (praw0 v k0_t11 k0_t12 3) 0)) := by
  subst hsu
  unfold k0_part59
  repeat' first | (with_reducible refine Tr.load ?_) | (with_reducible refine Tr.loadR ?_) | (with_reducible refine Tr.store ?_) | extract_lets
  exact Tr.ret ⟨rfl, rfl⟩

theorem part60 (i : grid0.Coords) (k0_t13 : Fin k0_t13_loop.trips) (v25 : BitVec 32) (c0_i32_86 : BitVec 32) (c1_i32_88 : BitVec 32) (k0_t14 : Fin k0_t14_loop.trips) (s : St Ideal) (v : S8x272x128.Idx → EReal) (hsu : s.v = v) :
    Tr V (k0_part60 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t13 v25 c0_i32_86 c1_i32_88 k0_t14) s (fun a s' => s' = { s with m := (pput1 v k0_t13 k0_t14 0 s.m) } ∧ ∃ b0, a = b0) := by
  subst hsu
  unfold k0_part60
  repeat' first | (with_reducible refine Tr.load ?_) | (with_reducible refine Tr.loadR ?_) | (with_reducible refine Tr.store ?_) | extract_lets
  exact Tr.ret ⟨rfl, ⟨_, rfl⟩⟩

theorem part61 (i : grid0.Coords) (k0_t13 : Fin k0_t13_loop.trips) (v25 : BitVec 32) (k0_t14 : Fin k0_t14_loop.trips) (v60 : BitVec 32) (s : St Ideal) (v : S8x272x128.Idx → EReal) (hsu : s.v = v) :
    Tr V (k0_part61 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t13 v25 k0_t14 v60) s (fun a s' => s' = { s with m := (pput1 v k0_t13 k0_t14 1 s.m) } ∧ ∃ b0, a = b0) := by
  subst hsu
  unfold k0_part61
  repeat' first | (with_reducible refine Tr.load ?_) | (with_reducible refine Tr.loadR ?_) | (with_reducible refine Tr.store ?_) | extract_lets
  exact Tr.ret ⟨rfl, ⟨_, rfl⟩⟩

theorem part62 (i : grid0.Coords) (k0_t13 : Fin k0_t13_loop.trips) (v25 : BitVec 32) (k0_t14 : Fin k0_t14_loop.trips) (v60 : BitVec 32) (v136 : BitVec 32) (s : St Ideal) (v : S8x272x128.Idx → EReal) (hsu : s.v = v) :
    Tr V (k0_part62 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t13 v25 k0_t14 v60 v136) s (fun a s' => s' = { s with m := (pput1 v k0_t13 k0_t14 2 s.m) } ∧ True) := by
  subst hsu
  unfold k0_part62
  repeat' first | (with_reducible refine Tr.load ?_) | (with_reducible refine Tr.loadR ?_) | (with_reducible refine Tr.store ?_) | extract_lets
  exact Tr.ret ⟨rfl, trivial⟩

theorem part63 (i : grid0.Coords) (k0_t15 : Fin k0_t15_loop.trips) (v25 : BitVec 32) (c0_i32_86 : BitVec 32) (c1_i32_88 : BitVec 32) (k0_t16 : Fin k0_t16_loop.trips) (s : St Ideal) (v : S8x272x128.Idx → EReal) (hsu : s.v = v) :
    Tr V (k0_part63 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 c0_i32_86 c1_i32_88 k0_t16) s (fun a s' => s' = s ∧ ∃ b0, a = ⟨b0, (pt (praw2 v k0_t15 k0_t16 0) 3)⟩) := by
  subst hsu
  unfold k0_part63
  repeat' first | (with_reducible refine Tr.load ?_) | (with_reducible refine Tr.loadR ?_) | (with_reducible refine Tr.store ?_) | extract_lets
  exact Tr.ret ⟨rfl, ⟨_, rfl⟩⟩

theorem part64 (i : grid0.Coords) (k0_t15 : Fin k0_t15_loop.trips) (v25 : BitVec 32) (k0_t16 : Fin k0_t16_loop.trips) (v60 : BitVec 32) (s : St Ideal) (v : S8x272x128.Idx → EReal) (hsu : s.v = v) :
    Tr V (k0_part64 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 k0_t16 v60 (pt (praw2 v k0_t15 k0_t16 0) 3)) s (fun a s' => s' = { s with m := (pput2 v k0_t15 k0_t16 0 s.m) } ∧ ∃ b1, a = ⟨(pt (praw2 v k0_t15 k0_t16 1) 0), b1⟩) := by
  subst hsu
  unfold k0_part64
  repeat' first | (with_reducible refine Tr.load ?_) | (with_reducible refine Tr.loadR ?_) | (with_reducible refine Tr.store ?_) | extract_lets
  exact Tr.ret ⟨rfl, ⟨_, rfl⟩⟩

theorem part65 (i : grid0.Coords) (k0_t15 : Fin k0_t15_loop.trips) (v25 : BitVec 32) (k0_t16 : Fin k0_t16_loop.trips) (v60 : BitVec 32) (c16_i32_131 : BitVec 32) (s : St Ideal) (v : S8x272x128.Idx → EReal) (hsu : s.v = v) :
    Tr V (k0_part65 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 k0_t16 v60 (pt (praw2 v k0_t15 k0_t16 1) 0) c16_i32_131) s (fun a s' => s' = s ∧ ∃ b1, a = ⟨(pt (praw2 v k0_t15 k0_t16 1) 5), b1⟩) := by
  subst hsu
  unfold k0_part65
  repeat' first | (with_reducible refine Tr.load ?_) | (with_reducible refine Tr.loadR ?_) | (with_reducible refine Tr.store ?_) | extract_lets
  exact Tr.ret ⟨rfl, ⟨_, rfl⟩⟩

theorem part66 (i : grid0.Coords) (k0_t15 : Fin k0_t15_loop.trips) (v25 : BitVec 32) (k0_t16 : Fin k0_t16_loop.trips) (v60 : BitVec 32) (c16_i32_151 : BitVec 32) (s : St Ideal) (v : S8x272x128.Idx → EReal) (hsu : s.v = v) :
    Tr V (k0_part66 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 k0_t16 v60 (pt (praw2 v k0_t15 k0_t16 1) 5) c16_i32_151) s (fun a s' => s' = { s with m := (pput2 v k0_t15 k0_t16 1 s.m) } ∧ ∃ b1 b2, a = ⟨(pt (praw2 v k0_t15 k0_t16 2) 1), b1, b2⟩) := by
  subst hsu
  unfold k0_part66
  repeat' first | (with_reducible refine Tr.load ?_) | (with_reducible refine Tr.loadR ?_) | (with_reducible refine Tr.store ?_) | extract_lets
  exact Tr.ret ⟨rfl, ⟨_, _, rfl⟩⟩

theorem part67 (i : grid0.Coords) (k0_t15 : Fin k0_t15_loop.trips) (v25 : BitVec 32) (k0_t16 : Fin k0_t16_loop.trips) (v60 : BitVec 32) (v215 : BitVec 32) (c2_i32_171 : BitVec 32) (s : St Ideal) (v : S8x272x128.Idx → EReal) (hsu : s.v = v) :
    Tr V (k0_part67 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 k0_t16 v60 (pt (praw2 v k0_t15 k0_t16 2) 1) v215 c2_i32_171) s (fun a s' => s' = s ∧ ∃ b1 b2, a = ⟨(pt (praw2 v k0_t15 k0_t16 2) 6), b1, b2⟩) := by
  subst hsu
  unfold k0_part67
  repeat' first | (with_reducible refine Tr.load ?_) | (with_reducible refine Tr.loadR ?_) | (with_reducible refine Tr.store ?_) | extract_lets
  exact Tr.ret ⟨rfl, ⟨_, _, rfl⟩⟩

theorem part68 (i : grid0.Coords) (k0_t15 : Fin k0_t15_loop.trips) (v25 : BitVec 32) (k0_t16 : Fin k0_t16_loop.trips) (v60 : BitVec 32) (v255 : BitVec 32) (c7_i32_191 : BitVec 32) (s : St Ideal) (v : S8x272x128.Idx → EReal) (hsu : s.v = v) :
    Tr V (k0_part68 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 k0_t16 v60 (pt (praw2 v k0_t15 k0_t16 2) 6) v255 c7_i32_191) s (fun a s' => s' = { s with m := (pput2 v k0_t15 k0_t16 2 s.m) } ∧ a = (pt (praw2 v k0_t15 k0_t16 3) 2)) := by
  subst hsu
  unfold k0_part68
  repeat' first | (with_reducible refine Tr.load ?_) | (with_reducible refine Tr.loadR ?_) | (with_reducible refine Tr.store ?_) | extract_lets
  exact Tr.ret ⟨rfl, rfl⟩

theorem part69 (i : grid0.Coords) (k0_t15 : Fin k0_t15_loop.trips) (v25 : BitVec 32) (k0_t16 : Fin k0_t16_loop.trips) (v60 : BitVec 32) (s : St Ideal) (v : S8x272x128.Idx → EReal) (hsu : s.v = v) :
    Tr V (k0_part69 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t15 v25 k0_t16 v60 (pt (praw2 v k0_t15 k0_t16 3) 2)) s (fun a s' => s' = { s with m := (pput2 v k0_t15 k0_t16 3 s.m) } ∧ True) := by
  subst hsu
  unfold k0_part69
  repeat' first | (with_reducible refine Tr.load ?_) | (with_reducible refine Tr.loadR ?_) | (with_reducible refine Tr.store ?_) | extract_lets
  exact Tr.ret ⟨rfl, trivial⟩

theorem part70 (i : grid0.Coords) (k0_t17 : Fin k0_t17_loop.trips) (v25 : BitVec 32) (c0_i32_85 : BitVec 32) (c1_i32_87 : BitVec 32) (k0_t18 : Fin k0_t18_loop.trips) (s : St Ideal) (v : S8x272x128.Idx → EReal) (hsu : s.v = v) :
    Tr V (k0_part70 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 c0_i32_85 c1_i32_87 k0_t18) s (fun a s' => s' = s ∧ ∃ b0, a = ⟨b0, (pt (praw3 v k0_t17 k0_t18 0) 3)⟩) := by
  subst hsu
  unfold k0_part70
  repeat' first | (with_reducible refine Tr.load ?_) | (with_reducible refine Tr.loadR ?_) | (with_reducible refine Tr.store ?_) | extract_lets
  exact Tr.ret ⟨rfl, ⟨_, rfl⟩⟩

theorem part71 (i : grid0.Coords) (k0_t17 : Fin k0_t17_loop.trips) (v25 : BitVec 32) (k0_t18 : Fin k0_t18_loop.trips) (v60 : BitVec 32) (s : St Ideal) (v : S8x272x128.Idx → EReal) (hsu : s.v = v) :
    Tr V (k0_part71 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 (pt (praw3 v k0_t17 k0_t18 0) 3)) s (fun a s' => s' = s ∧ a = (pt (praw3 v k0_t17 k0_t18 0) 8)) := by
  subst hsu
  unfold k0_part71
  repeat' first | (with_reducible refine Tr.load ?_) | (with_reducible refine Tr.loadR ?_) | (with_reducible refine Tr.store ?_) | extract_lets
  exact Tr.ret ⟨rfl, rfl⟩

theorem part72 (i : grid0.Coords) (k0_t17 : Fin k0_t17_loop.trips) (v25 : BitVec 32) (k0_t18 : Fin k0_t18_loop.trips) (v60 : BitVec 32) (s : St Ideal) (v : S8x272x128.Idx → EReal) (hsu : s.v = v) :
    Tr V (k0_part72 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 (pt (praw3 v k0_t17 k0_t18 0) 8)) s (fun a s' => s' = s ∧ a = (pt (praw3 v k0_t17 k0_t18 0) 13)) := by
  subst hsu
  unfold k0_part72
  repeat' first | (with_reducible refine Tr.load ?_) | (with_reducible refine Tr.loadR ?_) | (with_reducible refine Tr.store ?_) | extract_lets
  exact Tr.ret ⟨rfl, rfl⟩

theorem part73 (i : grid0.Coords) (k0_t17 : Fin k0_t17_loop.trips) (v25 : BitVec 32) (k0_t18 : Fin k0_t18_loop.trips) (v60 : BitVec 32) (s : St Ideal) (v : S8x272x128.Idx → EReal) (hsu : s.v = v) :
    Tr V (k0_part73 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 (pt (praw3 v k0_t17 k0_t18 0) 13)) s (fun a s' => s' = { s with m := (pput3 v k0_t17 k0_t18 0 s.m) } ∧ ∃ b1, a = ⟨(pt (praw3 v k0_t17 k0_t18 1) 2), b1⟩) := by
  subst hsu
  unfold k0_part73
  repeat' first | (with_reducible refine Tr.load ?_) | (with_reducible refine Tr.loadR ?_) | (with_reducible refine Tr.store ?_) | extract_lets
  exact Tr.ret ⟨rfl, ⟨_, rfl⟩⟩

theorem part74 (i : grid0.Coords) (k0_t17 : Fin k0_t17_loop.trips) (v25 : BitVec 32) (k0_t18 : Fin k0_t18_loop.trips) (v60 : BitVec 32) (c16_i32_164 : BitVec 32) (s : St Ideal) (v : S8x272x128.Idx → EReal) (hsu : s.v = v) :
    Tr V (k0_part74 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 (pt (praw3 v k0_t17 k0_t18 1) 2) c16_i32_164) s (fun a s' => s' = s ∧ ∃ b1, a = ⟨(pt (praw3 v k0_t17 k0_t18 1) 7), b1⟩) := by
  subst hsu
  unfold k0_part74
  repeat' first | (with_reducible refine Tr.load ?_) | (with_reducible refine Tr.loadR ?_) | (with_reducible refine Tr.store ?_) | extract_lets
  exact Tr.ret ⟨rfl, ⟨_, rfl⟩⟩

theorem part75 (i : grid0.Coords) (k0_t17 : Fin k0_t17_loop.trips) (v25 : BitVec 32) (k0_t18 : Fin k0_t18_loop.trips) (v60 : BitVec 32) (c16_i32_184 : BitVec 32) (s : St Ideal) (v : S8x272x128.Idx → EReal) (hsu : s.v = v) :
    Tr V (k0_part75 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 (pt (praw3 v k0_t17 k0_t18 1) 7) c16_i32_184) s (fun a s' => s' = s ∧ ∃ b1, a = ⟨(pt (praw3 v k0_t17 k0_t18 1) 12), b1⟩) := by
  subst hsu
  unfold k0_part75
  repeat' first | (with_reducible refine Tr.load ?_) | (with_reducible refine Tr.loadR ?_) | (with_reducible refine Tr.store ?_) | extract_lets
  exact Tr.ret ⟨rfl, ⟨_, rfl⟩⟩

theorem part76 (i : grid0.Coords) (k0_t17 : Fin k0_t17_loop.trips) (v25 : BitVec 32) (k0_t18 : Fin k0_t18_loop.trips) (v60 : BitVec 32) (c16_i32_204 : BitVec 32) (s : St Ideal) (v : S8x272x128.Idx → EReal) (hsu : s.v = v) :
    Tr V (k0_part76 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 (pt (praw3 v k0_t17 k0_t18 1) 12) c16_i32_204) s (fun a s' => s' = { s with m := (pput3 v k0_t17 k0_t18 1 s.m) } ∧ ∃ b1 b2, a = ⟨(pt (praw3 v k0_t17 k0_t18 2) 0), b1, b2⟩) := by
  subst hsu
  unfold k0_part76
  repeat' first | (with_reducible refine Tr.load ?_) | (with_reducible refine Tr.loadR ?_) | (with_reducible refine Tr.store ?_) | extract_lets
  exact Tr.ret ⟨rfl, ⟨_, _, rfl⟩⟩

theorem part77 (i : grid0.Coords) (k0_t17 : Fin k0_t17_loop.trips) (v25 : BitVec 32) (k0_t18 : Fin k0_t18_loop.trips) (v60 : BitVec 32) (v335 : BitVec 32) (c1_i32_224 : BitVec 32) (s : St Ideal) (v : S8x272x128.Idx → EReal) (hsu : s.v = v) :
    Tr V (k0_part77 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 (pt (praw3 v k0_t17 k0_t18 2) 0) v335 c1_i32_224) s (fun a s' => s' = s ∧ ∃ b1 b2, a = ⟨(pt (praw3 v k0_t17 k0_t18 2) 5), b1, b2⟩) := by
  subst hsu
  unfold k0_part77
  repeat' first | (with_reducible refine Tr.load ?_) | (with_reducible refine Tr.loadR ?_) | (with_reducible refine Tr.store ?_) | extract_lets
  exact Tr.ret ⟨rfl, ⟨_, _, rfl⟩⟩

theorem part78 (i : grid0.Coords) (k0_t17 : Fin k0_t17_loop.trips) (v25 : BitVec 32) (k0_t18 : Fin k0_t18_loop.trips) (v60 : BitVec 32) (v375 : BitVec 32) (c6_i32_244 : BitVec 32) (s : St Ideal) (v : S8x272x128.Idx → EReal) (hsu : s.v = v) :
    Tr V (k0_part78 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 (pt (praw3 v k0_t17 k0_t18 2) 5) v375 c6_i32_244) s (fun a s' => s' = s ∧ ∃ b1 b2, a = ⟨(pt (praw3 v k0_t17 k0_t18 2) 10), b1, b2⟩) := by
  subst hsu
  unfold k0_part78
  repeat' first | (with_reducible refine Tr.load ?_) | (with_reducible refine Tr.loadR ?_) | (with_reducible refine Tr.store ?_) | extract_lets
  exact Tr.ret ⟨rfl, ⟨_, _, rfl⟩⟩

theorem part79 (i : grid0.Coords) (k0_t17 : Fin k0_t17_loop.trips) (v25 : BitVec 32) (k0_t18 : Fin k0_t18_loop.trips) (v60 : BitVec 32) (v415 : BitVec 32) (c11_i32_264 : BitVec 32) (s : St Ideal) (v : S8x272x128.Idx → EReal) (hsu : s.v = v) :
    Tr V (k0_part79 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 (pt (praw3 v k0_t17 k0_t18 2) 10) v415 c11_i32_264) s (fun a s' => s' = s ∧ a = (pt (praw3 v k0_t17 k0_t18 2) 15)) := by
  subst hsu
  unfold k0_part79
  repeat' first | (with_reducible refine Tr.load ?_) | (with_reducible refine Tr.loadR ?_) | (with_reducible refine Tr.store ?_) | extract_lets
  exact Tr.ret ⟨rfl, rfl⟩

theorem part80 (i : grid0.Coords) (k0_t17 : Fin k0_t17_loop.trips) (v25 : BitVec 32) (k0_t18 : Fin k0_t18_loop.trips) (v60 : BitVec 32) (s : St Ideal) (v : S8x272x128.Idx → EReal) (hsu : s.v = v) :
    Tr V (k0_part80 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 (pt (praw3 v k0_t17 k0_t18 2) 15)) s (fun a s' => s' = { s with m := (pput3 v k0_t17 k0_t18 2 s.m) } ∧ a = (pt (praw3 v k0_t17 k0_t18 3) 3)) := by
  subst hsu
  unfold k0_part80
  repeat' first | (with_reducible refine Tr.load ?_) | (with_reducible refine Tr.loadR ?_) | (with_reducible refine Tr.store ?_) | extract_lets
  exact Tr.ret ⟨rfl, rfl⟩

theorem part81 (i : grid0.Coords) (k0_t17 : Fin k0_t17_loop.trips) (v25 : BitVec 32) (k0_t18 : Fin k0_t18_loop.trips) (v60 : BitVec 32) (s : St Ideal) (v : S8x272x128.Idx → EReal) (hsu : s.v = v) :
    Tr V (k0_part81 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 (pt (praw3 v k0_t17 k0_t18 3) 3)) s (fun a s' => s' = s ∧ a = (pt (praw3 v k0_t17 k0_t18 3) 8)) := by
  subst hsu
  unfold k0_part81
  repeat' first | (with_reducible refine Tr.load ?_) | (with_reducible refine Tr.loadR ?_) | (with_reducible refine Tr.store ?_) | extract_lets
  exact Tr.ret ⟨rfl, rfl⟩

theorem part82 (i : grid0.Coords) (k0_t17 : Fin k0_t17_loop.trips) (v25 : BitVec 32) (k0_t18 : Fin k0_t18_loop.trips) (v60 : BitVec 32) (s : St Ideal) (v : S8x272x128.Idx → EReal) (hsu : s.v = v) :
    Tr V (k0_part82 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t17 v25 k0_t18 v60 (pt (praw3 v k0_t17 k0_t18 3) 8)) s (fun a s' => s' = s ∧ a = (pt (praw3 v k0_t17 k0_t18 3) 13)) := by
  subst hsu
  unfold k0_part82
  repeat' first | (with_reducible refine Tr.load ?_) | (with_reducible refine Tr.loadR ?_) | (with_reducible refine Tr.store ?_) | extract_lets
  exact Tr.ret ⟨rfl, rfl⟩

end Cert.KernelIdeal.Val

end
-- ==== Proof.VC1.lean ====
/-
  The convolution's windows, first part.
-/
module

public import proofs.«01_k».proof.Proof.VC0

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

variable (A : Args) (I : In Ideal) (d : Dev nD)
local notation "V" => Ev A I d

theorem part3 (i : grid0.Coords) (k0_t9 : Fin k0_t9_loop.trips) (arg28 : BitVec 32) (c0_i32_301 : BitVec 32) (c1_i32_303 : BitVec 32) (k0_t10 : Fin k0_t10_loop.trips) (s : St Ideal) (x : S4x576x128.Idx → EReal) (w : Nat → FVec Ideal S32x128 .bf16) (hsu : s.u = x) :
    Tr V (k0_part3 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 0) c0_i32_301 c1_i32_303 k0_t10) s (fun a s' => s' = s ∧ ∃ b0, a = ⟨b0, (acc x w k0_t9 k0_t10 0 0 0), (acc x w k0_t9 k0_t10 1 0 0), (acc x w k0_t9 k0_t10 2 0 0)⟩) := by
  subst hsu
  unfold k0_part3
  repeat' first | (with_reducible refine Tr.load ?_) | (with_reducible refine Tr.loadR ?_) | (with_reducible refine Tr.store ?_) | extract_lets
  exact Tr.ret ⟨rfl, ⟨_, rfl⟩⟩

theorem part4 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part4 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 0) (w 1) k0_t10 v656) s (fun a s' => s' = s ∧ ∃ b4, a = ⟨(acc x w k0_t9 k0_t10 3 0 0), (acc x w k0_t9 k0_t10 0 1 0), (acc x w k0_t9 k0_t10 1 1 0), (acc x w k0_t9 k0_t10 2 1 0), b4⟩) := by
  subst hsu
  unfold k0_part4
  repeat' first | (with_reducible refine Tr.load ?_) | (with_reducible refine Tr.loadR ?_) | (with_reducible refine Tr.store ?_) | extract_lets
  exact Tr.ret ⟨rfl, ⟨_, rfl⟩⟩

theorem part5 (i : grid0.Coords) (k0_t9 : Fin k0_t9_loop.trips) (arg28 : BitVec 32) (k0_t10 : Fin k0_t10_loop.trips) (v656 : BitVec 32) (v728 : BitVec 32) (s : St Ideal) (x : S4x576x128.Idx → EReal) (w : Nat → FVec Ideal S32x128 .bf16) (hsu : s.u = x) :
    Tr V (k0_part5 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 1) (w 2) k0_t10 v656 (acc x w k0_t9 k0_t10 0 0 0) (acc x w k0_t9 k0_t10 1 0 0) v728) s (fun a s' => s' = s ∧ a = ⟨(acc x w k0_t9 k0_t10 3 1 0), (acc x w k0_t9 k0_t10 0 0 1), (acc x w k0_t9 k0_t10 1 0 1), (sl (cl (craw x k0_t9 k0_t10 2 2))), (sl (ch (craw x k0_t9 k0_t10 2 2)))⟩) := by
  subst hsu
  unfold k0_part5
  repeat' first | (with_reducible refine Tr.load ?_) | (with_reducible refine Tr.loadR ?_) | (with_reducible refine Tr.store ?_) | extract_lets
  exact Tr.ret ⟨rfl, rfl⟩

theorem part6 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part6 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 2) (w 3) k0_t10 v656 (acc x w k0_t9 k0_t10 2 0 0) (acc x w k0_t9 k0_t10 3 0 0) (acc x w k0_t9 k0_t10 0 1 0) (acc x w k0_t9 k0_t10 1 1 0) (sl (cl (craw x k0_t9 k0_t10 2 2))) (sl (ch (craw x k0_t9 k0_t10 2 2)))) s (fun a s' => s' = s ∧ ∃ b4, a = ⟨(acc x w k0_t9 k0_t10 2 0 1), (acc x w k0_t9 k0_t10 3 0 1), (acc x w k0_t9 k0_t10 0 1 1), (acc x w k0_t9 k0_t10 1 1 1), b4⟩) := by
  subst hsu
  unfold k0_part6
  repeat' first | (with_reducible refine Tr.load ?_) | (with_reducible refine Tr.loadR ?_) | (with_reducible refine Tr.store ?_) | extract_lets
  exact Tr.ret ⟨rfl, ⟨_, rfl⟩⟩

theorem part7 (i : grid0.Coords) (k0_t9 : Fin k0_t9_loop.trips) (arg28 : BitVec 32) (k0_t10 : Fin k0_t10_loop.trips) (v656 : BitVec 32) (v805 : BitVec 32) (s : St Ideal) (x : S4x576x128.Idx → EReal) (w : Nat → FVec Ideal S32x128 .bf16) (hsu : s.u = x) :
    Tr V (k0_part7 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 3) (w 4) k0_t10 v656 (acc x w k0_t9 k0_t10 2 1 0) (acc x w k0_t9 k0_t10 3 1 0) (acc x w k0_t9 k0_t10 0 0 1) v805) s (fun a s' => s' = s ∧ a = ⟨(acc x w k0_t9 k0_t10 2 1 1), (acc x w k0_t9 k0_t10 3 1 1), (acc x w k0_t9 k0_t10 0 0 2), (win x k0_t9 k0_t10 1 4)⟩) := by
  subst hsu
  unfold k0_part7
  repeat' first | (with_reducible refine Tr.load ?_) | (with_reducible refine Tr.loadR ?_) | (with_reducible refine Tr.store ?_) | extract_lets
  exact Tr.ret ⟨rfl, rfl⟩

theorem part8 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part8 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 4) (w 5) k0_t10 v656 (acc x w k0_t9 k0_t10 1 0 1) (acc x w k0_t9 k0_t10 2 0 1) (acc x w k0_t9 k0_t10 3 0 1) (acc x w k0_t9 k0_t10 0 1 1) (win x k0_t9 k0_t10 1 4)) s (fun a s' => s' = s ∧ ∃ b4, a = ⟨(acc x w k0_t9 k0_t10 1 0 2), (acc x w k0_t9 k0_t10 2 0 2), (acc x w k0_t9 k0_t10 3 0 2), (acc x w k0_t9 k0_t10 0 1 2), b4⟩) := by
  subst hsu
  unfold k0_part8
  repeat' first | (with_reducible refine Tr.load ?_) | (with_reducible refine Tr.loadR ?_) | (with_reducible refine Tr.store ?_) | extract_lets
  exact Tr.ret ⟨rfl, ⟨_, rfl⟩⟩

theorem part9 (i : grid0.Coords) (k0_t9 : Fin k0_t9_loop.trips) (arg28 : BitVec 32) (k0_t10 : Fin k0_t10_loop.trips) (v656 : BitVec 32) (v882 : BitVec 32) (s : St Ideal) (x : S4x576x128.Idx → EReal) (w : Nat → FVec Ideal S32x128 .bf16) (hsu : s.u = x) :
    Tr V (k0_part9 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 5) (w 6) k0_t10 v656 (acc x w k0_t9 k0_t10 1 1 1) (acc x w k0_t9 k0_t10 2 1 1) (acc x w k0_t9 k0_t10 3 1 1) v882) s (fun a s' => s' = s ∧ a = ⟨(acc x w k0_t9 k0_t10 1 1 2), (acc x w k0_t9 k0_t10 2 1 2), (acc x w k0_t9 k0_t10 3 1 2), (term x w k0_t9 k0_t10 0 6)⟩) := by
  subst hsu
  unfold k0_part9
  repeat' first | (with_reducible refine Tr.load ?_) | (with_reducible refine Tr.loadR ?_) | (with_reducible refine Tr.store ?_) | extract_lets
  exact Tr.ret ⟨rfl, rfl⟩

theorem part10 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part10 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 6) k0_t10 v656 (acc x w k0_t9 k0_t10 0 0 2) (acc x w k0_t9 k0_t10 1 0 2) (acc x w k0_t9 k0_t10 2 0 2) (acc x w k0_t9 k0_t10 3 0 2) (term x w k0_t9 k0_t10 0 6)) s (fun a s' => s' = s ∧ a = ⟨(acc x w k0_t9 k0_t10 0 0 3), (acc x w k0_t9 k0_t10 1 0 3), (acc x w k0_t9 k0_t10 2 0 3), (acc x w k0_t9 k0_t10 3 0 3)⟩) := by
  subst hsu
  unfold k0_part10
  repeat' first | (with_reducible refine Tr.load ?_) | (with_reducible refine Tr.loadR ?_) | (with_reducible refine Tr.store ?_) | extract_lets
  exact Tr.ret ⟨rfl, rfl⟩

theorem part11 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part11 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 7) k0_t10 v656 (acc x w k0_t9 k0_t10 0 1 2) (acc x w k0_t9 k0_t10 1 1 2) (acc x w k0_t9 k0_t10 2 1 2) (acc x w k0_t9 k0_t10 3 1 2)) s (fun a s' => s' = s ∧ a = ⟨(acc x w k0_t9 k0_t10 0 1 3), (acc x w k0_t9 k0_t10 1 1 3), (acc x w k0_t9 k0_t10 2 1 3), (acc x w k0_t9 k0_t10 3 1 3)⟩) := by
  subst hsu
  unfold k0_part11
  repeat' first | (with_reducible refine Tr.load ?_) | (with_reducible refine Tr.loadR ?_) | (with_reducible refine Tr.store ?_) | extract_lets
  exact Tr.ret ⟨rfl, rfl⟩

theorem part12 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part12 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 8) k0_t10 v656 (acc x w k0_t9 k0_t10 0 0 3) (acc x w k0_t9 k0_t10 1 0 3) (acc x w k0_t9 k0_t10 2 0 3)) s (fun a s' => s' = s ∧ a = ⟨(acc x w k0_t9 k0_t10 0 0 4), (acc x w k0_t9 k0_t10 1 0 4), (acc x w k0_t9 k0_t10 2 0 4)⟩) := by
  subst hsu
  unfold k0_part12
  repeat' first | (with_reducible refine Tr.load ?_) | (with_reducible refine Tr.loadR ?_) | (with_reducible refine Tr.store ?_) | extract_lets
  exact Tr.ret ⟨rfl, rfl⟩

theorem part13 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part13 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 8) (w 9) k0_t10 v656 (acc x w k0_t9 k0_t10 3 0 3) (acc x w k0_t9 k0_t10 0 1 3) (acc x w k0_t9 k0_t10 1 1 3) (acc x w k0_t9 k0_t10 2 1 3)) s (fun a s' => s' = s ∧ ∃ b4, a = ⟨(acc x w k0_t9 k0_t10 3 0 4), (acc x w k0_t9 k0_t10 0 1 4), (acc x w k0_t9 k0_t10 1 1 4), (acc x w k0_t9 k0_t10 2 1 4), b4⟩) := by
  subst hsu
  unfold k0_part13
  repeat' first | (with_reducible refine Tr.load ?_) | (with_reducible refine Tr.loadR ?_) | (with_reducible refine Tr.store ?_) | extract_lets
  exact Tr.ret ⟨rfl, ⟨_, rfl⟩⟩

theorem part14 (i : grid0.Coords) (k0_t9 : Fin k0_t9_loop.trips) (arg28 : BitVec 32) (k0_t10 : Fin k0_t10_loop.trips) (v656 : BitVec 32) (c2_i32_459 : BitVec 32) (s : St Ideal) (x : S4x576x128.Idx → EReal) (w : Nat → FVec Ideal S32x128 .bf16) (hsu : s.u = x) :
    Tr V (k0_part14 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 9) (w 10) k0_t10 v656 (acc x w k0_t9 k0_t10 3 1 3) (acc x w k0_t9 k0_t10 0 0 4) (acc x w k0_t9 k0_t10 1 0 4) c2_i32_459) s (fun a s' => s' = s ∧ a = ⟨(acc x w k0_t9 k0_t10 3 1 4), (acc x w k0_t9 k0_t10 0 0 5), (acc x w k0_t9 k0_t10 1 0 5), (craw x k0_t9 k0_t10 2 10)⟩) := by
  subst hsu
  unfold k0_part14
  repeat' first | (with_reducible refine Tr.load ?_) | (with_reducible refine Tr.loadR ?_) | (with_reducible refine Tr.store ?_) | extract_lets
  exact Tr.ret ⟨rfl, rfl⟩

theorem part15 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part15 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 10) (w 11) k0_t10 v656 (acc x w k0_t9 k0_t10 2 0 4) (acc x w k0_t9 k0_t10 3 0 4) (acc x w k0_t9 k0_t10 0 1 4) (acc x w k0_t9 k0_t10 1 1 4) (craw x k0_t9 k0_t10 2 10)) s (fun a s' => s' = s ∧ ∃ b4, a = ⟨(acc x w k0_t9 k0_t10 2 0 5), (acc x w k0_t9 k0_t10 3 0 5), (acc x w k0_t9 k0_t10 0 1 5), (acc x w k0_t9 k0_t10 1 1 5), b4⟩) := by
  subst hsu
  unfold k0_part15
  repeat' first | (with_reducible refine Tr.load ?_) | (with_reducible refine Tr.loadR ?_) | (with_reducible refine Tr.store ?_) | extract_lets
  exact Tr.ret ⟨rfl, ⟨_, rfl⟩⟩

theorem part16 (i : grid0.Coords) (k0_t9 : Fin k0_t9_loop.trips) (arg28 : BitVec 32) (k0_t10 : Fin k0_t10_loop.trips) (v656 : BitVec 32) (v1155 : BitVec 32) (s : St Ideal) (x : S4x576x128.Idx → EReal) (w : Nat → FVec Ideal S32x128 .bf16) (hsu : s.u = x) :
    Tr V (k0_part16 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 11) (w 12) k0_t10 v656 (acc x w k0_t9 k0_t10 2 1 4) (acc x w k0_t9 k0_t10 3 1 4) (acc x w k0_t9 k0_t10 0 0 5) v1155) s (fun a s' => s' = s ∧ a = ⟨(acc x w k0_t9 k0_t10 2 1 5), (acc x w k0_t9 k0_t10 3 1 5), (acc x w k0_t9 k0_t10 0 0 6), (craw x k0_t9 k0_t10 1 12), (cl (craw x k0_t9 k0_t10 1 12))⟩) := by
  subst hsu
  unfold k0_part16
  repeat' first | (with_reducible refine Tr.load ?_) | (with_reducible refine Tr.loadR ?_) | (with_reducible refine Tr.store ?_) | extract_lets
  exact Tr.ret ⟨rfl, rfl⟩

theorem part17 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part17 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 12) (w 13) k0_t10 v656 (acc x w k0_t9 k0_t10 1 0 5) (acc x w k0_t9 k0_t10 2 0 5) (acc x w k0_t9 k0_t10 3 0 5) (acc x w k0_t9 k0_t10 0 1 5) (craw x k0_t9 k0_t10 1 12) (cl (craw x k0_t9 k0_t10 1 12))) s (fun a s' => s' = s ∧ ∃ b4 b5, a = ⟨(acc x w k0_t9 k0_t10 1 0 6), (acc x w k0_t9 k0_t10 2 0 6), (acc x w k0_t9 k0_t10 3 0 6), (acc x w k0_t9 k0_t10 0 1 6), b4, b5⟩) := by
  subst hsu
  unfold k0_part17
  repeat' first | (with_reducible refine Tr.load ?_) | (with_reducible refine Tr.loadR ?_) | (with_reducible refine Tr.store ?_) | extract_lets
  exact Tr.ret ⟨rfl, ⟨_, _, rfl⟩⟩

theorem part18 (i : grid0.Coords) (k0_t9 : Fin k0_t9_loop.trips) (arg28 : BitVec 32) (k0_t10 : Fin k0_t10_loop.trips) (v656 : BitVec 32) (v1232 : BitVec 32) (c1_i32_512 : BitVec 32) (s : St Ideal) (x : S4x576x128.Idx → EReal) (w : Nat → FVec Ideal S32x128 .bf16) (hsu : s.u = x) :
    Tr V (k0_part18 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 13) k0_t10 v656 (acc x w k0_t9 k0_t10 1 1 5) (acc x w k0_t9 k0_t10 2 1 5) (acc x w k0_t9 k0_t10 3 1 5) v1232 c1_i32_512) s (fun a s' => s' = s ∧ a = ⟨(acc x w k0_t9 k0_t10 1 1 6), (acc x w k0_t9 k0_t10 2 1 6), (acc x w k0_t9 k0_t10 3 1 6), (cl (craw x k0_t9 k0_t10 0 14)), (ch (craw x k0_t9 k0_t10 0 14))⟩) := by
  subst hsu
  unfold k0_part18
  repeat' first | (with_reducible refine Tr.load ?_) | (with_reducible refine Tr.loadR ?_) | (with_reducible refine Tr.store ?_) | extract_lets
  exact Tr.ret ⟨rfl, rfl⟩

theorem part19 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part19 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 14) k0_t10 v656 (acc x w k0_t9 k0_t10 0 0 6) (acc x w k0_t9 k0_t10 1 0 6) (acc x w k0_t9 k0_t10 2 0 6) (acc x w k0_t9 k0_t10 3 0 6) (cl (craw x k0_t9 k0_t10 0 14)) (ch (craw x k0_t9 k0_t10 0 14))) s (fun a s' => s' = s ∧ ∃ b4, a = ⟨(acc x w k0_t9 k0_t10 0 0 7), (acc x w k0_t9 k0_t10 1 0 7), (acc x w k0_t9 k0_t10 2 0 7), (acc x w k0_t9 k0_t10 3 0 7), b4⟩) := by
  subst hsu
  unfold k0_part19
  repeat' first | (with_reducible refine Tr.load ?_) | (with_reducible refine Tr.loadR ?_) | (with_reducible refine Tr.store ?_) | extract_lets
  exact Tr.ret ⟨rfl, ⟨_, rfl⟩⟩

theorem part20 (i : grid0.Coords) (k0_t9 : Fin k0_t9_loop.trips) (arg28 : BitVec 32) (k0_t10 : Fin k0_t10_loop.trips) (v656 : BitVec 32) (v1310 : BitVec 32) (s : St Ideal) (x : S4x576x128.Idx → EReal) (w : Nat → FVec Ideal S32x128 .bf16) (hsu : s.u = x) :
    Tr V (k0_part20 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 15) k0_t10 v656 (acc x w k0_t9 k0_t10 0 1 6) (acc x w k0_t9 k0_t10 1 1 6) (acc x w k0_t9 k0_t10 2 1 6) v1310) s (fun a s' => s' = s ∧ a = ⟨(acc x w k0_t9 k0_t10 0 1 7), (acc x w k0_t9 k0_t10 1 1 7), (acc x w k0_t9 k0_t10 2 1 7), (ch (craw x k0_t9 k0_t10 3 15)), (sl (cl (craw x k0_t9 k0_t10 3 15)))⟩) := by
  subst hsu
  unfold k0_part20
  repeat' first | (with_reducible refine Tr.load ?_) | (with_reducible refine Tr.loadR ?_) | (with_reducible refine Tr.store ?_) | extract_lets
  exact Tr.ret ⟨rfl, rfl⟩

theorem part21 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part21 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 15) (w 16) k0_t10 v656 (acc x w k0_t9 k0_t10 3 1 6) (acc x w k0_t9 k0_t10 0 0 7) (acc x w k0_t9 k0_t10 1 0 7) (acc x w k0_t9 k0_t10 2 0 7) (ch (craw x k0_t9 k0_t10 3 15)) (sl (cl (craw x k0_t9 k0_t10 3 15)))) s (fun a s' => s' = s ∧ ∃ b4 b5, a = ⟨(acc x w k0_t9 k0_t10 3 1 7), (acc x w k0_t9 k0_t10 0 0 8), (acc x w k0_t9 k0_t10 1 0 8), (acc x w k0_t9 k0_t10 2 0 8), b4, b5⟩) := by
  subst hsu
  unfold k0_part21
  repeat' first | (with_reducible refine Tr.load ?_) | (with_reducible refine Tr.loadR ?_) | (with_reducible refine Tr.store ?_) | extract_lets
  exact Tr.ret ⟨rfl, ⟨_, _, rfl⟩⟩

end Cert.KernelIdeal.Val

end
-- ==== Proof.VC2.lean ====
/-
  The convolution's windows, second part.
-/
module

public import proofs.«01_k».proof.Proof.VC0

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

variable (A : Args) (I : In Ideal) (d : Dev nD)
local notation "V" => Ev A I d

theorem part22 (i : grid0.Coords) (k0_t9 : Fin k0_t9_loop.trips) (arg28 : BitVec 32) (k0_t10 : Fin k0_t10_loop.trips) (v656 : BitVec 32) (v1387 : BitVec 32) (c16_i32_566 : BitVec 32) (s : St Ideal) (x : S4x576x128.Idx → EReal) (w : Nat → FVec Ideal S32x128 .bf16) (hsu : s.u = x) :
    Tr V (k0_part22 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 16) (w 17) k0_t10 v656 (acc x w k0_t9 k0_t10 3 0 7) (acc x w k0_t9 k0_t10 0 1 7) (acc x w k0_t9 k0_t10 1 1 7) v1387 c16_i32_566) s (fun a s' => s' = s ∧ a = ⟨(acc x w k0_t9 k0_t10 3 0 8), (acc x w k0_t9 k0_t10 0 1 8), (acc x w k0_t9 k0_t10 1 1 8), (sl (cl (craw x k0_t9 k0_t10 2 17))), (sl (ch (craw x k0_t9 k0_t10 2 17)))⟩) := by
  subst hsu
  unfold k0_part22
  repeat' first | (with_reducible refine Tr.load ?_) | (with_reducible refine Tr.loadR ?_) | (with_reducible refine Tr.store ?_) | extract_lets
  exact Tr.ret ⟨rfl, rfl⟩

theorem part23 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part23 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 17) (w 18) k0_t10 v656 (acc x w k0_t9 k0_t10 2 1 7) (acc x w k0_t9 k0_t10 3 1 7) (acc x w k0_t9 k0_t10 0 0 8) (acc x w k0_t9 k0_t10 1 0 8) (sl (cl (craw x k0_t9 k0_t10 2 17))) (sl (ch (craw x k0_t9 k0_t10 2 17)))) s (fun a s' => s' = s ∧ ∃ b4, a = ⟨(acc x w k0_t9 k0_t10 2 1 8), (acc x w k0_t9 k0_t10 3 1 8), (acc x w k0_t9 k0_t10 0 0 9), (acc x w k0_t9 k0_t10 1 0 9), b4⟩) := by
  subst hsu
  unfold k0_part23
  repeat' first | (with_reducible refine Tr.load ?_) | (with_reducible refine Tr.loadR ?_) | (with_reducible refine Tr.store ?_) | extract_lets
  exact Tr.ret ⟨rfl, ⟨_, rfl⟩⟩

theorem part24 (i : grid0.Coords) (k0_t9 : Fin k0_t9_loop.trips) (arg28 : BitVec 32) (k0_t10 : Fin k0_t10_loop.trips) (v656 : BitVec 32) (v1465 : BitVec 32) (s : St Ideal) (x : S4x576x128.Idx → EReal) (w : Nat → FVec Ideal S32x128 .bf16) (hsu : s.u = x) :
    Tr V (k0_part24 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 18) (w 19) k0_t10 v656 (acc x w k0_t9 k0_t10 2 0 8) (acc x w k0_t9 k0_t10 3 0 8) (acc x w k0_t9 k0_t10 0 1 8) v1465) s (fun a s' => s' = s ∧ a = ⟨(acc x w k0_t9 k0_t10 2 0 9), (acc x w k0_t9 k0_t10 3 0 9), (acc x w k0_t9 k0_t10 0 1 9), (win x k0_t9 k0_t10 1 19)⟩) := by
  subst hsu
  unfold k0_part24
  repeat' first | (with_reducible refine Tr.load ?_) | (with_reducible refine Tr.loadR ?_) | (with_reducible refine Tr.store ?_) | extract_lets
  exact Tr.ret ⟨rfl, rfl⟩

theorem part25 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part25 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 19) (w 20) k0_t10 v656 (acc x w k0_t9 k0_t10 1 1 8) (acc x w k0_t9 k0_t10 2 1 8) (acc x w k0_t9 k0_t10 3 1 8) (acc x w k0_t9 k0_t10 0 0 9) (win x k0_t9 k0_t10 1 19)) s (fun a s' => s' = s ∧ ∃ b4, a = ⟨(acc x w k0_t9 k0_t10 1 1 9), (acc x w k0_t9 k0_t10 2 1 9), (acc x w k0_t9 k0_t10 3 1 9), (acc x w k0_t9 k0_t10 0 0 10), b4⟩) := by
  subst hsu
  unfold k0_part25
  repeat' first | (with_reducible refine Tr.load ?_) | (with_reducible refine Tr.loadR ?_) | (with_reducible refine Tr.store ?_) | extract_lets
  exact Tr.ret ⟨rfl, ⟨_, rfl⟩⟩

theorem part26 (i : grid0.Coords) (k0_t9 : Fin k0_t9_loop.trips) (arg28 : BitVec 32) (k0_t10 : Fin k0_t10_loop.trips) (v656 : BitVec 32) (v1542 : BitVec 32) (s : St Ideal) (x : S4x576x128.Idx → EReal) (w : Nat → FVec Ideal S32x128 .bf16) (hsu : s.u = x) :
    Tr V (k0_part26 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 20) (w 21) k0_t10 v656 (acc x w k0_t9 k0_t10 1 0 9) (acc x w k0_t9 k0_t10 2 0 9) (acc x w k0_t9 k0_t10 3 0 9) v1542) s (fun a s' => s' = s ∧ a = ⟨(acc x w k0_t9 k0_t10 1 0 10), (acc x w k0_t9 k0_t10 2 0 10), (acc x w k0_t9 k0_t10 3 0 10), (term x w k0_t9 k0_t10 0 21)⟩) := by
  subst hsu
  unfold k0_part26
  repeat' first | (with_reducible refine Tr.load ?_) | (with_reducible refine Tr.loadR ?_) | (with_reducible refine Tr.store ?_) | extract_lets
  exact Tr.ret ⟨rfl, rfl⟩

theorem part27 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part27 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 21) k0_t10 v656 (acc x w k0_t9 k0_t10 0 1 9) (acc x w k0_t9 k0_t10 1 1 9) (acc x w k0_t9 k0_t10 2 1 9) (acc x w k0_t9 k0_t10 3 1 9) (term x w k0_t9 k0_t10 0 21)) s (fun a s' => s' = s ∧ a = ⟨(acc x w k0_t9 k0_t10 0 1 10), (acc x w k0_t9 k0_t10 1 1 10), (acc x w k0_t9 k0_t10 2 1 10), (acc x w k0_t9 k0_t10 3 1 10)⟩) := by
  subst hsu
  unfold k0_part27
  repeat' first | (with_reducible refine Tr.load ?_) | (with_reducible refine Tr.loadR ?_) | (with_reducible refine Tr.store ?_) | extract_lets
  exact Tr.ret ⟨rfl, rfl⟩

theorem part28 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part28 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 22) k0_t10 v656 (acc x w k0_t9 k0_t10 0 0 10) (acc x w k0_t9 k0_t10 1 0 10) (acc x w k0_t9 k0_t10 2 0 10) (acc x w k0_t9 k0_t10 3 0 10)) s (fun a s' => s' = s ∧ a = ⟨(acc x w k0_t9 k0_t10 0 0 11), (acc x w k0_t9 k0_t10 1 0 11), (acc x w k0_t9 k0_t10 2 0 11), (acc x w k0_t9 k0_t10 3 0 11)⟩) := by
  subst hsu
  unfold k0_part28
  repeat' first | (with_reducible refine Tr.load ?_) | (with_reducible refine Tr.loadR ?_) | (with_reducible refine Tr.store ?_) | extract_lets
  exact Tr.ret ⟨rfl, rfl⟩

theorem part29 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part29 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 23) k0_t10 v656 (acc x w k0_t9 k0_t10 0 1 10) (acc x w k0_t9 k0_t10 1 1 10) (acc x w k0_t9 k0_t10 2 1 10)) s (fun a s' => s' = s ∧ a = ⟨(acc x w k0_t9 k0_t10 0 1 11), (acc x w k0_t9 k0_t10 1 1 11), (acc x w k0_t9 k0_t10 2 1 11)⟩) := by
  subst hsu
  unfold k0_part29
  repeat' first | (with_reducible refine Tr.load ?_) | (with_reducible refine Tr.loadR ?_) | (with_reducible refine Tr.store ?_) | extract_lets
  exact Tr.ret ⟨rfl, rfl⟩

theorem part30 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part30 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 23) (w 24) k0_t10 v656 (acc x w k0_t9 k0_t10 3 1 10) (acc x w k0_t9 k0_t10 0 0 11) (acc x w k0_t9 k0_t10 1 0 11) (acc x w k0_t9 k0_t10 2 0 11)) s (fun a s' => s' = s ∧ ∃ b4, a = ⟨(acc x w k0_t9 k0_t10 3 1 11), (acc x w k0_t9 k0_t10 0 0 12), (acc x w k0_t9 k0_t10 1 0 12), (acc x w k0_t9 k0_t10 2 0 12), b4⟩) := by
  subst hsu
  unfold k0_part30
  repeat' first | (with_reducible refine Tr.load ?_) | (with_reducible refine Tr.loadR ?_) | (with_reducible refine Tr.store ?_) | extract_lets
  exact Tr.ret ⟨rfl, ⟨_, rfl⟩⟩

theorem part31 (i : grid0.Coords) (k0_t9 : Fin k0_t9_loop.trips) (arg28 : BitVec 32) (k0_t10 : Fin k0_t10_loop.trips) (v656 : BitVec 32) (c2_i32_684 : BitVec 32) (s : St Ideal) (x : S4x576x128.Idx → EReal) (w : Nat → FVec Ideal S32x128 .bf16) (hsu : s.u = x) :
    Tr V (k0_part31 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 24) (w 25) k0_t10 v656 (acc x w k0_t9 k0_t10 3 0 11) (acc x w k0_t9 k0_t10 0 1 11) (acc x w k0_t9 k0_t10 1 1 11) c2_i32_684) s (fun a s' => s' = s ∧ a = ⟨(acc x w k0_t9 k0_t10 3 0 12), (acc x w k0_t9 k0_t10 0 1 12), (acc x w k0_t9 k0_t10 1 1 12), (craw x k0_t9 k0_t10 2 25)⟩) := by
  subst hsu
  unfold k0_part31
  repeat' first | (with_reducible refine Tr.load ?_) | (with_reducible refine Tr.loadR ?_) | (with_reducible refine Tr.store ?_) | extract_lets
  exact Tr.ret ⟨rfl, rfl⟩

theorem part32 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part32 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 25) (w 26) k0_t10 v656 (acc x w k0_t9 k0_t10 2 1 11) (acc x w k0_t9 k0_t10 3 1 11) (acc x w k0_t9 k0_t10 0 0 12) (acc x w k0_t9 k0_t10 1 0 12) (craw x k0_t9 k0_t10 2 25)) s (fun a s' => s' = s ∧ ∃ b4, a = ⟨(acc x w k0_t9 k0_t10 2 1 12), (acc x w k0_t9 k0_t10 3 1 12), (acc x w k0_t9 k0_t10 0 0 13), (acc x w k0_t9 k0_t10 1 0 13), b4⟩) := by
  subst hsu
  unfold k0_part32
  repeat' first | (with_reducible refine Tr.load ?_) | (with_reducible refine Tr.loadR ?_) | (with_reducible refine Tr.store ?_) | extract_lets
  exact Tr.ret ⟨rfl, ⟨_, rfl⟩⟩

theorem part33 (i : grid0.Coords) (k0_t9 : Fin k0_t9_loop.trips) (arg28 : BitVec 32) (k0_t10 : Fin k0_t10_loop.trips) (v656 : BitVec 32) (v1815 : BitVec 32) (s : St Ideal) (x : S4x576x128.Idx → EReal) (w : Nat → FVec Ideal S32x128 .bf16) (hsu : s.u = x) :
    Tr V (k0_part33 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 26) (w 27) k0_t10 v656 (acc x w k0_t9 k0_t10 2 0 12) (acc x w k0_t9 k0_t10 3 0 12) (acc x w k0_t9 k0_t10 0 1 12) v1815) s (fun a s' => s' = s ∧ a = ⟨(acc x w k0_t9 k0_t10 2 0 13), (acc x w k0_t9 k0_t10 3 0 13), (acc x w k0_t9 k0_t10 0 1 13), (craw x k0_t9 k0_t10 1 27), (cl (craw x k0_t9 k0_t10 1 27))⟩) := by
  subst hsu
  unfold k0_part33
  repeat' first | (with_reducible refine Tr.load ?_) | (with_reducible refine Tr.loadR ?_) | (with_reducible refine Tr.store ?_) | extract_lets
  exact Tr.ret ⟨rfl, rfl⟩

theorem part34 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part34 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 27) (w 28) k0_t10 v656 (acc x w k0_t9 k0_t10 1 1 12) (acc x w k0_t9 k0_t10 2 1 12) (acc x w k0_t9 k0_t10 3 1 12) (acc x w k0_t9 k0_t10 0 0 13) (craw x k0_t9 k0_t10 1 27) (cl (craw x k0_t9 k0_t10 1 27))) s (fun a s' => s' = s ∧ ∃ b4 b5, a = ⟨(acc x w k0_t9 k0_t10 1 1 13), (acc x w k0_t9 k0_t10 2 1 13), (acc x w k0_t9 k0_t10 3 1 13), (acc x w k0_t9 k0_t10 0 0 14), b4, b5⟩) := by
  subst hsu
  unfold k0_part34
  repeat' first | (with_reducible refine Tr.load ?_) | (with_reducible refine Tr.loadR ?_) | (with_reducible refine Tr.store ?_) | extract_lets
  exact Tr.ret ⟨rfl, ⟨_, _, rfl⟩⟩

theorem part35 (i : grid0.Coords) (k0_t9 : Fin k0_t9_loop.trips) (arg28 : BitVec 32) (k0_t10 : Fin k0_t10_loop.trips) (v656 : BitVec 32) (v1892 : BitVec 32) (c1_i32_737 : BitVec 32) (s : St Ideal) (x : S4x576x128.Idx → EReal) (w : Nat → FVec Ideal S32x128 .bf16) (hsu : s.u = x) :
    Tr V (k0_part35 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 28) k0_t10 v656 (acc x w k0_t9 k0_t10 1 0 13) (acc x w k0_t9 k0_t10 2 0 13) (acc x w k0_t9 k0_t10 3 0 13) v1892 c1_i32_737) s (fun a s' => s' = s ∧ a = ⟨(acc x w k0_t9 k0_t10 1 0 14), (acc x w k0_t9 k0_t10 2 0 14), (acc x w k0_t9 k0_t10 3 0 14), (cl (craw x k0_t9 k0_t10 0 29)), (ch (craw x k0_t9 k0_t10 0 29))⟩) := by
  subst hsu
  unfold k0_part35
  repeat' first | (with_reducible refine Tr.load ?_) | (with_reducible refine Tr.loadR ?_) | (with_reducible refine Tr.store ?_) | extract_lets
  exact Tr.ret ⟨rfl, rfl⟩

theorem part36 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part36 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 29) k0_t10 v656 (acc x w k0_t9 k0_t10 0 1 13) (acc x w k0_t9 k0_t10 1 1 13) (acc x w k0_t9 k0_t10 2 1 13) (acc x w k0_t9 k0_t10 3 1 13) (cl (craw x k0_t9 k0_t10 0 29)) (ch (craw x k0_t9 k0_t10 0 29))) s (fun a s' => s' = s ∧ ∃ b4, a = ⟨(acc x w k0_t9 k0_t10 0 1 14), (acc x w k0_t9 k0_t10 1 1 14), (acc x w k0_t9 k0_t10 2 1 14), (acc x w k0_t9 k0_t10 3 1 14), b4⟩) := by
  subst hsu
  unfold k0_part36
  repeat' first | (with_reducible refine Tr.load ?_) | (with_reducible refine Tr.loadR ?_) | (with_reducible refine Tr.store ?_) | extract_lets
  exact Tr.ret ⟨rfl, ⟨_, rfl⟩⟩

theorem part37 (i : grid0.Coords) (k0_t9 : Fin k0_t9_loop.trips) (arg28 : BitVec 32) (k0_t10 : Fin k0_t10_loop.trips) (v656 : BitVec 32) (v1970 : BitVec 32) (s : St Ideal) (x : S4x576x128.Idx → EReal) (w : Nat → FVec Ideal S32x128 .bf16) (hsu : s.u = x) :
    Tr V (k0_part37 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 30) k0_t10 v656 (acc x w k0_t9 k0_t10 0 0 14) (acc x w k0_t9 k0_t10 1 0 14) (acc x w k0_t9 k0_t10 2 0 14) v1970) s (fun a s' => s' = s ∧ a = ⟨(acc x w k0_t9 k0_t10 0 0 15), (acc x w k0_t9 k0_t10 1 0 15), (acc x w k0_t9 k0_t10 2 0 15), (ch (craw x k0_t9 k0_t10 3 30)), (sl (cl (craw x k0_t9 k0_t10 3 30)))⟩) := by
  subst hsu
  unfold k0_part37
  repeat' first | (with_reducible refine Tr.load ?_) | (with_reducible refine Tr.loadR ?_) | (with_reducible refine Tr.store ?_) | extract_lets
  exact Tr.ret ⟨rfl, rfl⟩

theorem part38 (i : grid0.Coords) (k0_t9 : Fin k0_t9_loop.trips) (arg28 : BitVec 32) (k0_t10 : Fin k0_t10_loop.trips) (v656 : BitVec 32) (s : St Ideal) (x : S4x576x128.Idx → EReal) (w : Nat → FVec Ideal S32x128 .bf16) (hsu : s.u = x) :
    Tr V (k0_part38 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 30) k0_t10 v656 (acc x w k0_t9 k0_t10 3 0 14) (acc x w k0_t9 k0_t10 0 1 14) (acc x w k0_t9 k0_t10 0 0 15) (ch (craw x k0_t9 k0_t10 3 30)) (sl (cl (craw x k0_t9 k0_t10 3 30)))) s (fun a s' => s' = { s with c := (cput I x w k0_t9 k0_t10 0 0 s.c) } ∧ ∃ b1, a = ⟨(acc x w k0_t9 k0_t10 3 0 15), b1, (hs x w k0_t9 k0_t10 1 0), (cb2 I k0_t9 1)⟩) := by
  subst hsu
  unfold k0_part38
  repeat' first | (with_reducible refine Tr.load ?_) | (with_reducible refine Tr.loadR ?_) | (with_reducible refine Tr.store ?_) | extract_lets
  exact Tr.ret ⟨rfl, ⟨_, rfl⟩⟩

theorem part39 (i : grid0.Coords) (k0_t9 : Fin k0_t9_loop.trips) (arg28 : BitVec 32) (k0_t10 : Fin k0_t10_loop.trips) (v656 : BitVec 32) (v2038 : BitVec 32) (s : St Ideal) (x : S4x576x128.Idx → EReal) (w : Nat → FVec Ideal S32x128 .bf16) (hsu : s.u = x) :
    Tr V (k0_part39 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 k0_t10 v656 (acc x w k0_t9 k0_t10 1 1 14) (acc x w k0_t9 k0_t10 1 0 15) v2038 (hs x w k0_t9 k0_t10 1 0) (cb2 I k0_t9 1)) s (fun a s' => s' = { s with c := (cput I x w k0_t9 k0_t10 0 1 (cput I x w k0_t9 k0_t10 1 0 s.c)) } ∧ ∃ b0 b2, a = ⟨b0, (hs x w k0_t9 k0_t10 1 1), b2⟩) := by
  subst hsu
  unfold k0_part39
  repeat' first | (with_reducible refine Tr.load ?_) | (with_reducible refine Tr.loadR ?_) | (with_reducible refine Tr.store ?_) | extract_lets
  exact Tr.ret ⟨rfl, ⟨_, _, rfl⟩⟩

theorem part40 (i : grid0.Coords) (k0_t9 : Fin k0_t9_loop.trips) (arg28 : BitVec 32) (k0_t10 : Fin k0_t10_loop.trips) (v656 : BitVec 32) (v2086 : BitVec 32) (v2096 : BitVec 32) (s : St Ideal) (x : S4x576x128.Idx → EReal) (w : Nat → FVec Ideal S32x128 .bf16) (hsu : s.u = x) :
    Tr V (k0_part40 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 k0_t10 v656 (acc x w k0_t9 k0_t10 2 1 14) (acc x w k0_t9 k0_t10 2 0 15) v2086 (hs x w k0_t9 k0_t10 1 1) v2096) s (fun a s' => s' = { s with c := (cput I x w k0_t9 k0_t10 0 2 (cput I x w k0_t9 k0_t10 1 1 s.c)) } ∧ ∃ b0, a = ⟨b0, (half 1 (acc x w k0_t9 k0_t10 2 0 15)), (rp 1 (acc x w k0_t9 k0_t10 2 1 14))⟩) := by
  subst hsu
  unfold k0_part40
  repeat' first | (with_reducible refine Tr.load ?_) | (with_reducible refine Tr.loadR ?_) | (with_reducible refine Tr.store ?_) | extract_lets
  exact Tr.ret ⟨rfl, ⟨_, rfl⟩⟩

theorem part41 (i : grid0.Coords) (k0_t9 : Fin k0_t9_loop.trips) (arg28 : BitVec 32) (k0_t10 : Fin k0_t10_loop.trips) (v656 : BitVec 32) (v2134 : BitVec 32) (s : St Ideal) (x : S4x576x128.Idx → EReal) (w : Nat → FVec Ideal S32x128 .bf16) (hsu : s.u = x) :
    Tr V (k0_part41 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 k0_t10 v656 (acc x w k0_t9 k0_t10 3 1 14) (acc x w k0_t9 k0_t10 3 0 15) v2134 (half 1 (acc x w k0_t9 k0_t10 2 0 15)) (rp 1 (acc x w k0_t9 k0_t10 2 1 14))) s (fun a s' => s' = { s with c := (cput I x w k0_t9 k0_t10 0 3 (cput I x w k0_t9 k0_t10 1 2 s.c)) } ∧ ∃ b0, a = b0) := by
  subst hsu
  unfold k0_part41
  repeat' first | (with_reducible refine Tr.load ?_) | (with_reducible refine Tr.loadR ?_) | (with_reducible refine Tr.store ?_) | extract_lets
  exact Tr.ret ⟨rfl, ⟨_, rfl⟩⟩

end Cert.KernelIdeal.Val

end
-- ==== Proof.VC5.lean ====
/-
  One block of rows of the convolution.
-/
module

public import proofs.«01_k».proof.Proof.VC1
public import proofs.«01_k».proof.Proof.VC2

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

variable (A : Args) (I : In Ideal) (d : Dev nD)
local notation "V" => Ev A I d

set_option maxHeartbeats 4000000 in
theorem part42 (i : grid0.Coords) (k0_t9 : Fin k0_t9_loop.trips) (arg28 : BitVec 32) (c0_i32_301 : BitVec 32) (c1_i32_303 : BitVec 32) (k0_t10 : Fin k0_t10_loop.trips) (s : St Ideal) (x : S4x576x128.Idx → EReal) (w : Nat → FVec Ideal S32x128 .bf16) (hsu : s.u = x) :
    Tr V (k0_part42 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 k0_t9 arg28 (w 0) (w 1) (w 2) (w 3) (w 4) (w 5) (w 6) (w 7) (w 8) (w 9) (w 10) (w 11) (w 12) (w 13) (w 14) (w 15) (w 16) (w 17) (w 18) (w 19) (w 20) (w 21) (w 22) (w 23) (w 24) (w 25) (w 26) (w 27) (w 28) (w 29) (w 30) c0_i32_301 c1_i32_303 k0_t10) s (fun a s' => s' = { s with c := (cput I x w k0_t9 k0_t10 0 3 (cput I x w k0_t9 k0_t10 1 2 (cput I x w k0_t9 k0_t10 0 2 (cput I x w k0_t9 k0_t10 1 1 (cput I x w k0_t9 k0_t10 0 1 (cput I x w k0_t9 k0_t10 1 0 (cput I x w k0_t9 k0_t10 0 0 s.c))))))) } ∧ a.2.1 = cfin I x w k0_t9 k0_t10 1 3) := by
  unfold k0_part42
  refine Tr.bind _ (part3 A I d i _ _ _ _ _ _ x w hsu) ?_
  rintro _ _ ⟨rfl, b0, rfl⟩
  refine Tr.bind _ (part4 A I d i _ _ _ _ _ x w hsu) ?_
  rintro _ _ ⟨rfl, b4, rfl⟩
  refine Tr.bind _ (part5 A I d i _ _ _ _ _ _ x w hsu) ?_
  rintro _ _ ⟨rfl, rfl⟩
  refine Tr.bind _ (part6 A I d i _ _ _ _ _ x w hsu) ?_
  rintro _ _ ⟨rfl, b4, rfl⟩
  refine Tr.bind _ (part7 A I d i _ _ _ _ _ _ x w hsu) ?_
  rintro _ _ ⟨rfl, rfl⟩
  refine Tr.bind _ (part8 A I d i _ _ _ _ _ x w hsu) ?_
  rintro _ _ ⟨rfl, b4, rfl⟩
  refine Tr.bind _ (part9 A I d i _ _ _ _ _ _ x w hsu) ?_
  rintro _ _ ⟨rfl, rfl⟩
  refine Tr.bind _ (part10 A I d i _ _ _ _ _ x w hsu) ?_
  rintro _ _ ⟨rfl, rfl⟩
  refine Tr.bind _ (part11 A I d i _ _ _ _ _ x w hsu) ?_
  rintro _ _ ⟨rfl, rfl⟩
  refine Tr.bind _ (part12 A I d i _ _ _ _ _ x w hsu) ?_
  rintro _ _ ⟨rfl, rfl⟩
  refine Tr.bind _ (part13 A I d i _ _ _ _ _ x w hsu) ?_
  rintro _ _ ⟨rfl, b4, rfl⟩
  refine Tr.bind _ (part14 A I d i _ _ _ _ _ _ x w hsu) ?_
  rintro _ _ ⟨rfl, rfl⟩
  refine Tr.bind _ (part15 A I d i _ _ _ _ _ x w hsu) ?_
  rintro _ _ ⟨rfl, b4, rfl⟩
  refine Tr.bind _ (part16 A I d i _ _ _ _ _ _ x w hsu) ?_
  rintro _ _ ⟨rfl, rfl⟩
  refine Tr.bind _ (part17 A I d i _ _ _ _ _ x w hsu) ?_
  rintro _ _ ⟨rfl, b4, b5, rfl⟩
  refine Tr.bind _ (part18 A I d i _ _ _ _ _ _ _ x w hsu) ?_
  rintro _ _ ⟨rfl, rfl⟩
  refine Tr.bind _ (part19 A I d i _ _ _ _ _ x w hsu) ?_
  rintro _ _ ⟨rfl, b4, rfl⟩
  refine Tr.bind _ (part20 A I d i _ _ _ _ _ _ x w hsu) ?_
  rintro _ _ ⟨rfl, rfl⟩
  refine Tr.bind _ (part21 A I d i _ _ _ _ _ x w hsu) ?_
  rintro _ _ ⟨rfl, b4, b5, rfl⟩
  refine Tr.bind _ (part22 A I d i _ _ _ _ _ _ _ x w hsu) ?_
  rintro _ _ ⟨rfl, rfl⟩
  refine Tr.bind _ (part23 A I d i _ _ _ _ _ x w hsu) ?_
  rintro _ _ ⟨rfl, b4, rfl⟩
  refine Tr.bind _ (part24 A I d i _ _ _ _ _ _ x w hsu) ?_
  rintro _ _ ⟨rfl, rfl⟩
  refine Tr.bind _ (part25 A I d i _ _ _ _ _ x w hsu) ?_
  rintro _ _ ⟨rfl, b4, rfl⟩
  refine Tr.bind _ (part26 A I d i _ _ _ _ _ _ x w hsu) ?_
  rintro _ _ ⟨rfl, rfl⟩
  refine Tr.bind _ (part27 A I d i _ _ _ _ _ x w hsu) ?_
  rintro _ _ ⟨rfl, rfl⟩
  refine Tr.bind _ (part28 A I d i _ _ _ _ _ x w hsu) ?_
  rintro _ _ ⟨rfl, rfl⟩
  refine Tr.bind _ (part29 A I d i _ _ _ _ _ x w hsu) ?_
  rintro _ _ ⟨rfl, rfl⟩
  refine Tr.bind _ (part30 A I d i _ _ _ _ _ x w hsu) ?_
  rintro _ _ ⟨rfl, b4, rfl⟩
  refine Tr.bind _ (part31 A I d i _ _ _ _ _ _ x w hsu) ?_
  rintro _ _ ⟨rfl, rfl⟩
  refine Tr.bind _ (part32 A I d i _ _ _ _ _ x w hsu) ?_
  rintro _ _ ⟨rfl, b4, rfl⟩
  refine Tr.bind _ (part33 A I d i _ _ _ _ _ _ x w hsu) ?_
  rintro _ _ ⟨rfl, rfl⟩
  refine Tr.bind _ (part34 A I d i _ _ _ _ _ x w hsu) ?_
  rintro _ _ ⟨rfl, b4, b5, rfl⟩
  refine Tr.bind _ (part35 A I d i _ _ _ _ _ _ _ x w hsu) ?_
  rintro _ _ ⟨rfl, rfl⟩
  refine Tr.bind _ (part36 A I d i _ _ _ _ _ x w hsu) ?_
  rintro _ _ ⟨rfl, b4, rfl⟩
  refine Tr.bind _ (part37 A I d i _ _ _ _ _ _ x w hsu) ?_
  rintro _ _ ⟨rfl, rfl⟩
  refine Tr.bind _ (part38 A I d i _ _ _ _ _ x w hsu) ?_
  rintro _ _ ⟨rfl, b1, rfl⟩
  refine Tr.bind _ (part39 A I d i _ _ _ _ _ _ x w hsu) ?_
  rintro _ _ ⟨rfl, b0, b2, rfl⟩
  refine Tr.bind _ (part40 A I d i _ _ _ _ _ _ _ x w hsu) ?_
  rintro _ _ ⟨rfl, b0, rfl⟩
  refine Tr.bind _ (part41 A I d i _ _ _ _ _ _ x w hsu) ?_
  rintro _ _ ⟨rfl, b0, rfl⟩
  repeat' first | (with_reducible refine Tr.load ?_) | extract_lets
  exact Tr.ret ⟨rfl, rfl⟩

end Cert.KernelIdeal.Val

end
-- ==== Proof.VE.lean ====
/-
  The entries of the convolution's and the pooling windows' vectors.
-/
module

public import proofs.«01_k».proof.Proof.VC0

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

variable (I : In Ideal) (x : S4x576x128.Idx → EReal) (w : Nat → FVec Ideal S32x128 .bf16) (t : Fin k0_t9_loop.trips) (t' : Fin k0_t10_loop.trips)

/-- A strided block's put, at a row of the block. -/
theorem putS_at {off : Fin 3 → Nat} {h} {v : S1x16x128.Idx → EReal} {X : S8x256x128.Idx → EReal} {a b : Nat} (e : off = ![a, b, 0])
    {p : Fin 8} {r : Fin 256} (l : Fin 128) (q : Fin 16) (hp : p.val = a) (hr : r.val = b + 4 * q.val) :
    put ⟨(⟨off, S1x16x128.size, ![1, 4, 1], h⟩ : LoadRect S8x256x128), spos_1_4_1⟩ v X (ix3 p r l) = v (ix3 0 q l) := by
  subst e
  refine put_at (r := (⟨(⟨![a, b, 0], S1x16x128.size, ![1, 4, 1], h⟩ : LoadRect S8x256x128), spos_1_4_1⟩ : Rect S8x256x128)) (w := v) (X := X) (y := ix3 p r l) (ix3 (0 : Fin 1) q l) fun c => ?_
  fin_cases c <;> simp <;> omega

theorem putS_off {off : Fin 3 → Nat} {h} {v : S1x16x128.Idx → EReal} {X : S8x256x128.Idx → EReal} {a b : Nat} (e : off = ![a, b, 0])
    {p : Fin 8} {r : Fin 256} {l : Fin 128} (hp : p.val ≠ a ∨ r.val % 4 ≠ b % 4 ∨ r.val < b ∨ b + 64 ≤ r.val) :
    put ⟨(⟨off, S1x16x128.size, ![1, 4, 1], h⟩ : LoadRect S8x256x128), spos_1_4_1⟩ v X (ix3 p r l) = X (ix3 p r l) := by
  subst e
  by_cases h0 : p.val ≠ a
  · refine put_off 0 fun n hn => ?_
    have hn : n < 1 := hn
    simp; omega
  · refine put_off 1 fun n hn => ?_
    have hn : n < 16 := hn
    simp; omega

theorem win_entry (ph : Fin 4) (k : Fin 31) (m : Fin 32) (l : Fin 128) (n : Fin 576)
    (hn : n.val = 2 * (64 * t'.val + ph.val + k.val + 2 + 4 * (m.val / 2)) + m.val % 2) :
    win x t t' ph.val k.val (ix2 m l) = x (ix3 t n l) := by
  have e1 : Fin.ofNat 4 ph.val = ph := Fin.ext (Nat.mod_eq_of_lt ph.isLt)
  have e2 : Fin.ofNat 31 k.val = k := Fin.ext (Nat.mod_eq_of_lt k.isLt)
  have ht : t.val < 4 := t.isLt
  have ht' : t'.val < 4 := t'.isLt
  unfold win sl cl ch craw
  pointwise [off59]
  have e1 : (Fin.ofNat 4 ph.val).val = ph.val := Nat.mod_eq_of_lt ph.isLt
  have e2 : (Fin.ofNat 31 k.val).val = k.val := Nat.mod_eq_of_lt k.isLt
  split <;> exact congrArg (fun n => x (ix3 t n l)) (Fin.ext (by dsimp only; rw [e1, e2]; omega))

theorem cb2_entry (p : Fin 2) (q : Fin 16) (l : Fin 128) (c : Fin 1024) (hc : c.val = 256 * t.val + 128 * p.val + l.val) :
    cb2 I t p.val (ix2 q l) = I.cb (ix2 0 c) := by
  have e1 : Fin.ofNat 2 p.val = p := Fin.ext (Nat.mod_eq_of_lt p.isLt)
  have ht : t.val < 4 := t.isLt
  unfold cb2 cb1 cb0
  pointwise [off60]
  have e1 : (Fin.ofNat 2 p.val).val = p.val := Nat.mod_eq_of_lt p.isLt
  exact congrArg (fun n => I.cb (ix2 0 n)) (Fin.ext (by dsimp only; rw [e1]; omega))

theorem traw_entry (p : Fin 2) (k : Fin 31) (l : Fin 128) (c : Fin 1024) (hc : c.val = 256 * t.val + 128 * p.val + l.val) :
    traw I t p.val k.val (ix2 0 l) = I.cw (ix2 k c) := by
  have e1 : Fin.ofNat 2 p.val = p := Fin.ext (Nat.mod_eq_of_lt p.isLt)
  have ht : t.val < 4 := t.isLt
  have e2 : (Fin.ofNat 2 p.val).val = p.val := Nat.mod_eq_of_lt p.isLt
  fin_cases k <;> dsimp only [traw]
  · pointwise [off28]
    exact congrArg (fun n => I.cw (ix2 0 n)) (Fin.ext (by dsimp only; rw [e2]; omega))
  · pointwise [off29]
    exact congrArg (fun n => I.cw (ix2 1 n)) (Fin.ext (by dsimp only; rw [e2]; omega))
  · pointwise [off30]
    exact congrArg (fun n => I.cw (ix2 2 n)) (Fin.ext (by dsimp only; rw [e2]; omega))
  · pointwise [off31]
    exact congrArg (fun n => I.cw (ix2 3 n)) (Fin.ext (by dsimp only; rw [e2]; omega))
  · pointwise [off32]
    exact congrArg (fun n => I.cw (ix2 4 n)) (Fin.ext (by dsimp only; rw [e2]; omega))
  · pointwise [off33]
    exact congrArg (fun n => I.cw (ix2 5 n)) (Fin.ext (by dsimp only; rw [e2]; omega))
  · pointwise [off34]
    exact congrArg (fun n => I.cw (ix2 6 n)) (Fin.ext (by dsimp only; rw [e2]; omega))
  · pointwise [off35]
    exact congrArg (fun n => I.cw (ix2 7 n)) (Fin.ext (by dsimp only; rw [e2]; omega))
  · pointwise [off36]
    exact congrArg (fun n => I.cw (ix2 8 n)) (Fin.ext (by dsimp only; rw [e2]; omega))
  · pointwise [off37]
    exact congrArg (fun n => I.cw (ix2 9 n)) (Fin.ext (by dsimp only; rw [e2]; omega))
  · pointwise [off38]
    exact congrArg (fun n => I.cw (ix2 10 n)) (Fin.ext (by dsimp only; rw [e2]; omega))
  · pointwise [off39]
    exact congrArg (fun n => I.cw (ix2 11 n)) (Fin.ext (by dsimp only; rw [e2]; omega))
  · pointwise [off40]
    exact congrArg (fun n => I.cw (ix2 12 n)) (Fin.ext (by dsimp only; rw [e2]; omega))
  · pointwise [off41]
    exact congrArg (fun n => I.cw (ix2 13 n)) (Fin.ext (by dsimp only; rw [e2]; omega))
  · pointwise [off42]
    exact congrArg (fun n => I.cw (ix2 14 n)) (Fin.ext (by dsimp only; rw [e2]; omega))
  · pointwise [off43]
    exact congrArg (fun n => I.cw (ix2 15 n)) (Fin.ext (by dsimp only; rw [e2]; omega))
  · pointwise [off44]
    exact congrArg (fun n => I.cw (ix2 16 n)) (Fin.ext (by dsimp only; rw [e2]; omega))
  · pointwise [off45]
    exact congrArg (fun n => I.cw (ix2 17 n)) (Fin.ext (by dsimp only; rw [e2]; omega))
  · pointwise [off46]
    exact congrArg (fun n => I.cw (ix2 18 n)) (Fin.ext (by dsimp only; rw [e2]; omega))
  · pointwise [off47]
    exact congrArg (fun n => I.cw (ix2 19 n)) (Fin.ext (by dsimp only; rw [e2]; omega))
  · pointwise [off48]
    exact congrArg (fun n => I.cw (ix2 20 n)) (Fin.ext (by dsimp only; rw [e2]; omega))
  · pointwise [off49]
    exact congrArg (fun n => I.cw (ix2 21 n)) (Fin.ext (by dsimp only; rw [e2]; omega))
  · pointwise [off50]
    exact congrArg (fun n => I.cw (ix2 22 n)) (Fin.ext (by dsimp only; rw [e2]; omega))
  · pointwise [off51]
    exact congrArg (fun n => I.cw (ix2 23 n)) (Fin.ext (by dsimp only; rw [e2]; omega))
  · pointwise [off52]
    exact congrArg (fun n => I.cw (ix2 24 n)) (Fin.ext (by dsimp only; rw [e2]; omega))
  · pointwise [off53]
    exact congrArg (fun n => I.cw (ix2 25 n)) (Fin.ext (by dsimp only; rw [e2]; omega))
  · pointwise [off54]
    exact congrArg (fun n => I.cw (ix2 26 n)) (Fin.ext (by dsimp only; rw [e2]; omega))
  · pointwise [off55]
    exact congrArg (fun n => I.cw (ix2 27 n)) (Fin.ext (by dsimp only; rw [e2]; omega))
  · pointwise [off56]
    exact congrArg (fun n => I.cw (ix2 28 n)) (Fin.ext (by dsimp only; rw [e2]; omega))
  · pointwise [off57]
    exact congrArg (fun n => I.cw (ix2 29 n)) (Fin.ext (by dsimp only; rw [e2]; omega))
  · pointwise [off58]
    exact congrArg (fun n => I.cw (ix2 30 n)) (Fin.ext (by dsimp only; rw [e2]; omega))

theorem tap_entry (k : Nat) (m : Fin 32) (l : Fin 128) :
    tap I t k (ix2 m l) = if m.val % 2 = 0 then traw I t 0 k (ix2 0 l) else traw I t 1 k (ix2 0 l) := by
  unfold tap tt tb tc
  pointwise []

/-- One accumulator's chain of sums. -/
def chain (e : Nat → EReal) (par : Nat) : Nat → EReal
  | 0 => e par
  | n + 1 => chain e par n + e (2 * (n + 1) + par)

theorem chain_sum (e : Nat → EReal) : chain e 0 15 + chain e 1 14 = ∑ k : Fin 31, e k.val := by
  simp only [chain, Fin.sum_univ_succ, Fin.val_succ, Fin.val_zero]
  simp
  ac_rfl

theorem acc_entry (ph par n : Nat) (y : S32x128.Idx) :
    acc x w t t' ph par n y = chain (fun k => win x t t' ph k y * w k y) par n := by
  induction n with
  | zero => rfl
  | succ n ih => exact congrArg (· + _) ih

theorem half_entry (p : Fin 2) (a : FVec Ideal S32x128 .bf16) (q : Fin 16) (l : Fin 128) : half p a (ix2 q l) = a (ix2 ⟨2 * q.val + p.val, by omega⟩ l) := by
  unfold half rp
  pointwise []

theorem s3_entry {φ : FTy} (a : FVec Ideal S16x128 φ) (q : Fin 16) (l : Fin 128) : s3 a (ix3 0 q l) = a (ix2 q l) := by
  unfold s3
  pointwise []

theorem sl_entry {φ : FTy} (a : FVec Ideal S1x16x128 φ) (q : Fin 16) (l : Fin 128) : sl a (ix2 q l) = a (ix3 0 q l) := by
  unfold sl
  pointwise []

variable (xs : Nat → Row)

theorem cfin_entry (T : Nat) (hx : ∀ (n : Fin 576) (l : Fin 128) (c : Fin 1024), c.val = 256 * t.val + 128 * (n.val % 2) + l.val → x (ix3 t n l) = up I xs (256 * T + n.val / 2) c)
    (p : Fin 2) (ph : Fin 4) (q : Fin 16) (l : Fin 128) (c : Fin 1024) (hc : c.val = 256 * t.val + 128 * p.val + l.val) :
    cfin I x (tap I t) t t' p.val ph.val (ix2 q l) = Cv I xs (256 * T + (64 * t'.val + ph.val + 4 * q.val)) c := by
  have e1 : Fin.ofNat 2 p.val = p := Fin.ext (Nat.mod_eq_of_lt p.isLt)
  have ht' : t'.val < 4 := t'.isLt
  show (half (Fin.ofNat 2 p.val) (acc x (tap I t) t t' ph.val 0 15) (ix2 q l) + half (Fin.ofNat 2 p.val) (acc x (tap I t) t t' ph.val 1 14) (ix2 q l)) + cb2 I t p.val (ix2 q l) = _
  rw [e1, half_entry, half_entry, acc_entry, acc_entry, chain_sum, cb2_entry I t p q l c hc]
  unfold Cv
  refine congrArg (· + _) (Finset.sum_congr rfl fun k _ => ?_)
  have hk := k.isLt
  have hp := p.isLt
  refine congrArg₂ (· * ·) ?_ ?_
  · rw [win_entry x t t' ph k _ l ⟨2 * (64 * t'.val + ph.val + k.val + 2 + 4 * q.val) + p.val, by omega⟩ (by dsimp only; omega),
      hx _ l c (by dsimp only; omega)]
    exact congrArg (fun n => up I xs n c) (by dsimp only; omega)
  · rw [tap_entry]
    dsimp only
    split
    · have h0 : p = 0 := Fin.ext (by show p.val = 0; omega)
      subst h0
      exact traw_entry I t 0 k l c hc
    · have h0 : p = 1 := Fin.ext (by show p.val = 1; omega)
      subst h0
      exact traw_entry I t 1 k l c hc

/-- A block of rows of the convolution, once stored. -/
theorem conv_block (T : Nat) (hx : ∀ (n : Fin 576) (l : Fin 128) (c : Fin 1024), c.val = 256 * t.val + 128 * (n.val % 2) + l.val → x (ix3 t n l) = up I xs (256 * T + n.val / 2) c)
    (C : S8x256x128.Idx → EReal) (p : Fin 8) (r : Fin 256) (l : Fin 128) (c : Fin 1024) (hc : c.val = 128 * p.val + l.val)
    (hp : p.val / 2 = t.val) (h1 : 64 * t'.val ≤ r.val) (h2 : r.val < 64 * t'.val + 64) :
    (cput I x (tap I t) t t' 1 3 (cput I x (tap I t) t t' 0 3 (cput I x (tap I t) t t' 1 2 (cput I x (tap I t) t t' 0 2 (cput I x (tap I t) t t' 1 1 (cput I x (tap I t) t t' 0 1 (cput I x (tap I t) t t' 1 0 (cput I x (tap I t) t t' 0 0 C)))))))) (ix3 p r l) = Cv I xs (256 * T + r.val) c := by
  have ht' : t'.val < 4 := t'.isLt
  unfold cput
  have h4 : r.val % 4 = 0 ∨ r.val % 4 = 1 ∨ r.val % 4 = 2 ∨ r.val % 4 = 3 := by omega
  have h5 : p.val % 2 = 0 ∨ p.val % 2 = 1 := by omega
  rcases h4 with h4 | h4 | h4 | h4 <;> rcases h5 with h5 | h5
  · refine (putS_off (off61 t t' 1 3) (by (try simp); omega)).trans ?_
    refine (putS_off (off61 t t' 0 3) (by (try simp); omega)).trans ?_
    refine (putS_off (off61 t t' 1 2) (by (try simp); omega)).trans ?_
    refine (putS_off (off61 t t' 0 2) (by (try simp); omega)).trans ?_
    refine (putS_off (off61 t t' 1 1) (by (try simp); omega)).trans ?_
    refine (putS_off (off61 t t' 0 1) (by (try simp); omega)).trans ?_
    refine (putS_off (off61 t t' 1 0) (by (try simp); omega)).trans ?_
    refine (putS_at (off61 t t' 0 0) l ⟨(r.val - 64 * t'.val) / 4, by omega⟩ (by (try simp); omega) (by (try simp); omega)).trans ?_
    refine (s3_entry _ _ l).trans ((cfin_entry I x t t' xs T hx 0 0 _ l c (by (try simp); omega)).trans ?_)
    exact congrArg (fun n => Cv I xs n c) (by (try simp); omega)
  · refine (putS_off (off61 t t' 1 3) (by (try simp); omega)).trans ?_
    refine (putS_off (off61 t t' 0 3) (by (try simp); omega)).trans ?_
    refine (putS_off (off61 t t' 1 2) (by (try simp); omega)).trans ?_
    refine (putS_off (off61 t t' 0 2) (by (try simp); omega)).trans ?_
    refine (putS_off (off61 t t' 1 1) (by (try simp); omega)).trans ?_
    refine (putS_off (off61 t t' 0 1) (by (try simp); omega)).trans ?_
    refine (putS_at (off61 t t' 1 0) l ⟨(r.val - 64 * t'.val) / 4, by omega⟩ (by (try simp); omega) (by (try simp); omega)).trans ?_
    refine (s3_entry _ _ l).trans ((cfin_entry I x t t' xs T hx 1 0 _ l c (by (try simp); omega)).trans ?_)
    exact congrArg (fun n => Cv I xs n c) (by (try simp); omega)
  · refine (putS_off (off61 t t' 1 3) (by (try simp); omega)).trans ?_
    refine (putS_off (off61 t t' 0 3) (by (try simp); omega)).trans ?_
    refine (putS_off (off61 t t' 1 2) (by (try simp); omega)).trans ?_
    refine (putS_off (off61 t t' 0 2) (by (try simp); omega)).trans ?_
    refine (putS_off (off61 t t' 1 1) (by (try simp); omega)).trans ?_
    refine (putS_at (off61 t t' 0 1) l ⟨(r.val - 64 * t'.val) / 4, by omega⟩ (by (try simp); omega) (by (try simp); omega)).trans ?_
    refine (s3_entry _ _ l).trans ((cfin_entry I x t t' xs T hx 0 1 _ l c (by (try simp); omega)).trans ?_)
    exact congrArg (fun n => Cv I xs n c) (by (try simp); omega)
  · refine (putS_off (off61 t t' 1 3) (by (try simp); omega)).trans ?_
    refine (putS_off (off61 t t' 0 3) (by (try simp); omega)).trans ?_
    refine (putS_off (off61 t t' 1 2) (by (try simp); omega)).trans ?_
    refine (putS_off (off61 t t' 0 2) (by (try simp); omega)).trans ?_
    refine (putS_at (off61 t t' 1 1) l ⟨(r.val - 64 * t'.val) / 4, by omega⟩ (by (try simp); omega) (by (try simp); omega)).trans ?_
    refine (s3_entry _ _ l).trans ((cfin_entry I x t t' xs T hx 1 1 _ l c (by (try simp); omega)).trans ?_)
    exact congrArg (fun n => Cv I xs n c) (by (try simp); omega)
  · refine (putS_off (off61 t t' 1 3) (by (try simp); omega)).trans ?_
    refine (putS_off (off61 t t' 0 3) (by (try simp); omega)).trans ?_
    refine (putS_off (off61 t t' 1 2) (by (try simp); omega)).trans ?_
    refine (putS_at (off61 t t' 0 2) l ⟨(r.val - 64 * t'.val) / 4, by omega⟩ (by (try simp); omega) (by (try simp); omega)).trans ?_
    refine (s3_entry _ _ l).trans ((cfin_entry I x t t' xs T hx 0 2 _ l c (by (try simp); omega)).trans ?_)
    exact congrArg (fun n => Cv I xs n c) (by (try simp); omega)
  · refine (putS_off (off61 t t' 1 3) (by (try simp); omega)).trans ?_
    refine (putS_off (off61 t t' 0 3) (by (try simp); omega)).trans ?_
    refine (putS_at (off61 t t' 1 2) l ⟨(r.val - 64 * t'.val) / 4, by omega⟩ (by (try simp); omega) (by (try simp); omega)).trans ?_
    refine (s3_entry _ _ l).trans ((cfin_entry I x t t' xs T hx 1 2 _ l c (by (try simp); omega)).trans ?_)
    exact congrArg (fun n => Cv I xs n c) (by (try simp); omega)
  · refine (putS_off (off61 t t' 1 3) (by (try simp); omega)).trans ?_
    refine (putS_at (off61 t t' 0 3) l ⟨(r.val - 64 * t'.val) / 4, by omega⟩ (by (try simp); omega) (by (try simp); omega)).trans ?_
    refine (s3_entry _ _ l).trans ((cfin_entry I x t t' xs T hx 0 3 _ l c (by (try simp); omega)).trans ?_)
    exact congrArg (fun n => Cv I xs n c) (by (try simp); omega)
  · refine (putS_at (off61 t t' 1 3) l ⟨(r.val - 64 * t'.val) / 4, by omega⟩ (by (try simp); omega) (by (try simp); omega)).trans ?_
    refine (s3_entry _ _ l).trans ((cfin_entry I x t t' xs T hx 1 3 _ l c (by (try simp); omega)).trans ?_)
    exact congrArg (fun n => Cv I xs n c) (by (try simp); omega)

theorem conv_other (C : S8x256x128.Idx → EReal) (p : Fin 8) (r : Fin 256) (l : Fin 128)
    (hp : p.val / 2 ≠ t.val ∨ r.val < 64 * t'.val ∨ 64 * t'.val + 64 ≤ r.val) :
    (cput I x (tap I t) t t' 1 3 (cput I x (tap I t) t t' 0 3 (cput I x (tap I t) t t' 1 2 (cput I x (tap I t) t t' 0 2 (cput I x (tap I t) t t' 1 1 (cput I x (tap I t) t t' 0 1 (cput I x (tap I t) t t' 1 0 (cput I x (tap I t) t t' 0 0 C)))))))) (ix3 p r l) = C (ix3 p r l) := by
  have ht' : t'.val < 4 := t'.isLt
  unfold cput
  exact (putS_off (off61 t t' 1 3) (by (try simp); omega)).trans <| (putS_off (off61 t t' 0 3) (by (try simp); omega)).trans <| (putS_off (off61 t t' 1 2) (by (try simp); omega)).trans <| (putS_off (off61 t t' 0 2) (by (try simp); omega)).trans <| (putS_off (off61 t t' 1 1) (by (try simp); omega)).trans <| (putS_off (off61 t t' 0 1) (by (try simp); omega)).trans <| (putS_off (off61 t t' 1 0) (by (try simp); omega)).trans <| (putS_off (off61 t t' 0 0) (by (try simp); omega)).trans <| rfl

theorem pt_entry (r : Nat → Vec Ideal S1x16x128 .f32) (n : Nat) (q : Fin 16) (l : Fin 128) :
    pt r n (ix2 q l) = ∑ b : Fin (n + 1), r b.val (ix3 0 q l) := by
  induction n with
  | zero => rw [Fin.sum_univ_one]; exact sl_entry _ q l
  | succ n ih =>
    rw [Fin.sum_univ_castSucc]
    show pt r n (ix2 q l) + sl (r (n + 1)) (ix2 q l) = _
    rw [ih, sl_entry]; rfl

theorem praw0_entry (v : S8x272x128.Idx → EReal) (t : Fin k0_t11_loop.trips) (t' : Fin k0_t12_loop.trips) (ph : Fin 4) (k : Fin 2) (q : Fin 16) (l : Fin 128)
    (p : Fin 8) (n : Fin 272) (hp : p.val = 0 + t.val) (hn : n.val = 64 * t'.val + ph.val + 16 - k.val + 4 * q.val) :
    praw0 v t t' ph.val k.val (ix3 0 q l) = v (ix3 p n l) := by
  have e1 : (Fin.ofNat 4 ph.val).val = ph.val := Nat.mod_eq_of_lt ph.isLt
  have e2 : (Fin.ofNat 2 k.val).val = k.val := Nat.mod_eq_of_lt k.isLt
  have ht : t.val < 2 := t.isLt
  have ht' : t'.val < 4 := t'.isLt
  unfold praw0
  pointwise [off64]
  exact congrArg₂ (fun p n => v (ix3 p n l)) (Fin.ext (by dsimp only; omega)) (Fin.ext (by dsimp only; rw [e1, e2]; omega))

theorem pool0_block (v : S8x272x128.Idx → EReal) (t : Fin k0_t11_loop.trips) (t' : Fin k0_t12_loop.trips) (T : Nat) (M : S8x256x128.Idx → EReal) (p : Fin 8) (r : Fin 256) (l : Fin 128)
    (c : Fin 1024) (hv : ∀ n : Fin 272, v (ix3 p n l) = vp I xs (256 * T + n.val) c) (hp : p.val = 0 + t.val)
    (h1 : 64 * t'.val ≤ r.val) (h2 : r.val < 64 * t'.val + 64) :
    pput0 v t t' 3 (pput0 v t t' 2 (pput0 v t t' 1 (pput0 v t t' 0 M))) (ix3 p r l) = Tot I xs 2 (256 * T + r.val) c := by
  have ht' : t'.val < 4 := t'.isLt
  have key : ∀ (ph : Fin 4) (q : Fin 16), r.val = 64 * t'.val + ph.val + 4 * q.val →
      s3 (pt (praw0 v t t' ph.val) 1) (ix3 0 q l) = Tot I xs 2 (256 * T + r.val) c := by
    intro ph q hr
    rw [s3_entry, pt_entry]
    refine Finset.sum_congr rfl fun k _ => ?_
    have hk : k.val < 2 := k.isLt
    refine (praw0_entry v t t' ph k q l p ⟨64 * t'.val + ph.val + 16 - k.val + 4 * q.val, by omega⟩ hp rfl).trans ((hv _).trans ?_)
    exact congrArg (fun n => vp I xs n c) (by dsimp only; omega)
  unfold pput0
  have h4 : r.val % 4 = 0 ∨ r.val % 4 = 1 ∨ r.val % 4 = 2 ∨ r.val % 4 = 3 := by omega
  rcases h4 with h4 | h4 | h4 | h4
  · refine (putS_off (off65 t t' 3) (by (try simp); omega)).trans ?_
    refine (putS_off (off65 t t' 2) (by (try simp); omega)).trans ?_
    refine (putS_off (off65 t t' 1) (by (try simp); omega)).trans ?_
    refine (putS_at (off65 t t' 0) l ⟨(r.val - 64 * t'.val) / 4, by omega⟩ (by (try simp); omega) (by (try simp); omega)).trans ?_
    exact key 0 _ (by (try simp); omega)
  · refine (putS_off (off65 t t' 3) (by (try simp); omega)).trans ?_
    refine (putS_off (off65 t t' 2) (by (try simp); omega)).trans ?_
    refine (putS_at (off65 t t' 1) l ⟨(r.val - 64 * t'.val) / 4, by omega⟩ (by (try simp); omega) (by (try simp); omega)).trans ?_
    exact key 1 _ (by (try simp); omega)
  · refine (putS_off (off65 t t' 3) (by (try simp); omega)).trans ?_
    refine (putS_at (off65 t t' 2) l ⟨(r.val - 64 * t'.val) / 4, by omega⟩ (by (try simp); omega) (by (try simp); omega)).trans ?_
    exact key 2 _ (by (try simp); omega)
  · refine (putS_at (off65 t t' 3) l ⟨(r.val - 64 * t'.val) / 4, by omega⟩ (by (try simp); omega) (by (try simp); omega)).trans ?_
    exact key 3 _ (by (try simp); omega)

theorem pool0_other (v : S8x272x128.Idx → EReal) (t : Fin k0_t11_loop.trips) (t' : Fin k0_t12_loop.trips) (M : S8x256x128.Idx → EReal) (p : Fin 8) (r : Fin 256) (l : Fin 128)
    (hp : p.val ≠ 0 + t.val ∨ r.val < 64 * t'.val ∨ 64 * t'.val + 64 ≤ r.val) :
    pput0 v t t' 3 (pput0 v t t' 2 (pput0 v t t' 1 (pput0 v t t' 0 M))) (ix3 p r l) = M (ix3 p r l) := by
  unfold pput0
  exact (putS_off (off65 t t' 3) (by (try simp); omega)).trans <| (putS_off (off65 t t' 2) (by (try simp); omega)).trans <| (putS_off (off65 t t' 1) (by (try simp); omega)).trans <| (putS_off (off65 t t' 0) (by (try simp); omega)).trans <| rfl

theorem praw1_entry (v : S8x272x128.Idx → EReal) (t : Fin k0_t13_loop.trips) (t' : Fin k0_t14_loop.trips) (ph : Fin 4) (k : Fin 4) (q : Fin 16) (l : Fin 128)
    (p : Fin 8) (n : Fin 272) (hp : p.val = 2 + t.val) (hn : n.val = 64 * t'.val + ph.val + 16 - k.val + 4 * q.val) :
    praw1 v t t' ph.val k.val (ix3 0 q l) = v (ix3 p n l) := by
  have e1 : (Fin.ofNat 4 ph.val).val = ph.val := Nat.mod_eq_of_lt ph.isLt
  have e2 : (Fin.ofNat 4 k.val).val = k.val := Nat.mod_eq_of_lt k.isLt
  have ht : t.val < 2 := t.isLt
  have ht' : t'.val < 4 := t'.isLt
  unfold praw1
  pointwise [off71]
  exact congrArg₂ (fun p n => v (ix3 p n l)) (Fin.ext (by dsimp only; omega)) (Fin.ext (by dsimp only; rw [e1, e2]; omega))

theorem pool1_block (v : S8x272x128.Idx → EReal) (t : Fin k0_t13_loop.trips) (t' : Fin k0_t14_loop.trips) (T : Nat) (M : S8x256x128.Idx → EReal) (p : Fin 8) (r : Fin 256) (l : Fin 128)
    (c : Fin 1024) (hv : ∀ n : Fin 272, v (ix3 p n l) = vp I xs (256 * T + n.val) c) (hp : p.val = 2 + t.val)
    (h1 : 64 * t'.val ≤ r.val) (h2 : r.val < 64 * t'.val + 64) :
    pput1 v t t' 3 (pput1 v t t' 2 (pput1 v t t' 1 (pput1 v t t' 0 M))) (ix3 p r l) = Tot I xs 4 (256 * T + r.val) c := by
  have ht' : t'.val < 4 := t'.isLt
  have key : ∀ (ph : Fin 4) (q : Fin 16), r.val = 64 * t'.val + ph.val + 4 * q.val →
      s3 (pt (praw1 v t t' ph.val) 3) (ix3 0 q l) = Tot I xs 4 (256 * T + r.val) c := by
    intro ph q hr
    rw [s3_entry, pt_entry]
    refine Finset.sum_congr rfl fun k _ => ?_
    have hk : k.val < 4 := k.isLt
    refine (praw1_entry v t t' ph k q l p ⟨64 * t'.val + ph.val + 16 - k.val + 4 * q.val, by omega⟩ hp rfl).trans ((hv _).trans ?_)
    exact congrArg (fun n => vp I xs n c) (by dsimp only; omega)
  unfold pput1
  have h4 : r.val % 4 = 0 ∨ r.val % 4 = 1 ∨ r.val % 4 = 2 ∨ r.val % 4 = 3 := by omega
  rcases h4 with h4 | h4 | h4 | h4
  · refine (putS_off (off72 t t' 3) (by (try simp); omega)).trans ?_
    refine (putS_off (off72 t t' 2) (by (try simp); omega)).trans ?_
    refine (putS_off (off72 t t' 1) (by (try simp); omega)).trans ?_
    refine (putS_at (off72 t t' 0) l ⟨(r.val - 64 * t'.val) / 4, by omega⟩ (by (try simp); omega) (by (try simp); omega)).trans ?_
    exact key 0 _ (by (try simp); omega)
  · refine (putS_off (off72 t t' 3) (by (try simp); omega)).trans ?_
    refine (putS_off (off72 t t' 2) (by (try simp); omega)).trans ?_
    refine (putS_at (off72 t t' 1) l ⟨(r.val - 64 * t'.val) / 4, by omega⟩ (by (try simp); omega) (by (try simp); omega)).trans ?_
    exact key 1 _ (by (try simp); omega)
  · refine (putS_off (off72 t t' 3) (by (try simp); omega)).trans ?_
    refine (putS_at (off72 t t' 2) l ⟨(r.val - 64 * t'.val) / 4, by omega⟩ (by (try simp); omega) (by (try simp); omega)).trans ?_
    exact key 2 _ (by (try simp); omega)
  · refine (putS_at (off72 t t' 3) l ⟨(r.val - 64 * t'.val) / 4, by omega⟩ (by (try simp); omega) (by (try simp); omega)).trans ?_
    exact key 3 _ (by (try simp); omega)

theorem pool1_other (v : S8x272x128.Idx → EReal) (t : Fin k0_t13_loop.trips) (t' : Fin k0_t14_loop.trips) (M : S8x256x128.Idx → EReal) (p : Fin 8) (r : Fin 256) (l : Fin 128)
    (hp : p.val ≠ 2 + t.val ∨ r.val < 64 * t'.val ∨ 64 * t'.val + 64 ≤ r.val) :
    pput1 v t t' 3 (pput1 v t t' 2 (pput1 v t t' 1 (pput1 v t t' 0 M))) (ix3 p r l) = M (ix3 p r l) := by
  unfold pput1
  exact (putS_off (off72 t t' 3) (by (try simp); omega)).trans <| (putS_off (off72 t t' 2) (by (try simp); omega)).trans <| (putS_off (off72 t t' 1) (by (try simp); omega)).trans <| (putS_off (off72 t t' 0) (by (try simp); omega)).trans <| rfl

theorem praw2_entry (v : S8x272x128.Idx → EReal) (t : Fin k0_t15_loop.trips) (t' : Fin k0_t16_loop.trips) (ph : Fin 4) (k : Fin 8) (q : Fin 16) (l : Fin 128)
    (p : Fin 8) (n : Fin 272) (hp : p.val = 4 + t.val) (hn : n.val = 64 * t'.val + ph.val + 16 - k.val + 4 * q.val) :
    praw2 v t t' ph.val k.val (ix3 0 q l) = v (ix3 p n l) := by
  have e1 : (Fin.ofNat 4 ph.val).val = ph.val := Nat.mod_eq_of_lt ph.isLt
  have e2 : (Fin.ofNat 8 k.val).val = k.val := Nat.mod_eq_of_lt k.isLt
  have ht : t.val < 2 := t.isLt
  have ht' : t'.val < 4 := t'.isLt
  unfold praw2
  pointwise [off78]
  exact congrArg₂ (fun p n => v (ix3 p n l)) (Fin.ext (by dsimp only; omega)) (Fin.ext (by dsimp only; rw [e1, e2]; omega))

theorem pool2_block (v : S8x272x128.Idx → EReal) (t : Fin k0_t15_loop.trips) (t' : Fin k0_t16_loop.trips) (T : Nat) (M : S8x256x128.Idx → EReal) (p : Fin 8) (r : Fin 256) (l : Fin 128)
    (c : Fin 1024) (hv : ∀ n : Fin 272, v (ix3 p n l) = vp I xs (256 * T + n.val) c) (hp : p.val = 4 + t.val)
    (h1 : 64 * t'.val ≤ r.val) (h2 : r.val < 64 * t'.val + 64) :
    pput2 v t t' 3 (pput2 v t t' 2 (pput2 v t t' 1 (pput2 v t t' 0 M))) (ix3 p r l) = Tot I xs 8 (256 * T + r.val) c := by
  have ht' : t'.val < 4 := t'.isLt
  have key : ∀ (ph : Fin 4) (q : Fin 16), r.val = 64 * t'.val + ph.val + 4 * q.val →
      s3 (pt (praw2 v t t' ph.val) 7) (ix3 0 q l) = Tot I xs 8 (256 * T + r.val) c := by
    intro ph q hr
    rw [s3_entry, pt_entry]
    refine Finset.sum_congr rfl fun k _ => ?_
    have hk : k.val < 8 := k.isLt
    refine (praw2_entry v t t' ph k q l p ⟨64 * t'.val + ph.val + 16 - k.val + 4 * q.val, by omega⟩ hp rfl).trans ((hv _).trans ?_)
    exact congrArg (fun n => vp I xs n c) (by dsimp only; omega)
  unfold pput2
  have h4 : r.val % 4 = 0 ∨ r.val % 4 = 1 ∨ r.val % 4 = 2 ∨ r.val % 4 = 3 := by omega
  rcases h4 with h4 | h4 | h4 | h4
  · refine (putS_off (off79 t t' 3) (by (try simp); omega)).trans ?_
    refine (putS_off (off79 t t' 2) (by (try simp); omega)).trans ?_
    refine (putS_off (off79 t t' 1) (by (try simp); omega)).trans ?_
    refine (putS_at (off79 t t' 0) l ⟨(r.val - 64 * t'.val) / 4, by omega⟩ (by (try simp); omega) (by (try simp); omega)).trans ?_
    exact key 0 _ (by (try simp); omega)
  · refine (putS_off (off79 t t' 3) (by (try simp); omega)).trans ?_
    refine (putS_off (off79 t t' 2) (by (try simp); omega)).trans ?_
    refine (putS_at (off79 t t' 1) l ⟨(r.val - 64 * t'.val) / 4, by omega⟩ (by (try simp); omega) (by (try simp); omega)).trans ?_
    exact key 1 _ (by (try simp); omega)
  · refine (putS_off (off79 t t' 3) (by (try simp); omega)).trans ?_
    refine (putS_at (off79 t t' 2) l ⟨(r.val - 64 * t'.val) / 4, by omega⟩ (by (try simp); omega) (by (try simp); omega)).trans ?_
    exact key 2 _ (by (try simp); omega)
  · refine (putS_at (off79 t t' 3) l ⟨(r.val - 64 * t'.val) / 4, by omega⟩ (by (try simp); omega) (by (try simp); omega)).trans ?_
    exact key 3 _ (by (try simp); omega)

theorem pool2_other (v : S8x272x128.Idx → EReal) (t : Fin k0_t15_loop.trips) (t' : Fin k0_t16_loop.trips) (M : S8x256x128.Idx → EReal) (p : Fin 8) (r : Fin 256) (l : Fin 128)
    (hp : p.val ≠ 4 + t.val ∨ r.val < 64 * t'.val ∨ 64 * t'.val + 64 ≤ r.val) :
    pput2 v t t' 3 (pput2 v t t' 2 (pput2 v t t' 1 (pput2 v t t' 0 M))) (ix3 p r l) = M (ix3 p r l) := by
  unfold pput2
  exact (putS_off (off79 t t' 3) (by (try simp); omega)).trans <| (putS_off (off79 t t' 2) (by (try simp); omega)).trans <| (putS_off (off79 t t' 1) (by (try simp); omega)).trans <| (putS_off (off79 t t' 0) (by (try simp); omega)).trans <| rfl

theorem praw3_entry (v : S8x272x128.Idx → EReal) (t : Fin k0_t17_loop.trips) (t' : Fin k0_t18_loop.trips) (ph : Fin 4) (k : Fin 16) (q : Fin 16) (l : Fin 128)
    (p : Fin 8) (n : Fin 272) (hp : p.val = 6 + t.val) (hn : n.val = 64 * t'.val + ph.val + 16 - k.val + 4 * q.val) :
    praw3 v t t' ph.val k.val (ix3 0 q l) = v (ix3 p n l) := by
  have e1 : (Fin.ofNat 4 ph.val).val = ph.val := Nat.mod_eq_of_lt ph.isLt
  have e2 : (Fin.ofNat 16 k.val).val = k.val := Nat.mod_eq_of_lt k.isLt
  have ht : t.val < 2 := t.isLt
  have ht' : t'.val < 4 := t'.isLt
  unfold praw3
  pointwise [off85]
  exact congrArg₂ (fun p n => v (ix3 p n l)) (Fin.ext (by dsimp only; omega)) (Fin.ext (by dsimp only; rw [e1, e2]; omega))

theorem pool3_block (v : S8x272x128.Idx → EReal) (t : Fin k0_t17_loop.trips) (t' : Fin k0_t18_loop.trips) (T : Nat) (M : S8x256x128.Idx → EReal) (p : Fin 8) (r : Fin 256) (l : Fin 128)
    (c : Fin 1024) (hv : ∀ n : Fin 272, v (ix3 p n l) = vp I xs (256 * T + n.val) c) (hp : p.val = 6 + t.val)
    (h1 : 64 * t'.val ≤ r.val) (h2 : r.val < 64 * t'.val + 64) :
    pput3 v t t' 3 (pput3 v t t' 2 (pput3 v t t' 1 (pput3 v t t' 0 M))) (ix3 p r l) = Tot I xs 16 (256 * T + r.val) c := by
  have ht' : t'.val < 4 := t'.isLt
  have key : ∀ (ph : Fin 4) (q : Fin 16), r.val = 64 * t'.val + ph.val + 4 * q.val →
      s3 (pt (praw3 v t t' ph.val) 15) (ix3 0 q l) = Tot I xs 16 (256 * T + r.val) c := by
    intro ph q hr
    rw [s3_entry, pt_entry]
    refine Finset.sum_congr rfl fun k _ => ?_
    have hk : k.val < 16 := k.isLt
    refine (praw3_entry v t t' ph k q l p ⟨64 * t'.val + ph.val + 16 - k.val + 4 * q.val, by omega⟩ hp rfl).trans ((hv _).trans ?_)
    exact congrArg (fun n => vp I xs n c) (by dsimp only; omega)
  unfold pput3
  have h4 : r.val % 4 = 0 ∨ r.val % 4 = 1 ∨ r.val % 4 = 2 ∨ r.val % 4 = 3 := by omega
  rcases h4 with h4 | h4 | h4 | h4
  · refine (putS_off (off86 t t' 3) (by (try simp); omega)).trans ?_
    refine (putS_off (off86 t t' 2) (by (try simp); omega)).trans ?_
    refine (putS_off (off86 t t' 1) (by (try simp); omega)).trans ?_
    refine (putS_at (off86 t t' 0) l ⟨(r.val - 64 * t'.val) / 4, by omega⟩ (by (try simp); omega) (by (try simp); omega)).trans ?_
    exact key 0 _ (by (try simp); omega)
  · refine (putS_off (off86 t t' 3) (by (try simp); omega)).trans ?_
    refine (putS_off (off86 t t' 2) (by (try simp); omega)).trans ?_
    refine (putS_at (off86 t t' 1) l ⟨(r.val - 64 * t'.val) / 4, by omega⟩ (by (try simp); omega) (by (try simp); omega)).trans ?_
    exact key 1 _ (by (try simp); omega)
  · refine (putS_off (off86 t t' 3) (by (try simp); omega)).trans ?_
    refine (putS_at (off86 t t' 2) l ⟨(r.val - 64 * t'.val) / 4, by omega⟩ (by (try simp); omega) (by (try simp); omega)).trans ?_
    exact key 2 _ (by (try simp); omega)
  · refine (putS_at (off86 t t' 3) l ⟨(r.val - 64 * t'.val) / 4, by omega⟩ (by (try simp); omega) (by (try simp); omega)).trans ?_
    exact key 3 _ (by (try simp); omega)

theorem pool3_other (v : S8x272x128.Idx → EReal) (t : Fin k0_t17_loop.trips) (t' : Fin k0_t18_loop.trips) (M : S8x256x128.Idx → EReal) (p : Fin 8) (r : Fin 256) (l : Fin 128)
    (hp : p.val ≠ 6 + t.val ∨ r.val < 64 * t'.val ∨ 64 * t'.val + 64 ≤ r.val) :
    pput3 v t t' 3 (pput3 v t t' 2 (pput3 v t t' 1 (pput3 v t t' 0 M))) (ix3 p r l) = M (ix3 p r l) := by
  unfold pput3
  exact (putS_off (off86 t t' 3) (by (try simp); omega)).trans <| (putS_off (off86 t t' 2) (by (try simp); omega)).trans <| (putS_off (off86 t t' 1) (by (try simp); omega)).trans <| (putS_off (off86 t t' 0) (by (try simp); omega)).trans <| rfl

end Cert.KernelIdeal.Val

end
-- ==== Proof.VD.lean ====
/-
  The second half of the kernel body: convolution, pooling, and the two branches' projections.
-/
module

public import proofs.«01_k».proof.Proof.VC3
public import proofs.«01_k».proof.Proof.VC4
public import proofs.«01_k».proof.Proof.VC5
public import proofs.«01_k».proof.Proof.VE

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

variable (A : Args) (I : In Ideal) (d : Dev nD) (xs : Nat → Row)
local notation "V" => Ev A I d

theorem inv_eq (g : Fin 4) (T : Nat) (hT : T < 8) (r : Nat) (hr : r < 256) :
    Ideal.div 1 (FloatOps.sitofp (F := Ideal) FTy.f32 (IntOp.minsi (IntOp.addi (Scalar.addi (Scalar.muli (BitVec.ofNat 32 T) 256#32) 1#32) (BitVec.ofNat 32 r))
      (BitVec.ofNat 32 (2 ^ (g.val + 1))))) = Spec.inv (2 ^ (g.val + 1)) (256 * T + r) := by
  have e : IntOp.addi (Scalar.addi (Scalar.muli (BitVec.ofNat 32 T) 256#32) 1#32) (BitVec.ofNat 32 r) = BitVec.ofNat 32 (256 * T + r + 1) := by
    show BitVec.ofNat 32 T * 256#32 + 1#32 + BitVec.ofNat 32 r = _
    apply BitVec.eq_of_toNat_eq
    simp only [BitVec.toNat_add, BitVec.toNat_mul, BitVec.toNat_ofNat]
    omega
  have n : ∀ k : Nat, k < 4096 → (BitVec.ofNat 32 k).toInt = (k : Int) := by
    intro k hk
    rw [BitVec.toInt_eq_toNat_of_lt] <;> simp only [BitVec.toNat_ofNat] <;> omega
  have hw : 2 ^ (g.val + 1) < 4096 := by
    have := g.isLt
    calc 2 ^ (g.val + 1) ≤ 2 ^ 4 := Nat.pow_le_pow_right (by omega) (by omega)
      _ < 4096 := by decide
  have m : (IntOp.minsi (BitVec.ofNat 32 (256 * T + r + 1)) (BitVec.ofNat 32 (2 ^ (g.val + 1)))).toInt = ((min (256 * T + r + 1) (2 ^ (g.val + 1)) : Nat) : Int) := by
    unfold IntOp.minsi
    generalize 2 ^ (g.val + 1) = w at hw
    simp only [BitVec.slt, BitVec.sle, n (256 * T + r + 1) (by omega), n w hw, decide_eq_true_eq]
    split <;> rw [n _ (by omega)] <;> omega
  rw [e]
  unfold Spec.inv
  show Ideal.div 1 ((((IntOp.minsi (BitVec.ofNat 32 (256 * T + r + 1)) (BitVec.ofNat 32 (2 ^ (g.val + 1)))).toInt : ℝ)) : EReal) = _
  rw [m]
  rfl

theorem pin_eq (T : Nat) (g : Nat) (c : Fin 1024) (a b e : EReal) (s : Nat) (hg : c.val / 256 = g) (ha : a = Tot I xs (2 ^ (g + 1)) s c)
    (hb : b = inv (2 ^ (g + 1)) s) (he : e = vp I xs (s + 16) c) : a * b - e = Pin I xs s c := by
  subst hg ha hb he; rfl

set_option maxHeartbeats 4000000 in
theorem part83 (i : grid0.Coords) (c0 c1 : BitVec 32) (t : Fin k0_t19_loop.trips) (T : Nat) (s : St Ideal)
    (hC : ∀ (p : Fin 8) (r : Fin 256) (l : Fin 128) (c : Fin 1024), c.val = 128 * p.val + l.val → s.c (ix3 p r l) = Cv I xs (256 * T + r.val) c) :
    Tr V (k0_part83 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 c0 c1 t) s (fun a s' => s' = s
      ∧ (∀ r c, a.2.1 (ix2 r c) = Cv I xs (256 * T + (32 * t.val + r.val)) c - mean (Cv I xs (256 * T + (32 * t.val + r.val))))
      ∧ ∀ r, a.2.2 (ix2 r 0) = mean (fun k => (Cv I xs (256 * T + (32 * t.val + r.val)) k - mean (Cv I xs (256 * T + (32 * t.val + r.val))))
        * (Cv I xs (256 * T + (32 * t.val + r.val)) k - mean (Cv I xs (256 * T + (32 * t.val + r.val)))))) := by
  have ht : t.val < 8 := t.isLt
  unfold k0_part83
  repeat' first | (with_reducible refine Tr.load ?_) | (with_reducible refine Tr.store ?_) | extract_lets
  rename_i w50 w51 k0 w52 w53 k1 w54 w55 w56 w57 w58 w59 w60 w62
  have key : ∀ r c, w51 (ix2 r c) = Cv I xs (256 * T + (32 * t.val + r.val)) c := by
    intro r c
    unfold w51 w50
    pointwise [off92, off93, off94, off95, off96, off97, off98, off99]
    split_ifs <;> exact hC _ _ _ _ (by simp; try omega)
  clear_value w51
  refine Tr.ret ⟨rfl, fun r c => ?_, fun r => ?_⟩
  · dsimp +zetaDelta only
    pointwise []
    simp only [key]
    rfl
  · dsimp +zetaDelta only
    pointwise []
    simp only [key]
    rfl

set_option maxHeartbeats 100000000 in
theorem part85 (i : grid0.Coords) (T : Nat) (hT : T < 8) (arg1 : BitVec 32) (ha : arg1 = BitVec.ofNat 32 T) (c0 c1 : BitVec 32) (s : St Ideal) (h2 : ∀ r c, s.z (ix3 2 r c) = Z I (xs (256 * T + r.val)) 2 c) (h4 : ∀ r c, s.z (ix3 4 r c) = Z I (xs (256 * T + r.val)) 4 c)
    (hU : ∀ t m l, FUat I xs T s t m l) (hV : ∀ t m l, FVat I xs T s t m l) :
    Tr V (k0_part85 (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 arg1 c0 c1) s (fun _ s' => s'.z = s.z ∧ (∀ r c, s'.y (ix3 0 r c) = YA I xs (256 * T + r.val) c) ∧ (∀ r c, s'.y (ix3 1 r c) = YB I xs (256 * T + r.val) c)
      ∧ (∀ t m l, m.val < 64 → FUat I xs (T + 1) s' t m l) ∧ ∀ t m l, m.val < 16 → FVat I xs (T + 1) s' t m l) := by
  subst ha
  unfold k0_part85
  refine Tr.for (fun n _ s' => ∃ C X, s' = { s with c := C, u := X } ∧ (∀ (p : Fin 8) (r : Fin 256) (l : Fin 128) (c : Fin 1024), c.val = 128 * p.val + l.val → p.val < 2 * n → C (ix3 p r l) = Cv I xs (256 * T + r.val) c)
      ∧ (∀ t m l, t.val < n → m.val < 64 → FUat I xs (T + 1) { s with u := X } t m l) ∧ ∀ t m l, n ≤ t.val → FUat I xs T { s with u := X } t m l)
    ⟨s.c, s.u, rfl, fun p r l c hc h => by omega, fun t m l h => by omega, fun t m l _ => hU t m l⟩ ?_ ?_
  · rintro t - s' ⟨C, X, rfl, hC, hN, hX⟩
    have ht : t.val < 4 := t.isLt
    have hx : ∀ (n : Fin 576) (l : Fin 128) (c : Fin 1024), c.val = 256 * t.val + 128 * (n.val % 2) + l.val → X (ix3 t n l) = up I xs (256 * T + n.val / 2) c :=
      fun n l c hc => (hX t n l le_rfl).trans (congrArg (up I xs _) (Fin.ext hc.symm))
    repeat' first | (with_reducible refine Tr.load ?_) | (with_reducible refine Tr.loadR ?_) | (with_reducible refine Tr.store ?_) | extract_lets
    refine Tr.bind _ (part43 A I d i _ _ _ _) ?_
    rintro _ _ ⟨rfl, b0, b3, rfl⟩
    refine Tr.bind _ (part44 A I d i _ _ _ _) ?_
    rintro _ _ ⟨rfl, b2, b3, rfl⟩
    refine Tr.bind _ (part45 A I d i _ _ _ _ _) ?_
    rintro _ _ ⟨rfl, b2, b3, rfl⟩
    refine Tr.bind _ (part46 A I d i _ _ _ _ _) ?_
    rintro _ _ ⟨rfl, b2, rfl⟩
    refine Tr.bind _ (part47 A I d i _ _ _ _) ?_
    rintro _ _ ⟨rfl, rfl⟩
    refine Tr.bind _ (part48 A I d i _ _ _) ?_
    rintro _ _ ⟨rfl, rfl⟩
    refine Tr.bind _ (part49 A I d i _ _ _) ?_
    rintro _ _ ⟨rfl, rfl⟩
    refine Tr.bind _ (part50 A I d i _ _ _) ?_
    rintro _ _ ⟨rfl, b3, rfl⟩
    refine Tr.bind _ (part51 A I d i _ _ _ _) ?_
    rintro _ _ ⟨rfl, b3, rfl⟩
    refine Tr.bind _ (part52 A I d i _ _ _ _) ?_
    rintro _ _ ⟨rfl, b3, rfl⟩
    refine Tr.bind _ (part53 A I d i _ _ _ _) ?_
    rintro _ _ ⟨rfl, b3, rfl⟩
    refine Tr.bind _ (part54 A I d i _ _ _ _) ?_
    rintro _ _ ⟨rfl, rfl⟩
    refine Tr.bind _ (part55 A I d i _ _ _) ?_
    rintro _ _ ⟨rfl, rfl⟩
    refine Tr.bind _ (part56 A I d i _ _ _) ?_
    rintro _ _ ⟨rfl, rfl⟩
    refine Tr.bind _ (part57 A I d i _ _ _) ?_
    rintro _ _ ⟨rfl, rfl⟩
    refine Tr.for (fun n _ s' => ∃ C', s' = { s with c := C', u := X } ∧ (∀ (p : Fin 8) (r : Fin 256) (l : Fin 128) (c : Fin 1024), c.val = 128 * p.val + l.val → p.val / 2 = t.val → r.val < 64 * n → C' (ix3 p r l) = Cv I xs (256 * T + r.val) c)
        ∧ ∀ (p : Fin 8) (r : Fin 256) (l : Fin 128), p.val / 2 ≠ t.val → C' (ix3 p r l) = C (ix3 p r l)) ⟨C, rfl, fun p r l c hc hp h => by omega, fun _ _ _ _ => rfl⟩ ?_ ?_
    · rintro t' - s' ⟨C', rfl, hC', hO⟩
      have ht' : t'.val < 4 := t'.isLt
      refine Tr.bind _ (part42 A I d i _ _ _ _ _ _ X (tap I t) rfl) ?_
      rintro ⟨b0, b1, b2⟩ s' ⟨rfl, h1⟩
      dsimp only at h1
      subst h1
      repeat' first | (with_reducible refine Tr.load ?_) | (with_reducible refine Tr.loadR ?_) | (with_reducible refine Tr.store ?_) | extract_lets
      refine Tr.ret ⟨_, rfl, fun p r l c hc hp hr => ?_, fun p r l hp => ?_⟩
      · by_cases h : 64 * t'.val ≤ r.val
        · exact conv_block I X t t' xs T hx C' p r l c hc hp h (by omega)
        · exact (conv_other I X t t' C' p r l (.inr (.inl (by omega)))).trans (hC' p r l c hc hp (by omega))
      · exact (conv_other I X t t' C' p r l (.inl hp)).trans (hO p r l hp)
    rintro - s' ⟨C', rfl, hC', hO⟩
    repeat' first | (with_reducible refine Tr.load ?_) | (with_reducible refine Tr.loadR ?_) | (with_reducible refine Tr.store ?_) | extract_lets
    refine Tr.ret ⟨_, _, rfl, fun p r l c hc hp => ?_, fun p m l hp hm => ?_, fun p m l hp => ?_⟩
    · by_cases h : p.val / 2 = t.val
      · exact hC' p r l c hc h r.isLt
      · exact (hO p r l h).trans (hC p r l c hc (by omega))
    · by_cases h : p.val = t.val
      · refine (put_at_unit (off63 _) (ix3 0 ⟨m.val, hm⟩ l) (fun a => ?_)).trans ?_
        · fin_cases a <;> simp <;> omega
        try dsimp +zetaDelta only
        pointwise [off62]
        refine Eq.trans (b := X (ix3 t ⟨512 + m.val, by omega⟩ l)) ?_ ((hX t ⟨512 + m.val, by omega⟩ l le_rfl).trans ?_)
        · split <;> exact congrArg (fun n => X (ix3 t n l)) (Fin.ext (by dsimp only; omega))
        · exact congrArg₂ (up I xs) (by dsimp only; omega) (Fin.ext (by dsimp only; omega))
      · exact (put_off_unit (off63 _) 0 1 rfl (by simp; omega)).trans (hN p m l (by omega) hm)
    · exact (put_off_unit (off63 _) 0 1 rfl (by simp; omega)).trans (hX p m l (by omega))
  rintro - s' ⟨C, Xu, rfl, hC, hN, -⟩
  replace hC : ∀ (p : Fin 8) (r : Fin 256) (l : Fin 128) (c : Fin 1024), c.val = 128 * p.val + l.val → C (ix3 p r l) = Cv I xs (256 * T + r.val) c := fun p r l c hc => hC p r l c hc (by have := p.isLt; show _ < 2 * 4; omega)
  replace hN : ∀ t m l, m.val < 64 → FUat I xs (T + 1) { s with u := Xu } t m l := fun t m l hm => hN t m l t.isLt hm
  refine Tr.for (fun n _ s' => ∃ M Q X, s' = { s with c := C, u := Xu, m := M, q := Q, v := X } ∧ (∀ r c, c.val < 128 * n → Q (ix2 r c) = Pin I xs (256 * T + r.val) c)
      ∧ (∀ p m l, p.val < n → m.val < 16 → FVat I xs (T + 1) { s with v := X } p m l) ∧ ∀ p m l, n ≤ p.val → FVat I xs T { s with v := X } p m l)
    ⟨s.m, s.q, s.v, rfl, fun r c h => by omega, fun p m l h => by omega, fun p m l _ => hV p m l⟩ ?_ ?_
  · rintro t - s' ⟨M, Q, X, rfl, hQ, hW, hV⟩
    have ht : t.val < 2 := t.isLt
    repeat' first | (with_reducible refine Tr.load ?_) | (with_reducible refine Tr.loadR ?_) | (with_reducible refine Tr.store ?_) | extract_lets
    refine Tr.for (fun n _ s' => ∃ M, s' = { s with c := C, u := Xu, m := M, q := Q, v := X } ∧ ∀ (r : Fin 256) (l : Fin 128) (c : Fin 1024), c.val = 128 * (t.val) + l.val → r.val < 64 * n → M (ix3 ⟨t.val, by omega⟩ r l) = Tot I xs 2 (256 * T + r.val) c)
      ⟨M, rfl, fun r l c hc h => by omega⟩ ?_ ?_
    · rintro t' - s' ⟨M', rfl, hM⟩
      have ht' : t'.val < 4 := t'.isLt
      refine Tr.bind _ (part58 A I d i _ _ _ _ _ _ X rfl) ?_
      rintro _ _ ⟨rfl, b0, b2, rfl⟩
      refine Tr.bind _ (part59 A I d i _ _ _ _ _ _ X rfl) ?_
      rintro _ _ ⟨rfl, rfl⟩
      repeat' first | (with_reducible refine Tr.load ?_) | (with_reducible refine Tr.loadR ?_) | (with_reducible refine Tr.store ?_) | extract_lets
      refine Tr.ret ⟨_, rfl, fun r l c hc hr => ?_⟩
      by_cases h : 64 * t'.val ≤ r.val
      · exact pool0_block I xs X t t' T M' _ r l c (fun n => (hV _ n l le_rfl).trans (congrArg (vp I xs _) (Fin.ext hc.symm))) (by first | rfl | (dsimp only; omega)) h (by omega)
      · exact (pool0_other X t t' M' _ r l (.inr (.inl (by omega)))).trans (hM r l c hc (by omega))
    rintro - s' ⟨M', rfl, hM⟩
    repeat' first | (with_reducible refine Tr.load ?_) | (with_reducible refine Tr.loadR ?_) | (with_reducible refine Tr.store ?_) | extract_lets
    refine Tr.ret ⟨_, _, _, rfl, fun r c hc => ?_, fun p m l hp hm => ?_, fun p m l hp => ?_⟩
    · by_cases h : 128 * t.val ≤ c.val
      · refine (put_at_unit (off68 _) (ix2 r ⟨c.val - (128 * t.val), by omega⟩) (fun a => ?_)).trans ?_
        · fin_cases a <;> simp <;> omega
        try dsimp +zetaDelta only
        pointwise [off66, off67]
        refine pin_eq I xs T 0 c _ _ _ _ (by omega) (hM r _ c (by (try dsimp only); omega) r.isLt) ?_ ?_
        · exact inv_eq 0 T hT r.val r.isLt
        · exact (hV ⟨t.val, by omega⟩ ⟨16 + r.val, by omega⟩ _ le_rfl).trans (congrArg₂ (vp I xs) (by (try dsimp only); omega) (Fin.ext (by (try dsimp only); omega)))
      · exact (put_off_unit (off68 _) 1 128 rfl (by simp; omega)).trans (hQ r c (by omega))
    · by_cases h : p.val = t.val
      · refine (put_at_unit (off70 _) (ix3 0 ⟨m.val, hm⟩ l) (fun a => ?_)).trans ?_
        · fin_cases a <;> simp <;> omega
        try dsimp +zetaDelta only
        pointwise [off69]
        refine (hV ⟨t.val, by omega⟩ ⟨256 + m.val, by omega⟩ l le_rfl).trans ?_
        exact congrArg₂ (vp I xs) (by (try dsimp only); omega) (Fin.ext (by (try dsimp only); omega))
      · exact (put_off_unit (off70 _) 0 1 rfl (by simp; omega)).trans (hW p m l (by omega) hm)
    · exact (put_off_unit (off70 _) 0 1 rfl (by simp; omega)).trans (hV p m l (by omega))
  rintro - s' ⟨M, Q, X, rfl, hQ, hW, hV⟩
  replace hQ : ∀ r c, c.val < 256 → Q (ix2 r c) = Pin I xs (256 * T + r.val) c := fun r c h => hQ r c h
  replace hW : ∀ p m l, p.val < 2 → m.val < 16 → FVat I xs (T + 1) { s with v := X } p m l := fun p m l h hm => hW p m l h hm
  replace hV : ∀ p m l, 2 ≤ p.val → FVat I xs T { s with v := X } p m l := fun p m l h => hV p m l h
  refine Tr.for (fun n _ s' => ∃ M Q X, s' = { s with c := C, u := Xu, m := M, q := Q, v := X } ∧ (∀ r c, c.val < 256 + 128 * n → Q (ix2 r c) = Pin I xs (256 * T + r.val) c)
      ∧ (∀ p m l, p.val < 2 + n → m.val < 16 → FVat I xs (T + 1) { s with v := X } p m l) ∧ ∀ p m l, 2 + n ≤ p.val → FVat I xs T { s with v := X } p m l)
    ⟨_, _, _, rfl, fun r c h => hQ r c h, fun p m l h hm => hW p m l h hm, fun p m l h => hV p m l h⟩ ?_ ?_
  · rintro t - s' ⟨M, Q, X, rfl, hQ, hW, hV⟩
    have ht : t.val < 2 := t.isLt
    repeat' first | (with_reducible refine Tr.load ?_) | (with_reducible refine Tr.loadR ?_) | (with_reducible refine Tr.store ?_) | extract_lets
    refine Tr.for (fun n _ s' => ∃ M, s' = { s with c := C, u := Xu, m := M, q := Q, v := X } ∧ ∀ (r : Fin 256) (l : Fin 128) (c : Fin 1024), c.val = 128 * (2 + t.val) + l.val → r.val < 64 * n → M (ix3 ⟨2 + t.val, by omega⟩ r l) = Tot I xs 4 (256 * T + r.val) c)
      ⟨M, rfl, fun r l c hc h => by omega⟩ ?_ ?_
    · rintro t' - s' ⟨M', rfl, hM⟩
      have ht' : t'.val < 4 := t'.isLt
      refine Tr.bind _ (part60 A I d i _ _ _ _ _ _ X rfl) ?_
      rintro _ _ ⟨rfl, b0, rfl⟩
      refine Tr.bind _ (part61 A I d i _ _ _ _ _ X rfl) ?_
      rintro _ _ ⟨rfl, b0, rfl⟩
      refine Tr.bind _ (part62 A I d i _ _ _ _ _ _ X rfl) ?_
      rintro _ _ ⟨rfl, -⟩
      repeat' first | (with_reducible refine Tr.load ?_) | (with_reducible refine Tr.loadR ?_) | (with_reducible refine Tr.store ?_) | extract_lets
      refine Tr.ret ⟨_, rfl, fun r l c hc hr => ?_⟩
      by_cases h : 64 * t'.val ≤ r.val
      · exact pool1_block I xs X t t' T M' _ r l c (fun n => (hV _ n l le_rfl).trans (congrArg (vp I xs _) (Fin.ext hc.symm))) (by first | rfl | (dsimp only; omega)) h (by omega)
      · exact (pool1_other X t t' M' _ r l (.inr (.inl (by omega)))).trans (hM r l c hc (by omega))
    rintro - s' ⟨M', rfl, hM⟩
    repeat' first | (with_reducible refine Tr.load ?_) | (with_reducible refine Tr.loadR ?_) | (with_reducible refine Tr.store ?_) | extract_lets
    refine Tr.ret ⟨_, _, _, rfl, fun r c hc => ?_, fun p m l hp hm => ?_, fun p m l hp => ?_⟩
    · by_cases h : 256 + 128 * t.val ≤ c.val
      · refine (put_at_unit (off75 _) (ix2 r ⟨c.val - (256 + 128 * t.val), by omega⟩) (fun a => ?_)).trans ?_
        · fin_cases a <;> simp <;> omega
        try dsimp +zetaDelta only
        pointwise [off73, off74]
        refine pin_eq I xs T 1 c _ _ _ _ (by omega) (hM r _ c (by (try dsimp only); omega) r.isLt) ?_ ?_
        · exact inv_eq 1 T hT r.val r.isLt
        · exact (hV ⟨2 + t.val, by omega⟩ ⟨16 + r.val, by omega⟩ _ le_rfl).trans (congrArg₂ (vp I xs) (by (try dsimp only); omega) (Fin.ext (by (try dsimp only); omega)))
      · exact (put_off_unit (off75 _) 1 128 rfl (by simp; omega)).trans (hQ r c (by omega))
    · by_cases h : p.val = 2 + t.val
      · refine (put_at_unit (off77 _) (ix3 0 ⟨m.val, hm⟩ l) (fun a => ?_)).trans ?_
        · fin_cases a <;> simp <;> omega
        try dsimp +zetaDelta only
        pointwise [off76]
        refine (hV ⟨2 + t.val, by omega⟩ ⟨256 + m.val, by omega⟩ l le_rfl).trans ?_
        exact congrArg₂ (vp I xs) (by (try dsimp only); omega) (Fin.ext (by (try dsimp only); omega))
      · exact (put_off_unit (off77 _) 0 1 rfl (by simp; omega)).trans (hW p m l (by omega) hm)
    · exact (put_off_unit (off77 _) 0 1 rfl (by simp; omega)).trans (hV p m l (by omega))
  rintro - s' ⟨M, Q, X, rfl, hQ, hW, hV⟩
  replace hQ : ∀ r c, c.val < 512 → Q (ix2 r c) = Pin I xs (256 * T + r.val) c := fun r c h => hQ r c h
  replace hW : ∀ p m l, p.val < 4 → m.val < 16 → FVat I xs (T + 1) { s with v := X } p m l := fun p m l h hm => hW p m l h hm
  replace hV : ∀ p m l, 4 ≤ p.val → FVat I xs T { s with v := X } p m l := fun p m l h => hV p m l h
  refine Tr.for (fun n _ s' => ∃ M Q X, s' = { s with c := C, u := Xu, m := M, q := Q, v := X } ∧ (∀ r c, c.val < 512 + 128 * n → Q (ix2 r c) = Pin I xs (256 * T + r.val) c)
      ∧ (∀ p m l, p.val < 4 + n → m.val < 16 → FVat I xs (T + 1) { s with v := X } p m l) ∧ ∀ p m l, 4 + n ≤ p.val → FVat I xs T { s with v := X } p m l)
    ⟨_, _, _, rfl, fun r c h => hQ r c h, fun p m l h hm => hW p m l h hm, fun p m l h => hV p m l h⟩ ?_ ?_
  · rintro t - s' ⟨M, Q, X, rfl, hQ, hW, hV⟩
    have ht : t.val < 2 := t.isLt
    repeat' first | (with_reducible refine Tr.load ?_) | (with_reducible refine Tr.loadR ?_) | (with_reducible refine Tr.store ?_) | extract_lets
    refine Tr.for (fun n _ s' => ∃ M, s' = { s with c := C, u := Xu, m := M, q := Q, v := X } ∧ ∀ (r : Fin 256) (l : Fin 128) (c : Fin 1024), c.val = 128 * (4 + t.val) + l.val → r.val < 64 * n → M (ix3 ⟨4 + t.val, by omega⟩ r l) = Tot I xs 8 (256 * T + r.val) c)
      ⟨M, rfl, fun r l c hc h => by omega⟩ ?_ ?_
    · rintro t' - s' ⟨M', rfl, hM⟩
      have ht' : t'.val < 4 := t'.isLt
      refine Tr.bind _ (part63 A I d i _ _ _ _ _ _ X rfl) ?_
      rintro _ _ ⟨rfl, b0, rfl⟩
      refine Tr.bind _ (part64 A I d i _ _ _ _ _ X rfl) ?_
      rintro _ _ ⟨rfl, b1, rfl⟩
      refine Tr.bind _ (part65 A I d i _ _ _ _ _ _ X rfl) ?_
      rintro _ _ ⟨rfl, b1, rfl⟩
      refine Tr.bind _ (part66 A I d i _ _ _ _ _ _ X rfl) ?_
      rintro _ _ ⟨rfl, b1, b2, rfl⟩
      refine Tr.bind _ (part67 A I d i _ _ _ _ _ _ _ X rfl) ?_
      rintro _ _ ⟨rfl, b1, b2, rfl⟩
      refine Tr.bind _ (part68 A I d i _ _ _ _ _ _ _ X rfl) ?_
      rintro _ _ ⟨rfl, rfl⟩
      refine Tr.bind _ (part69 A I d i _ _ _ _ _ X rfl) ?_
      rintro _ _ ⟨rfl, -⟩
      repeat' first | (with_reducible refine Tr.load ?_) | (with_reducible refine Tr.loadR ?_) | (with_reducible refine Tr.store ?_) | extract_lets
      refine Tr.ret ⟨_, rfl, fun r l c hc hr => ?_⟩
      by_cases h : 64 * t'.val ≤ r.val
      · exact pool2_block I xs X t t' T M' _ r l c (fun n => (hV _ n l le_rfl).trans (congrArg (vp I xs _) (Fin.ext hc.symm))) (by first | rfl | (dsimp only; omega)) h (by omega)
      · exact (pool2_other X t t' M' _ r l (.inr (.inl (by omega)))).trans (hM r l c hc (by omega))
    rintro - s' ⟨M', rfl, hM⟩
    repeat' first | (with_reducible refine Tr.load ?_) | (with_reducible refine Tr.loadR ?_) | (with_reducible refine Tr.store ?_) | extract_lets
    refine Tr.ret ⟨_, _, _, rfl, fun r c hc => ?_, fun p m l hp hm => ?_, fun p m l hp => ?_⟩
    · by_cases h : 512 + 128 * t.val ≤ c.val
      · refine (put_at_unit (off82 _) (ix2 r ⟨c.val - (512 + 128 * t.val), by omega⟩) (fun a => ?_)).trans ?_
        · fin_cases a <;> simp <;> omega
        try dsimp +zetaDelta only
        pointwise [off80, off81]
        refine pin_eq I xs T 2 c _ _ _ _ (by omega) (hM r _ c (by (try dsimp only); omega) r.isLt) ?_ ?_
        · exact inv_eq 2 T hT r.val r.isLt
        · exact (hV ⟨4 + t.val, by omega⟩ ⟨16 + r.val, by omega⟩ _ le_rfl).trans (congrArg₂ (vp I xs) (by (try dsimp only); omega) (Fin.ext (by (try dsimp only); omega)))
      · exact (put_off_unit (off82 _) 1 128 rfl (by simp; omega)).trans (hQ r c (by omega))
    · by_cases h : p.val = 4 + t.val
      · refine (put_at_unit (off84 _) (ix3 0 ⟨m.val, hm⟩ l) (fun a => ?_)).trans ?_
        · fin_cases a <;> simp <;> omega
        try dsimp +zetaDelta only
        pointwise [off83]
        refine (hV ⟨4 + t.val, by omega⟩ ⟨256 + m.val, by omega⟩ l le_rfl).trans ?_
        exact congrArg₂ (vp I xs) (by (try dsimp only); omega) (Fin.ext (by (try dsimp only); omega))
      · exact (put_off_unit (off84 _) 0 1 rfl (by simp; omega)).trans (hW p m l (by omega) hm)
    · exact (put_off_unit (off84 _) 0 1 rfl (by simp; omega)).trans (hV p m l (by omega))
  rintro - s' ⟨M, Q, X, rfl, hQ, hW, hV⟩
  replace hQ : ∀ r c, c.val < 768 → Q (ix2 r c) = Pin I xs (256 * T + r.val) c := fun r c h => hQ r c h
  replace hW : ∀ p m l, p.val < 6 → m.val < 16 → FVat I xs (T + 1) { s with v := X } p m l := fun p m l h hm => hW p m l h hm
  replace hV : ∀ p m l, 6 ≤ p.val → FVat I xs T { s with v := X } p m l := fun p m l h => hV p m l h
  refine Tr.for (fun n _ s' => ∃ M Q X, s' = { s with c := C, u := Xu, m := M, q := Q, v := X } ∧ (∀ r c, c.val < 768 + 128 * n → Q (ix2 r c) = Pin I xs (256 * T + r.val) c)
      ∧ (∀ p m l, p.val < 6 + n → m.val < 16 → FVat I xs (T + 1) { s with v := X } p m l) ∧ ∀ p m l, 6 + n ≤ p.val → FVat I xs T { s with v := X } p m l)
    ⟨_, _, _, rfl, fun r c h => hQ r c h, fun p m l h hm => hW p m l h hm, fun p m l h => hV p m l h⟩ ?_ ?_
  · rintro t - s' ⟨M, Q, X, rfl, hQ, hW, hV⟩
    have ht : t.val < 2 := t.isLt
    repeat' first | (with_reducible refine Tr.load ?_) | (with_reducible refine Tr.loadR ?_) | (with_reducible refine Tr.store ?_) | extract_lets
    refine Tr.for (fun n _ s' => ∃ M, s' = { s with c := C, u := Xu, m := M, q := Q, v := X } ∧ ∀ (r : Fin 256) (l : Fin 128) (c : Fin 1024), c.val = 128 * (6 + t.val) + l.val → r.val < 64 * n → M (ix3 ⟨6 + t.val, by omega⟩ r l) = Tot I xs 16 (256 * T + r.val) c)
      ⟨M, rfl, fun r l c hc h => by omega⟩ ?_ ?_
    · rintro t' - s' ⟨M', rfl, hM⟩
      have ht' : t'.val < 4 := t'.isLt
      refine Tr.bind _ (part70 A I d i _ _ _ _ _ _ X rfl) ?_
      rintro _ _ ⟨rfl, b0, rfl⟩
      refine Tr.bind _ (part71 A I d i _ _ _ _ _ X rfl) ?_
      rintro _ _ ⟨rfl, rfl⟩
      refine Tr.bind _ (part72 A I d i _ _ _ _ _ X rfl) ?_
      rintro _ _ ⟨rfl, rfl⟩
      refine Tr.bind _ (part73 A I d i _ _ _ _ _ X rfl) ?_
      rintro _ _ ⟨rfl, b1, rfl⟩
      refine Tr.bind _ (part74 A I d i _ _ _ _ _ _ X rfl) ?_
      rintro _ _ ⟨rfl, b1, rfl⟩
      refine Tr.bind _ (part75 A I d i _ _ _ _ _ _ X rfl) ?_
      rintro _ _ ⟨rfl, b1, rfl⟩
      refine Tr.bind _ (part76 A I d i _ _ _ _ _ _ X rfl) ?_
      rintro _ _ ⟨rfl, b1, b2, rfl⟩
      refine Tr.bind _ (part77 A I d i _ _ _ _ _ _ _ X rfl) ?_
      rintro _ _ ⟨rfl, b1, b2, rfl⟩
      refine Tr.bind _ (part78 A I d i _ _ _ _ _ _ _ X rfl) ?_
      rintro _ _ ⟨rfl, b1, b2, rfl⟩
      refine Tr.bind _ (part79 A I d i _ _ _ _ _ _ _ X rfl) ?_
      rintro _ _ ⟨rfl, rfl⟩
      refine Tr.bind _ (part80 A I d i _ _ _ _ _ X rfl) ?_
      rintro _ _ ⟨rfl, rfl⟩
      refine Tr.bind _ (part81 A I d i _ _ _ _ _ X rfl) ?_
      rintro _ _ ⟨rfl, rfl⟩
      refine Tr.bind _ (part82 A I d i _ _ _ _ _ X rfl) ?_
      rintro _ _ ⟨rfl, rfl⟩
      repeat' first | (with_reducible refine Tr.load ?_) | (with_reducible refine Tr.loadR ?_) | (with_reducible refine Tr.store ?_) | extract_lets
      refine Tr.ret ⟨_, rfl, fun r l c hc hr => ?_⟩
      by_cases h : 64 * t'.val ≤ r.val
      · exact pool3_block I xs X t t' T M' _ r l c (fun n => (hV _ n l le_rfl).trans (congrArg (vp I xs _) (Fin.ext hc.symm))) (by first | rfl | (dsimp only; omega)) h (by omega)
      · exact (pool3_other X t t' M' _ r l (.inr (.inl (by omega)))).trans (hM r l c hc (by omega))
    rintro - s' ⟨M', rfl, hM⟩
    repeat' first | (with_reducible refine Tr.load ?_) | (with_reducible refine Tr.loadR ?_) | (with_reducible refine Tr.store ?_) | extract_lets
    refine Tr.ret ⟨_, _, _, rfl, fun r c hc => ?_, fun p m l hp hm => ?_, fun p m l hp => ?_⟩
    · by_cases h : 768 + 128 * t.val ≤ c.val
      · refine (put_at_unit (off89 _) (ix2 r ⟨c.val - (768 + 128 * t.val), by omega⟩) (fun a => ?_)).trans ?_
        · fin_cases a <;> simp <;> omega
        try dsimp +zetaDelta only
        pointwise [off87, off88]
        refine pin_eq I xs T 3 c _ _ _ _ (by omega) (hM r _ c (by (try dsimp only); omega) r.isLt) ?_ ?_
        · exact inv_eq 3 T hT r.val r.isLt
        · exact (hV ⟨6 + t.val, by omega⟩ ⟨16 + r.val, by omega⟩ _ le_rfl).trans (congrArg₂ (vp I xs) (by (try dsimp only); omega) (Fin.ext (by (try dsimp only); omega)))
      · exact (put_off_unit (off89 _) 1 128 rfl (by simp; omega)).trans (hQ r c (by omega))
    · by_cases h : p.val = 6 + t.val
      · refine (put_at_unit (off91 _) (ix3 0 ⟨m.val, hm⟩ l) (fun a => ?_)).trans ?_
        · fin_cases a <;> simp <;> omega
        try dsimp +zetaDelta only
        pointwise [off90]
        refine (hV ⟨6 + t.val, by omega⟩ ⟨256 + m.val, by omega⟩ l le_rfl).trans ?_
        exact congrArg₂ (vp I xs) (by (try dsimp only); omega) (Fin.ext (by (try dsimp only); omega))
      · exact (put_off_unit (off91 _) 0 1 rfl (by simp; omega)).trans (hW p m l (by omega) hm)
    · exact (put_off_unit (off91 _) 0 1 rfl (by simp; omega)).trans (hV p m l (by omega))
  rintro - s' ⟨M, Q, X, rfl, hQ, hW, hV⟩
  replace hQ : ∀ r c, c.val < 1024 → Q (ix2 r c) = Pin I xs (256 * T + r.val) c := fun r c h => hQ r c h
  replace hW : ∀ p m l, p.val < 8 → m.val < 16 → FVat I xs (T + 1) { s with v := X } p m l := fun p m l h hm => hW p m l h hm
  replace hV : ∀ p m l, 8 ≤ p.val → FVat I xs T { s with v := X } p m l := fun p m l h => hV p m l h
  clear hV
  replace hQ : ∀ r c, Q (ix2 r c) = Pin I xs (256 * T + r.val) c := fun r c => hQ r c c.isLt
  replace hW : ∀ p m l, m.val < 16 → FVat I xs (T + 1) { s with v := X } p m l := fun p m l h => hW p m l p.isLt h
  refine Tr.for (fun n _ s' => ∃ L, s' = { s with c := C, u := Xu, m := M, q := Q, v := X, l := L } ∧ ∀ r c, r.val < 32 * n → L (ix3 0 r c) = GA I xs (256 * T + r.val) c)
    ⟨s.l, rfl, fun r c h => by omega⟩ ?_ ?_
  · rintro t - s' ⟨L, rfl, hL⟩
    have ht : t.val < 8 := t.isLt
    refine Tr.bind _ (part83 A I d xs i _ _ t T _ hC) ?_
    rintro ⟨b0, f, g⟩ s' ⟨rfl, hf, hg⟩
    dsimp only at hf hg
    repeat' first | (with_reducible refine Tr.load ?_) | (with_reducible refine Tr.loadR ?_) | (with_reducible refine Tr.store ?_) | extract_lets
    refine Tr.ret ⟨_, rfl, fun r c hr => ?_⟩
    by_cases h : 32 * t.val ≤ r.val
    · refine (put_at_unit (off101 _) (ix3 0 ⟨r.val - 32 * t.val, by omega⟩ c) (fun a => ?_)).trans ?_
      · fin_cases a <;> simp <;> omega
      try dsimp +zetaDelta only
      pointwise [off100]
      have e : 32 * t.val + (r.val - 32 * t.val) = r.val := by omega
      simp only [hf, hg, e, h2]
      rfl
    · exact (put_off_unit (off101 _) 1 32 rfl (by simp; omega)).trans (hL r c (by omega))
  rintro - s' ⟨L, rfl, hL⟩
  replace hL : ∀ r c, L (ix3 0 r c) = GA I xs (256 * T + r.val) c := fun r c => hL r c r.isLt
  refine Tr.for (fun n _ s' => ∃ P', s' = { s with c := C, u := Xu, m := M, q := Q, v := X, l := L, p := P' } ∧ ∀ r c, c.val < 256 * n → P' (ix2 r c) = P I xs (256 * T + r.val) c)
    ⟨s.p, rfl, fun r c h => by omega⟩ ?_ ?_
  · rintro t - s' ⟨P', rfl, hP⟩
    have ht : t.val < 4 := t.isLt
    repeat' first | (with_reducible refine Tr.load ?_) | (with_reducible refine Tr.loadR ?_) | (with_reducible refine Tr.store ?_) | extract_lets
    refine Tr.ret ⟨_, rfl, fun r c hr => ?_⟩
    by_cases h : 256 * t.val ≤ c.val
    · refine (put_at_unit (off102 _) (ix2 r ⟨c.val - 256 * t.val, by omega⟩) (fun a => ?_)).trans ?_
      · fin_cases a <;> simp <;> omega
      try dsimp +zetaDelta only
      pointwise [off102, off103, off104]
      have e : c.val / 256 = t.val := by omega
      have e' : c.val % 256 = c.val - 256 * t.val := by omega
      have e'' : 256 * t.val + (c.val - 256 * t.val) = c.val := by omega
      simp only [hQ, e'']
      unfold P
      simp only [e, e']
      rfl
    · exact (put_off_unit (off102 _) 1 256 rfl (by simp; omega)).trans (hP r c (by omega))
  rintro - s' ⟨P', rfl, hP⟩
  replace hP : ∀ r c, P' (ix2 r c) = P I xs (256 * T + r.val) c := fun r c => hP r c c.isLt
  refine Tr.for (fun n _ s' => ∃ Y, s' = { s with c := C, u := Xu, m := M, q := Q, v := X, l := L, p := P', y := Y } ∧ ∀ r c, c.val < 256 * n → Y (ix3 0 r c) = YA I xs (256 * T + r.val) c)
    ⟨s.y, rfl, fun r c h => by omega⟩ ?_ ?_
  · rintro t - s' ⟨Y, rfl, hY⟩
    have ht : t.val < 4 := t.isLt
    repeat' first | (with_reducible refine Tr.load ?_) | (with_reducible refine Tr.loadR ?_) | (with_reducible refine Tr.store ?_) | extract_lets
    refine Tr.ret ⟨_, rfl, fun r c hr => ?_⟩
    by_cases h : 256 * t.val ≤ c.val
    · refine (put_at_unit (off106 _) (ix3 0 r ⟨c.val - 256 * t.val, by omega⟩) (fun a => ?_)).trans ?_
      · fin_cases a <;> simp <;> omega
      try dsimp +zetaDelta only
      pointwise [off105]
      have e'' : 256 * t.val + (c.val - 256 * t.val) = c.val := by omega
      simp only [hL, e'']
      rfl
    · exact (put_off_unit (off106 _) 2 256 rfl (by simp; omega)).trans (hY r c (by omega))
  rintro - s' ⟨Y, rfl, hY⟩
  replace hY : ∀ r c, Y (ix3 0 r c) = YA I xs (256 * T + r.val) c := fun r c => hY r c c.isLt
  refine Tr.for (fun n _ s' => ∃ L', s' = { s with c := C, u := Xu, m := M, q := Q, v := X, l := L', p := P', y := Y } ∧ ∀ r c, r.val < 32 * n → L' (ix3 1 r c) = GB I xs (256 * T + r.val) c)
    ⟨L, rfl, fun r c h => by omega⟩ ?_ ?_
  · rintro t - s' ⟨L', rfl, hL'⟩
    have ht : t.val < 8 := t.isLt
    repeat' first | (with_reducible refine Tr.load ?_) | (with_reducible refine Tr.loadR ?_) | (with_reducible refine Tr.store ?_) | extract_lets
    refine Tr.ret ⟨_, rfl, fun r c hr => ?_⟩
    by_cases h : 32 * t.val ≤ r.val
    · refine (put_at_unit (off109 _) (ix3 0 ⟨r.val - 32 * t.val, by omega⟩ c) (fun a => ?_)).trans ?_
      · fin_cases a <;> simp <;> omega
      try dsimp +zetaDelta only
      pointwise [off107, off108]
      have e : 32 * t.val + (r.val - 32 * t.val) = r.val := by omega
      simp only [hP, h4, e]
      rfl
    · exact (put_off_unit (off109 _) 1 32 rfl (by simp; omega)).trans (hL' r c (by omega))
  rintro - s' ⟨L', rfl, hL'⟩
  replace hL' : ∀ r c, L' (ix3 1 r c) = GB I xs (256 * T + r.val) c := fun r c => hL' r c r.isLt
  refine Tr.for (fun n _ s' => ∃ Y', s' = { s with c := C, u := Xu, m := M, q := Q, v := X, l := L', p := P', y := Y' } ∧ (∀ r c, Y' (ix3 0 r c) = YA I xs (256 * T + r.val) c) ∧ ∀ r c, c.val < 256 * n → Y' (ix3 1 r c) = YB I xs (256 * T + r.val) c)
    ⟨Y, rfl, hY, fun r c h => by omega⟩ ?_ ?_
  · rintro t - s' ⟨Y', rfl, hY', hB⟩
    have ht : t.val < 4 := t.isLt
    repeat' first | (with_reducible refine Tr.load ?_) | (with_reducible refine Tr.loadR ?_) | (with_reducible refine Tr.store ?_) | extract_lets
    refine Tr.ret ⟨_, rfl, fun r c => ?_, fun r c hr => ?_⟩
    · exact (put_off_unit (off111 _) 0 1 rfl (by simp)).trans (hY' r c)
    by_cases h : 256 * t.val ≤ c.val
    · refine (put_at_unit (off111 _) (ix3 0 r ⟨c.val - 256 * t.val, by omega⟩) (fun a => ?_)).trans ?_
      · fin_cases a <;> simp <;> omega
      try dsimp +zetaDelta only
      pointwise [off110]
      have e'' : 256 * t.val + (c.val - 256 * t.val) = c.val := by omega
      simp only [hL', e'']
      rfl
    · exact (put_off_unit (off111 _) 2 256 rfl (by simp; omega)).trans (hB r c (by omega))
  rintro - s' ⟨Y', rfl, hY', hB⟩
  extract_lets
  exact Tr.ret ⟨rfl, hY', fun r c => hB r c c.isLt, hN, hW⟩

end Cert.KernelIdeal.Val

end
-- ==== Proof.VOff3.lean ====
/-
  Where the windows of the body's last loops lie.
-/
module

public import proofs.«01_k».proof.Proof.SpecI

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

theorem off112 : ∀ t0 : Fin k0_t24_loop.trips, k0_off112 t0 = ![5, 32 * t0.val, 0] :=
  fun t0 => funext fun a => (by decide +kernel : ∀ t0 : Fin k0_t24_loop.trips, ∀ a : Fin 3, k0_off112 t0 a = (![5, 32 * t0.val, 0] : Fin 3 → Nat) a) t0 a
theorem off113 : ∀ t0 : Fin k0_t24_loop.trips, k0_off113 t0 = ![0, 32 * t0.val, 0] :=
  fun t0 => funext fun a => (by decide +kernel : ∀ t0 : Fin k0_t24_loop.trips, ∀ a : Fin 3, k0_off113 t0 a = (![0, 32 * t0.val, 0] : Fin 3 → Nat) a) t0 a
theorem off114 : ∀ t0 : Fin k0_t24_loop.trips, k0_off114 t0 = ![6, 32 * t0.val, 0] :=
  fun t0 => funext fun a => (by decide +kernel : ∀ t0 : Fin k0_t24_loop.trips, ∀ a : Fin 3, k0_off114 t0 a = (![6, 32 * t0.val, 0] : Fin 3 → Nat) a) t0 a
theorem off115 : ∀ t0 : Fin k0_t25_loop.trips, k0_off115 t0 = ![0, 32 * t0.val, 0] :=
  fun t0 => funext fun a => (by decide +kernel : ∀ t0 : Fin k0_t25_loop.trips, ∀ a : Fin 3, k0_off115 t0 a = (![0, 32 * t0.val, 0] : Fin 3 → Nat) a) t0 a
theorem off116 : ∀ t0 : Fin k0_t25_loop.trips, k0_off116 t0 = ![6, 32 * t0.val, 0] :=
  fun t0 => funext fun a => (by decide +kernel : ∀ t0 : Fin k0_t25_loop.trips, ∀ a : Fin 3, k0_off116 t0 a = (![6, 32 * t0.val, 0] : Fin 3 → Nat) a) t0 a
theorem off117 : ∀ t0 : Fin k0_t25_loop.trips, k0_off117 t0 = ![1, 32 * t0.val, 0] :=
  fun t0 => funext fun a => (by decide +kernel : ∀ t0 : Fin k0_t25_loop.trips, ∀ a : Fin 3, k0_off117 t0 a = (![1, 32 * t0.val, 0] : Fin 3 → Nat) a) t0 a
theorem off118 : ∀ t0 : Fin k0_t25_loop.trips, k0_off118 t0 = ![2, 32 * t0.val, 0] :=
  fun t0 => funext fun a => (by decide +kernel : ∀ t0 : Fin k0_t25_loop.trips, ∀ a : Fin 3, k0_off118 t0 a = (![2, 32 * t0.val, 0] : Fin 3 → Nat) a) t0 a
theorem off119 : ∀ t0 : Fin k0_t26_loop.trips, k0_off119 t0 = ![0, 256 * t0.val] :=
  fun t0 => funext fun a => (by decide +kernel : ∀ t0 : Fin k0_t26_loop.trips, ∀ a : Fin 2, k0_off119 t0 a = (![0, 256 * t0.val] : Fin 2 → Nat) a) t0 a
theorem off120 : ∀ t0 : Fin k0_t26_loop.trips, k0_off120 t0 = ![0, 0, 256 * t0.val] :=
  fun t0 => funext fun a => (by decide +kernel : ∀ t0 : Fin k0_t26_loop.trips, ∀ a : Fin 3, k0_off120 t0 a = (![0, 0, 256 * t0.val] : Fin 3 → Nat) a) t0 a
theorem off121 : ∀ t0 : Fin k0_t27_loop.trips, k0_off121 t0 = ![0, 32 * t0.val, 0] :=
  fun t0 => funext fun a => (by decide +kernel : ∀ t0 : Fin k0_t27_loop.trips, ∀ a : Fin 3, k0_off121 t0 a = (![0, 32 * t0.val, 0] : Fin 3 → Nat) a) t0 a

end Cert.KernelIdeal.Val

end
-- ==== Proof.VF.lean ====
/-
  The kernel body, whole: at each point the output tile holds the layer's rows.
-/
module

public import proofs.«01_k».proof.Proof.VB
public import proofs.«01_k».proof.Proof.VD
public import proofs.«01_k».proof.Proof.VOff3

@[expose] public section

set_option maxRecDepth 16384

noncomputable section

namespace Cert.KernelIdeal.Val

open Cert.KernelIdeal Cert.KernelIdeal.Gen Cert.KernelIdeal.Body Cert.KernelIdeal.Spec Cert.Tr
open Idealize.ShloMosaic Idealize.ShloMosaic.TcCoe Idealize.ShloMosaic.Tactic

variable (A : Args) (I : In Ideal) (d : Dev nD) (xs : Nat → Row)
local notation "V" => Ev A I d

set_option maxHeartbeats 100000000 in
/-- The kernel body at sequence tile `T`: the output tile is the layer's, and the halos are ready for the next tile. -/
theorem body_value (i : grid0.Coords) (T : Nat) (hT : (i 1).val = T) (s : St Ideal) (hx : ∀ r j, I.x (ix3 0 r j) = xs (256 * T + r.val) j)
    (hu : T ≠ 0 → ∀ t m l, m.val < 64 → FUat I xs T s t m l) (hv : T ≠ 0 → ∀ t m l, m.val < 16 → FVat I xs T s t m l) :
    Tr V (cc0_hybrid_block (F := Ideal) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27) s (fun _ s' => (∀ r c, s'.o (ix3 0 r c) = Out I xs (256 * T + r.val) c)
      ∧ (∀ t m l, m.val < 64 → FUat I xs (T + 1) s' t m l) ∧ ∀ t m l, m.val < 16 → FVat I xs (T + 1) s' t m l) := by
  have hT8 : T < 8 := hT ▸ (i 1).isLt
  unfold cc0_hybrid_block
  refine Tr.bind _ (part84 A I d xs i T hT s hx hu hv) ?_
  rintro ⟨arg1, c0, c1⟩ s ⟨ha, h2, h4, h5, h6, hU, hV⟩
  dsimp only at ha
  rw [hT] at ha
  refine Tr.bind _ (part85 A I d xs i T hT8 arg1 ha c0 c1 s h2 h4 hU hV) ?_
  rintro ⟨c0, c1⟩ s' ⟨hz, hA, hB, hN, hW⟩
  replace h5 : ∀ r c, s'.z (ix3 5 r c) = Z I (xs (256 * T + r.val)) 5 c := fun r c => by rw [hz]; exact h5 r c
  replace h6 : ∀ r c, s'.z (ix3 6 r c) = Z I (xs (256 * T + r.val)) 6 c := fun r c => by rw [hz]; exact h6 r c
  clear hz h2 h4 hU hV hu hv ha
  rename_i s0
  clear s0
  rename St Ideal => s
  refine Tr.for (fun n _ s' => ∃ Y X, s' = { s with y := Y, z := X } ∧ (∀ r c, Y (ix3 1 r c) = YB I xs (256 * T + r.val) c) ∧ (∀ r c, X (ix3 5 r c) = Z I (xs (256 * T + r.val)) 5 c) ∧ (∀ r c, r.val < 32 * n → Y (ix3 0 r c) = sg (Z I (xs (256 * T + r.val)) 5 c) * YA I xs (256 * T + r.val) c) ∧ (∀ r c, 32 * n ≤ r.val → Y (ix3 0 r c) = YA I xs (256 * T + r.val) c) ∧ (∀ r c, r.val < 32 * n → X (ix3 6 r c) = sg (Z I (xs (256 * T + r.val)) 6 c)) ∧ ∀ r c, 32 * n ≤ r.val → X (ix3 6 r c) = Z I (xs (256 * T + r.val)) 6 c)
    ⟨s.y, s.z, rfl, hB, h5, fun r c h => by omega, fun r c _ => hA r c, fun r c h => by omega, fun r c _ => h6 r c⟩ ?_ ?_
  · rintro t - s' ⟨Y, X, rfl, hB, h5, hY, hY', hX, hX'⟩
    have ht : t.val < 8 := t.isLt
    repeat' first | (with_reducible refine Tr.load ?_) | (with_reducible refine Tr.loadR ?_) | (with_reducible refine Tr.store ?_) | extract_lets
    refine Tr.ret ⟨_, _, rfl, fun r c => ?_, fun r c => ?_, fun r c hr => ?_, fun r c hr => ?_, fun r c hr => ?_, fun r c hr => ?_⟩
    · dsimp only
      exact (put_off_unit (off113 _) 0 1 rfl (by simp)).trans (hB r c)
    · exact (put_off_unit (off114 _) 0 1 rfl (by simp)).trans (h5 r c)
    · by_cases h : 32 * t.val ≤ r.val
      · dsimp only
        refine (put_at_unit (off113 _) (ix3 0 ⟨r.val - 32 * t.val, by omega⟩ c) (fun a => ?_)).trans ?_
        · fin_cases a <;> simp <;> omega
        try dsimp +zetaDelta only
        pointwise [off112, off113]
        have e : 32 * t.val + (r.val - 32 * t.val) = r.val := by omega
        simp only [e, h5]
        rw [hY' r c h]
        rfl
      · dsimp only
        exact (put_off_unit (off113 _) 1 32 rfl (by simp; omega)).trans (hY r c (by omega))
    · dsimp only
      exact (put_off_unit (off113 _) 1 32 rfl (by simp; omega)).trans (hY' r c (by omega))
    · by_cases h : 32 * t.val ≤ r.val
      · refine (put_at_unit (off114 _) (ix3 0 ⟨r.val - 32 * t.val, by omega⟩ c) (fun a => ?_)).trans ?_
        · fin_cases a <;> simp <;> omega
        try dsimp +zetaDelta only
        pointwise [off114]
        have e : 32 * t.val + (r.val - 32 * t.val) = r.val := by omega
        simp only [e]
        rw [hX' r c h]
        rfl
      · exact (put_off_unit (off114 _) 1 32 rfl (by simp; omega)).trans (hX r c (by omega))
    · exact (put_off_unit (off114 _) 1 32 rfl (by simp; omega)).trans (hX' r c (by omega))
  rintro - s' ⟨Y, X, rfl, hB, -, hY, -, hX, -⟩
  replace hY : ∀ r c, Y (ix3 0 r c) = sg (Z I (xs (256 * T + r.val)) 5 c) * YA I xs (256 * T + r.val) c := fun r c => hY r c r.isLt
  replace hX : ∀ r c, X (ix3 6 r c) = sg (Z I (xs (256 * T + r.val)) 6 c) := fun r c => hX r c r.isLt
  refine Tr.for (fun n _ s' => ∃ L, s' = { s with y := Y, z := X, l := L } ∧ ∀ r c, r.val < 32 * n → L (ix3 2 r c) = M I xs (256 * T + r.val) c)
    ⟨s.l, rfl, fun r c h => by omega⟩ ?_ ?_
  · rintro t - s' ⟨L, rfl, hL⟩
    have ht : t.val < 8 := t.isLt
    repeat' first | (with_reducible refine Tr.load ?_) | (with_reducible refine Tr.loadR ?_) | (with_reducible refine Tr.store ?_) | extract_lets
    refine Tr.ret ⟨_, rfl, fun r c hr => ?_⟩
    by_cases h : 32 * t.val ≤ r.val
    · refine (put_at_unit (off118 _) (ix3 0 ⟨r.val - 32 * t.val, by omega⟩ c) (fun a => ?_)).trans ?_
      · fin_cases a <;> simp <;> omega
      try dsimp +zetaDelta only
      pointwise [off115, off116, off117]
      have e : 32 * t.val + (r.val - 32 * t.val) = r.val := by omega
      simp only [hY, hX, hB, e]
      rfl
    · exact (put_off_unit (off118 _) 1 32 rfl (by simp; omega)).trans (hL r c (by omega))
  rintro - s' ⟨L, rfl, hL⟩
  replace hL : ∀ r c, L (ix3 2 r c) = M I xs (256 * T + r.val) c := fun r c => hL r c r.isLt
  refine Tr.for (fun n _ s' => ∃ Q, s' = { s with y := Y, z := X, l := L, o := Q } ∧ ∀ r c, c.val < 256 * n → Q (ix3 0 r c) = ∑ k, M I xs (256 * T + r.val) k * I.wo (ix2 k c))
    ⟨s.o, rfl, fun r c h => by omega⟩ ?_ ?_
  · rintro t - s' ⟨Q, rfl, hQ⟩
    have ht : t.val < 4 := t.isLt
    repeat' first | (with_reducible refine Tr.load ?_) | (with_reducible refine Tr.loadR ?_) | (with_reducible refine Tr.store ?_) | extract_lets
    refine Tr.ret ⟨_, rfl, fun r c hr => ?_⟩
    by_cases h : 256 * t.val ≤ c.val
    · refine (put_at_unit (off120 _) (ix3 0 r ⟨c.val - 256 * t.val, by omega⟩) (fun a => ?_)).trans ?_
      · fin_cases a <;> simp <;> omega
      try dsimp +zetaDelta only
      pointwise [off119]
      have e'' : 256 * t.val + (c.val - 256 * t.val) = c.val := by omega
      simp only [hL, e'']
    · exact (put_off_unit (off120 _) 2 256 rfl (by simp; omega)).trans (hQ r c (by omega))
  rintro - s' ⟨Q, rfl, hQ⟩
  replace hQ : ∀ r c, Q (ix3 0 r c) = ∑ k, M I xs (256 * T + r.val) k * I.wo (ix2 k c) := fun r c => hQ r c c.isLt
  refine Tr.for (fun n _ s' => ∃ Q, s' = { s with y := Y, z := X, l := L, o := Q } ∧ (∀ r c, r.val < 32 * n → Q (ix3 0 r c) = Out I xs (256 * T + r.val) c) ∧ ∀ r c, 32 * n ≤ r.val → Q (ix3 0 r c) = ∑ k, M I xs (256 * T + r.val) k * I.wo (ix2 k c))
    ⟨Q, rfl, fun r c h => by omega, fun r c _ => hQ r c⟩ ?_ ?_
  · rintro t - s' ⟨Q, rfl, hQ, hQ'⟩
    have ht : t.val < 8 := t.isLt
    repeat' first | (with_reducible refine Tr.load ?_) | (with_reducible refine Tr.loadR ?_) | (with_reducible refine Tr.store ?_) | extract_lets
    refine Tr.ret ⟨_, rfl, fun r c hr => ?_, fun r c hr => ?_⟩
    · by_cases h : 32 * t.val ≤ r.val
      · refine (put_at_unit (off121 _) (ix3 0 ⟨r.val - 32 * t.val, by omega⟩ c) (fun a => ?_)).trans ?_
        · fin_cases a <;> simp <;> omega
        try dsimp +zetaDelta only
        pointwise [off121]
        have e : 32 * t.val + (r.val - 32 * t.val) = r.val := by omega
        simp only [e, hx]
        simp only [fun c => hQ' r c h]
        rfl
      · exact (put_off_unit (off121 _) 1 32 rfl (by simp; omega)).trans (hQ r c (by omega))
    · exact (put_off_unit (off121 _) 1 32 rfl (by simp; omega)).trans (hQ' r c (by omega))
  rintro - s' ⟨Q, rfl, hQ, -⟩
  extract_lets
  exact Tr.ret ⟨fun r c => hQ r c r.isLt, hN, hW⟩

end Cert.KernelIdeal.Val

end
-- ==== Proof.RunV.lean ====
/-
  The value of `KernelIdeal`: at every grid point the body leaves the layer's rows in the output window and the halos of
  the next tile in its scratch (`body_value`), so the result array ends at the layer's rows.
-/
module

public import proofs.«01_k».proof.Proof.RunI
public import proofs.«01_k».proof.Proof.VF
public import Idealize.ShloMosaic.Lib.Claim

@[expose] public section

set_option maxRecDepth 16384

noncomputable section

namespace Cert.KernelIdeal.RunV

open Cert.KernelIdeal Cert.KernelIdeal.Gen Cert.KernelIdeal.Body Cert.KernelIdeal.Spec Cert.Tr
open Cert.KernelIdeal.Run (argsAt inAt 𝒱₀ scratch_eq)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable (m : (ℓ : Loc nD τ sig) → Buf (Elt Ideal) ℓ) (ρ : Dev nD → PrngReg)

/-- The weights, as the region finds them. -/
def I0 (c : Dev nD) : In Ideal := ⟨fun _ => 0, V m c main_v1, V m c main_v3, V m c main_v5, V m c main_v6, V m c main_v8, V m c main_v10, V m c main_v12, V m c main_v14, V m c main_v16, V m c main_v18, V m c main_v20, V m c main_v22, V m c main_v24, V m c main_v25⟩

/-- The rows of batch element `b`. -/
def xsOf (c : Dev nD) (b : Nat) : Nat → Row := fun s j =>
  if h : b < 16 ∧ s < 2048 then V m c main_arg0 (ix3 ⟨b, h.1⟩ ⟨s, h.2⟩ j) else 0

theorem coords0 : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

theorem idx0 : ∀ t : Fin cfg0.N, win0_0.index t = ![t.val / 8, t.val % 8, 0] :=
  (by decide +kernel : ∀ t : Fin grid0.N, win0_0.index t = ![t.val / 8, t.val % 8, 0])
theorem idx15 : ∀ t : Fin cfg0.N, win0_15.index t = ![t.val / 8, t.val % 8, 0] :=
  (by decide +kernel : ∀ t : Fin grid0.N, win0_15.index t = ![t.val / 8, t.val % 8, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0, 0] :=
  (by decide +kernel : ∀ t : Fin grid0.N, win0_9.index t = ![0, 0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![0, 0] :=
  (by decide +kernel : ∀ t : Fin grid0.N, win0_12.index t = ![0, 0])
theorem idx13 : ∀ t : Fin cfg0.N, win0_13.index t = ![0, 0] :=
  (by decide +kernel : ∀ t : Fin grid0.N, win0_13.index t = ![0, 0])
theorem idx14 : ∀ t : Fin cfg0.N, win0_14.index t = ![0, 0] :=
  (by decide +kernel : ∀ t : Fin grid0.N, win0_14.index t = ![0, 0])
theorem blk1 (c : Dev nD) (t : Fin cfg0.N) : (inAt m c t).ng = (I0 m c).ng := by
  show iblk m c 1 t = V m c main_v1
  generalize hV : V m c main_v1 = X
  have : ∀ y, iblk m c 1 t y = V m c main_v1 (((cfg0.win 1).blk t).view.emb y) := fun _ => rfl
  simp only [hV] at this
  funext y
  rw [this]
  refine congrArg X ?_
  blk_ext [idx1 t]
theorem blk2 (c : Dev nD) (t : Fin cfg0.N) : (inAt m c t).wi = (I0 m c).wi := by
  show iblk m c 2 t = V m c main_v3
  generalize hV : V m c main_v3 = X
  have : ∀ y, iblk m c 2 t y = V m c main_v3 (((cfg0.win 2).blk t).view.emb y) := fun _ => rfl
  simp only [hV] at this
  funext y
  rw [this]
  refine congrArg X ?_
  blk_ext [idx2 t]
theorem blk3 (c : Dev nD) (t : Fin cfg0.N) : (inAt m c t).bi = (I0 m c).bi := by
  show iblk m c 3 t = V m c main_v5
  generalize hV : V m c main_v5 = X
  have : ∀ y, iblk m c 3 t y = V m c main_v5 (((cfg0.win 3).blk t).view.emb y) := fun _ => rfl
  simp only [hV] at this
  funext y
  rw [this]
  refine congrArg X ?_
  blk_ext [idx3 t]
theorem blk4 (c : Dev nD) (t : Fin cfg0.N) : (inAt m c t).cw = (I0 m c).cw := by
  show iblk m c 4 t = V m c main_v6
  generalize hV : V m c main_v6 = X
  have : ∀ y, iblk m c 4 t y = V m c main_v6 (((cfg0.win 4).blk t).view.emb y) := fun _ => rfl
  simp only [hV] at this
  funext y
  rw [this]
  refine congrArg X ?_
  blk_ext [idx4 t]
theorem blk5 (c : Dev nD) (t : Fin cfg0.N) : (inAt m c t).cb = (I0 m c).cb := by
  show iblk m c 5 t = V m c main_v8
  generalize hV : V m c main_v8 = X
  have : ∀ y, iblk m c 5 t y = V m c main_v8 (((cfg0.win 5).blk t).view.emb y) := fun _ => rfl
  simp only [hV] at this
  funext y
  rw [this]
  refine congrArg X ?_
  blk_ext [idx5 t]
theorem blk6 (c : Dev nD) (t : Fin cfg0.N) : (inAt m c t).lg = (I0 m c).lg := by
  show iblk m c 6 t = V m c main_v10
  generalize hV : V m c main_v10 = X
  have : ∀ y, iblk m c 6 t y = V m c main_v10 (((cfg0.win 6).blk t).view.emb y) := fun _ => rfl
  simp only [hV] at this
  funext y
  rw [this]
  refine congrArg X ?_
  blk_ext [idx6 t]
theorem blk7 (c : Dev nD) (t : Fin cfg0.N) : (inAt m c t).lb = (I0 m c).lb := by
  show iblk m c 7 t = V m c main_v12
  generalize hV : V m c main_v12 = X
  have : ∀ y, iblk m c 7 t y = V m c main_v12 (((cfg0.win 7).blk t).view.emb y) := fun _ => rfl
  simp only [hV] at this
  funext y
  rw [this]
  refine congrArg X ?_
  blk_ext [idx7 t]
theorem blk8 (c : Dev nD) (t : Fin cfg0.N) : (inAt m c t).wa = (I0 m c).wa := by
  show iblk m c 8 t = V m c main_v14
  generalize hV : V m c main_v14 = X
  have : ∀ y, iblk m c 8 t y = V m c main_v14 (((cfg0.win 8).blk t).view.emb y) := fun _ => rfl
  simp only [hV] at this
  funext y
  rw [this]
  refine congrArg X ?_
  blk_ext [idx8 t]
theorem blk9 (c : Dev nD) (t : Fin cfg0.N) : (inAt m c t).wp = (I0 m c).wp := by
  show iblk m c 9 t = V m c main_v16
  generalize hV : V m c main_v16 = X
  have : ∀ y, iblk m c 9 t y = V m c main_v16 (((cfg0.win 9).blk t).view.emb y) := fun _ => rfl
  simp only [hV] at this
  funext y
  rw [this]
  refine congrArg X ?_
  blk_ext [idx9 t]
theorem blk10 (c : Dev nD) (t : Fin cfg0.N) : (inAt m c t).bp = (I0 m c).bp := by
  show iblk m c 10 t = V m c main_v18
  generalize hV : V m c main_v18 = X
  have : ∀ y, iblk m c 10 t y = V m c main_v18 (((cfg0.win 10).blk t).view.emb y) := fun _ => rfl
  simp only [hV] at this
  funext y
  rw [this]
  refine congrArg X ?_
  blk_ext [idx10 t]
theorem blk11 (c : Dev nD) (t : Fin cfg0.N) : (inAt m c t).ps = (I0 m c).ps := by
  show iblk m c 11 t = V m c main_v20
  generalize hV : V m c main_v20 = X
  have : ∀ y, iblk m c 11 t y = V m c main_v20 (((cfg0.win 11).blk t).view.emb y) := fun _ => rfl
  simp only [hV] at this
  funext y
  rw [this]
  refine congrArg X ?_
  blk_ext [idx11 t]
theorem blk12 (c : Dev nD) (t : Fin cfg0.N) : (inAt m c t).wb = (I0 m c).wb := by
  show iblk m c 12 t = V m c main_v22
  generalize hV : V m c main_v22 = X
  have : ∀ y, iblk m c 12 t y = V m c main_v22 (((cfg0.win 12).blk t).view.emb y) := fun _ => rfl
  simp only [hV] at this
  funext y
  rw [this]
  refine congrArg X ?_
  blk_ext [idx12 t]
theorem blk13 (c : Dev nD) (t : Fin cfg0.N) : (inAt m c t).wo = (I0 m c).wo := by
  show iblk m c 13 t = V m c main_v24
  generalize hV : V m c main_v24 = X
  have : ∀ y, iblk m c 13 t y = V m c main_v24 (((cfg0.win 13).blk t).view.emb y) := fun _ => rfl
  simp only [hV] at this
  funext y
  rw [this]
  refine congrArg X ?_
  blk_ext [idx13 t]
theorem blk14 (c : Dev nD) (t : Fin cfg0.N) : (inAt m c t).nf = (I0 m c).nf := by
  show iblk m c 14 t = V m c main_v25
  generalize hV : V m c main_v25 = X
  have : ∀ y, iblk m c 14 t y = V m c main_v25 (((cfg0.win 14).blk t).view.emb y) := fun _ => rfl
  simp only [hV] at this
  funext y
  rw [this]
  refine congrArg X ?_
  blk_ext [idx14 t]

theorem blk0 (c : Dev nD) (t : Fin cfg0.N) (r : Fin 256) (j : Fin 1024) :
    (inAt m c t).x (ix3 0 r j) = xsOf m c (t.val / 8) (256 * (t.val % 8) + r.val) j := by
  have ht : t.val < 128 := t.isLt
  show iblk m c 0 t (ix3 0 r j) = _
  unfold xsOf
  rw [dif_pos ⟨by omega, by omega⟩]
  show V m c main_arg0 (((cfg0.win 0).blk t).view.emb (ix3 0 r j)) = _
  generalize V m c main_arg0 = X
  refine congrArg X ?_
  blk_ext [idx0 t]

theorem inAt_eq (c : Dev nD) (t : Fin cfg0.N) : inAt m c t = { I0 m c with x := iblk m c 0 t } := by
  have e1 := blk1 m c t
  have e2 := blk2 m c t
  have e3 := blk3 m c t
  have e4 := blk4 m c t
  have e5 := blk5 m c t
  have e6 := blk6 m c t
  have e7 := blk7 m c t
  have e8 := blk8 m c t
  have e9 := blk9 m c t
  have e10 := blk10 m c t
  have e11 := blk11 m c t
  have e12 := blk12 m c t
  have e13 := blk13 m c t
  have e14 := blk14 m c t
  generalize hI : inAt m c t = I at *
  have hx : I.x = iblk m c 0 t := by rw [← hI]; rfl
  obtain ⟨a0, a1, a2, a3, a4, a5, a6, a7, a8, a9, a10, a11, a12, a13, a14⟩ := I
  dsimp only at e1 e2 e3 e4 e5 e6 e7 e8 e9 e10 e11 e12 e13 e14 hx
  rw [hx, e1, e2, e3, e4, e5, e6, e7, e8, e9, e10, e11, e12, e13, e14]

section
variable (I : In Ideal) (X : S1x256x1024.Idx → Elt Ideal .f32) (xs : Nat → Row)
theorem H_x : H { I with x := X } = H I := rfl
theorem zr_x : zr { I with x := X } = zr I := rfl
theorem Z_x : Z { I with x := X } = Z I := rfl
theorem U_x : U { I with x := X } = U I := rfl
theorem up_x : up { I with x := X } xs = up I xs := rfl
theorem vp_x : vp { I with x := X } xs = vp I xs := rfl
theorem Cv_x : Cv { I with x := X } xs = Cv I xs := rfl
theorem GA_x : GA { I with x := X } xs = GA I xs := rfl
theorem YA_x : YA { I with x := X } xs = YA I xs := rfl
theorem Tot_x : Tot { I with x := X } xs = Tot I xs := rfl
theorem Pin_x : Pin { I with x := X } xs = Pin I xs := rfl
theorem P_x : P { I with x := X } xs = P I xs := rfl
theorem GB_x : GB { I with x := X } xs = GB I xs := rfl
theorem YB_x : YB { I with x := X } xs = YB I xs := rfl
theorem M_x : Spec.M { I with x := X } xs = Spec.M I xs := by
  funext s c; unfold Spec.M; rw [Z_x, YA_x, YB_x]
theorem O_x : O { I with x := X } xs = O I xs := by
  funext s c; unfold O; rw [M_x]
theorem Out_x : Out { I with x := X } xs = Out I xs := by
  funext s c; unfold Out; rw [O_x]
theorem FUat_x : FUat { I with x := X } xs = FUat I xs := by
  funext T s t m l; unfold FUat; rw [up_x]
theorem FVat_x : FVat { I with x := X } xs = FVat I xs := by
  funext T s t m l; unfold FVat; rw [vp_x]
end

/-- The halos the scratch holds before point `k`. -/
def Halo (c : Dev nD) (k : Nat) (s : St Ideal) : Prop :=
  (k % 8 ≠ 0 → ∀ t m' l, m'.val < 64 → FUat (I0 m c) (xsOf m c (k / 8)) (k % 8) s t m' l)
    ∧ (k % 8 ≠ 0 → ∀ t m' l, m'.val < 16 → FVat (I0 m c) (xsOf m c (k / 8)) (k % 8) s t m' l)

/-- The output tile at point `t`. -/
def outAt (c : Dev nD) (t : Nat) : S1x256x1024.Idx → EReal := fun y =>
  Out (I0 m c) (xsOf m c (t / 8)) (256 * (t % 8) + (y 1).val) (y 2)

/-- The body at a point: the output tile is the layer's, the halos are the next point's. -/
theorem body_run (c : Dev nD) (t : Fin cfg0.N) (s : St Ideal) (hs : Halo m c t.val s) :
    Own (argsAt t) (inAt m c t) c s ⊢ wp frame (wpE (defs₀ (F := Ideal)) 𝒱₀ (c : Thread nD τ) none) Set.univ (bodyAt0 t)
      (fun _ => iprop(∃ s', ⌜s'.o = outAt m c t.val ∧ Halo m c (t.val + 1) s'⌝ ∗ Own (argsAt t) (inAt m c t) c s')) := by
  have ht : t.val < 128 := t.isLt
  have h := Val.body_value (argsAt t) (inAt m c t) c (xsOf m c (t.val / 8)) (grid0.coords t) (t.val % 8) (coords0 t).2 s
    (blk0 m c t) (by rw [inAt_eq, FUat_x]; exact hs.1) (by rw [inAt_eq, FVat_x]; exact hs.2)
  refine (h.mono (Q' := fun _ s' => s'.o = outAt m c t.val ∧ Halo m c (t.val + 1) s') fun _ s' h' => ?_).run
  obtain ⟨ho, hu, hv⟩ := h'
  rw [inAt_eq, Out_x] at ho
  rw [inAt_eq, FUat_x] at hu
  rw [inAt_eq, FVat_x] at hv
  refine ⟨funext fun y => ?_, fun hk => ?_, fun hk => ?_⟩
  · have e : y = ix3 0 (y 1) (y 2) := by
      funext a; fin_cases a
      · exact Subsingleton.elim (α := Fin 1) _ _
      · rfl
      · rfl
    rw [e]
    exact ho _ _
  · rw [show (t.val + 1) / 8 = t.val / 8 from by omega, show (t.val + 1) % 8 = t.val % 8 + 1 from by omega]; exact hu
  · rw [show (t.val + 1) / 8 = t.val / 8 from by omega, show (t.val + 1) % 8 = t.val % 8 + 1 from by omega]; exact hv

/-- What the scratch holds before point `k`. -/
def Inv (c : Dev nD) (k : Nat) : sProp (MT nD τ sig Unit (Elt Ideal) ℕ (UR sig nD τ) ℕ) :=
  iprop(∃ s : St Ideal, ⌜Halo m c k s⌝ ∗ (owns (c : Thread nD τ) (Memref.whole cc0_scratch0) fullShare s.h ∗ owns (c : Thread nD τ) (Memref.whole cc0_scratch1) fullShare s.z ∗ owns (c : Thread nD τ) (Memref.whole cc0_scratch2) fullShare s.u ∗ owns (c : Thread nD τ) (Memref.whole cc0_scratch3) fullShare s.v ∗ owns (c : Thread nD τ) (Memref.whole cc0_scratch4) fullShare s.c ∗ owns (c : Thread nD τ) (Memref.whole cc0_scratch5) fullShare s.m ∗ owns (c : Thread nD τ) (Memref.whole cc0_scratch6) fullShare s.l ∗ owns (c : Thread nD τ) (Memref.whole cc0_scratch7) fullShare s.q ∗ owns (c : Thread nD τ) (Memref.whole cc0_scratch8) fullShare s.p ∗ owns (c : Thread nD τ) (Memref.whole cc0_scratch9) fullShare s.y) ∗ ∃ r, prngReg c r)

/-- The arrays as the region finds them; after the body each input buffer at its block, the output's at the layer's rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t.val
    | w => Dat.unnamed (cfg := cfg0) w t
  Φ k := Inv m c k.val
  q _ := fullShare
  owed _ := 0

theorem after0_15 (c : Dev nD) (t : Fin cfg0.N) : (dats m 0 c).after 15 t = outAt m c t.val := rfl
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = iblk m c 8 t := rfl
theorem after0_9 (c : Dev nD) (t : Fin cfg0.N) : (dats m 0 c).after 9 t = iblk m c 9 t := rfl
theorem after0_10 (c : Dev nD) (t : Fin cfg0.N) : (dats m 0 c).after 10 t = iblk m c 10 t := rfl
theorem after0_11 (c : Dev nD) (t : Fin cfg0.N) : (dats m 0 c).after 11 t = iblk m c 11 t := rfl
theorem after0_12 (c : Dev nD) (t : Fin cfg0.N) : (dats m 0 c).after 12 t = iblk m c 12 t := rfl
theorem after0_13 (c : Dev nD) (t : Fin cfg0.N) : (dats m 0 c).after 13 t = iblk m c 13 t := rfl
theorem after0_14 (c : Dev nD) (t : Fin cfg0.N) : (dats m 0 c).after 14 t = iblk m c 14 t := rfl
theorem before0_0 (c : Dev nD) (t : Fin cfg0.N) (d) : (dats m 0 c).before 0 t d = iblk m c 0 t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d
theorem before0_2 (c : Dev nD) (t : Fin cfg0.N) (d) : (dats m 0 c).before 2 t d = iblk m c 2 t :=
  before0_2_of m (dats m 0 c) rfl (after0_2 m c) t d
theorem before0_3 (c : Dev nD) (t : Fin cfg0.N) (d) : (dats m 0 c).before 3 t d = iblk m c 3 t :=
  before0_3_of m (dats m 0 c) rfl (after0_3 m c) t d
theorem before0_4 (c : Dev nD) (t : Fin cfg0.N) (d) : (dats m 0 c).before 4 t d = iblk m c 4 t :=
  before0_4_of m (dats m 0 c) rfl (after0_4 m c) t d
theorem before0_5 (c : Dev nD) (t : Fin cfg0.N) (d) : (dats m 0 c).before 5 t d = iblk m c 5 t :=
  before0_5_of m (dats m 0 c) rfl (after0_5 m c) t d
theorem before0_6 (c : Dev nD) (t : Fin cfg0.N) (d) : (dats m 0 c).before 6 t d = iblk m c 6 t :=
  before0_6_of m (dats m 0 c) rfl (after0_6 m c) t d
theorem before0_7 (c : Dev nD) (t : Fin cfg0.N) (d) : (dats m 0 c).before 7 t d = iblk m c 7 t :=
  before0_7_of m (dats m 0 c) rfl (after0_7 m c) t d
theorem before0_8 (c : Dev nD) (t : Fin cfg0.N) (d) : (dats m 0 c).before 8 t d = iblk m c 8 t :=
  before0_8_of m (dats m 0 c) rfl (after0_8 m c) t d
theorem before0_9 (c : Dev nD) (t : Fin cfg0.N) (d) : (dats m 0 c).before 9 t d = iblk m c 9 t :=
  before0_9_of m (dats m 0 c) rfl (after0_9 m c) t d
theorem before0_10 (c : Dev nD) (t : Fin cfg0.N) (d) : (dats m 0 c).before 10 t d = iblk m c 10 t :=
  before0_10_of m (dats m 0 c) rfl (after0_10 m c) t d
theorem before0_11 (c : Dev nD) (t : Fin cfg0.N) (d) : (dats m 0 c).before 11 t d = iblk m c 11 t :=
  before0_11_of m (dats m 0 c) rfl (after0_11 m c) t d
theorem before0_12 (c : Dev nD) (t : Fin cfg0.N) (d) : (dats m 0 c).before 12 t d = iblk m c 12 t :=
  before0_12_of m (dats m 0 c) rfl (after0_12 m c) t d
theorem before0_13 (c : Dev nD) (t : Fin cfg0.N) (d) : (dats m 0 c).before 13 t d = iblk m c 13 t :=
  before0_13_of m (dats m 0 c) rfl (after0_13 m c) t d
theorem before0_14 (c : Dev nD) (t : Fin cfg0.N) (d) : (dats m 0 c).before 14 t d = iblk m c 14 t :=
  before0_14_of m (dats m 0 c) rfl (after0_14 m c) t d

set_option maxHeartbeats 1600000 in
theorem body_obligation (c : Dev nD) : BodyObligation (dats m 0 c) (defs₀ (F := Ideal)) 𝒱₀ () Set.univ := fun t => by
  rw [bigSep_W0, bigSep_W0]
  sl_whnfR [defs₀, Defs.onTc]
  simp only [before0_0, before0_1, before0_2, before0_3, before0_4, before0_5, before0_6, before0_7, before0_8, before0_9, before0_10, before0_11, before0_12, before0_13, before0_14]
  rw [show (dats m 0 c).Φ t.succ = Inv m c (t.val + 1) from rfl, show (dats m 0 c).Φ t.castSucc = Inv m c t.val from rfl,
    show (dats m 0 c).owesAt () t.succ = (dats m 0 c).owesAt () t.castSucc from rfl, after0_0, after0_1, after0_2, after0_3, after0_4, after0_5, after0_6, after0_7, after0_8, after0_9, after0_10, after0_11, after0_12, after0_13, after0_14, after0_15]
  unfold Inv
  iintro ⟨⟨%s, %hs, ⟨H18, H19, H20, H21, H22, H23, H24, H25, H26, H27⟩, Hp⟩, Ho, ⟨⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩⟩⟩
  iapply (wp_wand_r Idealize.ShloMosaic.frame (wpE (defs₀ (F := Ideal)) 𝒱₀ (c : Thread nD τ) none) Set.univ)
  isplitl [H2 H3 H4 H5 H6 H7 H8 H9 H10 H11 H12 H13 H14 H15 H16 H17 H18 H19 H20 H21 H22 H23 H24 H25 H26 H27]
  · iapply (body_run m c t ⟨(dats m 0 c).before 15 t d15, s.h, s.z, s.u, s.v, s.c, s.m, s.l, s.q, s.p, s.y⟩ hs)
    unfold Own
    dsimp only [argsAt, inAt]
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    isplitl [H18]; iexact H18
    isplitl [H19]; iexact H19
    isplitl [H20]; iexact H20
    isplitl [H21]; iexact H21
    isplitl [H22]; iexact H22
    isplitl [H23]; iexact H23
    isplitl [H24]; iexact H24
    isplitl [H25]; iexact H25
    isplitl [H26]; iexact H26
    iexact H27
  iintro %a ⟨%s', %hs', H⟩
  rw [← hs'.1]
  unfold Own
  dsimp only [argsAt, inAt]
  icases H with ⟨H2, H3, H4, H5, H6, H7, H8, H9, H10, H11, H12, H13, H14, H15, H16, H17, H18, H19, H20, H21, H22, H23, H24, H25, H26, H27⟩
  isplitl [Hp H18 H19 H20 H21 H22 H23 H24 H25 H26 H27]
  · iexists s'
    isplitr; ipureintro; exact hs'.2
    isplitl [H18 H19 H20 H21 H22 H23 H24 H25 H26 H27]
    isplitl [H18]; iexact H18
    isplitl [H19]; iexact H19
    isplitl [H20]; iexact H20
    isplitl [H21]; iexact H21
    isplitl [H22]; iexact H22
    isplitl [H23]; iexact H23
    isplitl [H24]; iexact H24
    isplitl [H25]; iexact H25
    isplitl [H26]; iexact H26
    iexact H27
    iexact Hp
  isplitl [Ho]; iexact Ho
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  isplitl [H16]; iexact H16
  iexact H17

theorem hin (c : Dev nD) : Pipeline.ΦA spec0 c ⊢ (dats m 0 c).Φ 0 := by
  rw [show (dats m 0 c).Φ 0 = Inv m c 0 from rfl, show Pipeline.ΦA spec0 c = iprop(Pipeline.scopedRest spec0 c ∗ ∃ r, prngReg c r) from rfl, scratch_eq]
  unfold Inv
  iintro ⟨⟨⟨%f0, H18⟩, ⟨%f1, H19⟩, ⟨%f2, H20⟩, ⟨%f3, H21⟩, ⟨%f4, H22⟩, ⟨%f5, H23⟩, ⟨%f6, H24⟩, ⟨%f7, H25⟩, ⟨%f8, H26⟩, ⟨%f9, H27⟩⟩, Hp⟩
  iexists (⟨fun _ => 0, f0, f1, f2, f3, f4, f5, f6, f7, f8, f9⟩ : St Ideal)
  isplitr; ipureintro; exact ⟨fun h => absurd rfl h, fun h => absurd rfl h⟩
  dsimp only
  isplitl [H18 H19 H20 H21 H22 H23 H24 H25 H26 H27]
  isplitl [H18]; iexact H18
  isplitl [H19]; iexact H19
  isplitl [H20]; iexact H20
  isplitl [H21]; iexact H21
  isplitl [H22]; iexact H22
  isplitl [H23]; iexact H23
  isplitl [H24]; iexact H24
  isplitl [H25]; iexact H25
  isplitl [H26]; iexact H26
  iexact H27
  iexact Hp

theorem hout (c : Dev nD) : (dats m 0 c).Φ (Fin.last cfg0.N) ⊢ Pipeline.ΦA spec0 c := by
  rw [show (dats m 0 c).Φ (Fin.last cfg0.N) = Inv m c cfg0.N from rfl, show Pipeline.ΦA spec0 c = iprop(Pipeline.scopedRest spec0 c ∗ ∃ r, prngReg c r) from rfl, scratch_eq]
  unfold Inv
  iintro ⟨%s, -, ⟨H18, H19, H20, H21, H22, H23, H24, H25, H26, H27⟩, Hp⟩
  isplitl [H18 H19 H20 H21 H22 H23 H24 H25 H26 H27]
  isplitl [H18]
  · iexists _; iexact H18
  isplitl [H19]
  · iexists _; iexact H19
  isplitl [H20]
  · iexists _; iexact H20
  isplitl [H21]
  · iexists _; iexact H21
  isplitl [H22]
  · iexists _; iexact H22
  isplitl [H23]
  · iexists _; iexact H23
  isplitl [H24]
  · iexists _; iexact H24
  isplitl [H25]
  · iexists _; iexact H25
  isplitl [H26]
  · iexists _; iexact H26
  skip
  · iexists _; iexact H27
  iexact Hp

-- the implicit arguments are found by unifying the conclusions, which takes unfolding plain definitions
set_option backward.isDefEq.respectTransparency.types false in
theorem run_main : θ_run defs (onTc (τ := τ) (main (F := Ideal))) (s₀ m ρ)
    (fun r => Pipeline.FramePost cfgs (dats m) (0 : Fin 1) (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hin := hin m) (hout := hout m)

/-- The result array after the run: the layer's rows. -/
theorem final (c : Dev nD) : (dats m 0 c).arrAt 15 (cfgs 0).N
    = fun i : S16x2048x1024.Idx => Out (I0 m c) (xsOf m c (i 0).val) (i 1).val (i 2) := by
  refine (dats m 0 c).arrAt_eq_of_covers 15 _ (by decide +kernel) fun t hf y => ?_
  have ht : t.val < 128 := t.isLt
  blk_simp
  rw [after0_15]
  unfold outAt
  have i0 : win0_15.index t 0 = t.val / 8 := by rw [idx15]; rfl
  have i1 : win0_15.index t 1 = t.val % 8 := by rw [idx15]; rfl
  have e2 : (((cfg0.win 15).blk t).view.emb y) 2 = y 2 := by
    apply Fin.ext
    blk_simp [idx15 t]
  have key : ∀ (a b c' d' : Nat) (e f : Fin 1024), a = b → c' = d' → e = f → Out (I0 m c) (xsOf m c a) c' e = Out (I0 m c) (xsOf m c b) d' f := by
    rintro _ _ _ _ _ _ rfl rfl rfl; rfl
  exact key _ _ _ _ _ _ i0.symm (by rw [i1, Nat.mul_comm]) e2.symm

/-- Every execution ends, the arguments unchanged and every semaphore counter at zero. -/
theorem frame_run : θ_run defs (onTc (τ := τ) (main (F := Ideal))) ⟨m, fun _ => 0, ρ⟩ (fun r => (∀ c : Dev nD,
r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14)) ∧ r.2.sem = fun _ => 0) :=
  (θ_run defs _ _).mono (fun r h => ⟨fun c => ⟨((h.1 c).1 0).trans (((dats m 0 c).arrAt_in 0 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c)⟩, h.2⟩) (run_main m ρ)

/-- Every execution ends, the result array at the layer's rows and the arguments unchanged. -/
theorem value_run : θ_run defs (onTc (τ := τ) (main (F := Ideal))) ⟨m, fun _ => 0, ρ⟩ (fun r => ∀ c : Dev nD,
    r.2.mem ((c.tc : Thread nD τ).loc main_v26) = (fun i : S16x2048x1024.Idx => Out (I0 m c) (xsOf m c (i 0).val) (i 1).val (i 2))
    ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14)) :=
  (θ_run defs _ _).mono (fun r h c => ⟨((h.2.1 c).1 15).trans (final m c), h.1.1 c⟩) (θ_run_and (frame_run m ρ) (run_main m ρ))

end Cert.KernelIdeal.RunV

end
-- ==== Proof.Ref.lean ====
/-
  The reference program's run: `main` is a straight line of array operations, split here into the stages of the
  computation; every buffer ends at the operations' results folded over the launch contents, and no argument is written.
-/
module

public import proofs.«01_k».proof.ReferenceIdeal
public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

/-- An array's contents. -/
abbrev C (F : FTy → Type) (S : Shape) (e : EltTy) : Type := (⟨S, e⟩ : BufTy).Contents (Elt F)

variable {F : FTy → Type} [FloatOps F]

/-- Stage 0. -/
abbrev st0 : List (HloOp τ sig (Elt F)) :=
  [ reshape main_arg1 main_v0 (rfl : (.f32 : EltTy) = .f32) shapeCasts_S1x1024_S1024,
    binary main_arg0 main_arg0 main_v1 (mulf : C F S16x2048x1024 .f32 → C F S16x2048x1024 .f32 → C F S16x2048x1024 .f32),
    nullary main_cst (constant S_ .f32 0x00000000#32),
    binary main_v1 main_cst main_v2 ((fun x v => Host.reduceAdd x v reducesTo_S16x2048x1024_S16x2048_d2 h_S_) : C F S16x2048x1024 .f32 → C F S_ .f32 → C F S16x2048 .f32),
    unary main_v2 main_v3 (broadcastInDim S16x2048x1 ![0, 1] bcast_S16x2048_S16x2048x1_0_1 : C F S16x2048 .f32 → C F S16x2048x1 .f32),
    nullary main_cst_0 (constant S_ .f32 0x44800000#32),
    unary main_cst_0 main_v4 (broadcastInDim S16x2048x1 ![] bcast_S_S16x2048x1 : C F S_ .f32 → C F S16x2048x1 .f32),
    binary main_v3 main_v4 main_v5 (Host.divf : C F S16x2048x1 .f32 → C F S16x2048x1 .f32 → C F S16x2048x1 .f32),
    nullary main_cst_1 (constant S_ .f32 0x358637BD#32),
    unary main_cst_1 main_v6 (broadcastInDim S16x2048x1 ![] bcast_S_S16x2048x1 : C F S_ .f32 → C F S16x2048x1 .f32),
    binary main_v5 main_v6 main_v7 (addf : C F S16x2048x1 .f32 → C F S16x2048x1 .f32 → C F S16x2048x1 .f32),
    unary main_v7 main_v8 (Host.rsqrt : C F S16x2048x1 .f32 → C F S16x2048x1 .f32),
    unary main_v8 main_v9 (broadcastInDim S16x2048x1024 ![0, 1, 2] bcast_S16x2048x1_S16x2048x1024_0_1_2 : C F S16x2048x1 .f32 → C F S16x2048x1024 .f32),
    binary main_arg0 main_v9 main_v10 (mulf : C F S16x2048x1024 .f32 → C F S16x2048x1024 .f32 → C F S16x2048x1024 .f32),
    unary main_v0 main_v11 (broadcastInDim S1x1x1024 ![2] bcast_S1024_S1x1x1024_2 : C F S1024 .f32 → C F S1x1x1024 .f32),
    unary main_v11 main_v12 (broadcastInDim S16x2048x1024 ![0, 1, 2] bcast_S1x1x1024_S16x2048x1024_0_1_2 : C F S1x1x1024 .f32 → C F S16x2048x1024 .f32),
    binary main_v10 main_v12 main_v13 (mulf : C F S16x2048x1024 .f32 → C F S16x2048x1024 .f32 → C F S16x2048x1024 .f32) ]

/-- The buffers stage 0 writes. -/
abbrev wr0 : List (Ref sig .tc) :=
  [main_v0, main_v1, main_cst, main_v2, main_v3, main_cst_0, main_v4, main_v5, main_cst_1, main_v6, main_v7, main_v8, main_v9, main_v10, main_v11, main_v12, main_v13]

theorem wr0_eq : (st0 : List (HloOp τ sig (Elt F))).Forall fun op => op.writes ⊆ (wr0.map (Proc.devRef (τ := τ) .tc)).toFinset :=
  forall_writes_sub_of_map rfl

theorem sub0 : (st0 : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

theorem fresh0 : ∀ op ∈ (st0 : List (HloOp τ sig (Elt F))), op.fresh = ∅ :=
  List.forall_iff_forall_mem.mp (forall_fresh_of_map rfl)

/-- Stage 1. -/
abbrev st1 : List (HloOp τ sig (Elt F)) :=
  [ reshape main_arg2 main_v14 (rfl : (.f32 : EltTy) = .f32) shapeCasts_S1x1024x7168_S1024x7168,
    binary main_v13 main_v14 main_v15 ((fun l r => Host.dotGeneral dot_S16x2048x1024_S1024x7168_S16x2048x7168_2_0_01_1_n_n none l r) : C F S16x2048x1024 .f32 → C F S1024x7168 .f32 → C F S16x2048x7168 .f32),
    reshape main_arg3 main_v16 (rfl : (.f32 : EltTy) = .f32) shapeCasts_S1x7168_S7168,
    unary main_v16 main_v17 (broadcastInDim S1x1x7168 ![2] bcast_S7168_S1x1x7168_2 : C F S7168 .f32 → C F S1x1x7168 .f32),
    unary main_v17 main_v18 (broadcastInDim S16x2048x7168 ![0, 1, 2] bcast_S1x1x7168_S16x2048x7168_0_1_2 : C F S1x1x7168 .f32 → C F S16x2048x7168 .f32),
    binary main_v15 main_v18 main_v19 (addf : C F S16x2048x7168 .f32 → C F S16x2048x7168 .f32 → C F S16x2048x7168 .f32) ]

/-- The buffers stage 1 writes. -/
abbrev wr1 : List (Ref sig .tc) :=
  [main_v14, main_v15, main_v16, main_v17, main_v18, main_v19]

theorem wr1_eq : (st1 : List (HloOp τ sig (Elt F))).Forall fun op => op.writes ⊆ (wr1.map (Proc.devRef (τ := τ) .tc)).toFinset :=
  forall_writes_sub_of_map rfl

theorem sub1 : (st1 : List (HloOp τ sig (Elt F))).Forall fun op => op.bufs ⊆ tcRefs τ sig :=
  ⟨reshape_bufs_sub .., binary_bufs_sub .., reshape_bufs_sub .., unary_bufs_sub .., unary_bufs_sub .., binary_bufs_sub ..⟩

theorem fresh1 : ∀ op ∈ (st1 : List (HloOp τ sig (Elt F))), op.fresh = ∅ :=
  List.forall_iff_forall_mem.mp (forall_fresh_of_map rfl)

/-- Stage 2. -/
abbrev st2 : List (HloOp τ sig (Elt F)) :=
  [ unary main_v19 main_v20 ((extractStridedSlice S16x2048x1024 ![0, 0, 0] · slices_S16x2048x7168_S16x2048x1024_0_0_0) : C F S16x2048x7168 .f32 → C F S16x2048x1024 .f32),
    unary main_v19 main_v21 ((extractStridedSlice S16x2048x1024 ![0, 0, 1024] · slices_S16x2048x7168_S16x2048x1024_0_0_1024) : C F S16x2048x7168 .f32 → C F S16x2048x1024 .f32),
    unary main_v19 main_v22 ((extractStridedSlice S16x2048x1024 ![0, 0, 2048] · slices_S16x2048x7168_S16x2048x1024_0_0_2048) : C F S16x2048x7168 .f32 → C F S16x2048x1024 .f32),
    unary main_v19 main_v23 ((extractStridedSlice S16x2048x1024 ![0, 0, 3072] · slices_S16x2048x7168_S16x2048x1024_0_0_3072) : C F S16x2048x7168 .f32 → C F S16x2048x1024 .f32),
    unary main_v19 main_v24 ((extractStridedSlice S16x2048x1024 ![0, 0, 4096] · slices_S16x2048x7168_S16x2048x1024_0_0_4096) : C F S16x2048x7168 .f32 → C F S16x2048x1024 .f32),
    unary main_v19 main_v25 ((extractStridedSlice S16x2048x1024 ![0, 0, 5120] · slices_S16x2048x7168_S16x2048x1024_0_0_5120) : C F S16x2048x7168 .f32 → C F S16x2048x1024 .f32),
    unary main_v19 main_v26 ((extractStridedSlice S16x2048x1024 ![0, 0, 6144] · slices_S16x2048x7168_S16x2048x1024_0_0_6144) : C F S16x2048x7168 .f32 → C F S16x2048x1024 .f32),
    unary main_v21 main_v27 (Host.negf : C F S16x2048x1024 .f32 → C F S16x2048x1024 .f32),
    unary main_v27 main_v28 (Host.exp : C F S16x2048x1024 .f32 → C F S16x2048x1024 .f32),
    nullary main_cst_2 (constant S_ .f32 0x3F800000#32),
    unary main_cst_2 main_v29 (broadcastInDim S16x2048x1024 ![] bcast_S_S16x2048x1024 : C F S_ .f32 → C F S16x2048x1024 .f32),
    binary main_v29 main_v28 main_v30 (addf : C F S16x2048x1024 .f32 → C F S16x2048x1024 .f32 → C F S16x2048x1024 .f32),
    nullary main_cst_3 (constant S_ .f32 0x3F800000#32),
    unary main_cst_3 main_v31 (broadcastInDim S16x2048x1024 ![] bcast_S_S16x2048x1024 : C F S_ .f32 → C F S16x2048x1024 .f32),
    binary main_v31 main_v30 main_v32 (Host.divf : C F S16x2048x1024 .f32 → C F S16x2048x1024 .f32 → C F S16x2048x1024 .f32),
    binary main_v20 main_v32 main_v33 (mulf : C F S16x2048x1024 .f32 → C F S16x2048x1024 .f32 → C F S16x2048x1024 .f32) ]

/-- The buffers stage 2 writes. -/
abbrev wr2 : List (Ref sig .tc) :=
  [main_v20, main_v21, main_v22, main_v23, main_v24, main_v25, main_v26, main_v27, main_v28, main_cst_2, main_v29, main_v30, main_cst_3, main_v31, main_v32, main_v33]

theorem wr2_eq : (st2 : List (HloOp τ sig (Elt F))).Forall fun op => op.writes ⊆ (wr2.map (Proc.devRef (τ := τ) .tc)).toFinset :=
  forall_writes_sub_of_map rfl

theorem sub2 : (st2 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub ..⟩

theorem fresh2 : ∀ op ∈ (st2 : List (HloOp τ sig (Elt F))), op.fresh = ∅ :=
  List.forall_iff_forall_mem.mp (forall_fresh_of_map rfl)

/-- Stage 3. -/
abbrev st3 : List (HloOp τ sig (Elt F)) :=
  [ nullary main_c (constantI S_ 32 0#32),
    TRef.unary (.of main_c : StableHlo.TRef sig ⟨S_, .i32⟩) main_call0.v0 (sitofp .f32),
    TRef.binary (.of main_v33 : StableHlo.TRef sig ⟨S16x2048x1024, .f32⟩) main_call0.v0 main_call0.v1 (fun x v => pad S16x2078x1024 ![0, 30, 0] ![0, 0, 0] ![0, 0, 0] x v pads_S16x2048x1024_S16x2078x1024_000_3000_000 h_S_),
    nullary main_v35 (iotaInDim S2048 32 0),
    unary main_v35 main_v36 (broadcastInDim S2048x1 ![0] bcast_S2048_S2048x1_0 : C F S2048 .i32 → C F S2048x1 .i32),
    nullary main_v37 (iotaInDim S31 32 0),
    unary main_v37 main_v38 (broadcastInDim S1x31 ![1] bcast_S31_S1x31_1 : C F S31 .i32 → C F S1x31 .i32),
    unary main_v36 main_v39 (broadcastInDim S2048x31 ![0, 1] bcast_S2048x1_S2048x31_0_1 : C F S2048x1 .i32 → C F S2048x31 .i32),
    unary main_v38 main_v40 (broadcastInDim S2048x31 ![0, 1] bcast_S1x31_S2048x31_0_1 : C F S1x31 .i32 → C F S2048x31 .i32),
    binary main_v39 main_v40 main_v41 (addi : C F S2048x31 .i32 → C F S2048x31 .i32 → C F S2048x31 .i32),
    nullary main_c_4 (constantI S_ 32 0#32),
    unary main_c_4 main_v42 (broadcastInDim S2048x31 ![] bcast_S_S2048x31 : C F S_ .i32 → C F S2048x31 .i32),
    binary main_v41 main_v42 main_v43 (cmpi .slt : C F S2048x31 .i32 → C F S2048x31 .i32 → C F S2048x31 .i1),
    nullary main_c_5 (constantI S_ 32 2078#32),
    unary main_c_5 main_v44 (broadcastInDim S2048x31 ![] bcast_S_S2048x31 : C F S_ .i32 → C F S2048x31 .i32),
    binary main_v41 main_v44 main_v45 (addi : C F S2048x31 .i32 → C F S2048x31 .i32 → C F S2048x31 .i32),
    ternary main_v43 main_v45 main_v41 main_v46 (select : C F S2048x31 .i1 → C F S2048x31 .i32 → C F S2048x31 .i32 → C F S2048x31 .i32),
    unary main_v46 main_v47 (broadcastInDim S2048x31x1 ![0, 1] bcast_S2048x31_S2048x31x1_0_1 : C F S2048x31 .i32 → C F S2048x31x1 .i32),
    binary main_v34 main_v47 main_v48 ((fun x i => Host.gather gather_S16x2078x1024_S2048x31x1_S16x2048x31x1024_03_1_n_n_1_2_1611024 x i) : C F S16x2078x1024 .f32 → C F S2048x31x1 .i32 → C F S16x2048x31x1024 .f32),
    reshape main_arg4 main_v49 (rfl : (.f32 : EltTy) = .f32) shapeCasts_S1x31x1024_S31x1024,
    unary main_v49 main_v50 (broadcastInDim S1x1x31x1024 ![2, 3] bcast_S31x1024_S1x1x31x1024_2_3 : C F S31x1024 .f32 → C F S1x1x31x1024 .f32),
    unary main_v50 main_v51 (broadcastInDim S16x2048x31x1024 ![0, 1, 2, 3] bcast_S1x1x31x1024_S16x2048x31x1024_0_1_2_3 : C F S1x1x31x1024 .f32 → C F S16x2048x31x1024 .f32),
    binary main_v48 main_v51 main_v52 (mulf : C F S16x2048x31x1024 .f32 → C F S16x2048x31x1024 .f32 → C F S16x2048x31x1024 .f32),
    nullary main_cst_6 (constant S_ .f32 0x00000000#32),
    binary main_v52 main_cst_6 main_v53 ((fun x v => Host.reduceAdd x v reducesTo_S16x2048x31x1024_S16x2048x1024_d2 h_S_) : C F S16x2048x31x1024 .f32 → C F S_ .f32 → C F S16x2048x1024 .f32),
    reshape main_arg5 main_v54 (rfl : (.f32 : EltTy) = .f32) shapeCasts_S1x1024_S1024,
    unary main_v54 main_v55 (broadcastInDim S1x1x1024 ![2] bcast_S1024_S1x1x1024_2 : C F S1024 .f32 → C F S1x1x1024 .f32),
    unary main_v55 main_v56 (broadcastInDim S16x2048x1024 ![0, 1, 2] bcast_S1x1x1024_S16x2048x1024_0_1_2 : C F S1x1x1024 .f32 → C F S16x2048x1024 .f32),
    binary main_v53 main_v56 main_v57 (addf : C F S16x2048x1024 .f32 → C F S16x2048x1024 .f32 → C F S16x2048x1024 .f32) ]

/-- The buffers stage 3 writes. -/
abbrev wr3 : List (Ref sig .tc) :=
  [main_c, main_call0.v0.ref, main_call0.v1.ref, main_v35, main_v36, main_v37, main_v38, main_v39, main_v40, main_v41, main_c_4, main_v42, main_v43, main_c_5, main_v44, main_v45, main_v46, main_v47, main_v48, main_v49, main_v50, main_v51, main_v52, main_cst_6, main_v53, main_v54, main_v55, main_v56, main_v57]

theorem wr3_eq : (st3 : List (HloOp τ sig (Elt F))).Forall fun op => op.writes ⊆ (wr3.map (Proc.devRef (τ := τ) .tc)).toFinset :=
  forall_writes_sub_of_map rfl

theorem sub3 : (st3 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., nullary_bufs_sub .., binary_bufs_sub .., reshape_bufs_sub .., unary_bufs_sub .., unary_bufs_sub .., binary_bufs_sub ..⟩

theorem fresh3 : ∀ op ∈ (st3 : List (HloOp τ sig (Elt F))), op.fresh = ∅ :=
  List.forall_iff_forall_mem.mp (forall_fresh_of_map rfl)

/-- Stage 4. -/
abbrev st4 : List (HloOp τ sig (Elt F)) :=
  [ nullary main_cst_7 (constant S_ .f32 0x00000000#32),
    binary main_v57 main_cst_7 main_v58 ((fun x v => Host.reduceAdd x v reducesTo_S16x2048x1024_S16x2048_d2 h_S_) : C F S16x2048x1024 .f32 → C F S_ .f32 → C F S16x2048 .f32),
    unary main_v58 main_v59 (broadcastInDim S16x2048x1 ![0, 1] bcast_S16x2048_S16x2048x1_0_1 : C F S16x2048 .f32 → C F S16x2048x1 .f32),
    nullary main_cst_8 (constant S_ .f32 0x44800000#32),
    unary main_cst_8 main_v60 (broadcastInDim S16x2048x1 ![] bcast_S_S16x2048x1 : C F S_ .f32 → C F S16x2048x1 .f32),
    binary main_v59 main_v60 main_v61 (Host.divf : C F S16x2048x1 .f32 → C F S16x2048x1 .f32 → C F S16x2048x1 .f32),
    unary main_v61 main_v62 (broadcastInDim S16x2048x1024 ![0, 1, 2] bcast_S16x2048x1_S16x2048x1024_0_1_2 : C F S16x2048x1 .f32 → C F S16x2048x1024 .f32),
    binary main_v57 main_v62 main_v63 (subf : C F S16x2048x1024 .f32 → C F S16x2048x1024 .f32 → C F S16x2048x1024 .f32),
    binary main_v63 main_v63 main_v64 (mulf : C F S16x2048x1024 .f32 → C F S16x2048x1024 .f32 → C F S16x2048x1024 .f32),
    nullary main_cst_9 (constant S_ .f32 0x00000000#32),
    binary main_v64 main_cst_9 main_v65 ((fun x v => Host.reduceAdd x v reducesTo_S16x2048x1024_S16x2048_d2 h_S_) : C F S16x2048x1024 .f32 → C F S_ .f32 → C F S16x2048 .f32),
    unary main_v65 main_v66 (broadcastInDim S16x2048x1 ![0, 1] bcast_S16x2048_S16x2048x1_0_1 : C F S16x2048 .f32 → C F S16x2048x1 .f32),
    nullary main_cst_10 (constant S_ .f32 0x44800000#32),
    unary main_cst_10 main_v67 (broadcastInDim S16x2048x1 ![] bcast_S_S16x2048x1 : C F S_ .f32 → C F S16x2048x1 .f32),
    binary main_v66 main_v67 main_v68 (Host.divf : C F S16x2048x1 .f32 → C F S16x2048x1 .f32 → C F S16x2048x1 .f32),
    unary main_v61 main_v69 (broadcastInDim S16x2048x1024 ![0, 1, 2] bcast_S16x2048x1_S16x2048x1024_0_1_2 : C F S16x2048x1 .f32 → C F S16x2048x1024 .f32),
    binary main_v57 main_v69 main_v70 (subf : C F S16x2048x1024 .f32 → C F S16x2048x1024 .f32 → C F S16x2048x1024 .f32),
    nullary main_cst_11 (constant S_ .f32 0x358637BD#32),
    unary main_cst_11 main_v71 (broadcastInDim S16x2048x1 ![] bcast_S_S16x2048x1 : C F S_ .f32 → C F S16x2048x1 .f32),
    binary main_v68 main_v71 main_v72 (addf : C F S16x2048x1 .f32 → C F S16x2048x1 .f32 → C F S16x2048x1 .f32),
    unary main_v72 main_v73 (Host.rsqrt : C F S16x2048x1 .f32 → C F S16x2048x1 .f32),
    unary main_v73 main_v74 (broadcastInDim S16x2048x1024 ![0, 1, 2] bcast_S16x2048x1_S16x2048x1024_0_1_2 : C F S16x2048x1 .f32 → C F S16x2048x1024 .f32),
    binary main_v70 main_v74 main_v75 (mulf : C F S16x2048x1024 .f32 → C F S16x2048x1024 .f32 → C F S16x2048x1024 .f32),
    reshape main_arg6 main_v76 (rfl : (.f32 : EltTy) = .f32) shapeCasts_S1x1024_S1024,
    unary main_v76 main_v77 (broadcastInDim S1x1x1024 ![2] bcast_S1024_S1x1x1024_2 : C F S1024 .f32 → C F S1x1x1024 .f32),
    unary main_v77 main_v78 (broadcastInDim S16x2048x1024 ![0, 1, 2] bcast_S1x1x1024_S16x2048x1024_0_1_2 : C F S1x1x1024 .f32 → C F S16x2048x1024 .f32),
    binary main_v75 main_v78 main_v79 (mulf : C F S16x2048x1024 .f32 → C F S16x2048x1024 .f32 → C F S16x2048x1024 .f32),
    reshape main_arg7 main_v80 (rfl : (.f32 : EltTy) = .f32) shapeCasts_S1x1024_S1024,
    unary main_v80 main_v81 (broadcastInDim S1x1x1024 ![2] bcast_S1024_S1x1x1024_2 : C F S1024 .f32 → C F S1x1x1024 .f32),
    unary main_v81 main_v82 (broadcastInDim S16x2048x1024 ![0, 1, 2] bcast_S1x1x1024_S16x2048x1024_0_1_2 : C F S1x1x1024 .f32 → C F S16x2048x1024 .f32),
    binary main_v79 main_v82 main_v83 (addf : C F S16x2048x1024 .f32 → C F S16x2048x1024 .f32 → C F S16x2048x1024 .f32) ]

/-- The buffers stage 4 writes. -/
abbrev wr4 : List (Ref sig .tc) :=
  [main_cst_7, main_v58, main_v59, main_cst_8, main_v60, main_v61, main_v62, main_v63, main_v64, main_cst_9, main_v65, main_v66, main_cst_10, main_v67, main_v68, main_v69, main_v70, main_cst_11, main_v71, main_v72, main_v73, main_v74, main_v75, main_v76, main_v77, main_v78, main_v79, main_v80, main_v81, main_v82, main_v83]

theorem wr4_eq : (st4 : List (HloOp τ sig (Elt F))).Forall fun op => op.writes ⊆ (wr4.map (Proc.devRef (τ := τ) .tc)).toFinset :=
  forall_writes_sub_of_map rfl

theorem sub4 : (st4 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., reshape_bufs_sub .., unary_bufs_sub .., unary_bufs_sub .., binary_bufs_sub ..⟩

theorem fresh4 : ∀ op ∈ (st4 : List (HloOp τ sig (Elt F))), op.fresh = ∅ :=
  List.forall_iff_forall_mem.mp (forall_fresh_of_map rfl)

/-- Stage 5. -/
abbrev st5 : List (HloOp τ sig (Elt F)) :=
  [ TRef.unary (.of main_v83 : StableHlo.TRef sig ⟨S16x2048x1024, .f32⟩) main_call1.v0 Host.negf,
    TRef.unary main_call1.v0 main_call1.v1 Host.exp,
    TRef.nullary main_call1.cst (constant S_ .f32 0x3F800000#32),
    TRef.unary main_call1.cst main_call1.v2 (broadcastInDim S16x2048x1024 ![] bcast_S_S16x2048x1024),
    TRef.binary main_call1.v2 main_call1.v1 main_call1.v3 addf,
    TRef.nullary main_call1.cst_0 (constant S_ .f32 0x3F800000#32),
    TRef.unary main_call1.cst_0 main_call1.v4 (broadcastInDim S16x2048x1024 ![] bcast_S_S16x2048x1024),
    TRef.binary main_call1.v4 main_call1.v3 main_call1.v5 Host.divf,
    TRef.binary (.of main_v83 : StableHlo.TRef sig ⟨S16x2048x1024, .f32⟩) main_call1.v5 main_call1.v6 mulf,
    TRef.unary (.of main_v22 : StableHlo.TRef sig ⟨S16x2048x1024, .f32⟩) main_call2.v0 Host.negf,
    TRef.unary main_call2.v0 main_call2.v1 Host.exp,
    TRef.nullary main_call2.cst (constant S_ .f32 0x3F800000#32),
    TRef.unary main_call2.cst main_call2.v2 (broadcastInDim S16x2048x1024 ![] bcast_S_S16x2048x1024),
    TRef.binary main_call2.v2 main_call2.v1 main_call2.v3 addf,
    TRef.nullary main_call2.cst_0 (constant S_ .f32 0x3F800000#32),
    TRef.unary main_call2.cst_0 main_call2.v4 (broadcastInDim S16x2048x1024 ![] bcast_S_S16x2048x1024),
    TRef.binary main_call2.v4 main_call2.v3 main_call2.v5 Host.divf,
    TRef.binary (.of main_v22 : StableHlo.TRef sig ⟨S16x2048x1024, .f32⟩) main_call2.v5 main_call2.v6 mulf,
    binary main_v84 main_v85 main_v86 (mulf : C F S16x2048x1024 .f32 → C F S16x2048x1024 .f32 → C F S16x2048x1024 .f32),
    reshape main_arg8 main_v87 (rfl : (.f32 : EltTy) = .f32) shapeCasts_S1x1024x1024_S1024x1024,
    binary main_v86 main_v87 main_v88 ((fun l r => Host.dotGeneral dot_S16x2048x1024_S1024x1024_S16x2048x1024_2_0_01_1_n_n none l r) : C F S16x2048x1024 .f32 → C F S1024x1024 .f32 → C F S16x2048x1024 .f32) ]

/-- The buffers stage 5 writes. -/
abbrev wr5 : List (Ref sig .tc) :=
  [main_call1.v0.ref, main_call1.v1.ref, main_call1.cst.ref, main_call1.v2.ref, main_call1.v3.ref, main_call1.cst_0.ref, main_call1.v4.ref, main_call1.v5.ref, main_call1.v6.ref, main_call2.v0.ref, main_call2.v1.ref, main_call2.cst.ref, main_call2.v2.ref, main_call2.v3.ref, main_call2.cst_0.ref, main_call2.v4.ref, main_call2.v5.ref, main_call2.v6.ref, main_v86, main_v87, main_v88]

theorem wr5_eq : (st5 : List (HloOp τ sig (Elt F))).Forall fun op => op.writes ⊆ (wr5.map (Proc.devRef (τ := τ) .tc)).toFinset :=
  forall_writes_sub_of_map rfl

theorem sub5 : (st5 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., binary_bufs_sub ..⟩

theorem fresh5 : ∀ op ∈ (st5 : List (HloOp τ sig (Elt F))), op.fresh = ∅ :=
  List.forall_iff_forall_mem.mp (forall_fresh_of_map rfl)

/-- Stage 6. -/
abbrev st6 : List (HloOp τ sig (Elt F)) :=
  [ unary main_v23 main_v89 ((extractStridedSlice S16x2048x256 ![0, 0, 0] · slices_S16x2048x1024_S16x2048x256_0_0_0) : C F S16x2048x1024 .f32 → C F S16x2048x256 .f32),
    nullary main_v90 (iotaInDim S2048 32 0),
    nullary main_c_12 (constantI S_ 32 1#32),
    unary main_c_12 main_v91 (broadcastInDim S2048 ![] bcast_S_S2048 : C F S_ .i32 → C F S2048 .i32),
    binary main_v91 main_v90 main_v92 (addi : C F S2048 .i32 → C F S2048 .i32 → C F S2048 .i32),
    nullary main_c_13 (constantI S_ 32 2#32),
    unary main_c_13 main_v93 (broadcastInDim S2048 ![] bcast_S_S2048 : C F S_ .i32 → C F S2048 .i32),
    binary main_v92 main_v93 main_v94 (minsi : C F S2048 .i32 → C F S2048 .i32 → C F S2048 .i32),
    unary main_v94 main_v95 (sitofp .f32 : C F S2048 .i32 → C F S2048 .f32),
    unary main_v95 main_v96 (broadcastInDim S1x2048x1 ![1] bcast_S2048_S1x2048x1_1 : C F S2048 .f32 → C F S1x2048x1 .f32),
    nullary main_c_14 (constantI S_ 32 0#32),
    TRef.unary (.of main_c_14 : StableHlo.TRef sig ⟨S_, .i32⟩) main_call3.v0 (sitofp .f32),
    TRef.binary (.of main_v89 : StableHlo.TRef sig ⟨S16x2048x256, .f32⟩) main_call3.v0 main_call3.v1 (fun x v => pad S16x2049x256 ![0, 1, 0] ![0, 0, 0] ![0, 0, 0] x v pads_S16x2048x256_S16x2049x256_000_100_000 h_S_),
    nullary main_v98 (iotaInDim S2048 32 0),
    unary main_v98 main_v99 (broadcastInDim S2048x1 ![0] bcast_S2048_S2048x1_0 : C F S2048 .i32 → C F S2048x1 .i32),
    nullary main_v100 (iotaInDim S2 32 0),
    unary main_v100 main_v101 (broadcastInDim S1x2 ![1] bcast_S2_S1x2_1 : C F S2 .i32 → C F S1x2 .i32),
    unary main_v99 main_v102 (broadcastInDim S2048x2 ![0, 1] bcast_S2048x1_S2048x2_0_1 : C F S2048x1 .i32 → C F S2048x2 .i32),
    unary main_v101 main_v103 (broadcastInDim S2048x2 ![0, 1] bcast_S1x2_S2048x2_0_1 : C F S1x2 .i32 → C F S2048x2 .i32),
    binary main_v102 main_v103 main_v104 (addi : C F S2048x2 .i32 → C F S2048x2 .i32 → C F S2048x2 .i32),
    nullary main_c_15 (constantI S_ 32 0#32),
    unary main_c_15 main_v105 (broadcastInDim S2048x2 ![] bcast_S_S2048x2 : C F S_ .i32 → C F S2048x2 .i32),
    binary main_v104 main_v105 main_v106 (cmpi .slt : C F S2048x2 .i32 → C F S2048x2 .i32 → C F S2048x2 .i1),
    nullary main_c_16 (constantI S_ 32 2049#32),
    unary main_c_16 main_v107 (broadcastInDim S2048x2 ![] bcast_S_S2048x2 : C F S_ .i32 → C F S2048x2 .i32),
    binary main_v104 main_v107 main_v108 (addi : C F S2048x2 .i32 → C F S2048x2 .i32 → C F S2048x2 .i32),
    ternary main_v106 main_v108 main_v104 main_v109 (select : C F S2048x2 .i1 → C F S2048x2 .i32 → C F S2048x2 .i32 → C F S2048x2 .i32),
    unary main_v109 main_v110 (broadcastInDim S2048x2x1 ![0, 1] bcast_S2048x2_S2048x2x1_0_1 : C F S2048x2 .i32 → C F S2048x2x1 .i32),
    binary main_v97 main_v110 main_v111 ((fun x i => Host.gather gather_S16x2049x256_S2048x2x1_S16x2048x2x256_03_1_n_n_1_2_161256 x i) : C F S16x2049x256 .f32 → C F S2048x2x1 .i32 → C F S16x2048x2x256 .f32),
    nullary main_cst_17 (constant S_ .f32 0x00000000#32),
    binary main_v111 main_cst_17 main_v112 ((fun x v => Host.reduceAdd x v reducesTo_S16x2048x2x256_S16x2048x256_d2 h_S_) : C F S16x2048x2x256 .f32 → C F S_ .f32 → C F S16x2048x256 .f32),
    unary main_v96 main_v113 (broadcastInDim S16x2048x256 ![0, 1, 2] bcast_S1x2048x1_S16x2048x256_0_1_2 : C F S1x2048x1 .f32 → C F S16x2048x256 .f32),
    binary main_v112 main_v113 main_v114 (Host.divf : C F S16x2048x256 .f32 → C F S16x2048x256 .f32 → C F S16x2048x256 .f32),
    binary main_v114 main_v89 main_v115 (subf : C F S16x2048x256 .f32 → C F S16x2048x256 .f32 → C F S16x2048x256 .f32),
    unary main_arg9 main_v116 ((extractStridedSlice S1x1x256x256 ![0, 0, 0, 0] · slices_S1x4x256x256_S1x1x256x256_0_0_0_0) : C F S1x4x256x256 .f32 → C F S1x1x256x256 .f32),
    reshape main_v116 main_v117 (rfl : (.f32 : EltTy) = .f32) shapeCasts_S1x1x256x256_S256x256,
    binary main_v115 main_v117 main_v118 ((fun l r => Host.dotGeneral dot_S16x2048x256_S256x256_S16x2048x256_2_0_01_1_n_n none l r) : C F S16x2048x256 .f32 → C F S256x256 .f32 → C F S16x2048x256 .f32),
    unary main_arg10 main_v119 ((extractStridedSlice S1x1x256 ![0, 0, 0] · slices_S1x4x256_S1x1x256_0_0_0) : C F S1x4x256 .f32 → C F S1x1x256 .f32),
    reshape main_v119 main_v120 (rfl : (.f32 : EltTy) = .f32) shapeCasts_S1x1x256_S256,
    unary main_v120 main_v121 (broadcastInDim S1x1x256 ![2] bcast_S256_S1x1x256_2 : C F S256 .f32 → C F S1x1x256 .f32),
    unary main_v121 main_v122 (broadcastInDim S16x2048x256 ![0, 1, 2] bcast_S1x1x256_S16x2048x256_0_1_2 : C F S1x1x256 .f32 → C F S16x2048x256 .f32),
    binary main_v118 main_v122 main_v123 (addf : C F S16x2048x256 .f32 → C F S16x2048x256 .f32 → C F S16x2048x256 .f32) ]

/-- The buffers stage 6 writes. -/
abbrev wr6 : List (Ref sig .tc) :=
  [main_v89, main_v90, main_c_12, main_v91, main_v92, main_c_13, main_v93, main_v94, main_v95, main_v96, main_c_14, main_call3.v0.ref, main_call3.v1.ref, main_v98, main_v99, main_v100, main_v101, main_v102, main_v103, main_v104, main_c_15, main_v105, main_v106, main_c_16, main_v107, main_v108, main_v109, main_v110, main_v111, main_cst_17, main_v112, main_v113, main_v114, main_v115, main_v116, main_v117, main_v118, main_v119, main_v120, main_v121, main_v122, main_v123]

theorem wr6_eq : (st6 : List (HloOp τ sig (Elt F))).Forall fun op => op.writes ⊆ (wr6.map (Proc.devRef (τ := τ) .tc)).toFinset :=
  forall_writes_sub_of_map rfl

theorem sub6 : (st6 : List (HloOp τ sig (Elt F))).Forall fun op => op.bufs ⊆ tcRefs τ sig :=
  ⟨unary_bufs_sub .., nullary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩

theorem fresh6 : ∀ op ∈ (st6 : List (HloOp τ sig (Elt F))), op.fresh = ∅ :=
  List.forall_iff_forall_mem.mp (forall_fresh_of_map rfl)

/-- Stage 7. -/
abbrev st7 : List (HloOp τ sig (Elt F)) :=
  [ unary main_v23 main_v124 ((extractStridedSlice S16x2048x256 ![0, 0, 256] · slices_S16x2048x1024_S16x2048x256_0_0_256) : C F S16x2048x1024 .f32 → C F S16x2048x256 .f32),
    nullary main_v125 (iotaInDim S2048 32 0),
    nullary main_c_18 (constantI S_ 32 1#32),
    unary main_c_18 main_v126 (broadcastInDim S2048 ![] bcast_S_S2048 : C F S_ .i32 → C F S2048 .i32),
    binary main_v126 main_v125 main_v127 (addi : C F S2048 .i32 → C F S2048 .i32 → C F S2048 .i32),
    nullary main_c_19 (constantI S_ 32 4#32),
    unary main_c_19 main_v128 (broadcastInDim S2048 ![] bcast_S_S2048 : C F S_ .i32 → C F S2048 .i32),
    binary main_v127 main_v128 main_v129 (minsi : C F S2048 .i32 → C F S2048 .i32 → C F S2048 .i32),
    unary main_v129 main_v130 (sitofp .f32 : C F S2048 .i32 → C F S2048 .f32),
    unary main_v130 main_v131 (broadcastInDim S1x2048x1 ![1] bcast_S2048_S1x2048x1_1 : C F S2048 .f32 → C F S1x2048x1 .f32),
    nullary main_c_20 (constantI S_ 32 0#32),
    TRef.unary (.of main_c_20 : StableHlo.TRef sig ⟨S_, .i32⟩) main_call4.v0 (sitofp .f32),
    TRef.binary (.of main_v124 : StableHlo.TRef sig ⟨S16x2048x256, .f32⟩) main_call4.v0 main_call4.v1 (fun x v => pad S16x2051x256 ![0, 3, 0] ![0, 0, 0] ![0, 0, 0] x v pads_S16x2048x256_S16x2051x256_000_300_000 h_S_),
    nullary main_v133 (iotaInDim S2048 32 0),
    unary main_v133 main_v134 (broadcastInDim S2048x1 ![0] bcast_S2048_S2048x1_0 : C F S2048 .i32 → C F S2048x1 .i32),
    nullary main_v135 (iotaInDim S4 32 0),
    unary main_v135 main_v136 (broadcastInDim S1x4 ![1] bcast_S4_S1x4_1 : C F S4 .i32 → C F S1x4 .i32),
    unary main_v134 main_v137 (broadcastInDim S2048x4 ![0, 1] bcast_S2048x1_S2048x4_0_1 : C F S2048x1 .i32 → C F S2048x4 .i32),
    unary main_v136 main_v138 (broadcastInDim S2048x4 ![0, 1] bcast_S1x4_S2048x4_0_1 : C F S1x4 .i32 → C F S2048x4 .i32),
    binary main_v137 main_v138 main_v139 (addi : C F S2048x4 .i32 → C F S2048x4 .i32 → C F S2048x4 .i32),
    nullary main_c_21 (constantI S_ 32 0#32),
    unary main_c_21 main_v140 (broadcastInDim S2048x4 ![] bcast_S_S2048x4 : C F S_ .i32 → C F S2048x4 .i32),
    binary main_v139 main_v140 main_v141 (cmpi .slt : C F S2048x4 .i32 → C F S2048x4 .i32 → C F S2048x4 .i1),
    nullary main_c_22 (constantI S_ 32 2051#32),
    unary main_c_22 main_v142 (broadcastInDim S2048x4 ![] bcast_S_S2048x4 : C F S_ .i32 → C F S2048x4 .i32),
    binary main_v139 main_v142 main_v143 (addi : C F S2048x4 .i32 → C F S2048x4 .i32 → C F S2048x4 .i32),
    ternary main_v141 main_v143 main_v139 main_v144 (select : C F S2048x4 .i1 → C F S2048x4 .i32 → C F S2048x4 .i32 → C F S2048x4 .i32),
    unary main_v144 main_v145 (broadcastInDim S2048x4x1 ![0, 1] bcast_S2048x4_S2048x4x1_0_1 : C F S2048x4 .i32 → C F S2048x4x1 .i32),
    binary main_v132 main_v145 main_v146 ((fun x i => Host.gather gather_S16x2051x256_S2048x4x1_S16x2048x4x256_03_1_n_n_1_2_161256 x i) : C F S16x2051x256 .f32 → C F S2048x4x1 .i32 → C F S16x2048x4x256 .f32),
    nullary main_cst_23 (constant S_ .f32 0x00000000#32),
    binary main_v146 main_cst_23 main_v147 ((fun x v => Host.reduceAdd x v reducesTo_S16x2048x4x256_S16x2048x256_d2 h_S_) : C F S16x2048x4x256 .f32 → C F S_ .f32 → C F S16x2048x256 .f32),
    unary main_v131 main_v148 (broadcastInDim S16x2048x256 ![0, 1, 2] bcast_S1x2048x1_S16x2048x256_0_1_2 : C F S1x2048x1 .f32 → C F S16x2048x256 .f32),
    binary main_v147 main_v148 main_v149 (Host.divf : C F S16x2048x256 .f32 → C F S16x2048x256 .f32 → C F S16x2048x256 .f32),
    binary main_v149 main_v124 main_v150 (subf : C F S16x2048x256 .f32 → C F S16x2048x256 .f32 → C F S16x2048x256 .f32),
    unary main_arg9 main_v151 ((extractStridedSlice S1x1x256x256 ![0, 1, 0, 0] · slices_S1x4x256x256_S1x1x256x256_0_1_0_0) : C F S1x4x256x256 .f32 → C F S1x1x256x256 .f32),
    reshape main_v151 main_v152 (rfl : (.f32 : EltTy) = .f32) shapeCasts_S1x1x256x256_S256x256,
    binary main_v150 main_v152 main_v153 ((fun l r => Host.dotGeneral dot_S16x2048x256_S256x256_S16x2048x256_2_0_01_1_n_n none l r) : C F S16x2048x256 .f32 → C F S256x256 .f32 → C F S16x2048x256 .f32),
    unary main_arg10 main_v154 ((extractStridedSlice S1x1x256 ![0, 1, 0] · slices_S1x4x256_S1x1x256_0_1_0) : C F S1x4x256 .f32 → C F S1x1x256 .f32),
    reshape main_v154 main_v155 (rfl : (.f32 : EltTy) = .f32) shapeCasts_S1x1x256_S256,
    unary main_v155 main_v156 (broadcastInDim S1x1x256 ![2] bcast_S256_S1x1x256_2 : C F S256 .f32 → C F S1x1x256 .f32),
    unary main_v156 main_v157 (broadcastInDim S16x2048x256 ![0, 1, 2] bcast_S1x1x256_S16x2048x256_0_1_2 : C F S1x1x256 .f32 → C F S16x2048x256 .f32),
    binary main_v153 main_v157 main_v158 (addf : C F S16x2048x256 .f32 → C F S16x2048x256 .f32 → C F S16x2048x256 .f32) ]

/-- The buffers stage 7 writes. -/
abbrev wr7 : List (Ref sig .tc) :=
  [main_v124, main_v125, main_c_18, main_v126, main_v127, main_c_19, main_v128, main_v129, main_v130, main_v131, main_c_20, main_call4.v0.ref, main_call4.v1.ref, main_v133, main_v134, main_v135, main_v136, main_v137, main_v138, main_v139, main_c_21, main_v140, main_v141, main_c_22, main_v142, main_v143, main_v144, main_v145, main_v146, main_cst_23, main_v147, main_v148, main_v149, main_v150, main_v151, main_v152, main_v153, main_v154, main_v155, main_v156, main_v157, main_v158]

theorem wr7_eq : (st7 : List (HloOp τ sig (Elt F))).Forall fun op => op.writes ⊆ (wr7.map (Proc.devRef (τ := τ) .tc)).toFinset :=
  forall_writes_sub_of_map rfl

theorem sub7 : (st7 : List (HloOp τ sig (Elt F))).Forall fun op => op.bufs ⊆ tcRefs τ sig :=
  ⟨unary_bufs_sub .., nullary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩

theorem fresh7 : ∀ op ∈ (st7 : List (HloOp τ sig (Elt F))), op.fresh = ∅ :=
  List.forall_iff_forall_mem.mp (forall_fresh_of_map rfl)

/-- Stage 8. -/
abbrev st8 : List (HloOp τ sig (Elt F)) :=
  [ unary main_v23 main_v159 ((extractStridedSlice S16x2048x256 ![0, 0, 512] · slices_S16x2048x1024_S16x2048x256_0_0_512) : C F S16x2048x1024 .f32 → C F S16x2048x256 .f32),
    nullary main_v160 (iotaInDim S2048 32 0),
    nullary main_c_24 (constantI S_ 32 1#32),
    unary main_c_24 main_v161 (broadcastInDim S2048 ![] bcast_S_S2048 : C F S_ .i32 → C F S2048 .i32),
    binary main_v161 main_v160 main_v162 (addi : C F S2048 .i32 → C F S2048 .i32 → C F S2048 .i32),
    nullary main_c_25 (constantI S_ 32 8#32),
    unary main_c_25 main_v163 (broadcastInDim S2048 ![] bcast_S_S2048 : C F S_ .i32 → C F S2048 .i32),
    binary main_v162 main_v163 main_v164 (minsi : C F S2048 .i32 → C F S2048 .i32 → C F S2048 .i32),
    unary main_v164 main_v165 (sitofp .f32 : C F S2048 .i32 → C F S2048 .f32),
    unary main_v165 main_v166 (broadcastInDim S1x2048x1 ![1] bcast_S2048_S1x2048x1_1 : C F S2048 .f32 → C F S1x2048x1 .f32),
    nullary main_c_26 (constantI S_ 32 0#32),
    TRef.unary (.of main_c_26 : StableHlo.TRef sig ⟨S_, .i32⟩) main_call5.v0 (sitofp .f32),
    TRef.binary (.of main_v159 : StableHlo.TRef sig ⟨S16x2048x256, .f32⟩) main_call5.v0 main_call5.v1 (fun x v => pad S16x2055x256 ![0, 7, 0] ![0, 0, 0] ![0, 0, 0] x v pads_S16x2048x256_S16x2055x256_000_700_000 h_S_),
    nullary main_v168 (iotaInDim S2048 32 0),
    unary main_v168 main_v169 (broadcastInDim S2048x1 ![0] bcast_S2048_S2048x1_0 : C F S2048 .i32 → C F S2048x1 .i32),
    nullary main_v170 (iotaInDim S8 32 0),
    unary main_v170 main_v171 (broadcastInDim S1x8 ![1] bcast_S8_S1x8_1 : C F S8 .i32 → C F S1x8 .i32),
    unary main_v169 main_v172 (broadcastInDim S2048x8 ![0, 1] bcast_S2048x1_S2048x8_0_1 : C F S2048x1 .i32 → C F S2048x8 .i32),
    unary main_v171 main_v173 (broadcastInDim S2048x8 ![0, 1] bcast_S1x8_S2048x8_0_1 : C F S1x8 .i32 → C F S2048x8 .i32),
    binary main_v172 main_v173 main_v174 (addi : C F S2048x8 .i32 → C F S2048x8 .i32 → C F S2048x8 .i32),
    nullary main_c_27 (constantI S_ 32 0#32),
    unary main_c_27 main_v175 (broadcastInDim S2048x8 ![] bcast_S_S2048x8 : C F S_ .i32 → C F S2048x8 .i32),
    binary main_v174 main_v175 main_v176 (cmpi .slt : C F S2048x8 .i32 → C F S2048x8 .i32 → C F S2048x8 .i1),
    nullary main_c_28 (constantI S_ 32 2055#32),
    unary main_c_28 main_v177 (broadcastInDim S2048x8 ![] bcast_S_S2048x8 : C F S_ .i32 → C F S2048x8 .i32),
    binary main_v174 main_v177 main_v178 (addi : C F S2048x8 .i32 → C F S2048x8 .i32 → C F S2048x8 .i32),
    ternary main_v176 main_v178 main_v174 main_v179 (select : C F S2048x8 .i1 → C F S2048x8 .i32 → C F S2048x8 .i32 → C F S2048x8 .i32),
    unary main_v179 main_v180 (broadcastInDim S2048x8x1 ![0, 1] bcast_S2048x8_S2048x8x1_0_1 : C F S2048x8 .i32 → C F S2048x8x1 .i32),
    binary main_v167 main_v180 main_v181 ((fun x i => Host.gather gather_S16x2055x256_S2048x8x1_S16x2048x8x256_03_1_n_n_1_2_161256 x i) : C F S16x2055x256 .f32 → C F S2048x8x1 .i32 → C F S16x2048x8x256 .f32),
    nullary main_cst_29 (constant S_ .f32 0x00000000#32),
    binary main_v181 main_cst_29 main_v182 ((fun x v => Host.reduceAdd x v reducesTo_S16x2048x8x256_S16x2048x256_d2 h_S_) : C F S16x2048x8x256 .f32 → C F S_ .f32 → C F S16x2048x256 .f32),
    unary main_v166 main_v183 (broadcastInDim S16x2048x256 ![0, 1, 2] bcast_S1x2048x1_S16x2048x256_0_1_2 : C F S1x2048x1 .f32 → C F S16x2048x256 .f32),
    binary main_v182 main_v183 main_v184 (Host.divf : C F S16x2048x256 .f32 → C F S16x2048x256 .f32 → C F S16x2048x256 .f32),
    binary main_v184 main_v159 main_v185 (subf : C F S16x2048x256 .f32 → C F S16x2048x256 .f32 → C F S16x2048x256 .f32),
    unary main_arg9 main_v186 ((extractStridedSlice S1x1x256x256 ![0, 2, 0, 0] · slices_S1x4x256x256_S1x1x256x256_0_2_0_0) : C F S1x4x256x256 .f32 → C F S1x1x256x256 .f32),
    reshape main_v186 main_v187 (rfl : (.f32 : EltTy) = .f32) shapeCasts_S1x1x256x256_S256x256,
    binary main_v185 main_v187 main_v188 ((fun l r => Host.dotGeneral dot_S16x2048x256_S256x256_S16x2048x256_2_0_01_1_n_n none l r) : C F S16x2048x256 .f32 → C F S256x256 .f32 → C F S16x2048x256 .f32),
    unary main_arg10 main_v189 ((extractStridedSlice S1x1x256 ![0, 2, 0] · slices_S1x4x256_S1x1x256_0_2_0) : C F S1x4x256 .f32 → C F S1x1x256 .f32),
    reshape main_v189 main_v190 (rfl : (.f32 : EltTy) = .f32) shapeCasts_S1x1x256_S256,
    unary main_v190 main_v191 (broadcastInDim S1x1x256 ![2] bcast_S256_S1x1x256_2 : C F S256 .f32 → C F S1x1x256 .f32),
    unary main_v191 main_v192 (broadcastInDim S16x2048x256 ![0, 1, 2] bcast_S1x1x256_S16x2048x256_0_1_2 : C F S1x1x256 .f32 → C F S16x2048x256 .f32),
    binary main_v188 main_v192 main_v193 (addf : C F S16x2048x256 .f32 → C F S16x2048x256 .f32 → C F S16x2048x256 .f32) ]

/-- The buffers stage 8 writes. -/
abbrev wr8 : List (Ref sig .tc) :=
  [main_v159, main_v160, main_c_24, main_v161, main_v162, main_c_25, main_v163, main_v164, main_v165, main_v166, main_c_26, main_call5.v0.ref, main_call5.v1.ref, main_v168, main_v169, main_v170, main_v171, main_v172, main_v173, main_v174, main_c_27, main_v175, main_v176, main_c_28, main_v177, main_v178, main_v179, main_v180, main_v181, main_cst_29, main_v182, main_v183, main_v184, main_v185, main_v186, main_v187, main_v188, main_v189, main_v190, main_v191, main_v192, main_v193]

theorem wr8_eq : (st8 : List (HloOp τ sig (Elt F))).Forall fun op => op.writes ⊆ (wr8.map (Proc.devRef (τ := τ) .tc)).toFinset :=
  forall_writes_sub_of_map rfl

theorem sub8 : (st8 : List (HloOp τ sig (Elt F))).Forall fun op => op.bufs ⊆ tcRefs τ sig :=
  ⟨unary_bufs_sub .., nullary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩

theorem fresh8 : ∀ op ∈ (st8 : List (HloOp τ sig (Elt F))), op.fresh = ∅ :=
  List.forall_iff_forall_mem.mp (forall_fresh_of_map rfl)

/-- Stage 9. -/
abbrev st9 : List (HloOp τ sig (Elt F)) :=
  [ unary main_v23 main_v194 ((extractStridedSlice S16x2048x256 ![0, 0, 768] · slices_S16x2048x1024_S16x2048x256_0_0_768) : C F S16x2048x1024 .f32 → C F S16x2048x256 .f32),
    nullary main_v195 (iotaInDim S2048 32 0),
    nullary main_c_30 (constantI S_ 32 1#32),
    unary main_c_30 main_v196 (broadcastInDim S2048 ![] bcast_S_S2048 : C F S_ .i32 → C F S2048 .i32),
    binary main_v196 main_v195 main_v197 (addi : C F S2048 .i32 → C F S2048 .i32 → C F S2048 .i32),
    nullary main_c_31 (constantI S_ 32 16#32),
    unary main_c_31 main_v198 (broadcastInDim S2048 ![] bcast_S_S2048 : C F S_ .i32 → C F S2048 .i32),
    binary main_v197 main_v198 main_v199 (minsi : C F S2048 .i32 → C F S2048 .i32 → C F S2048 .i32),
    unary main_v199 main_v200 (sitofp .f32 : C F S2048 .i32 → C F S2048 .f32),
    unary main_v200 main_v201 (broadcastInDim S1x2048x1 ![1] bcast_S2048_S1x2048x1_1 : C F S2048 .f32 → C F S1x2048x1 .f32),
    nullary main_c_32 (constantI S_ 32 0#32),
    TRef.unary (.of main_c_32 : StableHlo.TRef sig ⟨S_, .i32⟩) main_call6.v0 (sitofp .f32),
    TRef.binary (.of main_v194 : StableHlo.TRef sig ⟨S16x2048x256, .f32⟩) main_call6.v0 main_call6.v1 (fun x v => pad S16x2063x256 ![0, 15, 0] ![0, 0, 0] ![0, 0, 0] x v pads_S16x2048x256_S16x2063x256_000_1500_000 h_S_),
    nullary main_v203 (iotaInDim S2048 32 0),
    unary main_v203 main_v204 (broadcastInDim S2048x1 ![0] bcast_S2048_S2048x1_0 : C F S2048 .i32 → C F S2048x1 .i32),
    nullary main_v205 (iotaInDim S16 32 0),
    unary main_v205 main_v206 (broadcastInDim S1x16 ![1] bcast_S16_S1x16_1 : C F S16 .i32 → C F S1x16 .i32),
    unary main_v204 main_v207 (broadcastInDim S2048x16 ![0, 1] bcast_S2048x1_S2048x16_0_1 : C F S2048x1 .i32 → C F S2048x16 .i32),
    unary main_v206 main_v208 (broadcastInDim S2048x16 ![0, 1] bcast_S1x16_S2048x16_0_1 : C F S1x16 .i32 → C F S2048x16 .i32),
    binary main_v207 main_v208 main_v209 (addi : C F S2048x16 .i32 → C F S2048x16 .i32 → C F S2048x16 .i32),
    nullary main_c_33 (constantI S_ 32 0#32),
    unary main_c_33 main_v210 (broadcastInDim S2048x16 ![] bcast_S_S2048x16 : C F S_ .i32 → C F S2048x16 .i32),
    binary main_v209 main_v210 main_v211 (cmpi .slt : C F S2048x16 .i32 → C F S2048x16 .i32 → C F S2048x16 .i1),
    nullary main_c_34 (constantI S_ 32 2063#32),
    unary main_c_34 main_v212 (broadcastInDim S2048x16 ![] bcast_S_S2048x16 : C F S_ .i32 → C F S2048x16 .i32),
    binary main_v209 main_v212 main_v213 (addi : C F S2048x16 .i32 → C F S2048x16 .i32 → C F S2048x16 .i32),
    ternary main_v211 main_v213 main_v209 main_v214 (select : C F S2048x16 .i1 → C F S2048x16 .i32 → C F S2048x16 .i32 → C F S2048x16 .i32),
    unary main_v214 main_v215 (broadcastInDim S2048x16x1 ![0, 1] bcast_S2048x16_S2048x16x1_0_1 : C F S2048x16 .i32 → C F S2048x16x1 .i32),
    binary main_v202 main_v215 main_v216 ((fun x i => Host.gather gather_S16x2063x256_S2048x16x1_S16x2048x16x256_03_1_n_n_1_2_161256 x i) : C F S16x2063x256 .f32 → C F S2048x16x1 .i32 → C F S16x2048x16x256 .f32),
    nullary main_cst_35 (constant S_ .f32 0x00000000#32),
    binary main_v216 main_cst_35 main_v217 ((fun x v => Host.reduceAdd x v reducesTo_S16x2048x16x256_S16x2048x256_d2 h_S_) : C F S16x2048x16x256 .f32 → C F S_ .f32 → C F S16x2048x256 .f32),
    unary main_v201 main_v218 (broadcastInDim S16x2048x256 ![0, 1, 2] bcast_S1x2048x1_S16x2048x256_0_1_2 : C F S1x2048x1 .f32 → C F S16x2048x256 .f32),
    binary main_v217 main_v218 main_v219 (Host.divf : C F S16x2048x256 .f32 → C F S16x2048x256 .f32 → C F S16x2048x256 .f32),
    binary main_v219 main_v194 main_v220 (subf : C F S16x2048x256 .f32 → C F S16x2048x256 .f32 → C F S16x2048x256 .f32),
    unary main_arg9 main_v221 ((extractStridedSlice S1x1x256x256 ![0, 3, 0, 0] · slices_S1x4x256x256_S1x1x256x256_0_3_0_0) : C F S1x4x256x256 .f32 → C F S1x1x256x256 .f32),
    reshape main_v221 main_v222 (rfl : (.f32 : EltTy) = .f32) shapeCasts_S1x1x256x256_S256x256,
    binary main_v220 main_v222 main_v223 ((fun l r => Host.dotGeneral dot_S16x2048x256_S256x256_S16x2048x256_2_0_01_1_n_n none l r) : C F S16x2048x256 .f32 → C F S256x256 .f32 → C F S16x2048x256 .f32),
    unary main_arg10 main_v224 ((extractStridedSlice S1x1x256 ![0, 3, 0] · slices_S1x4x256_S1x1x256_0_3_0) : C F S1x4x256 .f32 → C F S1x1x256 .f32),
    reshape main_v224 main_v225 (rfl : (.f32 : EltTy) = .f32) shapeCasts_S1x1x256_S256,
    unary main_v225 main_v226 (broadcastInDim S1x1x256 ![2] bcast_S256_S1x1x256_2 : C F S256 .f32 → C F S1x1x256 .f32),
    unary main_v226 main_v227 (broadcastInDim S16x2048x256 ![0, 1, 2] bcast_S1x1x256_S16x2048x256_0_1_2 : C F S1x1x256 .f32 → C F S16x2048x256 .f32),
    binary main_v223 main_v227 main_v228 (addf : C F S16x2048x256 .f32 → C F S16x2048x256 .f32 → C F S16x2048x256 .f32) ]

/-- The buffers stage 9 writes. -/
abbrev wr9 : List (Ref sig .tc) :=
  [main_v194, main_v195, main_c_30, main_v196, main_v197, main_c_31, main_v198, main_v199, main_v200, main_v201, main_c_32, main_call6.v0.ref, main_call6.v1.ref, main_v203, main_v204, main_v205, main_v206, main_v207, main_v208, main_v209, main_c_33, main_v210, main_v211, main_c_34, main_v212, main_v213, main_v214, main_v215, main_v216, main_cst_35, main_v217, main_v218, main_v219, main_v220, main_v221, main_v222, main_v223, main_v224, main_v225, main_v226, main_v227, main_v228]

theorem wr9_eq : (st9 : List (HloOp τ sig (Elt F))).Forall fun op => op.writes ⊆ (wr9.map (Proc.devRef (τ := τ) .tc)).toFinset :=
  forall_writes_sub_of_map rfl

theorem sub9 : (st9 : List (HloOp τ sig (Elt F))).Forall fun op => op.bufs ⊆ tcRefs τ sig :=
  ⟨unary_bufs_sub .., nullary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩

theorem fresh9 : ∀ op ∈ (st9 : List (HloOp τ sig (Elt F))), op.fresh = ∅ :=
  List.forall_iff_forall_mem.mp (forall_fresh_of_map rfl)

/-- Stage 10. -/
abbrev st10 : List (HloOp τ sig (Elt F)) :=
  [ nary ![main_v123, main_v158, main_v193, main_v228] main_v229 (fun u => (concatenate S16x2048x1024 2 [⟨S16x2048x256, (u 0 : C F S16x2048x256 .f32)⟩, ⟨S16x2048x256, (u 1 : C F S16x2048x256 .f32)⟩, ⟨S16x2048x256, (u 2 : C F S16x2048x256 .f32)⟩, ⟨S16x2048x256, (u 3 : C F S16x2048x256 .f32)⟩] concatenates_S16x2048x256_S16x2048x256_S16x2048x256_S16x2048x256_S16x2048x1024_d2 : C F S16x2048x1024 .f32)),
    reshape main_arg11 main_v230 (rfl : (.f32 : EltTy) = .f32) shapeCasts_S1x1024_S1024,
    unary main_v230 main_v231 (broadcastInDim S1x1x1024 ![2] bcast_S1024_S1x1x1024_2 : C F S1024 .f32 → C F S1x1x1024 .f32),
    unary main_v231 main_v232 (broadcastInDim S16x2048x1024 ![0, 1, 2] bcast_S1x1x1024_S16x2048x1024_0_1_2 : C F S1x1x1024 .f32 → C F S16x2048x1024 .f32),
    binary main_v229 main_v232 main_v233 (mulf : C F S16x2048x1024 .f32 → C F S16x2048x1024 .f32 → C F S16x2048x1024 .f32),
    TRef.unary (.of main_v24 : StableHlo.TRef sig ⟨S16x2048x1024, .f32⟩) main_call7.v0 Host.negf,
    TRef.unary main_call7.v0 main_call7.v1 Host.exp,
    TRef.nullary main_call7.cst (constant S_ .f32 0x3F800000#32),
    TRef.unary main_call7.cst main_call7.v2 (broadcastInDim S16x2048x1024 ![] bcast_S_S16x2048x1024),
    TRef.binary main_call7.v2 main_call7.v1 main_call7.v3 addf,
    TRef.nullary main_call7.cst_0 (constant S_ .f32 0x3F800000#32),
    TRef.unary main_call7.cst_0 main_call7.v4 (broadcastInDim S16x2048x1024 ![] bcast_S_S16x2048x1024),
    TRef.binary main_call7.v4 main_call7.v3 main_call7.v5 Host.divf,
    TRef.binary (.of main_v24 : StableHlo.TRef sig ⟨S16x2048x1024, .f32⟩) main_call7.v5 main_call7.v6 mulf,
    binary main_v233 main_v234 main_v235 (mulf : C F S16x2048x1024 .f32 → C F S16x2048x1024 .f32 → C F S16x2048x1024 .f32),
    reshape main_arg12 main_v236 (rfl : (.f32 : EltTy) = .f32) shapeCasts_S1x1024x1024_S1024x1024,
    binary main_v235 main_v236 main_v237 ((fun l r => Host.dotGeneral dot_S16x2048x1024_S1024x1024_S16x2048x1024_2_0_01_1_n_n none l r) : C F S16x2048x1024 .f32 → C F S1024x1024 .f32 → C F S16x2048x1024 .f32) ]

/-- The buffers stage 10 writes. -/
abbrev wr10 : List (Ref sig .tc) :=
  [main_v229, main_v230, main_v231, main_v232, main_v233, main_call7.v0.ref, main_call7.v1.ref, main_call7.cst.ref, main_call7.v2.ref, main_call7.v3.ref, main_call7.cst_0.ref, main_call7.v4.ref, main_call7.v5.ref, main_call7.v6.ref, main_v235, main_v236, main_v237]

theorem wr10_eq : (st10 : List (HloOp τ sig (Elt F))).Forall fun op => op.writes ⊆ (wr10.map (Proc.devRef (τ := τ) .tc)).toFinset :=
  forall_writes_sub_of_map rfl

theorem sub10 : (st10 : List (HloOp τ sig (Elt F))).Forall fun op => op.bufs ⊆ tcRefs τ sig :=
  ⟨nary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., binary_bufs_sub ..⟩

theorem fresh10 : ∀ op ∈ (st10 : List (HloOp τ sig (Elt F))), op.fresh = ∅ :=
  List.forall_iff_forall_mem.mp (forall_fresh_of_map rfl)

/-- Stage 11. -/
abbrev st11 : List (HloOp τ sig (Elt F)) :=
  [ unary main_v25 main_v238 (Host.negf : C F S16x2048x1024 .f32 → C F S16x2048x1024 .f32),
    unary main_v238 main_v239 (Host.exp : C F S16x2048x1024 .f32 → C F S16x2048x1024 .f32),
    nullary main_cst_36 (constant S_ .f32 0x3F800000#32),
    unary main_cst_36 main_v240 (broadcastInDim S16x2048x1024 ![] bcast_S_S16x2048x1024 : C F S_ .f32 → C F S16x2048x1024 .f32),
    binary main_v240 main_v239 main_v241 (addf : C F S16x2048x1024 .f32 → C F S16x2048x1024 .f32 → C F S16x2048x1024 .f32),
    nullary main_cst_37 (constant S_ .f32 0x3F800000#32),
    unary main_cst_37 main_v242 (broadcastInDim S16x2048x1024 ![] bcast_S_S16x2048x1024 : C F S_ .f32 → C F S16x2048x1024 .f32),
    binary main_v242 main_v241 main_v243 (Host.divf : C F S16x2048x1024 .f32 → C F S16x2048x1024 .f32 → C F S16x2048x1024 .f32),
    binary main_v243 main_v88 main_v244 (mulf : C F S16x2048x1024 .f32 → C F S16x2048x1024 .f32 → C F S16x2048x1024 .f32),
    unary main_v26 main_v245 (Host.negf : C F S16x2048x1024 .f32 → C F S16x2048x1024 .f32),
    unary main_v245 main_v246 (Host.exp : C F S16x2048x1024 .f32 → C F S16x2048x1024 .f32),
    nullary main_cst_38 (constant S_ .f32 0x3F800000#32),
    unary main_cst_38 main_v247 (broadcastInDim S16x2048x1024 ![] bcast_S_S16x2048x1024 : C F S_ .f32 → C F S16x2048x1024 .f32),
    binary main_v247 main_v246 main_v248 (addf : C F S16x2048x1024 .f32 → C F S16x2048x1024 .f32 → C F S16x2048x1024 .f32),
    nullary main_cst_39 (constant S_ .f32 0x3F800000#32),
    unary main_cst_39 main_v249 (broadcastInDim S16x2048x1024 ![] bcast_S_S16x2048x1024 : C F S_ .f32 → C F S16x2048x1024 .f32),
    binary main_v249 main_v248 main_v250 (Host.divf : C F S16x2048x1024 .f32 → C F S16x2048x1024 .f32 → C F S16x2048x1024 .f32),
    binary main_v250 main_v237 main_v251 (mulf : C F S16x2048x1024 .f32 → C F S16x2048x1024 .f32 → C F S16x2048x1024 .f32),
    binary main_v244 main_v251 main_v252 (addf : C F S16x2048x1024 .f32 → C F S16x2048x1024 .f32 → C F S16x2048x1024 .f32),
    reshape main_arg13 main_v253 (rfl : (.f32 : EltTy) = .f32) shapeCasts_S1x1024x1024_S1024x1024,
    binary main_v252 main_v253 main_v254 ((fun l r => Host.dotGeneral dot_S16x2048x1024_S1024x1024_S16x2048x1024_2_0_01_1_n_n none l r) : C F S16x2048x1024 .f32 → C F S1024x1024 .f32 → C F S16x2048x1024 .f32),
    binary main_arg0 main_v254 main_v255 (addf : C F S16x2048x1024 .f32 → C F S16x2048x1024 .f32 → C F S16x2048x1024 .f32) ]

/-- The buffers stage 11 writes. -/
abbrev wr11 : List (Ref sig .tc) :=
  [main_v238, main_v239, main_cst_36, main_v240, main_v241, main_cst_37, main_v242, main_v243, main_v244, main_v245, main_v246, main_cst_38, main_v247, main_v248, main_cst_39, main_v249, main_v250, main_v251, main_v252, main_v253, main_v254, main_v255]

theorem wr11_eq : (st11 : List (HloOp τ sig (Elt F))).Forall fun op => op.writes ⊆ (wr11.map (Proc.devRef (τ := τ) .tc)).toFinset :=
  forall_writes_sub_of_map rfl

theorem sub11 : (st11 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., binary_bufs_sub .., binary_bufs_sub ..⟩

theorem fresh11 : ∀ op ∈ (st11 : List (HloOp τ sig (Elt F))), op.fresh = ∅ :=
  List.forall_iff_forall_mem.mp (forall_fresh_of_map rfl)

/-- Stage 12. -/
abbrev st12 : List (HloOp τ sig (Elt F)) :=
  [ binary main_v255 main_v255 main_v256 (mulf : C F S16x2048x1024 .f32 → C F S16x2048x1024 .f32 → C F S16x2048x1024 .f32),
    nullary main_cst_40 (constant S_ .f32 0x00000000#32),
    binary main_v256 main_cst_40 main_v257 ((fun x v => Host.reduceAdd x v reducesTo_S16x2048x1024_S16x2048_d2 h_S_) : C F S16x2048x1024 .f32 → C F S_ .f32 → C F S16x2048 .f32),
    unary main_v257 main_v258 (broadcastInDim S16x2048x1 ![0, 1] bcast_S16x2048_S16x2048x1_0_1 : C F S16x2048 .f32 → C F S16x2048x1 .f32),
    nullary main_cst_41 (constant S_ .f32 0x44800000#32),
    unary main_cst_41 main_v259 (broadcastInDim S16x2048x1 ![] bcast_S_S16x2048x1 : C F S_ .f32 → C F S16x2048x1 .f32),
    binary main_v258 main_v259 main_v260 (Host.divf : C F S16x2048x1 .f32 → C F S16x2048x1 .f32 → C F S16x2048x1 .f32),
    nullary main_cst_42 (constant S_ .f32 0x358637BD#32),
    unary main_cst_42 main_v261 (broadcastInDim S16x2048x1 ![] bcast_S_S16x2048x1 : C F S_ .f32 → C F S16x2048x1 .f32),
    binary main_v260 main_v261 main_v262 (addf : C F S16x2048x1 .f32 → C F S16x2048x1 .f32 → C F S16x2048x1 .f32),
    unary main_v262 main_v263 (Host.rsqrt : C F S16x2048x1 .f32 → C F S16x2048x1 .f32),
    unary main_v263 main_v264 (broadcastInDim S16x2048x1024 ![0, 1, 2] bcast_S16x2048x1_S16x2048x1024_0_1_2 : C F S16x2048x1 .f32 → C F S16x2048x1024 .f32),
    binary main_v255 main_v264 main_v265 (mulf : C F S16x2048x1024 .f32 → C F S16x2048x1024 .f32 → C F S16x2048x1024 .f32),
    unary main_arg14 main_v266 (broadcastInDim S1x1x1024 ![2] bcast_S1024_S1x1x1024_2 : C F S1024 .f32 → C F S1x1x1024 .f32),
    unary main_v266 main_v267 (broadcastInDim S16x2048x1024 ![0, 1, 2] bcast_S1x1x1024_S16x2048x1024_0_1_2 : C F S1x1x1024 .f32 → C F S16x2048x1024 .f32),
    binary main_v265 main_v267 main_v268 (mulf : C F S16x2048x1024 .f32 → C F S16x2048x1024 .f32 → C F S16x2048x1024 .f32) ]

/-- The buffers stage 12 writes. -/
abbrev wr12 : List (Ref sig .tc) :=
  [main_v256, main_cst_40, main_v257, main_v258, main_cst_41, main_v259, main_v260, main_cst_42, main_v261, main_v262, main_v263, main_v264, main_v265, main_v266, main_v267, main_v268]

theorem wr12_eq : (st12 : List (HloOp τ sig (Elt F))).Forall fun op => op.writes ⊆ (wr12.map (Proc.devRef (τ := τ) .tc)).toFinset :=
  forall_writes_sub_of_map rfl

theorem sub12 : (st12 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

theorem fresh12 : ∀ op ∈ (st12 : List (HloOp τ sig (Elt F))), op.fresh = ∅ :=
  List.forall_iff_forall_mem.mp (forall_fresh_of_map rfl)

/-- All operations, in order. -/
abbrev ops : List (HloOp τ sig (Elt F)) :=
  st0 ++ (st1 ++ (st2 ++ (st3 ++ (st4 ++ (st5 ++ (st6 ++ (st7 ++ (st8 ++ (st9 ++ (st10 ++ (st11 ++ (st12))))))))))))

set_option maxHeartbeats 4000000 in
theorem main_eq (c : Dev nD) : main (F := F) c = seq ops := rfl

theorem after_append {τ : Topo} {sig : RefSig} {Val : EltTy → Type} (a b : List (HloOp τ sig Val)) (V : Valuation τ sig Val) :
    after (a ++ b) V = after b (after a V) := by
  induction a generalizing V with
  | nil => rfl
  | cons o l ih => simp only [List.cons_append, after_cons, ih]

theorem after_ops (V : Valuation τ sig (Elt F)) :
    after ops V = after st12 (after st11 (after st10 (after st9 (after st8 (after st7 (after st6 (after st5 (after st4 (after st3 (after st2 (after st1 (after st0 V)))))))))))) := by
  simp only [ops, after_append]

theorem ops_sub : (ops : List (HloOp τ sig (Elt F))).Forall fun op => op.bufs ⊆ tcRefs τ sig := by
  simp only [ops, List.forall_append]
  exact ⟨sub0, sub1, sub2, sub3, sub4, sub5, sub6, sub7, sub8, sub9, sub10, sub11, sub12⟩

theorem ops_fresh : ∀ op ∈ (ops : List (HloOp τ sig (Elt F))), op.fresh = ∅ := by
  simp only [ops, List.mem_append]
  rintro op (h | h | h | h | h | h | h | h | h | h | h | h | h)
  · exact fresh0 op h
  · exact fresh1 op h
  · exact fresh2 op h
  · exact fresh3 op h
  · exact fresh4 op h
  · exact fresh5 op h
  · exact fresh6 op h
  · exact fresh7 op h
  · exact fresh8 op h
  · exact fresh9 op h
  · exact fresh10 op h
  · exact fresh11 op h
  · exact fresh12 op h

theorem keep0 (V : Valuation τ sig (Elt F)) (r : Ref sig .tc) (h : r ∉ wr0) :
    after st0 V (Proc.devRef .tc r) = V (Proc.devRef .tc r) := after_of_writes_sub _ V wr0_eq h

theorem keep1 (V : Valuation τ sig (Elt F)) (r : Ref sig .tc) (h : r ∉ wr1) :
    after st1 V (Proc.devRef .tc r) = V (Proc.devRef .tc r) := after_of_writes_sub _ V wr1_eq h

theorem keep2 (V : Valuation τ sig (Elt F)) (r : Ref sig .tc) (h : r ∉ wr2) :
    after st2 V (Proc.devRef .tc r) = V (Proc.devRef .tc r) := after_of_writes_sub _ V wr2_eq h

theorem keep3 (V : Valuation τ sig (Elt F)) (r : Ref sig .tc) (h : r ∉ wr3) :
    after st3 V (Proc.devRef .tc r) = V (Proc.devRef .tc r) := after_of_writes_sub _ V wr3_eq h

theorem keep4 (V : Valuation τ sig (Elt F)) (r : Ref sig .tc) (h : r ∉ wr4) :
    after st4 V (Proc.devRef .tc r) = V (Proc.devRef .tc r) := after_of_writes_sub _ V wr4_eq h

theorem keep5 (V : Valuation τ sig (Elt F)) (r : Ref sig .tc) (h : r ∉ wr5) :
    after st5 V (Proc.devRef .tc r) = V (Proc.devRef .tc r) := after_of_writes_sub _ V wr5_eq h

theorem keep6 (V : Valuation τ sig (Elt F)) (r : Ref sig .tc) (h : r ∉ wr6) :
    after st6 V (Proc.devRef .tc r) = V (Proc.devRef .tc r) := after_of_writes_sub _ V wr6_eq h

theorem keep7 (V : Valuation τ sig (Elt F)) (r : Ref sig .tc) (h : r ∉ wr7) :
    after st7 V (Proc.devRef .tc r) = V (Proc.devRef .tc r) := after_of_writes_sub _ V wr7_eq h

theorem keep8 (V : Valuation τ sig (Elt F)) (r : Ref sig .tc) (h : r ∉ wr8) :
    after st8 V (Proc.devRef .tc r) = V (Proc.devRef .tc r) := after_of_writes_sub _ V wr8_eq h

theorem keep9 (V : Valuation τ sig (Elt F)) (r : Ref sig .tc) (h : r ∉ wr9) :
    after st9 V (Proc.devRef .tc r) = V (Proc.devRef .tc r) := after_of_writes_sub _ V wr9_eq h

theorem keep10 (V : Valuation τ sig (Elt F)) (r : Ref sig .tc) (h : r ∉ wr10) :
    after st10 V (Proc.devRef .tc r) = V (Proc.devRef .tc r) := after_of_writes_sub _ V wr10_eq h

theorem keep11 (V : Valuation τ sig (Elt F)) (r : Ref sig .tc) (h : r ∉ wr11) :
    after st11 V (Proc.devRef .tc r) = V (Proc.devRef .tc r) := after_of_writes_sub _ V wr11_eq h

theorem keep12 (V : Valuation τ sig (Elt F)) (r : Ref sig .tc) (h : r ∉ wr12) :
    after st12 V (Proc.devRef .tc r) = V (Proc.devRef .tc r) := after_of_writes_sub _ V wr12_eq h

theorem keep (V : Valuation τ sig (Elt F)) (r : Ref sig .tc) (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) (h11 : r ∉ wr11) (h12 : r ∉ wr12) :
    after ops V (Proc.devRef .tc r) = V (Proc.devRef .tc r) := by
  rw [after_ops, keep12 _ _ h12, keep11 _ _ h11, keep10 _ _ h10, keep9 _ _ h9, keep8 _ _ h8, keep7 _ _ h7, keep6 _ _ h6, keep5 _ _ h5, keep4 _ _ h4, keep3 _ _ h3, keep2 _ _ h2, keep1 _ _ h1, keep0 _ _ h0]

theorem scopedRefs_eq : (Finset.univ.filter fun b : Ref sig .tc => b.isScoped) = ∅ := by decide
theorem scopedSems_eq : (Finset.univ.filter fun sm : SemLoc sig => sm.isScoped .tc) = ∅ := by decide

/-- Every buffer ends at the operations' results folded over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The reference runs and leaves its arguments unchanged and every counter at zero. -/
theorem frame_run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0 :=
  (θ_run defs _ _).mono (fun r h => ⟨fun c => ⟨(h c main_arg0).trans (keep _ _ (by decide) (by decide) (by decide) (by decide) (by decide) (by decide) (by decide) (by decide) (by decide) (by decide) (by decide) (by decide) (by decide)), (h c main_arg1).trans (keep _ _ (by decide) (by decide) (by decide) (by decide) (by decide) (by decide) (by decide) (by decide) (by decide) (by decide) (by decide) (by decide) (by decide)), (h c main_arg2).trans (keep _ _ (by decide) (by decide) (by decide) (by decide) (by decide) (by decide) (by decide) (by decide) (by decide) (by decide) (by decide) (by decide) (by decide)), (h c main_arg3).trans (keep _ _ (by decide) (by decide) (by decide) (by decide) (by decide) (by decide) (by decide) (by decide) (by decide) (by decide) (by decide) (by decide) (by decide)), (h c main_arg4).trans (keep _ _ (by decide) (by decide) (by decide) (by decide) (by decide) (by decide) (by decide) (by decide) (by decide) (by decide) (by decide) (by decide) (by decide)), (h c main_arg5).trans (keep _ _ (by decide) (by decide) (by decide) (by decide) (by decide) (by decide) (by decide) (by decide) (by decide) (by decide) (by decide) (by decide) (by decide)), (h c main_arg6).trans (keep _ _ (by decide) (by decide) (by decide) (by decide) (by decide) (by decide) (by decide) (by decide) (by decide) (by decide) (by decide) (by decide) (by decide)), (h c main_arg7).trans (keep _ _ (by decide) (by decide) (by decide) (by decide) (by decide) (by decide) (by decide) (by decide) (by decide) (by decide) (by decide) (by decide) (by decide)), (h c main_arg8).trans (keep _ _ (by decide) (by decide) (by decide) (by decide) (by decide) (by decide) (by decide) (by decide) (by decide) (by decide) (by decide) (by decide) (by decide)), (h c main_arg9).trans (keep _ _ (by decide) (by decide) (by decide) (by decide) (by decide) (by decide) (by decide) (by decide) (by decide) (by decide) (by decide) (by decide) (by decide)), (h c main_arg10).trans (keep _ _ (by decide) (by decide) (by decide) (by decide) (by decide) (by decide) (by decide) (by decide) (by decide) (by decide) (by decide) (by decide) (by decide)), (h c main_arg11).trans (keep _ _ (by decide) (by decide) (by decide) (by decide) (by decide) (by decide) (by decide) (by decide) (by decide) (by decide) (by decide) (by decide) (by decide)), (h c main_arg12).trans (keep _ _ (by decide) (by decide) (by decide) (by decide) (by decide) (by decide) (by decide) (by decide) (by decide) (by decide) (by decide) (by decide) (by decide)), (h c main_arg13).trans (keep _ _ (by decide) (by decide) (by decide) (by decide) (by decide) (by decide) (by decide) (by decide) (by decide) (by decide) (by decide) (by decide) (by decide)), (h c main_arg14).trans (keep _ _ (by decide) (by decide) (by decide) (by decide) (by decide) (by decide) (by decide) (by decide) (by decide) (by decide) (by decide) (by decide) (by decide))⟩, sem_eq_zero_of_no_sems rfl _⟩) (run_main m ρ)

end Cert.ReferenceIdeal.Run
-- ==== Proof.RG.lean ====
/-
  The reference's sliding windows: a gather of rows, read at an index.
-/
module

public import proofs.«01_k».proof.Proof.Ref
public import proofs.«01_k».proof.Proof.SpecI
public import Idealize.ShloMosaic.Lib.StableHlo.RunRead
public import Idealize.ShloMosaic.Lib.Pointwise
public import Idealize.ShloMosaic.Lib.ValueIdxCore
public import Idealize.ShloMosaic.Lib.KernelVsHost

@[expose] public section

set_option maxRecDepth 16384

noncomputable section

namespace Cert.ReferenceIdeal.Val

open Idealize.ShloMosaic

section
variable {α : Type} {N w C : Nat}

/-- The dimension numbers of a gather of `w` rows at each of 2048 places. -/
abbrev winDims (N w C : Nat)
    (wf : GatherDims.WF ⟨3, ![16, N, C]⟩ ⟨3, ![2048, w, 1]⟩ ⟨4, ![16, 2048, w, C]⟩ [0, 3] [1] [] [1] [] 2 ![16, 1, C]) :
    GatherDims ⟨3, ![16, N, C]⟩ ⟨3, ![2048, w, 1]⟩ ⟨4, ![16, 2048, w, C]⟩ where
  offsetDims := [0, 3]
  collapsedSliceDims := [1]
  operandBatchingDims := []
  startIndicesBatchingDims := []
  startIndexMap := [1]
  indexVectorDim := 2
  sliceSizes := ![16, 1, C]
  wf := wf

/-- The gather at an index: the row named there, clamped into the operand. -/
theorem gather_win (hN : 0 < N)
    (wf : GatherDims.WF ⟨3, ![16, N, C]⟩ ⟨3, ![2048, w, 1]⟩ ⟨4, ![16, 2048, w, C]⟩ [0, 3] [1] [] [1] [] 2 ![16, 1, C])
    (x : (⟨3, ![16, N, C]⟩ : Shape).Idx → α) (idx : IVec ⟨3, ![2048, w, 1]⟩ 32) (b : Fin 16) (s : Fin 2048) (k : Fin w) (c : Fin C) :
    Host.gather (winDims N w C wf) x idx (ix4 b s k c)
      = x (ix3 b ⟨min (idx (ix3 s k 0)).toInt.toNat (N - 1), by omega⟩ c) := by
  unfold Host.gather
  congr 1
  funext a
  refine Fin.ext ?_
  show (winDims N w C wf).start _ idx a + (winDims N w C wf).batchCoord _ a + (winDims N w C wf).offCoord _ a = _
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  have hB : (winDims N w C wf).batchCoord (ix4 b s k c) a = 0 := GatherDims.batchCoord_eq_zero _ _ _ List.not_mem_nil
  rw [hB]
  rcases h with rfl | rfl | rfl
  · have h1 : (winDims N w C wf).start (ix4 b s k c) idx 0 = 0 := by
      unfold GatherDims.start
      rw [dif_neg (fun h => by have := List.mem_singleton.mp h; exact absurd this (Fin.ne_of_val_ne (by simp)))]
    rw [h1]
    unfold GatherDims.offCoord
    rw [dif_pos (show (0 : Fin 3) ∈ (winDims N w C wf).sKept from (by decide : (0 : Fin 3) ∈ ([0, 2] : List (Fin 3))))]
    exact Nat.zero_add _
  · rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ (winDims N w C wf).startIndexMap from List.mem_singleton.mpr rfl)]
    have hsi : (winDims N w C wf).siIdx (ix4 b s k c) ⟨List.idxOf (1 : Fin 3) (winDims N w C wf).startIndexMap,
        List.idxOf_lt_length_iff.2 (List.mem_singleton.mpr rfl)⟩ = ix3 s k 0 := by
      funext b; refine Fin.ext ?_
      match b with
      | ⟨0, _⟩ => rfl
      | ⟨1, _⟩ => rfl
      | ⟨2, _⟩ => rfl
    rw [hsi]
    rfl
  · have h1 : (winDims N w C wf).start (ix4 b s k c) idx 2 = 0 := by
      unfold GatherDims.start
      rw [dif_neg (fun h => by have := List.mem_singleton.mp h; exact absurd this (Fin.ne_of_val_ne (by simp)))]
    rw [h1]
    unfold GatherDims.offCoord
    rw [dif_pos (show (2 : Fin 3) ∈ (winDims N w C wf).sKept from (by decide : (2 : Fin 3) ∈ ([0, 2] : List (Fin 3))))]
    exact Nat.zero_add _
/-- The same, where the row named is known. -/
theorem gather_row (wf : GatherDims.WF ⟨3, ![16, N, C]⟩ ⟨3, ![2048, w, 1]⟩ ⟨4, ![16, 2048, w, C]⟩ [0, 3] [1] [] [1] [] 2 ![16, 1, C])
    (x : (⟨3, ![16, N, C]⟩ : Shape).Idx → α) (idx : IVec ⟨3, ![2048, w, 1]⟩ 32) (b : Fin 16) (s : Fin 2048) (k : Fin w) (c : Fin C)
    (h : s.val + k.val < N) (hN : N < 4096) (hi : idx (ix3 s k 0) = BitVec.ofNat 32 (s.val + k.val)) :
    Host.gather (winDims N w C wf) x idx (ix4 b s k c) = x (ix3 b ⟨s.val + k.val, h⟩ c) := by
  rw [gather_win (by omega)]
  have e : (BitVec.ofNat 32 (s.val + k.val)).toInt = ((s.val + k.val : Nat) : Int) := by
    rw [BitVec.toInt_eq_toNat_of_lt] <;> simp only [BitVec.toNat_ofNat] <;> omega
  refine congrArg x (congrArg (fun q => ix3 b q c) (Fin.ext ?_))
  show min (idx (ix3 s k 0)).toInt.toNat (N - 1) = s.val + k.val
  rw [hi, e]; omega

/-- Rows of padding before the first row, read at an index. -/
theorem pad_rows (lo : Nat) {u : Shape} (x : (⟨3, ![16, 2048, C]⟩ : Shape).Idx → α) (v : u.Idx → α)
    (h : (⟨3, ![16, 2048, C]⟩ : Shape).Pads ![0, lo, 0] ![0, 0, 0] ![0, 0, 0] ⟨3, ![16, N, C]⟩) (hu : 0 < u.numel) (hN : N = 2048 + lo)
    (b : Fin 16) (q : Fin N) (c : Fin C) :
    pad ⟨3, ![16, N, C]⟩ ![0, lo, 0] ![0, 0, 0] ![0, 0, 0] x v h hu (ix3 b q c)
      = if h : q.val < lo then v (Shape.Idx.first hu) else x (ix3 b ⟨q.val - lo, by omega⟩ c) := by
  split
  · rename_i hq
    refine pad_apply_of_not_inside _ _ _ x v h hu (ix3 b q c) 1 fun hh => ?_
    have := hh.1
    change lo ≤ q.val at this
    omega
  · rename_i hq
    refine pad_apply_of_inside _ _ _ x v h hu (ix3 b q c) (ix3 b ⟨q.val - lo, by omega⟩ c) fun a => ?_
    match a with
    | ⟨0, _⟩ => show b.val = 0 + b.val * (0 + 1); omega
    | ⟨1, _⟩ => show q.val = lo + (q.val - lo) * (0 + 1); omega
    | ⟨2, _⟩ => show c.val = 0 + c.val * (0 + 1); omega
end

/-- The row's number as the program writes it, with the wrap of a negative index that never happens. -/
theorem idx_word (s k : Nat) (n : BitVec 32) (h : s + k < 4096) :
    Scalar.select (IntOp.cmpi CmpIPredicate.slt (IntOp.addi (BitVec.ofNat 32 s) (BitVec.ofNat 32 k)) 0#32)
      (IntOp.addi (IntOp.addi (BitVec.ofNat 32 s) (BitVec.ofNat 32 k)) n)
      (IntOp.addi (BitVec.ofNat 32 s) (BitVec.ofNat 32 k)) = BitVec.ofNat 32 (s + k) := by
  have e : IntOp.addi (BitVec.ofNat 32 s) (BitVec.ofNat 32 k) = BitVec.ofNat 32 (s + k) := by
    show BitVec.ofNat 32 s + BitVec.ofNat 32 k = _
    rw [BitVec.ofNat_add]
  have n : (BitVec.ofNat 32 (s + k)).slt 0#32 = false := by
    have : (BitVec.ofNat 32 (s + k)).toInt = ((s + k : Nat) : Int) := by
      rw [BitVec.toInt_eq_toNat_of_lt] <;> simp only [BitVec.toNat_ofNat] <;> omega
    simp only [BitVec.slt, this, BitVec.toInt_zero, decide_eq_false_iff_not]
    omega
  rw [e]
  simp [Scalar.select, IntOp.cmpi, n]

theorem sitofp_zero : FloatOps.sitofp (F := Ideal) FTy.f32 0#32 = (0 : EReal) := by
  show ((((0#32 : BitVec 32).toInt : ℝ)) : EReal) = 0
  simp

end Cert.ReferenceIdeal.Val

end
-- ==== Proof.RVA.lean ====
/-
  The reference's stages at the ideal reading, each read at an index (all but the windows).
-/
module

public import proofs.«01_k».proof.Proof.RG

@[expose] public section

set_option maxRecDepth 16384

noncomputable section

namespace Cert.ReferenceIdeal.Val

open Cert.ReferenceIdeal Cert.ReferenceIdeal.Gen Cert.ReferenceIdeal.Run Cert.KernelIdeal.Spec
open Idealize.ShloMosaic Idealize.ShloMosaic.TcCoe Idealize.ShloMosaic.StableHlo
open Cert.KernelIdeal.Body (In)

variable (W : Valuation τ sig (Elt Ideal))

theorem stage0 (va0 : S16x2048x1024.Idx → EReal) (va1 : S1x1024.Idx → EReal)
    (ha0 : W (Proc.devRef .tc main_arg0) = va0) (ha1 : W (Proc.devRef .tc main_arg1) = va1)
    (b : Fin 16) (s : Fin 2048) (c : Fin 1024) :
    (after st0 W (Proc.devRef .tc main_v13) : S16x2048x1024.Idx → EReal) (ix3 b s c)
      = va0 (ix3 b s c) * Ideal.rsqrt (Ideal.div (∑ k, va0 (ix3 b s k) * va0 (ix3 b s k)) n1024 + eps) * va1 (ix2 0 c) := by
  after_results_simp
  rw [ha0, ha1]
  pointwise
  rfl

theorem stage1 (v13 : S16x2048x1024.Idx → EReal) (va2 : S1x1024x7168.Idx → EReal) (va3 : S1x7168.Idx → EReal)
    (h13 : W (Proc.devRef .tc main_v13) = v13) (ha2 : W (Proc.devRef .tc main_arg2) = va2) (ha3 : W (Proc.devRef .tc main_arg3) = va3)
    (b : Fin 16) (s : Fin 2048) (c : Fin 7168) :
    (after st1 W (Proc.devRef .tc main_v19) : S16x2048x7168.Idx → EReal) (ix3 b s c)
      = (∑ k, v13 (ix3 b s k) * va2 (ix3 0 k c)) + va3 (ix2 0 c) := by
  after_results_simp
  rw [h13, ha2, ha3]
  pointwise

theorem stage2_0 (v19 : S16x2048x7168.Idx → EReal)
    (h19 : W (Proc.devRef .tc main_v19) = v19)
    (b : Fin 16) (s : Fin 2048) (c : Fin 1024) :
    (after st2 W (Proc.devRef .tc main_v20) : S16x2048x1024.Idx → EReal) (ix3 b s c)
      = v19 (ix3 b s ⟨1024 * 0 + c.val, by omega⟩) := by
  after_results_simp
  rw [h19]
  pointwise
  try exact congrArg (fun j => v19 (ix3 b s j)) (Fin.ext (by simp))

theorem stage2_1 (v19 : S16x2048x7168.Idx → EReal)
    (h19 : W (Proc.devRef .tc main_v19) = v19)
    (b : Fin 16) (s : Fin 2048) (c : Fin 1024) :
    (after st2 W (Proc.devRef .tc main_v21) : S16x2048x1024.Idx → EReal) (ix3 b s c)
      = v19 (ix3 b s ⟨1024 * 1 + c.val, by omega⟩) := by
  after_results_simp
  rw [h19]
  pointwise

theorem stage2_2 (v19 : S16x2048x7168.Idx → EReal)
    (h19 : W (Proc.devRef .tc main_v19) = v19)
    (b : Fin 16) (s : Fin 2048) (c : Fin 1024) :
    (after st2 W (Proc.devRef .tc main_v22) : S16x2048x1024.Idx → EReal) (ix3 b s c)
      = v19 (ix3 b s ⟨1024 * 2 + c.val, by omega⟩) := by
  after_results_simp
  rw [h19]
  pointwise

theorem stage2_3 (v19 : S16x2048x7168.Idx → EReal)
    (h19 : W (Proc.devRef .tc main_v19) = v19)
    (b : Fin 16) (s : Fin 2048) (c : Fin 1024) :
    (after st2 W (Proc.devRef .tc main_v23) : S16x2048x1024.Idx → EReal) (ix3 b s c)
      = v19 (ix3 b s ⟨1024 * 3 + c.val, by omega⟩) := by
  after_results_simp
  rw [h19]
  pointwise

theorem stage2_4 (v19 : S16x2048x7168.Idx → EReal)
    (h19 : W (Proc.devRef .tc main_v19) = v19)
    (b : Fin 16) (s : Fin 2048) (c : Fin 1024) :
    (after st2 W (Proc.devRef .tc main_v24) : S16x2048x1024.Idx → EReal) (ix3 b s c)
      = v19 (ix3 b s ⟨1024 * 4 + c.val, by omega⟩) := by
  after_results_simp
  rw [h19]
  pointwise

theorem stage2_5 (v19 : S16x2048x7168.Idx → EReal)
    (h19 : W (Proc.devRef .tc main_v19) = v19)
    (b : Fin 16) (s : Fin 2048) (c : Fin 1024) :
    (after st2 W (Proc.devRef .tc main_v25) : S16x2048x1024.Idx → EReal) (ix3 b s c)
      = v19 (ix3 b s ⟨1024 * 5 + c.val, by omega⟩) := by
  after_results_simp
  rw [h19]
  pointwise

theorem stage2_6 (v19 : S16x2048x7168.Idx → EReal)
    (h19 : W (Proc.devRef .tc main_v19) = v19)
    (b : Fin 16) (s : Fin 2048) (c : Fin 1024) :
    (after st2 W (Proc.devRef .tc main_v26) : S16x2048x1024.Idx → EReal) (ix3 b s c)
      = v19 (ix3 b s ⟨1024 * 6 + c.val, by omega⟩) := by
  after_results_simp
  rw [h19]
  pointwise

theorem stage2_u (v19 : S16x2048x7168.Idx → EReal)
    (h19 : W (Proc.devRef .tc main_v19) = v19)
    (b : Fin 16) (s : Fin 2048) (c : Fin 1024) :
    (after st2 W (Proc.devRef .tc main_v33) : S16x2048x1024.Idx → EReal) (ix3 b s c)
      = v19 (ix3 b s ⟨1024 * 0 + c.val, by omega⟩) * sg (v19 (ix3 b s ⟨1024 * 1 + c.val, by omega⟩)) := by
  after_results_simp
  rw [h19]
  pointwise
  simp only [sg, zero_sub]
  try exact congrArg (fun j => v19 (ix3 b s j) * _) (Fin.ext (by simp))

theorem stage4 (v57 : S16x2048x1024.Idx → EReal) (va6 : S1x1024.Idx → EReal) (va7 : S1x1024.Idx → EReal)
    (h57 : W (Proc.devRef .tc main_v57) = v57) (ha6 : W (Proc.devRef .tc main_arg6) = va6) (ha7 : W (Proc.devRef .tc main_arg7) = va7)
    (b : Fin 16) (s : Fin 2048) (c : Fin 1024) :
    (after st4 W (Proc.devRef .tc main_v83) : S16x2048x1024.Idx → EReal) (ix3 b s c)
      = ln (fun k => v57 (ix3 b s k)) (fun k => va6 (ix2 0 k)) (fun k => va7 (ix2 0 k)) c := by
  after_results_simp
  rw [h57, ha6, ha7]
  pointwise
  try rfl

theorem stage5 (v83 : S16x2048x1024.Idx → EReal) (v22 : S16x2048x1024.Idx → EReal) (va8 : S1x1024x1024.Idx → EReal)
    (h83 : W (Proc.devRef .tc main_v83) = v83) (h22 : W (Proc.devRef .tc main_v22) = v22) (ha8 : W (Proc.devRef .tc main_arg8) = va8)
    (b : Fin 16) (s : Fin 2048) (c : Fin 1024) :
    (after st5 W (Proc.devRef .tc main_v88) : S16x2048x1024.Idx → EReal) (ix3 b s c)
      = ∑ k, silu (v83 (ix3 b s k)) * silu (v22 (ix3 b s k)) * va8 (ix3 0 k c) := by
  after_results_simp
  rw [h83, h22, ha8]
  pointwise
  simp only [TRef.toBuf, TRef.ofBuf, cast_eq]
  pointwise
  simp only [silu, sg, zero_sub]

theorem stage11 (v25 : S16x2048x1024.Idx → EReal) (v26 : S16x2048x1024.Idx → EReal) (v88 : S16x2048x1024.Idx → EReal) (v237 : S16x2048x1024.Idx → EReal) (va13 : S1x1024x1024.Idx → EReal) (va0 : S16x2048x1024.Idx → EReal)
    (h25 : W (Proc.devRef .tc main_v25) = v25) (h26 : W (Proc.devRef .tc main_v26) = v26) (h88 : W (Proc.devRef .tc main_v88) = v88) (h237 : W (Proc.devRef .tc main_v237) = v237) (ha13 : W (Proc.devRef .tc main_arg13) = va13) (ha0 : W (Proc.devRef .tc main_arg0) = va0)
    (b : Fin 16) (s : Fin 2048) (c : Fin 1024) :
    (after st11 W (Proc.devRef .tc main_v255) : S16x2048x1024.Idx → EReal) (ix3 b s c)
      = va0 (ix3 b s c) + ∑ k, (sg (v25 (ix3 b s k)) * v88 (ix3 b s k) + sg (v26 (ix3 b s k)) * v237 (ix3 b s k)) * va13 (ix3 0 k c) := by
  after_results_simp
  rw [h25, h26, h88, h237, ha13, ha0]
  pointwise
  simp only [sg, zero_sub]

theorem stage12 (v255 : S16x2048x1024.Idx → EReal) (va14 : S1024.Idx → EReal)
    (h255 : W (Proc.devRef .tc main_v255) = v255) (ha14 : W (Proc.devRef .tc main_arg14) = va14)
    (b : Fin 16) (s : Fin 2048) (c : Fin 1024) :
    (after st12 W (Proc.devRef .tc main_v268) : S16x2048x1024.Idx → EReal) (ix3 b s c)
      = v255 (ix3 b s c) * Ideal.rsqrt (mean (fun k => v255 (ix3 b s k) * v255 (ix3 b s k)) + eps) * va14 (ix1 c) := by
  after_results_simp
  rw [h255, ha14]
  pointwise
  try rfl

end Cert.ReferenceIdeal.Val

end
-- ==== Proof.RVB.lean ====
/-
  The reference's windows at the ideal reading, read at an index.
-/
module

public import proofs.«01_k».proof.Proof.RG

@[expose] public section

set_option maxRecDepth 16384

noncomputable section

namespace Cert.ReferenceIdeal.Val

open Cert.ReferenceIdeal Cert.ReferenceIdeal.Gen Cert.ReferenceIdeal.Run Cert.KernelIdeal.Spec
open Idealize.ShloMosaic Idealize.ShloMosaic.TcCoe Idealize.ShloMosaic.StableHlo
open Cert.KernelIdeal.Body (In)

variable (W : Valuation τ sig (Elt Ideal))

theorem stage3 (v33 : S16x2048x1024.Idx → EReal) (va4 : S1x31x1024.Idx → EReal) (va5 : S1x1024.Idx → EReal)
    (h33 : W (Proc.devRef .tc main_v33) = v33) (ha4 : W (Proc.devRef .tc main_arg4) = va4) (ha5 : W (Proc.devRef .tc main_arg5) = va5)
    (b : Fin 16) (s : Fin 2048) (c : Fin 1024) :
    (after st3 W (Proc.devRef .tc main_v57) : S16x2048x1024.Idx → EReal) (ix3 b s c)
      = (∑ k : Fin 31, (if h : s.val + k.val < 30 then 0 else v33 (ix3 b ⟨s.val + k.val - 30, by omega⟩ c)) * va4 (ix3 0 k c)) + va5 (ix2 0 c) := by
  after_results_simp
  rw [h33, ha4, ha5]
  pointwise
  simp only [TRef.toBuf, TRef.ofBuf, cast_eq]
  refine congrArg (· + _) (Finset.sum_congr rfl fun k _ => congrArg (· * _) ((gather_row (N := 2078) (w := 31) (C := 1024) _ _ _ b s k c (by omega) (by omega) ?_).trans ((pad_rows 30 _ _ _ _ rfl b _ c).trans ?_)))
  · pointwise
    exact idx_word _ _ _ (by omega)
  · split
    · pointwise
      exact sitofp_zero
    · rfl

theorem stage10 (v123 : S16x2048x256.Idx → EReal) (v158 : S16x2048x256.Idx → EReal) (v193 : S16x2048x256.Idx → EReal) (v228 : S16x2048x256.Idx → EReal) (v24 : S16x2048x1024.Idx → EReal) (va11 : S1x1024.Idx → EReal) (va12 : S1x1024x1024.Idx → EReal)
    (h123 : W (Proc.devRef .tc main_v123) = v123) (h158 : W (Proc.devRef .tc main_v158) = v158) (h193 : W (Proc.devRef .tc main_v193) = v193) (h228 : W (Proc.devRef .tc main_v228) = v228) (h24 : W (Proc.devRef .tc main_v24) = v24) (ha11 : W (Proc.devRef .tc main_arg11) = va11) (ha12 : W (Proc.devRef .tc main_arg12) = va12)
    (b : Fin 16) (s : Fin 2048) (c : Fin 1024) (pp : Fin 1024 → EReal)
    (hp0 : ∀ j : Fin 256, v123 (ix3 b s j) = pp ⟨256 * 0 + j.val, by omega⟩)
    (hp1 : ∀ j : Fin 256, v158 (ix3 b s j) = pp ⟨256 * 1 + j.val, by omega⟩)
    (hp2 : ∀ j : Fin 256, v193 (ix3 b s j) = pp ⟨256 * 2 + j.val, by omega⟩)
    (hp3 : ∀ j : Fin 256, v228 (ix3 b s j) = pp ⟨256 * 3 + j.val, by omega⟩) :
    (after st10 W (Proc.devRef .tc main_v237) : S16x2048x1024.Idx → EReal) (ix3 b s c)
      = ∑ k, pp k * va11 (ix2 0 k) * silu (v24 (ix3 b s k)) * va12 (ix3 0 k c) := by
  after_results_simp
  change Host.dotGeneral dot_S16x2048x1024_S1024x1024_S16x2048x1024_2_0_01_1_n_n none (mulf (F := Ideal) (φ := .f32) (mulf (concatenate S16x2048x1024 2 [⟨S16x2048x256, (W (Proc.devRef .tc main_v123) : S16x2048x256.Idx → EReal)⟩, ⟨S16x2048x256, (W (Proc.devRef .tc main_v158) : S16x2048x256.Idx → EReal)⟩, ⟨S16x2048x256, (W (Proc.devRef .tc main_v193) : S16x2048x256.Idx → EReal)⟩, ⟨S16x2048x256, (W (Proc.devRef .tc main_v228) : S16x2048x256.Idx → EReal)⟩] concatenates_S16x2048x256_S16x2048x256_S16x2048x256_S16x2048x256_S16x2048x1024_d2) _) _) _ (ix3 b s c) = _
  rw [h123, h158, h193, h228, h24, ha11, ha12]
  pointwise
  simp only [TRef.toBuf, TRef.ofBuf, cast_eq]
  pointwise
  simp only [silu, sg, zero_sub]
  refine Finset.sum_congr rfl fun x _ => congrArg (· * _ * _ * _) ?_
  split
  · rename_i h; exact (hp0 ⟨x.val, h⟩).trans (congrArg pp (Fin.ext (by simp)))
  split
  · rename_i h1 h; exact (hp1 ⟨x.val - 256, h⟩).trans (congrArg pp (Fin.ext (by simp only; omega)))
  split
  · rename_i h1 h2 h; exact (hp2 ⟨x.val - 256 - 256, h⟩).trans (congrArg pp (Fin.ext (by simp only; omega)))
  · rename_i h1 h2 h3; exact (hp3 ⟨x.val - 256 - 256 - 256, by omega⟩).trans (congrArg pp (Fin.ext (by simp only; omega)))

end Cert.ReferenceIdeal.Val

end
-- ==== Proof.RVC.lean ====
/-
  The reference's pooling groups at the ideal reading, read at an index.
-/
module

public import proofs.«01_k».proof.Proof.RG

@[expose] public section

set_option maxRecDepth 16384

noncomputable section

namespace Cert.ReferenceIdeal.Val

open Cert.ReferenceIdeal Cert.ReferenceIdeal.Gen Cert.ReferenceIdeal.Run Cert.KernelIdeal.Spec
open Idealize.ShloMosaic Idealize.ShloMosaic.TcCoe Idealize.ShloMosaic.StableHlo
open Cert.KernelIdeal.Body (In)

variable (W : Valuation τ sig (Elt Ideal))

/-- The number of rows in the window, as the program counts them. -/
theorem cnt (w s : Nat) (hw : w < 4096) (hs : s < 2048) :
    FloatOps.sitofp (F := Ideal) FTy.f32 (IntOp.minsi (IntOp.addi (BitVec.ofNat 32 1) (BitVec.ofNat 32 s)) (BitVec.ofNat 32 w))
      = (((min (s + 1) w : Nat) : ℝ) : EReal) := by
  have e : IntOp.addi (BitVec.ofNat 32 1) (BitVec.ofNat 32 s) = BitVec.ofNat 32 (s + 1) := by
    show BitVec.ofNat 32 1 + BitVec.ofNat 32 s = _
    apply BitVec.eq_of_toNat_eq
    simp only [BitVec.toNat_add, BitVec.toNat_ofNat]
    omega
  have n : ∀ k : Nat, k < 4096 → (BitVec.ofNat 32 k).toInt = (k : Int) := by
    intro k hk
    rw [BitVec.toInt_eq_toNat_of_lt] <;> simp only [BitVec.toNat_ofNat] <;> omega
  have m : (IntOp.minsi (BitVec.ofNat 32 (s + 1)) (BitVec.ofNat 32 w)).toInt = ((min (s + 1) w : Nat) : Int) := by
    unfold IntOp.minsi
    simp only [BitVec.slt, BitVec.sle, n (s + 1) (by omega), n w hw, decide_eq_true_eq]
    split <;> rw [n _ (by omega)] <;> omega
  rw [e]
  show ((((IntOp.minsi (BitVec.ofNat 32 (s + 1)) (BitVec.ofNat 32 w)).toInt : ℝ)) : EReal) = _
  rw [m]
  rfl

theorem stage6 (v23 : S16x2048x1024.Idx → EReal) (va9 : S1x4x256x256.Idx → EReal) (va10 : S1x4x256.Idx → EReal)
    (h23 : W (Proc.devRef .tc main_v23) = v23) (ha9 : W (Proc.devRef .tc main_arg9) = va9) (ha10 : W (Proc.devRef .tc main_arg10) = va10)
    (b : Fin 16) (s : Fin 2048) (c : Fin 256) :
    (after st6 W (Proc.devRef .tc main_v123) : S16x2048x256.Idx → EReal) (ix3 b s c)
      = (∑ x : Fin 256, (Ideal.div (∑ k : Fin 2, if h : s.val + k.val < 1 then 0 else v23 (ix3 b ⟨s.val + k.val - 1, by omega⟩ ⟨256 * 0 + x.val, by omega⟩))
          (((min (s.val + 1) 2 : Nat) : ℝ) : EReal) - v23 (ix3 b s ⟨256 * 0 + x.val, by omega⟩)) * va9 (ix4 0 0 x c)) + va10 (ix3 0 0 c) := by
  after_results_simp
  rw [h23, ha9, ha10]
  pointwise
  simp only [TRef.toBuf, TRef.ofBuf, cast_eq]
  refine congrArg (· + _) (Finset.sum_congr rfl fun x _ => congrArg (· * _) (congrArg₂ (· - ·) (congrArg₂ Ideal.div (Finset.sum_congr rfl fun k _ => ?_) (cnt 2 s.val (by omega) s.isLt)) ?_))
  · refine (gather_row (N := 2049) (w := 2) (C := 256) _ _ _ b s k x (by omega) (by omega) ?_).trans ((pad_rows 1 _ _ _ _ rfl b _ x).trans ?_)
    · pointwise
      exact idx_word _ _ _ (by omega)
    · split
      · pointwise
        exact sitofp_zero
      · pointwise
        try rfl
  · exact congrArg (fun j => v23 (ix3 b s j)) (Fin.ext (by simp))

theorem stage7 (v23 : S16x2048x1024.Idx → EReal) (va9 : S1x4x256x256.Idx → EReal) (va10 : S1x4x256.Idx → EReal)
    (h23 : W (Proc.devRef .tc main_v23) = v23) (ha9 : W (Proc.devRef .tc main_arg9) = va9) (ha10 : W (Proc.devRef .tc main_arg10) = va10)
    (b : Fin 16) (s : Fin 2048) (c : Fin 256) :
    (after st7 W (Proc.devRef .tc main_v158) : S16x2048x256.Idx → EReal) (ix3 b s c)
      = (∑ x : Fin 256, (Ideal.div (∑ k : Fin 4, if h : s.val + k.val < 3 then 0 else v23 (ix3 b ⟨s.val + k.val - 3, by omega⟩ ⟨256 * 1 + x.val, by omega⟩))
          (((min (s.val + 1) 4 : Nat) : ℝ) : EReal) - v23 (ix3 b s ⟨256 * 1 + x.val, by omega⟩)) * va9 (ix4 0 1 x c)) + va10 (ix3 0 1 c) := by
  after_results_simp
  rw [h23, ha9, ha10]
  pointwise
  simp only [TRef.toBuf, TRef.ofBuf, cast_eq]
  refine congrArg (· + _) (Finset.sum_congr rfl fun x _ => congrArg (· * _) (congrArg₂ (· - ·) (congrArg₂ Ideal.div (Finset.sum_congr rfl fun k _ => ?_) (cnt 4 s.val (by omega) s.isLt)) ?_))
  · refine (gather_row (N := 2051) (w := 4) (C := 256) _ _ _ b s k x (by omega) (by omega) ?_).trans ((pad_rows 3 _ _ _ _ rfl b _ x).trans ?_)
    · pointwise
      exact idx_word _ _ _ (by omega)
    · split
      · pointwise
        exact sitofp_zero
      · pointwise
        try rfl
  · rfl

theorem stage8 (v23 : S16x2048x1024.Idx → EReal) (va9 : S1x4x256x256.Idx → EReal) (va10 : S1x4x256.Idx → EReal)
    (h23 : W (Proc.devRef .tc main_v23) = v23) (ha9 : W (Proc.devRef .tc main_arg9) = va9) (ha10 : W (Proc.devRef .tc main_arg10) = va10)
    (b : Fin 16) (s : Fin 2048) (c : Fin 256) :
    (after st8 W (Proc.devRef .tc main_v193) : S16x2048x256.Idx → EReal) (ix3 b s c)
      = (∑ x : Fin 256, (Ideal.div (∑ k : Fin 8, if h : s.val + k.val < 7 then 0 else v23 (ix3 b ⟨s.val + k.val - 7, by omega⟩ ⟨256 * 2 + x.val, by omega⟩))
          (((min (s.val + 1) 8 : Nat) : ℝ) : EReal) - v23 (ix3 b s ⟨256 * 2 + x.val, by omega⟩)) * va9 (ix4 0 2 x c)) + va10 (ix3 0 2 c) := by
  after_results_simp
  rw [h23, ha9, ha10]
  pointwise
  simp only [TRef.toBuf, TRef.ofBuf, cast_eq]
  refine congrArg (· + _) (Finset.sum_congr rfl fun x _ => congrArg (· * _) (congrArg₂ (· - ·) (congrArg₂ Ideal.div (Finset.sum_congr rfl fun k _ => ?_) (cnt 8 s.val (by omega) s.isLt)) ?_))
  · refine (gather_row (N := 2055) (w := 8) (C := 256) _ _ _ b s k x (by omega) (by omega) ?_).trans ((pad_rows 7 _ _ _ _ rfl b _ x).trans ?_)
    · pointwise
      exact idx_word _ _ _ (by omega)
    · split
      · pointwise
        exact sitofp_zero
      · pointwise
        try rfl
  · rfl

theorem stage9 (v23 : S16x2048x1024.Idx → EReal) (va9 : S1x4x256x256.Idx → EReal) (va10 : S1x4x256.Idx → EReal)
    (h23 : W (Proc.devRef .tc main_v23) = v23) (ha9 : W (Proc.devRef .tc main_arg9) = va9) (ha10 : W (Proc.devRef .tc main_arg10) = va10)
    (b : Fin 16) (s : Fin 2048) (c : Fin 256) :
    (after st9 W (Proc.devRef .tc main_v228) : S16x2048x256.Idx → EReal) (ix3 b s c)
      = (∑ x : Fin 256, (Ideal.div (∑ k : Fin 16, if h : s.val + k.val < 15 then 0 else v23 (ix3 b ⟨s.val + k.val - 15, by omega⟩ ⟨256 * 3 + x.val, by omega⟩))
          (((min (s.val + 1) 16 : Nat) : ℝ) : EReal) - v23 (ix3 b s ⟨256 * 3 + x.val, by omega⟩)) * va9 (ix4 0 3 x c)) + va10 (ix3 0 3 c) := by
  after_results_simp
  rw [h23, ha9, ha10]
  pointwise
  simp only [TRef.toBuf, TRef.ofBuf, cast_eq]
  refine congrArg (· + _) (Finset.sum_congr rfl fun x _ => congrArg (· * _) (congrArg₂ (· - ·) (congrArg₂ Ideal.div (Finset.sum_congr rfl fun k _ => ?_) (cnt 16 s.val (by omega) s.isLt)) ?_))
  · refine (gather_row (N := 2063) (w := 16) (C := 256) _ _ _ b s k x (by omega) (by omega) ?_).trans ((pad_rows 15 _ _ _ _ rfl b _ x).trans ?_)
    · pointwise
      exact idx_word _ _ _ (by omega)
    · split
      · pointwise
        exact sitofp_zero
      · pointwise
        try rfl
  · rfl

end Cert.ReferenceIdeal.Val

end
-- ==== Proof.RVD.lean ====
/-
  The reference's result at the ideal reading is the layer.
-/
module

public import proofs.«01_k».proof.Proof.RVA
public import proofs.«01_k».proof.Proof.RVB
public import proofs.«01_k».proof.Proof.RVC

@[expose] public section

set_option maxRecDepth 16384

noncomputable section

namespace Cert.ReferenceIdeal.Val

open Cert.ReferenceIdeal Cert.ReferenceIdeal.Gen Cert.ReferenceIdeal.Run Cert.KernelIdeal.Spec
open Idealize.ShloMosaic Idealize.ShloMosaic.TcCoe Idealize.ShloMosaic.StableHlo
open Cert.KernelIdeal.Body (In)

variable (W : Valuation τ sig (Elt Ideal))

variable (I : In Ideal) (xs : Nat → Row)

/-- The window's terms in the reference's order. -/
theorem tot_rev (w : Nat) (hw : w ≤ 16) (s : Nat) (c : Fin 1024) :
    (∑ k : Fin w, if s + k.val < w - 1 then (0 : EReal) else Z I (xs (s + k.val - (w - 1))) 3 c) = Tot I xs w s c := by
  unfold Tot
  rw [← Equiv.sum_comp Fin.revPerm]
  refine Finset.sum_congr rfl fun k _ => ?_
  have hk := k.isLt
  unfold vp
  rw [Fin.revPerm_apply, Fin.val_rev]
  by_cases h : s < k.val
  · rw [if_pos (by omega), if_pos (by omega)]
  · rw [if_neg (by omega), if_neg (by omega), show s + (w - (k.val + 1)) - (w - 1) = s + 16 - k.val - 16 by omega]

/-- One pooling group before the scale. -/
def PQ (s : Nat) (c : Fin 1024) : EReal :=
  (∑ k : Fin 256, Pin I xs s ⟨256 * (c.val / 256) + k.val, by omega⟩ * I.wp (ix3 ⟨c.val / 256, by omega⟩ k ⟨c.val % 256, by omega⟩))
    + I.bp (ix2 0 c)

theorem pool_eq (g : Fin 4) (w : Nat) (hw : w = win g.val) (s : Nat) (c : Fin 256) (d : Fin w → Fin 256 → EReal) (v : Fin 256 → EReal)
    (wp : Fin 256 → EReal) (bp : EReal)
    (hd : ∀ k x, d k x = if s + k.val < w - 1 then (0 : EReal) else Z I (xs (s + k.val - (w - 1))) 3 ⟨256 * g.val + x.val, by omega⟩)
    (hv : ∀ x, v x = Z I (xs s) 3 ⟨256 * g.val + x.val, by omega⟩)
    (hwp : ∀ x, wp x = I.wp (ix3 g x c)) (hbp : bp = I.bp (ix2 0 ⟨256 * g.val + c.val, by omega⟩)) :
    (∑ x, (Ideal.div (∑ k, d k x) (((min (s + 1) w : Nat) : ℝ) : EReal) - v x) * wp x) + bp = PQ I xs s ⟨256 * g.val + c.val, by omega⟩ := by
  have hg := g.isLt
  have e1 : (256 * g.val + c.val) / 256 = g.val := by omega
  have e2 : (256 * g.val + c.val) % 256 = c.val := by omega
  have hw16 : w ≤ 16 := by
    rw [hw]; unfold win
    calc 2 ^ (g.val + 1) ≤ 2 ^ 4 := Nat.pow_le_pow_right (by omega) (by omega)
      _ = 16 := by decide
  unfold PQ
  rw [hbp]
  refine congrArg (· + _) (Finset.sum_congr rfl fun x _ => ?_)
  refine congrArg₂ (· * ·) ?_ ((hwp x).trans (congrArg I.wp ?_))
  · unfold Pin
    have e3 : (256 * ((256 * g.val + c.val) / 256) + x.val) / 256 = g.val := by omega
    have e4 : (⟨256 * ((256 * g.val + c.val) / 256) + x.val, by omega⟩ : Fin 1024) = ⟨256 * g.val + x.val, by omega⟩ := Fin.ext (by simp only; omega)
    simp only [e3]
    rw [e4, ← hw]
    refine congrArg₂ (· - ·) ?_ ?_
    · rw [Finset.sum_congr rfl fun k _ => hd k x, tot_rev I xs w hw16 s]
      unfold Cert.KernelIdeal.Spec.inv
      have hne : (((min (s + 1) w : Nat) : ℝ)) ≠ 0 := by
        have hw0 : 0 < w := by rw [hw]; unfold win; exact Nat.two_pow_pos _
        have : 0 < min (s + 1) w := by omega
        exact_mod_cast this.ne'
      rw [Ideal.div_coe hne, Ideal.div_coe hne, one_mul]
    · rw [hv]; unfold vp
      rw [if_neg (by omega), Nat.add_sub_cancel]
  · funext a
    match a with
    | ⟨0, _⟩ => exact Fin.ext e1.symm
    | ⟨1, _⟩ => rfl
    | ⟨2, _⟩ => exact Fin.ext e2.symm

variable (V : Valuation τ sig (Elt Ideal)) (I : In Ideal) (xs : Nat → Nat → Row)

/-- The launch contents of the arguments, entry by entry. -/
structure Agrees : Prop where
  hx : ∀ (b : Fin 16) (s : Fin 2048) (c : Fin 1024), (V (Proc.devRef .tc main_arg0) : S16x2048x1024.Idx → EReal) (ix3 b s c) = xs b.val s.val c
  hng : ∀ c, (V (Proc.devRef .tc main_arg1) : S1x1024.Idx → EReal) (ix2 0 c) = I.ng (ix2 0 c)
  hwi : ∀ k c, (V (Proc.devRef .tc main_arg2) : S1x1024x7168.Idx → EReal) (ix3 0 k c) = I.wi (ix2 k c)
  hbi : ∀ c, (V (Proc.devRef .tc main_arg3) : S1x7168.Idx → EReal) (ix2 0 c) = I.bi (ix2 0 c)
  hcw : ∀ k c, (V (Proc.devRef .tc main_arg4) : S1x31x1024.Idx → EReal) (ix3 0 k c) = I.cw (ix2 k c)
  hcb : ∀ c, (V (Proc.devRef .tc main_arg5) : S1x1024.Idx → EReal) (ix2 0 c) = I.cb (ix2 0 c)
  hlg : ∀ c, (V (Proc.devRef .tc main_arg6) : S1x1024.Idx → EReal) (ix2 0 c) = I.lg (ix2 0 c)
  hlb : ∀ c, (V (Proc.devRef .tc main_arg7) : S1x1024.Idx → EReal) (ix2 0 c) = I.lb (ix2 0 c)
  hwa : ∀ k c, (V (Proc.devRef .tc main_arg8) : S1x1024x1024.Idx → EReal) (ix3 0 k c) = I.wa (ix2 k c)
  hwp : ∀ g k c, (V (Proc.devRef .tc main_arg9) : S1x4x256x256.Idx → EReal) (ix4 0 g k c) = I.wp (ix3 g k c)
  hbp : ∀ (g : Fin 4) (c : Fin 256), (V (Proc.devRef .tc main_arg10) : S1x4x256.Idx → EReal) (ix3 0 g c) = I.bp (ix2 0 ⟨256 * g.val + c.val, by omega⟩)
  hps : ∀ c, (V (Proc.devRef .tc main_arg11) : S1x1024.Idx → EReal) (ix2 0 c) = I.ps (ix2 0 c)
  hwb : ∀ k c, (V (Proc.devRef .tc main_arg12) : S1x1024x1024.Idx → EReal) (ix3 0 k c) = I.wb (ix2 k c)
  hwo : ∀ k c, (V (Proc.devRef .tc main_arg13) : S1x1024x1024.Idx → EReal) (ix3 0 k c) = I.wo (ix2 k c)
  hnf : ∀ c, (V (Proc.devRef .tc main_arg14) : S1024.Idx → EReal) (ix1 c) = I.nf (ix2 0 c)

/-- The contents after 1 stages. -/
def W1 : Valuation τ sig (Elt Ideal) := after st0 V
/-- The contents after 2 stages. -/
def W2 : Valuation τ sig (Elt Ideal) := after st1 (W1 V)
/-- The contents after 3 stages. -/
def W3 : Valuation τ sig (Elt Ideal) := after st2 (W2 V)
/-- The contents after 4 stages. -/
def W4 : Valuation τ sig (Elt Ideal) := after st3 (W3 V)
/-- The contents after 5 stages. -/
def W5 : Valuation τ sig (Elt Ideal) := after st4 (W4 V)
/-- The contents after 6 stages. -/
def W6 : Valuation τ sig (Elt Ideal) := after st5 (W5 V)
/-- The contents after 7 stages. -/
def W7 : Valuation τ sig (Elt Ideal) := after st6 (W6 V)
/-- The contents after 8 stages. -/
def W8 : Valuation τ sig (Elt Ideal) := after st7 (W7 V)
/-- The contents after 9 stages. -/
def W9 : Valuation τ sig (Elt Ideal) := after st8 (W8 V)
/-- The contents after 10 stages. -/
def W10 : Valuation τ sig (Elt Ideal) := after st9 (W9 V)
/-- The contents after 11 stages. -/
def W11 : Valuation τ sig (Elt Ideal) := after st10 (W10 V)
/-- The contents after 12 stages. -/
def W12 : Valuation τ sig (Elt Ideal) := after st11 (W11 V)
/-- The contents after 13 stages. -/
def W13 : Valuation τ sig (Elt Ideal) := after st12 (W12 V)

theorem arg0_1 : W1 V (Proc.devRef .tc main_arg0) = V (Proc.devRef .tc main_arg0) := (keep0 _ _ (by decide))
theorem arg0_2 : W2 V (Proc.devRef .tc main_arg0) = V (Proc.devRef .tc main_arg0) := (keep1 _ _ (by decide)).trans (arg0_1 V)
theorem arg0_3 : W3 V (Proc.devRef .tc main_arg0) = V (Proc.devRef .tc main_arg0) := (keep2 _ _ (by decide)).trans (arg0_2 V)
theorem arg0_4 : W4 V (Proc.devRef .tc main_arg0) = V (Proc.devRef .tc main_arg0) := (keep3 _ _ (by decide)).trans (arg0_3 V)
theorem arg0_5 : W5 V (Proc.devRef .tc main_arg0) = V (Proc.devRef .tc main_arg0) := (keep4 _ _ (by decide)).trans (arg0_4 V)
theorem arg0_6 : W6 V (Proc.devRef .tc main_arg0) = V (Proc.devRef .tc main_arg0) := (keep5 _ _ (by decide)).trans (arg0_5 V)
theorem arg0_7 : W7 V (Proc.devRef .tc main_arg0) = V (Proc.devRef .tc main_arg0) := (keep6 _ _ (by decide)).trans (arg0_6 V)
theorem arg0_8 : W8 V (Proc.devRef .tc main_arg0) = V (Proc.devRef .tc main_arg0) := (keep7 _ _ (by decide)).trans (arg0_7 V)
theorem arg0_9 : W9 V (Proc.devRef .tc main_arg0) = V (Proc.devRef .tc main_arg0) := (keep8 _ _ (by decide)).trans (arg0_8 V)
theorem arg0_10 : W10 V (Proc.devRef .tc main_arg0) = V (Proc.devRef .tc main_arg0) := (keep9 _ _ (by decide)).trans (arg0_9 V)
theorem arg0_11 : W11 V (Proc.devRef .tc main_arg0) = V (Proc.devRef .tc main_arg0) := (keep10 _ _ (by decide)).trans (arg0_10 V)
theorem arg2_1 : W1 V (Proc.devRef .tc main_arg2) = V (Proc.devRef .tc main_arg2) := (keep0 _ _ (by decide))
theorem arg3_1 : W1 V (Proc.devRef .tc main_arg3) = V (Proc.devRef .tc main_arg3) := (keep0 _ _ (by decide))
theorem arg4_1 : W1 V (Proc.devRef .tc main_arg4) = V (Proc.devRef .tc main_arg4) := (keep0 _ _ (by decide))
theorem arg4_2 : W2 V (Proc.devRef .tc main_arg4) = V (Proc.devRef .tc main_arg4) := (keep1 _ _ (by decide)).trans (arg4_1 V)
theorem arg4_3 : W3 V (Proc.devRef .tc main_arg4) = V (Proc.devRef .tc main_arg4) := (keep2 _ _ (by decide)).trans (arg4_2 V)
theorem arg5_1 : W1 V (Proc.devRef .tc main_arg5) = V (Proc.devRef .tc main_arg5) := (keep0 _ _ (by decide))
theorem arg5_2 : W2 V (Proc.devRef .tc main_arg5) = V (Proc.devRef .tc main_arg5) := (keep1 _ _ (by decide)).trans (arg5_1 V)
theorem arg5_3 : W3 V (Proc.devRef .tc main_arg5) = V (Proc.devRef .tc main_arg5) := (keep2 _ _ (by decide)).trans (arg5_2 V)
theorem arg6_1 : W1 V (Proc.devRef .tc main_arg6) = V (Proc.devRef .tc main_arg6) := (keep0 _ _ (by decide))
theorem arg6_2 : W2 V (Proc.devRef .tc main_arg6) = V (Proc.devRef .tc main_arg6) := (keep1 _ _ (by decide)).trans (arg6_1 V)
theorem arg6_3 : W3 V (Proc.devRef .tc main_arg6) = V (Proc.devRef .tc main_arg6) := (keep2 _ _ (by decide)).trans (arg6_2 V)
theorem arg6_4 : W4 V (Proc.devRef .tc main_arg6) = V (Proc.devRef .tc main_arg6) := (keep3 _ _ (by decide)).trans (arg6_3 V)
theorem arg7_1 : W1 V (Proc.devRef .tc main_arg7) = V (Proc.devRef .tc main_arg7) := (keep0 _ _ (by decide))
theorem arg7_2 : W2 V (Proc.devRef .tc main_arg7) = V (Proc.devRef .tc main_arg7) := (keep1 _ _ (by decide)).trans (arg7_1 V)
theorem arg7_3 : W3 V (Proc.devRef .tc main_arg7) = V (Proc.devRef .tc main_arg7) := (keep2 _ _ (by decide)).trans (arg7_2 V)
theorem arg7_4 : W4 V (Proc.devRef .tc main_arg7) = V (Proc.devRef .tc main_arg7) := (keep3 _ _ (by decide)).trans (arg7_3 V)
theorem arg8_1 : W1 V (Proc.devRef .tc main_arg8) = V (Proc.devRef .tc main_arg8) := (keep0 _ _ (by decide))
theorem arg8_2 : W2 V (Proc.devRef .tc main_arg8) = V (Proc.devRef .tc main_arg8) := (keep1 _ _ (by decide)).trans (arg8_1 V)
theorem arg8_3 : W3 V (Proc.devRef .tc main_arg8) = V (Proc.devRef .tc main_arg8) := (keep2 _ _ (by decide)).trans (arg8_2 V)
theorem arg8_4 : W4 V (Proc.devRef .tc main_arg8) = V (Proc.devRef .tc main_arg8) := (keep3 _ _ (by decide)).trans (arg8_3 V)
theorem arg8_5 : W5 V (Proc.devRef .tc main_arg8) = V (Proc.devRef .tc main_arg8) := (keep4 _ _ (by decide)).trans (arg8_4 V)
theorem arg9_1 : W1 V (Proc.devRef .tc main_arg9) = V (Proc.devRef .tc main_arg9) := (keep0 _ _ (by decide))
theorem arg9_2 : W2 V (Proc.devRef .tc main_arg9) = V (Proc.devRef .tc main_arg9) := (keep1 _ _ (by decide)).trans (arg9_1 V)
theorem arg9_3 : W3 V (Proc.devRef .tc main_arg9) = V (Proc.devRef .tc main_arg9) := (keep2 _ _ (by decide)).trans (arg9_2 V)
theorem arg9_4 : W4 V (Proc.devRef .tc main_arg9) = V (Proc.devRef .tc main_arg9) := (keep3 _ _ (by decide)).trans (arg9_3 V)
theorem arg9_5 : W5 V (Proc.devRef .tc main_arg9) = V (Proc.devRef .tc main_arg9) := (keep4 _ _ (by decide)).trans (arg9_4 V)
theorem arg9_6 : W6 V (Proc.devRef .tc main_arg9) = V (Proc.devRef .tc main_arg9) := (keep5 _ _ (by decide)).trans (arg9_5 V)
theorem arg9_7 : W7 V (Proc.devRef .tc main_arg9) = V (Proc.devRef .tc main_arg9) := (keep6 _ _ (by decide)).trans (arg9_6 V)
theorem arg9_8 : W8 V (Proc.devRef .tc main_arg9) = V (Proc.devRef .tc main_arg9) := (keep7 _ _ (by decide)).trans (arg9_7 V)
theorem arg9_9 : W9 V (Proc.devRef .tc main_arg9) = V (Proc.devRef .tc main_arg9) := (keep8 _ _ (by decide)).trans (arg9_8 V)
theorem arg10_1 : W1 V (Proc.devRef .tc main_arg10) = V (Proc.devRef .tc main_arg10) := (keep0 _ _ (by decide))
theorem arg10_2 : W2 V (Proc.devRef .tc main_arg10) = V (Proc.devRef .tc main_arg10) := (keep1 _ _ (by decide)).trans (arg10_1 V)
theorem arg10_3 : W3 V (Proc.devRef .tc main_arg10) = V (Proc.devRef .tc main_arg10) := (keep2 _ _ (by decide)).trans (arg10_2 V)
theorem arg10_4 : W4 V (Proc.devRef .tc main_arg10) = V (Proc.devRef .tc main_arg10) := (keep3 _ _ (by decide)).trans (arg10_3 V)
theorem arg10_5 : W5 V (Proc.devRef .tc main_arg10) = V (Proc.devRef .tc main_arg10) := (keep4 _ _ (by decide)).trans (arg10_4 V)
theorem arg10_6 : W6 V (Proc.devRef .tc main_arg10) = V (Proc.devRef .tc main_arg10) := (keep5 _ _ (by decide)).trans (arg10_5 V)
theorem arg10_7 : W7 V (Proc.devRef .tc main_arg10) = V (Proc.devRef .tc main_arg10) := (keep6 _ _ (by decide)).trans (arg10_6 V)
theorem arg10_8 : W8 V (Proc.devRef .tc main_arg10) = V (Proc.devRef .tc main_arg10) := (keep7 _ _ (by decide)).trans (arg10_7 V)
theorem arg10_9 : W9 V (Proc.devRef .tc main_arg10) = V (Proc.devRef .tc main_arg10) := (keep8 _ _ (by decide)).trans (arg10_8 V)
theorem arg11_1 : W1 V (Proc.devRef .tc main_arg11) = V (Proc.devRef .tc main_arg11) := (keep0 _ _ (by decide))
theorem arg11_2 : W2 V (Proc.devRef .tc main_arg11) = V (Proc.devRef .tc main_arg11) := (keep1 _ _ (by decide)).trans (arg11_1 V)
theorem arg11_3 : W3 V (Proc.devRef .tc main_arg11) = V (Proc.devRef .tc main_arg11) := (keep2 _ _ (by decide)).trans (arg11_2 V)
theorem arg11_4 : W4 V (Proc.devRef .tc main_arg11) = V (Proc.devRef .tc main_arg11) := (keep3 _ _ (by decide)).trans (arg11_3 V)
theorem arg11_5 : W5 V (Proc.devRef .tc main_arg11) = V (Proc.devRef .tc main_arg11) := (keep4 _ _ (by decide)).trans (arg11_4 V)
theorem arg11_6 : W6 V (Proc.devRef .tc main_arg11) = V (Proc.devRef .tc main_arg11) := (keep5 _ _ (by decide)).trans (arg11_5 V)
theorem arg11_7 : W7 V (Proc.devRef .tc main_arg11) = V (Proc.devRef .tc main_arg11) := (keep6 _ _ (by decide)).trans (arg11_6 V)
theorem arg11_8 : W8 V (Proc.devRef .tc main_arg11) = V (Proc.devRef .tc main_arg11) := (keep7 _ _ (by decide)).trans (arg11_7 V)
theorem arg11_9 : W9 V (Proc.devRef .tc main_arg11) = V (Proc.devRef .tc main_arg11) := (keep8 _ _ (by decide)).trans (arg11_8 V)
theorem arg11_10 : W10 V (Proc.devRef .tc main_arg11) = V (Proc.devRef .tc main_arg11) := (keep9 _ _ (by decide)).trans (arg11_9 V)
theorem arg12_1 : W1 V (Proc.devRef .tc main_arg12) = V (Proc.devRef .tc main_arg12) := (keep0 _ _ (by decide))
theorem arg12_2 : W2 V (Proc.devRef .tc main_arg12) = V (Proc.devRef .tc main_arg12) := (keep1 _ _ (by decide)).trans (arg12_1 V)
theorem arg12_3 : W3 V (Proc.devRef .tc main_arg12) = V (Proc.devRef .tc main_arg12) := (keep2 _ _ (by decide)).trans (arg12_2 V)
theorem arg12_4 : W4 V (Proc.devRef .tc main_arg12) = V (Proc.devRef .tc main_arg12) := (keep3 _ _ (by decide)).trans (arg12_3 V)
theorem arg12_5 : W5 V (Proc.devRef .tc main_arg12) = V (Proc.devRef .tc main_arg12) := (keep4 _ _ (by decide)).trans (arg12_4 V)
theorem arg12_6 : W6 V (Proc.devRef .tc main_arg12) = V (Proc.devRef .tc main_arg12) := (keep5 _ _ (by decide)).trans (arg12_5 V)
theorem arg12_7 : W7 V (Proc.devRef .tc main_arg12) = V (Proc.devRef .tc main_arg12) := (keep6 _ _ (by decide)).trans (arg12_6 V)
theorem arg12_8 : W8 V (Proc.devRef .tc main_arg12) = V (Proc.devRef .tc main_arg12) := (keep7 _ _ (by decide)).trans (arg12_7 V)
theorem arg12_9 : W9 V (Proc.devRef .tc main_arg12) = V (Proc.devRef .tc main_arg12) := (keep8 _ _ (by decide)).trans (arg12_8 V)
theorem arg12_10 : W10 V (Proc.devRef .tc main_arg12) = V (Proc.devRef .tc main_arg12) := (keep9 _ _ (by decide)).trans (arg12_9 V)
theorem arg13_1 : W1 V (Proc.devRef .tc main_arg13) = V (Proc.devRef .tc main_arg13) := (keep0 _ _ (by decide))
theorem arg13_2 : W2 V (Proc.devRef .tc main_arg13) = V (Proc.devRef .tc main_arg13) := (keep1 _ _ (by decide)).trans (arg13_1 V)
theorem arg13_3 : W3 V (Proc.devRef .tc main_arg13) = V (Proc.devRef .tc main_arg13) := (keep2 _ _ (by decide)).trans (arg13_2 V)
theorem arg13_4 : W4 V (Proc.devRef .tc main_arg13) = V (Proc.devRef .tc main_arg13) := (keep3 _ _ (by decide)).trans (arg13_3 V)
theorem arg13_5 : W5 V (Proc.devRef .tc main_arg13) = V (Proc.devRef .tc main_arg13) := (keep4 _ _ (by decide)).trans (arg13_4 V)
theorem arg13_6 : W6 V (Proc.devRef .tc main_arg13) = V (Proc.devRef .tc main_arg13) := (keep5 _ _ (by decide)).trans (arg13_5 V)
theorem arg13_7 : W7 V (Proc.devRef .tc main_arg13) = V (Proc.devRef .tc main_arg13) := (keep6 _ _ (by decide)).trans (arg13_6 V)
theorem arg13_8 : W8 V (Proc.devRef .tc main_arg13) = V (Proc.devRef .tc main_arg13) := (keep7 _ _ (by decide)).trans (arg13_7 V)
theorem arg13_9 : W9 V (Proc.devRef .tc main_arg13) = V (Proc.devRef .tc main_arg13) := (keep8 _ _ (by decide)).trans (arg13_8 V)
theorem arg13_10 : W10 V (Proc.devRef .tc main_arg13) = V (Proc.devRef .tc main_arg13) := (keep9 _ _ (by decide)).trans (arg13_9 V)
theorem arg13_11 : W11 V (Proc.devRef .tc main_arg13) = V (Proc.devRef .tc main_arg13) := (keep10 _ _ (by decide)).trans (arg13_10 V)
theorem arg14_1 : W1 V (Proc.devRef .tc main_arg14) = V (Proc.devRef .tc main_arg14) := (keep0 _ _ (by decide))
theorem arg14_2 : W2 V (Proc.devRef .tc main_arg14) = V (Proc.devRef .tc main_arg14) := (keep1 _ _ (by decide)).trans (arg14_1 V)
theorem arg14_3 : W3 V (Proc.devRef .tc main_arg14) = V (Proc.devRef .tc main_arg14) := (keep2 _ _ (by decide)).trans (arg14_2 V)
theorem arg14_4 : W4 V (Proc.devRef .tc main_arg14) = V (Proc.devRef .tc main_arg14) := (keep3 _ _ (by decide)).trans (arg14_3 V)
theorem arg14_5 : W5 V (Proc.devRef .tc main_arg14) = V (Proc.devRef .tc main_arg14) := (keep4 _ _ (by decide)).trans (arg14_4 V)
theorem arg14_6 : W6 V (Proc.devRef .tc main_arg14) = V (Proc.devRef .tc main_arg14) := (keep5 _ _ (by decide)).trans (arg14_5 V)
theorem arg14_7 : W7 V (Proc.devRef .tc main_arg14) = V (Proc.devRef .tc main_arg14) := (keep6 _ _ (by decide)).trans (arg14_6 V)
theorem arg14_8 : W8 V (Proc.devRef .tc main_arg14) = V (Proc.devRef .tc main_arg14) := (keep7 _ _ (by decide)).trans (arg14_7 V)
theorem arg14_9 : W9 V (Proc.devRef .tc main_arg14) = V (Proc.devRef .tc main_arg14) := (keep8 _ _ (by decide)).trans (arg14_8 V)
theorem arg14_10 : W10 V (Proc.devRef .tc main_arg14) = V (Proc.devRef .tc main_arg14) := (keep9 _ _ (by decide)).trans (arg14_9 V)
theorem arg14_11 : W11 V (Proc.devRef .tc main_arg14) = V (Proc.devRef .tc main_arg14) := (keep10 _ _ (by decide)).trans (arg14_10 V)
theorem arg14_12 : W12 V (Proc.devRef .tc main_arg14) = V (Proc.devRef .tc main_arg14) := (keep11 _ _ (by decide)).trans (arg14_11 V)
theorem v22_4 : W4 V (Proc.devRef .tc main_v22) = W3 V (Proc.devRef .tc main_v22) := (keep3 _ _ (by decide))
theorem v22_5 : W5 V (Proc.devRef .tc main_v22) = W3 V (Proc.devRef .tc main_v22) := (keep4 _ _ (by decide)).trans (v22_4 V)
theorem v23_4 : W4 V (Proc.devRef .tc main_v23) = W3 V (Proc.devRef .tc main_v23) := (keep3 _ _ (by decide))
theorem v23_5 : W5 V (Proc.devRef .tc main_v23) = W3 V (Proc.devRef .tc main_v23) := (keep4 _ _ (by decide)).trans (v23_4 V)
theorem v23_6 : W6 V (Proc.devRef .tc main_v23) = W3 V (Proc.devRef .tc main_v23) := (keep5 _ _ (by decide)).trans (v23_5 V)
theorem v23_7 : W7 V (Proc.devRef .tc main_v23) = W3 V (Proc.devRef .tc main_v23) := (keep6 _ _ (by decide)).trans (v23_6 V)
theorem v23_8 : W8 V (Proc.devRef .tc main_v23) = W3 V (Proc.devRef .tc main_v23) := (keep7 _ _ (by decide)).trans (v23_7 V)
theorem v23_9 : W9 V (Proc.devRef .tc main_v23) = W3 V (Proc.devRef .tc main_v23) := (keep8 _ _ (by decide)).trans (v23_8 V)
theorem v24_4 : W4 V (Proc.devRef .tc main_v24) = W3 V (Proc.devRef .tc main_v24) := (keep3 _ _ (by decide))
theorem v24_5 : W5 V (Proc.devRef .tc main_v24) = W3 V (Proc.devRef .tc main_v24) := (keep4 _ _ (by decide)).trans (v24_4 V)
theorem v24_6 : W6 V (Proc.devRef .tc main_v24) = W3 V (Proc.devRef .tc main_v24) := (keep5 _ _ (by decide)).trans (v24_5 V)
theorem v24_7 : W7 V (Proc.devRef .tc main_v24) = W3 V (Proc.devRef .tc main_v24) := (keep6 _ _ (by decide)).trans (v24_6 V)
theorem v24_8 : W8 V (Proc.devRef .tc main_v24) = W3 V (Proc.devRef .tc main_v24) := (keep7 _ _ (by decide)).trans (v24_7 V)
theorem v24_9 : W9 V (Proc.devRef .tc main_v24) = W3 V (Proc.devRef .tc main_v24) := (keep8 _ _ (by decide)).trans (v24_8 V)
theorem v24_10 : W10 V (Proc.devRef .tc main_v24) = W3 V (Proc.devRef .tc main_v24) := (keep9 _ _ (by decide)).trans (v24_9 V)
theorem v25_4 : W4 V (Proc.devRef .tc main_v25) = W3 V (Proc.devRef .tc main_v25) := (keep3 _ _ (by decide))
theorem v25_5 : W5 V (Proc.devRef .tc main_v25) = W3 V (Proc.devRef .tc main_v25) := (keep4 _ _ (by decide)).trans (v25_4 V)
theorem v25_6 : W6 V (Proc.devRef .tc main_v25) = W3 V (Proc.devRef .tc main_v25) := (keep5 _ _ (by decide)).trans (v25_5 V)
theorem v25_7 : W7 V (Proc.devRef .tc main_v25) = W3 V (Proc.devRef .tc main_v25) := (keep6 _ _ (by decide)).trans (v25_6 V)
theorem v25_8 : W8 V (Proc.devRef .tc main_v25) = W3 V (Proc.devRef .tc main_v25) := (keep7 _ _ (by decide)).trans (v25_7 V)
theorem v25_9 : W9 V (Proc.devRef .tc main_v25) = W3 V (Proc.devRef .tc main_v25) := (keep8 _ _ (by decide)).trans (v25_8 V)
theorem v25_10 : W10 V (Proc.devRef .tc main_v25) = W3 V (Proc.devRef .tc main_v25) := (keep9 _ _ (by decide)).trans (v25_9 V)
theorem v25_11 : W11 V (Proc.devRef .tc main_v25) = W3 V (Proc.devRef .tc main_v25) := (keep10 _ _ (by decide)).trans (v25_10 V)
theorem v26_4 : W4 V (Proc.devRef .tc main_v26) = W3 V (Proc.devRef .tc main_v26) := (keep3 _ _ (by decide))
theorem v26_5 : W5 V (Proc.devRef .tc main_v26) = W3 V (Proc.devRef .tc main_v26) := (keep4 _ _ (by decide)).trans (v26_4 V)
theorem v26_6 : W6 V (Proc.devRef .tc main_v26) = W3 V (Proc.devRef .tc main_v26) := (keep5 _ _ (by decide)).trans (v26_5 V)
theorem v26_7 : W7 V (Proc.devRef .tc main_v26) = W3 V (Proc.devRef .tc main_v26) := (keep6 _ _ (by decide)).trans (v26_6 V)
theorem v26_8 : W8 V (Proc.devRef .tc main_v26) = W3 V (Proc.devRef .tc main_v26) := (keep7 _ _ (by decide)).trans (v26_7 V)
theorem v26_9 : W9 V (Proc.devRef .tc main_v26) = W3 V (Proc.devRef .tc main_v26) := (keep8 _ _ (by decide)).trans (v26_8 V)
theorem v26_10 : W10 V (Proc.devRef .tc main_v26) = W3 V (Proc.devRef .tc main_v26) := (keep9 _ _ (by decide)).trans (v26_9 V)
theorem v26_11 : W11 V (Proc.devRef .tc main_v26) = W3 V (Proc.devRef .tc main_v26) := (keep10 _ _ (by decide)).trans (v26_10 V)
theorem v88_7 : W7 V (Proc.devRef .tc main_v88) = W6 V (Proc.devRef .tc main_v88) := (keep6 _ _ (by decide))
theorem v88_8 : W8 V (Proc.devRef .tc main_v88) = W6 V (Proc.devRef .tc main_v88) := (keep7 _ _ (by decide)).trans (v88_7 V)
theorem v88_9 : W9 V (Proc.devRef .tc main_v88) = W6 V (Proc.devRef .tc main_v88) := (keep8 _ _ (by decide)).trans (v88_8 V)
theorem v88_10 : W10 V (Proc.devRef .tc main_v88) = W6 V (Proc.devRef .tc main_v88) := (keep9 _ _ (by decide)).trans (v88_9 V)
theorem v88_11 : W11 V (Proc.devRef .tc main_v88) = W6 V (Proc.devRef .tc main_v88) := (keep10 _ _ (by decide)).trans (v88_10 V)
theorem v123_8 : W8 V (Proc.devRef .tc main_v123) = W7 V (Proc.devRef .tc main_v123) := (keep7 _ _ (by decide))
theorem v123_9 : W9 V (Proc.devRef .tc main_v123) = W7 V (Proc.devRef .tc main_v123) := (keep8 _ _ (by decide)).trans (v123_8 V)
theorem v123_10 : W10 V (Proc.devRef .tc main_v123) = W7 V (Proc.devRef .tc main_v123) := (keep9 _ _ (by decide)).trans (v123_9 V)
theorem v158_9 : W9 V (Proc.devRef .tc main_v158) = W8 V (Proc.devRef .tc main_v158) := (keep8 _ _ (by decide))
theorem v158_10 : W10 V (Proc.devRef .tc main_v158) = W8 V (Proc.devRef .tc main_v158) := (keep9 _ _ (by decide)).trans (v158_9 V)
theorem v193_10 : W10 V (Proc.devRef .tc main_v193) = W9 V (Proc.devRef .tc main_v193) := (keep9 _ _ (by decide))

variable {V I xs} (h : Agrees V I xs)
include h

theorem r13 (b : Fin 16) (s : Fin 2048) (c : Fin 1024) : ((W1 V) (Proc.devRef .tc main_v13) : S16x2048x1024.Idx → EReal) (ix3 b s c) = H I (xs b.val s.val) c := by
  refine (stage0 V _ _ rfl rfl b s c).trans ?_
  unfold H
  simp only [h.hx, h.hng]

theorem r19 (b : Fin 16) (s : Fin 2048) (c : Fin 7168) : ((W2 V) (Proc.devRef .tc main_v19) : S16x2048x7168.Idx → EReal) (ix3 b s c) = zr I (xs b.val s.val) c := by
  refine (stage1 (W1 V) _ _ _ rfl (arg2_1 V) (arg3_1 V) b s c).trans ?_
  unfold zr
  simp only [r13 h, h.hwi, h.hbi]

theorem r20 (b : Fin 16) (s : Fin 2048) (c : Fin 1024) : ((W3 V) (Proc.devRef .tc main_v20) : S16x2048x1024.Idx → EReal) (ix3 b s c) = Z I (xs b.val s.val) 0 c :=
  (stage2_0 (W2 V) _ rfl b s c).trans (r19 h b s _)

theorem r21 (b : Fin 16) (s : Fin 2048) (c : Fin 1024) : ((W3 V) (Proc.devRef .tc main_v21) : S16x2048x1024.Idx → EReal) (ix3 b s c) = Z I (xs b.val s.val) 1 c :=
  (stage2_1 (W2 V) _ rfl b s c).trans (r19 h b s _)

theorem r22 (b : Fin 16) (s : Fin 2048) (c : Fin 1024) : ((W3 V) (Proc.devRef .tc main_v22) : S16x2048x1024.Idx → EReal) (ix3 b s c) = Z I (xs b.val s.val) 2 c :=
  (stage2_2 (W2 V) _ rfl b s c).trans (r19 h b s _)

theorem r23 (b : Fin 16) (s : Fin 2048) (c : Fin 1024) : ((W3 V) (Proc.devRef .tc main_v23) : S16x2048x1024.Idx → EReal) (ix3 b s c) = Z I (xs b.val s.val) 3 c :=
  (stage2_3 (W2 V) _ rfl b s c).trans (r19 h b s _)

theorem r24 (b : Fin 16) (s : Fin 2048) (c : Fin 1024) : ((W3 V) (Proc.devRef .tc main_v24) : S16x2048x1024.Idx → EReal) (ix3 b s c) = Z I (xs b.val s.val) 4 c :=
  (stage2_4 (W2 V) _ rfl b s c).trans (r19 h b s _)

theorem r25 (b : Fin 16) (s : Fin 2048) (c : Fin 1024) : ((W3 V) (Proc.devRef .tc main_v25) : S16x2048x1024.Idx → EReal) (ix3 b s c) = Z I (xs b.val s.val) 5 c :=
  (stage2_5 (W2 V) _ rfl b s c).trans (r19 h b s _)

theorem r26 (b : Fin 16) (s : Fin 2048) (c : Fin 1024) : ((W3 V) (Proc.devRef .tc main_v26) : S16x2048x1024.Idx → EReal) (ix3 b s c) = Z I (xs b.val s.val) 6 c :=
  (stage2_6 (W2 V) _ rfl b s c).trans (r19 h b s _)

theorem r33 (b : Fin 16) (s : Fin 2048) (c : Fin 1024) : ((W3 V) (Proc.devRef .tc main_v33) : S16x2048x1024.Idx → EReal) (ix3 b s c) = U I (xs b.val s.val) c := by
  refine (stage2_u (W2 V) _ rfl b s c).trans ?_
  rw [r19 h, r19 h]
  rfl

theorem r57 (b : Fin 16) (s : Fin 2048) (c : Fin 1024) : ((W4 V) (Proc.devRef .tc main_v57) : S16x2048x1024.Idx → EReal) (ix3 b s c) = Cv I (xs b.val) s.val c := by
  refine (stage3 (W3 V) _ _ _ rfl (arg4_3 V) (arg5_3 V) b s c).trans ?_
  unfold Cv
  rw [h.hcb]
  refine congrArg (· + _) (Finset.sum_congr rfl fun k _ => congrArg₂ (· * ·) ?_ (h.hcw k c))
  unfold up
  by_cases hk : s.val + k.val < 30
  · rw [dif_pos hk, if_pos (by omega)]
  · rw [dif_neg hk, if_neg (by omega), r33 h]
    exact congrArg (fun p => U I (xs b.val p) c) (by simp only; omega)

theorem r83 (b : Fin 16) (s : Fin 2048) (c : Fin 1024) : ((W5 V) (Proc.devRef .tc main_v83) : S16x2048x1024.Idx → EReal) (ix3 b s c) = ln (Cv I (xs b.val) s.val) (fun k => I.lg (ix2 0 k)) (fun k => I.lb (ix2 0 k)) c := by
  refine (stage4 (W4 V) _ _ _ rfl (arg6_4 V) (arg7_4 V) b s c).trans ?_
  simp only [r57 h, h.hlg, h.hlb]

theorem r88 (b : Fin 16) (s : Fin 2048) (c : Fin 1024) : ((W6 V) (Proc.devRef .tc main_v88) : S16x2048x1024.Idx → EReal) (ix3 b s c) = YA I (xs b.val) s.val c := by
  refine (stage5 (W5 V) _ _ _ rfl (v22_5 V) (arg8_5 V) b s c).trans ?_
  unfold YA GA
  simp only [r83 h, r22 h, h.hwa]

theorem r123 (b : Fin 16) (s : Fin 2048) (c : Fin 256) : ((W7 V) (Proc.devRef .tc main_v123) : S16x2048x256.Idx → EReal) (ix3 b s c) = PQ I (xs b.val) s.val ⟨256 * 0 + c.val, by omega⟩ := by
  refine (stage6 (W6 V) _ _ _ (v23_6 V) (arg9_6 V) (arg10_6 V) b s c).trans ?_
  refine pool_eq I (xs b.val) 0 2 rfl s.val c (fun k x => if h : s.val + k.val < 1 then 0 else ((W3 V) (Proc.devRef .tc main_v23) : S16x2048x1024.Idx → EReal) (ix3 b ⟨s.val + k.val - 1, by omega⟩ ⟨256 * 0 + x.val, by omega⟩))
    (fun x => ((W3 V) (Proc.devRef .tc main_v23) : S16x2048x1024.Idx → EReal) (ix3 b s ⟨256 * 0 + x.val, by omega⟩)) _ _ (fun k x => ?_) (fun x => r23 h b s _) (fun x => h.hwp 0 x c) (h.hbp 0 c)
  by_cases hk : s.val + k.val < 1
  · rw [if_pos hk]; exact dif_pos hk
  · rw [if_neg hk]; exact (dif_neg hk).trans (r23 h b _ _)

theorem r158 (b : Fin 16) (s : Fin 2048) (c : Fin 256) : ((W8 V) (Proc.devRef .tc main_v158) : S16x2048x256.Idx → EReal) (ix3 b s c) = PQ I (xs b.val) s.val ⟨256 * 1 + c.val, by omega⟩ := by
  refine (stage7 (W7 V) _ _ _ (v23_7 V) (arg9_7 V) (arg10_7 V) b s c).trans ?_
  refine pool_eq I (xs b.val) 1 4 rfl s.val c (fun k x => if h : s.val + k.val < 3 then 0 else ((W3 V) (Proc.devRef .tc main_v23) : S16x2048x1024.Idx → EReal) (ix3 b ⟨s.val + k.val - 3, by omega⟩ ⟨256 * 1 + x.val, by omega⟩))
    (fun x => ((W3 V) (Proc.devRef .tc main_v23) : S16x2048x1024.Idx → EReal) (ix3 b s ⟨256 * 1 + x.val, by omega⟩)) _ _ (fun k x => ?_) (fun x => r23 h b s _) (fun x => h.hwp 1 x c) (h.hbp 1 c)
  by_cases hk : s.val + k.val < 3
  · rw [if_pos hk]; exact dif_pos hk
  · rw [if_neg hk]; exact (dif_neg hk).trans (r23 h b _ _)

theorem r193 (b : Fin 16) (s : Fin 2048) (c : Fin 256) : ((W9 V) (Proc.devRef .tc main_v193) : S16x2048x256.Idx → EReal) (ix3 b s c) = PQ I (xs b.val) s.val ⟨256 * 2 + c.val, by omega⟩ := by
  refine (stage8 (W8 V) _ _ _ (v23_8 V) (arg9_8 V) (arg10_8 V) b s c).trans ?_
  refine pool_eq I (xs b.val) 2 8 rfl s.val c (fun k x => if h : s.val + k.val < 7 then 0 else ((W3 V) (Proc.devRef .tc main_v23) : S16x2048x1024.Idx → EReal) (ix3 b ⟨s.val + k.val - 7, by omega⟩ ⟨256 * 2 + x.val, by omega⟩))
    (fun x => ((W3 V) (Proc.devRef .tc main_v23) : S16x2048x1024.Idx → EReal) (ix3 b s ⟨256 * 2 + x.val, by omega⟩)) _ _ (fun k x => ?_) (fun x => r23 h b s _) (fun x => h.hwp 2 x c) (h.hbp 2 c)
  by_cases hk : s.val + k.val < 7
  · rw [if_pos hk]; exact dif_pos hk
  · rw [if_neg hk]; exact (dif_neg hk).trans (r23 h b _ _)

theorem r228 (b : Fin 16) (s : Fin 2048) (c : Fin 256) : ((W10 V) (Proc.devRef .tc main_v228) : S16x2048x256.Idx → EReal) (ix3 b s c) = PQ I (xs b.val) s.val ⟨256 * 3 + c.val, by omega⟩ := by
  refine (stage9 (W9 V) _ _ _ (v23_9 V) (arg9_9 V) (arg10_9 V) b s c).trans ?_
  refine pool_eq I (xs b.val) 3 16 rfl s.val c (fun k x => if h : s.val + k.val < 15 then 0 else ((W3 V) (Proc.devRef .tc main_v23) : S16x2048x1024.Idx → EReal) (ix3 b ⟨s.val + k.val - 15, by omega⟩ ⟨256 * 3 + x.val, by omega⟩))
    (fun x => ((W3 V) (Proc.devRef .tc main_v23) : S16x2048x1024.Idx → EReal) (ix3 b s ⟨256 * 3 + x.val, by omega⟩)) _ _ (fun k x => ?_) (fun x => r23 h b s _) (fun x => h.hwp 3 x c) (h.hbp 3 c)
  by_cases hk : s.val + k.val < 15
  · rw [if_pos hk]; exact dif_pos hk
  · rw [if_neg hk]; exact (dif_neg hk).trans (r23 h b _ _)

theorem r237 (b : Fin 16) (s : Fin 2048) (c : Fin 1024) : ((W11 V) (Proc.devRef .tc main_v237) : S16x2048x1024.Idx → EReal) (ix3 b s c) = YB I (xs b.val) s.val c := by
  refine (stage10 (W10 V) _ _ _ _ _ _ _ (v123_10 V) (v158_10 V) (v193_10 V) rfl (v24_10 V) (arg11_10 V) (arg12_10 V) b s c (PQ I (xs b.val) s.val)
    (r123 h b s) (r158 h b s) (r193 h b s) (r228 h b s)).trans ?_
  unfold YB GB P
  simp only [r24 h, h.hps, h.hwb]
  rfl

theorem r255 (b : Fin 16) (s : Fin 2048) (c : Fin 1024) : ((W12 V) (Proc.devRef .tc main_v255) : S16x2048x1024.Idx → EReal) (ix3 b s c) = O I (xs b.val) s.val c := by
  refine (stage11 (W11 V) _ _ _ _ _ _ (v25_11 V) (v26_11 V) (v88_11 V) rfl (arg13_11 V) (arg0_11 V) b s c).trans ?_
  unfold Cert.KernelIdeal.Spec.O Cert.KernelIdeal.Spec.M
  simp only [r25 h, r26 h, r88 h, r237 h, h.hx, h.hwo]

/-- The reference's result at an index. -/
theorem r268 (b : Fin 16) (s : Fin 2048) (c : Fin 1024) : (after ops V (Proc.devRef .tc main_v268) : S16x2048x1024.Idx → EReal) (ix3 b s c) = Out I (xs b.val) s.val c := by
  rw [after_ops]
  refine (stage12 (W12 V) _ _ rfl (arg14_12 V) b s c).trans ?_
  unfold Out
  simp only [r255 h, h.hnf]

end Cert.ReferenceIdeal.Val

end
-- ==== Proof.RW.lean ====
/-
  The weights that the region finds are the arguments.
-/
module

public import proofs.«01_k».proof.Proof.RunV
public import proofs.«01_k».proof.Proof.RVD
public import Idealize.ShloMosaic.Lib.Claim

@[expose] public section

set_option maxRecDepth 16384

noncomputable section

namespace Cert.Value

open Cert.KernelIdeal Cert.KernelIdeal.Gen Cert.KernelIdeal.Run Cert.KernelIdeal.RunV Cert.KernelIdeal.Spec
open Idealize.ShloMosaic Idealize.ShloMosaic.TcCoe

variable (m : (ℓ : Loc nD τ sig) → Buf (Elt Ideal) ℓ) (d : Dev nD)

theorem ng_eq (c : Fin 1024) : (m ((d.tc : Thread nD τ).loc main_arg1) : S1x1024.Idx → EReal) (ix2 0 c) = (I0 m d).ng (ix2 0 c) := by
  show _ = V m d main_v1 (ix2 0 c)
  entry_read
  pointwise

theorem wi_eq (k : Fin 1024) (c : Fin 7168) : (m ((d.tc : Thread nD τ).loc main_arg2) : S1x1024x7168.Idx → EReal) (ix3 0 k c) = (I0 m d).wi (ix2 k c) := by
  show _ = V m d main_v3 (ix2 k c)
  entry_read
  pointwise

theorem bi_eq (c : Fin 7168) : (m ((d.tc : Thread nD τ).loc main_arg3) : S1x7168.Idx → EReal) (ix2 0 c) = (I0 m d).bi (ix2 0 c) := by
  show _ = V m d main_v5 (ix2 0 c)
  entry_read
  pointwise

theorem cw_eq (k : Fin 31) (c : Fin 1024) : (m ((d.tc : Thread nD τ).loc main_arg4) : S1x31x1024.Idx → EReal) (ix3 0 k c) = (I0 m d).cw (ix2 k c) := by
  show _ = V m d main_v6 (ix2 k c)
  entry_read
  pointwise

theorem cb_eq (c : Fin 1024) : (m ((d.tc : Thread nD τ).loc main_arg5) : S1x1024.Idx → EReal) (ix2 0 c) = (I0 m d).cb (ix2 0 c) := by
  show _ = V m d main_v8 (ix2 0 c)
  entry_read
  pointwise

theorem lg_eq (c : Fin 1024) : (m ((d.tc : Thread nD τ).loc main_arg6) : S1x1024.Idx → EReal) (ix2 0 c) = (I0 m d).lg (ix2 0 c) := by
  show _ = V m d main_v10 (ix2 0 c)
  entry_read
  pointwise

theorem lb_eq (c : Fin 1024) : (m ((d.tc : Thread nD τ).loc main_arg7) : S1x1024.Idx → EReal) (ix2 0 c) = (I0 m d).lb (ix2 0 c) := by
  show _ = V m d main_v12 (ix2 0 c)
  entry_read
  pointwise

theorem wa_eq (k c : Fin 1024) : (m ((d.tc : Thread nD τ).loc main_arg8) : S1x1024x1024.Idx → EReal) (ix3 0 k c) = (I0 m d).wa (ix2 k c) := by
  show _ = V m d main_v14 (ix2 k c)
  entry_read
  pointwise

theorem wp_eq (g : Fin 4) (k c : Fin 256) : (m ((d.tc : Thread nD τ).loc main_arg9) : S1x4x256x256.Idx → EReal) (ix4 0 g k c) = (I0 m d).wp (ix3 g k c) := by
  show _ = V m d main_v16 (ix3 g k c)
  entry_read
  pointwise

theorem bp_eq (g : Fin 4) (c : Fin 256) : (m ((d.tc : Thread nD τ).loc main_arg10) : S1x4x256.Idx → EReal) (ix3 0 g c) = (I0 m d).bp (ix2 0 ⟨256 * g.val + c.val, by omega⟩) := by
  show _ = V m d main_v18 (ix2 0 ⟨256 * g.val + c.val, by omega⟩)
  entry_read
  pointwise

theorem ps_eq (c : Fin 1024) : (m ((d.tc : Thread nD τ).loc main_arg11) : S1x1024.Idx → EReal) (ix2 0 c) = (I0 m d).ps (ix2 0 c) := by
  show _ = V m d main_v20 (ix2 0 c)
  entry_read
  pointwise

theorem wb_eq (k c : Fin 1024) : (m ((d.tc : Thread nD τ).loc main_arg12) : S1x1024x1024.Idx → EReal) (ix3 0 k c) = (I0 m d).wb (ix2 k c) := by
  show _ = V m d main_v22 (ix2 k c)
  entry_read
  pointwise

theorem wo_eq (k c : Fin 1024) : (m ((d.tc : Thread nD τ).loc main_arg13) : S1x1024x1024.Idx → EReal) (ix3 0 k c) = (I0 m d).wo (ix2 k c) := by
  show _ = V m d main_v24 (ix2 k c)
  entry_read
  pointwise

theorem nf_eq (c : Fin 1024) : (m ((d.tc : Thread nD τ).loc main_arg14) : S1024.Idx → EReal) (ix1 c) = (I0 m d).nf (ix2 0 c) := by
  show _ = V m d main_v25 (ix2 0 c)
  entry_read
  pointwise

theorem x_eq (b : Fin 16) (s : Fin 2048) (c : Fin 1024) : (m ((d.tc : Thread nD τ).loc main_arg0) : S16x2048x1024.Idx → EReal) (ix3 b s c) = xsOf m d b.val s.val c := by
  have h : b.val < 16 ∧ s.val < 2048 := ⟨b.isLt, s.isLt⟩
  unfold xsOf
  rw [dif_pos h, V_main_arg0]

end Cert.Value

end
-- ==== Proof.Alg.lean ====
/-
  The kernel's idealization and the reference compute the same result.
-/
module

public import proofs.«01_k».proof.Defs
public import proofs.«01_k».proof.Proof.RW

@[expose] public section

set_option maxRecDepth 16384

noncomputable section

namespace Cert.Value

open Idealize.ShloMosaic Idealize.ShloMosaic.TcCoe Idealize.SL.Sem Idealize.ShloMosaic.StableHlo

theorem agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (d : Dev Cert.KernelIdeal.nD)
    (a0 : (m' ((d.tc : Thread Cert.ReferenceIdeal.nD Cert.ReferenceIdeal.τ).loc Cert.ReferenceIdeal.main_arg0) : Cert.KernelIdeal.S16x2048x1024.Idx → EReal) = m ((d.tc : Thread Cert.KernelIdeal.nD Cert.KernelIdeal.τ).loc Cert.KernelIdeal.main_arg0))
    (a1 : (m' ((d.tc : Thread Cert.ReferenceIdeal.nD Cert.ReferenceIdeal.τ).loc Cert.ReferenceIdeal.main_arg1) : Cert.KernelIdeal.S1x1024.Idx → EReal) = m ((d.tc : Thread Cert.KernelIdeal.nD Cert.KernelIdeal.τ).loc Cert.KernelIdeal.main_arg1))
    (a2 : (m' ((d.tc : Thread Cert.ReferenceIdeal.nD Cert.ReferenceIdeal.τ).loc Cert.ReferenceIdeal.main_arg2) : Cert.KernelIdeal.S1x1024x7168.Idx → EReal) = m ((d.tc : Thread Cert.KernelIdeal.nD Cert.KernelIdeal.τ).loc Cert.KernelIdeal.main_arg2))
    (a3 : (m' ((d.tc : Thread Cert.ReferenceIdeal.nD Cert.ReferenceIdeal.τ).loc Cert.ReferenceIdeal.main_arg3) : Cert.KernelIdeal.S1x7168.Idx → EReal) = m ((d.tc : Thread Cert.KernelIdeal.nD Cert.KernelIdeal.τ).loc Cert.KernelIdeal.main_arg3))
    (a4 : (m' ((d.tc : Thread Cert.ReferenceIdeal.nD Cert.ReferenceIdeal.τ).loc Cert.ReferenceIdeal.main_arg4) : Cert.KernelIdeal.S1x31x1024.Idx → EReal) = m ((d.tc : Thread Cert.KernelIdeal.nD Cert.KernelIdeal.τ).loc Cert.KernelIdeal.main_arg4))
    (a5 : (m' ((d.tc : Thread Cert.ReferenceIdeal.nD Cert.ReferenceIdeal.τ).loc Cert.ReferenceIdeal.main_arg5) : Cert.KernelIdeal.S1x1024.Idx → EReal) = m ((d.tc : Thread Cert.KernelIdeal.nD Cert.KernelIdeal.τ).loc Cert.KernelIdeal.main_arg5))
    (a6 : (m' ((d.tc : Thread Cert.ReferenceIdeal.nD Cert.ReferenceIdeal.τ).loc Cert.ReferenceIdeal.main_arg6) : Cert.KernelIdeal.S1x1024.Idx → EReal) = m ((d.tc : Thread Cert.KernelIdeal.nD Cert.KernelIdeal.τ).loc Cert.KernelIdeal.main_arg6))
    (a7 : (m' ((d.tc : Thread Cert.ReferenceIdeal.nD Cert.ReferenceIdeal.τ).loc Cert.ReferenceIdeal.main_arg7) : Cert.KernelIdeal.S1x1024.Idx → EReal) = m ((d.tc : Thread Cert.KernelIdeal.nD Cert.KernelIdeal.τ).loc Cert.KernelIdeal.main_arg7))
    (a8 : (m' ((d.tc : Thread Cert.ReferenceIdeal.nD Cert.ReferenceIdeal.τ).loc Cert.ReferenceIdeal.main_arg8) : Cert.KernelIdeal.S1x1024x1024.Idx → EReal) = m ((d.tc : Thread Cert.KernelIdeal.nD Cert.KernelIdeal.τ).loc Cert.KernelIdeal.main_arg8))
    (a9 : (m' ((d.tc : Thread Cert.ReferenceIdeal.nD Cert.ReferenceIdeal.τ).loc Cert.ReferenceIdeal.main_arg9) : Cert.KernelIdeal.S1x4x256x256.Idx → EReal) = m ((d.tc : Thread Cert.KernelIdeal.nD Cert.KernelIdeal.τ).loc Cert.KernelIdeal.main_arg9))
    (a10 : (m' ((d.tc : Thread Cert.ReferenceIdeal.nD Cert.ReferenceIdeal.τ).loc Cert.ReferenceIdeal.main_arg10) : Cert.KernelIdeal.S1x4x256.Idx → EReal) = m ((d.tc : Thread Cert.KernelIdeal.nD Cert.KernelIdeal.τ).loc Cert.KernelIdeal.main_arg10))
    (a11 : (m' ((d.tc : Thread Cert.ReferenceIdeal.nD Cert.ReferenceIdeal.τ).loc Cert.ReferenceIdeal.main_arg11) : Cert.KernelIdeal.S1x1024.Idx → EReal) = m ((d.tc : Thread Cert.KernelIdeal.nD Cert.KernelIdeal.τ).loc Cert.KernelIdeal.main_arg11))
    (a12 : (m' ((d.tc : Thread Cert.ReferenceIdeal.nD Cert.ReferenceIdeal.τ).loc Cert.ReferenceIdeal.main_arg12) : Cert.KernelIdeal.S1x1024x1024.Idx → EReal) = m ((d.tc : Thread Cert.KernelIdeal.nD Cert.KernelIdeal.τ).loc Cert.KernelIdeal.main_arg12))
    (a13 : (m' ((d.tc : Thread Cert.ReferenceIdeal.nD Cert.ReferenceIdeal.τ).loc Cert.ReferenceIdeal.main_arg13) : Cert.KernelIdeal.S1x1024x1024.Idx → EReal) = m ((d.tc : Thread Cert.KernelIdeal.nD Cert.KernelIdeal.τ).loc Cert.KernelIdeal.main_arg13))
    (a14 : (m' ((d.tc : Thread Cert.ReferenceIdeal.nD Cert.ReferenceIdeal.τ).loc Cert.ReferenceIdeal.main_arg14) : Cert.KernelIdeal.S1024.Idx → EReal) = m ((d.tc : Thread Cert.KernelIdeal.nD Cert.KernelIdeal.τ).loc Cert.KernelIdeal.main_arg14)) :
    Cert.ReferenceIdeal.Val.Agrees (launchContents m' d) (Cert.KernelIdeal.RunV.I0 m d) (Cert.KernelIdeal.RunV.xsOf m d) where
  hx b s c := (congrFun a0 _).trans (x_eq m d b s c)
  hng c := (congrFun a1 _).trans (ng_eq m d c)
  hwi k c := (congrFun a2 _).trans (wi_eq m d k c)
  hbi c := (congrFun a3 _).trans (bi_eq m d c)
  hcw k c := (congrFun a4 _).trans (cw_eq m d k c)
  hcb c := (congrFun a5 _).trans (cb_eq m d c)
  hlg c := (congrFun a6 _).trans (lg_eq m d c)
  hlb c := (congrFun a7 _).trans (lb_eq m d c)
  hwa k c := (congrFun a8 _).trans (wa_eq m d k c)
  hwp g k c := (congrFun a9 _).trans (wp_eq m d g k c)
  hbp g c := (congrFun a10 _).trans (bp_eq m d g c)
  hps c := (congrFun a11 _).trans (ps_eq m d c)
  hwb k c := (congrFun a12 _).trans (wb_eq m d k c)
  hwo k c := (congrFun a13 _).trans (wo_eq m d k c)
  hnf c := (congrFun a14 _).trans (nf_eq m d c)

theorem algebraic : Cert.algebraic_KernelIdeal_ReferenceIdeal := by
  intro m g m' g' _ ha
  refine ⟨fun d => fun i : Cert.KernelIdeal.S16x2048x1024.Idx => Cert.KernelIdeal.Spec.Out (Cert.KernelIdeal.RunV.I0 m d) (Cert.KernelIdeal.RunV.xsOf m d (i 0).val) (i 1).val (i 2),
    Cert.KernelIdeal.RunV.value_run m g, ?_⟩
  refine (θ_run _ _ _).mono (fun r h d => ?_) (Cert.ReferenceIdeal.Run.run_main m' g')
  obtain ⟨a0, a1, a2, a3, a4, a5, a6, a7, a8, a9, a10, a11, a12, a13, a14⟩ := ha d
  refine ⟨?_, (h d Cert.ReferenceIdeal.main_arg0).trans (Cert.ReferenceIdeal.Run.keep _ _ (by decide) (by decide) (by decide) (by decide) (by decide) (by decide) (by decide) (by decide) (by decide) (by decide) (by decide) (by decide) (by decide)), (h d Cert.ReferenceIdeal.main_arg1).trans (Cert.ReferenceIdeal.Run.keep _ _ (by decide) (by decide) (by decide) (by decide) (by decide) (by decide) (by decide) (by decide) (by decide) (by decide) (by decide) (by decide) (by decide)), (h d Cert.ReferenceIdeal.main_arg2).trans (Cert.ReferenceIdeal.Run.keep _ _ (by decide) (by decide) (by decide) (by decide) (by decide) (by decide) (by decide) (by decide) (by decide) (by decide) (by decide) (by decide) (by decide)), (h d Cert.ReferenceIdeal.main_arg3).trans (Cert.ReferenceIdeal.Run.keep _ _ (by decide) (by decide) (by decide) (by decide) (by decide) (by decide) (by decide) (by decide) (by decide) (by decide) (by decide) (by decide) (by decide)), (h d Cert.ReferenceIdeal.main_arg4).trans (Cert.ReferenceIdeal.Run.keep _ _ (by decide) (by decide) (by decide) (by decide) (by decide) (by decide) (by decide) (by decide) (by decide) (by decide) (by decide) (by decide) (by decide)), (h d Cert.ReferenceIdeal.main_arg5).trans (Cert.ReferenceIdeal.Run.keep _ _ (by decide) (by decide) (by decide) (by decide) (by decide) (by decide) (by decide) (by decide) (by decide) (by decide) (by decide) (by decide) (by decide)), (h d Cert.ReferenceIdeal.main_arg6).trans (Cert.ReferenceIdeal.Run.keep _ _ (by decide) (by decide) (by decide) (by decide) (by decide) (by decide) (by decide) (by decide) (by decide) (by decide) (by decide) (by decide) (by decide)), (h d Cert.ReferenceIdeal.main_arg7).trans (Cert.ReferenceIdeal.Run.keep _ _ (by decide) (by decide) (by decide) (by decide) (by decide) (by decide) (by decide) (by decide) (by decide) (by decide) (by decide) (by decide) (by decide)), (h d Cert.ReferenceIdeal.main_arg8).trans (Cert.ReferenceIdeal.Run.keep _ _ (by decide) (by decide) (by decide) (by decide) (by decide) (by decide) (by decide) (by decide) (by decide) (by decide) (by decide) (by decide) (by decide)), (h d Cert.ReferenceIdeal.main_arg9).trans (Cert.ReferenceIdeal.Run.keep _ _ (by decide) (by decide) (by decide) (by decide) (by decide) (by decide) (by decide) (by decide) (by decide) (by decide) (by decide) (by decide) (by decide)), (h d Cert.ReferenceIdeal.main_arg10).trans (Cert.ReferenceIdeal.Run.keep _ _ (by decide) (by decide) (by decide) (by decide) (by decide) (by decide) (by decide) (by decide) (by decide) (by decide) (by decide) (by decide) (by decide)), (h d Cert.ReferenceIdeal.main_arg11).trans (Cert.ReferenceIdeal.Run.keep _ _ (by decide) (by decide) (by decide) (by decide) (by decide) (by decide) (by decide) (by decide) (by decide) (by decide) (by decide) (by decide) (by decide)), (h d Cert.ReferenceIdeal.main_arg12).trans (Cert.ReferenceIdeal.Run.keep _ _ (by decide) (by decide) (by decide) (by decide) (by decide) (by decide) (by decide) (by decide) (by decide) (by decide) (by decide) (by decide) (by decide)), (h d Cert.ReferenceIdeal.main_arg13).trans (Cert.ReferenceIdeal.Run.keep _ _ (by decide) (by decide) (by decide) (by decide) (by decide) (by decide) (by decide) (by decide) (by decide) (by decide) (by decide) (by decide) (by decide)), (h d Cert.ReferenceIdeal.main_arg14).trans (Cert.ReferenceIdeal.Run.keep _ _ (by decide) (by decide) (by decide) (by decide) (by decide) (by decide) (by decide) (by decide) (by decide) (by decide) (by decide) (by decide) (by decide))⟩
  refine (h d Cert.ReferenceIdeal.main_v268).trans (funext fun i => ?_)
  have e := Cert.ReferenceIdeal.Val.r268 (agrees m m' d a0 a1 a2 a3 a4 a5 a6 a7 a8 a9 a10 a11 a12 a13 a14) (i 0) (i 1) (i 2)
  have hi : i = ix3 (i 0) (i 1) (i 2) := by
    funext a
    match a with
    | ⟨0, _⟩ => rfl
    | ⟨1, _⟩ => rfl
    | ⟨2, _⟩ => rfl
  exact (congrArg _ hi).trans e

end Cert.Value

end
-- ==== Proof.lean ====
/-
  The certificate: the frames of the kernel, of its idealization and of the reference, the rewrites that the
  idealization makes, and the equality of the results.
-/
module

public import proofs.«01_k».proof.Defs
public import proofs.«01_k».proof.Proof.RunK
public import proofs.«01_k».proof.Proof.RunV
public import proofs.«01_k».proof.Proof.Ref
public import proofs.«01_k».proof.Proof.Alg
public import Idealize.ShloMosaic.Lib.Bf16Pair

@[expose] public section

set_option maxRecDepth 16384

noncomputable section

namespace Cert.Proof

open Idealize.ShloMosaic Idealize.ShloMosaic.TcCoe Idealize.SL.Sem

theorem preserves : Cert.preserves_Kernel_KernelIdeal :=
  ⟨IdealRules.bf16_pair.packStatement _, IdealRules.bf16_pair.statement _ _,
    IdealRules.bf16_pair.packStatement _, IdealRules.bf16_pair.statement _ _, IdealRules.bf16_pair.statement _ _⟩

theorem claim : Cert.Claim := ⟨Cert.Kernel.Gen.facts, Cert.KernelIdeal.Gen.facts, Cert.ReferenceIdeal.Gen.facts,
  fun m g _ => Cert.Kernel.Run.frame_run m g,
  fun m g _ => Cert.KernelIdeal.RunV.frame_run m g,
  fun m g _ => Cert.ReferenceIdeal.Run.frame_run m g,
  preserves,
  Cert.Value.algebraic⟩

end Cert.Proof

end
